-- ==== Defs.lean ====
def Pre_KernelSsd (m : (ℓ : Loc Cert.KernelSsd.nD Cert.KernelSsd.τ Cert.KernelSsd.sig) → Buf (Elt Bits) ℓ) : Prop :=
  True

def Pre_KernelSsdIdeal (m : (ℓ : Loc Cert.KernelSsdIdeal.nD Cert.KernelSsdIdeal.τ Cert.KernelSsdIdeal.sig) → Buf (Elt Ideal) ℓ) : Prop :=
  True

def Pre_KernelSsdIdeal_finite [hPre_finite : Cert.Pre_finite.Facts] (m : (ℓ : Loc Cert.KernelSsdIdeal.nD Cert.KernelSsdIdeal.τ Cert.KernelSsdIdeal.sig) → Buf (Elt Ideal) ℓ) : Prop :=
  ∀ c : Dev Cert.KernelSsdIdeal.nD,
    (Cert.Pre_finite.fn (F := Ideal) (m ((c.tc : Thread Cert.KernelSsdIdeal.nD Cert.KernelSsdIdeal.τ).loc Cert.KernelSsdIdeal.main_arg0)) (m ((c.tc : Thread Cert.KernelSsdIdeal.nD Cert.KernelSsdIdeal.τ).loc Cert.KernelSsdIdeal.main_arg1)) (m ((c.tc : Thread Cert.KernelSsdIdeal.nD Cert.KernelSsdIdeal.τ).loc Cert.KernelSsdIdeal.main_arg2)) (m ((c.tc : Thread Cert.KernelSsdIdeal.nD Cert.KernelSsdIdeal.τ).loc Cert.KernelSsdIdeal.main_arg3)) (m ((c.tc : Thread Cert.KernelSsdIdeal.nD Cert.KernelSsdIdeal.τ).loc Cert.KernelSsdIdeal.main_arg4)) (m ((c.tc : Thread Cert.KernelSsdIdeal.nD Cert.KernelSsdIdeal.τ).loc Cert.KernelSsdIdeal.main_arg5))).1 = (fun _ => 1#1)
    ∧ (Cert.Pre_finite.fn (F := Ideal) (m ((c.tc : Thread Cert.KernelSsdIdeal.nD Cert.KernelSsdIdeal.τ).loc Cert.KernelSsdIdeal.main_arg0)) (m ((c.tc : Thread Cert.KernelSsdIdeal.nD Cert.KernelSsdIdeal.τ).loc Cert.KernelSsdIdeal.main_arg1)) (m ((c.tc : Thread Cert.KernelSsdIdeal.nD Cert.KernelSsdIdeal.τ).loc Cert.KernelSsdIdeal.main_arg2)) (m ((c.tc : Thread Cert.KernelSsdIdeal.nD Cert.KernelSsdIdeal.τ).loc Cert.KernelSsdIdeal.main_arg3)) (m ((c.tc : Thread Cert.KernelSsdIdeal.nD Cert.KernelSsdIdeal.τ).loc Cert.KernelSsdIdeal.main_arg4)) (m ((c.tc : Thread Cert.KernelSsdIdeal.nD Cert.KernelSsdIdeal.τ).loc Cert.KernelSsdIdeal.main_arg5))).2.1 = (fun _ => 1#1)
    ∧ (Cert.Pre_finite.fn (F := Ideal) (m ((c.tc : Thread Cert.KernelSsdIdeal.nD Cert.KernelSsdIdeal.τ).loc Cert.KernelSsdIdeal.main_arg0)) (m ((c.tc : Thread Cert.KernelSsdIdeal.nD Cert.KernelSsdIdeal.τ).loc Cert.KernelSsdIdeal.main_arg1)) (m ((c.tc : Thread Cert.KernelSsdIdeal.nD Cert.KernelSsdIdeal.τ).loc Cert.KernelSsdIdeal.main_arg2)) (m ((c.tc : Thread Cert.KernelSsdIdeal.nD Cert.KernelSsdIdeal.τ).loc Cert.KernelSsdIdeal.main_arg3)) (m ((c.tc : Thread Cert.KernelSsdIdeal.nD Cert.KernelSsdIdeal.τ).loc Cert.KernelSsdIdeal.main_arg4)) (m ((c.tc : Thread Cert.KernelSsdIdeal.nD Cert.KernelSsdIdeal.τ).loc Cert.KernelSsdIdeal.main_arg5))).2.2.1 = (fun _ => 1#1)
    ∧ (Cert.Pre_finite.fn (F := Ideal) (m ((c.tc : Thread Cert.KernelSsdIdeal.nD Cert.KernelSsdIdeal.τ).loc Cert.KernelSsdIdeal.main_arg0)) (m ((c.tc : Thread Cert.KernelSsdIdeal.nD Cert.KernelSsdIdeal.τ).loc Cert.KernelSsdIdeal.main_arg1)) (m ((c.tc : Thread Cert.KernelSsdIdeal.nD Cert.KernelSsdIdeal.τ).loc Cert.KernelSsdIdeal.main_arg2)) (m ((c.tc : Thread Cert.KernelSsdIdeal.nD Cert.KernelSsdIdeal.τ).loc Cert.KernelSsdIdeal.main_arg3)) (m ((c.tc : Thread Cert.KernelSsdIdeal.nD Cert.KernelSsdIdeal.τ).loc Cert.KernelSsdIdeal.main_arg4)) (m ((c.tc : Thread Cert.KernelSsdIdeal.nD Cert.KernelSsdIdeal.τ).loc Cert.KernelSsdIdeal.main_arg5))).2.2.2.1 = (fun _ => 1#1)
    ∧ (Cert.Pre_finite.fn (F := Ideal) (m ((c.tc : Thread Cert.KernelSsdIdeal.nD Cert.KernelSsdIdeal.τ).loc Cert.KernelSsdIdeal.main_arg0)) (m ((c.tc : Thread Cert.KernelSsdIdeal.nD Cert.KernelSsdIdeal.τ).loc Cert.KernelSsdIdeal.main_arg1)) (m ((c.tc : Thread Cert.KernelSsdIdeal.nD Cert.KernelSsdIdeal.τ).loc Cert.KernelSsdIdeal.main_arg2)) (m ((c.tc : Thread Cert.KernelSsdIdeal.nD Cert.KernelSsdIdeal.τ).loc Cert.KernelSsdIdeal.main_arg3)) (m ((c.tc : Thread Cert.KernelSsdIdeal.nD Cert.KernelSsdIdeal.τ).loc Cert.KernelSsdIdeal.main_arg4)) (m ((c.tc : Thread Cert.KernelSsdIdeal.nD Cert.KernelSsdIdeal.τ).loc Cert.KernelSsdIdeal.main_arg5))).2.2.2.2.1 = (fun _ => 1#1)
    ∧ (Cert.Pre_finite.fn (F := Ideal) (m ((c.tc : Thread Cert.KernelSsdIdeal.nD Cert.KernelSsdIdeal.τ).loc Cert.KernelSsdIdeal.main_arg0)) (m ((c.tc : Thread Cert.KernelSsdIdeal.nD Cert.KernelSsdIdeal.τ).loc Cert.KernelSsdIdeal.main_arg1)) (m ((c.tc : Thread Cert.KernelSsdIdeal.nD Cert.KernelSsdIdeal.τ).loc Cert.KernelSsdIdeal.main_arg2)) (m ((c.tc : Thread Cert.KernelSsdIdeal.nD Cert.KernelSsdIdeal.τ).loc Cert.KernelSsdIdeal.main_arg3)) (m ((c.tc : Thread Cert.KernelSsdIdeal.nD Cert.KernelSsdIdeal.τ).loc Cert.KernelSsdIdeal.main_arg4)) (m ((c.tc : Thread Cert.KernelSsdIdeal.nD Cert.KernelSsdIdeal.τ).loc Cert.KernelSsdIdeal.main_arg5))).2.2.2.2.2 = (fun _ => 1#1)

def Pre_ReferenceSsdIdeal (m : (ℓ : Loc Cert.ReferenceSsdIdeal.nD Cert.ReferenceSsdIdeal.τ Cert.ReferenceSsdIdeal.sig) → Buf (Elt Ideal) ℓ) : Prop :=
  True

def Pre_ReferenceSsdIdeal_finite [hPre_finite : Cert.Pre_finite.Facts] (m : (ℓ : Loc Cert.ReferenceSsdIdeal.nD Cert.ReferenceSsdIdeal.τ Cert.ReferenceSsdIdeal.sig) → Buf (Elt Ideal) ℓ) : Prop :=
  ∀ c : Dev Cert.ReferenceSsdIdeal.nD,
    (Cert.Pre_finite.fn (F := Ideal) (m ((c.tc : Thread Cert.ReferenceSsdIdeal.nD Cert.ReferenceSsdIdeal.τ).loc Cert.ReferenceSsdIdeal.main_arg0)) (m ((c.tc : Thread Cert.ReferenceSsdIdeal.nD Cert.ReferenceSsdIdeal.τ).loc Cert.ReferenceSsdIdeal.main_arg1)) (m ((c.tc : Thread Cert.ReferenceSsdIdeal.nD Cert.ReferenceSsdIdeal.τ).loc Cert.ReferenceSsdIdeal.main_arg2)) (m ((c.tc : Thread Cert.ReferenceSsdIdeal.nD Cert.ReferenceSsdIdeal.τ).loc Cert.ReferenceSsdIdeal.main_arg3)) (m ((c.tc : Thread Cert.ReferenceSsdIdeal.nD Cert.ReferenceSsdIdeal.τ).loc Cert.ReferenceSsdIdeal.main_arg4)) (m ((c.tc : Thread Cert.ReferenceSsdIdeal.nD Cert.ReferenceSsdIdeal.τ).loc Cert.ReferenceSsdIdeal.main_arg5))).1 = (fun _ => 1#1)
    ∧ (Cert.Pre_finite.fn (F := Ideal) (m ((c.tc : Thread Cert.ReferenceSsdIdeal.nD Cert.ReferenceSsdIdeal.τ).loc Cert.ReferenceSsdIdeal.main_arg0)) (m ((c.tc : Thread Cert.ReferenceSsdIdeal.nD Cert.ReferenceSsdIdeal.τ).loc Cert.ReferenceSsdIdeal.main_arg1)) (m ((c.tc : Thread Cert.ReferenceSsdIdeal.nD Cert.ReferenceSsdIdeal.τ).loc Cert.ReferenceSsdIdeal.main_arg2)) (m ((c.tc : Thread Cert.ReferenceSsdIdeal.nD Cert.ReferenceSsdIdeal.τ).loc Cert.ReferenceSsdIdeal.main_arg3)) (m ((c.tc : Thread Cert.ReferenceSsdIdeal.nD Cert.ReferenceSsdIdeal.τ).loc Cert.ReferenceSsdIdeal.main_arg4)) (m ((c.tc : Thread Cert.ReferenceSsdIdeal.nD Cert.ReferenceSsdIdeal.τ).loc Cert.ReferenceSsdIdeal.main_arg5))).2.1 = (fun _ => 1#1)
    ∧ (Cert.Pre_finite.fn (F := Ideal) (m ((c.tc : Thread Cert.ReferenceSsdIdeal.nD Cert.ReferenceSsdIdeal.τ).loc Cert.ReferenceSsdIdeal.main_arg0)) (m ((c.tc : Thread Cert.ReferenceSsdIdeal.nD Cert.ReferenceSsdIdeal.τ).loc Cert.ReferenceSsdIdeal.main_arg1)) (m ((c.tc : Thread Cert.ReferenceSsdIdeal.nD Cert.ReferenceSsdIdeal.τ).loc Cert.ReferenceSsdIdeal.main_arg2)) (m ((c.tc : Thread Cert.ReferenceSsdIdeal.nD Cert.ReferenceSsdIdeal.τ).loc Cert.ReferenceSsdIdeal.main_arg3)) (m ((c.tc : Thread Cert.ReferenceSsdIdeal.nD Cert.ReferenceSsdIdeal.τ).loc Cert.ReferenceSsdIdeal.main_arg4)) (m ((c.tc : Thread Cert.ReferenceSsdIdeal.nD Cert.ReferenceSsdIdeal.τ).loc Cert.ReferenceSsdIdeal.main_arg5))).2.2.1 = (fun _ => 1#1)
    ∧ (Cert.Pre_finite.fn (F := Ideal) (m ((c.tc : Thread Cert.ReferenceSsdIdeal.nD Cert.ReferenceSsdIdeal.τ).loc Cert.ReferenceSsdIdeal.main_arg0)) (m ((c.tc : Thread Cert.ReferenceSsdIdeal.nD Cert.ReferenceSsdIdeal.τ).loc Cert.ReferenceSsdIdeal.main_arg1)) (m ((c.tc : Thread Cert.ReferenceSsdIdeal.nD Cert.ReferenceSsdIdeal.τ).loc Cert.ReferenceSsdIdeal.main_arg2)) (m ((c.tc : Thread Cert.ReferenceSsdIdeal.nD Cert.ReferenceSsdIdeal.τ).loc Cert.ReferenceSsdIdeal.main_arg3)) (m ((c.tc : Thread Cert.ReferenceSsdIdeal.nD Cert.ReferenceSsdIdeal.τ).loc Cert.ReferenceSsdIdeal.main_arg4)) (m ((c.tc : Thread Cert.ReferenceSsdIdeal.nD Cert.ReferenceSsdIdeal.τ).loc Cert.ReferenceSsdIdeal.main_arg5))).2.2.2.1 = (fun _ => 1#1)
    ∧ (Cert.Pre_finite.fn (F := Ideal) (m ((c.tc : Thread Cert.ReferenceSsdIdeal.nD Cert.ReferenceSsdIdeal.τ).loc Cert.ReferenceSsdIdeal.main_arg0)) (m ((c.tc : Thread Cert.ReferenceSsdIdeal.nD Cert.ReferenceSsdIdeal.τ).loc Cert.ReferenceSsdIdeal.main_arg1)) (m ((c.tc : Thread Cert.ReferenceSsdIdeal.nD Cert.ReferenceSsdIdeal.τ).loc Cert.ReferenceSsdIdeal.main_arg2)) (m ((c.tc : Thread Cert.ReferenceSsdIdeal.nD Cert.ReferenceSsdIdeal.τ).loc Cert.ReferenceSsdIdeal.main_arg3)) (m ((c.tc : Thread Cert.ReferenceSsdIdeal.nD Cert.ReferenceSsdIdeal.τ).loc Cert.ReferenceSsdIdeal.main_arg4)) (m ((c.tc : Thread Cert.ReferenceSsdIdeal.nD Cert.ReferenceSsdIdeal.τ).loc Cert.ReferenceSsdIdeal.main_arg5))).2.2.2.2.1 = (fun _ => 1#1)
    ∧ (Cert.Pre_finite.fn (F := Ideal) (m ((c.tc : Thread Cert.ReferenceSsdIdeal.nD Cert.ReferenceSsdIdeal.τ).loc Cert.ReferenceSsdIdeal.main_arg0)) (m ((c.tc : Thread Cert.ReferenceSsdIdeal.nD Cert.ReferenceSsdIdeal.τ).loc Cert.ReferenceSsdIdeal.main_arg1)) (m ((c.tc : Thread Cert.ReferenceSsdIdeal.nD Cert.ReferenceSsdIdeal.τ).loc Cert.ReferenceSsdIdeal.main_arg2)) (m ((c.tc : Thread Cert.ReferenceSsdIdeal.nD Cert.ReferenceSsdIdeal.τ).loc Cert.ReferenceSsdIdeal.main_arg3)) (m ((c.tc : Thread Cert.ReferenceSsdIdeal.nD Cert.ReferenceSsdIdeal.τ).loc Cert.ReferenceSsdIdeal.main_arg4)) (m ((c.tc : Thread Cert.ReferenceSsdIdeal.nD Cert.ReferenceSsdIdeal.τ).loc Cert.ReferenceSsdIdeal.main_arg5))).2.2.2.2.2 = (fun _ => 1#1)

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelWd (m : (ℓ : Loc Cert.KernelWd.nD Cert.KernelWd.τ Cert.KernelWd.sig) → Buf (Elt Bits) ℓ) : Prop :=
  True

def Pre_KernelWdIdeal (m : (ℓ : Loc Cert.KernelWdIdeal.nD Cert.KernelWdIdeal.τ Cert.KernelWdIdeal.sig) → Buf (Elt Ideal) ℓ) : Prop :=
  True

def Pre_ReferenceWdIdeal (m : (ℓ : Loc Cert.ReferenceWdIdeal.nD Cert.ReferenceWdIdeal.τ Cert.ReferenceWdIdeal.sig) → Buf (Elt Ideal) ℓ) : Prop :=
  True

def Pre_KernelWdi (m : (ℓ : Loc Cert.KernelWdi.nD Cert.KernelWdi.τ Cert.KernelWdi.sig) → Buf (Elt Bits) ℓ) : Prop :=
  True

def Pre_KernelWdiIdeal (m : (ℓ : Loc Cert.KernelWdiIdeal.nD Cert.KernelWdiIdeal.τ Cert.KernelWdiIdeal.sig) → Buf (Elt Ideal) ℓ) : Prop :=
  True

def Pre_ReferenceWdiIdeal (m : (ℓ : Loc Cert.ReferenceWdiIdeal.nD Cert.ReferenceWdiIdeal.τ Cert.ReferenceWdiIdeal.sig) → Buf (Elt Ideal) ℓ) : Prop :=
  True

def Pre_KernelWx (m : (ℓ : Loc Cert.KernelWx.nD Cert.KernelWx.τ Cert.KernelWx.sig) → Buf (Elt Bits) ℓ) : Prop :=
  True

def Pre_KernelWxIdeal (m : (ℓ : Loc Cert.KernelWxIdeal.nD Cert.KernelWxIdeal.τ Cert.KernelWxIdeal.sig) → Buf (Elt Ideal) ℓ) : Prop :=
  True

def Pre_ReferenceWxIdeal (m : (ℓ : Loc Cert.ReferenceWxIdeal.nD Cert.ReferenceWxIdeal.τ Cert.ReferenceWxIdeal.sig) → Buf (Elt Ideal) ℓ) : Prop :=
  True

def Pre_KernelDv (m : (ℓ : Loc Cert.KernelDv.nD Cert.KernelDv.τ Cert.KernelDv.sig) → Buf (Elt Bits) ℓ) : Prop :=
  True

def Pre_KernelDvIdeal (m : (ℓ : Loc Cert.KernelDvIdeal.nD Cert.KernelDvIdeal.τ Cert.KernelDvIdeal.sig) → Buf (Elt Ideal) ℓ) : Prop :=
  True

def Pre_ReferenceDvIdeal (m : (ℓ : Loc Cert.ReferenceDvIdeal.nD Cert.ReferenceDvIdeal.τ Cert.ReferenceDvIdeal.sig) → Buf (Elt Ideal) ℓ) : Prop :=
  True

def Pre_KernelDa (m : (ℓ : Loc Cert.KernelDa.nD Cert.KernelDa.τ Cert.KernelDa.sig) → Buf (Elt Bits) ℓ) : Prop :=
  True

def Pre_KernelDaIdeal (m : (ℓ : Loc Cert.KernelDaIdeal.nD Cert.KernelDaIdeal.τ Cert.KernelDaIdeal.sig) → Buf (Elt Ideal) ℓ) : Prop :=
  True

def Pre_ReferenceDaIdeal (m : (ℓ : Loc Cert.ReferenceDaIdeal.nD Cert.ReferenceDaIdeal.τ Cert.ReferenceDaIdeal.sig) → Buf (Elt Ideal) ℓ) : Prop :=
  True

def Pre_KernelDu (m : (ℓ : Loc Cert.KernelDu.nD Cert.KernelDu.τ Cert.KernelDu.sig) → Buf (Elt Bits) ℓ) : Prop :=
  True

def Pre_KernelDuIdeal (m : (ℓ : Loc Cert.KernelDuIdeal.nD Cert.KernelDuIdeal.τ Cert.KernelDuIdeal.sig) → Buf (Elt Ideal) ℓ) : Prop :=
  True

def Pre_ReferenceDuIdeal (m : (ℓ : Loc Cert.ReferenceDuIdeal.nD Cert.ReferenceDuIdeal.τ Cert.ReferenceDuIdeal.sig) → Buf (Elt Ideal) ℓ) : Prop :=
  True

def Pre_KernelGates (m : (ℓ : Loc Cert.KernelGates.nD Cert.KernelGates.τ Cert.KernelGates.sig) → Buf (Elt Bits) ℓ) : Prop :=
  True

def Pre_KernelGatesIdeal (m : (ℓ : Loc Cert.KernelGatesIdeal.nD Cert.KernelGatesIdeal.τ Cert.KernelGatesIdeal.sig) → Buf (Elt Ideal) ℓ) : Prop :=
  True

def Pre_ReferenceGatesIdeal (m : (ℓ : Loc Cert.ReferenceGatesIdeal.nD Cert.ReferenceGatesIdeal.τ Cert.ReferenceGatesIdeal.sig) → Buf (Elt Ideal) ℓ) : Prop :=
  True

def Pre_KernelPa (m : (ℓ : Loc Cert.KernelPa.nD Cert.KernelPa.τ Cert.KernelPa.sig) → Buf (Elt Bits) ℓ) : Prop :=
  True

def Pre_KernelPaIdeal (m : (ℓ : Loc Cert.KernelPaIdeal.nD Cert.KernelPaIdeal.τ Cert.KernelPaIdeal.sig) → Buf (Elt Ideal) ℓ) : Prop :=
  True

def Pre_ReferencePaIdeal (m : (ℓ : Loc Cert.ReferencePaIdeal.nD Cert.ReferencePaIdeal.τ Cert.ReferencePaIdeal.sig) → Buf (Elt Ideal) ℓ) : Prop :=
  True

def Pre_KernelZ (m : (ℓ : Loc Cert.KernelZ.nD Cert.KernelZ.τ Cert.KernelZ.sig) → Buf (Elt Bits) ℓ) : Prop :=
  True

def Pre_KernelZIdeal (m : (ℓ : Loc Cert.KernelZIdeal.nD Cert.KernelZIdeal.τ Cert.KernelZIdeal.sig) → Buf (Elt Ideal) ℓ) : Prop :=
  True

def Pre_ReferenceZIdeal (m : (ℓ : Loc Cert.ReferenceZIdeal.nD Cert.ReferenceZIdeal.τ Cert.ReferenceZIdeal.sig) → Buf (Elt Ideal) ℓ) : Prop :=
  True

def Pre_KernelXbc (m : (ℓ : Loc Cert.KernelXbc.nD Cert.KernelXbc.τ Cert.KernelXbc.sig) → Buf (Elt Bits) ℓ) : Prop :=
  True

def Pre_KernelXbcIdeal (m : (ℓ : Loc Cert.KernelXbcIdeal.nD Cert.KernelXbcIdeal.τ Cert.KernelXbcIdeal.sig) → Buf (Elt Ideal) ℓ) : Prop :=
  True

def Pre_ReferenceXbcIdeal (m : (ℓ : Loc Cert.ReferenceXbcIdeal.nD Cert.ReferenceXbcIdeal.τ Cert.ReferenceXbcIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelO (m : (ℓ : Loc Cert.KernelO.nD Cert.KernelO.τ Cert.KernelO.sig) → Buf (Elt Bits) ℓ) : Prop :=
  True

def Pre_KernelOIdeal (m : (ℓ : Loc Cert.KernelOIdeal.nD Cert.KernelOIdeal.τ Cert.KernelOIdeal.sig) → Buf (Elt Ideal) ℓ) : Prop :=
  True

def Pre_ReferenceOIdeal (m : (ℓ : Loc Cert.ReferenceOIdeal.nD Cert.ReferenceOIdeal.τ Cert.ReferenceOIdeal.sig) → Buf (Elt Ideal) ℓ) : Prop :=
  True

def Pre_KernelS (m : (ℓ : Loc Cert.KernelS.nD Cert.KernelS.τ Cert.KernelS.sig) → Buf (Elt Bits) ℓ) : Prop :=
  True

def Pre_KernelSIdeal (m : (ℓ : Loc Cert.KernelSIdeal.nD Cert.KernelSIdeal.τ Cert.KernelSIdeal.sig) → Buf (Elt Ideal) ℓ) : Prop :=
  True

def Pre_ReferenceSIdeal (m : (ℓ : Loc Cert.ReferenceSIdeal.nD Cert.ReferenceSIdeal.τ Cert.ReferenceSIdeal.sig) → Buf (Elt Ideal) ℓ) : Prop :=
  True

def Pre_KernelDm (m : (ℓ : Loc Cert.KernelDm.nD Cert.KernelDm.τ Cert.KernelDm.sig) → Buf (Elt Bits) ℓ) : Prop :=
  True

def Pre_KernelDmIdeal (m : (ℓ : Loc Cert.KernelDmIdeal.nD Cert.KernelDmIdeal.τ Cert.KernelDmIdeal.sig) → Buf (Elt Ideal) ℓ) : Prop :=
  True

def Pre_ReferenceDmIdeal (m : (ℓ : Loc Cert.ReferenceDmIdeal.nD Cert.ReferenceDmIdeal.τ Cert.ReferenceDmIdeal.sig) → Buf (Elt Ideal) ℓ) : Prop :=
  True

def Pre_KernelDyn (m : (ℓ : Loc Cert.KernelDyn.nD Cert.KernelDyn.τ Cert.KernelDyn.sig) → Buf (Elt Bits) ℓ) : Prop :=
  True

def Pre_KernelDynIdeal (m : (ℓ : Loc Cert.KernelDynIdeal.nD Cert.KernelDynIdeal.τ Cert.KernelDynIdeal.sig) → Buf (Elt Ideal) ℓ) : Prop :=
  True

def Pre_ReferenceDynIdeal (m : (ℓ : Loc Cert.ReferenceDynIdeal.nD Cert.ReferenceDynIdeal.τ Cert.ReferenceDynIdeal.sig) → Buf (Elt Ideal) ℓ) : Prop :=
  True

def Pre_KernelAdamH (m : (ℓ : Loc Cert.KernelAdamH.nD Cert.KernelAdamH.τ Cert.KernelAdamH.sig) → Buf (Elt Bits) ℓ) : Prop :=
  True

def Pre_KernelAdamHIdeal (m : (ℓ : Loc Cert.KernelAdamHIdeal.nD Cert.KernelAdamHIdeal.τ Cert.KernelAdamHIdeal.sig) → Buf (Elt Ideal) ℓ) : Prop :=
  True

def Pre_ReferenceAdamHIdeal (m : (ℓ : Loc Cert.ReferenceAdamHIdeal.nD Cert.ReferenceAdamHIdeal.τ Cert.ReferenceAdamHIdeal.sig) → Buf (Elt Ideal) ℓ) : Prop :=
  True

def Pre_KernelAdamFb (m : (ℓ : Loc Cert.KernelAdamFb.nD Cert.KernelAdamFb.τ Cert.KernelAdamFb.sig) → Buf (Elt Bits) ℓ) : Prop :=
  True

def Pre_KernelAdamFbIdeal (m : (ℓ : Loc Cert.KernelAdamFbIdeal.nD Cert.KernelAdamFbIdeal.τ Cert.KernelAdamFbIdeal.sig) → Buf (Elt Ideal) ℓ) : Prop :=
  True

def Pre_ReferenceAdamFbIdeal (m : (ℓ : Loc Cert.ReferenceAdamFbIdeal.nD Cert.ReferenceAdamFbIdeal.τ Cert.ReferenceAdamFbIdeal.sig) → Buf (Elt Ideal) ℓ) : Prop :=
  True

def Pre_KernelAdamCa (m : (ℓ : Loc Cert.KernelAdamCa.nD Cert.KernelAdamCa.τ Cert.KernelAdamCa.sig) → Buf (Elt Bits) ℓ) : Prop :=
  True

def Pre_KernelAdamCaIdeal (m : (ℓ : Loc Cert.KernelAdamCaIdeal.nD Cert.KernelAdamCaIdeal.τ Cert.KernelAdamCaIdeal.sig) → Buf (Elt Ideal) ℓ) : Prop :=
  True

def Pre_ReferenceAdamCaIdeal (m : (ℓ : Loc Cert.ReferenceAdamCaIdeal.nD Cert.ReferenceAdamCaIdeal.τ Cert.ReferenceAdamCaIdeal.sig) → Buf (Elt Ideal) ℓ) : Prop :=
  True

def Pre_KernelAdamCs (m : (ℓ : Loc Cert.KernelAdamCs.nD Cert.KernelAdamCs.τ Cert.KernelAdamCs.sig) → Buf (Elt Bits) ℓ) : Prop :=
  True

def Pre_KernelAdamCsIdeal (m : (ℓ : Loc Cert.KernelAdamCsIdeal.nD Cert.KernelAdamCsIdeal.τ Cert.KernelAdamCsIdeal.sig) → Buf (Elt Ideal) ℓ) : Prop :=
  True

def Pre_ReferenceAdamCsIdeal (m : (ℓ : Loc Cert.ReferenceAdamCsIdeal.nD Cert.ReferenceAdamCsIdeal.τ Cert.ReferenceAdamCsIdeal.sig) → Buf (Elt Ideal) ℓ) : Prop :=
  True

def Pre_KernelAdamCf (m : (ℓ : Loc Cert.KernelAdamCf.nD Cert.KernelAdamCf.τ Cert.KernelAdamCf.sig) → Buf (Elt Bits) ℓ) : Prop :=
  True

def Pre_KernelAdamCfIdeal (m : (ℓ : Loc Cert.KernelAdamCfIdeal.nD Cert.KernelAdamCfIdeal.τ Cert.KernelAdamCfIdeal.sig) → Buf (Elt Ideal) ℓ) : Prop :=
  True

def Pre_ReferenceAdamCfIdeal (m : (ℓ : Loc Cert.ReferenceAdamCfIdeal.nD Cert.ReferenceAdamCfIdeal.τ Cert.ReferenceAdamCfIdeal.sig) → Buf (Elt Ideal) ℓ) : Prop :=
  True

def Pre_KernelAdamN (m : (ℓ : Loc Cert.KernelAdamN.nD Cert.KernelAdamN.τ Cert.KernelAdamN.sig) → Buf (Elt Bits) ℓ) : Prop :=
  True

def Pre_KernelAdamNIdeal (m : (ℓ : Loc Cert.KernelAdamNIdeal.nD Cert.KernelAdamNIdeal.τ Cert.KernelAdamNIdeal.sig) → Buf (Elt Ideal) ℓ) : Prop :=
  True

def Pre_ReferenceAdamNIdeal (m : (ℓ : Loc Cert.ReferenceAdamNIdeal.nD Cert.ReferenceAdamNIdeal.τ Cert.ReferenceAdamNIdeal.sig) → Buf (Elt Ideal) ℓ) : Prop :=
  True

def Pre_KernelAdamSn (m : (ℓ : Loc Cert.KernelAdamSn.nD Cert.KernelAdamSn.τ Cert.KernelAdamSn.sig) → Buf (Elt Bits) ℓ) : Prop :=
  True

def Pre_KernelAdamSnIdeal (m : (ℓ : Loc Cert.KernelAdamSnIdeal.nD Cert.KernelAdamSnIdeal.τ Cert.KernelAdamSnIdeal.sig) → Buf (Elt Ideal) ℓ) : Prop :=
  True

def Pre_ReferenceAdamSnIdeal (m : (ℓ : Loc Cert.ReferenceAdamSnIdeal.nD Cert.ReferenceAdamSnIdeal.τ Cert.ReferenceAdamSnIdeal.sig) → Buf (Elt Ideal) ℓ) : Prop :=
  True

def Pre_KernelAdamSb (m : (ℓ : Loc Cert.KernelAdamSb.nD Cert.KernelAdamSb.τ Cert.KernelAdamSb.sig) → Buf (Elt Bits) ℓ) : Prop :=
  True

def Pre_KernelAdamSbIdeal (m : (ℓ : Loc Cert.KernelAdamSbIdeal.nD Cert.KernelAdamSbIdeal.τ Cert.KernelAdamSbIdeal.sig) → Buf (Elt Ideal) ℓ) : Prop :=
  True

def Pre_ReferenceAdamSbIdeal (m : (ℓ : Loc Cert.ReferenceAdamSbIdeal.nD Cert.ReferenceAdamSbIdeal.τ Cert.ReferenceAdamSbIdeal.sig) → Buf (Elt Ideal) ℓ) : Prop :=
  True

def Pre_KernelAdamIn (m : (ℓ : Loc Cert.KernelAdamIn.nD Cert.KernelAdamIn.τ Cert.KernelAdamIn.sig) → Buf (Elt Bits) ℓ) : Prop :=
  True

def Pre_KernelAdamInIdeal (m : (ℓ : Loc Cert.KernelAdamInIdeal.nD Cert.KernelAdamInIdeal.τ Cert.KernelAdamInIdeal.sig) → Buf (Elt Ideal) ℓ) : Prop :=
  True

def Pre_ReferenceAdamInIdeal (m : (ℓ : Loc Cert.ReferenceAdamInIdeal.nD Cert.ReferenceAdamInIdeal.τ Cert.ReferenceAdamInIdeal.sig) → Buf (Elt Ideal) ℓ) : Prop :=
  True

def Pre_KernelAdamA (m : (ℓ : Loc Cert.KernelAdamA.nD Cert.KernelAdamA.τ Cert.KernelAdamA.sig) → Buf (Elt Bits) ℓ) : Prop :=
  True

def Pre_KernelAdamAIdeal (m : (ℓ : Loc Cert.KernelAdamAIdeal.nD Cert.KernelAdamAIdeal.τ Cert.KernelAdamAIdeal.sig) → Buf (Elt Ideal) ℓ) : Prop :=
  True

def Pre_ReferenceAdamAIdeal (m : (ℓ : Loc Cert.ReferenceAdamAIdeal.nD Cert.ReferenceAdamAIdeal.τ Cert.ReferenceAdamAIdeal.sig) → Buf (Elt Ideal) ℓ) : Prop :=
  True

def Pre_KernelAdamS (m : (ℓ : Loc Cert.KernelAdamS.nD Cert.KernelAdamS.τ Cert.KernelAdamS.sig) → Buf (Elt Bits) ℓ) : Prop :=
  True

def Pre_KernelAdamSIdeal (m : (ℓ : Loc Cert.KernelAdamSIdeal.nD Cert.KernelAdamSIdeal.τ Cert.KernelAdamSIdeal.sig) → Buf (Elt Ideal) ℓ) : Prop :=
  True

def Pre_ReferenceAdamSIdeal (m : (ℓ : Loc Cert.ReferenceAdamSIdeal.nD Cert.ReferenceAdamSIdeal.τ Cert.ReferenceAdamSIdeal.sig) → Buf (Elt Ideal) ℓ) : Prop :=
  True

def Pre_KernelAdamUp (m : (ℓ : Loc Cert.KernelAdamUp.nD Cert.KernelAdamUp.τ Cert.KernelAdamUp.sig) → Buf (Elt Bits) ℓ) : Prop :=
  True

def Pre_KernelAdamUpIdeal (m : (ℓ : Loc Cert.KernelAdamUpIdeal.nD Cert.KernelAdamUpIdeal.τ Cert.KernelAdamUpIdeal.sig) → Buf (Elt Ideal) ℓ) : Prop :=
  True

def Pre_ReferenceAdamUpIdeal (m : (ℓ : Loc Cert.ReferenceAdamUpIdeal.nD Cert.ReferenceAdamUpIdeal.τ Cert.ReferenceAdamUpIdeal.sig) → Buf (Elt Ideal) ℓ) : Prop :=
  True

def Pre_KernelAdamDown (m : (ℓ : Loc Cert.KernelAdamDown.nD Cert.KernelAdamDown.τ Cert.KernelAdamDown.sig) → Buf (Elt Bits) ℓ) : Prop :=
  True

def Pre_KernelAdamDownIdeal (m : (ℓ : Loc Cert.KernelAdamDownIdeal.nD Cert.KernelAdamDownIdeal.τ Cert.KernelAdamDownIdeal.sig) → Buf (Elt Ideal) ℓ) : Prop :=
  True

def Pre_ReferenceAdamDownIdeal (m : (ℓ : Loc Cert.ReferenceAdamDownIdeal.nD Cert.ReferenceAdamDownIdeal.τ Cert.ReferenceAdamDownIdeal.sig) → Buf (Elt Ideal) ℓ) : Prop :=
  True

def Pre_KernelSum (m : (ℓ : Loc Cert.KernelSum.nD Cert.KernelSum.τ Cert.KernelSum.sig) → Buf (Elt Bits) ℓ) : Prop :=
  True

def Pre_KernelSumIdeal (m : (ℓ : Loc Cert.KernelSumIdeal.nD Cert.KernelSumIdeal.τ Cert.KernelSumIdeal.sig) → Buf (Elt Ideal) ℓ) : Prop :=
  True

def Pre_ReferenceSumIdeal (m : (ℓ : Loc Cert.ReferenceSumIdeal.nD Cert.ReferenceSumIdeal.τ Cert.ReferenceSumIdeal.sig) → Buf (Elt Ideal) ℓ) : Prop :=
  True

def Pre_KernelDt (m : (ℓ : Loc Cert.KernelDt.nD Cert.KernelDt.τ Cert.KernelDt.sig) → Buf (Elt Bits) ℓ) : Prop :=
  True

def Pre_KernelDtIdeal (m : (ℓ : Loc Cert.KernelDtIdeal.nD Cert.KernelDtIdeal.τ Cert.KernelDtIdeal.sig) → Buf (Elt Ideal) ℓ) : Prop :=
  True

def Pre_ReferenceDtIdeal (m : (ℓ : Loc Cert.ReferenceDtIdeal.nD Cert.ReferenceDtIdeal.τ Cert.ReferenceDtIdeal.sig) → Buf (Elt Ideal) ℓ) : Prop :=
  True

def Pre_KernelWdt (m : (ℓ : Loc Cert.KernelWdt.nD Cert.KernelWdt.τ Cert.KernelWdt.sig) → Buf (Elt Bits) ℓ) : Prop :=
  True

def Pre_KernelWdtIdeal (m : (ℓ : Loc Cert.KernelWdtIdeal.nD Cert.KernelWdtIdeal.τ Cert.KernelWdtIdeal.sig) → Buf (Elt Ideal) ℓ) : Prop :=
  True

def Pre_ReferenceWdtIdeal (m : (ℓ : Loc Cert.ReferenceWdtIdeal.nD Cert.ReferenceWdtIdeal.τ Cert.ReferenceWdtIdeal.sig) → Buf (Elt Ideal) ℓ) : Prop :=
  True

def Pre_KernelDx (m : (ℓ : Loc Cert.KernelDx.nD Cert.KernelDx.τ Cert.KernelDx.sig) → Buf (Elt Bits) ℓ) : Prop :=
  True

def Pre_KernelDxIdeal (m : (ℓ : Loc Cert.KernelDxIdeal.nD Cert.KernelDxIdeal.τ Cert.KernelDxIdeal.sig) → Buf (Elt Ideal) ℓ) : Prop :=
  True

def Pre_ReferenceDxIdeal (m : (ℓ : Loc Cert.ReferenceDxIdeal.nD Cert.ReferenceDxIdeal.τ Cert.ReferenceDxIdeal.sig) → Buf (Elt Ideal) ℓ) : Prop :=
  True

def quiescent_KernelSsd [hKernelSsd : Cert.KernelSsd.Facts] : Prop :=
  ∀ (m : (ℓ : Loc Cert.KernelSsd.nD Cert.KernelSsd.τ Cert.KernelSsd.sig) → Buf (Elt Bits) ℓ) (g : Dev Cert.KernelSsd.nD → PrngReg), Pre_KernelSsd m →
    θ_run (Cert.KernelSsd.defs (F := Bits)) (onTc (τ := Cert.KernelSsd.τ) (Cert.KernelSsd.main (F := Bits))) ⟨m, fun _ => 0, g⟩ (fun r => (∀ c : Dev Cert.KernelSsd.nD,
      r.2.mem ((c.tc : Thread Cert.KernelSsd.nD Cert.KernelSsd.τ).loc Cert.KernelSsd.main_arg0) = m ((c.tc : Thread Cert.KernelSsd.nD Cert.KernelSsd.τ).loc Cert.KernelSsd.main_arg0)
      ∧ r.2.mem ((c.tc : Thread Cert.KernelSsd.nD Cert.KernelSsd.τ).loc Cert.KernelSsd.main_arg1) = m ((c.tc : Thread Cert.KernelSsd.nD Cert.KernelSsd.τ).loc Cert.KernelSsd.main_arg1)
      ∧ r.2.mem ((c.tc : Thread Cert.KernelSsd.nD Cert.KernelSsd.τ).loc Cert.KernelSsd.main_arg2) = m ((c.tc : Thread Cert.KernelSsd.nD Cert.KernelSsd.τ).loc Cert.KernelSsd.main_arg2)
      ∧ r.2.mem ((c.tc : Thread Cert.KernelSsd.nD Cert.KernelSsd.τ).loc Cert.KernelSsd.main_arg3) = m ((c.tc : Thread Cert.KernelSsd.nD Cert.KernelSsd.τ).loc Cert.KernelSsd.main_arg3)
      ∧ r.2.mem ((c.tc : Thread Cert.KernelSsd.nD Cert.KernelSsd.τ).loc Cert.KernelSsd.main_arg4) = m ((c.tc : Thread Cert.KernelSsd.nD Cert.KernelSsd.τ).loc Cert.KernelSsd.main_arg4)
      ∧ r.2.mem ((c.tc : Thread Cert.KernelSsd.nD Cert.KernelSsd.τ).loc Cert.KernelSsd.main_arg5) = m ((c.tc : Thread Cert.KernelSsd.nD Cert.KernelSsd.τ).loc Cert.KernelSsd.main_arg5))
      ∧ r.2.sem = fun _ => 0)

def quiescent_KernelSsdIdeal [hKernelSsdIdeal : Cert.KernelSsdIdeal.Facts] : Prop :=
  ∀ (m : (ℓ : Loc Cert.KernelSsdIdeal.nD Cert.KernelSsdIdeal.τ Cert.KernelSsdIdeal.sig) → Buf (Elt Ideal) ℓ) (g : Dev Cert.KernelSsdIdeal.nD → PrngReg), Pre_KernelSsdIdeal m →
    θ_run (Cert.KernelSsdIdeal.defs (F := Ideal)) (onTc (τ := Cert.KernelSsdIdeal.τ) (Cert.KernelSsdIdeal.main (F := Ideal))) ⟨m, fun _ => 0, g⟩ (fun r => (∀ c : Dev Cert.KernelSsdIdeal.nD,
      r.2.mem ((c.tc : Thread Cert.KernelSsdIdeal.nD Cert.KernelSsdIdeal.τ).loc Cert.KernelSsdIdeal.main_arg0) = m ((c.tc : Thread Cert.KernelSsdIdeal.nD Cert.KernelSsdIdeal.τ).loc Cert.KernelSsdIdeal.main_arg0)
      ∧ r.2.mem ((c.tc : Thread Cert.KernelSsdIdeal.nD Cert.KernelSsdIdeal.τ).loc Cert.KernelSsdIdeal.main_arg1) = m ((c.tc : Thread Cert.KernelSsdIdeal.nD Cert.KernelSsdIdeal.τ).loc Cert.KernelSsdIdeal.main_arg1)
      ∧ r.2.mem ((c.tc : Thread Cert.KernelSsdIdeal.nD Cert.KernelSsdIdeal.τ).loc Cert.KernelSsdIdeal.main_arg2) = m ((c.tc : Thread Cert.KernelSsdIdeal.nD Cert.KernelSsdIdeal.τ).loc Cert.KernelSsdIdeal.main_arg2)
      ∧ r.2.mem ((c.tc : Thread Cert.KernelSsdIdeal.nD Cert.KernelSsdIdeal.τ).loc Cert.KernelSsdIdeal.main_arg3) = m ((c.tc : Thread Cert.KernelSsdIdeal.nD Cert.KernelSsdIdeal.τ).loc Cert.KernelSsdIdeal.main_arg3)
      ∧ r.2.mem ((c.tc : Thread Cert.KernelSsdIdeal.nD Cert.KernelSsdIdeal.τ).loc Cert.KernelSsdIdeal.main_arg4) = m ((c.tc : Thread Cert.KernelSsdIdeal.nD Cert.KernelSsdIdeal.τ).loc Cert.KernelSsdIdeal.main_arg4)
      ∧ r.2.mem ((c.tc : Thread Cert.KernelSsdIdeal.nD Cert.KernelSsdIdeal.τ).loc Cert.KernelSsdIdeal.main_arg5) = m ((c.tc : Thread Cert.KernelSsdIdeal.nD Cert.KernelSsdIdeal.τ).loc Cert.KernelSsdIdeal.main_arg5))
      ∧ r.2.sem = fun _ => 0)

def quiescent_KernelSsdIdeal_pre_finite [hKernelSsdIdeal : Cert.KernelSsdIdeal.Facts] [hPre_finite : Cert.Pre_finite.Facts] : Prop :=
  ∀ (m : (ℓ : Loc Cert.KernelSsdIdeal.nD Cert.KernelSsdIdeal.τ Cert.KernelSsdIdeal.sig) → Buf (Elt Ideal) ℓ) (g : Dev Cert.KernelSsdIdeal.nD → PrngReg), Pre_KernelSsdIdeal_finite m →
    θ_run (Cert.KernelSsdIdeal.defs (F := Ideal)) (onTc (τ := Cert.KernelSsdIdeal.τ) (Cert.KernelSsdIdeal.main (F := Ideal))) ⟨m, fun _ => 0, g⟩ (fun r => (∀ c : Dev Cert.KernelSsdIdeal.nD,
      r.2.mem ((c.tc : Thread Cert.KernelSsdIdeal.nD Cert.KernelSsdIdeal.τ).loc Cert.KernelSsdIdeal.main_arg0) = m ((c.tc : Thread Cert.KernelSsdIdeal.nD Cert.KernelSsdIdeal.τ).loc Cert.KernelSsdIdeal.main_arg0)
      ∧ r.2.mem ((c.tc : Thread Cert.KernelSsdIdeal.nD Cert.KernelSsdIdeal.τ).loc Cert.KernelSsdIdeal.main_arg1) = m ((c.tc : Thread Cert.KernelSsdIdeal.nD Cert.KernelSsdIdeal.τ).loc Cert.KernelSsdIdeal.main_arg1)
      ∧ r.2.mem ((c.tc : Thread Cert.KernelSsdIdeal.nD Cert.KernelSsdIdeal.τ).loc Cert.KernelSsdIdeal.main_arg2) = m ((c.tc : Thread Cert.KernelSsdIdeal.nD Cert.KernelSsdIdeal.τ).loc Cert.KernelSsdIdeal.main_arg2)
      ∧ r.2.mem ((c.tc : Thread Cert.KernelSsdIdeal.nD Cert.KernelSsdIdeal.τ).loc Cert.KernelSsdIdeal.main_arg3) = m ((c.tc : Thread Cert.KernelSsdIdeal.nD Cert.KernelSsdIdeal.τ).loc Cert.KernelSsdIdeal.main_arg3)
      ∧ r.2.mem ((c.tc : Thread Cert.KernelSsdIdeal.nD Cert.KernelSsdIdeal.τ).loc Cert.KernelSsdIdeal.main_arg4) = m ((c.tc : Thread Cert.KernelSsdIdeal.nD Cert.KernelSsdIdeal.τ).loc Cert.KernelSsdIdeal.main_arg4)
      ∧ r.2.mem ((c.tc : Thread Cert.KernelSsdIdeal.nD Cert.KernelSsdIdeal.τ).loc Cert.KernelSsdIdeal.main_arg5) = m ((c.tc : Thread Cert.KernelSsdIdeal.nD Cert.KernelSsdIdeal.τ).loc Cert.KernelSsdIdeal.main_arg5))
      ∧ r.2.sem = fun _ => 0)

def quiescent_ReferenceSsdIdeal [hReferenceSsdIdeal : Cert.ReferenceSsdIdeal.Facts] : Prop :=
  ∀ (m : (ℓ : Loc Cert.ReferenceSsdIdeal.nD Cert.ReferenceSsdIdeal.τ Cert.ReferenceSsdIdeal.sig) → Buf (Elt Ideal) ℓ) (g : Dev Cert.ReferenceSsdIdeal.nD → PrngReg), Pre_ReferenceSsdIdeal m →
    θ_run (Cert.ReferenceSsdIdeal.defs (F := Ideal)) (onTc (τ := Cert.ReferenceSsdIdeal.τ) (Cert.ReferenceSsdIdeal.main (F := Ideal))) ⟨m, fun _ => 0, g⟩ (fun r => (∀ c : Dev Cert.ReferenceSsdIdeal.nD,
      r.2.mem ((c.tc : Thread Cert.ReferenceSsdIdeal.nD Cert.ReferenceSsdIdeal.τ).loc Cert.ReferenceSsdIdeal.main_arg0) = m ((c.tc : Thread Cert.ReferenceSsdIdeal.nD Cert.ReferenceSsdIdeal.τ).loc Cert.ReferenceSsdIdeal.main_arg0)
      ∧ r.2.mem ((c.tc : Thread Cert.ReferenceSsdIdeal.nD Cert.ReferenceSsdIdeal.τ).loc Cert.ReferenceSsdIdeal.main_arg1) = m ((c.tc : Thread Cert.ReferenceSsdIdeal.nD Cert.ReferenceSsdIdeal.τ).loc Cert.ReferenceSsdIdeal.main_arg1)
      ∧ r.2.mem ((c.tc : Thread Cert.ReferenceSsdIdeal.nD Cert.ReferenceSsdIdeal.τ).loc Cert.ReferenceSsdIdeal.main_arg2) = m ((c.tc : Thread Cert.ReferenceSsdIdeal.nD Cert.ReferenceSsdIdeal.τ).loc Cert.ReferenceSsdIdeal.main_arg2)
      ∧ r.2.mem ((c.tc : Thread Cert.ReferenceSsdIdeal.nD Cert.ReferenceSsdIdeal.τ).loc Cert.ReferenceSsdIdeal.main_arg3) = m ((c.tc : Thread Cert.ReferenceSsdIdeal.nD Cert.ReferenceSsdIdeal.τ).loc Cert.ReferenceSsdIdeal.main_arg3)
      ∧ r.2.mem ((c.tc : Thread Cert.ReferenceSsdIdeal.nD Cert.ReferenceSsdIdeal.τ).loc Cert.ReferenceSsdIdeal.main_arg4) = m ((c.tc : Thread Cert.ReferenceSsdIdeal.nD Cert.ReferenceSsdIdeal.τ).loc Cert.ReferenceSsdIdeal.main_arg4)
      ∧ r.2.mem ((c.tc : Thread Cert.ReferenceSsdIdeal.nD Cert.ReferenceSsdIdeal.τ).loc Cert.ReferenceSsdIdeal.main_arg5) = m ((c.tc : Thread Cert.ReferenceSsdIdeal.nD Cert.ReferenceSsdIdeal.τ).loc Cert.ReferenceSsdIdeal.main_arg5))
      ∧ r.2.sem = fun _ => 0)

def quiescent_ReferenceSsdIdeal_pre_finite [hReferenceSsdIdeal : Cert.ReferenceSsdIdeal.Facts] [hPre_finite : Cert.Pre_finite.Facts] : Prop :=
  ∀ (m : (ℓ : Loc Cert.ReferenceSsdIdeal.nD Cert.ReferenceSsdIdeal.τ Cert.ReferenceSsdIdeal.sig) → Buf (Elt Ideal) ℓ) (g : Dev Cert.ReferenceSsdIdeal.nD → PrngReg), Pre_ReferenceSsdIdeal_finite m →
    θ_run (Cert.ReferenceSsdIdeal.defs (F := Ideal)) (onTc (τ := Cert.ReferenceSsdIdeal.τ) (Cert.ReferenceSsdIdeal.main (F := Ideal))) ⟨m, fun _ => 0, g⟩ (fun r => (∀ c : Dev Cert.ReferenceSsdIdeal.nD,
      r.2.mem ((c.tc : Thread Cert.ReferenceSsdIdeal.nD Cert.ReferenceSsdIdeal.τ).loc Cert.ReferenceSsdIdeal.main_arg0) = m ((c.tc : Thread Cert.ReferenceSsdIdeal.nD Cert.ReferenceSsdIdeal.τ).loc Cert.ReferenceSsdIdeal.main_arg0)
      ∧ r.2.mem ((c.tc : Thread Cert.ReferenceSsdIdeal.nD Cert.ReferenceSsdIdeal.τ).loc Cert.ReferenceSsdIdeal.main_arg1) = m ((c.tc : Thread Cert.ReferenceSsdIdeal.nD Cert.ReferenceSsdIdeal.τ).loc Cert.ReferenceSsdIdeal.main_arg1)
      ∧ r.2.mem ((c.tc : Thread Cert.ReferenceSsdIdeal.nD Cert.ReferenceSsdIdeal.τ).loc Cert.ReferenceSsdIdeal.main_arg2) = m ((c.tc : Thread Cert.ReferenceSsdIdeal.nD Cert.ReferenceSsdIdeal.τ).loc Cert.ReferenceSsdIdeal.main_arg2)
      ∧ r.2.mem ((c.tc : Thread Cert.ReferenceSsdIdeal.nD Cert.ReferenceSsdIdeal.τ).loc Cert.ReferenceSsdIdeal.main_arg3) = m ((c.tc : Thread Cert.ReferenceSsdIdeal.nD Cert.ReferenceSsdIdeal.τ).loc Cert.ReferenceSsdIdeal.main_arg3)
      ∧ r.2.mem ((c.tc : Thread Cert.ReferenceSsdIdeal.nD Cert.ReferenceSsdIdeal.τ).loc Cert.ReferenceSsdIdeal.main_arg4) = m ((c.tc : Thread Cert.ReferenceSsdIdeal.nD Cert.ReferenceSsdIdeal.τ).loc Cert.ReferenceSsdIdeal.main_arg4)
      ∧ r.2.mem ((c.tc : Thread Cert.ReferenceSsdIdeal.nD Cert.ReferenceSsdIdeal.τ).loc Cert.ReferenceSsdIdeal.main_arg5) = m ((c.tc : Thread Cert.ReferenceSsdIdeal.nD Cert.ReferenceSsdIdeal.τ).loc Cert.ReferenceSsdIdeal.main_arg5))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_KernelWd [hKernelWd : Cert.KernelWd.Facts] : Prop :=
  ∀ (m : (ℓ : Loc Cert.KernelWd.nD Cert.KernelWd.τ Cert.KernelWd.sig) → Buf (Elt Bits) ℓ) (g : Dev Cert.KernelWd.nD → PrngReg), Pre_KernelWd m →
    θ_run (Cert.KernelWd.defs (F := Bits)) (onTc (τ := Cert.KernelWd.τ) (Cert.KernelWd.main (F := Bits))) ⟨m, fun _ => 0, g⟩ (fun r => (∀ c : Dev Cert.KernelWd.nD,
      r.2.mem ((c.tc : Thread Cert.KernelWd.nD Cert.KernelWd.τ).loc Cert.KernelWd.main_arg0) = m ((c.tc : Thread Cert.KernelWd.nD Cert.KernelWd.τ).loc Cert.KernelWd.main_arg0)
      ∧ r.2.mem ((c.tc : Thread Cert.KernelWd.nD Cert.KernelWd.τ).loc Cert.KernelWd.main_arg1) = m ((c.tc : Thread Cert.KernelWd.nD Cert.KernelWd.τ).loc Cert.KernelWd.main_arg1))
      ∧ r.2.sem = fun _ => 0)

def quiescent_KernelWdIdeal [hKernelWdIdeal : Cert.KernelWdIdeal.Facts] : Prop :=
  ∀ (m : (ℓ : Loc Cert.KernelWdIdeal.nD Cert.KernelWdIdeal.τ Cert.KernelWdIdeal.sig) → Buf (Elt Ideal) ℓ) (g : Dev Cert.KernelWdIdeal.nD → PrngReg), Pre_KernelWdIdeal m →
    θ_run (Cert.KernelWdIdeal.defs (F := Ideal)) (onTc (τ := Cert.KernelWdIdeal.τ) (Cert.KernelWdIdeal.main (F := Ideal))) ⟨m, fun _ => 0, g⟩ (fun r => (∀ c : Dev Cert.KernelWdIdeal.nD,
      r.2.mem ((c.tc : Thread Cert.KernelWdIdeal.nD Cert.KernelWdIdeal.τ).loc Cert.KernelWdIdeal.main_arg0) = m ((c.tc : Thread Cert.KernelWdIdeal.nD Cert.KernelWdIdeal.τ).loc Cert.KernelWdIdeal.main_arg0)
      ∧ r.2.mem ((c.tc : Thread Cert.KernelWdIdeal.nD Cert.KernelWdIdeal.τ).loc Cert.KernelWdIdeal.main_arg1) = m ((c.tc : Thread Cert.KernelWdIdeal.nD Cert.KernelWdIdeal.τ).loc Cert.KernelWdIdeal.main_arg1))
      ∧ r.2.sem = fun _ => 0)

def quiescent_ReferenceWdIdeal [hReferenceWdIdeal : Cert.ReferenceWdIdeal.Facts] : Prop :=
  ∀ (m : (ℓ : Loc Cert.ReferenceWdIdeal.nD Cert.ReferenceWdIdeal.τ Cert.ReferenceWdIdeal.sig) → Buf (Elt Ideal) ℓ) (g : Dev Cert.ReferenceWdIdeal.nD → PrngReg), Pre_ReferenceWdIdeal m →
    θ_run (Cert.ReferenceWdIdeal.defs (F := Ideal)) (onTc (τ := Cert.ReferenceWdIdeal.τ) (Cert.ReferenceWdIdeal.main (F := Ideal))) ⟨m, fun _ => 0, g⟩ (fun r => (∀ c : Dev Cert.ReferenceWdIdeal.nD,
      r.2.mem ((c.tc : Thread Cert.ReferenceWdIdeal.nD Cert.ReferenceWdIdeal.τ).loc Cert.ReferenceWdIdeal.main_arg0) = m ((c.tc : Thread Cert.ReferenceWdIdeal.nD Cert.ReferenceWdIdeal.τ).loc Cert.ReferenceWdIdeal.main_arg0)
      ∧ r.2.mem ((c.tc : Thread Cert.ReferenceWdIdeal.nD Cert.ReferenceWdIdeal.τ).loc Cert.ReferenceWdIdeal.main_arg1) = m ((c.tc : Thread Cert.ReferenceWdIdeal.nD Cert.ReferenceWdIdeal.τ).loc Cert.ReferenceWdIdeal.main_arg1))
      ∧ r.2.sem = fun _ => 0)

def quiescent_KernelWdi [hKernelWdi : Cert.KernelWdi.Facts] : Prop :=
  ∀ (m : (ℓ : Loc Cert.KernelWdi.nD Cert.KernelWdi.τ Cert.KernelWdi.sig) → Buf (Elt Bits) ℓ) (g : Dev Cert.KernelWdi.nD → PrngReg), Pre_KernelWdi m →
    θ_run (Cert.KernelWdi.defs (F := Bits)) (onTc (τ := Cert.KernelWdi.τ) (Cert.KernelWdi.main (F := Bits))) ⟨m, fun _ => 0, g⟩ (fun r => (∀ c : Dev Cert.KernelWdi.nD,
      r.2.mem ((c.tc : Thread Cert.KernelWdi.nD Cert.KernelWdi.τ).loc Cert.KernelWdi.main_arg0) = m ((c.tc : Thread Cert.KernelWdi.nD Cert.KernelWdi.τ).loc Cert.KernelWdi.main_arg0)
      ∧ r.2.mem ((c.tc : Thread Cert.KernelWdi.nD Cert.KernelWdi.τ).loc Cert.KernelWdi.main_arg1) = m ((c.tc : Thread Cert.KernelWdi.nD Cert.KernelWdi.τ).loc Cert.KernelWdi.main_arg1))
      ∧ r.2.sem = fun _ => 0)

def quiescent_KernelWdiIdeal [hKernelWdiIdeal : Cert.KernelWdiIdeal.Facts] : Prop :=
  ∀ (m : (ℓ : Loc Cert.KernelWdiIdeal.nD Cert.KernelWdiIdeal.τ Cert.KernelWdiIdeal.sig) → Buf (Elt Ideal) ℓ) (g : Dev Cert.KernelWdiIdeal.nD → PrngReg), Pre_KernelWdiIdeal m →
    θ_run (Cert.KernelWdiIdeal.defs (F := Ideal)) (onTc (τ := Cert.KernelWdiIdeal.τ) (Cert.KernelWdiIdeal.main (F := Ideal))) ⟨m, fun _ => 0, g⟩ (fun r => (∀ c : Dev Cert.KernelWdiIdeal.nD,
      r.2.mem ((c.tc : Thread Cert.KernelWdiIdeal.nD Cert.KernelWdiIdeal.τ).loc Cert.KernelWdiIdeal.main_arg0) = m ((c.tc : Thread Cert.KernelWdiIdeal.nD Cert.KernelWdiIdeal.τ).loc Cert.KernelWdiIdeal.main_arg0)
      ∧ r.2.mem ((c.tc : Thread Cert.KernelWdiIdeal.nD Cert.KernelWdiIdeal.τ).loc Cert.KernelWdiIdeal.main_arg1) = m ((c.tc : Thread Cert.KernelWdiIdeal.nD Cert.KernelWdiIdeal.τ).loc Cert.KernelWdiIdeal.main_arg1))
      ∧ r.2.sem = fun _ => 0)

def quiescent_ReferenceWdiIdeal [hReferenceWdiIdeal : Cert.ReferenceWdiIdeal.Facts] : Prop :=
  ∀ (m : (ℓ : Loc Cert.ReferenceWdiIdeal.nD Cert.ReferenceWdiIdeal.τ Cert.ReferenceWdiIdeal.sig) → Buf (Elt Ideal) ℓ) (g : Dev Cert.ReferenceWdiIdeal.nD → PrngReg), Pre_ReferenceWdiIdeal m →
    θ_run (Cert.ReferenceWdiIdeal.defs (F := Ideal)) (onTc (τ := Cert.ReferenceWdiIdeal.τ) (Cert.ReferenceWdiIdeal.main (F := Ideal))) ⟨m, fun _ => 0, g⟩ (fun r => (∀ c : Dev Cert.ReferenceWdiIdeal.nD,
      r.2.mem ((c.tc : Thread Cert.ReferenceWdiIdeal.nD Cert.ReferenceWdiIdeal.τ).loc Cert.ReferenceWdiIdeal.main_arg0) = m ((c.tc : Thread Cert.ReferenceWdiIdeal.nD Cert.ReferenceWdiIdeal.τ).loc Cert.ReferenceWdiIdeal.main_arg0)
      ∧ r.2.mem ((c.tc : Thread Cert.ReferenceWdiIdeal.nD Cert.ReferenceWdiIdeal.τ).loc Cert.ReferenceWdiIdeal.main_arg1) = m ((c.tc : Thread Cert.ReferenceWdiIdeal.nD Cert.ReferenceWdiIdeal.τ).loc Cert.ReferenceWdiIdeal.main_arg1))
      ∧ r.2.sem = fun _ => 0)

def quiescent_KernelWx [hKernelWx : Cert.KernelWx.Facts] : Prop :=
  ∀ (m : (ℓ : Loc Cert.KernelWx.nD Cert.KernelWx.τ Cert.KernelWx.sig) → Buf (Elt Bits) ℓ) (g : Dev Cert.KernelWx.nD → PrngReg), Pre_KernelWx m →
    θ_run (Cert.KernelWx.defs (F := Bits)) (onTc (τ := Cert.KernelWx.τ) (Cert.KernelWx.main (F := Bits))) ⟨m, fun _ => 0, g⟩ (fun r => (∀ c : Dev Cert.KernelWx.nD,
      r.2.mem ((c.tc : Thread Cert.KernelWx.nD Cert.KernelWx.τ).loc Cert.KernelWx.main_arg0) = m ((c.tc : Thread Cert.KernelWx.nD Cert.KernelWx.τ).loc Cert.KernelWx.main_arg0)
      ∧ r.2.mem ((c.tc : Thread Cert.KernelWx.nD Cert.KernelWx.τ).loc Cert.KernelWx.main_arg1) = m ((c.tc : Thread Cert.KernelWx.nD Cert.KernelWx.τ).loc Cert.KernelWx.main_arg1))
      ∧ r.2.sem = fun _ => 0)

def quiescent_KernelWxIdeal [hKernelWxIdeal : Cert.KernelWxIdeal.Facts] : Prop :=
  ∀ (m : (ℓ : Loc Cert.KernelWxIdeal.nD Cert.KernelWxIdeal.τ Cert.KernelWxIdeal.sig) → Buf (Elt Ideal) ℓ) (g : Dev Cert.KernelWxIdeal.nD → PrngReg), Pre_KernelWxIdeal m →
    θ_run (Cert.KernelWxIdeal.defs (F := Ideal)) (onTc (τ := Cert.KernelWxIdeal.τ) (Cert.KernelWxIdeal.main (F := Ideal))) ⟨m, fun _ => 0, g⟩ (fun r => (∀ c : Dev Cert.KernelWxIdeal.nD,
      r.2.mem ((c.tc : Thread Cert.KernelWxIdeal.nD Cert.KernelWxIdeal.τ).loc Cert.KernelWxIdeal.main_arg0) = m ((c.tc : Thread Cert.KernelWxIdeal.nD Cert.KernelWxIdeal.τ).loc Cert.KernelWxIdeal.main_arg0)
      ∧ r.2.mem ((c.tc : Thread Cert.KernelWxIdeal.nD Cert.KernelWxIdeal.τ).loc Cert.KernelWxIdeal.main_arg1) = m ((c.tc : Thread Cert.KernelWxIdeal.nD Cert.KernelWxIdeal.τ).loc Cert.KernelWxIdeal.main_arg1))
      ∧ r.2.sem = fun _ => 0)

def quiescent_ReferenceWxIdeal [hReferenceWxIdeal : Cert.ReferenceWxIdeal.Facts] : Prop :=
  ∀ (m : (ℓ : Loc Cert.ReferenceWxIdeal.nD Cert.ReferenceWxIdeal.τ Cert.ReferenceWxIdeal.sig) → Buf (Elt Ideal) ℓ) (g : Dev Cert.ReferenceWxIdeal.nD → PrngReg), Pre_ReferenceWxIdeal m →
    θ_run (Cert.ReferenceWxIdeal.defs (F := Ideal)) (onTc (τ := Cert.ReferenceWxIdeal.τ) (Cert.ReferenceWxIdeal.main (F := Ideal))) ⟨m, fun _ => 0, g⟩ (fun r => (∀ c : Dev Cert.ReferenceWxIdeal.nD,
      r.2.mem ((c.tc : Thread Cert.ReferenceWxIdeal.nD Cert.ReferenceWxIdeal.τ).loc Cert.ReferenceWxIdeal.main_arg0) = m ((c.tc : Thread Cert.ReferenceWxIdeal.nD Cert.ReferenceWxIdeal.τ).loc Cert.ReferenceWxIdeal.main_arg0)
      ∧ r.2.mem ((c.tc : Thread Cert.ReferenceWxIdeal.nD Cert.ReferenceWxIdeal.τ).loc Cert.ReferenceWxIdeal.main_arg1) = m ((c.tc : Thread Cert.ReferenceWxIdeal.nD Cert.ReferenceWxIdeal.τ).loc Cert.ReferenceWxIdeal.main_arg1))
      ∧ r.2.sem = fun _ => 0)

def quiescent_KernelDv [hKernelDv : Cert.KernelDv.Facts] : Prop :=
  ∀ (m : (ℓ : Loc Cert.KernelDv.nD Cert.KernelDv.τ Cert.KernelDv.sig) → Buf (Elt Bits) ℓ) (g : Dev Cert.KernelDv.nD → PrngReg), Pre_KernelDv m →
    θ_run (Cert.KernelDv.defs (F := Bits)) (onTc (τ := Cert.KernelDv.τ) (Cert.KernelDv.main (F := Bits))) ⟨m, fun _ => 0, g⟩ (fun r => (∀ c : Dev Cert.KernelDv.nD,
      r.2.mem ((c.tc : Thread Cert.KernelDv.nD Cert.KernelDv.τ).loc Cert.KernelDv.main_arg0) = m ((c.tc : Thread Cert.KernelDv.nD Cert.KernelDv.τ).loc Cert.KernelDv.main_arg0)
      ∧ r.2.mem ((c.tc : Thread Cert.KernelDv.nD Cert.KernelDv.τ).loc Cert.KernelDv.main_arg1) = m ((c.tc : Thread Cert.KernelDv.nD Cert.KernelDv.τ).loc Cert.KernelDv.main_arg1)
      ∧ r.2.mem ((c.tc : Thread Cert.KernelDv.nD Cert.KernelDv.τ).loc Cert.KernelDv.main_arg2) = m ((c.tc : Thread Cert.KernelDv.nD Cert.KernelDv.τ).loc Cert.KernelDv.main_arg2))
      ∧ r.2.sem = fun _ => 0)

def quiescent_KernelDvIdeal [hKernelDvIdeal : Cert.KernelDvIdeal.Facts] : Prop :=
  ∀ (m : (ℓ : Loc Cert.KernelDvIdeal.nD Cert.KernelDvIdeal.τ Cert.KernelDvIdeal.sig) → Buf (Elt Ideal) ℓ) (g : Dev Cert.KernelDvIdeal.nD → PrngReg), Pre_KernelDvIdeal m →
    θ_run (Cert.KernelDvIdeal.defs (F := Ideal)) (onTc (τ := Cert.KernelDvIdeal.τ) (Cert.KernelDvIdeal.main (F := Ideal))) ⟨m, fun _ => 0, g⟩ (fun r => (∀ c : Dev Cert.KernelDvIdeal.nD,
      r.2.mem ((c.tc : Thread Cert.KernelDvIdeal.nD Cert.KernelDvIdeal.τ).loc Cert.KernelDvIdeal.main_arg0) = m ((c.tc : Thread Cert.KernelDvIdeal.nD Cert.KernelDvIdeal.τ).loc Cert.KernelDvIdeal.main_arg0)
      ∧ r.2.mem ((c.tc : Thread Cert.KernelDvIdeal.nD Cert.KernelDvIdeal.τ).loc Cert.KernelDvIdeal.main_arg1) = m ((c.tc : Thread Cert.KernelDvIdeal.nD Cert.KernelDvIdeal.τ).loc Cert.KernelDvIdeal.main_arg1)
      ∧ r.2.mem ((c.tc : Thread Cert.KernelDvIdeal.nD Cert.KernelDvIdeal.τ).loc Cert.KernelDvIdeal.main_arg2) = m ((c.tc : Thread Cert.KernelDvIdeal.nD Cert.KernelDvIdeal.τ).loc Cert.KernelDvIdeal.main_arg2))
      ∧ r.2.sem = fun _ => 0)

def quiescent_ReferenceDvIdeal [hReferenceDvIdeal : Cert.ReferenceDvIdeal.Facts] : Prop :=
  ∀ (m : (ℓ : Loc Cert.ReferenceDvIdeal.nD Cert.ReferenceDvIdeal.τ Cert.ReferenceDvIdeal.sig) → Buf (Elt Ideal) ℓ) (g : Dev Cert.ReferenceDvIdeal.nD → PrngReg), Pre_ReferenceDvIdeal m →
    θ_run (Cert.ReferenceDvIdeal.defs (F := Ideal)) (onTc (τ := Cert.ReferenceDvIdeal.τ) (Cert.ReferenceDvIdeal.main (F := Ideal))) ⟨m, fun _ => 0, g⟩ (fun r => (∀ c : Dev Cert.ReferenceDvIdeal.nD,
      r.2.mem ((c.tc : Thread Cert.ReferenceDvIdeal.nD Cert.ReferenceDvIdeal.τ).loc Cert.ReferenceDvIdeal.main_arg0) = m ((c.tc : Thread Cert.ReferenceDvIdeal.nD Cert.ReferenceDvIdeal.τ).loc Cert.ReferenceDvIdeal.main_arg0)
      ∧ r.2.mem ((c.tc : Thread Cert.ReferenceDvIdeal.nD Cert.ReferenceDvIdeal.τ).loc Cert.ReferenceDvIdeal.main_arg1) = m ((c.tc : Thread Cert.ReferenceDvIdeal.nD Cert.ReferenceDvIdeal.τ).loc Cert.ReferenceDvIdeal.main_arg1)
      ∧ r.2.mem ((c.tc : Thread Cert.ReferenceDvIdeal.nD Cert.ReferenceDvIdeal.τ).loc Cert.ReferenceDvIdeal.main_arg2) = m ((c.tc : Thread Cert.ReferenceDvIdeal.nD Cert.ReferenceDvIdeal.τ).loc Cert.ReferenceDvIdeal.main_arg2))
      ∧ r.2.sem = fun _ => 0)

def quiescent_KernelDa [hKernelDa : Cert.KernelDa.Facts] : Prop :=
  ∀ (m : (ℓ : Loc Cert.KernelDa.nD Cert.KernelDa.τ Cert.KernelDa.sig) → Buf (Elt Bits) ℓ) (g : Dev Cert.KernelDa.nD → PrngReg), Pre_KernelDa m →
    θ_run (Cert.KernelDa.defs (F := Bits)) (onTc (τ := Cert.KernelDa.τ) (Cert.KernelDa.main (F := Bits))) ⟨m, fun _ => 0, g⟩ (fun r => (∀ c : Dev Cert.KernelDa.nD,
      r.2.mem ((c.tc : Thread Cert.KernelDa.nD Cert.KernelDa.τ).loc Cert.KernelDa.main_arg0) = m ((c.tc : Thread Cert.KernelDa.nD Cert.KernelDa.τ).loc Cert.KernelDa.main_arg0)
      ∧ r.2.mem ((c.tc : Thread Cert.KernelDa.nD Cert.KernelDa.τ).loc Cert.KernelDa.main_arg1) = m ((c.tc : Thread Cert.KernelDa.nD Cert.KernelDa.τ).loc Cert.KernelDa.main_arg1))
      ∧ r.2.sem = fun _ => 0)

def quiescent_KernelDaIdeal [hKernelDaIdeal : Cert.KernelDaIdeal.Facts] : Prop :=
  ∀ (m : (ℓ : Loc Cert.KernelDaIdeal.nD Cert.KernelDaIdeal.τ Cert.KernelDaIdeal.sig) → Buf (Elt Ideal) ℓ) (g : Dev Cert.KernelDaIdeal.nD → PrngReg), Pre_KernelDaIdeal m →
    θ_run (Cert.KernelDaIdeal.defs (F := Ideal)) (onTc (τ := Cert.KernelDaIdeal.τ) (Cert.KernelDaIdeal.main (F := Ideal))) ⟨m, fun _ => 0, g⟩ (fun r => (∀ c : Dev Cert.KernelDaIdeal.nD,
      r.2.mem ((c.tc : Thread Cert.KernelDaIdeal.nD Cert.KernelDaIdeal.τ).loc Cert.KernelDaIdeal.main_arg0) = m ((c.tc : Thread Cert.KernelDaIdeal.nD Cert.KernelDaIdeal.τ).loc Cert.KernelDaIdeal.main_arg0)
      ∧ r.2.mem ((c.tc : Thread Cert.KernelDaIdeal.nD Cert.KernelDaIdeal.τ).loc Cert.KernelDaIdeal.main_arg1) = m ((c.tc : Thread Cert.KernelDaIdeal.nD Cert.KernelDaIdeal.τ).loc Cert.KernelDaIdeal.main_arg1))
      ∧ r.2.sem = fun _ => 0)

def quiescent_ReferenceDaIdeal [hReferenceDaIdeal : Cert.ReferenceDaIdeal.Facts] : Prop :=
  ∀ (m : (ℓ : Loc Cert.ReferenceDaIdeal.nD Cert.ReferenceDaIdeal.τ Cert.ReferenceDaIdeal.sig) → Buf (Elt Ideal) ℓ) (g : Dev Cert.ReferenceDaIdeal.nD → PrngReg), Pre_ReferenceDaIdeal m →
    θ_run (Cert.ReferenceDaIdeal.defs (F := Ideal)) (onTc (τ := Cert.ReferenceDaIdeal.τ) (Cert.ReferenceDaIdeal.main (F := Ideal))) ⟨m, fun _ => 0, g⟩ (fun r => (∀ c : Dev Cert.ReferenceDaIdeal.nD,
      r.2.mem ((c.tc : Thread Cert.ReferenceDaIdeal.nD Cert.ReferenceDaIdeal.τ).loc Cert.ReferenceDaIdeal.main_arg0) = m ((c.tc : Thread Cert.ReferenceDaIdeal.nD Cert.ReferenceDaIdeal.τ).loc Cert.ReferenceDaIdeal.main_arg0)
      ∧ r.2.mem ((c.tc : Thread Cert.ReferenceDaIdeal.nD Cert.ReferenceDaIdeal.τ).loc Cert.ReferenceDaIdeal.main_arg1) = m ((c.tc : Thread Cert.ReferenceDaIdeal.nD Cert.ReferenceDaIdeal.τ).loc Cert.ReferenceDaIdeal.main_arg1))
      ∧ r.2.sem = fun _ => 0)

def quiescent_KernelDu [hKernelDu : Cert.KernelDu.Facts] : Prop :=
  ∀ (m : (ℓ : Loc Cert.KernelDu.nD Cert.KernelDu.τ Cert.KernelDu.sig) → Buf (Elt Bits) ℓ) (g : Dev Cert.KernelDu.nD → PrngReg), Pre_KernelDu m →
    θ_run (Cert.KernelDu.defs (F := Bits)) (onTc (τ := Cert.KernelDu.τ) (Cert.KernelDu.main (F := Bits))) ⟨m, fun _ => 0, g⟩ (fun r => (∀ c : Dev Cert.KernelDu.nD,
      r.2.mem ((c.tc : Thread Cert.KernelDu.nD Cert.KernelDu.τ).loc Cert.KernelDu.main_arg0) = m ((c.tc : Thread Cert.KernelDu.nD Cert.KernelDu.τ).loc Cert.KernelDu.main_arg0)
      ∧ r.2.mem ((c.tc : Thread Cert.KernelDu.nD Cert.KernelDu.τ).loc Cert.KernelDu.main_arg1) = m ((c.tc : Thread Cert.KernelDu.nD Cert.KernelDu.τ).loc Cert.KernelDu.main_arg1)
      ∧ r.2.mem ((c.tc : Thread Cert.KernelDu.nD Cert.KernelDu.τ).loc Cert.KernelDu.main_arg2) = m ((c.tc : Thread Cert.KernelDu.nD Cert.KernelDu.τ).loc Cert.KernelDu.main_arg2)
      ∧ r.2.mem ((c.tc : Thread Cert.KernelDu.nD Cert.KernelDu.τ).loc Cert.KernelDu.main_arg3) = m ((c.tc : Thread Cert.KernelDu.nD Cert.KernelDu.τ).loc Cert.KernelDu.main_arg3)
      ∧ r.2.mem ((c.tc : Thread Cert.KernelDu.nD Cert.KernelDu.τ).loc Cert.KernelDu.main_arg4) = m ((c.tc : Thread Cert.KernelDu.nD Cert.KernelDu.τ).loc Cert.KernelDu.main_arg4)
      ∧ r.2.mem ((c.tc : Thread Cert.KernelDu.nD Cert.KernelDu.τ).loc Cert.KernelDu.main_arg5) = m ((c.tc : Thread Cert.KernelDu.nD Cert.KernelDu.τ).loc Cert.KernelDu.main_arg5)
      ∧ r.2.mem ((c.tc : Thread Cert.KernelDu.nD Cert.KernelDu.τ).loc Cert.KernelDu.main_arg6) = m ((c.tc : Thread Cert.KernelDu.nD Cert.KernelDu.τ).loc Cert.KernelDu.main_arg6)
      ∧ r.2.mem ((c.tc : Thread Cert.KernelDu.nD Cert.KernelDu.τ).loc Cert.KernelDu.main_arg7) = m ((c.tc : Thread Cert.KernelDu.nD Cert.KernelDu.τ).loc Cert.KernelDu.main_arg7)
      ∧ r.2.mem ((c.tc : Thread Cert.KernelDu.nD Cert.KernelDu.τ).loc Cert.KernelDu.main_arg8) = m ((c.tc : Thread Cert.KernelDu.nD Cert.KernelDu.τ).loc Cert.KernelDu.main_arg8))
      ∧ r.2.sem = fun _ => 0)

def quiescent_KernelDuIdeal [hKernelDuIdeal : Cert.KernelDuIdeal.Facts] : Prop :=
  ∀ (m : (ℓ : Loc Cert.KernelDuIdeal.nD Cert.KernelDuIdeal.τ Cert.KernelDuIdeal.sig) → Buf (Elt Ideal) ℓ) (g : Dev Cert.KernelDuIdeal.nD → PrngReg), Pre_KernelDuIdeal m →
    θ_run (Cert.KernelDuIdeal.defs (F := Ideal)) (onTc (τ := Cert.KernelDuIdeal.τ) (Cert.KernelDuIdeal.main (F := Ideal))) ⟨m, fun _ => 0, g⟩ (fun r => (∀ c : Dev Cert.KernelDuIdeal.nD,
      r.2.mem ((c.tc : Thread Cert.KernelDuIdeal.nD Cert.KernelDuIdeal.τ).loc Cert.KernelDuIdeal.main_arg0) = m ((c.tc : Thread Cert.KernelDuIdeal.nD Cert.KernelDuIdeal.τ).loc Cert.KernelDuIdeal.main_arg0)
      ∧ r.2.mem ((c.tc : Thread Cert.KernelDuIdeal.nD Cert.KernelDuIdeal.τ).loc Cert.KernelDuIdeal.main_arg1) = m ((c.tc : Thread Cert.KernelDuIdeal.nD Cert.KernelDuIdeal.τ).loc Cert.KernelDuIdeal.main_arg1)
      ∧ r.2.mem ((c.tc : Thread Cert.KernelDuIdeal.nD Cert.KernelDuIdeal.τ).loc Cert.KernelDuIdeal.main_arg2) = m ((c.tc : Thread Cert.KernelDuIdeal.nD Cert.KernelDuIdeal.τ).loc Cert.KernelDuIdeal.main_arg2)
      ∧ r.2.mem ((c.tc : Thread Cert.KernelDuIdeal.nD Cert.KernelDuIdeal.τ).loc Cert.KernelDuIdeal.main_arg3) = m ((c.tc : Thread Cert.KernelDuIdeal.nD Cert.KernelDuIdeal.τ).loc Cert.KernelDuIdeal.main_arg3)
      ∧ r.2.mem ((c.tc : Thread Cert.KernelDuIdeal.nD Cert.KernelDuIdeal.τ).loc Cert.KernelDuIdeal.main_arg4) = m ((c.tc : Thread Cert.KernelDuIdeal.nD Cert.KernelDuIdeal.τ).loc Cert.KernelDuIdeal.main_arg4)
      ∧ r.2.mem ((c.tc : Thread Cert.KernelDuIdeal.nD Cert.KernelDuIdeal.τ).loc Cert.KernelDuIdeal.main_arg5) = m ((c.tc : Thread Cert.KernelDuIdeal.nD Cert.KernelDuIdeal.τ).loc Cert.KernelDuIdeal.main_arg5)
      ∧ r.2.mem ((c.tc : Thread Cert.KernelDuIdeal.nD Cert.KernelDuIdeal.τ).loc Cert.KernelDuIdeal.main_arg6) = m ((c.tc : Thread Cert.KernelDuIdeal.nD Cert.KernelDuIdeal.τ).loc Cert.KernelDuIdeal.main_arg6)
      ∧ r.2.mem ((c.tc : Thread Cert.KernelDuIdeal.nD Cert.KernelDuIdeal.τ).loc Cert.KernelDuIdeal.main_arg7) = m ((c.tc : Thread Cert.KernelDuIdeal.nD Cert.KernelDuIdeal.τ).loc Cert.KernelDuIdeal.main_arg7)
      ∧ r.2.mem ((c.tc : Thread Cert.KernelDuIdeal.nD Cert.KernelDuIdeal.τ).loc Cert.KernelDuIdeal.main_arg8) = m ((c.tc : Thread Cert.KernelDuIdeal.nD Cert.KernelDuIdeal.τ).loc Cert.KernelDuIdeal.main_arg8))
      ∧ r.2.sem = fun _ => 0)

def quiescent_ReferenceDuIdeal [hReferenceDuIdeal : Cert.ReferenceDuIdeal.Facts] : Prop :=
  ∀ (m : (ℓ : Loc Cert.ReferenceDuIdeal.nD Cert.ReferenceDuIdeal.τ Cert.ReferenceDuIdeal.sig) → Buf (Elt Ideal) ℓ) (g : Dev Cert.ReferenceDuIdeal.nD → PrngReg), Pre_ReferenceDuIdeal m →
    θ_run (Cert.ReferenceDuIdeal.defs (F := Ideal)) (onTc (τ := Cert.ReferenceDuIdeal.τ) (Cert.ReferenceDuIdeal.main (F := Ideal))) ⟨m, fun _ => 0, g⟩ (fun r => (∀ c : Dev Cert.ReferenceDuIdeal.nD,
      r.2.mem ((c.tc : Thread Cert.ReferenceDuIdeal.nD Cert.ReferenceDuIdeal.τ).loc Cert.ReferenceDuIdeal.main_arg0) = m ((c.tc : Thread Cert.ReferenceDuIdeal.nD Cert.ReferenceDuIdeal.τ).loc Cert.ReferenceDuIdeal.main_arg0)
      ∧ r.2.mem ((c.tc : Thread Cert.ReferenceDuIdeal.nD Cert.ReferenceDuIdeal.τ).loc Cert.ReferenceDuIdeal.main_arg1) = m ((c.tc : Thread Cert.ReferenceDuIdeal.nD Cert.ReferenceDuIdeal.τ).loc Cert.ReferenceDuIdeal.main_arg1)
      ∧ r.2.mem ((c.tc : Thread Cert.ReferenceDuIdeal.nD Cert.ReferenceDuIdeal.τ).loc Cert.ReferenceDuIdeal.main_arg2) = m ((c.tc : Thread Cert.ReferenceDuIdeal.nD Cert.ReferenceDuIdeal.τ).loc Cert.ReferenceDuIdeal.main_arg2)
      ∧ r.2.mem ((c.tc : Thread Cert.ReferenceDuIdeal.nD Cert.ReferenceDuIdeal.τ).loc Cert.ReferenceDuIdeal.main_arg3) = m ((c.tc : Thread Cert.ReferenceDuIdeal.nD Cert.ReferenceDuIdeal.τ).loc Cert.ReferenceDuIdeal.main_arg3)
      ∧ r.2.mem ((c.tc : Thread Cert.ReferenceDuIdeal.nD Cert.ReferenceDuIdeal.τ).loc Cert.ReferenceDuIdeal.main_arg4) = m ((c.tc : Thread Cert.ReferenceDuIdeal.nD Cert.ReferenceDuIdeal.τ).loc Cert.ReferenceDuIdeal.main_arg4)
      ∧ r.2.mem ((c.tc : Thread Cert.ReferenceDuIdeal.nD Cert.ReferenceDuIdeal.τ).loc Cert.ReferenceDuIdeal.main_arg5) = m ((c.tc : Thread Cert.ReferenceDuIdeal.nD Cert.ReferenceDuIdeal.τ).loc Cert.ReferenceDuIdeal.main_arg5)
      ∧ r.2.mem ((c.tc : Thread Cert.ReferenceDuIdeal.nD Cert.ReferenceDuIdeal.τ).loc Cert.ReferenceDuIdeal.main_arg6) = m ((c.tc : Thread Cert.ReferenceDuIdeal.nD Cert.ReferenceDuIdeal.τ).loc Cert.ReferenceDuIdeal.main_arg6)
      ∧ r.2.mem ((c.tc : Thread Cert.ReferenceDuIdeal.nD Cert.ReferenceDuIdeal.τ).loc Cert.ReferenceDuIdeal.main_arg7) = m ((c.tc : Thread Cert.ReferenceDuIdeal.nD Cert.ReferenceDuIdeal.τ).loc Cert.ReferenceDuIdeal.main_arg7)
      ∧ r.2.mem ((c.tc : Thread Cert.ReferenceDuIdeal.nD Cert.ReferenceDuIdeal.τ).loc Cert.ReferenceDuIdeal.main_arg8) = m ((c.tc : Thread Cert.ReferenceDuIdeal.nD Cert.ReferenceDuIdeal.τ).loc Cert.ReferenceDuIdeal.main_arg8))
      ∧ r.2.sem = fun _ => 0)

def quiescent_KernelGates [hKernelGates : Cert.KernelGates.Facts] : Prop :=
  ∀ (m : (ℓ : Loc Cert.KernelGates.nD Cert.KernelGates.τ Cert.KernelGates.sig) → Buf (Elt Bits) ℓ) (g : Dev Cert.KernelGates.nD → PrngReg), Pre_KernelGates m →
    θ_run (Cert.KernelGates.defs (F := Bits)) (onTc (τ := Cert.KernelGates.τ) (Cert.KernelGates.main (F := Bits))) ⟨m, fun _ => 0, g⟩ (fun r => (∀ c : Dev Cert.KernelGates.nD,
      r.2.mem ((c.tc : Thread Cert.KernelGates.nD Cert.KernelGates.τ).loc Cert.KernelGates.main_arg0) = m ((c.tc : Thread Cert.KernelGates.nD Cert.KernelGates.τ).loc Cert.KernelGates.main_arg0)
      ∧ r.2.mem ((c.tc : Thread Cert.KernelGates.nD Cert.KernelGates.τ).loc Cert.KernelGates.main_arg1) = m ((c.tc : Thread Cert.KernelGates.nD Cert.KernelGates.τ).loc Cert.KernelGates.main_arg1))
      ∧ r.2.sem = fun _ => 0)

def quiescent_KernelGatesIdeal [hKernelGatesIdeal : Cert.KernelGatesIdeal.Facts] : Prop :=
  ∀ (m : (ℓ : Loc Cert.KernelGatesIdeal.nD Cert.KernelGatesIdeal.τ Cert.KernelGatesIdeal.sig) → Buf (Elt Ideal) ℓ) (g : Dev Cert.KernelGatesIdeal.nD → PrngReg), Pre_KernelGatesIdeal m →
    θ_run (Cert.KernelGatesIdeal.defs (F := Ideal)) (onTc (τ := Cert.KernelGatesIdeal.τ) (Cert.KernelGatesIdeal.main (F := Ideal))) ⟨m, fun _ => 0, g⟩ (fun r => (∀ c : Dev Cert.KernelGatesIdeal.nD,
      r.2.mem ((c.tc : Thread Cert.KernelGatesIdeal.nD Cert.KernelGatesIdeal.τ).loc Cert.KernelGatesIdeal.main_arg0) = m ((c.tc : Thread Cert.KernelGatesIdeal.nD Cert.KernelGatesIdeal.τ).loc Cert.KernelGatesIdeal.main_arg0)
      ∧ r.2.mem ((c.tc : Thread Cert.KernelGatesIdeal.nD Cert.KernelGatesIdeal.τ).loc Cert.KernelGatesIdeal.main_arg1) = m ((c.tc : Thread Cert.KernelGatesIdeal.nD Cert.KernelGatesIdeal.τ).loc Cert.KernelGatesIdeal.main_arg1))
      ∧ r.2.sem = fun _ => 0)

def quiescent_ReferenceGatesIdeal [hReferenceGatesIdeal : Cert.ReferenceGatesIdeal.Facts] : Prop :=
  ∀ (m : (ℓ : Loc Cert.ReferenceGatesIdeal.nD Cert.ReferenceGatesIdeal.τ Cert.ReferenceGatesIdeal.sig) → Buf (Elt Ideal) ℓ) (g : Dev Cert.ReferenceGatesIdeal.nD → PrngReg), Pre_ReferenceGatesIdeal m →
    θ_run (Cert.ReferenceGatesIdeal.defs (F := Ideal)) (onTc (τ := Cert.ReferenceGatesIdeal.τ) (Cert.ReferenceGatesIdeal.main (F := Ideal))) ⟨m, fun _ => 0, g⟩ (fun r => (∀ c : Dev Cert.ReferenceGatesIdeal.nD,
      r.2.mem ((c.tc : Thread Cert.ReferenceGatesIdeal.nD Cert.ReferenceGatesIdeal.τ).loc Cert.ReferenceGatesIdeal.main_arg0) = m ((c.tc : Thread Cert.ReferenceGatesIdeal.nD Cert.ReferenceGatesIdeal.τ).loc Cert.ReferenceGatesIdeal.main_arg0)
      ∧ r.2.mem ((c.tc : Thread Cert.ReferenceGatesIdeal.nD Cert.ReferenceGatesIdeal.τ).loc Cert.ReferenceGatesIdeal.main_arg1) = m ((c.tc : Thread Cert.ReferenceGatesIdeal.nD Cert.ReferenceGatesIdeal.τ).loc Cert.ReferenceGatesIdeal.main_arg1))
      ∧ r.2.sem = fun _ => 0)

def quiescent_KernelPa [hKernelPa : Cert.KernelPa.Facts] : Prop :=
  ∀ (m : (ℓ : Loc Cert.KernelPa.nD Cert.KernelPa.τ Cert.KernelPa.sig) → Buf (Elt Bits) ℓ) (g : Dev Cert.KernelPa.nD → PrngReg), Pre_KernelPa m →
    θ_run (Cert.KernelPa.defs (F := Bits)) (onTc (τ := Cert.KernelPa.τ) (Cert.KernelPa.main (F := Bits))) ⟨m, fun _ => 0, g⟩ (fun r => (∀ c : Dev Cert.KernelPa.nD,
      r.2.mem ((c.tc : Thread Cert.KernelPa.nD Cert.KernelPa.τ).loc Cert.KernelPa.main_arg0) = m ((c.tc : Thread Cert.KernelPa.nD Cert.KernelPa.τ).loc Cert.KernelPa.main_arg0)
      ∧ r.2.mem ((c.tc : Thread Cert.KernelPa.nD Cert.KernelPa.τ).loc Cert.KernelPa.main_arg1) = m ((c.tc : Thread Cert.KernelPa.nD Cert.KernelPa.τ).loc Cert.KernelPa.main_arg1))
      ∧ r.2.sem = fun _ => 0)

def quiescent_KernelPaIdeal [hKernelPaIdeal : Cert.KernelPaIdeal.Facts] : Prop :=
  ∀ (m : (ℓ : Loc Cert.KernelPaIdeal.nD Cert.KernelPaIdeal.τ Cert.KernelPaIdeal.sig) → Buf (Elt Ideal) ℓ) (g : Dev Cert.KernelPaIdeal.nD → PrngReg), Pre_KernelPaIdeal m →
    θ_run (Cert.KernelPaIdeal.defs (F := Ideal)) (onTc (τ := Cert.KernelPaIdeal.τ) (Cert.KernelPaIdeal.main (F := Ideal))) ⟨m, fun _ => 0, g⟩ (fun r => (∀ c : Dev Cert.KernelPaIdeal.nD,
      r.2.mem ((c.tc : Thread Cert.KernelPaIdeal.nD Cert.KernelPaIdeal.τ).loc Cert.KernelPaIdeal.main_arg0) = m ((c.tc : Thread Cert.KernelPaIdeal.nD Cert.KernelPaIdeal.τ).loc Cert.KernelPaIdeal.main_arg0)
      ∧ r.2.mem ((c.tc : Thread Cert.KernelPaIdeal.nD Cert.KernelPaIdeal.τ).loc Cert.KernelPaIdeal.main_arg1) = m ((c.tc : Thread Cert.KernelPaIdeal.nD Cert.KernelPaIdeal.τ).loc Cert.KernelPaIdeal.main_arg1))
      ∧ r.2.sem = fun _ => 0)

def quiescent_ReferencePaIdeal [hReferencePaIdeal : Cert.ReferencePaIdeal.Facts] : Prop :=
  ∀ (m : (ℓ : Loc Cert.ReferencePaIdeal.nD Cert.ReferencePaIdeal.τ Cert.ReferencePaIdeal.sig) → Buf (Elt Ideal) ℓ) (g : Dev Cert.ReferencePaIdeal.nD → PrngReg), Pre_ReferencePaIdeal m →
    θ_run (Cert.ReferencePaIdeal.defs (F := Ideal)) (onTc (τ := Cert.ReferencePaIdeal.τ) (Cert.ReferencePaIdeal.main (F := Ideal))) ⟨m, fun _ => 0, g⟩ (fun r => (∀ c : Dev Cert.ReferencePaIdeal.nD,
      r.2.mem ((c.tc : Thread Cert.ReferencePaIdeal.nD Cert.ReferencePaIdeal.τ).loc Cert.ReferencePaIdeal.main_arg0) = m ((c.tc : Thread Cert.ReferencePaIdeal.nD Cert.ReferencePaIdeal.τ).loc Cert.ReferencePaIdeal.main_arg0)
      ∧ r.2.mem ((c.tc : Thread Cert.ReferencePaIdeal.nD Cert.ReferencePaIdeal.τ).loc Cert.ReferencePaIdeal.main_arg1) = m ((c.tc : Thread Cert.ReferencePaIdeal.nD Cert.ReferencePaIdeal.τ).loc Cert.ReferencePaIdeal.main_arg1))
      ∧ r.2.sem = fun _ => 0)

def quiescent_KernelZ [hKernelZ : Cert.KernelZ.Facts] : Prop :=
  ∀ (m : (ℓ : Loc Cert.KernelZ.nD Cert.KernelZ.τ Cert.KernelZ.sig) → Buf (Elt Bits) ℓ) (g : Dev Cert.KernelZ.nD → PrngReg), Pre_KernelZ m →
    θ_run (Cert.KernelZ.defs (F := Bits)) (onTc (τ := Cert.KernelZ.τ) (Cert.KernelZ.main (F := Bits))) ⟨m, fun _ => 0, g⟩ (fun r => (∀ c : Dev Cert.KernelZ.nD,
      r.2.mem ((c.tc : Thread Cert.KernelZ.nD Cert.KernelZ.τ).loc Cert.KernelZ.main_arg0) = m ((c.tc : Thread Cert.KernelZ.nD Cert.KernelZ.τ).loc Cert.KernelZ.main_arg0)
      ∧ r.2.mem ((c.tc : Thread Cert.KernelZ.nD Cert.KernelZ.τ).loc Cert.KernelZ.main_arg1) = m ((c.tc : Thread Cert.KernelZ.nD Cert.KernelZ.τ).loc Cert.KernelZ.main_arg1))
      ∧ r.2.sem = fun _ => 0)

def quiescent_KernelZIdeal [hKernelZIdeal : Cert.KernelZIdeal.Facts] : Prop :=
  ∀ (m : (ℓ : Loc Cert.KernelZIdeal.nD Cert.KernelZIdeal.τ Cert.KernelZIdeal.sig) → Buf (Elt Ideal) ℓ) (g : Dev Cert.KernelZIdeal.nD → PrngReg), Pre_KernelZIdeal m →
    θ_run (Cert.KernelZIdeal.defs (F := Ideal)) (onTc (τ := Cert.KernelZIdeal.τ) (Cert.KernelZIdeal.main (F := Ideal))) ⟨m, fun _ => 0, g⟩ (fun r => (∀ c : Dev Cert.KernelZIdeal.nD,
      r.2.mem ((c.tc : Thread Cert.KernelZIdeal.nD Cert.KernelZIdeal.τ).loc Cert.KernelZIdeal.main_arg0) = m ((c.tc : Thread Cert.KernelZIdeal.nD Cert.KernelZIdeal.τ).loc Cert.KernelZIdeal.main_arg0)
      ∧ r.2.mem ((c.tc : Thread Cert.KernelZIdeal.nD Cert.KernelZIdeal.τ).loc Cert.KernelZIdeal.main_arg1) = m ((c.tc : Thread Cert.KernelZIdeal.nD Cert.KernelZIdeal.τ).loc Cert.KernelZIdeal.main_arg1))
      ∧ r.2.sem = fun _ => 0)

def quiescent_ReferenceZIdeal [hReferenceZIdeal : Cert.ReferenceZIdeal.Facts] : Prop :=
  ∀ (m : (ℓ : Loc Cert.ReferenceZIdeal.nD Cert.ReferenceZIdeal.τ Cert.ReferenceZIdeal.sig) → Buf (Elt Ideal) ℓ) (g : Dev Cert.ReferenceZIdeal.nD → PrngReg), Pre_ReferenceZIdeal m →
    θ_run (Cert.ReferenceZIdeal.defs (F := Ideal)) (onTc (τ := Cert.ReferenceZIdeal.τ) (Cert.ReferenceZIdeal.main (F := Ideal))) ⟨m, fun _ => 0, g⟩ (fun r => (∀ c : Dev Cert.ReferenceZIdeal.nD,
      r.2.mem ((c.tc : Thread Cert.ReferenceZIdeal.nD Cert.ReferenceZIdeal.τ).loc Cert.ReferenceZIdeal.main_arg0) = m ((c.tc : Thread Cert.ReferenceZIdeal.nD Cert.ReferenceZIdeal.τ).loc Cert.ReferenceZIdeal.main_arg0)
      ∧ r.2.mem ((c.tc : Thread Cert.ReferenceZIdeal.nD Cert.ReferenceZIdeal.τ).loc Cert.ReferenceZIdeal.main_arg1) = m ((c.tc : Thread Cert.ReferenceZIdeal.nD Cert.ReferenceZIdeal.τ).loc Cert.ReferenceZIdeal.main_arg1))
      ∧ r.2.sem = fun _ => 0)

def quiescent_KernelXbc [hKernelXbc : Cert.KernelXbc.Facts] : Prop :=
  ∀ (m : (ℓ : Loc Cert.KernelXbc.nD Cert.KernelXbc.τ Cert.KernelXbc.sig) → Buf (Elt Bits) ℓ) (g : Dev Cert.KernelXbc.nD → PrngReg), Pre_KernelXbc m →
    θ_run (Cert.KernelXbc.defs (F := Bits)) (onTc (τ := Cert.KernelXbc.τ) (Cert.KernelXbc.main (F := Bits))) ⟨m, fun _ => 0, g⟩ (fun r => (∀ c : Dev Cert.KernelXbc.nD,
      r.2.mem ((c.tc : Thread Cert.KernelXbc.nD Cert.KernelXbc.τ).loc Cert.KernelXbc.main_arg0) = m ((c.tc : Thread Cert.KernelXbc.nD Cert.KernelXbc.τ).loc Cert.KernelXbc.main_arg0)
      ∧ r.2.mem ((c.tc : Thread Cert.KernelXbc.nD Cert.KernelXbc.τ).loc Cert.KernelXbc.main_arg1) = m ((c.tc : Thread Cert.KernelXbc.nD Cert.KernelXbc.τ).loc Cert.KernelXbc.main_arg1))
      ∧ r.2.sem = fun _ => 0)

def quiescent_KernelXbcIdeal [hKernelXbcIdeal : Cert.KernelXbcIdeal.Facts] : Prop :=
  ∀ (m : (ℓ : Loc Cert.KernelXbcIdeal.nD Cert.KernelXbcIdeal.τ Cert.KernelXbcIdeal.sig) → Buf (Elt Ideal) ℓ) (g : Dev Cert.KernelXbcIdeal.nD → PrngReg), Pre_KernelXbcIdeal m →
    θ_run (Cert.KernelXbcIdeal.defs (F := Ideal)) (onTc (τ := Cert.KernelXbcIdeal.τ) (Cert.KernelXbcIdeal.main (F := Ideal))) ⟨m, fun _ => 0, g⟩ (fun r => (∀ c : Dev Cert.KernelXbcIdeal.nD,
      r.2.mem ((c.tc : Thread Cert.KernelXbcIdeal.nD Cert.KernelXbcIdeal.τ).loc Cert.KernelXbcIdeal.main_arg0) = m ((c.tc : Thread Cert.KernelXbcIdeal.nD Cert.KernelXbcIdeal.τ).loc Cert.KernelXbcIdeal.main_arg0)
      ∧ r.2.mem ((c.tc : Thread Cert.KernelXbcIdeal.nD Cert.KernelXbcIdeal.τ).loc Cert.KernelXbcIdeal.main_arg1) = m ((c.tc : Thread Cert.KernelXbcIdeal.nD Cert.KernelXbcIdeal.τ).loc Cert.KernelXbcIdeal.main_arg1))
      ∧ r.2.sem = fun _ => 0)

def quiescent_ReferenceXbcIdeal [hReferenceXbcIdeal : Cert.ReferenceXbcIdeal.Facts] : Prop :=
  ∀ (m : (ℓ : Loc Cert.ReferenceXbcIdeal.nD Cert.ReferenceXbcIdeal.τ Cert.ReferenceXbcIdeal.sig) → Buf (Elt Ideal) ℓ) (g : Dev Cert.ReferenceXbcIdeal.nD → PrngReg), Pre_ReferenceXbcIdeal m →
    θ_run (Cert.ReferenceXbcIdeal.defs (F := Ideal)) (onTc (τ := Cert.ReferenceXbcIdeal.τ) (Cert.ReferenceXbcIdeal.main (F := Ideal))) ⟨m, fun _ => 0, g⟩ (fun r => (∀ c : Dev Cert.ReferenceXbcIdeal.nD,
      r.2.mem ((c.tc : Thread Cert.ReferenceXbcIdeal.nD Cert.ReferenceXbcIdeal.τ).loc Cert.ReferenceXbcIdeal.main_arg0) = m ((c.tc : Thread Cert.ReferenceXbcIdeal.nD Cert.ReferenceXbcIdeal.τ).loc Cert.ReferenceXbcIdeal.main_arg0)
      ∧ r.2.mem ((c.tc : Thread Cert.ReferenceXbcIdeal.nD Cert.ReferenceXbcIdeal.τ).loc Cert.ReferenceXbcIdeal.main_arg1) = m ((c.tc : Thread Cert.ReferenceXbcIdeal.nD Cert.ReferenceXbcIdeal.τ).loc Cert.ReferenceXbcIdeal.main_arg1))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1))
      ∧ r.2.sem = fun _ => 0)

def quiescent_KernelO [hKernelO : Cert.KernelO.Facts] : Prop :=
  ∀ (m : (ℓ : Loc Cert.KernelO.nD Cert.KernelO.τ Cert.KernelO.sig) → Buf (Elt Bits) ℓ) (g : Dev Cert.KernelO.nD → PrngReg), Pre_KernelO m →
    θ_run (Cert.KernelO.defs (F := Bits)) (onTc (τ := Cert.KernelO.τ) (Cert.KernelO.main (F := Bits))) ⟨m, fun _ => 0, g⟩ (fun r => (∀ c : Dev Cert.KernelO.nD,
      r.2.mem ((c.tc : Thread Cert.KernelO.nD Cert.KernelO.τ).loc Cert.KernelO.main_arg0) = m ((c.tc : Thread Cert.KernelO.nD Cert.KernelO.τ).loc Cert.KernelO.main_arg0)
      ∧ r.2.mem ((c.tc : Thread Cert.KernelO.nD Cert.KernelO.τ).loc Cert.KernelO.main_arg1) = m ((c.tc : Thread Cert.KernelO.nD Cert.KernelO.τ).loc Cert.KernelO.main_arg1))
      ∧ r.2.sem = fun _ => 0)

def quiescent_KernelOIdeal [hKernelOIdeal : Cert.KernelOIdeal.Facts] : Prop :=
  ∀ (m : (ℓ : Loc Cert.KernelOIdeal.nD Cert.KernelOIdeal.τ Cert.KernelOIdeal.sig) → Buf (Elt Ideal) ℓ) (g : Dev Cert.KernelOIdeal.nD → PrngReg), Pre_KernelOIdeal m →
    θ_run (Cert.KernelOIdeal.defs (F := Ideal)) (onTc (τ := Cert.KernelOIdeal.τ) (Cert.KernelOIdeal.main (F := Ideal))) ⟨m, fun _ => 0, g⟩ (fun r => (∀ c : Dev Cert.KernelOIdeal.nD,
      r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0)
      ∧ r.2.mem ((c.tc : Thread Cert.KernelOIdeal.nD Cert.KernelOIdeal.τ).loc Cert.KernelOIdeal.main_arg1) = m ((c.tc : Thread Cert.KernelOIdeal.nD Cert.KernelOIdeal.τ).loc Cert.KernelOIdeal.main_arg1))
      ∧ r.2.sem = fun _ => 0)

def quiescent_ReferenceOIdeal [hReferenceOIdeal : Cert.ReferenceOIdeal.Facts] : Prop :=
  ∀ (m : (ℓ : Loc Cert.ReferenceOIdeal.nD Cert.ReferenceOIdeal.τ Cert.ReferenceOIdeal.sig) → Buf (Elt Ideal) ℓ) (g : Dev Cert.ReferenceOIdeal.nD → PrngReg), Pre_ReferenceOIdeal m →
    θ_run (Cert.ReferenceOIdeal.defs (F := Ideal)) (onTc (τ := Cert.ReferenceOIdeal.τ) (Cert.ReferenceOIdeal.main (F := Ideal))) ⟨m, fun _ => 0, g⟩ (fun r => (∀ c : Dev Cert.ReferenceOIdeal.nD,
      r.2.mem ((c.tc : Thread Cert.ReferenceOIdeal.nD Cert.ReferenceOIdeal.τ).loc Cert.ReferenceOIdeal.main_arg0) = m ((c.tc : Thread Cert.ReferenceOIdeal.nD Cert.ReferenceOIdeal.τ).loc Cert.ReferenceOIdeal.main_arg0)
      ∧ r.2.mem ((c.tc : Thread Cert.ReferenceOIdeal.nD Cert.ReferenceOIdeal.τ).loc Cert.ReferenceOIdeal.main_arg1) = m ((c.tc : Thread Cert.ReferenceOIdeal.nD Cert.ReferenceOIdeal.τ).loc Cert.ReferenceOIdeal.main_arg1))
      ∧ r.2.sem = fun _ => 0)

def quiescent_KernelS [hKernelS : Cert.KernelS.Facts] : Prop :=
  ∀ (m : (ℓ : Loc Cert.KernelS.nD Cert.KernelS.τ Cert.KernelS.sig) → Buf (Elt Bits) ℓ) (g : Dev Cert.KernelS.nD → PrngReg), Pre_KernelS m →
    θ_run (Cert.KernelS.defs (F := Bits)) (onTc (τ := Cert.KernelS.τ) (Cert.KernelS.main (F := Bits))) ⟨m, fun _ => 0, g⟩ (fun r => (∀ c : Dev Cert.KernelS.nD,
      r.2.mem ((c.tc : Thread Cert.KernelS.nD Cert.KernelS.τ).loc Cert.KernelS.main_arg0) = m ((c.tc : Thread Cert.KernelS.nD Cert.KernelS.τ).loc Cert.KernelS.main_arg0)
      ∧ r.2.mem ((c.tc : Thread Cert.KernelS.nD Cert.KernelS.τ).loc Cert.KernelS.main_arg1) = m ((c.tc : Thread Cert.KernelS.nD Cert.KernelS.τ).loc Cert.KernelS.main_arg1))
      ∧ r.2.sem = fun _ => 0)

def quiescent_KernelSIdeal [hKernelSIdeal : Cert.KernelSIdeal.Facts] : Prop :=
  ∀ (m : (ℓ : Loc Cert.KernelSIdeal.nD Cert.KernelSIdeal.τ Cert.KernelSIdeal.sig) → Buf (Elt Ideal) ℓ) (g : Dev Cert.KernelSIdeal.nD → PrngReg), Pre_KernelSIdeal m →
    θ_run (Cert.KernelSIdeal.defs (F := Ideal)) (onTc (τ := Cert.KernelSIdeal.τ) (Cert.KernelSIdeal.main (F := Ideal))) ⟨m, fun _ => 0, g⟩ (fun r => (∀ c : Dev Cert.KernelSIdeal.nD,
      r.2.mem ((c.tc : Thread Cert.KernelSIdeal.nD Cert.KernelSIdeal.τ).loc Cert.KernelSIdeal.main_arg0) = m ((c.tc : Thread Cert.KernelSIdeal.nD Cert.KernelSIdeal.τ).loc Cert.KernelSIdeal.main_arg0)
      ∧ r.2.mem ((c.tc : Thread Cert.KernelSIdeal.nD Cert.KernelSIdeal.τ).loc Cert.KernelSIdeal.main_arg1) = m ((c.tc : Thread Cert.KernelSIdeal.nD Cert.KernelSIdeal.τ).loc Cert.KernelSIdeal.main_arg1))
      ∧ r.2.sem = fun _ => 0)

def quiescent_ReferenceSIdeal [hReferenceSIdeal : Cert.ReferenceSIdeal.Facts] : Prop :=
  ∀ (m : (ℓ : Loc Cert.ReferenceSIdeal.nD Cert.ReferenceSIdeal.τ Cert.ReferenceSIdeal.sig) → Buf (Elt Ideal) ℓ) (g : Dev Cert.ReferenceSIdeal.nD → PrngReg), Pre_ReferenceSIdeal m →
    θ_run (Cert.ReferenceSIdeal.defs (F := Ideal)) (onTc (τ := Cert.ReferenceSIdeal.τ) (Cert.ReferenceSIdeal.main (F := Ideal))) ⟨m, fun _ => 0, g⟩ (fun r => (∀ c : Dev Cert.ReferenceSIdeal.nD,
      r.2.mem ((c.tc : Thread Cert.ReferenceSIdeal.nD Cert.ReferenceSIdeal.τ).loc Cert.ReferenceSIdeal.main_arg0) = m ((c.tc : Thread Cert.ReferenceSIdeal.nD Cert.ReferenceSIdeal.τ).loc Cert.ReferenceSIdeal.main_arg0)
      ∧ r.2.mem ((c.tc : Thread Cert.ReferenceSIdeal.nD Cert.ReferenceSIdeal.τ).loc Cert.ReferenceSIdeal.main_arg1) = m ((c.tc : Thread Cert.ReferenceSIdeal.nD Cert.ReferenceSIdeal.τ).loc Cert.ReferenceSIdeal.main_arg1))
      ∧ r.2.sem = fun _ => 0)

def quiescent_KernelDm [hKernelDm : Cert.KernelDm.Facts] : Prop :=
  ∀ (m : (ℓ : Loc Cert.KernelDm.nD Cert.KernelDm.τ Cert.KernelDm.sig) → Buf (Elt Bits) ℓ) (g : Dev Cert.KernelDm.nD → PrngReg), Pre_KernelDm m →
    θ_run (Cert.KernelDm.defs (F := Bits)) (onTc (τ := Cert.KernelDm.τ) (Cert.KernelDm.main (F := Bits))) ⟨m, fun _ => 0, g⟩ (fun r => (∀ c : Dev Cert.KernelDm.nD,
      r.2.mem ((c.tc : Thread Cert.KernelDm.nD Cert.KernelDm.τ).loc Cert.KernelDm.main_arg0) = m ((c.tc : Thread Cert.KernelDm.nD Cert.KernelDm.τ).loc Cert.KernelDm.main_arg0)
      ∧ r.2.mem ((c.tc : Thread Cert.KernelDm.nD Cert.KernelDm.τ).loc Cert.KernelDm.main_arg1) = m ((c.tc : Thread Cert.KernelDm.nD Cert.KernelDm.τ).loc Cert.KernelDm.main_arg1))
      ∧ r.2.sem = fun _ => 0)

def quiescent_KernelDmIdeal [hKernelDmIdeal : Cert.KernelDmIdeal.Facts] : Prop :=
  ∀ (m : (ℓ : Loc Cert.KernelDmIdeal.nD Cert.KernelDmIdeal.τ Cert.KernelDmIdeal.sig) → Buf (Elt Ideal) ℓ) (g : Dev Cert.KernelDmIdeal.nD → PrngReg), Pre_KernelDmIdeal m →
    θ_run (Cert.KernelDmIdeal.defs (F := Ideal)) (onTc (τ := Cert.KernelDmIdeal.τ) (Cert.KernelDmIdeal.main (F := Ideal))) ⟨m, fun _ => 0, g⟩ (fun r => (∀ c : Dev Cert.KernelDmIdeal.nD,
      r.2.mem ((c.tc : Thread Cert.KernelDmIdeal.nD Cert.KernelDmIdeal.τ).loc Cert.KernelDmIdeal.main_arg0) = m ((c.tc : Thread Cert.KernelDmIdeal.nD Cert.KernelDmIdeal.τ).loc Cert.KernelDmIdeal.main_arg0)
      ∧ r.2.mem ((c.tc : Thread Cert.KernelDmIdeal.nD Cert.KernelDmIdeal.τ).loc Cert.KernelDmIdeal.main_arg1) = m ((c.tc : Thread Cert.KernelDmIdeal.nD Cert.KernelDmIdeal.τ).loc Cert.KernelDmIdeal.main_arg1))
      ∧ r.2.sem = fun _ => 0)

def quiescent_ReferenceDmIdeal [hReferenceDmIdeal : Cert.ReferenceDmIdeal.Facts] : Prop :=
  ∀ (m : (ℓ : Loc Cert.ReferenceDmIdeal.nD Cert.ReferenceDmIdeal.τ Cert.ReferenceDmIdeal.sig) → Buf (Elt Ideal) ℓ) (g : Dev Cert.ReferenceDmIdeal.nD → PrngReg), Pre_ReferenceDmIdeal m →
    θ_run (Cert.ReferenceDmIdeal.defs (F := Ideal)) (onTc (τ := Cert.ReferenceDmIdeal.τ) (Cert.ReferenceDmIdeal.main (F := Ideal))) ⟨m, fun _ => 0, g⟩ (fun r => (∀ c : Dev Cert.ReferenceDmIdeal.nD,
      r.2.mem ((c.tc : Thread Cert.ReferenceDmIdeal.nD Cert.ReferenceDmIdeal.τ).loc Cert.ReferenceDmIdeal.main_arg0) = m ((c.tc : Thread Cert.ReferenceDmIdeal.nD Cert.ReferenceDmIdeal.τ).loc Cert.ReferenceDmIdeal.main_arg0)
      ∧ r.2.mem ((c.tc : Thread Cert.ReferenceDmIdeal.nD Cert.ReferenceDmIdeal.τ).loc Cert.ReferenceDmIdeal.main_arg1) = m ((c.tc : Thread Cert.ReferenceDmIdeal.nD Cert.ReferenceDmIdeal.τ).loc Cert.ReferenceDmIdeal.main_arg1))
      ∧ r.2.sem = fun _ => 0)

def quiescent_KernelDyn [hKernelDyn : Cert.KernelDyn.Facts] : Prop :=
  ∀ (m : (ℓ : Loc Cert.KernelDyn.nD Cert.KernelDyn.τ Cert.KernelDyn.sig) → Buf (Elt Bits) ℓ) (g : Dev Cert.KernelDyn.nD → PrngReg), Pre_KernelDyn m →
    θ_run (Cert.KernelDyn.defs (F := Bits)) (onTc (τ := Cert.KernelDyn.τ) (Cert.KernelDyn.main (F := Bits))) ⟨m, fun _ => 0, g⟩ (fun r => (∀ c : Dev Cert.KernelDyn.nD,
      r.2.mem ((c.tc : Thread Cert.KernelDyn.nD Cert.KernelDyn.τ).loc Cert.KernelDyn.main_arg0) = m ((c.tc : Thread Cert.KernelDyn.nD Cert.KernelDyn.τ).loc Cert.KernelDyn.main_arg0)
      ∧ r.2.mem ((c.tc : Thread Cert.KernelDyn.nD Cert.KernelDyn.τ).loc Cert.KernelDyn.main_arg1) = m ((c.tc : Thread Cert.KernelDyn.nD Cert.KernelDyn.τ).loc Cert.KernelDyn.main_arg1))
      ∧ r.2.sem = fun _ => 0)

def quiescent_KernelDynIdeal [hKernelDynIdeal : Cert.KernelDynIdeal.Facts] : Prop :=
  ∀ (m : (ℓ : Loc Cert.KernelDynIdeal.nD Cert.KernelDynIdeal.τ Cert.KernelDynIdeal.sig) → Buf (Elt Ideal) ℓ) (g : Dev Cert.KernelDynIdeal.nD → PrngReg), Pre_KernelDynIdeal m →
    θ_run (Cert.KernelDynIdeal.defs (F := Ideal)) (onTc (τ := Cert.KernelDynIdeal.τ) (Cert.KernelDynIdeal.main (F := Ideal))) ⟨m, fun _ => 0, g⟩ (fun r => (∀ c : Dev Cert.KernelDynIdeal.nD,
      r.2.mem ((c.tc : Thread Cert.KernelDynIdeal.nD Cert.KernelDynIdeal.τ).loc Cert.KernelDynIdeal.main_arg0) = m ((c.tc : Thread Cert.KernelDynIdeal.nD Cert.KernelDynIdeal.τ).loc Cert.KernelDynIdeal.main_arg0)
      ∧ r.2.mem ((c.tc : Thread Cert.KernelDynIdeal.nD Cert.KernelDynIdeal.τ).loc Cert.KernelDynIdeal.main_arg1) = m ((c.tc : Thread Cert.KernelDynIdeal.nD Cert.KernelDynIdeal.τ).loc Cert.KernelDynIdeal.main_arg1))
      ∧ r.2.sem = fun _ => 0)

def quiescent_ReferenceDynIdeal [hReferenceDynIdeal : Cert.ReferenceDynIdeal.Facts] : Prop :=
  ∀ (m : (ℓ : Loc Cert.ReferenceDynIdeal.nD Cert.ReferenceDynIdeal.τ Cert.ReferenceDynIdeal.sig) → Buf (Elt Ideal) ℓ) (g : Dev Cert.ReferenceDynIdeal.nD → PrngReg), Pre_ReferenceDynIdeal m →
    θ_run (Cert.ReferenceDynIdeal.defs (F := Ideal)) (onTc (τ := Cert.ReferenceDynIdeal.τ) (Cert.ReferenceDynIdeal.main (F := Ideal))) ⟨m, fun _ => 0, g⟩ (fun r => (∀ c : Dev Cert.ReferenceDynIdeal.nD,
      r.2.mem ((c.tc : Thread Cert.ReferenceDynIdeal.nD Cert.ReferenceDynIdeal.τ).loc Cert.ReferenceDynIdeal.main_arg0) = m ((c.tc : Thread Cert.ReferenceDynIdeal.nD Cert.ReferenceDynIdeal.τ).loc Cert.ReferenceDynIdeal.main_arg0)
      ∧ r.2.mem ((c.tc : Thread Cert.ReferenceDynIdeal.nD Cert.ReferenceDynIdeal.τ).loc Cert.ReferenceDynIdeal.main_arg1) = m ((c.tc : Thread Cert.ReferenceDynIdeal.nD Cert.ReferenceDynIdeal.τ).loc Cert.ReferenceDynIdeal.main_arg1))
      ∧ r.2.sem = fun _ => 0)

def quiescent_KernelAdamH [hKernelAdamH : Cert.KernelAdamH.Facts] : Prop :=
  ∀ (m : (ℓ : Loc Cert.KernelAdamH.nD Cert.KernelAdamH.τ Cert.KernelAdamH.sig) → Buf (Elt Bits) ℓ) (g : Dev Cert.KernelAdamH.nD → PrngReg), Pre_KernelAdamH m →
    θ_run (Cert.KernelAdamH.defs (F := Bits)) (onTc (τ := Cert.KernelAdamH.τ) (Cert.KernelAdamH.main (F := Bits))) ⟨m, fun _ => 0, g⟩ (fun r => (∀ c : Dev Cert.KernelAdamH.nD,
      r.2.mem ((c.tc : Thread Cert.KernelAdamH.nD Cert.KernelAdamH.τ).loc Cert.KernelAdamH.main_arg0) = m ((c.tc : Thread Cert.KernelAdamH.nD Cert.KernelAdamH.τ).loc Cert.KernelAdamH.main_arg0)
      ∧ r.2.mem ((c.tc : Thread Cert.KernelAdamH.nD Cert.KernelAdamH.τ).loc Cert.KernelAdamH.main_arg1) = m ((c.tc : Thread Cert.KernelAdamH.nD Cert.KernelAdamH.τ).loc Cert.KernelAdamH.main_arg1)
      ∧ r.2.mem ((c.tc : Thread Cert.KernelAdamH.nD Cert.KernelAdamH.τ).loc Cert.KernelAdamH.main_arg2) = m ((c.tc : Thread Cert.KernelAdamH.nD Cert.KernelAdamH.τ).loc Cert.KernelAdamH.main_arg2)
      ∧ r.2.mem ((c.tc : Thread Cert.KernelAdamH.nD Cert.KernelAdamH.τ).loc Cert.KernelAdamH.main_arg3) = m ((c.tc : Thread Cert.KernelAdamH.nD Cert.KernelAdamH.τ).loc Cert.KernelAdamH.main_arg3))
      ∧ r.2.sem = fun _ => 0)

def quiescent_KernelAdamHIdeal [hKernelAdamHIdeal : Cert.KernelAdamHIdeal.Facts] : Prop :=
  ∀ (m : (ℓ : Loc Cert.KernelAdamHIdeal.nD Cert.KernelAdamHIdeal.τ Cert.KernelAdamHIdeal.sig) → Buf (Elt Ideal) ℓ) (g : Dev Cert.KernelAdamHIdeal.nD → PrngReg), Pre_KernelAdamHIdeal m →
    θ_run (Cert.KernelAdamHIdeal.defs (F := Ideal)) (onTc (τ := Cert.KernelAdamHIdeal.τ) (Cert.KernelAdamHIdeal.main (F := Ideal))) ⟨m, fun _ => 0, g⟩ (fun r => (∀ c : Dev Cert.KernelAdamHIdeal.nD,
      r.2.mem ((c.tc : Thread Cert.KernelAdamHIdeal.nD Cert.KernelAdamHIdeal.τ).loc Cert.KernelAdamHIdeal.main_arg0) = m ((c.tc : Thread Cert.KernelAdamHIdeal.nD Cert.KernelAdamHIdeal.τ).loc Cert.KernelAdamHIdeal.main_arg0)
      ∧ r.2.mem ((c.tc : Thread Cert.KernelAdamHIdeal.nD Cert.KernelAdamHIdeal.τ).loc Cert.KernelAdamHIdeal.main_arg1) = m ((c.tc : Thread Cert.KernelAdamHIdeal.nD Cert.KernelAdamHIdeal.τ).loc Cert.KernelAdamHIdeal.main_arg1)
      ∧ r.2.mem ((c.tc : Thread Cert.KernelAdamHIdeal.nD Cert.KernelAdamHIdeal.τ).loc Cert.KernelAdamHIdeal.main_arg2) = m ((c.tc : Thread Cert.KernelAdamHIdeal.nD Cert.KernelAdamHIdeal.τ).loc Cert.KernelAdamHIdeal.main_arg2)
      ∧ r.2.mem ((c.tc : Thread Cert.KernelAdamHIdeal.nD Cert.KernelAdamHIdeal.τ).loc Cert.KernelAdamHIdeal.main_arg3) = m ((c.tc : Thread Cert.KernelAdamHIdeal.nD Cert.KernelAdamHIdeal.τ).loc Cert.KernelAdamHIdeal.main_arg3))
      ∧ r.2.sem = fun _ => 0)

def quiescent_ReferenceAdamHIdeal [hReferenceAdamHIdeal : Cert.ReferenceAdamHIdeal.Facts] : Prop :=
  ∀ (m : (ℓ : Loc Cert.ReferenceAdamHIdeal.nD Cert.ReferenceAdamHIdeal.τ Cert.ReferenceAdamHIdeal.sig) → Buf (Elt Ideal) ℓ) (g : Dev Cert.ReferenceAdamHIdeal.nD → PrngReg), Pre_ReferenceAdamHIdeal m →
    θ_run (Cert.ReferenceAdamHIdeal.defs (F := Ideal)) (onTc (τ := Cert.ReferenceAdamHIdeal.τ) (Cert.ReferenceAdamHIdeal.main (F := Ideal))) ⟨m, fun _ => 0, g⟩ (fun r => (∀ c : Dev Cert.ReferenceAdamHIdeal.nD,
      r.2.mem ((c.tc : Thread Cert.ReferenceAdamHIdeal.nD Cert.ReferenceAdamHIdeal.τ).loc Cert.ReferenceAdamHIdeal.main_arg0) = m ((c.tc : Thread Cert.ReferenceAdamHIdeal.nD Cert.ReferenceAdamHIdeal.τ).loc Cert.ReferenceAdamHIdeal.main_arg0)
      ∧ r.2.mem ((c.tc : Thread Cert.ReferenceAdamHIdeal.nD Cert.ReferenceAdamHIdeal.τ).loc Cert.ReferenceAdamHIdeal.main_arg1) = m ((c.tc : Thread Cert.ReferenceAdamHIdeal.nD Cert.ReferenceAdamHIdeal.τ).loc Cert.ReferenceAdamHIdeal.main_arg1)
      ∧ r.2.mem ((c.tc : Thread Cert.ReferenceAdamHIdeal.nD Cert.ReferenceAdamHIdeal.τ).loc Cert.ReferenceAdamHIdeal.main_arg2) = m ((c.tc : Thread Cert.ReferenceAdamHIdeal.nD Cert.ReferenceAdamHIdeal.τ).loc Cert.ReferenceAdamHIdeal.main_arg2)
      ∧ r.2.mem ((c.tc : Thread Cert.ReferenceAdamHIdeal.nD Cert.ReferenceAdamHIdeal.τ).loc Cert.ReferenceAdamHIdeal.main_arg3) = m ((c.tc : Thread Cert.ReferenceAdamHIdeal.nD Cert.ReferenceAdamHIdeal.τ).loc Cert.ReferenceAdamHIdeal.main_arg3))
      ∧ r.2.sem = fun _ => 0)

def quiescent_KernelAdamFb [hKernelAdamFb : Cert.KernelAdamFb.Facts] : Prop :=
  ∀ (m : (ℓ : Loc Cert.KernelAdamFb.nD Cert.KernelAdamFb.τ Cert.KernelAdamFb.sig) → Buf (Elt Bits) ℓ) (g : Dev Cert.KernelAdamFb.nD → PrngReg), Pre_KernelAdamFb m →
    θ_run (Cert.KernelAdamFb.defs (F := Bits)) (onTc (τ := Cert.KernelAdamFb.τ) (Cert.KernelAdamFb.main (F := Bits))) ⟨m, fun _ => 0, g⟩ (fun r => (∀ c : Dev Cert.KernelAdamFb.nD,
      r.2.mem ((c.tc : Thread Cert.KernelAdamFb.nD Cert.KernelAdamFb.τ).loc Cert.KernelAdamFb.main_arg0) = m ((c.tc : Thread Cert.KernelAdamFb.nD Cert.KernelAdamFb.τ).loc Cert.KernelAdamFb.main_arg0)
      ∧ r.2.mem ((c.tc : Thread Cert.KernelAdamFb.nD Cert.KernelAdamFb.τ).loc Cert.KernelAdamFb.main_arg1) = m ((c.tc : Thread Cert.KernelAdamFb.nD Cert.KernelAdamFb.τ).loc Cert.KernelAdamFb.main_arg1)
      ∧ r.2.mem ((c.tc : Thread Cert.KernelAdamFb.nD Cert.KernelAdamFb.τ).loc Cert.KernelAdamFb.main_arg2) = m ((c.tc : Thread Cert.KernelAdamFb.nD Cert.KernelAdamFb.τ).loc Cert.KernelAdamFb.main_arg2)
      ∧ r.2.mem ((c.tc : Thread Cert.KernelAdamFb.nD Cert.KernelAdamFb.τ).loc Cert.KernelAdamFb.main_arg3) = m ((c.tc : Thread Cert.KernelAdamFb.nD Cert.KernelAdamFb.τ).loc Cert.KernelAdamFb.main_arg3))
      ∧ r.2.sem = fun _ => 0)

def quiescent_KernelAdamFbIdeal [hKernelAdamFbIdeal : Cert.KernelAdamFbIdeal.Facts] : Prop :=
  ∀ (m : (ℓ : Loc Cert.KernelAdamFbIdeal.nD Cert.KernelAdamFbIdeal.τ Cert.KernelAdamFbIdeal.sig) → Buf (Elt Ideal) ℓ) (g : Dev Cert.KernelAdamFbIdeal.nD → PrngReg), Pre_KernelAdamFbIdeal m →
    θ_run (Cert.KernelAdamFbIdeal.defs (F := Ideal)) (onTc (τ := Cert.KernelAdamFbIdeal.τ) (Cert.KernelAdamFbIdeal.main (F := Ideal))) ⟨m, fun _ => 0, g⟩ (fun r => (∀ c : Dev Cert.KernelAdamFbIdeal.nD,
      r.2.mem ((c.tc : Thread Cert.KernelAdamFbIdeal.nD Cert.KernelAdamFbIdeal.τ).loc Cert.KernelAdamFbIdeal.main_arg0) = m ((c.tc : Thread Cert.KernelAdamFbIdeal.nD Cert.KernelAdamFbIdeal.τ).loc Cert.KernelAdamFbIdeal.main_arg0)
      ∧ r.2.mem ((c.tc : Thread Cert.KernelAdamFbIdeal.nD Cert.KernelAdamFbIdeal.τ).loc Cert.KernelAdamFbIdeal.main_arg1) = m ((c.tc : Thread Cert.KernelAdamFbIdeal.nD Cert.KernelAdamFbIdeal.τ).loc Cert.KernelAdamFbIdeal.main_arg1)
      ∧ r.2.mem ((c.tc : Thread Cert.KernelAdamFbIdeal.nD Cert.KernelAdamFbIdeal.τ).loc Cert.KernelAdamFbIdeal.main_arg2) = m ((c.tc : Thread Cert.KernelAdamFbIdeal.nD Cert.KernelAdamFbIdeal.τ).loc Cert.KernelAdamFbIdeal.main_arg2)
      ∧ r.2.mem ((c.tc : Thread Cert.KernelAdamFbIdeal.nD Cert.KernelAdamFbIdeal.τ).loc Cert.KernelAdamFbIdeal.main_arg3) = m ((c.tc : Thread Cert.KernelAdamFbIdeal.nD Cert.KernelAdamFbIdeal.τ).loc Cert.KernelAdamFbIdeal.main_arg3))
      ∧ r.2.sem = fun _ => 0)

def quiescent_ReferenceAdamFbIdeal [hReferenceAdamFbIdeal : Cert.ReferenceAdamFbIdeal.Facts] : Prop :=
  ∀ (m : (ℓ : Loc Cert.ReferenceAdamFbIdeal.nD Cert.ReferenceAdamFbIdeal.τ Cert.ReferenceAdamFbIdeal.sig) → Buf (Elt Ideal) ℓ) (g : Dev Cert.ReferenceAdamFbIdeal.nD → PrngReg), Pre_ReferenceAdamFbIdeal m →
    θ_run (Cert.ReferenceAdamFbIdeal.defs (F := Ideal)) (onTc (τ := Cert.ReferenceAdamFbIdeal.τ) (Cert.ReferenceAdamFbIdeal.main (F := Ideal))) ⟨m, fun _ => 0, g⟩ (fun r => (∀ c : Dev Cert.ReferenceAdamFbIdeal.nD,
      r.2.mem ((c.tc : Thread Cert.ReferenceAdamFbIdeal.nD Cert.ReferenceAdamFbIdeal.τ).loc Cert.ReferenceAdamFbIdeal.main_arg0) = m ((c.tc : Thread Cert.ReferenceAdamFbIdeal.nD Cert.ReferenceAdamFbIdeal.τ).loc Cert.ReferenceAdamFbIdeal.main_arg0)
      ∧ r.2.mem ((c.tc : Thread Cert.ReferenceAdamFbIdeal.nD Cert.ReferenceAdamFbIdeal.τ).loc Cert.ReferenceAdamFbIdeal.main_arg1) = m ((c.tc : Thread Cert.ReferenceAdamFbIdeal.nD Cert.ReferenceAdamFbIdeal.τ).loc Cert.ReferenceAdamFbIdeal.main_arg1)
      ∧ r.2.mem ((c.tc : Thread Cert.ReferenceAdamFbIdeal.nD Cert.ReferenceAdamFbIdeal.τ).loc Cert.ReferenceAdamFbIdeal.main_arg2) = m ((c.tc : Thread Cert.ReferenceAdamFbIdeal.nD Cert.ReferenceAdamFbIdeal.τ).loc Cert.ReferenceAdamFbIdeal.main_arg2)
      ∧ r.2.mem ((c.tc : Thread Cert.ReferenceAdamFbIdeal.nD Cert.ReferenceAdamFbIdeal.τ).loc Cert.ReferenceAdamFbIdeal.main_arg3) = m ((c.tc : Thread Cert.ReferenceAdamFbIdeal.nD Cert.ReferenceAdamFbIdeal.τ).loc Cert.ReferenceAdamFbIdeal.main_arg3))
      ∧ r.2.sem = fun _ => 0)

def quiescent_KernelAdamCa [hKernelAdamCa : Cert.KernelAdamCa.Facts] : Prop :=
  ∀ (m : (ℓ : Loc Cert.KernelAdamCa.nD Cert.KernelAdamCa.τ Cert.KernelAdamCa.sig) → Buf (Elt Bits) ℓ) (g : Dev Cert.KernelAdamCa.nD → PrngReg), Pre_KernelAdamCa m →
    θ_run (Cert.KernelAdamCa.defs (F := Bits)) (onTc (τ := Cert.KernelAdamCa.τ) (Cert.KernelAdamCa.main (F := Bits))) ⟨m, fun _ => 0, g⟩ (fun r => (∀ c : Dev Cert.KernelAdamCa.nD,
      r.2.mem ((c.tc : Thread Cert.KernelAdamCa.nD Cert.KernelAdamCa.τ).loc Cert.KernelAdamCa.main_arg0) = m ((c.tc : Thread Cert.KernelAdamCa.nD Cert.KernelAdamCa.τ).loc Cert.KernelAdamCa.main_arg0)
      ∧ r.2.mem ((c.tc : Thread Cert.KernelAdamCa.nD Cert.KernelAdamCa.τ).loc Cert.KernelAdamCa.main_arg1) = m ((c.tc : Thread Cert.KernelAdamCa.nD Cert.KernelAdamCa.τ).loc Cert.KernelAdamCa.main_arg1)
      ∧ r.2.mem ((c.tc : Thread Cert.KernelAdamCa.nD Cert.KernelAdamCa.τ).loc Cert.KernelAdamCa.main_arg2) = m ((c.tc : Thread Cert.KernelAdamCa.nD Cert.KernelAdamCa.τ).loc Cert.KernelAdamCa.main_arg2)
      ∧ r.2.mem ((c.tc : Thread Cert.KernelAdamCa.nD Cert.KernelAdamCa.τ).loc Cert.KernelAdamCa.main_arg3) = m ((c.tc : Thread Cert.KernelAdamCa.nD Cert.KernelAdamCa.τ).loc Cert.KernelAdamCa.main_arg3))
      ∧ r.2.sem = fun _ => 0)

def quiescent_KernelAdamCaIdeal [hKernelAdamCaIdeal : Cert.KernelAdamCaIdeal.Facts] : Prop :=
  ∀ (m : (ℓ : Loc Cert.KernelAdamCaIdeal.nD Cert.KernelAdamCaIdeal.τ Cert.KernelAdamCaIdeal.sig) → Buf (Elt Ideal) ℓ) (g : Dev Cert.KernelAdamCaIdeal.nD → PrngReg), Pre_KernelAdamCaIdeal m →
    θ_run (Cert.KernelAdamCaIdeal.defs (F := Ideal)) (onTc (τ := Cert.KernelAdamCaIdeal.τ) (Cert.KernelAdamCaIdeal.main (F := Ideal))) ⟨m, fun _ => 0, g⟩ (fun r => (∀ c : Dev Cert.KernelAdamCaIdeal.nD,
      r.2.mem ((c.tc : Thread Cert.KernelAdamCaIdeal.nD Cert.KernelAdamCaIdeal.τ).loc Cert.KernelAdamCaIdeal.main_arg0) = m ((c.tc : Thread Cert.KernelAdamCaIdeal.nD Cert.KernelAdamCaIdeal.τ).loc Cert.KernelAdamCaIdeal.main_arg0)
      ∧ r.2.mem ((c.tc : Thread Cert.KernelAdamCaIdeal.nD Cert.KernelAdamCaIdeal.τ).loc Cert.KernelAdamCaIdeal.main_arg1) = m ((c.tc : Thread Cert.KernelAdamCaIdeal.nD Cert.KernelAdamCaIdeal.τ).loc Cert.KernelAdamCaIdeal.main_arg1)
      ∧ r.2.mem ((c.tc : Thread Cert.KernelAdamCaIdeal.nD Cert.KernelAdamCaIdeal.τ).loc Cert.KernelAdamCaIdeal.main_arg2) = m ((c.tc : Thread Cert.KernelAdamCaIdeal.nD Cert.KernelAdamCaIdeal.τ).loc Cert.KernelAdamCaIdeal.main_arg2)
      ∧ r.2.mem ((c.tc : Thread Cert.KernelAdamCaIdeal.nD Cert.KernelAdamCaIdeal.τ).loc Cert.KernelAdamCaIdeal.main_arg3) = m ((c.tc : Thread Cert.KernelAdamCaIdeal.nD Cert.KernelAdamCaIdeal.τ).loc Cert.KernelAdamCaIdeal.main_arg3))
      ∧ r.2.sem = fun _ => 0)

def quiescent_ReferenceAdamCaIdeal [hReferenceAdamCaIdeal : Cert.ReferenceAdamCaIdeal.Facts] : Prop :=
  ∀ (m : (ℓ : Loc Cert.ReferenceAdamCaIdeal.nD Cert.ReferenceAdamCaIdeal.τ Cert.ReferenceAdamCaIdeal.sig) → Buf (Elt Ideal) ℓ) (g : Dev Cert.ReferenceAdamCaIdeal.nD → PrngReg), Pre_ReferenceAdamCaIdeal m →
    θ_run (Cert.ReferenceAdamCaIdeal.defs (F := Ideal)) (onTc (τ := Cert.ReferenceAdamCaIdeal.τ) (Cert.ReferenceAdamCaIdeal.main (F := Ideal))) ⟨m, fun _ => 0, g⟩ (fun r => (∀ c : Dev Cert.ReferenceAdamCaIdeal.nD,
      r.2.mem ((c.tc : Thread Cert.ReferenceAdamCaIdeal.nD Cert.ReferenceAdamCaIdeal.τ).loc Cert.ReferenceAdamCaIdeal.main_arg0) = m ((c.tc : Thread Cert.ReferenceAdamCaIdeal.nD Cert.ReferenceAdamCaIdeal.τ).loc Cert.ReferenceAdamCaIdeal.main_arg0)
      ∧ r.2.mem ((c.tc : Thread Cert.ReferenceAdamCaIdeal.nD Cert.ReferenceAdamCaIdeal.τ).loc Cert.ReferenceAdamCaIdeal.main_arg1) = m ((c.tc : Thread Cert.ReferenceAdamCaIdeal.nD Cert.ReferenceAdamCaIdeal.τ).loc Cert.ReferenceAdamCaIdeal.main_arg1)
      ∧ r.2.mem ((c.tc : Thread Cert.ReferenceAdamCaIdeal.nD Cert.ReferenceAdamCaIdeal.τ).loc Cert.ReferenceAdamCaIdeal.main_arg2) = m ((c.tc : Thread Cert.ReferenceAdamCaIdeal.nD Cert.ReferenceAdamCaIdeal.τ).loc Cert.ReferenceAdamCaIdeal.main_arg2)
      ∧ r.2.mem ((c.tc : Thread Cert.ReferenceAdamCaIdeal.nD Cert.ReferenceAdamCaIdeal.τ).loc Cert.ReferenceAdamCaIdeal.main_arg3) = m ((c.tc : Thread Cert.ReferenceAdamCaIdeal.nD Cert.ReferenceAdamCaIdeal.τ).loc Cert.ReferenceAdamCaIdeal.main_arg3))
      ∧ r.2.sem = fun _ => 0)

def quiescent_KernelAdamCs [hKernelAdamCs : Cert.KernelAdamCs.Facts] : Prop :=
  ∀ (m : (ℓ : Loc Cert.KernelAdamCs.nD Cert.KernelAdamCs.τ Cert.KernelAdamCs.sig) → Buf (Elt Bits) ℓ) (g : Dev Cert.KernelAdamCs.nD → PrngReg), Pre_KernelAdamCs m →
    θ_run (Cert.KernelAdamCs.defs (F := Bits)) (onTc (τ := Cert.KernelAdamCs.τ) (Cert.KernelAdamCs.main (F := Bits))) ⟨m, fun _ => 0, g⟩ (fun r => (∀ c : Dev Cert.KernelAdamCs.nD,
      r.2.mem ((c.tc : Thread Cert.KernelAdamCs.nD Cert.KernelAdamCs.τ).loc Cert.KernelAdamCs.main_arg0) = m ((c.tc : Thread Cert.KernelAdamCs.nD Cert.KernelAdamCs.τ).loc Cert.KernelAdamCs.main_arg0)
      ∧ r.2.mem ((c.tc : Thread Cert.KernelAdamCs.nD Cert.KernelAdamCs.τ).loc Cert.KernelAdamCs.main_arg1) = m ((c.tc : Thread Cert.KernelAdamCs.nD Cert.KernelAdamCs.τ).loc Cert.KernelAdamCs.main_arg1)
      ∧ r.2.mem ((c.tc : Thread Cert.KernelAdamCs.nD Cert.KernelAdamCs.τ).loc Cert.KernelAdamCs.main_arg2) = m ((c.tc : Thread Cert.KernelAdamCs.nD Cert.KernelAdamCs.τ).loc Cert.KernelAdamCs.main_arg2)
      ∧ r.2.mem ((c.tc : Thread Cert.KernelAdamCs.nD Cert.KernelAdamCs.τ).loc Cert.KernelAdamCs.main_arg3) = m ((c.tc : Thread Cert.KernelAdamCs.nD Cert.KernelAdamCs.τ).loc Cert.KernelAdamCs.main_arg3))
      ∧ r.2.sem = fun _ => 0)

def quiescent_KernelAdamCsIdeal [hKernelAdamCsIdeal : Cert.KernelAdamCsIdeal.Facts] : Prop :=
  ∀ (m : (ℓ : Loc Cert.KernelAdamCsIdeal.nD Cert.KernelAdamCsIdeal.τ Cert.KernelAdamCsIdeal.sig) → Buf (Elt Ideal) ℓ) (g : Dev Cert.KernelAdamCsIdeal.nD → PrngReg), Pre_KernelAdamCsIdeal m →
    θ_run (Cert.KernelAdamCsIdeal.defs (F := Ideal)) (onTc (τ := Cert.KernelAdamCsIdeal.τ) (Cert.KernelAdamCsIdeal.main (F := Ideal))) ⟨m, fun _ => 0, g⟩ (fun r => (∀ c : Dev Cert.KernelAdamCsIdeal.nD,
      r.2.mem ((c.tc : Thread Cert.KernelAdamCsIdeal.nD Cert.KernelAdamCsIdeal.τ).loc Cert.KernelAdamCsIdeal.main_arg0) = m ((c.tc : Thread Cert.KernelAdamCsIdeal.nD Cert.KernelAdamCsIdeal.τ).loc Cert.KernelAdamCsIdeal.main_arg0)
      ∧ r.2.mem ((c.tc : Thread Cert.KernelAdamCsIdeal.nD Cert.KernelAdamCsIdeal.τ).loc Cert.KernelAdamCsIdeal.main_arg1) = m ((c.tc : Thread Cert.KernelAdamCsIdeal.nD Cert.KernelAdamCsIdeal.τ).loc Cert.KernelAdamCsIdeal.main_arg1)
      ∧ r.2.mem ((c.tc : Thread Cert.KernelAdamCsIdeal.nD Cert.KernelAdamCsIdeal.τ).loc Cert.KernelAdamCsIdeal.main_arg2) = m ((c.tc : Thread Cert.KernelAdamCsIdeal.nD Cert.KernelAdamCsIdeal.τ).loc Cert.KernelAdamCsIdeal.main_arg2)
      ∧ r.2.mem ((c.tc : Thread Cert.KernelAdamCsIdeal.nD Cert.KernelAdamCsIdeal.τ).loc Cert.KernelAdamCsIdeal.main_arg3) = m ((c.tc : Thread Cert.KernelAdamCsIdeal.nD Cert.KernelAdamCsIdeal.τ).loc Cert.KernelAdamCsIdeal.main_arg3))
      ∧ r.2.sem = fun _ => 0)

def quiescent_ReferenceAdamCsIdeal [hReferenceAdamCsIdeal : Cert.ReferenceAdamCsIdeal.Facts] : Prop :=
  ∀ (m : (ℓ : Loc Cert.ReferenceAdamCsIdeal.nD Cert.ReferenceAdamCsIdeal.τ Cert.ReferenceAdamCsIdeal.sig) → Buf (Elt Ideal) ℓ) (g : Dev Cert.ReferenceAdamCsIdeal.nD → PrngReg), Pre_ReferenceAdamCsIdeal m →
    θ_run (Cert.ReferenceAdamCsIdeal.defs (F := Ideal)) (onTc (τ := Cert.ReferenceAdamCsIdeal.τ) (Cert.ReferenceAdamCsIdeal.main (F := Ideal))) ⟨m, fun _ => 0, g⟩ (fun r => (∀ c : Dev Cert.ReferenceAdamCsIdeal.nD,
      r.2.mem ((c.tc : Thread Cert.ReferenceAdamCsIdeal.nD Cert.ReferenceAdamCsIdeal.τ).loc Cert.ReferenceAdamCsIdeal.main_arg0) = m ((c.tc : Thread Cert.ReferenceAdamCsIdeal.nD Cert.ReferenceAdamCsIdeal.τ).loc Cert.ReferenceAdamCsIdeal.main_arg0)
      ∧ r.2.mem ((c.tc : Thread Cert.ReferenceAdamCsIdeal.nD Cert.ReferenceAdamCsIdeal.τ).loc Cert.ReferenceAdamCsIdeal.main_arg1) = m ((c.tc : Thread Cert.ReferenceAdamCsIdeal.nD Cert.ReferenceAdamCsIdeal.τ).loc Cert.ReferenceAdamCsIdeal.main_arg1)
      ∧ r.2.mem ((c.tc : Thread Cert.ReferenceAdamCsIdeal.nD Cert.ReferenceAdamCsIdeal.τ).loc Cert.ReferenceAdamCsIdeal.main_arg2) = m ((c.tc : Thread Cert.ReferenceAdamCsIdeal.nD Cert.ReferenceAdamCsIdeal.τ).loc Cert.ReferenceAdamCsIdeal.main_arg2)
      ∧ r.2.mem ((c.tc : Thread Cert.ReferenceAdamCsIdeal.nD Cert.ReferenceAdamCsIdeal.τ).loc Cert.ReferenceAdamCsIdeal.main_arg3) = m ((c.tc : Thread Cert.ReferenceAdamCsIdeal.nD Cert.ReferenceAdamCsIdeal.τ).loc Cert.ReferenceAdamCsIdeal.main_arg3))
      ∧ r.2.sem = fun _ => 0)

def quiescent_KernelAdamCf [hKernelAdamCf : Cert.KernelAdamCf.Facts] : Prop :=
  ∀ (m : (ℓ : Loc Cert.KernelAdamCf.nD Cert.KernelAdamCf.τ Cert.KernelAdamCf.sig) → Buf (Elt Bits) ℓ) (g : Dev Cert.KernelAdamCf.nD → PrngReg), Pre_KernelAdamCf m →
    θ_run (Cert.KernelAdamCf.defs (F := Bits)) (onTc (τ := Cert.KernelAdamCf.τ) (Cert.KernelAdamCf.main (F := Bits))) ⟨m, fun _ => 0, g⟩ (fun r => (∀ c : Dev Cert.KernelAdamCf.nD,
      r.2.mem ((c.tc : Thread Cert.KernelAdamCf.nD Cert.KernelAdamCf.τ).loc Cert.KernelAdamCf.main_arg0) = m ((c.tc : Thread Cert.KernelAdamCf.nD Cert.KernelAdamCf.τ).loc Cert.KernelAdamCf.main_arg0)
      ∧ r.2.mem ((c.tc : Thread Cert.KernelAdamCf.nD Cert.KernelAdamCf.τ).loc Cert.KernelAdamCf.main_arg1) = m ((c.tc : Thread Cert.KernelAdamCf.nD Cert.KernelAdamCf.τ).loc Cert.KernelAdamCf.main_arg1)
      ∧ r.2.mem ((c.tc : Thread Cert.KernelAdamCf.nD Cert.KernelAdamCf.τ).loc Cert.KernelAdamCf.main_arg2) = m ((c.tc : Thread Cert.KernelAdamCf.nD Cert.KernelAdamCf.τ).loc Cert.KernelAdamCf.main_arg2)
      ∧ r.2.mem ((c.tc : Thread Cert.KernelAdamCf.nD Cert.KernelAdamCf.τ).loc Cert.KernelAdamCf.main_arg3) = m ((c.tc : Thread Cert.KernelAdamCf.nD Cert.KernelAdamCf.τ).loc Cert.KernelAdamCf.main_arg3))
      ∧ r.2.sem = fun _ => 0)

def quiescent_KernelAdamCfIdeal [hKernelAdamCfIdeal : Cert.KernelAdamCfIdeal.Facts] : Prop :=
  ∀ (m : (ℓ : Loc Cert.KernelAdamCfIdeal.nD Cert.KernelAdamCfIdeal.τ Cert.KernelAdamCfIdeal.sig) → Buf (Elt Ideal) ℓ) (g : Dev Cert.KernelAdamCfIdeal.nD → PrngReg), Pre_KernelAdamCfIdeal m →
    θ_run (Cert.KernelAdamCfIdeal.defs (F := Ideal)) (onTc (τ := Cert.KernelAdamCfIdeal.τ) (Cert.KernelAdamCfIdeal.main (F := Ideal))) ⟨m, fun _ => 0, g⟩ (fun r => (∀ c : Dev Cert.KernelAdamCfIdeal.nD,
      r.2.mem ((c.tc : Thread Cert.KernelAdamCfIdeal.nD Cert.KernelAdamCfIdeal.τ).loc Cert.KernelAdamCfIdeal.main_arg0) = m ((c.tc : Thread Cert.KernelAdamCfIdeal.nD Cert.KernelAdamCfIdeal.τ).loc Cert.KernelAdamCfIdeal.main_arg0)
      ∧ r.2.mem ((c.tc : Thread Cert.KernelAdamCfIdeal.nD Cert.KernelAdamCfIdeal.τ).loc Cert.KernelAdamCfIdeal.main_arg1) = m ((c.tc : Thread Cert.KernelAdamCfIdeal.nD Cert.KernelAdamCfIdeal.τ).loc Cert.KernelAdamCfIdeal.main_arg1)
      ∧ r.2.mem ((c.tc : Thread Cert.KernelAdamCfIdeal.nD Cert.KernelAdamCfIdeal.τ).loc Cert.KernelAdamCfIdeal.main_arg2) = m ((c.tc : Thread Cert.KernelAdamCfIdeal.nD Cert.KernelAdamCfIdeal.τ).loc Cert.KernelAdamCfIdeal.main_arg2)
      ∧ r.2.mem ((c.tc : Thread Cert.KernelAdamCfIdeal.nD Cert.KernelAdamCfIdeal.τ).loc Cert.KernelAdamCfIdeal.main_arg3) = m ((c.tc : Thread Cert.KernelAdamCfIdeal.nD Cert.KernelAdamCfIdeal.τ).loc Cert.KernelAdamCfIdeal.main_arg3))
      ∧ r.2.sem = fun _ => 0)

def quiescent_ReferenceAdamCfIdeal [hReferenceAdamCfIdeal : Cert.ReferenceAdamCfIdeal.Facts] : Prop :=
  ∀ (m : (ℓ : Loc Cert.ReferenceAdamCfIdeal.nD Cert.ReferenceAdamCfIdeal.τ Cert.ReferenceAdamCfIdeal.sig) → Buf (Elt Ideal) ℓ) (g : Dev Cert.ReferenceAdamCfIdeal.nD → PrngReg), Pre_ReferenceAdamCfIdeal m →
    θ_run (Cert.ReferenceAdamCfIdeal.defs (F := Ideal)) (onTc (τ := Cert.ReferenceAdamCfIdeal.τ) (Cert.ReferenceAdamCfIdeal.main (F := Ideal))) ⟨m, fun _ => 0, g⟩ (fun r => (∀ c : Dev Cert.ReferenceAdamCfIdeal.nD,
      r.2.mem ((c.tc : Thread Cert.ReferenceAdamCfIdeal.nD Cert.ReferenceAdamCfIdeal.τ).loc Cert.ReferenceAdamCfIdeal.main_arg0) = m ((c.tc : Thread Cert.ReferenceAdamCfIdeal.nD Cert.ReferenceAdamCfIdeal.τ).loc Cert.ReferenceAdamCfIdeal.main_arg0)
      ∧ r.2.mem ((c.tc : Thread Cert.ReferenceAdamCfIdeal.nD Cert.ReferenceAdamCfIdeal.τ).loc Cert.ReferenceAdamCfIdeal.main_arg1) = m ((c.tc : Thread Cert.ReferenceAdamCfIdeal.nD Cert.ReferenceAdamCfIdeal.τ).loc Cert.ReferenceAdamCfIdeal.main_arg1)
      ∧ r.2.mem ((c.tc : Thread Cert.ReferenceAdamCfIdeal.nD Cert.ReferenceAdamCfIdeal.τ).loc Cert.ReferenceAdamCfIdeal.main_arg2) = m ((c.tc : Thread Cert.ReferenceAdamCfIdeal.nD Cert.ReferenceAdamCfIdeal.τ).loc Cert.ReferenceAdamCfIdeal.main_arg2)
      ∧ r.2.mem ((c.tc : Thread Cert.ReferenceAdamCfIdeal.nD Cert.ReferenceAdamCfIdeal.τ).loc Cert.ReferenceAdamCfIdeal.main_arg3) = m ((c.tc : Thread Cert.ReferenceAdamCfIdeal.nD Cert.ReferenceAdamCfIdeal.τ).loc Cert.ReferenceAdamCfIdeal.main_arg3))
      ∧ r.2.sem = fun _ => 0)

def quiescent_KernelAdamN [hKernelAdamN : Cert.KernelAdamN.Facts] : Prop :=
  ∀ (m : (ℓ : Loc Cert.KernelAdamN.nD Cert.KernelAdamN.τ Cert.KernelAdamN.sig) → Buf (Elt Bits) ℓ) (g : Dev Cert.KernelAdamN.nD → PrngReg), Pre_KernelAdamN m →
    θ_run (Cert.KernelAdamN.defs (F := Bits)) (onTc (τ := Cert.KernelAdamN.τ) (Cert.KernelAdamN.main (F := Bits))) ⟨m, fun _ => 0, g⟩ (fun r => (∀ c : Dev Cert.KernelAdamN.nD,
      r.2.mem ((c.tc : Thread Cert.KernelAdamN.nD Cert.KernelAdamN.τ).loc Cert.KernelAdamN.main_arg0) = m ((c.tc : Thread Cert.KernelAdamN.nD Cert.KernelAdamN.τ).loc Cert.KernelAdamN.main_arg0)
      ∧ r.2.mem ((c.tc : Thread Cert.KernelAdamN.nD Cert.KernelAdamN.τ).loc Cert.KernelAdamN.main_arg1) = m ((c.tc : Thread Cert.KernelAdamN.nD Cert.KernelAdamN.τ).loc Cert.KernelAdamN.main_arg1)
      ∧ r.2.mem ((c.tc : Thread Cert.KernelAdamN.nD Cert.KernelAdamN.τ).loc Cert.KernelAdamN.main_arg2) = m ((c.tc : Thread Cert.KernelAdamN.nD Cert.KernelAdamN.τ).loc Cert.KernelAdamN.main_arg2)
      ∧ r.2.mem ((c.tc : Thread Cert.KernelAdamN.nD Cert.KernelAdamN.τ).loc Cert.KernelAdamN.main_arg3) = m ((c.tc : Thread Cert.KernelAdamN.nD Cert.KernelAdamN.τ).loc Cert.KernelAdamN.main_arg3))
      ∧ r.2.sem = fun _ => 0)

def quiescent_KernelAdamNIdeal [hKernelAdamNIdeal : Cert.KernelAdamNIdeal.Facts] : Prop :=
  ∀ (m : (ℓ : Loc Cert.KernelAdamNIdeal.nD Cert.KernelAdamNIdeal.τ Cert.KernelAdamNIdeal.sig) → Buf (Elt Ideal) ℓ) (g : Dev Cert.KernelAdamNIdeal.nD → PrngReg), Pre_KernelAdamNIdeal m →
    θ_run (Cert.KernelAdamNIdeal.defs (F := Ideal)) (onTc (τ := Cert.KernelAdamNIdeal.τ) (Cert.KernelAdamNIdeal.main (F := Ideal))) ⟨m, fun _ => 0, g⟩ (fun r => (∀ c : Dev Cert.KernelAdamNIdeal.nD,
      r.2.mem ((c.tc : Thread Cert.KernelAdamNIdeal.nD Cert.KernelAdamNIdeal.τ).loc Cert.KernelAdamNIdeal.main_arg0) = m ((c.tc : Thread Cert.KernelAdamNIdeal.nD Cert.KernelAdamNIdeal.τ).loc Cert.KernelAdamNIdeal.main_arg0)
      ∧ r.2.mem ((c.tc : Thread Cert.KernelAdamNIdeal.nD Cert.KernelAdamNIdeal.τ).loc Cert.KernelAdamNIdeal.main_arg1) = m ((c.tc : Thread Cert.KernelAdamNIdeal.nD Cert.KernelAdamNIdeal.τ).loc Cert.KernelAdamNIdeal.main_arg1)
      ∧ r.2.mem ((c.tc : Thread Cert.KernelAdamNIdeal.nD Cert.KernelAdamNIdeal.τ).loc Cert.KernelAdamNIdeal.main_arg2) = m ((c.tc : Thread Cert.KernelAdamNIdeal.nD Cert.KernelAdamNIdeal.τ).loc Cert.KernelAdamNIdeal.main_arg2)
      ∧ r.2.mem ((c.tc : Thread Cert.KernelAdamNIdeal.nD Cert.KernelAdamNIdeal.τ).loc Cert.KernelAdamNIdeal.main_arg3) = m ((c.tc : Thread Cert.KernelAdamNIdeal.nD Cert.KernelAdamNIdeal.τ).loc Cert.KernelAdamNIdeal.main_arg3))
      ∧ r.2.sem = fun _ => 0)

def quiescent_ReferenceAdamNIdeal [hReferenceAdamNIdeal : Cert.ReferenceAdamNIdeal.Facts] : Prop :=
  ∀ (m : (ℓ : Loc Cert.ReferenceAdamNIdeal.nD Cert.ReferenceAdamNIdeal.τ Cert.ReferenceAdamNIdeal.sig) → Buf (Elt Ideal) ℓ) (g : Dev Cert.ReferenceAdamNIdeal.nD → PrngReg), Pre_ReferenceAdamNIdeal m →
    θ_run (Cert.ReferenceAdamNIdeal.defs (F := Ideal)) (onTc (τ := Cert.ReferenceAdamNIdeal.τ) (Cert.ReferenceAdamNIdeal.main (F := Ideal))) ⟨m, fun _ => 0, g⟩ (fun r => (∀ c : Dev Cert.ReferenceAdamNIdeal.nD,
      r.2.mem ((c.tc : Thread Cert.ReferenceAdamNIdeal.nD Cert.ReferenceAdamNIdeal.τ).loc Cert.ReferenceAdamNIdeal.main_arg0) = m ((c.tc : Thread Cert.ReferenceAdamNIdeal.nD Cert.ReferenceAdamNIdeal.τ).loc Cert.ReferenceAdamNIdeal.main_arg0)
      ∧ r.2.mem ((c.tc : Thread Cert.ReferenceAdamNIdeal.nD Cert.ReferenceAdamNIdeal.τ).loc Cert.ReferenceAdamNIdeal.main_arg1) = m ((c.tc : Thread Cert.ReferenceAdamNIdeal.nD Cert.ReferenceAdamNIdeal.τ).loc Cert.ReferenceAdamNIdeal.main_arg1)
      ∧ r.2.mem ((c.tc : Thread Cert.ReferenceAdamNIdeal.nD Cert.ReferenceAdamNIdeal.τ).loc Cert.ReferenceAdamNIdeal.main_arg2) = m ((c.tc : Thread Cert.ReferenceAdamNIdeal.nD Cert.ReferenceAdamNIdeal.τ).loc Cert.ReferenceAdamNIdeal.main_arg2)
      ∧ r.2.mem ((c.tc : Thread Cert.ReferenceAdamNIdeal.nD Cert.ReferenceAdamNIdeal.τ).loc Cert.ReferenceAdamNIdeal.main_arg3) = m ((c.tc : Thread Cert.ReferenceAdamNIdeal.nD Cert.ReferenceAdamNIdeal.τ).loc Cert.ReferenceAdamNIdeal.main_arg3))
      ∧ r.2.sem = fun _ => 0)

def quiescent_KernelAdamSn [hKernelAdamSn : Cert.KernelAdamSn.Facts] : Prop :=
  ∀ (m : (ℓ : Loc Cert.KernelAdamSn.nD Cert.KernelAdamSn.τ Cert.KernelAdamSn.sig) → Buf (Elt Bits) ℓ) (g : Dev Cert.KernelAdamSn.nD → PrngReg), Pre_KernelAdamSn m →
    θ_run (Cert.KernelAdamSn.defs (F := Bits)) (onTc (τ := Cert.KernelAdamSn.τ) (Cert.KernelAdamSn.main (F := Bits))) ⟨m, fun _ => 0, g⟩ (fun r => (∀ c : Dev Cert.KernelAdamSn.nD,
      r.2.mem ((c.tc : Thread Cert.KernelAdamSn.nD Cert.KernelAdamSn.τ).loc Cert.KernelAdamSn.main_arg0) = m ((c.tc : Thread Cert.KernelAdamSn.nD Cert.KernelAdamSn.τ).loc Cert.KernelAdamSn.main_arg0)
      ∧ r.2.mem ((c.tc : Thread Cert.KernelAdamSn.nD Cert.KernelAdamSn.τ).loc Cert.KernelAdamSn.main_arg1) = m ((c.tc : Thread Cert.KernelAdamSn.nD Cert.KernelAdamSn.τ).loc Cert.KernelAdamSn.main_arg1)
      ∧ r.2.mem ((c.tc : Thread Cert.KernelAdamSn.nD Cert.KernelAdamSn.τ).loc Cert.KernelAdamSn.main_arg2) = m ((c.tc : Thread Cert.KernelAdamSn.nD Cert.KernelAdamSn.τ).loc Cert.KernelAdamSn.main_arg2)
      ∧ r.2.mem ((c.tc : Thread Cert.KernelAdamSn.nD Cert.KernelAdamSn.τ).loc Cert.KernelAdamSn.main_arg3) = m ((c.tc : Thread Cert.KernelAdamSn.nD Cert.KernelAdamSn.τ).loc Cert.KernelAdamSn.main_arg3))
      ∧ r.2.sem = fun _ => 0)

def quiescent_KernelAdamSnIdeal [hKernelAdamSnIdeal : Cert.KernelAdamSnIdeal.Facts] : Prop :=
  ∀ (m : (ℓ : Loc Cert.KernelAdamSnIdeal.nD Cert.KernelAdamSnIdeal.τ Cert.KernelAdamSnIdeal.sig) → Buf (Elt Ideal) ℓ) (g : Dev Cert.KernelAdamSnIdeal.nD → PrngReg), Pre_KernelAdamSnIdeal m →
    θ_run (Cert.KernelAdamSnIdeal.defs (F := Ideal)) (onTc (τ := Cert.KernelAdamSnIdeal.τ) (Cert.KernelAdamSnIdeal.main (F := Ideal))) ⟨m, fun _ => 0, g⟩ (fun r => (∀ c : Dev Cert.KernelAdamSnIdeal.nD,
      r.2.mem ((c.tc : Thread Cert.KernelAdamSnIdeal.nD Cert.KernelAdamSnIdeal.τ).loc Cert.KernelAdamSnIdeal.main_arg0) = m ((c.tc : Thread Cert.KernelAdamSnIdeal.nD Cert.KernelAdamSnIdeal.τ).loc Cert.KernelAdamSnIdeal.main_arg0)
      ∧ r.2.mem ((c.tc : Thread Cert.KernelAdamSnIdeal.nD Cert.KernelAdamSnIdeal.τ).loc Cert.KernelAdamSnIdeal.main_arg1) = m ((c.tc : Thread Cert.KernelAdamSnIdeal.nD Cert.KernelAdamSnIdeal.τ).loc Cert.KernelAdamSnIdeal.main_arg1)
      ∧ r.2.mem ((c.tc : Thread Cert.KernelAdamSnIdeal.nD Cert.KernelAdamSnIdeal.τ).loc Cert.KernelAdamSnIdeal.main_arg2) = m ((c.tc : Thread Cert.KernelAdamSnIdeal.nD Cert.KernelAdamSnIdeal.τ).loc Cert.KernelAdamSnIdeal.main_arg2)
      ∧ r.2.mem ((c.tc : Thread Cert.KernelAdamSnIdeal.nD Cert.KernelAdamSnIdeal.τ).loc Cert.KernelAdamSnIdeal.main_arg3) = m ((c.tc : Thread Cert.KernelAdamSnIdeal.nD Cert.KernelAdamSnIdeal.τ).loc Cert.KernelAdamSnIdeal.main_arg3))
      ∧ r.2.sem = fun _ => 0)

def quiescent_ReferenceAdamSnIdeal [hReferenceAdamSnIdeal : Cert.ReferenceAdamSnIdeal.Facts] : Prop :=
  ∀ (m : (ℓ : Loc Cert.ReferenceAdamSnIdeal.nD Cert.ReferenceAdamSnIdeal.τ Cert.ReferenceAdamSnIdeal.sig) → Buf (Elt Ideal) ℓ) (g : Dev Cert.ReferenceAdamSnIdeal.nD → PrngReg), Pre_ReferenceAdamSnIdeal m →
    θ_run (Cert.ReferenceAdamSnIdeal.defs (F := Ideal)) (onTc (τ := Cert.ReferenceAdamSnIdeal.τ) (Cert.ReferenceAdamSnIdeal.main (F := Ideal))) ⟨m, fun _ => 0, g⟩ (fun r => (∀ c : Dev Cert.ReferenceAdamSnIdeal.nD,
      r.2.mem ((c.tc : Thread Cert.ReferenceAdamSnIdeal.nD Cert.ReferenceAdamSnIdeal.τ).loc Cert.ReferenceAdamSnIdeal.main_arg0) = m ((c.tc : Thread Cert.ReferenceAdamSnIdeal.nD Cert.ReferenceAdamSnIdeal.τ).loc Cert.ReferenceAdamSnIdeal.main_arg0)
      ∧ r.2.mem ((c.tc : Thread Cert.ReferenceAdamSnIdeal.nD Cert.ReferenceAdamSnIdeal.τ).loc Cert.ReferenceAdamSnIdeal.main_arg1) = m ((c.tc : Thread Cert.ReferenceAdamSnIdeal.nD Cert.ReferenceAdamSnIdeal.τ).loc Cert.ReferenceAdamSnIdeal.main_arg1)
      ∧ r.2.mem ((c.tc : Thread Cert.ReferenceAdamSnIdeal.nD Cert.ReferenceAdamSnIdeal.τ).loc Cert.ReferenceAdamSnIdeal.main_arg2) = m ((c.tc : Thread Cert.ReferenceAdamSnIdeal.nD Cert.ReferenceAdamSnIdeal.τ).loc Cert.ReferenceAdamSnIdeal.main_arg2)
      ∧ r.2.mem ((c.tc : Thread Cert.ReferenceAdamSnIdeal.nD Cert.ReferenceAdamSnIdeal.τ).loc Cert.ReferenceAdamSnIdeal.main_arg3) = m ((c.tc : Thread Cert.ReferenceAdamSnIdeal.nD Cert.ReferenceAdamSnIdeal.τ).loc Cert.ReferenceAdamSnIdeal.main_arg3))
      ∧ r.2.sem = fun _ => 0)

def quiescent_KernelAdamSb [hKernelAdamSb : Cert.KernelAdamSb.Facts] : Prop :=
  ∀ (m : (ℓ : Loc Cert.KernelAdamSb.nD Cert.KernelAdamSb.τ Cert.KernelAdamSb.sig) → Buf (Elt Bits) ℓ) (g : Dev Cert.KernelAdamSb.nD → PrngReg), Pre_KernelAdamSb m →
    θ_run (Cert.KernelAdamSb.defs (F := Bits)) (onTc (τ := Cert.KernelAdamSb.τ) (Cert.KernelAdamSb.main (F := Bits))) ⟨m, fun _ => 0, g⟩ (fun r => (∀ c : Dev Cert.KernelAdamSb.nD,
      r.2.mem ((c.tc : Thread Cert.KernelAdamSb.nD Cert.KernelAdamSb.τ).loc Cert.KernelAdamSb.main_arg0) = m ((c.tc : Thread Cert.KernelAdamSb.nD Cert.KernelAdamSb.τ).loc Cert.KernelAdamSb.main_arg0)
      ∧ r.2.mem ((c.tc : Thread Cert.KernelAdamSb.nD Cert.KernelAdamSb.τ).loc Cert.KernelAdamSb.main_arg1) = m ((c.tc : Thread Cert.KernelAdamSb.nD Cert.KernelAdamSb.τ).loc Cert.KernelAdamSb.main_arg1)
      ∧ r.2.mem ((c.tc : Thread Cert.KernelAdamSb.nD Cert.KernelAdamSb.τ).loc Cert.KernelAdamSb.main_arg2) = m ((c.tc : Thread Cert.KernelAdamSb.nD Cert.KernelAdamSb.τ).loc Cert.KernelAdamSb.main_arg2)
      ∧ r.2.mem ((c.tc : Thread Cert.KernelAdamSb.nD Cert.KernelAdamSb.τ).loc Cert.KernelAdamSb.main_arg3) = m ((c.tc : Thread Cert.KernelAdamSb.nD Cert.KernelAdamSb.τ).loc Cert.KernelAdamSb.main_arg3))
      ∧ r.2.sem = fun _ => 0)

def quiescent_KernelAdamSbIdeal [hKernelAdamSbIdeal : Cert.KernelAdamSbIdeal.Facts] : Prop :=
  ∀ (m : (ℓ : Loc Cert.KernelAdamSbIdeal.nD Cert.KernelAdamSbIdeal.τ Cert.KernelAdamSbIdeal.sig) → Buf (Elt Ideal) ℓ) (g : Dev Cert.KernelAdamSbIdeal.nD → PrngReg), Pre_KernelAdamSbIdeal m →
    θ_run (Cert.KernelAdamSbIdeal.defs (F := Ideal)) (onTc (τ := Cert.KernelAdamSbIdeal.τ) (Cert.KernelAdamSbIdeal.main (F := Ideal))) ⟨m, fun _ => 0, g⟩ (fun r => (∀ c : Dev Cert.KernelAdamSbIdeal.nD,
      r.2.mem ((c.tc : Thread Cert.KernelAdamSbIdeal.nD Cert.KernelAdamSbIdeal.τ).loc Cert.KernelAdamSbIdeal.main_arg0) = m ((c.tc : Thread Cert.KernelAdamSbIdeal.nD Cert.KernelAdamSbIdeal.τ).loc Cert.KernelAdamSbIdeal.main_arg0)
      ∧ r.2.mem ((c.tc : Thread Cert.KernelAdamSbIdeal.nD Cert.KernelAdamSbIdeal.τ).loc Cert.KernelAdamSbIdeal.main_arg1) = m ((c.tc : Thread Cert.KernelAdamSbIdeal.nD Cert.KernelAdamSbIdeal.τ).loc Cert.KernelAdamSbIdeal.main_arg1)
      ∧ r.2.mem ((c.tc : Thread Cert.KernelAdamSbIdeal.nD Cert.KernelAdamSbIdeal.τ).loc Cert.KernelAdamSbIdeal.main_arg2) = m ((c.tc : Thread Cert.KernelAdamSbIdeal.nD Cert.KernelAdamSbIdeal.τ).loc Cert.KernelAdamSbIdeal.main_arg2)
      ∧ r.2.mem ((c.tc : Thread Cert.KernelAdamSbIdeal.nD Cert.KernelAdamSbIdeal.τ).loc Cert.KernelAdamSbIdeal.main_arg3) = m ((c.tc : Thread Cert.KernelAdamSbIdeal.nD Cert.KernelAdamSbIdeal.τ).loc Cert.KernelAdamSbIdeal.main_arg3))
      ∧ r.2.sem = fun _ => 0)

def quiescent_ReferenceAdamSbIdeal [hReferenceAdamSbIdeal : Cert.ReferenceAdamSbIdeal.Facts] : Prop :=
  ∀ (m : (ℓ : Loc Cert.ReferenceAdamSbIdeal.nD Cert.ReferenceAdamSbIdeal.τ Cert.ReferenceAdamSbIdeal.sig) → Buf (Elt Ideal) ℓ) (g : Dev Cert.ReferenceAdamSbIdeal.nD → PrngReg), Pre_ReferenceAdamSbIdeal m →
    θ_run (Cert.ReferenceAdamSbIdeal.defs (F := Ideal)) (onTc (τ := Cert.ReferenceAdamSbIdeal.τ) (Cert.ReferenceAdamSbIdeal.main (F := Ideal))) ⟨m, fun _ => 0, g⟩ (fun r => (∀ c : Dev Cert.ReferenceAdamSbIdeal.nD,
      r.2.mem ((c.tc : Thread Cert.ReferenceAdamSbIdeal.nD Cert.ReferenceAdamSbIdeal.τ).loc Cert.ReferenceAdamSbIdeal.main_arg0) = m ((c.tc : Thread Cert.ReferenceAdamSbIdeal.nD Cert.ReferenceAdamSbIdeal.τ).loc Cert.ReferenceAdamSbIdeal.main_arg0)
      ∧ r.2.mem ((c.tc : Thread Cert.ReferenceAdamSbIdeal.nD Cert.ReferenceAdamSbIdeal.τ).loc Cert.ReferenceAdamSbIdeal.main_arg1) = m ((c.tc : Thread Cert.ReferenceAdamSbIdeal.nD Cert.ReferenceAdamSbIdeal.τ).loc Cert.ReferenceAdamSbIdeal.main_arg1)
      ∧ r.2.mem ((c.tc : Thread Cert.ReferenceAdamSbIdeal.nD Cert.ReferenceAdamSbIdeal.τ).loc Cert.ReferenceAdamSbIdeal.main_arg2) = m ((c.tc : Thread Cert.ReferenceAdamSbIdeal.nD Cert.ReferenceAdamSbIdeal.τ).loc Cert.ReferenceAdamSbIdeal.main_arg2)
      ∧ r.2.mem ((c.tc : Thread Cert.ReferenceAdamSbIdeal.nD Cert.ReferenceAdamSbIdeal.τ).loc Cert.ReferenceAdamSbIdeal.main_arg3) = m ((c.tc : Thread Cert.ReferenceAdamSbIdeal.nD Cert.ReferenceAdamSbIdeal.τ).loc Cert.ReferenceAdamSbIdeal.main_arg3))
      ∧ r.2.sem = fun _ => 0)

def quiescent_KernelAdamIn [hKernelAdamIn : Cert.KernelAdamIn.Facts] : Prop :=
  ∀ (m : (ℓ : Loc Cert.KernelAdamIn.nD Cert.KernelAdamIn.τ Cert.KernelAdamIn.sig) → Buf (Elt Bits) ℓ) (g : Dev Cert.KernelAdamIn.nD → PrngReg), Pre_KernelAdamIn m →
    θ_run (Cert.KernelAdamIn.defs (F := Bits)) (onTc (τ := Cert.KernelAdamIn.τ) (Cert.KernelAdamIn.main (F := Bits))) ⟨m, fun _ => 0, g⟩ (fun r => (∀ c : Dev Cert.KernelAdamIn.nD,
      r.2.mem ((c.tc : Thread Cert.KernelAdamIn.nD Cert.KernelAdamIn.τ).loc Cert.KernelAdamIn.main_arg0) = m ((c.tc : Thread Cert.KernelAdamIn.nD Cert.KernelAdamIn.τ).loc Cert.KernelAdamIn.main_arg0)
      ∧ r.2.mem ((c.tc : Thread Cert.KernelAdamIn.nD Cert.KernelAdamIn.τ).loc Cert.KernelAdamIn.main_arg1) = m ((c.tc : Thread Cert.KernelAdamIn.nD Cert.KernelAdamIn.τ).loc Cert.KernelAdamIn.main_arg1)
      ∧ r.2.mem ((c.tc : Thread Cert.KernelAdamIn.nD Cert.KernelAdamIn.τ).loc Cert.KernelAdamIn.main_arg2) = m ((c.tc : Thread Cert.KernelAdamIn.nD Cert.KernelAdamIn.τ).loc Cert.KernelAdamIn.main_arg2)
      ∧ r.2.mem ((c.tc : Thread Cert.KernelAdamIn.nD Cert.KernelAdamIn.τ).loc Cert.KernelAdamIn.main_arg3) = m ((c.tc : Thread Cert.KernelAdamIn.nD Cert.KernelAdamIn.τ).loc Cert.KernelAdamIn.main_arg3))
      ∧ r.2.sem = fun _ => 0)

def quiescent_KernelAdamInIdeal [hKernelAdamInIdeal : Cert.KernelAdamInIdeal.Facts] : Prop :=
  ∀ (m : (ℓ : Loc Cert.KernelAdamInIdeal.nD Cert.KernelAdamInIdeal.τ Cert.KernelAdamInIdeal.sig) → Buf (Elt Ideal) ℓ) (g : Dev Cert.KernelAdamInIdeal.nD → PrngReg), Pre_KernelAdamInIdeal m →
    θ_run (Cert.KernelAdamInIdeal.defs (F := Ideal)) (onTc (τ := Cert.KernelAdamInIdeal.τ) (Cert.KernelAdamInIdeal.main (F := Ideal))) ⟨m, fun _ => 0, g⟩ (fun r => (∀ c : Dev Cert.KernelAdamInIdeal.nD,
      r.2.mem ((c.tc : Thread Cert.KernelAdamInIdeal.nD Cert.KernelAdamInIdeal.τ).loc Cert.KernelAdamInIdeal.main_arg0) = m ((c.tc : Thread Cert.KernelAdamInIdeal.nD Cert.KernelAdamInIdeal.τ).loc Cert.KernelAdamInIdeal.main_arg0)
      ∧ r.2.mem ((c.tc : Thread Cert.KernelAdamInIdeal.nD Cert.KernelAdamInIdeal.τ).loc Cert.KernelAdamInIdeal.main_arg1) = m ((c.tc : Thread Cert.KernelAdamInIdeal.nD Cert.KernelAdamInIdeal.τ).loc Cert.KernelAdamInIdeal.main_arg1)
      ∧ r.2.mem ((c.tc : Thread Cert.KernelAdamInIdeal.nD Cert.KernelAdamInIdeal.τ).loc Cert.KernelAdamInIdeal.main_arg2) = m ((c.tc : Thread Cert.KernelAdamInIdeal.nD Cert.KernelAdamInIdeal.τ).loc Cert.KernelAdamInIdeal.main_arg2)
      ∧ r.2.mem ((c.tc : Thread Cert.KernelAdamInIdeal.nD Cert.KernelAdamInIdeal.τ).loc Cert.KernelAdamInIdeal.main_arg3) = m ((c.tc : Thread Cert.KernelAdamInIdeal.nD Cert.KernelAdamInIdeal.τ).loc Cert.KernelAdamInIdeal.main_arg3))
      ∧ r.2.sem = fun _ => 0)

def quiescent_ReferenceAdamInIdeal [hReferenceAdamInIdeal : Cert.ReferenceAdamInIdeal.Facts] : Prop :=
  ∀ (m : (ℓ : Loc Cert.ReferenceAdamInIdeal.nD Cert.ReferenceAdamInIdeal.τ Cert.ReferenceAdamInIdeal.sig) → Buf (Elt Ideal) ℓ) (g : Dev Cert.ReferenceAdamInIdeal.nD → PrngReg), Pre_ReferenceAdamInIdeal m →
    θ_run (Cert.ReferenceAdamInIdeal.defs (F := Ideal)) (onTc (τ := Cert.ReferenceAdamInIdeal.τ) (Cert.ReferenceAdamInIdeal.main (F := Ideal))) ⟨m, fun _ => 0, g⟩ (fun r => (∀ c : Dev Cert.ReferenceAdamInIdeal.nD,
      r.2.mem ((c.tc : Thread Cert.ReferenceAdamInIdeal.nD Cert.ReferenceAdamInIdeal.τ).loc Cert.ReferenceAdamInIdeal.main_arg0) = m ((c.tc : Thread Cert.ReferenceAdamInIdeal.nD Cert.ReferenceAdamInIdeal.τ).loc Cert.ReferenceAdamInIdeal.main_arg0)
      ∧ r.2.mem ((c.tc : Thread Cert.ReferenceAdamInIdeal.nD Cert.ReferenceAdamInIdeal.τ).loc Cert.ReferenceAdamInIdeal.main_arg1) = m ((c.tc : Thread Cert.ReferenceAdamInIdeal.nD Cert.ReferenceAdamInIdeal.τ).loc Cert.ReferenceAdamInIdeal.main_arg1)
      ∧ r.2.mem ((c.tc : Thread Cert.ReferenceAdamInIdeal.nD Cert.ReferenceAdamInIdeal.τ).loc Cert.ReferenceAdamInIdeal.main_arg2) = m ((c.tc : Thread Cert.ReferenceAdamInIdeal.nD Cert.ReferenceAdamInIdeal.τ).loc Cert.ReferenceAdamInIdeal.main_arg2)
      ∧ r.2.mem ((c.tc : Thread Cert.ReferenceAdamInIdeal.nD Cert.ReferenceAdamInIdeal.τ).loc Cert.ReferenceAdamInIdeal.main_arg3) = m ((c.tc : Thread Cert.ReferenceAdamInIdeal.nD Cert.ReferenceAdamInIdeal.τ).loc Cert.ReferenceAdamInIdeal.main_arg3))
      ∧ r.2.sem = fun _ => 0)

def quiescent_KernelAdamA [hKernelAdamA : Cert.KernelAdamA.Facts] : Prop :=
  ∀ (m : (ℓ : Loc Cert.KernelAdamA.nD Cert.KernelAdamA.τ Cert.KernelAdamA.sig) → Buf (Elt Bits) ℓ) (g : Dev Cert.KernelAdamA.nD → PrngReg), Pre_KernelAdamA m →
    θ_run (Cert.KernelAdamA.defs (F := Bits)) (onTc (τ := Cert.KernelAdamA.τ) (Cert.KernelAdamA.main (F := Bits))) ⟨m, fun _ => 0, g⟩ (fun r => (∀ c : Dev Cert.KernelAdamA.nD,
      r.2.mem ((c.tc : Thread Cert.KernelAdamA.nD Cert.KernelAdamA.τ).loc Cert.KernelAdamA.main_arg0) = m ((c.tc : Thread Cert.KernelAdamA.nD Cert.KernelAdamA.τ).loc Cert.KernelAdamA.main_arg0)
      ∧ r.2.mem ((c.tc : Thread Cert.KernelAdamA.nD Cert.KernelAdamA.τ).loc Cert.KernelAdamA.main_arg1) = m ((c.tc : Thread Cert.KernelAdamA.nD Cert.KernelAdamA.τ).loc Cert.KernelAdamA.main_arg1)
      ∧ r.2.mem ((c.tc : Thread Cert.KernelAdamA.nD Cert.KernelAdamA.τ).loc Cert.KernelAdamA.main_arg2) = m ((c.tc : Thread Cert.KernelAdamA.nD Cert.KernelAdamA.τ).loc Cert.KernelAdamA.main_arg2)
      ∧ r.2.mem ((c.tc : Thread Cert.KernelAdamA.nD Cert.KernelAdamA.τ).loc Cert.KernelAdamA.main_arg3) = m ((c.tc : Thread Cert.KernelAdamA.nD Cert.KernelAdamA.τ).loc Cert.KernelAdamA.main_arg3))
      ∧ r.2.sem = fun _ => 0)

def quiescent_KernelAdamAIdeal [hKernelAdamAIdeal : Cert.KernelAdamAIdeal.Facts] : Prop :=
  ∀ (m : (ℓ : Loc Cert.KernelAdamAIdeal.nD Cert.KernelAdamAIdeal.τ Cert.KernelAdamAIdeal.sig) → Buf (Elt Ideal) ℓ) (g : Dev Cert.KernelAdamAIdeal.nD → PrngReg), Pre_KernelAdamAIdeal m →
    θ_run (Cert.KernelAdamAIdeal.defs (F := Ideal)) (onTc (τ := Cert.KernelAdamAIdeal.τ) (Cert.KernelAdamAIdeal.main (F := Ideal))) ⟨m, fun _ => 0, g⟩ (fun r => (∀ c : Dev Cert.KernelAdamAIdeal.nD,
      r.2.mem ((c.tc : Thread Cert.KernelAdamAIdeal.nD Cert.KernelAdamAIdeal.τ).loc Cert.KernelAdamAIdeal.main_arg0) = m ((c.tc : Thread Cert.KernelAdamAIdeal.nD Cert.KernelAdamAIdeal.τ).loc Cert.KernelAdamAIdeal.main_arg0)
      ∧ r.2.mem ((c.tc : Thread Cert.KernelAdamAIdeal.nD Cert.KernelAdamAIdeal.τ).loc Cert.KernelAdamAIdeal.main_arg1) = m ((c.tc : Thread Cert.KernelAdamAIdeal.nD Cert.KernelAdamAIdeal.τ).loc Cert.KernelAdamAIdeal.main_arg1)
      ∧ r.2.mem ((c.tc : Thread Cert.KernelAdamAIdeal.nD Cert.KernelAdamAIdeal.τ).loc Cert.KernelAdamAIdeal.main_arg2) = m ((c.tc : Thread Cert.KernelAdamAIdeal.nD Cert.KernelAdamAIdeal.τ).loc Cert.KernelAdamAIdeal.main_arg2)
      ∧ r.2.mem ((c.tc : Thread Cert.KernelAdamAIdeal.nD Cert.KernelAdamAIdeal.τ).loc Cert.KernelAdamAIdeal.main_arg3) = m ((c.tc : Thread Cert.KernelAdamAIdeal.nD Cert.KernelAdamAIdeal.τ).loc Cert.KernelAdamAIdeal.main_arg3))
      ∧ r.2.sem = fun _ => 0)

def quiescent_ReferenceAdamAIdeal [hReferenceAdamAIdeal : Cert.ReferenceAdamAIdeal.Facts] : Prop :=
  ∀ (m : (ℓ : Loc Cert.ReferenceAdamAIdeal.nD Cert.ReferenceAdamAIdeal.τ Cert.ReferenceAdamAIdeal.sig) → Buf (Elt Ideal) ℓ) (g : Dev Cert.ReferenceAdamAIdeal.nD → PrngReg), Pre_ReferenceAdamAIdeal m →
    θ_run (Cert.ReferenceAdamAIdeal.defs (F := Ideal)) (onTc (τ := Cert.ReferenceAdamAIdeal.τ) (Cert.ReferenceAdamAIdeal.main (F := Ideal))) ⟨m, fun _ => 0, g⟩ (fun r => (∀ c : Dev Cert.ReferenceAdamAIdeal.nD,
      r.2.mem ((c.tc : Thread Cert.ReferenceAdamAIdeal.nD Cert.ReferenceAdamAIdeal.τ).loc Cert.ReferenceAdamAIdeal.main_arg0) = m ((c.tc : Thread Cert.ReferenceAdamAIdeal.nD Cert.ReferenceAdamAIdeal.τ).loc Cert.ReferenceAdamAIdeal.main_arg0)
      ∧ r.2.mem ((c.tc : Thread Cert.ReferenceAdamAIdeal.nD Cert.ReferenceAdamAIdeal.τ).loc Cert.ReferenceAdamAIdeal.main_arg1) = m ((c.tc : Thread Cert.ReferenceAdamAIdeal.nD Cert.ReferenceAdamAIdeal.τ).loc Cert.ReferenceAdamAIdeal.main_arg1)
      ∧ r.2.mem ((c.tc : Thread Cert.ReferenceAdamAIdeal.nD Cert.ReferenceAdamAIdeal.τ).loc Cert.ReferenceAdamAIdeal.main_arg2) = m ((c.tc : Thread Cert.ReferenceAdamAIdeal.nD Cert.ReferenceAdamAIdeal.τ).loc Cert.ReferenceAdamAIdeal.main_arg2)
      ∧ r.2.mem ((c.tc : Thread Cert.ReferenceAdamAIdeal.nD Cert.ReferenceAdamAIdeal.τ).loc Cert.ReferenceAdamAIdeal.main_arg3) = m ((c.tc : Thread Cert.ReferenceAdamAIdeal.nD Cert.ReferenceAdamAIdeal.τ).loc Cert.ReferenceAdamAIdeal.main_arg3))
      ∧ r.2.sem = fun _ => 0)

def quiescent_KernelAdamS [hKernelAdamS : Cert.KernelAdamS.Facts] : Prop :=
  ∀ (m : (ℓ : Loc Cert.KernelAdamS.nD Cert.KernelAdamS.τ Cert.KernelAdamS.sig) → Buf (Elt Bits) ℓ) (g : Dev Cert.KernelAdamS.nD → PrngReg), Pre_KernelAdamS m →
    θ_run (Cert.KernelAdamS.defs (F := Bits)) (onTc (τ := Cert.KernelAdamS.τ) (Cert.KernelAdamS.main (F := Bits))) ⟨m, fun _ => 0, g⟩ (fun r => (∀ c : Dev Cert.KernelAdamS.nD,
      r.2.mem ((c.tc : Thread Cert.KernelAdamS.nD Cert.KernelAdamS.τ).loc Cert.KernelAdamS.main_arg0) = m ((c.tc : Thread Cert.KernelAdamS.nD Cert.KernelAdamS.τ).loc Cert.KernelAdamS.main_arg0)
      ∧ r.2.mem ((c.tc : Thread Cert.KernelAdamS.nD Cert.KernelAdamS.τ).loc Cert.KernelAdamS.main_arg1) = m ((c.tc : Thread Cert.KernelAdamS.nD Cert.KernelAdamS.τ).loc Cert.KernelAdamS.main_arg1)
      ∧ r.2.mem ((c.tc : Thread Cert.KernelAdamS.nD Cert.KernelAdamS.τ).loc Cert.KernelAdamS.main_arg2) = m ((c.tc : Thread Cert.KernelAdamS.nD Cert.KernelAdamS.τ).loc Cert.KernelAdamS.main_arg2)
      ∧ r.2.mem ((c.tc : Thread Cert.KernelAdamS.nD Cert.KernelAdamS.τ).loc Cert.KernelAdamS.main_arg3) = m ((c.tc : Thread Cert.KernelAdamS.nD Cert.KernelAdamS.τ).loc Cert.KernelAdamS.main_arg3))
      ∧ r.2.sem = fun _ => 0)

def quiescent_KernelAdamSIdeal [hKernelAdamSIdeal : Cert.KernelAdamSIdeal.Facts] : Prop :=
  ∀ (m : (ℓ : Loc Cert.KernelAdamSIdeal.nD Cert.KernelAdamSIdeal.τ Cert.KernelAdamSIdeal.sig) → Buf (Elt Ideal) ℓ) (g : Dev Cert.KernelAdamSIdeal.nD → PrngReg), Pre_KernelAdamSIdeal m →
    θ_run (Cert.KernelAdamSIdeal.defs (F := Ideal)) (onTc (τ := Cert.KernelAdamSIdeal.τ) (Cert.KernelAdamSIdeal.main (F := Ideal))) ⟨m, fun _ => 0, g⟩ (fun r => (∀ c : Dev Cert.KernelAdamSIdeal.nD,
      r.2.mem ((c.tc : Thread Cert.KernelAdamSIdeal.nD Cert.KernelAdamSIdeal.τ).loc Cert.KernelAdamSIdeal.main_arg0) = m ((c.tc : Thread Cert.KernelAdamSIdeal.nD Cert.KernelAdamSIdeal.τ).loc Cert.KernelAdamSIdeal.main_arg0)
      ∧ r.2.mem ((c.tc : Thread Cert.KernelAdamSIdeal.nD Cert.KernelAdamSIdeal.τ).loc Cert.KernelAdamSIdeal.main_arg1) = m ((c.tc : Thread Cert.KernelAdamSIdeal.nD Cert.KernelAdamSIdeal.τ).loc Cert.KernelAdamSIdeal.main_arg1)
      ∧ r.2.mem ((c.tc : Thread Cert.KernelAdamSIdeal.nD Cert.KernelAdamSIdeal.τ).loc Cert.KernelAdamSIdeal.main_arg2) = m ((c.tc : Thread Cert.KernelAdamSIdeal.nD Cert.KernelAdamSIdeal.τ).loc Cert.KernelAdamSIdeal.main_arg2)
      ∧ r.2.mem ((c.tc : Thread Cert.KernelAdamSIdeal.nD Cert.KernelAdamSIdeal.τ).loc Cert.KernelAdamSIdeal.main_arg3) = m ((c.tc : Thread Cert.KernelAdamSIdeal.nD Cert.KernelAdamSIdeal.τ).loc Cert.KernelAdamSIdeal.main_arg3))
      ∧ r.2.sem = fun _ => 0)

def quiescent_ReferenceAdamSIdeal [hReferenceAdamSIdeal : Cert.ReferenceAdamSIdeal.Facts] : Prop :=
  ∀ (m : (ℓ : Loc Cert.ReferenceAdamSIdeal.nD Cert.ReferenceAdamSIdeal.τ Cert.ReferenceAdamSIdeal.sig) → Buf (Elt Ideal) ℓ) (g : Dev Cert.ReferenceAdamSIdeal.nD → PrngReg), Pre_ReferenceAdamSIdeal m →
    θ_run (Cert.ReferenceAdamSIdeal.defs (F := Ideal)) (onTc (τ := Cert.ReferenceAdamSIdeal.τ) (Cert.ReferenceAdamSIdeal.main (F := Ideal))) ⟨m, fun _ => 0, g⟩ (fun r => (∀ c : Dev Cert.ReferenceAdamSIdeal.nD,
      r.2.mem ((c.tc : Thread Cert.ReferenceAdamSIdeal.nD Cert.ReferenceAdamSIdeal.τ).loc Cert.ReferenceAdamSIdeal.main_arg0) = m ((c.tc : Thread Cert.ReferenceAdamSIdeal.nD Cert.ReferenceAdamSIdeal.τ).loc Cert.ReferenceAdamSIdeal.main_arg0)
      ∧ r.2.mem ((c.tc : Thread Cert.ReferenceAdamSIdeal.nD Cert.ReferenceAdamSIdeal.τ).loc Cert.ReferenceAdamSIdeal.main_arg1) = m ((c.tc : Thread Cert.ReferenceAdamSIdeal.nD Cert.ReferenceAdamSIdeal.τ).loc Cert.ReferenceAdamSIdeal.main_arg1)
      ∧ r.2.mem ((c.tc : Thread Cert.ReferenceAdamSIdeal.nD Cert.ReferenceAdamSIdeal.τ).loc Cert.ReferenceAdamSIdeal.main_arg2) = m ((c.tc : Thread Cert.ReferenceAdamSIdeal.nD Cert.ReferenceAdamSIdeal.τ).loc Cert.ReferenceAdamSIdeal.main_arg2)
      ∧ r.2.mem ((c.tc : Thread Cert.ReferenceAdamSIdeal.nD Cert.ReferenceAdamSIdeal.τ).loc Cert.ReferenceAdamSIdeal.main_arg3) = m ((c.tc : Thread Cert.ReferenceAdamSIdeal.nD Cert.ReferenceAdamSIdeal.τ).loc Cert.ReferenceAdamSIdeal.main_arg3))
      ∧ r.2.sem = fun _ => 0)

def quiescent_KernelAdamUp [hKernelAdamUp : Cert.KernelAdamUp.Facts] : Prop :=
  ∀ (m : (ℓ : Loc Cert.KernelAdamUp.nD Cert.KernelAdamUp.τ Cert.KernelAdamUp.sig) → Buf (Elt Bits) ℓ) (g : Dev Cert.KernelAdamUp.nD → PrngReg), Pre_KernelAdamUp m →
    θ_run (Cert.KernelAdamUp.defs (F := Bits)) (onTc (τ := Cert.KernelAdamUp.τ) (Cert.KernelAdamUp.main (F := Bits))) ⟨m, fun _ => 0, g⟩ (fun r => (∀ c : Dev Cert.KernelAdamUp.nD,
      r.2.mem ((c.tc : Thread Cert.KernelAdamUp.nD Cert.KernelAdamUp.τ).loc Cert.KernelAdamUp.main_arg0) = m ((c.tc : Thread Cert.KernelAdamUp.nD Cert.KernelAdamUp.τ).loc Cert.KernelAdamUp.main_arg0)
      ∧ r.2.mem ((c.tc : Thread Cert.KernelAdamUp.nD Cert.KernelAdamUp.τ).loc Cert.KernelAdamUp.main_arg1) = m ((c.tc : Thread Cert.KernelAdamUp.nD Cert.KernelAdamUp.τ).loc Cert.KernelAdamUp.main_arg1)
      ∧ r.2.mem ((c.tc : Thread Cert.KernelAdamUp.nD Cert.KernelAdamUp.τ).loc Cert.KernelAdamUp.main_arg2) = m ((c.tc : Thread Cert.KernelAdamUp.nD Cert.KernelAdamUp.τ).loc Cert.KernelAdamUp.main_arg2)
      ∧ r.2.mem ((c.tc : Thread Cert.KernelAdamUp.nD Cert.KernelAdamUp.τ).loc Cert.KernelAdamUp.main_arg3) = m ((c.tc : Thread Cert.KernelAdamUp.nD Cert.KernelAdamUp.τ).loc Cert.KernelAdamUp.main_arg3))
      ∧ r.2.sem = fun _ => 0)

def quiescent_KernelAdamUpIdeal [hKernelAdamUpIdeal : Cert.KernelAdamUpIdeal.Facts] : Prop :=
  ∀ (m : (ℓ : Loc Cert.KernelAdamUpIdeal.nD Cert.KernelAdamUpIdeal.τ Cert.KernelAdamUpIdeal.sig) → Buf (Elt Ideal) ℓ) (g : Dev Cert.KernelAdamUpIdeal.nD → PrngReg), Pre_KernelAdamUpIdeal m →
    θ_run (Cert.KernelAdamUpIdeal.defs (F := Ideal)) (onTc (τ := Cert.KernelAdamUpIdeal.τ) (Cert.KernelAdamUpIdeal.main (F := Ideal))) ⟨m, fun _ => 0, g⟩ (fun r => (∀ c : Dev Cert.KernelAdamUpIdeal.nD,
      r.2.mem ((c.tc : Thread Cert.KernelAdamUpIdeal.nD Cert.KernelAdamUpIdeal.τ).loc Cert.KernelAdamUpIdeal.main_arg0) = m ((c.tc : Thread Cert.KernelAdamUpIdeal.nD Cert.KernelAdamUpIdeal.τ).loc Cert.KernelAdamUpIdeal.main_arg0)
      ∧ r.2.mem ((c.tc : Thread Cert.KernelAdamUpIdeal.nD Cert.KernelAdamUpIdeal.τ).loc Cert.KernelAdamUpIdeal.main_arg1) = m ((c.tc : Thread Cert.KernelAdamUpIdeal.nD Cert.KernelAdamUpIdeal.τ).loc Cert.KernelAdamUpIdeal.main_arg1)
      ∧ r.2.mem ((c.tc : Thread Cert.KernelAdamUpIdeal.nD Cert.KernelAdamUpIdeal.τ).loc Cert.KernelAdamUpIdeal.main_arg2) = m ((c.tc : Thread Cert.KernelAdamUpIdeal.nD Cert.KernelAdamUpIdeal.τ).loc Cert.KernelAdamUpIdeal.main_arg2)
      ∧ r.2.mem ((c.tc : Thread Cert.KernelAdamUpIdeal.nD Cert.KernelAdamUpIdeal.τ).loc Cert.KernelAdamUpIdeal.main_arg3) = m ((c.tc : Thread Cert.KernelAdamUpIdeal.nD Cert.KernelAdamUpIdeal.τ).loc Cert.KernelAdamUpIdeal.main_arg3))
      ∧ r.2.sem = fun _ => 0)

def quiescent_ReferenceAdamUpIdeal [hReferenceAdamUpIdeal : Cert.ReferenceAdamUpIdeal.Facts] : Prop :=
  ∀ (m : (ℓ : Loc Cert.ReferenceAdamUpIdeal.nD Cert.ReferenceAdamUpIdeal.τ Cert.ReferenceAdamUpIdeal.sig) → Buf (Elt Ideal) ℓ) (g : Dev Cert.ReferenceAdamUpIdeal.nD → PrngReg), Pre_ReferenceAdamUpIdeal m →
    θ_run (Cert.ReferenceAdamUpIdeal.defs (F := Ideal)) (onTc (τ := Cert.ReferenceAdamUpIdeal.τ) (Cert.ReferenceAdamUpIdeal.main (F := Ideal))) ⟨m, fun _ => 0, g⟩ (fun r => (∀ c : Dev Cert.ReferenceAdamUpIdeal.nD,
      r.2.mem ((c.tc : Thread Cert.ReferenceAdamUpIdeal.nD Cert.ReferenceAdamUpIdeal.τ).loc Cert.ReferenceAdamUpIdeal.main_arg0) = m ((c.tc : Thread Cert.ReferenceAdamUpIdeal.nD Cert.ReferenceAdamUpIdeal.τ).loc Cert.ReferenceAdamUpIdeal.main_arg0)
      ∧ r.2.mem ((c.tc : Thread Cert.ReferenceAdamUpIdeal.nD Cert.ReferenceAdamUpIdeal.τ).loc Cert.ReferenceAdamUpIdeal.main_arg1) = m ((c.tc : Thread Cert.ReferenceAdamUpIdeal.nD Cert.ReferenceAdamUpIdeal.τ).loc Cert.ReferenceAdamUpIdeal.main_arg1)
      ∧ r.2.mem ((c.tc : Thread Cert.ReferenceAdamUpIdeal.nD Cert.ReferenceAdamUpIdeal.τ).loc Cert.ReferenceAdamUpIdeal.main_arg2) = m ((c.tc : Thread Cert.ReferenceAdamUpIdeal.nD Cert.ReferenceAdamUpIdeal.τ).loc Cert.ReferenceAdamUpIdeal.main_arg2)
      ∧ r.2.mem ((c.tc : Thread Cert.ReferenceAdamUpIdeal.nD Cert.ReferenceAdamUpIdeal.τ).loc Cert.ReferenceAdamUpIdeal.main_arg3) = m ((c.tc : Thread Cert.ReferenceAdamUpIdeal.nD Cert.ReferenceAdamUpIdeal.τ).loc Cert.ReferenceAdamUpIdeal.main_arg3))
      ∧ r.2.sem = fun _ => 0)

def quiescent_KernelAdamDown [hKernelAdamDown : Cert.KernelAdamDown.Facts] : Prop :=
  ∀ (m : (ℓ : Loc Cert.KernelAdamDown.nD Cert.KernelAdamDown.τ Cert.KernelAdamDown.sig) → Buf (Elt Bits) ℓ) (g : Dev Cert.KernelAdamDown.nD → PrngReg), Pre_KernelAdamDown m →
    θ_run (Cert.KernelAdamDown.defs (F := Bits)) (onTc (τ := Cert.KernelAdamDown.τ) (Cert.KernelAdamDown.main (F := Bits))) ⟨m, fun _ => 0, g⟩ (fun r => (∀ c : Dev Cert.KernelAdamDown.nD,
      r.2.mem ((c.tc : Thread Cert.KernelAdamDown.nD Cert.KernelAdamDown.τ).loc Cert.KernelAdamDown.main_arg0) = m ((c.tc : Thread Cert.KernelAdamDown.nD Cert.KernelAdamDown.τ).loc Cert.KernelAdamDown.main_arg0)
      ∧ r.2.mem ((c.tc : Thread Cert.KernelAdamDown.nD Cert.KernelAdamDown.τ).loc Cert.KernelAdamDown.main_arg1) = m ((c.tc : Thread Cert.KernelAdamDown.nD Cert.KernelAdamDown.τ).loc Cert.KernelAdamDown.main_arg1)
      ∧ r.2.mem ((c.tc : Thread Cert.KernelAdamDown.nD Cert.KernelAdamDown.τ).loc Cert.KernelAdamDown.main_arg2) = m ((c.tc : Thread Cert.KernelAdamDown.nD Cert.KernelAdamDown.τ).loc Cert.KernelAdamDown.main_arg2)
      ∧ r.2.mem ((c.tc : Thread Cert.KernelAdamDown.nD Cert.KernelAdamDown.τ).loc Cert.KernelAdamDown.main_arg3) = m ((c.tc : Thread Cert.KernelAdamDown.nD Cert.KernelAdamDown.τ).loc Cert.KernelAdamDown.main_arg3))
      ∧ r.2.sem = fun _ => 0)

def quiescent_KernelAdamDownIdeal [hKernelAdamDownIdeal : Cert.KernelAdamDownIdeal.Facts] : Prop :=
  ∀ (m : (ℓ : Loc Cert.KernelAdamDownIdeal.nD Cert.KernelAdamDownIdeal.τ Cert.KernelAdamDownIdeal.sig) → Buf (Elt Ideal) ℓ) (g : Dev Cert.KernelAdamDownIdeal.nD → PrngReg), Pre_KernelAdamDownIdeal m →
    θ_run (Cert.KernelAdamDownIdeal.defs (F := Ideal)) (onTc (τ := Cert.KernelAdamDownIdeal.τ) (Cert.KernelAdamDownIdeal.main (F := Ideal))) ⟨m, fun _ => 0, g⟩ (fun r => (∀ c : Dev Cert.KernelAdamDownIdeal.nD,
      r.2.mem ((c.tc : Thread Cert.KernelAdamDownIdeal.nD Cert.KernelAdamDownIdeal.τ).loc Cert.KernelAdamDownIdeal.main_arg0) = m ((c.tc : Thread Cert.KernelAdamDownIdeal.nD Cert.KernelAdamDownIdeal.τ).loc Cert.KernelAdamDownIdeal.main_arg0)
      ∧ r.2.mem ((c.tc : Thread Cert.KernelAdamDownIdeal.nD Cert.KernelAdamDownIdeal.τ).loc Cert.KernelAdamDownIdeal.main_arg1) = m ((c.tc : Thread Cert.KernelAdamDownIdeal.nD Cert.KernelAdamDownIdeal.τ).loc Cert.KernelAdamDownIdeal.main_arg1)
      ∧ r.2.mem ((c.tc : Thread Cert.KernelAdamDownIdeal.nD Cert.KernelAdamDownIdeal.τ).loc Cert.KernelAdamDownIdeal.main_arg2) = m ((c.tc : Thread Cert.KernelAdamDownIdeal.nD Cert.KernelAdamDownIdeal.τ).loc Cert.KernelAdamDownIdeal.main_arg2)
      ∧ r.2.mem ((c.tc : Thread Cert.KernelAdamDownIdeal.nD Cert.KernelAdamDownIdeal.τ).loc Cert.KernelAdamDownIdeal.main_arg3) = m ((c.tc : Thread Cert.KernelAdamDownIdeal.nD Cert.KernelAdamDownIdeal.τ).loc Cert.KernelAdamDownIdeal.main_arg3))
      ∧ r.2.sem = fun _ => 0)

def quiescent_ReferenceAdamDownIdeal [hReferenceAdamDownIdeal : Cert.ReferenceAdamDownIdeal.Facts] : Prop :=
  ∀ (m : (ℓ : Loc Cert.ReferenceAdamDownIdeal.nD Cert.ReferenceAdamDownIdeal.τ Cert.ReferenceAdamDownIdeal.sig) → Buf (Elt Ideal) ℓ) (g : Dev Cert.ReferenceAdamDownIdeal.nD → PrngReg), Pre_ReferenceAdamDownIdeal m →
    θ_run (Cert.ReferenceAdamDownIdeal.defs (F := Ideal)) (onTc (τ := Cert.ReferenceAdamDownIdeal.τ) (Cert.ReferenceAdamDownIdeal.main (F := Ideal))) ⟨m, fun _ => 0, g⟩ (fun r => (∀ c : Dev Cert.ReferenceAdamDownIdeal.nD,
      r.2.mem ((c.tc : Thread Cert.ReferenceAdamDownIdeal.nD Cert.ReferenceAdamDownIdeal.τ).loc Cert.ReferenceAdamDownIdeal.main_arg0) = m ((c.tc : Thread Cert.ReferenceAdamDownIdeal.nD Cert.ReferenceAdamDownIdeal.τ).loc Cert.ReferenceAdamDownIdeal.main_arg0)
      ∧ r.2.mem ((c.tc : Thread Cert.ReferenceAdamDownIdeal.nD Cert.ReferenceAdamDownIdeal.τ).loc Cert.ReferenceAdamDownIdeal.main_arg1) = m ((c.tc : Thread Cert.ReferenceAdamDownIdeal.nD Cert.ReferenceAdamDownIdeal.τ).loc Cert.ReferenceAdamDownIdeal.main_arg1)
      ∧ r.2.mem ((c.tc : Thread Cert.ReferenceAdamDownIdeal.nD Cert.ReferenceAdamDownIdeal.τ).loc Cert.ReferenceAdamDownIdeal.main_arg2) = m ((c.tc : Thread Cert.ReferenceAdamDownIdeal.nD Cert.ReferenceAdamDownIdeal.τ).loc Cert.ReferenceAdamDownIdeal.main_arg2)
      ∧ r.2.mem ((c.tc : Thread Cert.ReferenceAdamDownIdeal.nD Cert.ReferenceAdamDownIdeal.τ).loc Cert.ReferenceAdamDownIdeal.main_arg3) = m ((c.tc : Thread Cert.ReferenceAdamDownIdeal.nD Cert.ReferenceAdamDownIdeal.τ).loc Cert.ReferenceAdamDownIdeal.main_arg3))
      ∧ r.2.sem = fun _ => 0)

def quiescent_KernelSum [hKernelSum : Cert.KernelSum.Facts] : Prop :=
  ∀ (m : (ℓ : Loc Cert.KernelSum.nD Cert.KernelSum.τ Cert.KernelSum.sig) → Buf (Elt Bits) ℓ) (g : Dev Cert.KernelSum.nD → PrngReg), Pre_KernelSum m →
    θ_run (Cert.KernelSum.defs (F := Bits)) (onTc (τ := Cert.KernelSum.τ) (Cert.KernelSum.main (F := Bits))) ⟨m, fun _ => 0, g⟩ (fun r => (∀ c : Dev Cert.KernelSum.nD,
      r.2.mem ((c.tc : Thread Cert.KernelSum.nD Cert.KernelSum.τ).loc Cert.KernelSum.main_arg0) = m ((c.tc : Thread Cert.KernelSum.nD Cert.KernelSum.τ).loc Cert.KernelSum.main_arg0))
      ∧ r.2.sem = fun _ => 0)

def quiescent_KernelSumIdeal [hKernelSumIdeal : Cert.KernelSumIdeal.Facts] : Prop :=
  ∀ (m : (ℓ : Loc Cert.KernelSumIdeal.nD Cert.KernelSumIdeal.τ Cert.KernelSumIdeal.sig) → Buf (Elt Ideal) ℓ) (g : Dev Cert.KernelSumIdeal.nD → PrngReg), Pre_KernelSumIdeal m →
    θ_run (Cert.KernelSumIdeal.defs (F := Ideal)) (onTc (τ := Cert.KernelSumIdeal.τ) (Cert.KernelSumIdeal.main (F := Ideal))) ⟨m, fun _ => 0, g⟩ (fun r => (∀ c : Dev Cert.KernelSumIdeal.nD,
      r.2.mem ((c.tc : Thread Cert.KernelSumIdeal.nD Cert.KernelSumIdeal.τ).loc Cert.KernelSumIdeal.main_arg0) = m ((c.tc : Thread Cert.KernelSumIdeal.nD Cert.KernelSumIdeal.τ).loc Cert.KernelSumIdeal.main_arg0))
      ∧ r.2.sem = fun _ => 0)

def quiescent_ReferenceSumIdeal [hReferenceSumIdeal : Cert.ReferenceSumIdeal.Facts] : Prop :=
  ∀ (m : (ℓ : Loc Cert.ReferenceSumIdeal.nD Cert.ReferenceSumIdeal.τ Cert.ReferenceSumIdeal.sig) → Buf (Elt Ideal) ℓ) (g : Dev Cert.ReferenceSumIdeal.nD → PrngReg), Pre_ReferenceSumIdeal m →
    θ_run (Cert.ReferenceSumIdeal.defs (F := Ideal)) (onTc (τ := Cert.ReferenceSumIdeal.τ) (Cert.ReferenceSumIdeal.main (F := Ideal))) ⟨m, fun _ => 0, g⟩ (fun r => (∀ c : Dev Cert.ReferenceSumIdeal.nD,
      r.2.mem ((c.tc : Thread Cert.ReferenceSumIdeal.nD Cert.ReferenceSumIdeal.τ).loc Cert.ReferenceSumIdeal.main_arg0) = m ((c.tc : Thread Cert.ReferenceSumIdeal.nD Cert.ReferenceSumIdeal.τ).loc Cert.ReferenceSumIdeal.main_arg0))
      ∧ r.2.sem = fun _ => 0)

def quiescent_KernelDt [hKernelDt : Cert.KernelDt.Facts] : Prop :=
  ∀ (m : (ℓ : Loc Cert.KernelDt.nD Cert.KernelDt.τ Cert.KernelDt.sig) → Buf (Elt Bits) ℓ) (g : Dev Cert.KernelDt.nD → PrngReg), Pre_KernelDt m →
    θ_run (Cert.KernelDt.defs (F := Bits)) (onTc (τ := Cert.KernelDt.τ) (Cert.KernelDt.main (F := Bits))) ⟨m, fun _ => 0, g⟩ (fun r => (∀ c : Dev Cert.KernelDt.nD,
      r.2.mem ((c.tc : Thread Cert.KernelDt.nD Cert.KernelDt.τ).loc Cert.KernelDt.main_arg0) = m ((c.tc : Thread Cert.KernelDt.nD Cert.KernelDt.τ).loc Cert.KernelDt.main_arg0)
      ∧ r.2.mem ((c.tc : Thread Cert.KernelDt.nD Cert.KernelDt.τ).loc Cert.KernelDt.main_arg1) = m ((c.tc : Thread Cert.KernelDt.nD Cert.KernelDt.τ).loc Cert.KernelDt.main_arg1))
      ∧ r.2.sem = fun _ => 0)

def quiescent_KernelDtIdeal [hKernelDtIdeal : Cert.KernelDtIdeal.Facts] : Prop :=
  ∀ (m : (ℓ : Loc Cert.KernelDtIdeal.nD Cert.KernelDtIdeal.τ Cert.KernelDtIdeal.sig) → Buf (Elt Ideal) ℓ) (g : Dev Cert.KernelDtIdeal.nD → PrngReg), Pre_KernelDtIdeal m →
    θ_run (Cert.KernelDtIdeal.defs (F := Ideal)) (onTc (τ := Cert.KernelDtIdeal.τ) (Cert.KernelDtIdeal.main (F := Ideal))) ⟨m, fun _ => 0, g⟩ (fun r => (∀ c : Dev Cert.KernelDtIdeal.nD,
      r.2.mem ((c.tc : Thread Cert.KernelDtIdeal.nD Cert.KernelDtIdeal.τ).loc Cert.KernelDtIdeal.main_arg0) = m ((c.tc : Thread Cert.KernelDtIdeal.nD Cert.KernelDtIdeal.τ).loc Cert.KernelDtIdeal.main_arg0)
      ∧ r.2.mem ((c.tc : Thread Cert.KernelDtIdeal.nD Cert.KernelDtIdeal.τ).loc Cert.KernelDtIdeal.main_arg1) = m ((c.tc : Thread Cert.KernelDtIdeal.nD Cert.KernelDtIdeal.τ).loc Cert.KernelDtIdeal.main_arg1))
      ∧ r.2.sem = fun _ => 0)

def quiescent_ReferenceDtIdeal [hReferenceDtIdeal : Cert.ReferenceDtIdeal.Facts] : Prop :=
  ∀ (m : (ℓ : Loc Cert.ReferenceDtIdeal.nD Cert.ReferenceDtIdeal.τ Cert.ReferenceDtIdeal.sig) → Buf (Elt Ideal) ℓ) (g : Dev Cert.ReferenceDtIdeal.nD → PrngReg), Pre_ReferenceDtIdeal m →
    θ_run (Cert.ReferenceDtIdeal.defs (F := Ideal)) (onTc (τ := Cert.ReferenceDtIdeal.τ) (Cert.ReferenceDtIdeal.main (F := Ideal))) ⟨m, fun _ => 0, g⟩ (fun r => (∀ c : Dev Cert.ReferenceDtIdeal.nD,
      r.2.mem ((c.tc : Thread Cert.ReferenceDtIdeal.nD Cert.ReferenceDtIdeal.τ).loc Cert.ReferenceDtIdeal.main_arg0) = m ((c.tc : Thread Cert.ReferenceDtIdeal.nD Cert.ReferenceDtIdeal.τ).loc Cert.ReferenceDtIdeal.main_arg0)
      ∧ r.2.mem ((c.tc : Thread Cert.ReferenceDtIdeal.nD Cert.ReferenceDtIdeal.τ).loc Cert.ReferenceDtIdeal.main_arg1) = m ((c.tc : Thread Cert.ReferenceDtIdeal.nD Cert.ReferenceDtIdeal.τ).loc Cert.ReferenceDtIdeal.main_arg1))
      ∧ r.2.sem = fun _ => 0)

def quiescent_KernelWdt [hKernelWdt : Cert.KernelWdt.Facts] : Prop :=
  ∀ (m : (ℓ : Loc Cert.KernelWdt.nD Cert.KernelWdt.τ Cert.KernelWdt.sig) → Buf (Elt Bits) ℓ) (g : Dev Cert.KernelWdt.nD → PrngReg), Pre_KernelWdt m →
    θ_run (Cert.KernelWdt.defs (F := Bits)) (onTc (τ := Cert.KernelWdt.τ) (Cert.KernelWdt.main (F := Bits))) ⟨m, fun _ => 0, g⟩ (fun r => (∀ c : Dev Cert.KernelWdt.nD,
      r.2.mem ((c.tc : Thread Cert.KernelWdt.nD Cert.KernelWdt.τ).loc Cert.KernelWdt.main_arg0) = m ((c.tc : Thread Cert.KernelWdt.nD Cert.KernelWdt.τ).loc Cert.KernelWdt.main_arg0)
      ∧ r.2.mem ((c.tc : Thread Cert.KernelWdt.nD Cert.KernelWdt.τ).loc Cert.KernelWdt.main_arg1) = m ((c.tc : Thread Cert.KernelWdt.nD Cert.KernelWdt.τ).loc Cert.KernelWdt.main_arg1))
      ∧ r.2.sem = fun _ => 0)

def quiescent_KernelWdtIdeal [hKernelWdtIdeal : Cert.KernelWdtIdeal.Facts] : Prop :=
  ∀ (m : (ℓ : Loc Cert.KernelWdtIdeal.nD Cert.KernelWdtIdeal.τ Cert.KernelWdtIdeal.sig) → Buf (Elt Ideal) ℓ) (g : Dev Cert.KernelWdtIdeal.nD → PrngReg), Pre_KernelWdtIdeal m →
    θ_run (Cert.KernelWdtIdeal.defs (F := Ideal)) (onTc (τ := Cert.KernelWdtIdeal.τ) (Cert.KernelWdtIdeal.main (F := Ideal))) ⟨m, fun _ => 0, g⟩ (fun r => (∀ c : Dev Cert.KernelWdtIdeal.nD,
      r.2.mem ((c.tc : Thread Cert.KernelWdtIdeal.nD Cert.KernelWdtIdeal.τ).loc Cert.KernelWdtIdeal.main_arg0) = m ((c.tc : Thread Cert.KernelWdtIdeal.nD Cert.KernelWdtIdeal.τ).loc Cert.KernelWdtIdeal.main_arg0)
      ∧ r.2.mem ((c.tc : Thread Cert.KernelWdtIdeal.nD Cert.KernelWdtIdeal.τ).loc Cert.KernelWdtIdeal.main_arg1) = m ((c.tc : Thread Cert.KernelWdtIdeal.nD Cert.KernelWdtIdeal.τ).loc Cert.KernelWdtIdeal.main_arg1))
      ∧ r.2.sem = fun _ => 0)

def quiescent_ReferenceWdtIdeal [hReferenceWdtIdeal : Cert.ReferenceWdtIdeal.Facts] : Prop :=
  ∀ (m : (ℓ : Loc Cert.ReferenceWdtIdeal.nD Cert.ReferenceWdtIdeal.τ Cert.ReferenceWdtIdeal.sig) → Buf (Elt Ideal) ℓ) (g : Dev Cert.ReferenceWdtIdeal.nD → PrngReg), Pre_ReferenceWdtIdeal m →
    θ_run (Cert.ReferenceWdtIdeal.defs (F := Ideal)) (onTc (τ := Cert.ReferenceWdtIdeal.τ) (Cert.ReferenceWdtIdeal.main (F := Ideal))) ⟨m, fun _ => 0, g⟩ (fun r => (∀ c : Dev Cert.ReferenceWdtIdeal.nD,
      r.2.mem ((c.tc : Thread Cert.ReferenceWdtIdeal.nD Cert.ReferenceWdtIdeal.τ).loc Cert.ReferenceWdtIdeal.main_arg0) = m ((c.tc : Thread Cert.ReferenceWdtIdeal.nD Cert.ReferenceWdtIdeal.τ).loc Cert.ReferenceWdtIdeal.main_arg0)
      ∧ r.2.mem ((c.tc : Thread Cert.ReferenceWdtIdeal.nD Cert.ReferenceWdtIdeal.τ).loc Cert.ReferenceWdtIdeal.main_arg1) = m ((c.tc : Thread Cert.ReferenceWdtIdeal.nD Cert.ReferenceWdtIdeal.τ).loc Cert.ReferenceWdtIdeal.main_arg1))
      ∧ r.2.sem = fun _ => 0)

def quiescent_KernelDx [hKernelDx : Cert.KernelDx.Facts] : Prop :=
  ∀ (m : (ℓ : Loc Cert.KernelDx.nD Cert.KernelDx.τ Cert.KernelDx.sig) → Buf (Elt Bits) ℓ) (g : Dev Cert.KernelDx.nD → PrngReg), Pre_KernelDx m →
    θ_run (Cert.KernelDx.defs (F := Bits)) (onTc (τ := Cert.KernelDx.τ) (Cert.KernelDx.main (F := Bits))) ⟨m, fun _ => 0, g⟩ (fun r => (∀ c : Dev Cert.KernelDx.nD,
      r.2.mem ((c.tc : Thread Cert.KernelDx.nD Cert.KernelDx.τ).loc Cert.KernelDx.main_arg0) = m ((c.tc : Thread Cert.KernelDx.nD Cert.KernelDx.τ).loc Cert.KernelDx.main_arg0)
      ∧ r.2.mem ((c.tc : Thread Cert.KernelDx.nD Cert.KernelDx.τ).loc Cert.KernelDx.main_arg1) = m ((c.tc : Thread Cert.KernelDx.nD Cert.KernelDx.τ).loc Cert.KernelDx.main_arg1)
      ∧ r.2.mem ((c.tc : Thread Cert.KernelDx.nD Cert.KernelDx.τ).loc Cert.KernelDx.main_arg2) = m ((c.tc : Thread Cert.KernelDx.nD Cert.KernelDx.τ).loc Cert.KernelDx.main_arg2)
      ∧ r.2.mem ((c.tc : Thread Cert.KernelDx.nD Cert.KernelDx.τ).loc Cert.KernelDx.main_arg3) = m ((c.tc : Thread Cert.KernelDx.nD Cert.KernelDx.τ).loc Cert.KernelDx.main_arg3))
      ∧ r.2.sem = fun _ => 0)

def quiescent_KernelDxIdeal [hKernelDxIdeal : Cert.KernelDxIdeal.Facts] : Prop :=
  ∀ (m : (ℓ : Loc Cert.KernelDxIdeal.nD Cert.KernelDxIdeal.τ Cert.KernelDxIdeal.sig) → Buf (Elt Ideal) ℓ) (g : Dev Cert.KernelDxIdeal.nD → PrngReg), Pre_KernelDxIdeal m →
    θ_run (Cert.KernelDxIdeal.defs (F := Ideal)) (onTc (τ := Cert.KernelDxIdeal.τ) (Cert.KernelDxIdeal.main (F := Ideal))) ⟨m, fun _ => 0, g⟩ (fun r => (∀ c : Dev Cert.KernelDxIdeal.nD,
      r.2.mem ((c.tc : Thread Cert.KernelDxIdeal.nD Cert.KernelDxIdeal.τ).loc Cert.KernelDxIdeal.main_arg0) = m ((c.tc : Thread Cert.KernelDxIdeal.nD Cert.KernelDxIdeal.τ).loc Cert.KernelDxIdeal.main_arg0)
      ∧ r.2.mem ((c.tc : Thread Cert.KernelDxIdeal.nD Cert.KernelDxIdeal.τ).loc Cert.KernelDxIdeal.main_arg1) = m ((c.tc : Thread Cert.KernelDxIdeal.nD Cert.KernelDxIdeal.τ).loc Cert.KernelDxIdeal.main_arg1)
      ∧ r.2.mem ((c.tc : Thread Cert.KernelDxIdeal.nD Cert.KernelDxIdeal.τ).loc Cert.KernelDxIdeal.main_arg2) = m ((c.tc : Thread Cert.KernelDxIdeal.nD Cert.KernelDxIdeal.τ).loc Cert.KernelDxIdeal.main_arg2)
      ∧ r.2.mem ((c.tc : Thread Cert.KernelDxIdeal.nD Cert.KernelDxIdeal.τ).loc Cert.KernelDxIdeal.main_arg3) = m ((c.tc : Thread Cert.KernelDxIdeal.nD Cert.KernelDxIdeal.τ).loc Cert.KernelDxIdeal.main_arg3))
      ∧ r.2.sem = fun _ => 0)

def quiescent_ReferenceDxIdeal [hReferenceDxIdeal : Cert.ReferenceDxIdeal.Facts] : Prop :=
  ∀ (m : (ℓ : Loc Cert.ReferenceDxIdeal.nD Cert.ReferenceDxIdeal.τ Cert.ReferenceDxIdeal.sig) → Buf (Elt Ideal) ℓ) (g : Dev Cert.ReferenceDxIdeal.nD → PrngReg), Pre_ReferenceDxIdeal m →
    θ_run (Cert.ReferenceDxIdeal.defs (F := Ideal)) (onTc (τ := Cert.ReferenceDxIdeal.τ) (Cert.ReferenceDxIdeal.main (F := Ideal))) ⟨m, fun _ => 0, g⟩ (fun r => (∀ c : Dev Cert.ReferenceDxIdeal.nD,
      r.2.mem ((c.tc : Thread Cert.ReferenceDxIdeal.nD Cert.ReferenceDxIdeal.τ).loc Cert.ReferenceDxIdeal.main_arg0) = m ((c.tc : Thread Cert.ReferenceDxIdeal.nD Cert.ReferenceDxIdeal.τ).loc Cert.ReferenceDxIdeal.main_arg0)
      ∧ r.2.mem ((c.tc : Thread Cert.ReferenceDxIdeal.nD Cert.ReferenceDxIdeal.τ).loc Cert.ReferenceDxIdeal.main_arg1) = m ((c.tc : Thread Cert.ReferenceDxIdeal.nD Cert.ReferenceDxIdeal.τ).loc Cert.ReferenceDxIdeal.main_arg1)
      ∧ r.2.mem ((c.tc : Thread Cert.ReferenceDxIdeal.nD Cert.ReferenceDxIdeal.τ).loc Cert.ReferenceDxIdeal.main_arg2) = m ((c.tc : Thread Cert.ReferenceDxIdeal.nD Cert.ReferenceDxIdeal.τ).loc Cert.ReferenceDxIdeal.main_arg2)
      ∧ r.2.mem ((c.tc : Thread Cert.ReferenceDxIdeal.nD Cert.ReferenceDxIdeal.τ).loc Cert.ReferenceDxIdeal.main_arg3) = m ((c.tc : Thread Cert.ReferenceDxIdeal.nD Cert.ReferenceDxIdeal.τ).loc Cert.ReferenceDxIdeal.main_arg3))
      ∧ r.2.sem = fun _ => 0)

def preserves_KernelSsd_KernelSsdIdeal : Prop :=
  IdealRules.named_const.Statement Cert.KernelSsdIdeal.κ "mask" .f32 0xF149F2CA#32 ⊥

def algebraic_KernelSsdIdeal_ReferenceSsdIdeal_pre_finite [hKernelSsdIdeal : Cert.KernelSsdIdeal.Facts] [hReferenceSsdIdeal : Cert.ReferenceSsdIdeal.Facts] [hPre_finite : Cert.Pre_finite.Facts] : Prop :=
  ∀ (m : (ℓ : Loc Cert.KernelSsdIdeal.nD Cert.KernelSsdIdeal.τ Cert.KernelSsdIdeal.sig) → Buf (Elt Ideal) ℓ) (g : Dev Cert.KernelSsdIdeal.nD → PrngReg)
    (m' : (ℓ : Loc Cert.ReferenceSsdIdeal.nD Cert.ReferenceSsdIdeal.τ Cert.ReferenceSsdIdeal.sig) → Buf (Elt Ideal) ℓ) (g' : Dev Cert.ReferenceSsdIdeal.nD → PrngReg), Pre_KernelSsdIdeal_finite m →
    (∀ c : Dev Cert.KernelSsdIdeal.nD,
      m' ((c.tc : Thread Cert.ReferenceSsdIdeal.nD Cert.ReferenceSsdIdeal.τ).loc Cert.ReferenceSsdIdeal.main_arg0) = m ((c.tc : Thread Cert.KernelSsdIdeal.nD Cert.KernelSsdIdeal.τ).loc Cert.KernelSsdIdeal.main_arg0)
      ∧ m' ((c.tc : Thread Cert.ReferenceSsdIdeal.nD Cert.ReferenceSsdIdeal.τ).loc Cert.ReferenceSsdIdeal.main_arg1) = m ((c.tc : Thread Cert.KernelSsdIdeal.nD Cert.KernelSsdIdeal.τ).loc Cert.KernelSsdIdeal.main_arg1)
      ∧ m' ((c.tc : Thread Cert.ReferenceSsdIdeal.nD Cert.ReferenceSsdIdeal.τ).loc Cert.ReferenceSsdIdeal.main_arg2) = m ((c.tc : Thread Cert.KernelSsdIdeal.nD Cert.KernelSsdIdeal.τ).loc Cert.KernelSsdIdeal.main_arg2)
      ∧ m' ((c.tc : Thread Cert.ReferenceSsdIdeal.nD Cert.ReferenceSsdIdeal.τ).loc Cert.ReferenceSsdIdeal.main_arg3) = m ((c.tc : Thread Cert.KernelSsdIdeal.nD Cert.KernelSsdIdeal.τ).loc Cert.KernelSsdIdeal.main_arg3)
      ∧ m' ((c.tc : Thread Cert.ReferenceSsdIdeal.nD Cert.ReferenceSsdIdeal.τ).loc Cert.ReferenceSsdIdeal.main_arg4) = m ((c.tc : Thread Cert.KernelSsdIdeal.nD Cert.KernelSsdIdeal.τ).loc Cert.KernelSsdIdeal.main_arg4)
      ∧ m' ((c.tc : Thread Cert.ReferenceSsdIdeal.nD Cert.ReferenceSsdIdeal.τ).loc Cert.ReferenceSsdIdeal.main_arg5) = m ((c.tc : Thread Cert.KernelSsdIdeal.nD Cert.KernelSsdIdeal.τ).loc Cert.KernelSsdIdeal.main_arg5)) →
    ∃ (v0 : (c : Dev Cert.KernelSsdIdeal.nD) → Buf (Elt Ideal) ((c.tc : Thread Cert.KernelSsdIdeal.nD Cert.KernelSsdIdeal.τ).loc Cert.KernelSsdIdeal.main_v72_0)),
      θ_run (Cert.KernelSsdIdeal.defs (F := Ideal)) (onTc (τ := Cert.KernelSsdIdeal.τ) (Cert.KernelSsdIdeal.main (F := Ideal))) ⟨m, fun _ => 0, g⟩ (fun r => ∀ c : Dev Cert.KernelSsdIdeal.nD,
          r.2.mem ((c.tc : Thread Cert.KernelSsdIdeal.nD Cert.KernelSsdIdeal.τ).loc Cert.KernelSsdIdeal.main_v72_0) = v0 c
          ∧ r.2.mem ((c.tc : Thread Cert.KernelSsdIdeal.nD Cert.KernelSsdIdeal.τ).loc Cert.KernelSsdIdeal.main_arg0) = m ((c.tc : Thread Cert.KernelSsdIdeal.nD Cert.KernelSsdIdeal.τ).loc Cert.KernelSsdIdeal.main_arg0)
          ∧ r.2.mem ((c.tc : Thread Cert.KernelSsdIdeal.nD Cert.KernelSsdIdeal.τ).loc Cert.KernelSsdIdeal.main_arg1) = m ((c.tc : Thread Cert.KernelSsdIdeal.nD Cert.KernelSsdIdeal.τ).loc Cert.KernelSsdIdeal.main_arg1)
          ∧ r.2.mem ((c.tc : Thread Cert.KernelSsdIdeal.nD Cert.KernelSsdIdeal.τ).loc Cert.KernelSsdIdeal.main_arg2) = m ((c.tc : Thread Cert.KernelSsdIdeal.nD Cert.KernelSsdIdeal.τ).loc Cert.KernelSsdIdeal.main_arg2)
          ∧ r.2.mem ((c.tc : Thread Cert.KernelSsdIdeal.nD Cert.KernelSsdIdeal.τ).loc Cert.KernelSsdIdeal.main_arg3) = m ((c.tc : Thread Cert.KernelSsdIdeal.nD Cert.KernelSsdIdeal.τ).loc Cert.KernelSsdIdeal.main_arg3)
          ∧ r.2.mem ((c.tc : Thread Cert.KernelSsdIdeal.nD Cert.KernelSsdIdeal.τ).loc Cert.KernelSsdIdeal.main_arg4) = m ((c.tc : Thread Cert.KernelSsdIdeal.nD Cert.KernelSsdIdeal.τ).loc Cert.KernelSsdIdeal.main_arg4)
          ∧ r.2.mem ((c.tc : Thread Cert.KernelSsdIdeal.nD Cert.KernelSsdIdeal.τ).loc Cert.KernelSsdIdeal.main_arg5) = m ((c.tc : Thread Cert.KernelSsdIdeal.nD Cert.KernelSsdIdeal.τ).loc Cert.KernelSsdIdeal.main_arg5))
      ∧ θ_run (Cert.ReferenceSsdIdeal.defs (F := Ideal)) (onTc (τ := Cert.ReferenceSsdIdeal.τ) (Cert.ReferenceSsdIdeal.main (F := Ideal))) ⟨m', fun _ => 0, g'⟩ (fun r => ∀ c : Dev Cert.ReferenceSsdIdeal.nD,
          r.2.mem ((c.tc : Thread Cert.ReferenceSsdIdeal.nD Cert.ReferenceSsdIdeal.τ).loc Cert.ReferenceSsdIdeal.main_v66) = v0 c
          ∧ r.2.mem ((c.tc : Thread Cert.ReferenceSsdIdeal.nD Cert.ReferenceSsdIdeal.τ).loc Cert.ReferenceSsdIdeal.main_arg0) = m' ((c.tc : Thread Cert.ReferenceSsdIdeal.nD Cert.ReferenceSsdIdeal.τ).loc Cert.ReferenceSsdIdeal.main_arg0)
          ∧ r.2.mem ((c.tc : Thread Cert.ReferenceSsdIdeal.nD Cert.ReferenceSsdIdeal.τ).loc Cert.ReferenceSsdIdeal.main_arg1) = m' ((c.tc : Thread Cert.ReferenceSsdIdeal.nD Cert.ReferenceSsdIdeal.τ).loc Cert.ReferenceSsdIdeal.main_arg1)
          ∧ r.2.mem ((c.tc : Thread Cert.ReferenceSsdIdeal.nD Cert.ReferenceSsdIdeal.τ).loc Cert.ReferenceSsdIdeal.main_arg2) = m' ((c.tc : Thread Cert.ReferenceSsdIdeal.nD Cert.ReferenceSsdIdeal.τ).loc Cert.ReferenceSsdIdeal.main_arg2)
          ∧ r.2.mem ((c.tc : Thread Cert.ReferenceSsdIdeal.nD Cert.ReferenceSsdIdeal.τ).loc Cert.ReferenceSsdIdeal.main_arg3) = m' ((c.tc : Thread Cert.ReferenceSsdIdeal.nD Cert.ReferenceSsdIdeal.τ).loc Cert.ReferenceSsdIdeal.main_arg3)
          ∧ r.2.mem ((c.tc : Thread Cert.ReferenceSsdIdeal.nD Cert.ReferenceSsdIdeal.τ).loc Cert.ReferenceSsdIdeal.main_arg4) = m' ((c.tc : Thread Cert.ReferenceSsdIdeal.nD Cert.ReferenceSsdIdeal.τ).loc Cert.ReferenceSsdIdeal.main_arg4)
          ∧ r.2.mem ((c.tc : Thread Cert.ReferenceSsdIdeal.nD Cert.ReferenceSsdIdeal.τ).loc Cert.ReferenceSsdIdeal.main_arg5) = m' ((c.tc : Thread Cert.ReferenceSsdIdeal.nD Cert.ReferenceSsdIdeal.τ).loc Cert.ReferenceSsdIdeal.main_arg5))

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_KernelWd_KernelWdIdeal : Prop :=
  True

def algebraic_KernelWdIdeal_ReferenceWdIdeal [hKernelWdIdeal : Cert.KernelWdIdeal.Facts] [hReferenceWdIdeal : Cert.ReferenceWdIdeal.Facts] : Prop :=
  ∀ (m : (ℓ : Loc Cert.KernelWdIdeal.nD Cert.KernelWdIdeal.τ Cert.KernelWdIdeal.sig) → Buf (Elt Ideal) ℓ) (g : Dev Cert.KernelWdIdeal.nD → PrngReg)
    (m' : (ℓ : Loc Cert.ReferenceWdIdeal.nD Cert.ReferenceWdIdeal.τ Cert.ReferenceWdIdeal.sig) → Buf (Elt Ideal) ℓ) (g' : Dev Cert.ReferenceWdIdeal.nD → PrngReg), Pre_KernelWdIdeal m →
    (∀ c : Dev Cert.KernelWdIdeal.nD,
      m' ((c.tc : Thread Cert.ReferenceWdIdeal.nD Cert.ReferenceWdIdeal.τ).loc Cert.ReferenceWdIdeal.main_arg0) = m ((c.tc : Thread Cert.KernelWdIdeal.nD Cert.KernelWdIdeal.τ).loc Cert.KernelWdIdeal.main_arg0)
      ∧ m' ((c.tc : Thread Cert.ReferenceWdIdeal.nD Cert.ReferenceWdIdeal.τ).loc Cert.ReferenceWdIdeal.main_arg1) = m ((c.tc : Thread Cert.KernelWdIdeal.nD Cert.KernelWdIdeal.τ).loc Cert.KernelWdIdeal.main_arg1)) →
    ∃ (v0 : (c : Dev Cert.KernelWdIdeal.nD) → Buf (Elt Ideal) ((c.tc : Thread Cert.KernelWdIdeal.nD Cert.KernelWdIdeal.τ).loc Cert.KernelWdIdeal.main_v0)),
      θ_run (Cert.KernelWdIdeal.defs (F := Ideal)) (onTc (τ := Cert.KernelWdIdeal.τ) (Cert.KernelWdIdeal.main (F := Ideal))) ⟨m, fun _ => 0, g⟩ (fun r => ∀ c : Dev Cert.KernelWdIdeal.nD,
          r.2.mem ((c.tc : Thread Cert.KernelWdIdeal.nD Cert.KernelWdIdeal.τ).loc Cert.KernelWdIdeal.main_v0) = v0 c
          ∧ r.2.mem ((c.tc : Thread Cert.KernelWdIdeal.nD Cert.KernelWdIdeal.τ).loc Cert.KernelWdIdeal.main_arg0) = m ((c.tc : Thread Cert.KernelWdIdeal.nD Cert.KernelWdIdeal.τ).loc Cert.KernelWdIdeal.main_arg0)
          ∧ r.2.mem ((c.tc : Thread Cert.KernelWdIdeal.nD Cert.KernelWdIdeal.τ).loc Cert.KernelWdIdeal.main_arg1) = m ((c.tc : Thread Cert.KernelWdIdeal.nD Cert.KernelWdIdeal.τ).loc Cert.KernelWdIdeal.main_arg1))
      ∧ θ_run (Cert.ReferenceWdIdeal.defs (F := Ideal)) (onTc (τ := Cert.ReferenceWdIdeal.τ) (Cert.ReferenceWdIdeal.main (F := Ideal))) ⟨m', fun _ => 0, g'⟩ (fun r => ∀ c : Dev Cert.ReferenceWdIdeal.nD,
          r.2.mem ((c.tc : Thread Cert.ReferenceWdIdeal.nD Cert.ReferenceWdIdeal.τ).loc Cert.ReferenceWdIdeal.main_v6) = v0 c
          ∧ r.2.mem ((c.tc : Thread Cert.ReferenceWdIdeal.nD Cert.ReferenceWdIdeal.τ).loc Cert.ReferenceWdIdeal.main_arg0) = m' ((c.tc : Thread Cert.ReferenceWdIdeal.nD Cert.ReferenceWdIdeal.τ).loc Cert.ReferenceWdIdeal.main_arg0)
          ∧ r.2.mem ((c.tc : Thread Cert.ReferenceWdIdeal.nD Cert.ReferenceWdIdeal.τ).loc Cert.ReferenceWdIdeal.main_arg1) = m' ((c.tc : Thread Cert.ReferenceWdIdeal.nD Cert.ReferenceWdIdeal.τ).loc Cert.ReferenceWdIdeal.main_arg1))

def preserves_KernelWdi_KernelWdiIdeal : Prop :=
  True

def algebraic_KernelWdiIdeal_ReferenceWdiIdeal [hKernelWdiIdeal : Cert.KernelWdiIdeal.Facts] [hReferenceWdiIdeal : Cert.ReferenceWdiIdeal.Facts] : Prop :=
  ∀ (m : (ℓ : Loc Cert.KernelWdiIdeal.nD Cert.KernelWdiIdeal.τ Cert.KernelWdiIdeal.sig) → Buf (Elt Ideal) ℓ) (g : Dev Cert.KernelWdiIdeal.nD → PrngReg)
    (m' : (ℓ : Loc Cert.ReferenceWdiIdeal.nD Cert.ReferenceWdiIdeal.τ Cert.ReferenceWdiIdeal.sig) → Buf (Elt Ideal) ℓ) (g' : Dev Cert.ReferenceWdiIdeal.nD → PrngReg), Pre_KernelWdiIdeal m →
    (∀ c : Dev Cert.KernelWdiIdeal.nD,
      m' ((c.tc : Thread Cert.ReferenceWdiIdeal.nD Cert.ReferenceWdiIdeal.τ).loc Cert.ReferenceWdiIdeal.main_arg0) = m ((c.tc : Thread Cert.KernelWdiIdeal.nD Cert.KernelWdiIdeal.τ).loc Cert.KernelWdiIdeal.main_arg0)
      ∧ m' ((c.tc : Thread Cert.ReferenceWdiIdeal.nD Cert.ReferenceWdiIdeal.τ).loc Cert.ReferenceWdiIdeal.main_arg1) = m ((c.tc : Thread Cert.KernelWdiIdeal.nD Cert.KernelWdiIdeal.τ).loc Cert.KernelWdiIdeal.main_arg1)) →
    ∃ (v0 : (c : Dev Cert.KernelWdiIdeal.nD) → Buf (Elt Ideal) ((c.tc : Thread Cert.KernelWdiIdeal.nD Cert.KernelWdiIdeal.τ).loc Cert.KernelWdiIdeal.main_v0)),
      θ_run (Cert.KernelWdiIdeal.defs (F := Ideal)) (onTc (τ := Cert.KernelWdiIdeal.τ) (Cert.KernelWdiIdeal.main (F := Ideal))) ⟨m, fun _ => 0, g⟩ (fun r => ∀ c : Dev Cert.KernelWdiIdeal.nD,
          r.2.mem ((c.tc : Thread Cert.KernelWdiIdeal.nD Cert.KernelWdiIdeal.τ).loc Cert.KernelWdiIdeal.main_v0) = v0 c
          ∧ r.2.mem ((c.tc : Thread Cert.KernelWdiIdeal.nD Cert.KernelWdiIdeal.τ).loc Cert.KernelWdiIdeal.main_arg0) = m ((c.tc : Thread Cert.KernelWdiIdeal.nD Cert.KernelWdiIdeal.τ).loc Cert.KernelWdiIdeal.main_arg0)
          ∧ r.2.mem ((c.tc : Thread Cert.KernelWdiIdeal.nD Cert.KernelWdiIdeal.τ).loc Cert.KernelWdiIdeal.main_arg1) = m ((c.tc : Thread Cert.KernelWdiIdeal.nD Cert.KernelWdiIdeal.τ).loc Cert.KernelWdiIdeal.main_arg1))
      ∧ θ_run (Cert.ReferenceWdiIdeal.defs (F := Ideal)) (onTc (τ := Cert.ReferenceWdiIdeal.τ) (Cert.ReferenceWdiIdeal.main (F := Ideal))) ⟨m', fun _ => 0, g'⟩ (fun r => ∀ c : Dev Cert.ReferenceWdiIdeal.nD,
          r.2.mem ((c.tc : Thread Cert.ReferenceWdiIdeal.nD Cert.ReferenceWdiIdeal.τ).loc Cert.ReferenceWdiIdeal.main_v6) = v0 c
          ∧ r.2.mem ((c.tc : Thread Cert.ReferenceWdiIdeal.nD Cert.ReferenceWdiIdeal.τ).loc Cert.ReferenceWdiIdeal.main_arg0) = m' ((c.tc : Thread Cert.ReferenceWdiIdeal.nD Cert.ReferenceWdiIdeal.τ).loc Cert.ReferenceWdiIdeal.main_arg0)
          ∧ r.2.mem ((c.tc : Thread Cert.ReferenceWdiIdeal.nD Cert.ReferenceWdiIdeal.τ).loc Cert.ReferenceWdiIdeal.main_arg1) = m' ((c.tc : Thread Cert.ReferenceWdiIdeal.nD Cert.ReferenceWdiIdeal.τ).loc Cert.ReferenceWdiIdeal.main_arg1))

def preserves_KernelWx_KernelWxIdeal : Prop :=
  True

def algebraic_KernelWxIdeal_ReferenceWxIdeal [hKernelWxIdeal : Cert.KernelWxIdeal.Facts] [hReferenceWxIdeal : Cert.ReferenceWxIdeal.Facts] : Prop :=
  ∀ (m : (ℓ : Loc Cert.KernelWxIdeal.nD Cert.KernelWxIdeal.τ Cert.KernelWxIdeal.sig) → Buf (Elt Ideal) ℓ) (g : Dev Cert.KernelWxIdeal.nD → PrngReg)
    (m' : (ℓ : Loc Cert.ReferenceWxIdeal.nD Cert.ReferenceWxIdeal.τ Cert.ReferenceWxIdeal.sig) → Buf (Elt Ideal) ℓ) (g' : Dev Cert.ReferenceWxIdeal.nD → PrngReg), Pre_KernelWxIdeal m →
    (∀ c : Dev Cert.KernelWxIdeal.nD,
      m' ((c.tc : Thread Cert.ReferenceWxIdeal.nD Cert.ReferenceWxIdeal.τ).loc Cert.ReferenceWxIdeal.main_arg0) = m ((c.tc : Thread Cert.KernelWxIdeal.nD Cert.KernelWxIdeal.τ).loc Cert.KernelWxIdeal.main_arg0)
      ∧ m' ((c.tc : Thread Cert.ReferenceWxIdeal.nD Cert.ReferenceWxIdeal.τ).loc Cert.ReferenceWxIdeal.main_arg1) = m ((c.tc : Thread Cert.KernelWxIdeal.nD Cert.KernelWxIdeal.τ).loc Cert.KernelWxIdeal.main_arg1)) →
    ∃ (v0 : (c : Dev Cert.KernelWxIdeal.nD) → Buf (Elt Ideal) ((c.tc : Thread Cert.KernelWxIdeal.nD Cert.KernelWxIdeal.τ).loc Cert.KernelWxIdeal.main_v0)),
      θ_run (Cert.KernelWxIdeal.defs (F := Ideal)) (onTc (τ := Cert.KernelWxIdeal.τ) (Cert.KernelWxIdeal.main (F := Ideal))) ⟨m, fun _ => 0, g⟩ (fun r => ∀ c : Dev Cert.KernelWxIdeal.nD,
          r.2.mem ((c.tc : Thread Cert.KernelWxIdeal.nD Cert.KernelWxIdeal.τ).loc Cert.KernelWxIdeal.main_v0) = v0 c
          ∧ r.2.mem ((c.tc : Thread Cert.KernelWxIdeal.nD Cert.KernelWxIdeal.τ).loc Cert.KernelWxIdeal.main_arg0) = m ((c.tc : Thread Cert.KernelWxIdeal.nD Cert.KernelWxIdeal.τ).loc Cert.KernelWxIdeal.main_arg0)
          ∧ r.2.mem ((c.tc : Thread Cert.KernelWxIdeal.nD Cert.KernelWxIdeal.τ).loc Cert.KernelWxIdeal.main_arg1) = m ((c.tc : Thread Cert.KernelWxIdeal.nD Cert.KernelWxIdeal.τ).loc Cert.KernelWxIdeal.main_arg1))
      ∧ θ_run (Cert.ReferenceWxIdeal.defs (F := Ideal)) (onTc (τ := Cert.ReferenceWxIdeal.τ) (Cert.ReferenceWxIdeal.main (F := Ideal))) ⟨m', fun _ => 0, g'⟩ (fun r => ∀ c : Dev Cert.ReferenceWxIdeal.nD,
          r.2.mem ((c.tc : Thread Cert.ReferenceWxIdeal.nD Cert.ReferenceWxIdeal.τ).loc Cert.ReferenceWxIdeal.main_v6) = v0 c
          ∧ r.2.mem ((c.tc : Thread Cert.ReferenceWxIdeal.nD Cert.ReferenceWxIdeal.τ).loc Cert.ReferenceWxIdeal.main_arg0) = m' ((c.tc : Thread Cert.ReferenceWxIdeal.nD Cert.ReferenceWxIdeal.τ).loc Cert.ReferenceWxIdeal.main_arg0)
          ∧ r.2.mem ((c.tc : Thread Cert.ReferenceWxIdeal.nD Cert.ReferenceWxIdeal.τ).loc Cert.ReferenceWxIdeal.main_arg1) = m' ((c.tc : Thread Cert.ReferenceWxIdeal.nD Cert.ReferenceWxIdeal.τ).loc Cert.ReferenceWxIdeal.main_arg1))

def preserves_KernelDv_KernelDvIdeal : Prop :=
  True

def algebraic_KernelDvIdeal_ReferenceDvIdeal [hKernelDvIdeal : Cert.KernelDvIdeal.Facts] [hReferenceDvIdeal : Cert.ReferenceDvIdeal.Facts] : Prop :=
  ∀ (m : (ℓ : Loc Cert.KernelDvIdeal.nD Cert.KernelDvIdeal.τ Cert.KernelDvIdeal.sig) → Buf (Elt Ideal) ℓ) (g : Dev Cert.KernelDvIdeal.nD → PrngReg)
    (m' : (ℓ : Loc Cert.ReferenceDvIdeal.nD Cert.ReferenceDvIdeal.τ Cert.ReferenceDvIdeal.sig) → Buf (Elt Ideal) ℓ) (g' : Dev Cert.ReferenceDvIdeal.nD → PrngReg), Pre_KernelDvIdeal m →
    (∀ c : Dev Cert.KernelDvIdeal.nD,
      m' ((c.tc : Thread Cert.ReferenceDvIdeal.nD Cert.ReferenceDvIdeal.τ).loc Cert.ReferenceDvIdeal.main_arg0) = m ((c.tc : Thread Cert.KernelDvIdeal.nD Cert.KernelDvIdeal.τ).loc Cert.KernelDvIdeal.main_arg0)
      ∧ m' ((c.tc : Thread Cert.ReferenceDvIdeal.nD Cert.ReferenceDvIdeal.τ).loc Cert.ReferenceDvIdeal.main_arg1) = m ((c.tc : Thread Cert.KernelDvIdeal.nD Cert.KernelDvIdeal.τ).loc Cert.KernelDvIdeal.main_arg1)
      ∧ m' ((c.tc : Thread Cert.ReferenceDvIdeal.nD Cert.ReferenceDvIdeal.τ).loc Cert.ReferenceDvIdeal.main_arg2) = m ((c.tc : Thread Cert.KernelDvIdeal.nD Cert.KernelDvIdeal.τ).loc Cert.KernelDvIdeal.main_arg2)) →
    ∃ (v0 : (c : Dev Cert.KernelDvIdeal.nD) → Buf (Elt Ideal) ((c.tc : Thread Cert.KernelDvIdeal.nD Cert.KernelDvIdeal.τ).loc Cert.KernelDvIdeal.main_v0)),
      θ_run (Cert.KernelDvIdeal.defs (F := Ideal)) (onTc (τ := Cert.KernelDvIdeal.τ) (Cert.KernelDvIdeal.main (F := Ideal))) ⟨m, fun _ => 0, g⟩ (fun r => ∀ c : Dev Cert.KernelDvIdeal.nD,
          r.2.mem ((c.tc : Thread Cert.KernelDvIdeal.nD Cert.KernelDvIdeal.τ).loc Cert.KernelDvIdeal.main_v0) = v0 c
          ∧ r.2.mem ((c.tc : Thread Cert.KernelDvIdeal.nD Cert.KernelDvIdeal.τ).loc Cert.KernelDvIdeal.main_arg0) = m ((c.tc : Thread Cert.KernelDvIdeal.nD Cert.KernelDvIdeal.τ).loc Cert.KernelDvIdeal.main_arg0)
          ∧ r.2.mem ((c.tc : Thread Cert.KernelDvIdeal.nD Cert.KernelDvIdeal.τ).loc Cert.KernelDvIdeal.main_arg1) = m ((c.tc : Thread Cert.KernelDvIdeal.nD Cert.KernelDvIdeal.τ).loc Cert.KernelDvIdeal.main_arg1)
          ∧ r.2.mem ((c.tc : Thread Cert.KernelDvIdeal.nD Cert.KernelDvIdeal.τ).loc Cert.KernelDvIdeal.main_arg2) = m ((c.tc : Thread Cert.KernelDvIdeal.nD Cert.KernelDvIdeal.τ).loc Cert.KernelDvIdeal.main_arg2))
      ∧ θ_run (Cert.ReferenceDvIdeal.defs (F := Ideal)) (onTc (τ := Cert.ReferenceDvIdeal.τ) (Cert.ReferenceDvIdeal.main (F := Ideal))) ⟨m', fun _ => 0, g'⟩ (fun r => ∀ c : Dev Cert.ReferenceDvIdeal.nD,
          r.2.mem ((c.tc : Thread Cert.ReferenceDvIdeal.nD Cert.ReferenceDvIdeal.τ).loc Cert.ReferenceDvIdeal.main_v12) = v0 c
          ∧ r.2.mem ((c.tc : Thread Cert.ReferenceDvIdeal.nD Cert.ReferenceDvIdeal.τ).loc Cert.ReferenceDvIdeal.main_arg0) = m' ((c.tc : Thread Cert.ReferenceDvIdeal.nD Cert.ReferenceDvIdeal.τ).loc Cert.ReferenceDvIdeal.main_arg0)
          ∧ r.2.mem ((c.tc : Thread Cert.ReferenceDvIdeal.nD Cert.ReferenceDvIdeal.τ).loc Cert.ReferenceDvIdeal.main_arg1) = m' ((c.tc : Thread Cert.ReferenceDvIdeal.nD Cert.ReferenceDvIdeal.τ).loc Cert.ReferenceDvIdeal.main_arg1)
          ∧ r.2.mem ((c.tc : Thread Cert.ReferenceDvIdeal.nD Cert.ReferenceDvIdeal.τ).loc Cert.ReferenceDvIdeal.main_arg2) = m' ((c.tc : Thread Cert.ReferenceDvIdeal.nD Cert.ReferenceDvIdeal.τ).loc Cert.ReferenceDvIdeal.main_arg2))

def preserves_KernelDa_KernelDaIdeal : Prop :=
  True

def algebraic_KernelDaIdeal_ReferenceDaIdeal [hKernelDaIdeal : Cert.KernelDaIdeal.Facts] [hReferenceDaIdeal : Cert.ReferenceDaIdeal.Facts] : Prop :=
  ∀ (m : (ℓ : Loc Cert.KernelDaIdeal.nD Cert.KernelDaIdeal.τ Cert.KernelDaIdeal.sig) → Buf (Elt Ideal) ℓ) (g : Dev Cert.KernelDaIdeal.nD → PrngReg)
    (m' : (ℓ : Loc Cert.ReferenceDaIdeal.nD Cert.ReferenceDaIdeal.τ Cert.ReferenceDaIdeal.sig) → Buf (Elt Ideal) ℓ) (g' : Dev Cert.ReferenceDaIdeal.nD → PrngReg), Pre_KernelDaIdeal m →
    (∀ c : Dev Cert.KernelDaIdeal.nD,
      m' ((c.tc : Thread Cert.ReferenceDaIdeal.nD Cert.ReferenceDaIdeal.τ).loc Cert.ReferenceDaIdeal.main_arg0) = m ((c.tc : Thread Cert.KernelDaIdeal.nD Cert.KernelDaIdeal.τ).loc Cert.KernelDaIdeal.main_arg0)
      ∧ m' ((c.tc : Thread Cert.ReferenceDaIdeal.nD Cert.ReferenceDaIdeal.τ).loc Cert.ReferenceDaIdeal.main_arg1) = m ((c.tc : Thread Cert.KernelDaIdeal.nD Cert.KernelDaIdeal.τ).loc Cert.KernelDaIdeal.main_arg1)) →
    ∃ (v0 : (c : Dev Cert.KernelDaIdeal.nD) → Buf (Elt Ideal) ((c.tc : Thread Cert.KernelDaIdeal.nD Cert.KernelDaIdeal.τ).loc Cert.KernelDaIdeal.main_v0)),
      θ_run (Cert.KernelDaIdeal.defs (F := Ideal)) (onTc (τ := Cert.KernelDaIdeal.τ) (Cert.KernelDaIdeal.main (F := Ideal))) ⟨m, fun _ => 0, g⟩ (fun r => ∀ c : Dev Cert.KernelDaIdeal.nD,
          r.2.mem ((c.tc : Thread Cert.KernelDaIdeal.nD Cert.KernelDaIdeal.τ).loc Cert.KernelDaIdeal.main_v0) = v0 c
          ∧ r.2.mem ((c.tc : Thread Cert.KernelDaIdeal.nD Cert.KernelDaIdeal.τ).loc Cert.KernelDaIdeal.main_arg0) = m ((c.tc : Thread Cert.KernelDaIdeal.nD Cert.KernelDaIdeal.τ).loc Cert.KernelDaIdeal.main_arg0)
          ∧ r.2.mem ((c.tc : Thread Cert.KernelDaIdeal.nD Cert.KernelDaIdeal.τ).loc Cert.KernelDaIdeal.main_arg1) = m ((c.tc : Thread Cert.KernelDaIdeal.nD Cert.KernelDaIdeal.τ).loc Cert.KernelDaIdeal.main_arg1))
      ∧ θ_run (Cert.ReferenceDaIdeal.defs (F := Ideal)) (onTc (τ := Cert.ReferenceDaIdeal.τ) (Cert.ReferenceDaIdeal.main (F := Ideal))) ⟨m', fun _ => 0, g'⟩ (fun r => ∀ c : Dev Cert.ReferenceDaIdeal.nD,
          r.2.mem ((c.tc : Thread Cert.ReferenceDaIdeal.nD Cert.ReferenceDaIdeal.τ).loc Cert.ReferenceDaIdeal.main_v5) = v0 c
          ∧ r.2.mem ((c.tc : Thread Cert.ReferenceDaIdeal.nD Cert.ReferenceDaIdeal.τ).loc Cert.ReferenceDaIdeal.main_arg0) = m' ((c.tc : Thread Cert.ReferenceDaIdeal.nD Cert.ReferenceDaIdeal.τ).loc Cert.ReferenceDaIdeal.main_arg0)
          ∧ r.2.mem ((c.tc : Thread Cert.ReferenceDaIdeal.nD Cert.ReferenceDaIdeal.τ).loc Cert.ReferenceDaIdeal.main_arg1) = m' ((c.tc : Thread Cert.ReferenceDaIdeal.nD Cert.ReferenceDaIdeal.τ).loc Cert.ReferenceDaIdeal.main_arg1))

def preserves_KernelDu_KernelDuIdeal : Prop :=
  True

def algebraic_KernelDuIdeal_ReferenceDuIdeal [hKernelDuIdeal : Cert.KernelDuIdeal.Facts] [hReferenceDuIdeal : Cert.ReferenceDuIdeal.Facts] : Prop :=
  ∀ (m : (ℓ : Loc Cert.KernelDuIdeal.nD Cert.KernelDuIdeal.τ Cert.KernelDuIdeal.sig) → Buf (Elt Ideal) ℓ) (g : Dev Cert.KernelDuIdeal.nD → PrngReg)
    (m' : (ℓ : Loc Cert.ReferenceDuIdeal.nD Cert.ReferenceDuIdeal.τ Cert.ReferenceDuIdeal.sig) → Buf (Elt Ideal) ℓ) (g' : Dev Cert.ReferenceDuIdeal.nD → PrngReg), Pre_KernelDuIdeal m →
    (∀ c : Dev Cert.KernelDuIdeal.nD,
      m' ((c.tc : Thread Cert.ReferenceDuIdeal.nD Cert.ReferenceDuIdeal.τ).loc Cert.ReferenceDuIdeal.main_arg0) = m ((c.tc : Thread Cert.KernelDuIdeal.nD Cert.KernelDuIdeal.τ).loc Cert.KernelDuIdeal.main_arg0)
      ∧ m' ((c.tc : Thread Cert.ReferenceDuIdeal.nD Cert.ReferenceDuIdeal.τ).loc Cert.ReferenceDuIdeal.main_arg1) = m ((c.tc : Thread Cert.KernelDuIdeal.nD Cert.KernelDuIdeal.τ).loc Cert.KernelDuIdeal.main_arg1)
      ∧ m' ((c.tc : Thread Cert.ReferenceDuIdeal.nD Cert.ReferenceDuIdeal.τ).loc Cert.ReferenceDuIdeal.main_arg2) = m ((c.tc : Thread Cert.KernelDuIdeal.nD Cert.KernelDuIdeal.τ).loc Cert.KernelDuIdeal.main_arg2)
      ∧ m' ((c.tc : Thread Cert.ReferenceDuIdeal.nD Cert.ReferenceDuIdeal.τ).loc Cert.ReferenceDuIdeal.main_arg3) = m ((c.tc : Thread Cert.KernelDuIdeal.nD Cert.KernelDuIdeal.τ).loc Cert.KernelDuIdeal.main_arg3)
      ∧ m' ((c.tc : Thread Cert.ReferenceDuIdeal.nD Cert.ReferenceDuIdeal.τ).loc Cert.ReferenceDuIdeal.main_arg4) = m ((c.tc : Thread Cert.KernelDuIdeal.nD Cert.KernelDuIdeal.τ).loc Cert.KernelDuIdeal.main_arg4)
      ∧ m' ((c.tc : Thread Cert.ReferenceDuIdeal.nD Cert.ReferenceDuIdeal.τ).loc Cert.ReferenceDuIdeal.main_arg5) = m ((c.tc : Thread Cert.KernelDuIdeal.nD Cert.KernelDuIdeal.τ).loc Cert.KernelDuIdeal.main_arg5)
      ∧ m' ((c.tc : Thread Cert.ReferenceDuIdeal.nD Cert.ReferenceDuIdeal.τ).loc Cert.ReferenceDuIdeal.main_arg6) = m ((c.tc : Thread Cert.KernelDuIdeal.nD Cert.KernelDuIdeal.τ).loc Cert.KernelDuIdeal.main_arg6)
      ∧ m' ((c.tc : Thread Cert.ReferenceDuIdeal.nD Cert.ReferenceDuIdeal.τ).loc Cert.ReferenceDuIdeal.main_arg7) = m ((c.tc : Thread Cert.KernelDuIdeal.nD Cert.KernelDuIdeal.τ).loc Cert.KernelDuIdeal.main_arg7)
      ∧ m' ((c.tc : Thread Cert.ReferenceDuIdeal.nD Cert.ReferenceDuIdeal.τ).loc Cert.ReferenceDuIdeal.main_arg8) = m ((c.tc : Thread Cert.KernelDuIdeal.nD Cert.KernelDuIdeal.τ).loc Cert.KernelDuIdeal.main_arg8)) →
    ∃ (v0 : (c : Dev Cert.KernelDuIdeal.nD) → Buf (Elt Ideal) ((c.tc : Thread Cert.KernelDuIdeal.nD Cert.KernelDuIdeal.τ).loc Cert.KernelDuIdeal.main_v2)),
      θ_run (Cert.KernelDuIdeal.defs (F := Ideal)) (onTc (τ := Cert.KernelDuIdeal.τ) (Cert.KernelDuIdeal.main (F := Ideal))) ⟨m, fun _ => 0, g⟩ (fun r => ∀ c : Dev Cert.KernelDuIdeal.nD,
          r.2.mem ((c.tc : Thread Cert.KernelDuIdeal.nD Cert.KernelDuIdeal.τ).loc Cert.KernelDuIdeal.main_v2) = v0 c
          ∧ r.2.mem ((c.tc : Thread Cert.KernelDuIdeal.nD Cert.KernelDuIdeal.τ).loc Cert.KernelDuIdeal.main_arg0) = m ((c.tc : Thread Cert.KernelDuIdeal.nD Cert.KernelDuIdeal.τ).loc Cert.KernelDuIdeal.main_arg0)
          ∧ r.2.mem ((c.tc : Thread Cert.KernelDuIdeal.nD Cert.KernelDuIdeal.τ).loc Cert.KernelDuIdeal.main_arg1) = m ((c.tc : Thread Cert.KernelDuIdeal.nD Cert.KernelDuIdeal.τ).loc Cert.KernelDuIdeal.main_arg1)
          ∧ r.2.mem ((c.tc : Thread Cert.KernelDuIdeal.nD Cert.KernelDuIdeal.τ).loc Cert.KernelDuIdeal.main_arg2) = m ((c.tc : Thread Cert.KernelDuIdeal.nD Cert.KernelDuIdeal.τ).loc Cert.KernelDuIdeal.main_arg2)
          ∧ r.2.mem ((c.tc : Thread Cert.KernelDuIdeal.nD Cert.KernelDuIdeal.τ).loc Cert.KernelDuIdeal.main_arg3) = m ((c.tc : Thread Cert.KernelDuIdeal.nD Cert.KernelDuIdeal.τ).loc Cert.KernelDuIdeal.main_arg3)
          ∧ r.2.mem ((c.tc : Thread Cert.KernelDuIdeal.nD Cert.KernelDuIdeal.τ).loc Cert.KernelDuIdeal.main_arg4) = m ((c.tc : Thread Cert.KernelDuIdeal.nD Cert.KernelDuIdeal.τ).loc Cert.KernelDuIdeal.main_arg4)
          ∧ r.2.mem ((c.tc : Thread Cert.KernelDuIdeal.nD Cert.KernelDuIdeal.τ).loc Cert.KernelDuIdeal.main_arg5) = m ((c.tc : Thread Cert.KernelDuIdeal.nD Cert.KernelDuIdeal.τ).loc Cert.KernelDuIdeal.main_arg5)
          ∧ r.2.mem ((c.tc : Thread Cert.KernelDuIdeal.nD Cert.KernelDuIdeal.τ).loc Cert.KernelDuIdeal.main_arg6) = m ((c.tc : Thread Cert.KernelDuIdeal.nD Cert.KernelDuIdeal.τ).loc Cert.KernelDuIdeal.main_arg6)
          ∧ r.2.mem ((c.tc : Thread Cert.KernelDuIdeal.nD Cert.KernelDuIdeal.τ).loc Cert.KernelDuIdeal.main_arg7) = m ((c.tc : Thread Cert.KernelDuIdeal.nD Cert.KernelDuIdeal.τ).loc Cert.KernelDuIdeal.main_arg7)
          ∧ r.2.mem ((c.tc : Thread Cert.KernelDuIdeal.nD Cert.KernelDuIdeal.τ).loc Cert.KernelDuIdeal.main_arg8) = m ((c.tc : Thread Cert.KernelDuIdeal.nD Cert.KernelDuIdeal.τ).loc Cert.KernelDuIdeal.main_arg8))
      ∧ θ_run (Cert.ReferenceDuIdeal.defs (F := Ideal)) (onTc (τ := Cert.ReferenceDuIdeal.τ) (Cert.ReferenceDuIdeal.main (F := Ideal))) ⟨m', fun _ => 0, g'⟩ (fun r => ∀ c : Dev Cert.ReferenceDuIdeal.nD,
          r.2.mem ((c.tc : Thread Cert.ReferenceDuIdeal.nD Cert.ReferenceDuIdeal.τ).loc Cert.ReferenceDuIdeal.main_v23) = v0 c
          ∧ r.2.mem ((c.tc : Thread Cert.ReferenceDuIdeal.nD Cert.ReferenceDuIdeal.τ).loc Cert.ReferenceDuIdeal.main_arg0) = m' ((c.tc : Thread Cert.ReferenceDuIdeal.nD Cert.ReferenceDuIdeal.τ).loc Cert.ReferenceDuIdeal.main_arg0)
          ∧ r.2.mem ((c.tc : Thread Cert.ReferenceDuIdeal.nD Cert.ReferenceDuIdeal.τ).loc Cert.ReferenceDuIdeal.main_arg1) = m' ((c.tc : Thread Cert.ReferenceDuIdeal.nD Cert.ReferenceDuIdeal.τ).loc Cert.ReferenceDuIdeal.main_arg1)
          ∧ r.2.mem ((c.tc : Thread Cert.ReferenceDuIdeal.nD Cert.ReferenceDuIdeal.τ).loc Cert.ReferenceDuIdeal.main_arg2) = m' ((c.tc : Thread Cert.ReferenceDuIdeal.nD Cert.ReferenceDuIdeal.τ).loc Cert.ReferenceDuIdeal.main_arg2)
          ∧ r.2.mem ((c.tc : Thread Cert.ReferenceDuIdeal.nD Cert.ReferenceDuIdeal.τ).loc Cert.ReferenceDuIdeal.main_arg3) = m' ((c.tc : Thread Cert.ReferenceDuIdeal.nD Cert.ReferenceDuIdeal.τ).loc Cert.ReferenceDuIdeal.main_arg3)
          ∧ r.2.mem ((c.tc : Thread Cert.ReferenceDuIdeal.nD Cert.ReferenceDuIdeal.τ).loc Cert.ReferenceDuIdeal.main_arg4) = m' ((c.tc : Thread Cert.ReferenceDuIdeal.nD Cert.ReferenceDuIdeal.τ).loc Cert.ReferenceDuIdeal.main_arg4)
          ∧ r.2.mem ((c.tc : Thread Cert.ReferenceDuIdeal.nD Cert.ReferenceDuIdeal.τ).loc Cert.ReferenceDuIdeal.main_arg5) = m' ((c.tc : Thread Cert.ReferenceDuIdeal.nD Cert.ReferenceDuIdeal.τ).loc Cert.ReferenceDuIdeal.main_arg5)
          ∧ r.2.mem ((c.tc : Thread Cert.ReferenceDuIdeal.nD Cert.ReferenceDuIdeal.τ).loc Cert.ReferenceDuIdeal.main_arg6) = m' ((c.tc : Thread Cert.ReferenceDuIdeal.nD Cert.ReferenceDuIdeal.τ).loc Cert.ReferenceDuIdeal.main_arg6)
          ∧ r.2.mem ((c.tc : Thread Cert.ReferenceDuIdeal.nD Cert.ReferenceDuIdeal.τ).loc Cert.ReferenceDuIdeal.main_arg7) = m' ((c.tc : Thread Cert.ReferenceDuIdeal.nD Cert.ReferenceDuIdeal.τ).loc Cert.ReferenceDuIdeal.main_arg7)
          ∧ r.2.mem ((c.tc : Thread Cert.ReferenceDuIdeal.nD Cert.ReferenceDuIdeal.τ).loc Cert.ReferenceDuIdeal.main_arg8) = m' ((c.tc : Thread Cert.ReferenceDuIdeal.nD Cert.ReferenceDuIdeal.τ).loc Cert.ReferenceDuIdeal.main_arg8))

def preserves_KernelGates_KernelGatesIdeal : Prop :=
  True

def algebraic_KernelGatesIdeal_ReferenceGatesIdeal [hKernelGatesIdeal : Cert.KernelGatesIdeal.Facts] [hReferenceGatesIdeal : Cert.ReferenceGatesIdeal.Facts] : Prop :=
  ∀ (m : (ℓ : Loc Cert.KernelGatesIdeal.nD Cert.KernelGatesIdeal.τ Cert.KernelGatesIdeal.sig) → Buf (Elt Ideal) ℓ) (g : Dev Cert.KernelGatesIdeal.nD → PrngReg)
    (m' : (ℓ : Loc Cert.ReferenceGatesIdeal.nD Cert.ReferenceGatesIdeal.τ Cert.ReferenceGatesIdeal.sig) → Buf (Elt Ideal) ℓ) (g' : Dev Cert.ReferenceGatesIdeal.nD → PrngReg), Pre_KernelGatesIdeal m →
    (∀ c : Dev Cert.KernelGatesIdeal.nD,
      m' ((c.tc : Thread Cert.ReferenceGatesIdeal.nD Cert.ReferenceGatesIdeal.τ).loc Cert.ReferenceGatesIdeal.main_arg0) = m ((c.tc : Thread Cert.KernelGatesIdeal.nD Cert.KernelGatesIdeal.τ).loc Cert.KernelGatesIdeal.main_arg0)
      ∧ m' ((c.tc : Thread Cert.ReferenceGatesIdeal.nD Cert.ReferenceGatesIdeal.τ).loc Cert.ReferenceGatesIdeal.main_arg1) = m ((c.tc : Thread Cert.KernelGatesIdeal.nD Cert.KernelGatesIdeal.τ).loc Cert.KernelGatesIdeal.main_arg1)) →
    ∃ (v0 : (c : Dev Cert.KernelGatesIdeal.nD) → Buf (Elt Ideal) ((c.tc : Thread Cert.KernelGatesIdeal.nD Cert.KernelGatesIdeal.τ).loc Cert.KernelGatesIdeal.main_v0)),
      θ_run (Cert.KernelGatesIdeal.defs (F := Ideal)) (onTc (τ := Cert.KernelGatesIdeal.τ) (Cert.KernelGatesIdeal.main (F := Ideal))) ⟨m, fun _ => 0, g⟩ (fun r => ∀ c : Dev Cert.KernelGatesIdeal.nD,
          r.2.mem ((c.tc : Thread Cert.KernelGatesIdeal.nD Cert.KernelGatesIdeal.τ).loc Cert.KernelGatesIdeal.main_v0) = v0 c
          ∧ r.2.mem ((c.tc : Thread Cert.KernelGatesIdeal.nD Cert.KernelGatesIdeal.τ).loc Cert.KernelGatesIdeal.main_arg0) = m ((c.tc : Thread Cert.KernelGatesIdeal.nD Cert.KernelGatesIdeal.τ).loc Cert.KernelGatesIdeal.main_arg0)
          ∧ r.2.mem ((c.tc : Thread Cert.KernelGatesIdeal.nD Cert.KernelGatesIdeal.τ).loc Cert.KernelGatesIdeal.main_arg1) = m ((c.tc : Thread Cert.KernelGatesIdeal.nD Cert.KernelGatesIdeal.τ).loc Cert.KernelGatesIdeal.main_arg1))
      ∧ θ_run (Cert.ReferenceGatesIdeal.defs (F := Ideal)) (onTc (τ := Cert.ReferenceGatesIdeal.τ) (Cert.ReferenceGatesIdeal.main (F := Ideal))) ⟨m', fun _ => 0, g'⟩ (fun r => ∀ c : Dev Cert.ReferenceGatesIdeal.nD,
          r.2.mem ((c.tc : Thread Cert.ReferenceGatesIdeal.nD Cert.ReferenceGatesIdeal.τ).loc Cert.ReferenceGatesIdeal.main_v5) = v0 c
          ∧ r.2.mem ((c.tc : Thread Cert.ReferenceGatesIdeal.nD Cert.ReferenceGatesIdeal.τ).loc Cert.ReferenceGatesIdeal.main_arg0) = m' ((c.tc : Thread Cert.ReferenceGatesIdeal.nD Cert.ReferenceGatesIdeal.τ).loc Cert.ReferenceGatesIdeal.main_arg0)
          ∧ r.2.mem ((c.tc : Thread Cert.ReferenceGatesIdeal.nD Cert.ReferenceGatesIdeal.τ).loc Cert.ReferenceGatesIdeal.main_arg1) = m' ((c.tc : Thread Cert.ReferenceGatesIdeal.nD Cert.ReferenceGatesIdeal.τ).loc Cert.ReferenceGatesIdeal.main_arg1))

def preserves_KernelPa_KernelPaIdeal : Prop :=
  True

def algebraic_KernelPaIdeal_ReferencePaIdeal [hKernelPaIdeal : Cert.KernelPaIdeal.Facts] [hReferencePaIdeal : Cert.ReferencePaIdeal.Facts] : Prop :=
  ∀ (m : (ℓ : Loc Cert.KernelPaIdeal.nD Cert.KernelPaIdeal.τ Cert.KernelPaIdeal.sig) → Buf (Elt Ideal) ℓ) (g : Dev Cert.KernelPaIdeal.nD → PrngReg)
    (m' : (ℓ : Loc Cert.ReferencePaIdeal.nD Cert.ReferencePaIdeal.τ Cert.ReferencePaIdeal.sig) → Buf (Elt Ideal) ℓ) (g' : Dev Cert.ReferencePaIdeal.nD → PrngReg), Pre_KernelPaIdeal m →
    (∀ c : Dev Cert.KernelPaIdeal.nD,
      m' ((c.tc : Thread Cert.ReferencePaIdeal.nD Cert.ReferencePaIdeal.τ).loc Cert.ReferencePaIdeal.main_arg0) = m ((c.tc : Thread Cert.KernelPaIdeal.nD Cert.KernelPaIdeal.τ).loc Cert.KernelPaIdeal.main_arg0)
      ∧ m' ((c.tc : Thread Cert.ReferencePaIdeal.nD Cert.ReferencePaIdeal.τ).loc Cert.ReferencePaIdeal.main_arg1) = m ((c.tc : Thread Cert.KernelPaIdeal.nD Cert.KernelPaIdeal.τ).loc Cert.KernelPaIdeal.main_arg1)) →
    ∃ (v0 : (c : Dev Cert.KernelPaIdeal.nD) → Buf (Elt Ideal) ((c.tc : Thread Cert.KernelPaIdeal.nD Cert.KernelPaIdeal.τ).loc Cert.KernelPaIdeal.main_v0)),
      θ_run (Cert.KernelPaIdeal.defs (F := Ideal)) (onTc (τ := Cert.KernelPaIdeal.τ) (Cert.KernelPaIdeal.main (F := Ideal))) ⟨m, fun _ => 0, g⟩ (fun r => ∀ c : Dev Cert.KernelPaIdeal.nD,
          r.2.mem ((c.tc : Thread Cert.KernelPaIdeal.nD Cert.KernelPaIdeal.τ).loc Cert.KernelPaIdeal.main_v0) = v0 c
          ∧ r.2.mem ((c.tc : Thread Cert.KernelPaIdeal.nD Cert.KernelPaIdeal.τ).loc Cert.KernelPaIdeal.main_arg0) = m ((c.tc : Thread Cert.KernelPaIdeal.nD Cert.KernelPaIdeal.τ).loc Cert.KernelPaIdeal.main_arg0)
          ∧ r.2.mem ((c.tc : Thread Cert.KernelPaIdeal.nD Cert.KernelPaIdeal.τ).loc Cert.KernelPaIdeal.main_arg1) = m ((c.tc : Thread Cert.KernelPaIdeal.nD Cert.KernelPaIdeal.τ).loc Cert.KernelPaIdeal.main_arg1))
      ∧ θ_run (Cert.ReferencePaIdeal.defs (F := Ideal)) (onTc (τ := Cert.ReferencePaIdeal.τ) (Cert.ReferencePaIdeal.main (F := Ideal))) ⟨m', fun _ => 0, g'⟩ (fun r => ∀ c : Dev Cert.ReferencePaIdeal.nD,
          r.2.mem ((c.tc : Thread Cert.ReferencePaIdeal.nD Cert.ReferencePaIdeal.τ).loc Cert.ReferencePaIdeal.main_v5) = v0 c
          ∧ r.2.mem ((c.tc : Thread Cert.ReferencePaIdeal.nD Cert.ReferencePaIdeal.τ).loc Cert.ReferencePaIdeal.main_arg0) = m' ((c.tc : Thread Cert.ReferencePaIdeal.nD Cert.ReferencePaIdeal.τ).loc Cert.ReferencePaIdeal.main_arg0)
          ∧ r.2.mem ((c.tc : Thread Cert.ReferencePaIdeal.nD Cert.ReferencePaIdeal.τ).loc Cert.ReferencePaIdeal.main_arg1) = m' ((c.tc : Thread Cert.ReferencePaIdeal.nD Cert.ReferencePaIdeal.τ).loc Cert.ReferencePaIdeal.main_arg1))

def preserves_KernelZ_KernelZIdeal : Prop :=
  True

def algebraic_KernelZIdeal_ReferenceZIdeal [hKernelZIdeal : Cert.KernelZIdeal.Facts] [hReferenceZIdeal : Cert.ReferenceZIdeal.Facts] : Prop :=
  ∀ (m : (ℓ : Loc Cert.KernelZIdeal.nD Cert.KernelZIdeal.τ Cert.KernelZIdeal.sig) → Buf (Elt Ideal) ℓ) (g : Dev Cert.KernelZIdeal.nD → PrngReg)
    (m' : (ℓ : Loc Cert.ReferenceZIdeal.nD Cert.ReferenceZIdeal.τ Cert.ReferenceZIdeal.sig) → Buf (Elt Ideal) ℓ) (g' : Dev Cert.ReferenceZIdeal.nD → PrngReg), Pre_KernelZIdeal m →
    (∀ c : Dev Cert.KernelZIdeal.nD,
      m' ((c.tc : Thread Cert.ReferenceZIdeal.nD Cert.ReferenceZIdeal.τ).loc Cert.ReferenceZIdeal.main_arg0) = m ((c.tc : Thread Cert.KernelZIdeal.nD Cert.KernelZIdeal.τ).loc Cert.KernelZIdeal.main_arg0)
      ∧ m' ((c.tc : Thread Cert.ReferenceZIdeal.nD Cert.ReferenceZIdeal.τ).loc Cert.ReferenceZIdeal.main_arg1) = m ((c.tc : Thread Cert.KernelZIdeal.nD Cert.KernelZIdeal.τ).loc Cert.KernelZIdeal.main_arg1)) →
    ∃ (v0 : (c : Dev Cert.KernelZIdeal.nD) → Buf (Elt Ideal) ((c.tc : Thread Cert.KernelZIdeal.nD Cert.KernelZIdeal.τ).loc Cert.KernelZIdeal.main_v0)),
      θ_run (Cert.KernelZIdeal.defs (F := Ideal)) (onTc (τ := Cert.KernelZIdeal.τ) (Cert.KernelZIdeal.main (F := Ideal))) ⟨m, fun _ => 0, g⟩ (fun r => ∀ c : Dev Cert.KernelZIdeal.nD,
          r.2.mem ((c.tc : Thread Cert.KernelZIdeal.nD Cert.KernelZIdeal.τ).loc Cert.KernelZIdeal.main_v0) = v0 c
          ∧ r.2.mem ((c.tc : Thread Cert.KernelZIdeal.nD Cert.KernelZIdeal.τ).loc Cert.KernelZIdeal.main_arg0) = m ((c.tc : Thread Cert.KernelZIdeal.nD Cert.KernelZIdeal.τ).loc Cert.KernelZIdeal.main_arg0)
          ∧ r.2.mem ((c.tc : Thread Cert.KernelZIdeal.nD Cert.KernelZIdeal.τ).loc Cert.KernelZIdeal.main_arg1) = m ((c.tc : Thread Cert.KernelZIdeal.nD Cert.KernelZIdeal.τ).loc Cert.KernelZIdeal.main_arg1))
      ∧ θ_run (Cert.ReferenceZIdeal.defs (F := Ideal)) (onTc (τ := Cert.ReferenceZIdeal.τ) (Cert.ReferenceZIdeal.main (F := Ideal))) ⟨m', fun _ => 0, g'⟩ (fun r => ∀ c : Dev Cert.ReferenceZIdeal.nD,
          r.2.mem ((c.tc : Thread Cert.ReferenceZIdeal.nD Cert.ReferenceZIdeal.τ).loc Cert.ReferenceZIdeal.main_v5) = v0 c
          ∧ r.2.mem ((c.tc : Thread Cert.ReferenceZIdeal.nD Cert.ReferenceZIdeal.τ).loc Cert.ReferenceZIdeal.main_arg0) = m' ((c.tc : Thread Cert.ReferenceZIdeal.nD Cert.ReferenceZIdeal.τ).loc Cert.ReferenceZIdeal.main_arg0)
          ∧ r.2.mem ((c.tc : Thread Cert.ReferenceZIdeal.nD Cert.ReferenceZIdeal.τ).loc Cert.ReferenceZIdeal.main_arg1) = m' ((c.tc : Thread Cert.ReferenceZIdeal.nD Cert.ReferenceZIdeal.τ).loc Cert.ReferenceZIdeal.main_arg1))

def preserves_KernelXbc_KernelXbcIdeal : Prop :=
  True

def algebraic_KernelXbcIdeal_ReferenceXbcIdeal [hKernelXbcIdeal : Cert.KernelXbcIdeal.Facts] [hReferenceXbcIdeal : Cert.ReferenceXbcIdeal.Facts] : Prop :=
  ∀ (m : (ℓ : Loc Cert.KernelXbcIdeal.nD Cert.KernelXbcIdeal.τ Cert.KernelXbcIdeal.sig) → Buf (Elt Ideal) ℓ) (g : Dev Cert.KernelXbcIdeal.nD → PrngReg)
    (m' : (ℓ : Loc Cert.ReferenceXbcIdeal.nD Cert.ReferenceXbcIdeal.τ Cert.ReferenceXbcIdeal.sig) → Buf (Elt Ideal) ℓ) (g' : Dev Cert.ReferenceXbcIdeal.nD → PrngReg), Pre_KernelXbcIdeal m →
    (∀ c : Dev Cert.KernelXbcIdeal.nD,
      m' ((c.tc : Thread Cert.ReferenceXbcIdeal.nD Cert.ReferenceXbcIdeal.τ).loc Cert.ReferenceXbcIdeal.main_arg0) = m ((c.tc : Thread Cert.KernelXbcIdeal.nD Cert.KernelXbcIdeal.τ).loc Cert.KernelXbcIdeal.main_arg0)
      ∧ m' ((c.tc : Thread Cert.ReferenceXbcIdeal.nD Cert.ReferenceXbcIdeal.τ).loc Cert.ReferenceXbcIdeal.main_arg1) = m ((c.tc : Thread Cert.KernelXbcIdeal.nD Cert.KernelXbcIdeal.τ).loc Cert.KernelXbcIdeal.main_arg1)) →
    ∃ (v0 : (c : Dev Cert.KernelXbcIdeal.nD) → Buf (Elt Ideal) ((c.tc : Thread Cert.KernelXbcIdeal.nD Cert.KernelXbcIdeal.τ).loc Cert.KernelXbcIdeal.main_v0)),
      θ_run (Cert.KernelXbcIdeal.defs (F := Ideal)) (onTc (τ := Cert.KernelXbcIdeal.τ) (Cert.KernelXbcIdeal.main (F := Ideal))) ⟨m, fun _ => 0, g⟩ (fun r => ∀ c : Dev Cert.KernelXbcIdeal.nD,
          r.2.mem ((c.tc : Thread Cert.KernelXbcIdeal.nD Cert.KernelXbcIdeal.τ).loc Cert.KernelXbcIdeal.main_v0) = v0 c
          ∧ r.2.mem ((c.tc : Thread Cert.KernelXbcIdeal.nD Cert.KernelXbcIdeal.τ).loc Cert.KernelXbcIdeal.main_arg0) = m ((c.tc : Thread Cert.KernelXbcIdeal.nD Cert.KernelXbcIdeal.τ).loc Cert.KernelXbcIdeal.main_arg0)
          ∧ r.2.mem ((c.tc : Thread Cert.KernelXbcIdeal.nD Cert.KernelXbcIdeal.τ).loc Cert.KernelXbcIdeal.main_arg1) = m ((c.tc : Thread Cert.KernelXbcIdeal.nD Cert.KernelXbcIdeal.τ).loc Cert.KernelXbcIdeal.main_arg1))
      ∧ θ_run (Cert.ReferenceXbcIdeal.defs (F := Ideal)) (onTc (τ := Cert.ReferenceXbcIdeal.τ) (Cert.ReferenceXbcIdeal.main (F := Ideal))) ⟨m', fun _ => 0, g'⟩ (fun r => ∀ c : Dev Cert.ReferenceXbcIdeal.nD,
          r.2.mem ((c.tc : Thread Cert.ReferenceXbcIdeal.nD Cert.ReferenceXbcIdeal.τ).loc Cert.ReferenceXbcIdeal.main_v5) = v0 c
          ∧ r.2.mem ((c.tc : Thread Cert.ReferenceXbcIdeal.nD Cert.ReferenceXbcIdeal.τ).loc Cert.ReferenceXbcIdeal.main_arg0) = m' ((c.tc : Thread Cert.ReferenceXbcIdeal.nD Cert.ReferenceXbcIdeal.τ).loc Cert.ReferenceXbcIdeal.main_arg0)
          ∧ r.2.mem ((c.tc : Thread Cert.ReferenceXbcIdeal.nD Cert.ReferenceXbcIdeal.τ).loc Cert.ReferenceXbcIdeal.main_arg1) = m' ((c.tc : Thread Cert.ReferenceXbcIdeal.nD Cert.ReferenceXbcIdeal.τ).loc Cert.ReferenceXbcIdeal.main_arg1))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)) →
    ∃ (v0 : (c : Dev Cert.KernelUpIdeal.nD) → Buf (Elt Ideal) ((c.tc : Thread Cert.KernelUpIdeal.nD Cert.KernelUpIdeal.τ).loc Cert.KernelUpIdeal.main_v0)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v0) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v4) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)) →
    ∃ (v0 : (c : Dev Cert.KernelDownIdeal.nD) → Buf (Elt Ideal) ((c.tc : Thread Cert.KernelDownIdeal.nD Cert.KernelDownIdeal.τ).loc Cert.KernelDownIdeal.main_v0)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v0) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v3) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1))

def preserves_KernelO_KernelOIdeal : Prop :=
  True

def algebraic_KernelOIdeal_ReferenceOIdeal [hKernelOIdeal : Cert.KernelOIdeal.Facts] [hReferenceOIdeal : Cert.ReferenceOIdeal.Facts] : Prop :=
  ∀ (m : (ℓ : Loc Cert.KernelOIdeal.nD Cert.KernelOIdeal.τ Cert.KernelOIdeal.sig) → Buf (Elt Ideal) ℓ) (g : Dev Cert.KernelOIdeal.nD → PrngReg)
    (m' : (ℓ : Loc Cert.ReferenceOIdeal.nD Cert.ReferenceOIdeal.τ Cert.ReferenceOIdeal.sig) → Buf (Elt Ideal) ℓ) (g' : Dev Cert.ReferenceOIdeal.nD → PrngReg), Pre_KernelOIdeal m →
    (∀ c : Dev Cert.KernelOIdeal.nD,
      m' ((c.tc : Thread Cert.ReferenceOIdeal.nD Cert.ReferenceOIdeal.τ).loc Cert.ReferenceOIdeal.main_arg0) = m ((c.tc : Thread Cert.KernelOIdeal.nD Cert.KernelOIdeal.τ).loc Cert.KernelOIdeal.main_arg0)
      ∧ m' ((c.tc : Thread Cert.ReferenceOIdeal.nD Cert.ReferenceOIdeal.τ).loc Cert.ReferenceOIdeal.main_arg1) = m ((c.tc : Thread Cert.KernelOIdeal.nD Cert.KernelOIdeal.τ).loc Cert.KernelOIdeal.main_arg1)) →
    ∃ (v0 : (c : Dev Cert.KernelOIdeal.nD) → Buf (Elt Ideal) ((c.tc : Thread Cert.KernelOIdeal.nD Cert.KernelOIdeal.τ).loc Cert.KernelOIdeal.main_v0)),
      θ_run (Cert.KernelOIdeal.defs (F := Ideal)) (onTc (τ := Cert.KernelOIdeal.τ) (Cert.KernelOIdeal.main (F := Ideal))) ⟨m, fun _ => 0, g⟩ (fun r => ∀ c : Dev Cert.KernelOIdeal.nD,
          r.2.mem ((c.tc : Thread Cert.KernelOIdeal.nD Cert.KernelOIdeal.τ).loc Cert.KernelOIdeal.main_v0) = v0 c
          ∧ r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0)
          ∧ r.2.mem ((c.tc : Thread Cert.KernelOIdeal.nD Cert.KernelOIdeal.τ).loc Cert.KernelOIdeal.main_arg1) = m ((c.tc : Thread Cert.KernelOIdeal.nD Cert.KernelOIdeal.τ).loc Cert.KernelOIdeal.main_arg1))
      ∧ θ_run (Cert.ReferenceOIdeal.defs (F := Ideal)) (onTc (τ := Cert.ReferenceOIdeal.τ) (Cert.ReferenceOIdeal.main (F := Ideal))) ⟨m', fun _ => 0, g'⟩ (fun r => ∀ c : Dev Cert.ReferenceOIdeal.nD,
          r.2.mem ((c.tc : Thread Cert.ReferenceOIdeal.nD Cert.ReferenceOIdeal.τ).loc Cert.ReferenceOIdeal.main_v3) = v0 c
          ∧ r.2.mem ((c.tc : Thread Cert.ReferenceOIdeal.nD Cert.ReferenceOIdeal.τ).loc Cert.ReferenceOIdeal.main_arg0) = m' ((c.tc : Thread Cert.ReferenceOIdeal.nD Cert.ReferenceOIdeal.τ).loc Cert.ReferenceOIdeal.main_arg0)
          ∧ r.2.mem ((c.tc : Thread Cert.ReferenceOIdeal.nD Cert.ReferenceOIdeal.τ).loc Cert.ReferenceOIdeal.main_arg1) = m' ((c.tc : Thread Cert.ReferenceOIdeal.nD Cert.ReferenceOIdeal.τ).loc Cert.ReferenceOIdeal.main_arg1))

def preserves_KernelS_KernelSIdeal : Prop :=
  True

def algebraic_KernelSIdeal_ReferenceSIdeal [hKernelSIdeal : Cert.KernelSIdeal.Facts] [hReferenceSIdeal : Cert.ReferenceSIdeal.Facts] : Prop :=
  ∀ (m : (ℓ : Loc Cert.KernelSIdeal.nD Cert.KernelSIdeal.τ Cert.KernelSIdeal.sig) → Buf (Elt Ideal) ℓ) (g : Dev Cert.KernelSIdeal.nD → PrngReg)
    (m' : (ℓ : Loc Cert.ReferenceSIdeal.nD Cert.ReferenceSIdeal.τ Cert.ReferenceSIdeal.sig) → Buf (Elt Ideal) ℓ) (g' : Dev Cert.ReferenceSIdeal.nD → PrngReg), Pre_KernelSIdeal m →
    (∀ c : Dev Cert.KernelSIdeal.nD,
      m' ((c.tc : Thread Cert.ReferenceSIdeal.nD Cert.ReferenceSIdeal.τ).loc Cert.ReferenceSIdeal.main_arg0) = m ((c.tc : Thread Cert.KernelSIdeal.nD Cert.KernelSIdeal.τ).loc Cert.KernelSIdeal.main_arg0)
      ∧ m' ((c.tc : Thread Cert.ReferenceSIdeal.nD Cert.ReferenceSIdeal.τ).loc Cert.ReferenceSIdeal.main_arg1) = m ((c.tc : Thread Cert.KernelSIdeal.nD Cert.KernelSIdeal.τ).loc Cert.KernelSIdeal.main_arg1)) →
    ∃ (v0 : (c : Dev Cert.KernelSIdeal.nD) → Buf (Elt Ideal) ((c.tc : Thread Cert.KernelSIdeal.nD Cert.KernelSIdeal.τ).loc Cert.KernelSIdeal.main_v0)),
      θ_run (Cert.KernelSIdeal.defs (F := Ideal)) (onTc (τ := Cert.KernelSIdeal.τ) (Cert.KernelSIdeal.main (F := Ideal))) ⟨m, fun _ => 0, g⟩ (fun r => ∀ c : Dev Cert.KernelSIdeal.nD,
          r.2.mem ((c.tc : Thread Cert.KernelSIdeal.nD Cert.KernelSIdeal.τ).loc Cert.KernelSIdeal.main_v0) = v0 c
          ∧ r.2.mem ((c.tc : Thread Cert.KernelSIdeal.nD Cert.KernelSIdeal.τ).loc Cert.KernelSIdeal.main_arg0) = m ((c.tc : Thread Cert.KernelSIdeal.nD Cert.KernelSIdeal.τ).loc Cert.KernelSIdeal.main_arg0)
          ∧ r.2.mem ((c.tc : Thread Cert.KernelSIdeal.nD Cert.KernelSIdeal.τ).loc Cert.KernelSIdeal.main_arg1) = m ((c.tc : Thread Cert.KernelSIdeal.nD Cert.KernelSIdeal.τ).loc Cert.KernelSIdeal.main_arg1))
      ∧ θ_run (Cert.ReferenceSIdeal.defs (F := Ideal)) (onTc (τ := Cert.ReferenceSIdeal.τ) (Cert.ReferenceSIdeal.main (F := Ideal))) ⟨m', fun _ => 0, g'⟩ (fun r => ∀ c : Dev Cert.ReferenceSIdeal.nD,
          r.2.mem ((c.tc : Thread Cert.ReferenceSIdeal.nD Cert.ReferenceSIdeal.τ).loc Cert.ReferenceSIdeal.main_v3) = v0 c
          ∧ r.2.mem ((c.tc : Thread Cert.ReferenceSIdeal.nD Cert.ReferenceSIdeal.τ).loc Cert.ReferenceSIdeal.main_arg0) = m' ((c.tc : Thread Cert.ReferenceSIdeal.nD Cert.ReferenceSIdeal.τ).loc Cert.ReferenceSIdeal.main_arg0)
          ∧ r.2.mem ((c.tc : Thread Cert.ReferenceSIdeal.nD Cert.ReferenceSIdeal.τ).loc Cert.ReferenceSIdeal.main_arg1) = m' ((c.tc : Thread Cert.ReferenceSIdeal.nD Cert.ReferenceSIdeal.τ).loc Cert.ReferenceSIdeal.main_arg1))

def preserves_KernelDm_KernelDmIdeal : Prop :=
  True

def algebraic_KernelDmIdeal_ReferenceDmIdeal [hKernelDmIdeal : Cert.KernelDmIdeal.Facts] [hReferenceDmIdeal : Cert.ReferenceDmIdeal.Facts] : Prop :=
  ∀ (m : (ℓ : Loc Cert.KernelDmIdeal.nD Cert.KernelDmIdeal.τ Cert.KernelDmIdeal.sig) → Buf (Elt Ideal) ℓ) (g : Dev Cert.KernelDmIdeal.nD → PrngReg)
    (m' : (ℓ : Loc Cert.ReferenceDmIdeal.nD Cert.ReferenceDmIdeal.τ Cert.ReferenceDmIdeal.sig) → Buf (Elt Ideal) ℓ) (g' : Dev Cert.ReferenceDmIdeal.nD → PrngReg), Pre_KernelDmIdeal m →
    (∀ c : Dev Cert.KernelDmIdeal.nD,
      m' ((c.tc : Thread Cert.ReferenceDmIdeal.nD Cert.ReferenceDmIdeal.τ).loc Cert.ReferenceDmIdeal.main_arg0) = m ((c.tc : Thread Cert.KernelDmIdeal.nD Cert.KernelDmIdeal.τ).loc Cert.KernelDmIdeal.main_arg0)
      ∧ m' ((c.tc : Thread Cert.ReferenceDmIdeal.nD Cert.ReferenceDmIdeal.τ).loc Cert.ReferenceDmIdeal.main_arg1) = m ((c.tc : Thread Cert.KernelDmIdeal.nD Cert.KernelDmIdeal.τ).loc Cert.KernelDmIdeal.main_arg1)) →
    ∃ (v0 : (c : Dev Cert.KernelDmIdeal.nD) → Buf (Elt Ideal) ((c.tc : Thread Cert.KernelDmIdeal.nD Cert.KernelDmIdeal.τ).loc Cert.KernelDmIdeal.main_v0)),
      θ_run (Cert.KernelDmIdeal.defs (F := Ideal)) (onTc (τ := Cert.KernelDmIdeal.τ) (Cert.KernelDmIdeal.main (F := Ideal))) ⟨m, fun _ => 0, g⟩ (fun r => ∀ c : Dev Cert.KernelDmIdeal.nD,
          r.2.mem ((c.tc : Thread Cert.KernelDmIdeal.nD Cert.KernelDmIdeal.τ).loc Cert.KernelDmIdeal.main_v0) = v0 c
          ∧ r.2.mem ((c.tc : Thread Cert.KernelDmIdeal.nD Cert.KernelDmIdeal.τ).loc Cert.KernelDmIdeal.main_arg0) = m ((c.tc : Thread Cert.KernelDmIdeal.nD Cert.KernelDmIdeal.τ).loc Cert.KernelDmIdeal.main_arg0)
          ∧ r.2.mem ((c.tc : Thread Cert.KernelDmIdeal.nD Cert.KernelDmIdeal.τ).loc Cert.KernelDmIdeal.main_arg1) = m ((c.tc : Thread Cert.KernelDmIdeal.nD Cert.KernelDmIdeal.τ).loc Cert.KernelDmIdeal.main_arg1))
      ∧ θ_run (Cert.ReferenceDmIdeal.defs (F := Ideal)) (onTc (τ := Cert.ReferenceDmIdeal.τ) (Cert.ReferenceDmIdeal.main (F := Ideal))) ⟨m', fun _ => 0, g'⟩ (fun r => ∀ c : Dev Cert.ReferenceDmIdeal.nD,
          r.2.mem ((c.tc : Thread Cert.ReferenceDmIdeal.nD Cert.ReferenceDmIdeal.τ).loc Cert.ReferenceDmIdeal.main_v5) = v0 c
          ∧ r.2.mem ((c.tc : Thread Cert.ReferenceDmIdeal.nD Cert.ReferenceDmIdeal.τ).loc Cert.ReferenceDmIdeal.main_arg0) = m' ((c.tc : Thread Cert.ReferenceDmIdeal.nD Cert.ReferenceDmIdeal.τ).loc Cert.ReferenceDmIdeal.main_arg0)
          ∧ r.2.mem ((c.tc : Thread Cert.ReferenceDmIdeal.nD Cert.ReferenceDmIdeal.τ).loc Cert.ReferenceDmIdeal.main_arg1) = m' ((c.tc : Thread Cert.ReferenceDmIdeal.nD Cert.ReferenceDmIdeal.τ).loc Cert.ReferenceDmIdeal.main_arg1))

def preserves_KernelDyn_KernelDynIdeal : Prop :=
  True

def algebraic_KernelDynIdeal_ReferenceDynIdeal [hKernelDynIdeal : Cert.KernelDynIdeal.Facts] [hReferenceDynIdeal : Cert.ReferenceDynIdeal.Facts] : Prop :=
  ∀ (m : (ℓ : Loc Cert.KernelDynIdeal.nD Cert.KernelDynIdeal.τ Cert.KernelDynIdeal.sig) → Buf (Elt Ideal) ℓ) (g : Dev Cert.KernelDynIdeal.nD → PrngReg)
    (m' : (ℓ : Loc Cert.ReferenceDynIdeal.nD Cert.ReferenceDynIdeal.τ Cert.ReferenceDynIdeal.sig) → Buf (Elt Ideal) ℓ) (g' : Dev Cert.ReferenceDynIdeal.nD → PrngReg), Pre_KernelDynIdeal m →
    (∀ c : Dev Cert.KernelDynIdeal.nD,
      m' ((c.tc : Thread Cert.ReferenceDynIdeal.nD Cert.ReferenceDynIdeal.τ).loc Cert.ReferenceDynIdeal.main_arg0) = m ((c.tc : Thread Cert.KernelDynIdeal.nD Cert.KernelDynIdeal.τ).loc Cert.KernelDynIdeal.main_arg0)
      ∧ m' ((c.tc : Thread Cert.ReferenceDynIdeal.nD Cert.ReferenceDynIdeal.τ).loc Cert.ReferenceDynIdeal.main_arg1) = m ((c.tc : Thread Cert.KernelDynIdeal.nD Cert.KernelDynIdeal.τ).loc Cert.KernelDynIdeal.main_arg1)) →
    ∃ (v0 : (c : Dev Cert.KernelDynIdeal.nD) → Buf (Elt Ideal) ((c.tc : Thread Cert.KernelDynIdeal.nD Cert.KernelDynIdeal.τ).loc Cert.KernelDynIdeal.main_v0)),
      θ_run (Cert.KernelDynIdeal.defs (F := Ideal)) (onTc (τ := Cert.KernelDynIdeal.τ) (Cert.KernelDynIdeal.main (F := Ideal))) ⟨m, fun _ => 0, g⟩ (fun r => ∀ c : Dev Cert.KernelDynIdeal.nD,
          r.2.mem ((c.tc : Thread Cert.KernelDynIdeal.nD Cert.KernelDynIdeal.τ).loc Cert.KernelDynIdeal.main_v0) = v0 c
          ∧ r.2.mem ((c.tc : Thread Cert.KernelDynIdeal.nD Cert.KernelDynIdeal.τ).loc Cert.KernelDynIdeal.main_arg0) = m ((c.tc : Thread Cert.KernelDynIdeal.nD Cert.KernelDynIdeal.τ).loc Cert.KernelDynIdeal.main_arg0)
          ∧ r.2.mem ((c.tc : Thread Cert.KernelDynIdeal.nD Cert.KernelDynIdeal.τ).loc Cert.KernelDynIdeal.main_arg1) = m ((c.tc : Thread Cert.KernelDynIdeal.nD Cert.KernelDynIdeal.τ).loc Cert.KernelDynIdeal.main_arg1))
      ∧ θ_run (Cert.ReferenceDynIdeal.defs (F := Ideal)) (onTc (τ := Cert.ReferenceDynIdeal.τ) (Cert.ReferenceDynIdeal.main (F := Ideal))) ⟨m', fun _ => 0, g'⟩ (fun r => ∀ c : Dev Cert.ReferenceDynIdeal.nD,
          r.2.mem ((c.tc : Thread Cert.ReferenceDynIdeal.nD Cert.ReferenceDynIdeal.τ).loc Cert.ReferenceDynIdeal.main_v5) = v0 c
          ∧ r.2.mem ((c.tc : Thread Cert.ReferenceDynIdeal.nD Cert.ReferenceDynIdeal.τ).loc Cert.ReferenceDynIdeal.main_arg0) = m' ((c.tc : Thread Cert.ReferenceDynIdeal.nD Cert.ReferenceDynIdeal.τ).loc Cert.ReferenceDynIdeal.main_arg0)
          ∧ r.2.mem ((c.tc : Thread Cert.ReferenceDynIdeal.nD Cert.ReferenceDynIdeal.τ).loc Cert.ReferenceDynIdeal.main_arg1) = m' ((c.tc : Thread Cert.ReferenceDynIdeal.nD Cert.ReferenceDynIdeal.τ).loc Cert.ReferenceDynIdeal.main_arg1))

def preserves_KernelAdamH_KernelAdamHIdeal : Prop :=
  True

def algebraic_KernelAdamHIdeal_ReferenceAdamHIdeal [hKernelAdamHIdeal : Cert.KernelAdamHIdeal.Facts] [hReferenceAdamHIdeal : Cert.ReferenceAdamHIdeal.Facts] : Prop :=
  ∀ (m : (ℓ : Loc Cert.KernelAdamHIdeal.nD Cert.KernelAdamHIdeal.τ Cert.KernelAdamHIdeal.sig) → Buf (Elt Ideal) ℓ) (g : Dev Cert.KernelAdamHIdeal.nD → PrngReg)
    (m' : (ℓ : Loc Cert.ReferenceAdamHIdeal.nD Cert.ReferenceAdamHIdeal.τ Cert.ReferenceAdamHIdeal.sig) → Buf (Elt Ideal) ℓ) (g' : Dev Cert.ReferenceAdamHIdeal.nD → PrngReg), Pre_KernelAdamHIdeal m →
    (∀ c : Dev Cert.KernelAdamHIdeal.nD,
      m' ((c.tc : Thread Cert.ReferenceAdamHIdeal.nD Cert.ReferenceAdamHIdeal.τ).loc Cert.ReferenceAdamHIdeal.main_arg0) = m ((c.tc : Thread Cert.KernelAdamHIdeal.nD Cert.KernelAdamHIdeal.τ).loc Cert.KernelAdamHIdeal.main_arg0)
      ∧ m' ((c.tc : Thread Cert.ReferenceAdamHIdeal.nD Cert.ReferenceAdamHIdeal.τ).loc Cert.ReferenceAdamHIdeal.main_arg1) = m ((c.tc : Thread Cert.KernelAdamHIdeal.nD Cert.KernelAdamHIdeal.τ).loc Cert.KernelAdamHIdeal.main_arg1)
      ∧ m' ((c.tc : Thread Cert.ReferenceAdamHIdeal.nD Cert.ReferenceAdamHIdeal.τ).loc Cert.ReferenceAdamHIdeal.main_arg2) = m ((c.tc : Thread Cert.KernelAdamHIdeal.nD Cert.KernelAdamHIdeal.τ).loc Cert.KernelAdamHIdeal.main_arg2)
      ∧ m' ((c.tc : Thread Cert.ReferenceAdamHIdeal.nD Cert.ReferenceAdamHIdeal.τ).loc Cert.ReferenceAdamHIdeal.main_arg3) = m ((c.tc : Thread Cert.KernelAdamHIdeal.nD Cert.KernelAdamHIdeal.τ).loc Cert.KernelAdamHIdeal.main_arg3)) →
    ∃ (v0 : (c : Dev Cert.KernelAdamHIdeal.nD) → Buf (Elt Ideal) ((c.tc : Thread Cert.KernelAdamHIdeal.nD Cert.KernelAdamHIdeal.τ).loc Cert.KernelAdamHIdeal.main_v0_0)) (v1 : (c : Dev Cert.KernelAdamHIdeal.nD) → Buf (Elt Ideal) ((c.tc : Thread Cert.KernelAdamHIdeal.nD Cert.KernelAdamHIdeal.τ).loc Cert.KernelAdamHIdeal.main_v0_1)) (v2 : (c : Dev Cert.KernelAdamHIdeal.nD) → Buf (Elt Ideal) ((c.tc : Thread Cert.KernelAdamHIdeal.nD Cert.KernelAdamHIdeal.τ).loc Cert.KernelAdamHIdeal.main_v0_2)) (v3 : (c : Dev Cert.KernelAdamHIdeal.nD) → Buf (Elt Ideal) ((c.tc : Thread Cert.KernelAdamHIdeal.nD Cert.KernelAdamHIdeal.τ).loc Cert.KernelAdamHIdeal.main_v0_3)),
      θ_run (Cert.KernelAdamHIdeal.defs (F := Ideal)) (onTc (τ := Cert.KernelAdamHIdeal.τ) (Cert.KernelAdamHIdeal.main (F := Ideal))) ⟨m, fun _ => 0, g⟩ (fun r => ∀ c : Dev Cert.KernelAdamHIdeal.nD,
          r.2.mem ((c.tc : Thread Cert.KernelAdamHIdeal.nD Cert.KernelAdamHIdeal.τ).loc Cert.KernelAdamHIdeal.main_v0_0) = v0 c
          ∧ r.2.mem ((c.tc : Thread Cert.KernelAdamHIdeal.nD Cert.KernelAdamHIdeal.τ).loc Cert.KernelAdamHIdeal.main_v0_1) = v1 c
          ∧ r.2.mem ((c.tc : Thread Cert.KernelAdamHIdeal.nD Cert.KernelAdamHIdeal.τ).loc Cert.KernelAdamHIdeal.main_v0_2) = v2 c
          ∧ r.2.mem ((c.tc : Thread Cert.KernelAdamHIdeal.nD Cert.KernelAdamHIdeal.τ).loc Cert.KernelAdamHIdeal.main_v0_3) = v3 c
          ∧ r.2.mem ((c.tc : Thread Cert.KernelAdamHIdeal.nD Cert.KernelAdamHIdeal.τ).loc Cert.KernelAdamHIdeal.main_arg0) = m ((c.tc : Thread Cert.KernelAdamHIdeal.nD Cert.KernelAdamHIdeal.τ).loc Cert.KernelAdamHIdeal.main_arg0)
          ∧ r.2.mem ((c.tc : Thread Cert.KernelAdamHIdeal.nD Cert.KernelAdamHIdeal.τ).loc Cert.KernelAdamHIdeal.main_arg1) = m ((c.tc : Thread Cert.KernelAdamHIdeal.nD Cert.KernelAdamHIdeal.τ).loc Cert.KernelAdamHIdeal.main_arg1)
          ∧ r.2.mem ((c.tc : Thread Cert.KernelAdamHIdeal.nD Cert.KernelAdamHIdeal.τ).loc Cert.KernelAdamHIdeal.main_arg2) = m ((c.tc : Thread Cert.KernelAdamHIdeal.nD Cert.KernelAdamHIdeal.τ).loc Cert.KernelAdamHIdeal.main_arg2)
          ∧ r.2.mem ((c.tc : Thread Cert.KernelAdamHIdeal.nD Cert.KernelAdamHIdeal.τ).loc Cert.KernelAdamHIdeal.main_arg3) = m ((c.tc : Thread Cert.KernelAdamHIdeal.nD Cert.KernelAdamHIdeal.τ).loc Cert.KernelAdamHIdeal.main_arg3))
      ∧ θ_run (Cert.ReferenceAdamHIdeal.defs (F := Ideal)) (onTc (τ := Cert.ReferenceAdamHIdeal.τ) (Cert.ReferenceAdamHIdeal.main (F := Ideal))) ⟨m', fun _ => 0, g'⟩ (fun r => ∀ c : Dev Cert.ReferenceAdamHIdeal.nD,
          r.2.mem ((c.tc : Thread Cert.ReferenceAdamHIdeal.nD Cert.ReferenceAdamHIdeal.τ).loc Cert.ReferenceAdamHIdeal.main_v0) = v0 c
          ∧ r.2.mem ((c.tc : Thread Cert.ReferenceAdamHIdeal.nD Cert.ReferenceAdamHIdeal.τ).loc Cert.ReferenceAdamHIdeal.main_v24) = v1 c
          ∧ r.2.mem ((c.tc : Thread Cert.ReferenceAdamHIdeal.nD Cert.ReferenceAdamHIdeal.τ).loc Cert.ReferenceAdamHIdeal.main_v5) = v2 c
          ∧ r.2.mem ((c.tc : Thread Cert.ReferenceAdamHIdeal.nD Cert.ReferenceAdamHIdeal.τ).loc Cert.ReferenceAdamHIdeal.main_v11) = v3 c
          ∧ r.2.mem ((c.tc : Thread Cert.ReferenceAdamHIdeal.nD Cert.ReferenceAdamHIdeal.τ).loc Cert.ReferenceAdamHIdeal.main_arg0) = m' ((c.tc : Thread Cert.ReferenceAdamHIdeal.nD Cert.ReferenceAdamHIdeal.τ).loc Cert.ReferenceAdamHIdeal.main_arg0)
          ∧ r.2.mem ((c.tc : Thread Cert.ReferenceAdamHIdeal.nD Cert.ReferenceAdamHIdeal.τ).loc Cert.ReferenceAdamHIdeal.main_arg1) = m' ((c.tc : Thread Cert.ReferenceAdamHIdeal.nD Cert.ReferenceAdamHIdeal.τ).loc Cert.ReferenceAdamHIdeal.main_arg1)
          ∧ r.2.mem ((c.tc : Thread Cert.ReferenceAdamHIdeal.nD Cert.ReferenceAdamHIdeal.τ).loc Cert.ReferenceAdamHIdeal.main_arg2) = m' ((c.tc : Thread Cert.ReferenceAdamHIdeal.nD Cert.ReferenceAdamHIdeal.τ).loc Cert.ReferenceAdamHIdeal.main_arg2)
          ∧ r.2.mem ((c.tc : Thread Cert.ReferenceAdamHIdeal.nD Cert.ReferenceAdamHIdeal.τ).loc Cert.ReferenceAdamHIdeal.main_arg3) = m' ((c.tc : Thread Cert.ReferenceAdamHIdeal.nD Cert.ReferenceAdamHIdeal.τ).loc Cert.ReferenceAdamHIdeal.main_arg3))

def preserves_KernelAdamFb_KernelAdamFbIdeal : Prop :=
  True

def algebraic_KernelAdamFbIdeal_ReferenceAdamFbIdeal [hKernelAdamFbIdeal : Cert.KernelAdamFbIdeal.Facts] [hReferenceAdamFbIdeal : Cert.ReferenceAdamFbIdeal.Facts] : Prop :=
  ∀ (m : (ℓ : Loc Cert.KernelAdamFbIdeal.nD Cert.KernelAdamFbIdeal.τ Cert.KernelAdamFbIdeal.sig) → Buf (Elt Ideal) ℓ) (g : Dev Cert.KernelAdamFbIdeal.nD → PrngReg)
    (m' : (ℓ : Loc Cert.ReferenceAdamFbIdeal.nD Cert.ReferenceAdamFbIdeal.τ Cert.ReferenceAdamFbIdeal.sig) → Buf (Elt Ideal) ℓ) (g' : Dev Cert.ReferenceAdamFbIdeal.nD → PrngReg), Pre_KernelAdamFbIdeal m →
    (∀ c : Dev Cert.KernelAdamFbIdeal.nD,
      m' ((c.tc : Thread Cert.ReferenceAdamFbIdeal.nD Cert.ReferenceAdamFbIdeal.τ).loc Cert.ReferenceAdamFbIdeal.main_arg0) = m ((c.tc : Thread Cert.KernelAdamFbIdeal.nD Cert.KernelAdamFbIdeal.τ).loc Cert.KernelAdamFbIdeal.main_arg0)
      ∧ m' ((c.tc : Thread Cert.ReferenceAdamFbIdeal.nD Cert.ReferenceAdamFbIdeal.τ).loc Cert.ReferenceAdamFbIdeal.main_arg1) = m ((c.tc : Thread Cert.KernelAdamFbIdeal.nD Cert.KernelAdamFbIdeal.τ).loc Cert.KernelAdamFbIdeal.main_arg1)
      ∧ m' ((c.tc : Thread Cert.ReferenceAdamFbIdeal.nD Cert.ReferenceAdamFbIdeal.τ).loc Cert.ReferenceAdamFbIdeal.main_arg2) = m ((c.tc : Thread Cert.KernelAdamFbIdeal.nD Cert.KernelAdamFbIdeal.τ).loc Cert.KernelAdamFbIdeal.main_arg2)
      ∧ m' ((c.tc : Thread Cert.ReferenceAdamFbIdeal.nD Cert.ReferenceAdamFbIdeal.τ).loc Cert.ReferenceAdamFbIdeal.main_arg3) = m ((c.tc : Thread Cert.KernelAdamFbIdeal.nD Cert.KernelAdamFbIdeal.τ).loc Cert.KernelAdamFbIdeal.main_arg3)) →
    ∃ (v0 : (c : Dev Cert.KernelAdamFbIdeal.nD) → Buf (Elt Ideal) ((c.tc : Thread Cert.KernelAdamFbIdeal.nD Cert.KernelAdamFbIdeal.τ).loc Cert.KernelAdamFbIdeal.main_v0_0)) (v1 : (c : Dev Cert.KernelAdamFbIdeal.nD) → Buf (Elt Ideal) ((c.tc : Thread Cert.KernelAdamFbIdeal.nD Cert.KernelAdamFbIdeal.τ).loc Cert.KernelAdamFbIdeal.main_v0_1)) (v2 : (c : Dev Cert.KernelAdamFbIdeal.nD) → Buf (Elt Ideal) ((c.tc : Thread Cert.KernelAdamFbIdeal.nD Cert.KernelAdamFbIdeal.τ).loc Cert.KernelAdamFbIdeal.main_v0_2)) (v3 : (c : Dev Cert.KernelAdamFbIdeal.nD) → Buf (Elt Ideal) ((c.tc : Thread Cert.KernelAdamFbIdeal.nD Cert.KernelAdamFbIdeal.τ).loc Cert.KernelAdamFbIdeal.main_v0_3)),
      θ_run (Cert.KernelAdamFbIdeal.defs (F := Ideal)) (onTc (τ := Cert.KernelAdamFbIdeal.τ) (Cert.KernelAdamFbIdeal.main (F := Ideal))) ⟨m, fun _ => 0, g⟩ (fun r => ∀ c : Dev Cert.KernelAdamFbIdeal.nD,
          r.2.mem ((c.tc : Thread Cert.KernelAdamFbIdeal.nD Cert.KernelAdamFbIdeal.τ).loc Cert.KernelAdamFbIdeal.main_v0_0) = v0 c
          ∧ r.2.mem ((c.tc : Thread Cert.KernelAdamFbIdeal.nD Cert.KernelAdamFbIdeal.τ).loc Cert.KernelAdamFbIdeal.main_v0_1) = v1 c
          ∧ r.2.mem ((c.tc : Thread Cert.KernelAdamFbIdeal.nD Cert.KernelAdamFbIdeal.τ).loc Cert.KernelAdamFbIdeal.main_v0_2) = v2 c
          ∧ r.2.mem ((c.tc : Thread Cert.KernelAdamFbIdeal.nD Cert.KernelAdamFbIdeal.τ).loc Cert.KernelAdamFbIdeal.main_v0_3) = v3 c
          ∧ r.2.mem ((c.tc : Thread Cert.KernelAdamFbIdeal.nD Cert.KernelAdamFbIdeal.τ).loc Cert.KernelAdamFbIdeal.main_arg0) = m ((c.tc : Thread Cert.KernelAdamFbIdeal.nD Cert.KernelAdamFbIdeal.τ).loc Cert.KernelAdamFbIdeal.main_arg0)
          ∧ r.2.mem ((c.tc : Thread Cert.KernelAdamFbIdeal.nD Cert.KernelAdamFbIdeal.τ).loc Cert.KernelAdamFbIdeal.main_arg1) = m ((c.tc : Thread Cert.KernelAdamFbIdeal.nD Cert.KernelAdamFbIdeal.τ).loc Cert.KernelAdamFbIdeal.main_arg1)
          ∧ r.2.mem ((c.tc : Thread Cert.KernelAdamFbIdeal.nD Cert.KernelAdamFbIdeal.τ).loc Cert.KernelAdamFbIdeal.main_arg2) = m ((c.tc : Thread Cert.KernelAdamFbIdeal.nD Cert.KernelAdamFbIdeal.τ).loc Cert.KernelAdamFbIdeal.main_arg2)
          ∧ r.2.mem ((c.tc : Thread Cert.KernelAdamFbIdeal.nD Cert.KernelAdamFbIdeal.τ).loc Cert.KernelAdamFbIdeal.main_arg3) = m ((c.tc : Thread Cert.KernelAdamFbIdeal.nD Cert.KernelAdamFbIdeal.τ).loc Cert.KernelAdamFbIdeal.main_arg3))
      ∧ θ_run (Cert.ReferenceAdamFbIdeal.defs (F := Ideal)) (onTc (τ := Cert.ReferenceAdamFbIdeal.τ) (Cert.ReferenceAdamFbIdeal.main (F := Ideal))) ⟨m', fun _ => 0, g'⟩ (fun r => ∀ c : Dev Cert.ReferenceAdamFbIdeal.nD,
          r.2.mem ((c.tc : Thread Cert.ReferenceAdamFbIdeal.nD Cert.ReferenceAdamFbIdeal.τ).loc Cert.ReferenceAdamFbIdeal.main_v0) = v0 c
          ∧ r.2.mem ((c.tc : Thread Cert.ReferenceAdamFbIdeal.nD Cert.ReferenceAdamFbIdeal.τ).loc Cert.ReferenceAdamFbIdeal.main_v24) = v1 c
          ∧ r.2.mem ((c.tc : Thread Cert.ReferenceAdamFbIdeal.nD Cert.ReferenceAdamFbIdeal.τ).loc Cert.ReferenceAdamFbIdeal.main_v5) = v2 c
          ∧ r.2.mem ((c.tc : Thread Cert.ReferenceAdamFbIdeal.nD Cert.ReferenceAdamFbIdeal.τ).loc Cert.ReferenceAdamFbIdeal.main_v11) = v3 c
          ∧ r.2.mem ((c.tc : Thread Cert.ReferenceAdamFbIdeal.nD Cert.ReferenceAdamFbIdeal.τ).loc Cert.ReferenceAdamFbIdeal.main_arg0) = m' ((c.tc : Thread Cert.ReferenceAdamFbIdeal.nD Cert.ReferenceAdamFbIdeal.τ).loc Cert.ReferenceAdamFbIdeal.main_arg0)
          ∧ r.2.mem ((c.tc : Thread Cert.ReferenceAdamFbIdeal.nD Cert.ReferenceAdamFbIdeal.τ).loc Cert.ReferenceAdamFbIdeal.main_arg1) = m' ((c.tc : Thread Cert.ReferenceAdamFbIdeal.nD Cert.ReferenceAdamFbIdeal.τ).loc Cert.ReferenceAdamFbIdeal.main_arg1)
          ∧ r.2.mem ((c.tc : Thread Cert.ReferenceAdamFbIdeal.nD Cert.ReferenceAdamFbIdeal.τ).loc Cert.ReferenceAdamFbIdeal.main_arg2) = m' ((c.tc : Thread Cert.ReferenceAdamFbIdeal.nD Cert.ReferenceAdamFbIdeal.τ).loc Cert.ReferenceAdamFbIdeal.main_arg2)
          ∧ r.2.mem ((c.tc : Thread Cert.ReferenceAdamFbIdeal.nD Cert.ReferenceAdamFbIdeal.τ).loc Cert.ReferenceAdamFbIdeal.main_arg3) = m' ((c.tc : Thread Cert.ReferenceAdamFbIdeal.nD Cert.ReferenceAdamFbIdeal.τ).loc Cert.ReferenceAdamFbIdeal.main_arg3))

def preserves_KernelAdamCa_KernelAdamCaIdeal : Prop :=
  True

def algebraic_KernelAdamCaIdeal_ReferenceAdamCaIdeal [hKernelAdamCaIdeal : Cert.KernelAdamCaIdeal.Facts] [hReferenceAdamCaIdeal : Cert.ReferenceAdamCaIdeal.Facts] : Prop :=
  ∀ (m : (ℓ : Loc Cert.KernelAdamCaIdeal.nD Cert.KernelAdamCaIdeal.τ Cert.KernelAdamCaIdeal.sig) → Buf (Elt Ideal) ℓ) (g : Dev Cert.KernelAdamCaIdeal.nD → PrngReg)
    (m' : (ℓ : Loc Cert.ReferenceAdamCaIdeal.nD Cert.ReferenceAdamCaIdeal.τ Cert.ReferenceAdamCaIdeal.sig) → Buf (Elt Ideal) ℓ) (g' : Dev Cert.ReferenceAdamCaIdeal.nD → PrngReg), Pre_KernelAdamCaIdeal m →
    (∀ c : Dev Cert.KernelAdamCaIdeal.nD,
      m' ((c.tc : Thread Cert.ReferenceAdamCaIdeal.nD Cert.ReferenceAdamCaIdeal.τ).loc Cert.ReferenceAdamCaIdeal.main_arg0) = m ((c.tc : Thread Cert.KernelAdamCaIdeal.nD Cert.KernelAdamCaIdeal.τ).loc Cert.KernelAdamCaIdeal.main_arg0)
      ∧ m' ((c.tc : Thread Cert.ReferenceAdamCaIdeal.nD Cert.ReferenceAdamCaIdeal.τ).loc Cert.ReferenceAdamCaIdeal.main_arg1) = m ((c.tc : Thread Cert.KernelAdamCaIdeal.nD Cert.KernelAdamCaIdeal.τ).loc Cert.KernelAdamCaIdeal.main_arg1)
      ∧ m' ((c.tc : Thread Cert.ReferenceAdamCaIdeal.nD Cert.ReferenceAdamCaIdeal.τ).loc Cert.ReferenceAdamCaIdeal.main_arg2) = m ((c.tc : Thread Cert.KernelAdamCaIdeal.nD Cert.KernelAdamCaIdeal.τ).loc Cert.KernelAdamCaIdeal.main_arg2)
      ∧ m' ((c.tc : Thread Cert.ReferenceAdamCaIdeal.nD Cert.ReferenceAdamCaIdeal.τ).loc Cert.ReferenceAdamCaIdeal.main_arg3) = m ((c.tc : Thread Cert.KernelAdamCaIdeal.nD Cert.KernelAdamCaIdeal.τ).loc Cert.KernelAdamCaIdeal.main_arg3)) →
    ∃ (v0 : (c : Dev Cert.KernelAdamCaIdeal.nD) → Buf (Elt Ideal) ((c.tc : Thread Cert.KernelAdamCaIdeal.nD Cert.KernelAdamCaIdeal.τ).loc Cert.KernelAdamCaIdeal.main_v0_0)) (v1 : (c : Dev Cert.KernelAdamCaIdeal.nD) → Buf (Elt Ideal) ((c.tc : Thread Cert.KernelAdamCaIdeal.nD Cert.KernelAdamCaIdeal.τ).loc Cert.KernelAdamCaIdeal.main_v0_1)) (v2 : (c : Dev Cert.KernelAdamCaIdeal.nD) → Buf (Elt Ideal) ((c.tc : Thread Cert.KernelAdamCaIdeal.nD Cert.KernelAdamCaIdeal.τ).loc Cert.KernelAdamCaIdeal.main_v0_2)) (v3 : (c : Dev Cert.KernelAdamCaIdeal.nD) → Buf (Elt Ideal) ((c.tc : Thread Cert.KernelAdamCaIdeal.nD Cert.KernelAdamCaIdeal.τ).loc Cert.KernelAdamCaIdeal.main_v0_3)),
      θ_run (Cert.KernelAdamCaIdeal.defs (F := Ideal)) (onTc (τ := Cert.KernelAdamCaIdeal.τ) (Cert.KernelAdamCaIdeal.main (F := Ideal))) ⟨m, fun _ => 0, g⟩ (fun r => ∀ c : Dev Cert.KernelAdamCaIdeal.nD,
          r.2.mem ((c.tc : Thread Cert.KernelAdamCaIdeal.nD Cert.KernelAdamCaIdeal.τ).loc Cert.KernelAdamCaIdeal.main_v0_0) = v0 c
          ∧ r.2.mem ((c.tc : Thread Cert.KernelAdamCaIdeal.nD Cert.KernelAdamCaIdeal.τ).loc Cert.KernelAdamCaIdeal.main_v0_1) = v1 c
          ∧ r.2.mem ((c.tc : Thread Cert.KernelAdamCaIdeal.nD Cert.KernelAdamCaIdeal.τ).loc Cert.KernelAdamCaIdeal.main_v0_2) = v2 c
          ∧ r.2.mem ((c.tc : Thread Cert.KernelAdamCaIdeal.nD Cert.KernelAdamCaIdeal.τ).loc Cert.KernelAdamCaIdeal.main_v0_3) = v3 c
          ∧ r.2.mem ((c.tc : Thread Cert.KernelAdamCaIdeal.nD Cert.KernelAdamCaIdeal.τ).loc Cert.KernelAdamCaIdeal.main_arg0) = m ((c.tc : Thread Cert.KernelAdamCaIdeal.nD Cert.KernelAdamCaIdeal.τ).loc Cert.KernelAdamCaIdeal.main_arg0)
          ∧ r.2.mem ((c.tc : Thread Cert.KernelAdamCaIdeal.nD Cert.KernelAdamCaIdeal.τ).loc Cert.KernelAdamCaIdeal.main_arg1) = m ((c.tc : Thread Cert.KernelAdamCaIdeal.nD Cert.KernelAdamCaIdeal.τ).loc Cert.KernelAdamCaIdeal.main_arg1)
          ∧ r.2.mem ((c.tc : Thread Cert.KernelAdamCaIdeal.nD Cert.KernelAdamCaIdeal.τ).loc Cert.KernelAdamCaIdeal.main_arg2) = m ((c.tc : Thread Cert.KernelAdamCaIdeal.nD Cert.KernelAdamCaIdeal.τ).loc Cert.KernelAdamCaIdeal.main_arg2)
          ∧ r.2.mem ((c.tc : Thread Cert.KernelAdamCaIdeal.nD Cert.KernelAdamCaIdeal.τ).loc Cert.KernelAdamCaIdeal.main_arg3) = m ((c.tc : Thread Cert.KernelAdamCaIdeal.nD Cert.KernelAdamCaIdeal.τ).loc Cert.KernelAdamCaIdeal.main_arg3))
      ∧ θ_run (Cert.ReferenceAdamCaIdeal.defs (F := Ideal)) (onTc (τ := Cert.ReferenceAdamCaIdeal.τ) (Cert.ReferenceAdamCaIdeal.main (F := Ideal))) ⟨m', fun _ => 0, g'⟩ (fun r => ∀ c : Dev Cert.ReferenceAdamCaIdeal.nD,
          r.2.mem ((c.tc : Thread Cert.ReferenceAdamCaIdeal.nD Cert.ReferenceAdamCaIdeal.τ).loc Cert.ReferenceAdamCaIdeal.main_v0) = v0 c
          ∧ r.2.mem ((c.tc : Thread Cert.ReferenceAdamCaIdeal.nD Cert.ReferenceAdamCaIdeal.τ).loc Cert.ReferenceAdamCaIdeal.main_v24) = v1 c
          ∧ r.2.mem ((c.tc : Thread Cert.ReferenceAdamCaIdeal.nD Cert.ReferenceAdamCaIdeal.τ).loc Cert.ReferenceAdamCaIdeal.main_v5) = v2 c
          ∧ r.2.mem ((c.tc : Thread Cert.ReferenceAdamCaIdeal.nD Cert.ReferenceAdamCaIdeal.τ).loc Cert.ReferenceAdamCaIdeal.main_v11) = v3 c
          ∧ r.2.mem ((c.tc : Thread Cert.ReferenceAdamCaIdeal.nD Cert.ReferenceAdamCaIdeal.τ).loc Cert.ReferenceAdamCaIdeal.main_arg0) = m' ((c.tc : Thread Cert.ReferenceAdamCaIdeal.nD Cert.ReferenceAdamCaIdeal.τ).loc Cert.ReferenceAdamCaIdeal.main_arg0)
          ∧ r.2.mem ((c.tc : Thread Cert.ReferenceAdamCaIdeal.nD Cert.ReferenceAdamCaIdeal.τ).loc Cert.ReferenceAdamCaIdeal.main_arg1) = m' ((c.tc : Thread Cert.ReferenceAdamCaIdeal.nD Cert.ReferenceAdamCaIdeal.τ).loc Cert.ReferenceAdamCaIdeal.main_arg1)
          ∧ r.2.mem ((c.tc : Thread Cert.ReferenceAdamCaIdeal.nD Cert.ReferenceAdamCaIdeal.τ).loc Cert.ReferenceAdamCaIdeal.main_arg2) = m' ((c.tc : Thread Cert.ReferenceAdamCaIdeal.nD Cert.ReferenceAdamCaIdeal.τ).loc Cert.ReferenceAdamCaIdeal.main_arg2)
          ∧ r.2.mem ((c.tc : Thread Cert.ReferenceAdamCaIdeal.nD Cert.ReferenceAdamCaIdeal.τ).loc Cert.ReferenceAdamCaIdeal.main_arg3) = m' ((c.tc : Thread Cert.ReferenceAdamCaIdeal.nD Cert.ReferenceAdamCaIdeal.τ).loc Cert.ReferenceAdamCaIdeal.main_arg3))

def preserves_KernelAdamCs_KernelAdamCsIdeal : Prop :=
  True

def algebraic_KernelAdamCsIdeal_ReferenceAdamCsIdeal [hKernelAdamCsIdeal : Cert.KernelAdamCsIdeal.Facts] [hReferenceAdamCsIdeal : Cert.ReferenceAdamCsIdeal.Facts] : Prop :=
  ∀ (m : (ℓ : Loc Cert.KernelAdamCsIdeal.nD Cert.KernelAdamCsIdeal.τ Cert.KernelAdamCsIdeal.sig) → Buf (Elt Ideal) ℓ) (g : Dev Cert.KernelAdamCsIdeal.nD → PrngReg)
    (m' : (ℓ : Loc Cert.ReferenceAdamCsIdeal.nD Cert.ReferenceAdamCsIdeal.τ Cert.ReferenceAdamCsIdeal.sig) → Buf (Elt Ideal) ℓ) (g' : Dev Cert.ReferenceAdamCsIdeal.nD → PrngReg), Pre_KernelAdamCsIdeal m →
    (∀ c : Dev Cert.KernelAdamCsIdeal.nD,
      m' ((c.tc : Thread Cert.ReferenceAdamCsIdeal.nD Cert.ReferenceAdamCsIdeal.τ).loc Cert.ReferenceAdamCsIdeal.main_arg0) = m ((c.tc : Thread Cert.KernelAdamCsIdeal.nD Cert.KernelAdamCsIdeal.τ).loc Cert.KernelAdamCsIdeal.main_arg0)
      ∧ m' ((c.tc : Thread Cert.ReferenceAdamCsIdeal.nD Cert.ReferenceAdamCsIdeal.τ).loc Cert.ReferenceAdamCsIdeal.main_arg1) = m ((c.tc : Thread Cert.KernelAdamCsIdeal.nD Cert.KernelAdamCsIdeal.τ).loc Cert.KernelAdamCsIdeal.main_arg1)
      ∧ m' ((c.tc : Thread Cert.ReferenceAdamCsIdeal.nD Cert.ReferenceAdamCsIdeal.τ).loc Cert.ReferenceAdamCsIdeal.main_arg2) = m ((c.tc : Thread Cert.KernelAdamCsIdeal.nD Cert.KernelAdamCsIdeal.τ).loc Cert.KernelAdamCsIdeal.main_arg2)
      ∧ m' ((c.tc : Thread Cert.ReferenceAdamCsIdeal.nD Cert.ReferenceAdamCsIdeal.τ).loc Cert.ReferenceAdamCsIdeal.main_arg3) = m ((c.tc : Thread Cert.KernelAdamCsIdeal.nD Cert.KernelAdamCsIdeal.τ).loc Cert.KernelAdamCsIdeal.main_arg3)) →
    ∃ (v0 : (c : Dev Cert.KernelAdamCsIdeal.nD) → Buf (Elt Ideal) ((c.tc : Thread Cert.KernelAdamCsIdeal.nD Cert.KernelAdamCsIdeal.τ).loc Cert.KernelAdamCsIdeal.main_v0_0)) (v1 : (c : Dev Cert.KernelAdamCsIdeal.nD) → Buf (Elt Ideal) ((c.tc : Thread Cert.KernelAdamCsIdeal.nD Cert.KernelAdamCsIdeal.τ).loc Cert.KernelAdamCsIdeal.main_v0_1)) (v2 : (c : Dev Cert.KernelAdamCsIdeal.nD) → Buf (Elt Ideal) ((c.tc : Thread Cert.KernelAdamCsIdeal.nD Cert.KernelAdamCsIdeal.τ).loc Cert.KernelAdamCsIdeal.main_v0_2)) (v3 : (c : Dev Cert.KernelAdamCsIdeal.nD) → Buf (Elt Ideal) ((c.tc : Thread Cert.KernelAdamCsIdeal.nD Cert.KernelAdamCsIdeal.τ).loc Cert.KernelAdamCsIdeal.main_v0_3)),
      θ_run (Cert.KernelAdamCsIdeal.defs (F := Ideal)) (onTc (τ := Cert.KernelAdamCsIdeal.τ) (Cert.KernelAdamCsIdeal.main (F := Ideal))) ⟨m, fun _ => 0, g⟩ (fun r => ∀ c : Dev Cert.KernelAdamCsIdeal.nD,
          r.2.mem ((c.tc : Thread Cert.KernelAdamCsIdeal.nD Cert.KernelAdamCsIdeal.τ).loc Cert.KernelAdamCsIdeal.main_v0_0) = v0 c
          ∧ r.2.mem ((c.tc : Thread Cert.KernelAdamCsIdeal.nD Cert.KernelAdamCsIdeal.τ).loc Cert.KernelAdamCsIdeal.main_v0_1) = v1 c
          ∧ r.2.mem ((c.tc : Thread Cert.KernelAdamCsIdeal.nD Cert.KernelAdamCsIdeal.τ).loc Cert.KernelAdamCsIdeal.main_v0_2) = v2 c
          ∧ r.2.mem ((c.tc : Thread Cert.KernelAdamCsIdeal.nD Cert.KernelAdamCsIdeal.τ).loc Cert.KernelAdamCsIdeal.main_v0_3) = v3 c
          ∧ r.2.mem ((c.tc : Thread Cert.KernelAdamCsIdeal.nD Cert.KernelAdamCsIdeal.τ).loc Cert.KernelAdamCsIdeal.main_arg0) = m ((c.tc : Thread Cert.KernelAdamCsIdeal.nD Cert.KernelAdamCsIdeal.τ).loc Cert.KernelAdamCsIdeal.main_arg0)
          ∧ r.2.mem ((c.tc : Thread Cert.KernelAdamCsIdeal.nD Cert.KernelAdamCsIdeal.τ).loc Cert.KernelAdamCsIdeal.main_arg1) = m ((c.tc : Thread Cert.KernelAdamCsIdeal.nD Cert.KernelAdamCsIdeal.τ).loc Cert.KernelAdamCsIdeal.main_arg1)
          ∧ r.2.mem ((c.tc : Thread Cert.KernelAdamCsIdeal.nD Cert.KernelAdamCsIdeal.τ).loc Cert.KernelAdamCsIdeal.main_arg2) = m ((c.tc : Thread Cert.KernelAdamCsIdeal.nD Cert.KernelAdamCsIdeal.τ).loc Cert.KernelAdamCsIdeal.main_arg2)
          ∧ r.2.mem ((c.tc : Thread Cert.KernelAdamCsIdeal.nD Cert.KernelAdamCsIdeal.τ).loc Cert.KernelAdamCsIdeal.main_arg3) = m ((c.tc : Thread Cert.KernelAdamCsIdeal.nD Cert.KernelAdamCsIdeal.τ).loc Cert.KernelAdamCsIdeal.main_arg3))
      ∧ θ_run (Cert.ReferenceAdamCsIdeal.defs (F := Ideal)) (onTc (τ := Cert.ReferenceAdamCsIdeal.τ) (Cert.ReferenceAdamCsIdeal.main (F := Ideal))) ⟨m', fun _ => 0, g'⟩ (fun r => ∀ c : Dev Cert.ReferenceAdamCsIdeal.nD,
          r.2.mem ((c.tc : Thread Cert.ReferenceAdamCsIdeal.nD Cert.ReferenceAdamCsIdeal.τ).loc Cert.ReferenceAdamCsIdeal.main_v0) = v0 c
          ∧ r.2.mem ((c.tc : Thread Cert.ReferenceAdamCsIdeal.nD Cert.ReferenceAdamCsIdeal.τ).loc Cert.ReferenceAdamCsIdeal.main_v24) = v1 c
          ∧ r.2.mem ((c.tc : Thread Cert.ReferenceAdamCsIdeal.nD Cert.ReferenceAdamCsIdeal.τ).loc Cert.ReferenceAdamCsIdeal.main_v5) = v2 c
          ∧ r.2.mem ((c.tc : Thread Cert.ReferenceAdamCsIdeal.nD Cert.ReferenceAdamCsIdeal.τ).loc Cert.ReferenceAdamCsIdeal.main_v11) = v3 c
          ∧ r.2.mem ((c.tc : Thread Cert.ReferenceAdamCsIdeal.nD Cert.ReferenceAdamCsIdeal.τ).loc Cert.ReferenceAdamCsIdeal.main_arg0) = m' ((c.tc : Thread Cert.ReferenceAdamCsIdeal.nD Cert.ReferenceAdamCsIdeal.τ).loc Cert.ReferenceAdamCsIdeal.main_arg0)
          ∧ r.2.mem ((c.tc : Thread Cert.ReferenceAdamCsIdeal.nD Cert.ReferenceAdamCsIdeal.τ).loc Cert.ReferenceAdamCsIdeal.main_arg1) = m' ((c.tc : Thread Cert.ReferenceAdamCsIdeal.nD Cert.ReferenceAdamCsIdeal.τ).loc Cert.ReferenceAdamCsIdeal.main_arg1)
          ∧ r.2.mem ((c.tc : Thread Cert.ReferenceAdamCsIdeal.nD Cert.ReferenceAdamCsIdeal.τ).loc Cert.ReferenceAdamCsIdeal.main_arg2) = m' ((c.tc : Thread Cert.ReferenceAdamCsIdeal.nD Cert.ReferenceAdamCsIdeal.τ).loc Cert.ReferenceAdamCsIdeal.main_arg2)
          ∧ r.2.mem ((c.tc : Thread Cert.ReferenceAdamCsIdeal.nD Cert.ReferenceAdamCsIdeal.τ).loc Cert.ReferenceAdamCsIdeal.main_arg3) = m' ((c.tc : Thread Cert.ReferenceAdamCsIdeal.nD Cert.ReferenceAdamCsIdeal.τ).loc Cert.ReferenceAdamCsIdeal.main_arg3))

def preserves_KernelAdamCf_KernelAdamCfIdeal : Prop :=
  True

def algebraic_KernelAdamCfIdeal_ReferenceAdamCfIdeal [hKernelAdamCfIdeal : Cert.KernelAdamCfIdeal.Facts] [hReferenceAdamCfIdeal : Cert.ReferenceAdamCfIdeal.Facts] : Prop :=
  ∀ (m : (ℓ : Loc Cert.KernelAdamCfIdeal.nD Cert.KernelAdamCfIdeal.τ Cert.KernelAdamCfIdeal.sig) → Buf (Elt Ideal) ℓ) (g : Dev Cert.KernelAdamCfIdeal.nD → PrngReg)
    (m' : (ℓ : Loc Cert.ReferenceAdamCfIdeal.nD Cert.ReferenceAdamCfIdeal.τ Cert.ReferenceAdamCfIdeal.sig) → Buf (Elt Ideal) ℓ) (g' : Dev Cert.ReferenceAdamCfIdeal.nD → PrngReg), Pre_KernelAdamCfIdeal m →
    (∀ c : Dev Cert.KernelAdamCfIdeal.nD,
      m' ((c.tc : Thread Cert.ReferenceAdamCfIdeal.nD Cert.ReferenceAdamCfIdeal.τ).loc Cert.ReferenceAdamCfIdeal.main_arg0) = m ((c.tc : Thread Cert.KernelAdamCfIdeal.nD Cert.KernelAdamCfIdeal.τ).loc Cert.KernelAdamCfIdeal.main_arg0)
      ∧ m' ((c.tc : Thread Cert.ReferenceAdamCfIdeal.nD Cert.ReferenceAdamCfIdeal.τ).loc Cert.ReferenceAdamCfIdeal.main_arg1) = m ((c.tc : Thread Cert.KernelAdamCfIdeal.nD Cert.KernelAdamCfIdeal.τ).loc Cert.KernelAdamCfIdeal.main_arg1)
      ∧ m' ((c.tc : Thread Cert.ReferenceAdamCfIdeal.nD Cert.ReferenceAdamCfIdeal.τ).loc Cert.ReferenceAdamCfIdeal.main_arg2) = m ((c.tc : Thread Cert.KernelAdamCfIdeal.nD Cert.KernelAdamCfIdeal.τ).loc Cert.KernelAdamCfIdeal.main_arg2)
      ∧ m' ((c.tc : Thread Cert.ReferenceAdamCfIdeal.nD Cert.ReferenceAdamCfIdeal.τ).loc Cert.ReferenceAdamCfIdeal.main_arg3) = m ((c.tc : Thread Cert.KernelAdamCfIdeal.nD Cert.KernelAdamCfIdeal.τ).loc Cert.KernelAdamCfIdeal.main_arg3)) →
    ∃ (v0 : (c : Dev Cert.KernelAdamCfIdeal.nD) → Buf (Elt Ideal) ((c.tc : Thread Cert.KernelAdamCfIdeal.nD Cert.KernelAdamCfIdeal.τ).loc Cert.KernelAdamCfIdeal.main_v0_0)) (v1 : (c : Dev Cert.KernelAdamCfIdeal.nD) → Buf (Elt Ideal) ((c.tc : Thread Cert.KernelAdamCfIdeal.nD Cert.KernelAdamCfIdeal.τ).loc Cert.KernelAdamCfIdeal.main_v0_1)) (v2 : (c : Dev Cert.KernelAdamCfIdeal.nD) → Buf (Elt Ideal) ((c.tc : Thread Cert.KernelAdamCfIdeal.nD Cert.KernelAdamCfIdeal.τ).loc Cert.KernelAdamCfIdeal.main_v0_2)) (v3 : (c : Dev Cert.KernelAdamCfIdeal.nD) → Buf (Elt Ideal) ((c.tc : Thread Cert.KernelAdamCfIdeal.nD Cert.KernelAdamCfIdeal.τ).loc Cert.KernelAdamCfIdeal.main_v0_3)),
      θ_run (Cert.KernelAdamCfIdeal.defs (F := Ideal)) (onTc (τ := Cert.KernelAdamCfIdeal.τ) (Cert.KernelAdamCfIdeal.main (F := Ideal))) ⟨m, fun _ => 0, g⟩ (fun r => ∀ c : Dev Cert.KernelAdamCfIdeal.nD,
          r.2.mem ((c.tc : Thread Cert.KernelAdamCfIdeal.nD Cert.KernelAdamCfIdeal.τ).loc Cert.KernelAdamCfIdeal.main_v0_0) = v0 c
          ∧ r.2.mem ((c.tc : Thread Cert.KernelAdamCfIdeal.nD Cert.KernelAdamCfIdeal.τ).loc Cert.KernelAdamCfIdeal.main_v0_1) = v1 c
          ∧ r.2.mem ((c.tc : Thread Cert.KernelAdamCfIdeal.nD Cert.KernelAdamCfIdeal.τ).loc Cert.KernelAdamCfIdeal.main_v0_2) = v2 c
          ∧ r.2.mem ((c.tc : Thread Cert.KernelAdamCfIdeal.nD Cert.KernelAdamCfIdeal.τ).loc Cert.KernelAdamCfIdeal.main_v0_3) = v3 c
          ∧ r.2.mem ((c.tc : Thread Cert.KernelAdamCfIdeal.nD Cert.KernelAdamCfIdeal.τ).loc Cert.KernelAdamCfIdeal.main_arg0) = m ((c.tc : Thread Cert.KernelAdamCfIdeal.nD Cert.KernelAdamCfIdeal.τ).loc Cert.KernelAdamCfIdeal.main_arg0)
          ∧ r.2.mem ((c.tc : Thread Cert.KernelAdamCfIdeal.nD Cert.KernelAdamCfIdeal.τ).loc Cert.KernelAdamCfIdeal.main_arg1) = m ((c.tc : Thread Cert.KernelAdamCfIdeal.nD Cert.KernelAdamCfIdeal.τ).loc Cert.KernelAdamCfIdeal.main_arg1)
          ∧ r.2.mem ((c.tc : Thread Cert.KernelAdamCfIdeal.nD Cert.KernelAdamCfIdeal.τ).loc Cert.KernelAdamCfIdeal.main_arg2) = m ((c.tc : Thread Cert.KernelAdamCfIdeal.nD Cert.KernelAdamCfIdeal.τ).loc Cert.KernelAdamCfIdeal.main_arg2)
          ∧ r.2.mem ((c.tc : Thread Cert.KernelAdamCfIdeal.nD Cert.KernelAdamCfIdeal.τ).loc Cert.KernelAdamCfIdeal.main_arg3) = m ((c.tc : Thread Cert.KernelAdamCfIdeal.nD Cert.KernelAdamCfIdeal.τ).loc Cert.KernelAdamCfIdeal.main_arg3))
      ∧ θ_run (Cert.ReferenceAdamCfIdeal.defs (F := Ideal)) (onTc (τ := Cert.ReferenceAdamCfIdeal.τ) (Cert.ReferenceAdamCfIdeal.main (F := Ideal))) ⟨m', fun _ => 0, g'⟩ (fun r => ∀ c : Dev Cert.ReferenceAdamCfIdeal.nD,
          r.2.mem ((c.tc : Thread Cert.ReferenceAdamCfIdeal.nD Cert.ReferenceAdamCfIdeal.τ).loc Cert.ReferenceAdamCfIdeal.main_v0) = v0 c
          ∧ r.2.mem ((c.tc : Thread Cert.ReferenceAdamCfIdeal.nD Cert.ReferenceAdamCfIdeal.τ).loc Cert.ReferenceAdamCfIdeal.main_v24) = v1 c
          ∧ r.2.mem ((c.tc : Thread Cert.ReferenceAdamCfIdeal.nD Cert.ReferenceAdamCfIdeal.τ).loc Cert.ReferenceAdamCfIdeal.main_v5) = v2 c
          ∧ r.2.mem ((c.tc : Thread Cert.ReferenceAdamCfIdeal.nD Cert.ReferenceAdamCfIdeal.τ).loc Cert.ReferenceAdamCfIdeal.main_v11) = v3 c
          ∧ r.2.mem ((c.tc : Thread Cert.ReferenceAdamCfIdeal.nD Cert.ReferenceAdamCfIdeal.τ).loc Cert.ReferenceAdamCfIdeal.main_arg0) = m' ((c.tc : Thread Cert.ReferenceAdamCfIdeal.nD Cert.ReferenceAdamCfIdeal.τ).loc Cert.ReferenceAdamCfIdeal.main_arg0)
          ∧ r.2.mem ((c.tc : Thread Cert.ReferenceAdamCfIdeal.nD Cert.ReferenceAdamCfIdeal.τ).loc Cert.ReferenceAdamCfIdeal.main_arg1) = m' ((c.tc : Thread Cert.ReferenceAdamCfIdeal.nD Cert.ReferenceAdamCfIdeal.τ).loc Cert.ReferenceAdamCfIdeal.main_arg1)
          ∧ r.2.mem ((c.tc : Thread Cert.ReferenceAdamCfIdeal.nD Cert.ReferenceAdamCfIdeal.τ).loc Cert.ReferenceAdamCfIdeal.main_arg2) = m' ((c.tc : Thread Cert.ReferenceAdamCfIdeal.nD Cert.ReferenceAdamCfIdeal.τ).loc Cert.ReferenceAdamCfIdeal.main_arg2)
          ∧ r.2.mem ((c.tc : Thread Cert.ReferenceAdamCfIdeal.nD Cert.ReferenceAdamCfIdeal.τ).loc Cert.ReferenceAdamCfIdeal.main_arg3) = m' ((c.tc : Thread Cert.ReferenceAdamCfIdeal.nD Cert.ReferenceAdamCfIdeal.τ).loc Cert.ReferenceAdamCfIdeal.main_arg3))

def preserves_KernelAdamN_KernelAdamNIdeal : Prop :=
  True

def algebraic_KernelAdamNIdeal_ReferenceAdamNIdeal [hKernelAdamNIdeal : Cert.KernelAdamNIdeal.Facts] [hReferenceAdamNIdeal : Cert.ReferenceAdamNIdeal.Facts] : Prop :=
  ∀ (m : (ℓ : Loc Cert.KernelAdamNIdeal.nD Cert.KernelAdamNIdeal.τ Cert.KernelAdamNIdeal.sig) → Buf (Elt Ideal) ℓ) (g : Dev Cert.KernelAdamNIdeal.nD → PrngReg)
    (m' : (ℓ : Loc Cert.ReferenceAdamNIdeal.nD Cert.ReferenceAdamNIdeal.τ Cert.ReferenceAdamNIdeal.sig) → Buf (Elt Ideal) ℓ) (g' : Dev Cert.ReferenceAdamNIdeal.nD → PrngReg), Pre_KernelAdamNIdeal m →
    (∀ c : Dev Cert.KernelAdamNIdeal.nD,
      m' ((c.tc : Thread Cert.ReferenceAdamNIdeal.nD Cert.ReferenceAdamNIdeal.τ).loc Cert.ReferenceAdamNIdeal.main_arg0) = m ((c.tc : Thread Cert.KernelAdamNIdeal.nD Cert.KernelAdamNIdeal.τ).loc Cert.KernelAdamNIdeal.main_arg0)
      ∧ m' ((c.tc : Thread Cert.ReferenceAdamNIdeal.nD Cert.ReferenceAdamNIdeal.τ).loc Cert.ReferenceAdamNIdeal.main_arg1) = m ((c.tc : Thread Cert.KernelAdamNIdeal.nD Cert.KernelAdamNIdeal.τ).loc Cert.KernelAdamNIdeal.main_arg1)
      ∧ m' ((c.tc : Thread Cert.ReferenceAdamNIdeal.nD Cert.ReferenceAdamNIdeal.τ).loc Cert.ReferenceAdamNIdeal.main_arg2) = m ((c.tc : Thread Cert.KernelAdamNIdeal.nD Cert.KernelAdamNIdeal.τ).loc Cert.KernelAdamNIdeal.main_arg2)
      ∧ m' ((c.tc : Thread Cert.ReferenceAdamNIdeal.nD Cert.ReferenceAdamNIdeal.τ).loc Cert.ReferenceAdamNIdeal.main_arg3) = m ((c.tc : Thread Cert.KernelAdamNIdeal.nD Cert.KernelAdamNIdeal.τ).loc Cert.KernelAdamNIdeal.main_arg3)) →
    ∃ (v0 : (c : Dev Cert.KernelAdamNIdeal.nD) → Buf (Elt Ideal) ((c.tc : Thread Cert.KernelAdamNIdeal.nD Cert.KernelAdamNIdeal.τ).loc Cert.KernelAdamNIdeal.main_v0_0)) (v1 : (c : Dev Cert.KernelAdamNIdeal.nD) → Buf (Elt Ideal) ((c.tc : Thread Cert.KernelAdamNIdeal.nD Cert.KernelAdamNIdeal.τ).loc Cert.KernelAdamNIdeal.main_v0_1)) (v2 : (c : Dev Cert.KernelAdamNIdeal.nD) → Buf (Elt Ideal) ((c.tc : Thread Cert.KernelAdamNIdeal.nD Cert.KernelAdamNIdeal.τ).loc Cert.KernelAdamNIdeal.main_v0_2)) (v3 : (c : Dev Cert.KernelAdamNIdeal.nD) → Buf (Elt Ideal) ((c.tc : Thread Cert.KernelAdamNIdeal.nD Cert.KernelAdamNIdeal.τ).loc Cert.KernelAdamNIdeal.main_v0_3)),
      θ_run (Cert.KernelAdamNIdeal.defs (F := Ideal)) (onTc (τ := Cert.KernelAdamNIdeal.τ) (Cert.KernelAdamNIdeal.main (F := Ideal))) ⟨m, fun _ => 0, g⟩ (fun r => ∀ c : Dev Cert.KernelAdamNIdeal.nD,
          r.2.mem ((c.tc : Thread Cert.KernelAdamNIdeal.nD Cert.KernelAdamNIdeal.τ).loc Cert.KernelAdamNIdeal.main_v0_0) = v0 c
          ∧ r.2.mem ((c.tc : Thread Cert.KernelAdamNIdeal.nD Cert.KernelAdamNIdeal.τ).loc Cert.KernelAdamNIdeal.main_v0_1) = v1 c
          ∧ r.2.mem ((c.tc : Thread Cert.KernelAdamNIdeal.nD Cert.KernelAdamNIdeal.τ).loc Cert.KernelAdamNIdeal.main_v0_2) = v2 c
          ∧ r.2.mem ((c.tc : Thread Cert.KernelAdamNIdeal.nD Cert.KernelAdamNIdeal.τ).loc Cert.KernelAdamNIdeal.main_v0_3) = v3 c
          ∧ r.2.mem ((c.tc : Thread Cert.KernelAdamNIdeal.nD Cert.KernelAdamNIdeal.τ).loc Cert.KernelAdamNIdeal.main_arg0) = m ((c.tc : Thread Cert.KernelAdamNIdeal.nD Cert.KernelAdamNIdeal.τ).loc Cert.KernelAdamNIdeal.main_arg0)
          ∧ r.2.mem ((c.tc : Thread Cert.KernelAdamNIdeal.nD Cert.KernelAdamNIdeal.τ).loc Cert.KernelAdamNIdeal.main_arg1) = m ((c.tc : Thread Cert.KernelAdamNIdeal.nD Cert.KernelAdamNIdeal.τ).loc Cert.KernelAdamNIdeal.main_arg1)
          ∧ r.2.mem ((c.tc : Thread Cert.KernelAdamNIdeal.nD Cert.KernelAdamNIdeal.τ).loc Cert.KernelAdamNIdeal.main_arg2) = m ((c.tc : Thread Cert.KernelAdamNIdeal.nD Cert.KernelAdamNIdeal.τ).loc Cert.KernelAdamNIdeal.main_arg2)
          ∧ r.2.mem ((c.tc : Thread Cert.KernelAdamNIdeal.nD Cert.KernelAdamNIdeal.τ).loc Cert.KernelAdamNIdeal.main_arg3) = m ((c.tc : Thread Cert.KernelAdamNIdeal.nD Cert.KernelAdamNIdeal.τ).loc Cert.KernelAdamNIdeal.main_arg3))
      ∧ θ_run (Cert.ReferenceAdamNIdeal.defs (F := Ideal)) (onTc (τ := Cert.ReferenceAdamNIdeal.τ) (Cert.ReferenceAdamNIdeal.main (F := Ideal))) ⟨m', fun _ => 0, g'⟩ (fun r => ∀ c : Dev Cert.ReferenceAdamNIdeal.nD,
          r.2.mem ((c.tc : Thread Cert.ReferenceAdamNIdeal.nD Cert.ReferenceAdamNIdeal.τ).loc Cert.ReferenceAdamNIdeal.main_v0) = v0 c
          ∧ r.2.mem ((c.tc : Thread Cert.ReferenceAdamNIdeal.nD Cert.ReferenceAdamNIdeal.τ).loc Cert.ReferenceAdamNIdeal.main_v24) = v1 c
          ∧ r.2.mem ((c.tc : Thread Cert.ReferenceAdamNIdeal.nD Cert.ReferenceAdamNIdeal.τ).loc Cert.ReferenceAdamNIdeal.main_v5) = v2 c
          ∧ r.2.mem ((c.tc : Thread Cert.ReferenceAdamNIdeal.nD Cert.ReferenceAdamNIdeal.τ).loc Cert.ReferenceAdamNIdeal.main_v11) = v3 c
          ∧ r.2.mem ((c.tc : Thread Cert.ReferenceAdamNIdeal.nD Cert.ReferenceAdamNIdeal.τ).loc Cert.ReferenceAdamNIdeal.main_arg0) = m' ((c.tc : Thread Cert.ReferenceAdamNIdeal.nD Cert.ReferenceAdamNIdeal.τ).loc Cert.ReferenceAdamNIdeal.main_arg0)
          ∧ r.2.mem ((c.tc : Thread Cert.ReferenceAdamNIdeal.nD Cert.ReferenceAdamNIdeal.τ).loc Cert.ReferenceAdamNIdeal.main_arg1) = m' ((c.tc : Thread Cert.ReferenceAdamNIdeal.nD Cert.ReferenceAdamNIdeal.τ).loc Cert.ReferenceAdamNIdeal.main_arg1)
          ∧ r.2.mem ((c.tc : Thread Cert.ReferenceAdamNIdeal.nD Cert.ReferenceAdamNIdeal.τ).loc Cert.ReferenceAdamNIdeal.main_arg2) = m' ((c.tc : Thread Cert.ReferenceAdamNIdeal.nD Cert.ReferenceAdamNIdeal.τ).loc Cert.ReferenceAdamNIdeal.main_arg2)
          ∧ r.2.mem ((c.tc : Thread Cert.ReferenceAdamNIdeal.nD Cert.ReferenceAdamNIdeal.τ).loc Cert.ReferenceAdamNIdeal.main_arg3) = m' ((c.tc : Thread Cert.ReferenceAdamNIdeal.nD Cert.ReferenceAdamNIdeal.τ).loc Cert.ReferenceAdamNIdeal.main_arg3))

def preserves_KernelAdamSn_KernelAdamSnIdeal : Prop :=
  True

def algebraic_KernelAdamSnIdeal_ReferenceAdamSnIdeal [hKernelAdamSnIdeal : Cert.KernelAdamSnIdeal.Facts] [hReferenceAdamSnIdeal : Cert.ReferenceAdamSnIdeal.Facts] : Prop :=
  ∀ (m : (ℓ : Loc Cert.KernelAdamSnIdeal.nD Cert.KernelAdamSnIdeal.τ Cert.KernelAdamSnIdeal.sig) → Buf (Elt Ideal) ℓ) (g : Dev Cert.KernelAdamSnIdeal.nD → PrngReg)
    (m' : (ℓ : Loc Cert.ReferenceAdamSnIdeal.nD Cert.ReferenceAdamSnIdeal.τ Cert.ReferenceAdamSnIdeal.sig) → Buf (Elt Ideal) ℓ) (g' : Dev Cert.ReferenceAdamSnIdeal.nD → PrngReg), Pre_KernelAdamSnIdeal m →
    (∀ c : Dev Cert.KernelAdamSnIdeal.nD,
      m' ((c.tc : Thread Cert.ReferenceAdamSnIdeal.nD Cert.ReferenceAdamSnIdeal.τ).loc Cert.ReferenceAdamSnIdeal.main_arg0) = m ((c.tc : Thread Cert.KernelAdamSnIdeal.nD Cert.KernelAdamSnIdeal.τ).loc Cert.KernelAdamSnIdeal.main_arg0)
      ∧ m' ((c.tc : Thread Cert.ReferenceAdamSnIdeal.nD Cert.ReferenceAdamSnIdeal.τ).loc Cert.ReferenceAdamSnIdeal.main_arg1) = m ((c.tc : Thread Cert.KernelAdamSnIdeal.nD Cert.KernelAdamSnIdeal.τ).loc Cert.KernelAdamSnIdeal.main_arg1)
      ∧ m' ((c.tc : Thread Cert.ReferenceAdamSnIdeal.nD Cert.ReferenceAdamSnIdeal.τ).loc Cert.ReferenceAdamSnIdeal.main_arg2) = m ((c.tc : Thread Cert.KernelAdamSnIdeal.nD Cert.KernelAdamSnIdeal.τ).loc Cert.KernelAdamSnIdeal.main_arg2)
      ∧ m' ((c.tc : Thread Cert.ReferenceAdamSnIdeal.nD Cert.ReferenceAdamSnIdeal.τ).loc Cert.ReferenceAdamSnIdeal.main_arg3) = m ((c.tc : Thread Cert.KernelAdamSnIdeal.nD Cert.KernelAdamSnIdeal.τ).loc Cert.KernelAdamSnIdeal.main_arg3)) →
    ∃ (v0 : (c : Dev Cert.KernelAdamSnIdeal.nD) → Buf (Elt Ideal) ((c.tc : Thread Cert.KernelAdamSnIdeal.nD Cert.KernelAdamSnIdeal.τ).loc Cert.KernelAdamSnIdeal.main_v0_0)) (v1 : (c : Dev Cert.KernelAdamSnIdeal.nD) → Buf (Elt Ideal) ((c.tc : Thread Cert.KernelAdamSnIdeal.nD Cert.KernelAdamSnIdeal.τ).loc Cert.KernelAdamSnIdeal.main_v0_1)) (v2 : (c : Dev Cert.KernelAdamSnIdeal.nD) → Buf (Elt Ideal) ((c.tc : Thread Cert.KernelAdamSnIdeal.nD Cert.KernelAdamSnIdeal.τ).loc Cert.KernelAdamSnIdeal.main_v0_2)) (v3 : (c : Dev Cert.KernelAdamSnIdeal.nD) → Buf (Elt Ideal) ((c.tc : Thread Cert.KernelAdamSnIdeal.nD Cert.KernelAdamSnIdeal.τ).loc Cert.KernelAdamSnIdeal.main_v0_3)),
      θ_run (Cert.KernelAdamSnIdeal.defs (F := Ideal)) (onTc (τ := Cert.KernelAdamSnIdeal.τ) (Cert.KernelAdamSnIdeal.main (F := Ideal))) ⟨m, fun _ => 0, g⟩ (fun r => ∀ c : Dev Cert.KernelAdamSnIdeal.nD,
          r.2.mem ((c.tc : Thread Cert.KernelAdamSnIdeal.nD Cert.KernelAdamSnIdeal.τ).loc Cert.KernelAdamSnIdeal.main_v0_0) = v0 c
          ∧ r.2.mem ((c.tc : Thread Cert.KernelAdamSnIdeal.nD Cert.KernelAdamSnIdeal.τ).loc Cert.KernelAdamSnIdeal.main_v0_1) = v1 c
          ∧ r.2.mem ((c.tc : Thread Cert.KernelAdamSnIdeal.nD Cert.KernelAdamSnIdeal.τ).loc Cert.KernelAdamSnIdeal.main_v0_2) = v2 c
          ∧ r.2.mem ((c.tc : Thread Cert.KernelAdamSnIdeal.nD Cert.KernelAdamSnIdeal.τ).loc Cert.KernelAdamSnIdeal.main_v0_3) = v3 c
          ∧ r.2.mem ((c.tc : Thread Cert.KernelAdamSnIdeal.nD Cert.KernelAdamSnIdeal.τ).loc Cert.KernelAdamSnIdeal.main_arg0) = m ((c.tc : Thread Cert.KernelAdamSnIdeal.nD Cert.KernelAdamSnIdeal.τ).loc Cert.KernelAdamSnIdeal.main_arg0)
          ∧ r.2.mem ((c.tc : Thread Cert.KernelAdamSnIdeal.nD Cert.KernelAdamSnIdeal.τ).loc Cert.KernelAdamSnIdeal.main_arg1) = m ((c.tc : Thread Cert.KernelAdamSnIdeal.nD Cert.KernelAdamSnIdeal.τ).loc Cert.KernelAdamSnIdeal.main_arg1)
          ∧ r.2.mem ((c.tc : Thread Cert.KernelAdamSnIdeal.nD Cert.KernelAdamSnIdeal.τ).loc Cert.KernelAdamSnIdeal.main_arg2) = m ((c.tc : Thread Cert.KernelAdamSnIdeal.nD Cert.KernelAdamSnIdeal.τ).loc Cert.KernelAdamSnIdeal.main_arg2)
          ∧ r.2.mem ((c.tc : Thread Cert.KernelAdamSnIdeal.nD Cert.KernelAdamSnIdeal.τ).loc Cert.KernelAdamSnIdeal.main_arg3) = m ((c.tc : Thread Cert.KernelAdamSnIdeal.nD Cert.KernelAdamSnIdeal.τ).loc Cert.KernelAdamSnIdeal.main_arg3))
      ∧ θ_run (Cert.ReferenceAdamSnIdeal.defs (F := Ideal)) (onTc (τ := Cert.ReferenceAdamSnIdeal.τ) (Cert.ReferenceAdamSnIdeal.main (F := Ideal))) ⟨m', fun _ => 0, g'⟩ (fun r => ∀ c : Dev Cert.ReferenceAdamSnIdeal.nD,
          r.2.mem ((c.tc : Thread Cert.ReferenceAdamSnIdeal.nD Cert.ReferenceAdamSnIdeal.τ).loc Cert.ReferenceAdamSnIdeal.main_v0) = v0 c
          ∧ r.2.mem ((c.tc : Thread Cert.ReferenceAdamSnIdeal.nD Cert.ReferenceAdamSnIdeal.τ).loc Cert.ReferenceAdamSnIdeal.main_v24) = v1 c
          ∧ r.2.mem ((c.tc : Thread Cert.ReferenceAdamSnIdeal.nD Cert.ReferenceAdamSnIdeal.τ).loc Cert.ReferenceAdamSnIdeal.main_v5) = v2 c
          ∧ r.2.mem ((c.tc : Thread Cert.ReferenceAdamSnIdeal.nD Cert.ReferenceAdamSnIdeal.τ).loc Cert.ReferenceAdamSnIdeal.main_v11) = v3 c
          ∧ r.2.mem ((c.tc : Thread Cert.ReferenceAdamSnIdeal.nD Cert.ReferenceAdamSnIdeal.τ).loc Cert.ReferenceAdamSnIdeal.main_arg0) = m' ((c.tc : Thread Cert.ReferenceAdamSnIdeal.nD Cert.ReferenceAdamSnIdeal.τ).loc Cert.ReferenceAdamSnIdeal.main_arg0)
          ∧ r.2.mem ((c.tc : Thread Cert.ReferenceAdamSnIdeal.nD Cert.ReferenceAdamSnIdeal.τ).loc Cert.ReferenceAdamSnIdeal.main_arg1) = m' ((c.tc : Thread Cert.ReferenceAdamSnIdeal.nD Cert.ReferenceAdamSnIdeal.τ).loc Cert.ReferenceAdamSnIdeal.main_arg1)
          ∧ r.2.mem ((c.tc : Thread Cert.ReferenceAdamSnIdeal.nD Cert.ReferenceAdamSnIdeal.τ).loc Cert.ReferenceAdamSnIdeal.main_arg2) = m' ((c.tc : Thread Cert.ReferenceAdamSnIdeal.nD Cert.ReferenceAdamSnIdeal.τ).loc Cert.ReferenceAdamSnIdeal.main_arg2)
          ∧ r.2.mem ((c.tc : Thread Cert.ReferenceAdamSnIdeal.nD Cert.ReferenceAdamSnIdeal.τ).loc Cert.ReferenceAdamSnIdeal.main_arg3) = m' ((c.tc : Thread Cert.ReferenceAdamSnIdeal.nD Cert.ReferenceAdamSnIdeal.τ).loc Cert.ReferenceAdamSnIdeal.main_arg3))

def preserves_KernelAdamSb_KernelAdamSbIdeal : Prop :=
  True

def algebraic_KernelAdamSbIdeal_ReferenceAdamSbIdeal [hKernelAdamSbIdeal : Cert.KernelAdamSbIdeal.Facts] [hReferenceAdamSbIdeal : Cert.ReferenceAdamSbIdeal.Facts] : Prop :=
  ∀ (m : (ℓ : Loc Cert.KernelAdamSbIdeal.nD Cert.KernelAdamSbIdeal.τ Cert.KernelAdamSbIdeal.sig) → Buf (Elt Ideal) ℓ) (g : Dev Cert.KernelAdamSbIdeal.nD → PrngReg)
    (m' : (ℓ : Loc Cert.ReferenceAdamSbIdeal.nD Cert.ReferenceAdamSbIdeal.τ Cert.ReferenceAdamSbIdeal.sig) → Buf (Elt Ideal) ℓ) (g' : Dev Cert.ReferenceAdamSbIdeal.nD → PrngReg), Pre_KernelAdamSbIdeal m →
    (∀ c : Dev Cert.KernelAdamSbIdeal.nD,
      m' ((c.tc : Thread Cert.ReferenceAdamSbIdeal.nD Cert.ReferenceAdamSbIdeal.τ).loc Cert.ReferenceAdamSbIdeal.main_arg0) = m ((c.tc : Thread Cert.KernelAdamSbIdeal.nD Cert.KernelAdamSbIdeal.τ).loc Cert.KernelAdamSbIdeal.main_arg0)
      ∧ m' ((c.tc : Thread Cert.ReferenceAdamSbIdeal.nD Cert.ReferenceAdamSbIdeal.τ).loc Cert.ReferenceAdamSbIdeal.main_arg1) = m ((c.tc : Thread Cert.KernelAdamSbIdeal.nD Cert.KernelAdamSbIdeal.τ).loc Cert.KernelAdamSbIdeal.main_arg1)
      ∧ m' ((c.tc : Thread Cert.ReferenceAdamSbIdeal.nD Cert.ReferenceAdamSbIdeal.τ).loc Cert.ReferenceAdamSbIdeal.main_arg2) = m ((c.tc : Thread Cert.KernelAdamSbIdeal.nD Cert.KernelAdamSbIdeal.τ).loc Cert.KernelAdamSbIdeal.main_arg2)
      ∧ m' ((c.tc : Thread Cert.ReferenceAdamSbIdeal.nD Cert.ReferenceAdamSbIdeal.τ).loc Cert.ReferenceAdamSbIdeal.main_arg3) = m ((c.tc : Thread Cert.KernelAdamSbIdeal.nD Cert.KernelAdamSbIdeal.τ).loc Cert.KernelAdamSbIdeal.main_arg3)) →
    ∃ (v0 : (c : Dev Cert.KernelAdamSbIdeal.nD) → Buf (Elt Ideal) ((c.tc : Thread Cert.KernelAdamSbIdeal.nD Cert.KernelAdamSbIdeal.τ).loc Cert.KernelAdamSbIdeal.main_v0_0)) (v1 : (c : Dev Cert.KernelAdamSbIdeal.nD) → Buf (Elt Ideal) ((c.tc : Thread Cert.KernelAdamSbIdeal.nD Cert.KernelAdamSbIdeal.τ).loc Cert.KernelAdamSbIdeal.main_v0_1)) (v2 : (c : Dev Cert.KernelAdamSbIdeal.nD) → Buf (Elt Ideal) ((c.tc : Thread Cert.KernelAdamSbIdeal.nD Cert.KernelAdamSbIdeal.τ).loc Cert.KernelAdamSbIdeal.main_v0_2)) (v3 : (c : Dev Cert.KernelAdamSbIdeal.nD) → Buf (Elt Ideal) ((c.tc : Thread Cert.KernelAdamSbIdeal.nD Cert.KernelAdamSbIdeal.τ).loc Cert.KernelAdamSbIdeal.main_v0_3)),
      θ_run (Cert.KernelAdamSbIdeal.defs (F := Ideal)) (onTc (τ := Cert.KernelAdamSbIdeal.τ) (Cert.KernelAdamSbIdeal.main (F := Ideal))) ⟨m, fun _ => 0, g⟩ (fun r => ∀ c : Dev Cert.KernelAdamSbIdeal.nD,
          r.2.mem ((c.tc : Thread Cert.KernelAdamSbIdeal.nD Cert.KernelAdamSbIdeal.τ).loc Cert.KernelAdamSbIdeal.main_v0_0) = v0 c
          ∧ r.2.mem ((c.tc : Thread Cert.KernelAdamSbIdeal.nD Cert.KernelAdamSbIdeal.τ).loc Cert.KernelAdamSbIdeal.main_v0_1) = v1 c
          ∧ r.2.mem ((c.tc : Thread Cert.KernelAdamSbIdeal.nD Cert.KernelAdamSbIdeal.τ).loc Cert.KernelAdamSbIdeal.main_v0_2) = v2 c
          ∧ r.2.mem ((c.tc : Thread Cert.KernelAdamSbIdeal.nD Cert.KernelAdamSbIdeal.τ).loc Cert.KernelAdamSbIdeal.main_v0_3) = v3 c
          ∧ r.2.mem ((c.tc : Thread Cert.KernelAdamSbIdeal.nD Cert.KernelAdamSbIdeal.τ).loc Cert.KernelAdamSbIdeal.main_arg0) = m ((c.tc : Thread Cert.KernelAdamSbIdeal.nD Cert.KernelAdamSbIdeal.τ).loc Cert.KernelAdamSbIdeal.main_arg0)
          ∧ r.2.mem ((c.tc : Thread Cert.KernelAdamSbIdeal.nD Cert.KernelAdamSbIdeal.τ).loc Cert.KernelAdamSbIdeal.main_arg1) = m ((c.tc : Thread Cert.KernelAdamSbIdeal.nD Cert.KernelAdamSbIdeal.τ).loc Cert.KernelAdamSbIdeal.main_arg1)
          ∧ r.2.mem ((c.tc : Thread Cert.KernelAdamSbIdeal.nD Cert.KernelAdamSbIdeal.τ).loc Cert.KernelAdamSbIdeal.main_arg2) = m ((c.tc : Thread Cert.KernelAdamSbIdeal.nD Cert.KernelAdamSbIdeal.τ).loc Cert.KernelAdamSbIdeal.main_arg2)
          ∧ r.2.mem ((c.tc : Thread Cert.KernelAdamSbIdeal.nD Cert.KernelAdamSbIdeal.τ).loc Cert.KernelAdamSbIdeal.main_arg3) = m ((c.tc : Thread Cert.KernelAdamSbIdeal.nD Cert.KernelAdamSbIdeal.τ).loc Cert.KernelAdamSbIdeal.main_arg3))
      ∧ θ_run (Cert.ReferenceAdamSbIdeal.defs (F := Ideal)) (onTc (τ := Cert.ReferenceAdamSbIdeal.τ) (Cert.ReferenceAdamSbIdeal.main (F := Ideal))) ⟨m', fun _ => 0, g'⟩ (fun r => ∀ c : Dev Cert.ReferenceAdamSbIdeal.nD,
          r.2.mem ((c.tc : Thread Cert.ReferenceAdamSbIdeal.nD Cert.ReferenceAdamSbIdeal.τ).loc Cert.ReferenceAdamSbIdeal.main_v0) = v0 c
          ∧ r.2.mem ((c.tc : Thread Cert.ReferenceAdamSbIdeal.nD Cert.ReferenceAdamSbIdeal.τ).loc Cert.ReferenceAdamSbIdeal.main_v24) = v1 c
          ∧ r.2.mem ((c.tc : Thread Cert.ReferenceAdamSbIdeal.nD Cert.ReferenceAdamSbIdeal.τ).loc Cert.ReferenceAdamSbIdeal.main_v5) = v2 c
          ∧ r.2.mem ((c.tc : Thread Cert.ReferenceAdamSbIdeal.nD Cert.ReferenceAdamSbIdeal.τ).loc Cert.ReferenceAdamSbIdeal.main_v11) = v3 c
          ∧ r.2.mem ((c.tc : Thread Cert.ReferenceAdamSbIdeal.nD Cert.ReferenceAdamSbIdeal.τ).loc Cert.ReferenceAdamSbIdeal.main_arg0) = m' ((c.tc : Thread Cert.ReferenceAdamSbIdeal.nD Cert.ReferenceAdamSbIdeal.τ).loc Cert.ReferenceAdamSbIdeal.main_arg0)
          ∧ r.2.mem ((c.tc : Thread Cert.ReferenceAdamSbIdeal.nD Cert.ReferenceAdamSbIdeal.τ).loc Cert.ReferenceAdamSbIdeal.main_arg1) = m' ((c.tc : Thread Cert.ReferenceAdamSbIdeal.nD Cert.ReferenceAdamSbIdeal.τ).loc Cert.ReferenceAdamSbIdeal.main_arg1)
          ∧ r.2.mem ((c.tc : Thread Cert.ReferenceAdamSbIdeal.nD Cert.ReferenceAdamSbIdeal.τ).loc Cert.ReferenceAdamSbIdeal.main_arg2) = m' ((c.tc : Thread Cert.ReferenceAdamSbIdeal.nD Cert.ReferenceAdamSbIdeal.τ).loc Cert.ReferenceAdamSbIdeal.main_arg2)
          ∧ r.2.mem ((c.tc : Thread Cert.ReferenceAdamSbIdeal.nD Cert.ReferenceAdamSbIdeal.τ).loc Cert.ReferenceAdamSbIdeal.main_arg3) = m' ((c.tc : Thread Cert.ReferenceAdamSbIdeal.nD Cert.ReferenceAdamSbIdeal.τ).loc Cert.ReferenceAdamSbIdeal.main_arg3))

def preserves_KernelAdamIn_KernelAdamInIdeal : Prop :=
  True

def algebraic_KernelAdamInIdeal_ReferenceAdamInIdeal [hKernelAdamInIdeal : Cert.KernelAdamInIdeal.Facts] [hReferenceAdamInIdeal : Cert.ReferenceAdamInIdeal.Facts] : Prop :=
  ∀ (m : (ℓ : Loc Cert.KernelAdamInIdeal.nD Cert.KernelAdamInIdeal.τ Cert.KernelAdamInIdeal.sig) → Buf (Elt Ideal) ℓ) (g : Dev Cert.KernelAdamInIdeal.nD → PrngReg)
    (m' : (ℓ : Loc Cert.ReferenceAdamInIdeal.nD Cert.ReferenceAdamInIdeal.τ Cert.ReferenceAdamInIdeal.sig) → Buf (Elt Ideal) ℓ) (g' : Dev Cert.ReferenceAdamInIdeal.nD → PrngReg), Pre_KernelAdamInIdeal m →
    (∀ c : Dev Cert.KernelAdamInIdeal.nD,
      m' ((c.tc : Thread Cert.ReferenceAdamInIdeal.nD Cert.ReferenceAdamInIdeal.τ).loc Cert.ReferenceAdamInIdeal.main_arg0) = m ((c.tc : Thread Cert.KernelAdamInIdeal.nD Cert.KernelAdamInIdeal.τ).loc Cert.KernelAdamInIdeal.main_arg0)
      ∧ m' ((c.tc : Thread Cert.ReferenceAdamInIdeal.nD Cert.ReferenceAdamInIdeal.τ).loc Cert.ReferenceAdamInIdeal.main_arg1) = m ((c.tc : Thread Cert.KernelAdamInIdeal.nD Cert.KernelAdamInIdeal.τ).loc Cert.KernelAdamInIdeal.main_arg1)
      ∧ m' ((c.tc : Thread Cert.ReferenceAdamInIdeal.nD Cert.ReferenceAdamInIdeal.τ).loc Cert.ReferenceAdamInIdeal.main_arg2) = m ((c.tc : Thread Cert.KernelAdamInIdeal.nD Cert.KernelAdamInIdeal.τ).loc Cert.KernelAdamInIdeal.main_arg2)
      ∧ m' ((c.tc : Thread Cert.ReferenceAdamInIdeal.nD Cert.ReferenceAdamInIdeal.τ).loc Cert.ReferenceAdamInIdeal.main_arg3) = m ((c.tc : Thread Cert.KernelAdamInIdeal.nD Cert.KernelAdamInIdeal.τ).loc Cert.KernelAdamInIdeal.main_arg3)) →
    ∃ (v0 : (c : Dev Cert.KernelAdamInIdeal.nD) → Buf (Elt Ideal) ((c.tc : Thread Cert.KernelAdamInIdeal.nD Cert.KernelAdamInIdeal.τ).loc Cert.KernelAdamInIdeal.main_v0_0)) (v1 : (c : Dev Cert.KernelAdamInIdeal.nD) → Buf (Elt Ideal) ((c.tc : Thread Cert.KernelAdamInIdeal.nD Cert.KernelAdamInIdeal.τ).loc Cert.KernelAdamInIdeal.main_v0_1)) (v2 : (c : Dev Cert.KernelAdamInIdeal.nD) → Buf (Elt Ideal) ((c.tc : Thread Cert.KernelAdamInIdeal.nD Cert.KernelAdamInIdeal.τ).loc Cert.KernelAdamInIdeal.main_v0_2)) (v3 : (c : Dev Cert.KernelAdamInIdeal.nD) → Buf (Elt Ideal) ((c.tc : Thread Cert.KernelAdamInIdeal.nD Cert.KernelAdamInIdeal.τ).loc Cert.KernelAdamInIdeal.main_v0_3)),
      θ_run (Cert.KernelAdamInIdeal.defs (F := Ideal)) (onTc (τ := Cert.KernelAdamInIdeal.τ) (Cert.KernelAdamInIdeal.main (F := Ideal))) ⟨m, fun _ => 0, g⟩ (fun r => ∀ c : Dev Cert.KernelAdamInIdeal.nD,
          r.2.mem ((c.tc : Thread Cert.KernelAdamInIdeal.nD Cert.KernelAdamInIdeal.τ).loc Cert.KernelAdamInIdeal.main_v0_0) = v0 c
          ∧ r.2.mem ((c.tc : Thread Cert.KernelAdamInIdeal.nD Cert.KernelAdamInIdeal.τ).loc Cert.KernelAdamInIdeal.main_v0_1) = v1 c
          ∧ r.2.mem ((c.tc : Thread Cert.KernelAdamInIdeal.nD Cert.KernelAdamInIdeal.τ).loc Cert.KernelAdamInIdeal.main_v0_2) = v2 c
          ∧ r.2.mem ((c.tc : Thread Cert.KernelAdamInIdeal.nD Cert.KernelAdamInIdeal.τ).loc Cert.KernelAdamInIdeal.main_v0_3) = v3 c
          ∧ r.2.mem ((c.tc : Thread Cert.KernelAdamInIdeal.nD Cert.KernelAdamInIdeal.τ).loc Cert.KernelAdamInIdeal.main_arg0) = m ((c.tc : Thread Cert.KernelAdamInIdeal.nD Cert.KernelAdamInIdeal.τ).loc Cert.KernelAdamInIdeal.main_arg0)
          ∧ r.2.mem ((c.tc : Thread Cert.KernelAdamInIdeal.nD Cert.KernelAdamInIdeal.τ).loc Cert.KernelAdamInIdeal.main_arg1) = m ((c.tc : Thread Cert.KernelAdamInIdeal.nD Cert.KernelAdamInIdeal.τ).loc Cert.KernelAdamInIdeal.main_arg1)
          ∧ r.2.mem ((c.tc : Thread Cert.KernelAdamInIdeal.nD Cert.KernelAdamInIdeal.τ).loc Cert.KernelAdamInIdeal.main_arg2) = m ((c.tc : Thread Cert.KernelAdamInIdeal.nD Cert.KernelAdamInIdeal.τ).loc Cert.KernelAdamInIdeal.main_arg2)
          ∧ r.2.mem ((c.tc : Thread Cert.KernelAdamInIdeal.nD Cert.KernelAdamInIdeal.τ).loc Cert.KernelAdamInIdeal.main_arg3) = m ((c.tc : Thread Cert.KernelAdamInIdeal.nD Cert.KernelAdamInIdeal.τ).loc Cert.KernelAdamInIdeal.main_arg3))
      ∧ θ_run (Cert.ReferenceAdamInIdeal.defs (F := Ideal)) (onTc (τ := Cert.ReferenceAdamInIdeal.τ) (Cert.ReferenceAdamInIdeal.main (F := Ideal))) ⟨m', fun _ => 0, g'⟩ (fun r => ∀ c : Dev Cert.ReferenceAdamInIdeal.nD,
          r.2.mem ((c.tc : Thread Cert.ReferenceAdamInIdeal.nD Cert.ReferenceAdamInIdeal.τ).loc Cert.ReferenceAdamInIdeal.main_v1) = v0 c
          ∧ r.2.mem ((c.tc : Thread Cert.ReferenceAdamInIdeal.nD Cert.ReferenceAdamInIdeal.τ).loc Cert.ReferenceAdamInIdeal.main_v25) = v1 c
          ∧ r.2.mem ((c.tc : Thread Cert.ReferenceAdamInIdeal.nD Cert.ReferenceAdamInIdeal.τ).loc Cert.ReferenceAdamInIdeal.main_v6) = v2 c
          ∧ r.2.mem ((c.tc : Thread Cert.ReferenceAdamInIdeal.nD Cert.ReferenceAdamInIdeal.τ).loc Cert.ReferenceAdamInIdeal.main_v12) = v3 c
          ∧ r.2.mem ((c.tc : Thread Cert.ReferenceAdamInIdeal.nD Cert.ReferenceAdamInIdeal.τ).loc Cert.ReferenceAdamInIdeal.main_arg0) = m' ((c.tc : Thread Cert.ReferenceAdamInIdeal.nD Cert.ReferenceAdamInIdeal.τ).loc Cert.ReferenceAdamInIdeal.main_arg0)
          ∧ r.2.mem ((c.tc : Thread Cert.ReferenceAdamInIdeal.nD Cert.ReferenceAdamInIdeal.τ).loc Cert.ReferenceAdamInIdeal.main_arg1) = m' ((c.tc : Thread Cert.ReferenceAdamInIdeal.nD Cert.ReferenceAdamInIdeal.τ).loc Cert.ReferenceAdamInIdeal.main_arg1)
          ∧ r.2.mem ((c.tc : Thread Cert.ReferenceAdamInIdeal.nD Cert.ReferenceAdamInIdeal.τ).loc Cert.ReferenceAdamInIdeal.main_arg2) = m' ((c.tc : Thread Cert.ReferenceAdamInIdeal.nD Cert.ReferenceAdamInIdeal.τ).loc Cert.ReferenceAdamInIdeal.main_arg2)
          ∧ r.2.mem ((c.tc : Thread Cert.ReferenceAdamInIdeal.nD Cert.ReferenceAdamInIdeal.τ).loc Cert.ReferenceAdamInIdeal.main_arg3) = m' ((c.tc : Thread Cert.ReferenceAdamInIdeal.nD Cert.ReferenceAdamInIdeal.τ).loc Cert.ReferenceAdamInIdeal.main_arg3))

def preserves_KernelAdamA_KernelAdamAIdeal : Prop :=
  True

def algebraic_KernelAdamAIdeal_ReferenceAdamAIdeal [hKernelAdamAIdeal : Cert.KernelAdamAIdeal.Facts] [hReferenceAdamAIdeal : Cert.ReferenceAdamAIdeal.Facts] : Prop :=
  ∀ (m : (ℓ : Loc Cert.KernelAdamAIdeal.nD Cert.KernelAdamAIdeal.τ Cert.KernelAdamAIdeal.sig) → Buf (Elt Ideal) ℓ) (g : Dev Cert.KernelAdamAIdeal.nD → PrngReg)
    (m' : (ℓ : Loc Cert.ReferenceAdamAIdeal.nD Cert.ReferenceAdamAIdeal.τ Cert.ReferenceAdamAIdeal.sig) → Buf (Elt Ideal) ℓ) (g' : Dev Cert.ReferenceAdamAIdeal.nD → PrngReg), Pre_KernelAdamAIdeal m →
    (∀ c : Dev Cert.KernelAdamAIdeal.nD,
      m' ((c.tc : Thread Cert.ReferenceAdamAIdeal.nD Cert.ReferenceAdamAIdeal.τ).loc Cert.ReferenceAdamAIdeal.main_arg0) = m ((c.tc : Thread Cert.KernelAdamAIdeal.nD Cert.KernelAdamAIdeal.τ).loc Cert.KernelAdamAIdeal.main_arg0)
      ∧ m' ((c.tc : Thread Cert.ReferenceAdamAIdeal.nD Cert.ReferenceAdamAIdeal.τ).loc Cert.ReferenceAdamAIdeal.main_arg1) = m ((c.tc : Thread Cert.KernelAdamAIdeal.nD Cert.KernelAdamAIdeal.τ).loc Cert.KernelAdamAIdeal.main_arg1)
      ∧ m' ((c.tc : Thread Cert.ReferenceAdamAIdeal.nD Cert.ReferenceAdamAIdeal.τ).loc Cert.ReferenceAdamAIdeal.main_arg2) = m ((c.tc : Thread Cert.KernelAdamAIdeal.nD Cert.KernelAdamAIdeal.τ).loc Cert.KernelAdamAIdeal.main_arg2)
      ∧ m' ((c.tc : Thread Cert.ReferenceAdamAIdeal.nD Cert.ReferenceAdamAIdeal.τ).loc Cert.ReferenceAdamAIdeal.main_arg3) = m ((c.tc : Thread Cert.KernelAdamAIdeal.nD Cert.KernelAdamAIdeal.τ).loc Cert.KernelAdamAIdeal.main_arg3)) →
    ∃ (v0 : (c : Dev Cert.KernelAdamAIdeal.nD) → Buf (Elt Ideal) ((c.tc : Thread Cert.KernelAdamAIdeal.nD Cert.KernelAdamAIdeal.τ).loc Cert.KernelAdamAIdeal.main_v0_0)) (v1 : (c : Dev Cert.KernelAdamAIdeal.nD) → Buf (Elt Ideal) ((c.tc : Thread Cert.KernelAdamAIdeal.nD Cert.KernelAdamAIdeal.τ).loc Cert.KernelAdamAIdeal.main_v0_1)) (v2 : (c : Dev Cert.KernelAdamAIdeal.nD) → Buf (Elt Ideal) ((c.tc : Thread Cert.KernelAdamAIdeal.nD Cert.KernelAdamAIdeal.τ).loc Cert.KernelAdamAIdeal.main_v0_2)) (v3 : (c : Dev Cert.KernelAdamAIdeal.nD) → Buf (Elt Ideal) ((c.tc : Thread Cert.KernelAdamAIdeal.nD Cert.KernelAdamAIdeal.τ).loc Cert.KernelAdamAIdeal.main_v0_3)),
      θ_run (Cert.KernelAdamAIdeal.defs (F := Ideal)) (onTc (τ := Cert.KernelAdamAIdeal.τ) (Cert.KernelAdamAIdeal.main (F := Ideal))) ⟨m, fun _ => 0, g⟩ (fun r => ∀ c : Dev Cert.KernelAdamAIdeal.nD,
          r.2.mem ((c.tc : Thread Cert.KernelAdamAIdeal.nD Cert.KernelAdamAIdeal.τ).loc Cert.KernelAdamAIdeal.main_v0_0) = v0 c
          ∧ r.2.mem ((c.tc : Thread Cert.KernelAdamAIdeal.nD Cert.KernelAdamAIdeal.τ).loc Cert.KernelAdamAIdeal.main_v0_1) = v1 c
          ∧ r.2.mem ((c.tc : Thread Cert.KernelAdamAIdeal.nD Cert.KernelAdamAIdeal.τ).loc Cert.KernelAdamAIdeal.main_v0_2) = v2 c
          ∧ r.2.mem ((c.tc : Thread Cert.KernelAdamAIdeal.nD Cert.KernelAdamAIdeal.τ).loc Cert.KernelAdamAIdeal.main_v0_3) = v3 c
          ∧ r.2.mem ((c.tc : Thread Cert.KernelAdamAIdeal.nD Cert.KernelAdamAIdeal.τ).loc Cert.KernelAdamAIdeal.main_arg0) = m ((c.tc : Thread Cert.KernelAdamAIdeal.nD Cert.KernelAdamAIdeal.τ).loc Cert.KernelAdamAIdeal.main_arg0)
          ∧ r.2.mem ((c.tc : Thread Cert.KernelAdamAIdeal.nD Cert.KernelAdamAIdeal.τ).loc Cert.KernelAdamAIdeal.main_arg1) = m ((c.tc : Thread Cert.KernelAdamAIdeal.nD Cert.KernelAdamAIdeal.τ).loc Cert.KernelAdamAIdeal.main_arg1)
          ∧ r.2.mem ((c.tc : Thread Cert.KernelAdamAIdeal.nD Cert.KernelAdamAIdeal.τ).loc Cert.KernelAdamAIdeal.main_arg2) = m ((c.tc : Thread Cert.KernelAdamAIdeal.nD Cert.KernelAdamAIdeal.τ).loc Cert.KernelAdamAIdeal.main_arg2)
          ∧ r.2.mem ((c.tc : Thread Cert.KernelAdamAIdeal.nD Cert.KernelAdamAIdeal.τ).loc Cert.KernelAdamAIdeal.main_arg3) = m ((c.tc : Thread Cert.KernelAdamAIdeal.nD Cert.KernelAdamAIdeal.τ).loc Cert.KernelAdamAIdeal.main_arg3))
      ∧ θ_run (Cert.ReferenceAdamAIdeal.defs (F := Ideal)) (onTc (τ := Cert.ReferenceAdamAIdeal.τ) (Cert.ReferenceAdamAIdeal.main (F := Ideal))) ⟨m', fun _ => 0, g'⟩ (fun r => ∀ c : Dev Cert.ReferenceAdamAIdeal.nD,
          r.2.mem ((c.tc : Thread Cert.ReferenceAdamAIdeal.nD Cert.ReferenceAdamAIdeal.τ).loc Cert.ReferenceAdamAIdeal.main_v1) = v0 c
          ∧ r.2.mem ((c.tc : Thread Cert.ReferenceAdamAIdeal.nD Cert.ReferenceAdamAIdeal.τ).loc Cert.ReferenceAdamAIdeal.main_v25) = v1 c
          ∧ r.2.mem ((c.tc : Thread Cert.ReferenceAdamAIdeal.nD Cert.ReferenceAdamAIdeal.τ).loc Cert.ReferenceAdamAIdeal.main_v6) = v2 c
          ∧ r.2.mem ((c.tc : Thread Cert.ReferenceAdamAIdeal.nD Cert.ReferenceAdamAIdeal.τ).loc Cert.ReferenceAdamAIdeal.main_v12) = v3 c
          ∧ r.2.mem ((c.tc : Thread Cert.ReferenceAdamAIdeal.nD Cert.ReferenceAdamAIdeal.τ).loc Cert.ReferenceAdamAIdeal.main_arg0) = m' ((c.tc : Thread Cert.ReferenceAdamAIdeal.nD Cert.ReferenceAdamAIdeal.τ).loc Cert.ReferenceAdamAIdeal.main_arg0)
          ∧ r.2.mem ((c.tc : Thread Cert.ReferenceAdamAIdeal.nD Cert.ReferenceAdamAIdeal.τ).loc Cert.ReferenceAdamAIdeal.main_arg1) = m' ((c.tc : Thread Cert.ReferenceAdamAIdeal.nD Cert.ReferenceAdamAIdeal.τ).loc Cert.ReferenceAdamAIdeal.main_arg1)
          ∧ r.2.mem ((c.tc : Thread Cert.ReferenceAdamAIdeal.nD Cert.ReferenceAdamAIdeal.τ).loc Cert.ReferenceAdamAIdeal.main_arg2) = m' ((c.tc : Thread Cert.ReferenceAdamAIdeal.nD Cert.ReferenceAdamAIdeal.τ).loc Cert.ReferenceAdamAIdeal.main_arg2)
          ∧ r.2.mem ((c.tc : Thread Cert.ReferenceAdamAIdeal.nD Cert.ReferenceAdamAIdeal.τ).loc Cert.ReferenceAdamAIdeal.main_arg3) = m' ((c.tc : Thread Cert.ReferenceAdamAIdeal.nD Cert.ReferenceAdamAIdeal.τ).loc Cert.ReferenceAdamAIdeal.main_arg3))

def preserves_KernelAdamS_KernelAdamSIdeal : Prop :=
  True

def algebraic_KernelAdamSIdeal_ReferenceAdamSIdeal [hKernelAdamSIdeal : Cert.KernelAdamSIdeal.Facts] [hReferenceAdamSIdeal : Cert.ReferenceAdamSIdeal.Facts] : Prop :=
  ∀ (m : (ℓ : Loc Cert.KernelAdamSIdeal.nD Cert.KernelAdamSIdeal.τ Cert.KernelAdamSIdeal.sig) → Buf (Elt Ideal) ℓ) (g : Dev Cert.KernelAdamSIdeal.nD → PrngReg)
    (m' : (ℓ : Loc Cert.ReferenceAdamSIdeal.nD Cert.ReferenceAdamSIdeal.τ Cert.ReferenceAdamSIdeal.sig) → Buf (Elt Ideal) ℓ) (g' : Dev Cert.ReferenceAdamSIdeal.nD → PrngReg), Pre_KernelAdamSIdeal m →
    (∀ c : Dev Cert.KernelAdamSIdeal.nD,
      m' ((c.tc : Thread Cert.ReferenceAdamSIdeal.nD Cert.ReferenceAdamSIdeal.τ).loc Cert.ReferenceAdamSIdeal.main_arg0) = m ((c.tc : Thread Cert.KernelAdamSIdeal.nD Cert.KernelAdamSIdeal.τ).loc Cert.KernelAdamSIdeal.main_arg0)
      ∧ m' ((c.tc : Thread Cert.ReferenceAdamSIdeal.nD Cert.ReferenceAdamSIdeal.τ).loc Cert.ReferenceAdamSIdeal.main_arg1) = m ((c.tc : Thread Cert.KernelAdamSIdeal.nD Cert.KernelAdamSIdeal.τ).loc Cert.KernelAdamSIdeal.main_arg1)
      ∧ m' ((c.tc : Thread Cert.ReferenceAdamSIdeal.nD Cert.ReferenceAdamSIdeal.τ).loc Cert.ReferenceAdamSIdeal.main_arg2) = m ((c.tc : Thread Cert.KernelAdamSIdeal.nD Cert.KernelAdamSIdeal.τ).loc Cert.KernelAdamSIdeal.main_arg2)
      ∧ m' ((c.tc : Thread Cert.ReferenceAdamSIdeal.nD Cert.ReferenceAdamSIdeal.τ).loc Cert.ReferenceAdamSIdeal.main_arg3) = m ((c.tc : Thread Cert.KernelAdamSIdeal.nD Cert.KernelAdamSIdeal.τ).loc Cert.KernelAdamSIdeal.main_arg3)) →
    ∃ (v0 : (c : Dev Cert.KernelAdamSIdeal.nD) → Buf (Elt Ideal) ((c.tc : Thread Cert.KernelAdamSIdeal.nD Cert.KernelAdamSIdeal.τ).loc Cert.KernelAdamSIdeal.main_v0_0)) (v1 : (c : Dev Cert.KernelAdamSIdeal.nD) → Buf (Elt Ideal) ((c.tc : Thread Cert.KernelAdamSIdeal.nD Cert.KernelAdamSIdeal.τ).loc Cert.KernelAdamSIdeal.main_v0_1)) (v2 : (c : Dev Cert.KernelAdamSIdeal.nD) → Buf (Elt Ideal) ((c.tc : Thread Cert.KernelAdamSIdeal.nD Cert.KernelAdamSIdeal.τ).loc Cert.KernelAdamSIdeal.main_v0_2)) (v3 : (c : Dev Cert.KernelAdamSIdeal.nD) → Buf (Elt Ideal) ((c.tc : Thread Cert.KernelAdamSIdeal.nD Cert.KernelAdamSIdeal.τ).loc Cert.KernelAdamSIdeal.main_v0_3)),
      θ_run (Cert.KernelAdamSIdeal.defs (F := Ideal)) (onTc (τ := Cert.KernelAdamSIdeal.τ) (Cert.KernelAdamSIdeal.main (F := Ideal))) ⟨m, fun _ => 0, g⟩ (fun r => ∀ c : Dev Cert.KernelAdamSIdeal.nD,
          r.2.mem ((c.tc : Thread Cert.KernelAdamSIdeal.nD Cert.KernelAdamSIdeal.τ).loc Cert.KernelAdamSIdeal.main_v0_0) = v0 c
          ∧ r.2.mem ((c.tc : Thread Cert.KernelAdamSIdeal.nD Cert.KernelAdamSIdeal.τ).loc Cert.KernelAdamSIdeal.main_v0_1) = v1 c
          ∧ r.2.mem ((c.tc : Thread Cert.KernelAdamSIdeal.nD Cert.KernelAdamSIdeal.τ).loc Cert.KernelAdamSIdeal.main_v0_2) = v2 c
          ∧ r.2.mem ((c.tc : Thread Cert.KernelAdamSIdeal.nD Cert.KernelAdamSIdeal.τ).loc Cert.KernelAdamSIdeal.main_v0_3) = v3 c
          ∧ r.2.mem ((c.tc : Thread Cert.KernelAdamSIdeal.nD Cert.KernelAdamSIdeal.τ).loc Cert.KernelAdamSIdeal.main_arg0) = m ((c.tc : Thread Cert.KernelAdamSIdeal.nD Cert.KernelAdamSIdeal.τ).loc Cert.KernelAdamSIdeal.main_arg0)
          ∧ r.2.mem ((c.tc : Thread Cert.KernelAdamSIdeal.nD Cert.KernelAdamSIdeal.τ).loc Cert.KernelAdamSIdeal.main_arg1) = m ((c.tc : Thread Cert.KernelAdamSIdeal.nD Cert.KernelAdamSIdeal.τ).loc Cert.KernelAdamSIdeal.main_arg1)
          ∧ r.2.mem ((c.tc : Thread Cert.KernelAdamSIdeal.nD Cert.KernelAdamSIdeal.τ).loc Cert.KernelAdamSIdeal.main_arg2) = m ((c.tc : Thread Cert.KernelAdamSIdeal.nD Cert.KernelAdamSIdeal.τ).loc Cert.KernelAdamSIdeal.main_arg2)
          ∧ r.2.mem ((c.tc : Thread Cert.KernelAdamSIdeal.nD Cert.KernelAdamSIdeal.τ).loc Cert.KernelAdamSIdeal.main_arg3) = m ((c.tc : Thread Cert.KernelAdamSIdeal.nD Cert.KernelAdamSIdeal.τ).loc Cert.KernelAdamSIdeal.main_arg3))
      ∧ θ_run (Cert.ReferenceAdamSIdeal.defs (F := Ideal)) (onTc (τ := Cert.ReferenceAdamSIdeal.τ) (Cert.ReferenceAdamSIdeal.main (F := Ideal))) ⟨m', fun _ => 0, g'⟩ (fun r => ∀ c : Dev Cert.ReferenceAdamSIdeal.nD,
          r.2.mem ((c.tc : Thread Cert.ReferenceAdamSIdeal.nD Cert.ReferenceAdamSIdeal.τ).loc Cert.ReferenceAdamSIdeal.main_v1) = v0 c
          ∧ r.2.mem ((c.tc : Thread Cert.ReferenceAdamSIdeal.nD Cert.ReferenceAdamSIdeal.τ).loc Cert.ReferenceAdamSIdeal.main_v25) = v1 c
          ∧ r.2.mem ((c.tc : Thread Cert.ReferenceAdamSIdeal.nD Cert.ReferenceAdamSIdeal.τ).loc Cert.ReferenceAdamSIdeal.main_v6) = v2 c
          ∧ r.2.mem ((c.tc : Thread Cert.ReferenceAdamSIdeal.nD Cert.ReferenceAdamSIdeal.τ).loc Cert.ReferenceAdamSIdeal.main_v12) = v3 c
          ∧ r.2.mem ((c.tc : Thread Cert.ReferenceAdamSIdeal.nD Cert.ReferenceAdamSIdeal.τ).loc Cert.ReferenceAdamSIdeal.main_arg0) = m' ((c.tc : Thread Cert.ReferenceAdamSIdeal.nD Cert.ReferenceAdamSIdeal.τ).loc Cert.ReferenceAdamSIdeal.main_arg0)
          ∧ r.2.mem ((c.tc : Thread Cert.ReferenceAdamSIdeal.nD Cert.ReferenceAdamSIdeal.τ).loc Cert.ReferenceAdamSIdeal.main_arg1) = m' ((c.tc : Thread Cert.ReferenceAdamSIdeal.nD Cert.ReferenceAdamSIdeal.τ).loc Cert.ReferenceAdamSIdeal.main_arg1)
          ∧ r.2.mem ((c.tc : Thread Cert.ReferenceAdamSIdeal.nD Cert.ReferenceAdamSIdeal.τ).loc Cert.ReferenceAdamSIdeal.main_arg2) = m' ((c.tc : Thread Cert.ReferenceAdamSIdeal.nD Cert.ReferenceAdamSIdeal.τ).loc Cert.ReferenceAdamSIdeal.main_arg2)
          ∧ r.2.mem ((c.tc : Thread Cert.ReferenceAdamSIdeal.nD Cert.ReferenceAdamSIdeal.τ).loc Cert.ReferenceAdamSIdeal.main_arg3) = m' ((c.tc : Thread Cert.ReferenceAdamSIdeal.nD Cert.ReferenceAdamSIdeal.τ).loc Cert.ReferenceAdamSIdeal.main_arg3))

def preserves_KernelAdamUp_KernelAdamUpIdeal : Prop :=
  True

def algebraic_KernelAdamUpIdeal_ReferenceAdamUpIdeal [hKernelAdamUpIdeal : Cert.KernelAdamUpIdeal.Facts] [hReferenceAdamUpIdeal : Cert.ReferenceAdamUpIdeal.Facts] : Prop :=
  ∀ (m : (ℓ : Loc Cert.KernelAdamUpIdeal.nD Cert.KernelAdamUpIdeal.τ Cert.KernelAdamUpIdeal.sig) → Buf (Elt Ideal) ℓ) (g : Dev Cert.KernelAdamUpIdeal.nD → PrngReg)
    (m' : (ℓ : Loc Cert.ReferenceAdamUpIdeal.nD Cert.ReferenceAdamUpIdeal.τ Cert.ReferenceAdamUpIdeal.sig) → Buf (Elt Ideal) ℓ) (g' : Dev Cert.ReferenceAdamUpIdeal.nD → PrngReg), Pre_KernelAdamUpIdeal m →
    (∀ c : Dev Cert.KernelAdamUpIdeal.nD,
      m' ((c.tc : Thread Cert.ReferenceAdamUpIdeal.nD Cert.ReferenceAdamUpIdeal.τ).loc Cert.ReferenceAdamUpIdeal.main_arg0) = m ((c.tc : Thread Cert.KernelAdamUpIdeal.nD Cert.KernelAdamUpIdeal.τ).loc Cert.KernelAdamUpIdeal.main_arg0)
      ∧ m' ((c.tc : Thread Cert.ReferenceAdamUpIdeal.nD Cert.ReferenceAdamUpIdeal.τ).loc Cert.ReferenceAdamUpIdeal.main_arg1) = m ((c.tc : Thread Cert.KernelAdamUpIdeal.nD Cert.KernelAdamUpIdeal.τ).loc Cert.KernelAdamUpIdeal.main_arg1)
      ∧ m' ((c.tc : Thread Cert.ReferenceAdamUpIdeal.nD Cert.ReferenceAdamUpIdeal.τ).loc Cert.ReferenceAdamUpIdeal.main_arg2) = m ((c.tc : Thread Cert.KernelAdamUpIdeal.nD Cert.KernelAdamUpIdeal.τ).loc Cert.KernelAdamUpIdeal.main_arg2)
      ∧ m' ((c.tc : Thread Cert.ReferenceAdamUpIdeal.nD Cert.ReferenceAdamUpIdeal.τ).loc Cert.ReferenceAdamUpIdeal.main_arg3) = m ((c.tc : Thread Cert.KernelAdamUpIdeal.nD Cert.KernelAdamUpIdeal.τ).loc Cert.KernelAdamUpIdeal.main_arg3)) →
    ∃ (v0 : (c : Dev Cert.KernelAdamUpIdeal.nD) → Buf (Elt Ideal) ((c.tc : Thread Cert.KernelAdamUpIdeal.nD Cert.KernelAdamUpIdeal.τ).loc Cert.KernelAdamUpIdeal.main_v0_0)) (v1 : (c : Dev Cert.KernelAdamUpIdeal.nD) → Buf (Elt Ideal) ((c.tc : Thread Cert.KernelAdamUpIdeal.nD Cert.KernelAdamUpIdeal.τ).loc Cert.KernelAdamUpIdeal.main_v0_1)) (v2 : (c : Dev Cert.KernelAdamUpIdeal.nD) → Buf (Elt Ideal) ((c.tc : Thread Cert.KernelAdamUpIdeal.nD Cert.KernelAdamUpIdeal.τ).loc Cert.KernelAdamUpIdeal.main_v0_2)) (v3 : (c : Dev Cert.KernelAdamUpIdeal.nD) → Buf (Elt Ideal) ((c.tc : Thread Cert.KernelAdamUpIdeal.nD Cert.KernelAdamUpIdeal.τ).loc Cert.KernelAdamUpIdeal.main_v0_3)),
      θ_run (Cert.KernelAdamUpIdeal.defs (F := Ideal)) (onTc (τ := Cert.KernelAdamUpIdeal.τ) (Cert.KernelAdamUpIdeal.main (F := Ideal))) ⟨m, fun _ => 0, g⟩ (fun r => ∀ c : Dev Cert.KernelAdamUpIdeal.nD,
          r.2.mem ((c.tc : Thread Cert.KernelAdamUpIdeal.nD Cert.KernelAdamUpIdeal.τ).loc Cert.KernelAdamUpIdeal.main_v0_0) = v0 c
          ∧ r.2.mem ((c.tc : Thread Cert.KernelAdamUpIdeal.nD Cert.KernelAdamUpIdeal.τ).loc Cert.KernelAdamUpIdeal.main_v0_1) = v1 c
          ∧ r.2.mem ((c.tc : Thread Cert.KernelAdamUpIdeal.nD Cert.KernelAdamUpIdeal.τ).loc Cert.KernelAdamUpIdeal.main_v0_2) = v2 c
          ∧ r.2.mem ((c.tc : Thread Cert.KernelAdamUpIdeal.nD Cert.KernelAdamUpIdeal.τ).loc Cert.KernelAdamUpIdeal.main_v0_3) = v3 c
          ∧ r.2.mem ((c.tc : Thread Cert.KernelAdamUpIdeal.nD Cert.KernelAdamUpIdeal.τ).loc Cert.KernelAdamUpIdeal.main_arg0) = m ((c.tc : Thread Cert.KernelAdamUpIdeal.nD Cert.KernelAdamUpIdeal.τ).loc Cert.KernelAdamUpIdeal.main_arg0)
          ∧ r.2.mem ((c.tc : Thread Cert.KernelAdamUpIdeal.nD Cert.KernelAdamUpIdeal.τ).loc Cert.KernelAdamUpIdeal.main_arg1) = m ((c.tc : Thread Cert.KernelAdamUpIdeal.nD Cert.KernelAdamUpIdeal.τ).loc Cert.KernelAdamUpIdeal.main_arg1)
          ∧ r.2.mem ((c.tc : Thread Cert.KernelAdamUpIdeal.nD Cert.KernelAdamUpIdeal.τ).loc Cert.KernelAdamUpIdeal.main_arg2) = m ((c.tc : Thread Cert.KernelAdamUpIdeal.nD Cert.KernelAdamUpIdeal.τ).loc Cert.KernelAdamUpIdeal.main_arg2)
          ∧ r.2.mem ((c.tc : Thread Cert.KernelAdamUpIdeal.nD Cert.KernelAdamUpIdeal.τ).loc Cert.KernelAdamUpIdeal.main_arg3) = m ((c.tc : Thread Cert.KernelAdamUpIdeal.nD Cert.KernelAdamUpIdeal.τ).loc Cert.KernelAdamUpIdeal.main_arg3))
      ∧ θ_run (Cert.ReferenceAdamUpIdeal.defs (F := Ideal)) (onTc (τ := Cert.ReferenceAdamUpIdeal.τ) (Cert.ReferenceAdamUpIdeal.main (F := Ideal))) ⟨m', fun _ => 0, g'⟩ (fun r => ∀ c : Dev Cert.ReferenceAdamUpIdeal.nD,
          r.2.mem ((c.tc : Thread Cert.ReferenceAdamUpIdeal.nD Cert.ReferenceAdamUpIdeal.τ).loc Cert.ReferenceAdamUpIdeal.main_v1) = v0 c
          ∧ r.2.mem ((c.tc : Thread Cert.ReferenceAdamUpIdeal.nD Cert.ReferenceAdamUpIdeal.τ).loc Cert.ReferenceAdamUpIdeal.main_v25) = v1 c
          ∧ r.2.mem ((c.tc : Thread Cert.ReferenceAdamUpIdeal.nD Cert.ReferenceAdamUpIdeal.τ).loc Cert.ReferenceAdamUpIdeal.main_v6) = v2 c
          ∧ r.2.mem ((c.tc : Thread Cert.ReferenceAdamUpIdeal.nD Cert.ReferenceAdamUpIdeal.τ).loc Cert.ReferenceAdamUpIdeal.main_v12) = v3 c
          ∧ r.2.mem ((c.tc : Thread Cert.ReferenceAdamUpIdeal.nD Cert.ReferenceAdamUpIdeal.τ).loc Cert.ReferenceAdamUpIdeal.main_arg0) = m' ((c.tc : Thread Cert.ReferenceAdamUpIdeal.nD Cert.ReferenceAdamUpIdeal.τ).loc Cert.ReferenceAdamUpIdeal.main_arg0)
          ∧ r.2.mem ((c.tc : Thread Cert.ReferenceAdamUpIdeal.nD Cert.ReferenceAdamUpIdeal.τ).loc Cert.ReferenceAdamUpIdeal.main_arg1) = m' ((c.tc : Thread Cert.ReferenceAdamUpIdeal.nD Cert.ReferenceAdamUpIdeal.τ).loc Cert.ReferenceAdamUpIdeal.main_arg1)
          ∧ r.2.mem ((c.tc : Thread Cert.ReferenceAdamUpIdeal.nD Cert.ReferenceAdamUpIdeal.τ).loc Cert.ReferenceAdamUpIdeal.main_arg2) = m' ((c.tc : Thread Cert.ReferenceAdamUpIdeal.nD Cert.ReferenceAdamUpIdeal.τ).loc Cert.ReferenceAdamUpIdeal.main_arg2)
          ∧ r.2.mem ((c.tc : Thread Cert.ReferenceAdamUpIdeal.nD Cert.ReferenceAdamUpIdeal.τ).loc Cert.ReferenceAdamUpIdeal.main_arg3) = m' ((c.tc : Thread Cert.ReferenceAdamUpIdeal.nD Cert.ReferenceAdamUpIdeal.τ).loc Cert.ReferenceAdamUpIdeal.main_arg3))

def preserves_KernelAdamDown_KernelAdamDownIdeal : Prop :=
  True

def algebraic_KernelAdamDownIdeal_ReferenceAdamDownIdeal [hKernelAdamDownIdeal : Cert.KernelAdamDownIdeal.Facts] [hReferenceAdamDownIdeal : Cert.ReferenceAdamDownIdeal.Facts] : Prop :=
  ∀ (m : (ℓ : Loc Cert.KernelAdamDownIdeal.nD Cert.KernelAdamDownIdeal.τ Cert.KernelAdamDownIdeal.sig) → Buf (Elt Ideal) ℓ) (g : Dev Cert.KernelAdamDownIdeal.nD → PrngReg)
    (m' : (ℓ : Loc Cert.ReferenceAdamDownIdeal.nD Cert.ReferenceAdamDownIdeal.τ Cert.ReferenceAdamDownIdeal.sig) → Buf (Elt Ideal) ℓ) (g' : Dev Cert.ReferenceAdamDownIdeal.nD → PrngReg), Pre_KernelAdamDownIdeal m →
    (∀ c : Dev Cert.KernelAdamDownIdeal.nD,
      m' ((c.tc : Thread Cert.ReferenceAdamDownIdeal.nD Cert.ReferenceAdamDownIdeal.τ).loc Cert.ReferenceAdamDownIdeal.main_arg0) = m ((c.tc : Thread Cert.KernelAdamDownIdeal.nD Cert.KernelAdamDownIdeal.τ).loc Cert.KernelAdamDownIdeal.main_arg0)
      ∧ m' ((c.tc : Thread Cert.ReferenceAdamDownIdeal.nD Cert.ReferenceAdamDownIdeal.τ).loc Cert.ReferenceAdamDownIdeal.main_arg1) = m ((c.tc : Thread Cert.KernelAdamDownIdeal.nD Cert.KernelAdamDownIdeal.τ).loc Cert.KernelAdamDownIdeal.main_arg1)
      ∧ m' ((c.tc : Thread Cert.ReferenceAdamDownIdeal.nD Cert.ReferenceAdamDownIdeal.τ).loc Cert.ReferenceAdamDownIdeal.main_arg2) = m ((c.tc : Thread Cert.KernelAdamDownIdeal.nD Cert.KernelAdamDownIdeal.τ).loc Cert.KernelAdamDownIdeal.main_arg2)
      ∧ m' ((c.tc : Thread Cert.ReferenceAdamDownIdeal.nD Cert.ReferenceAdamDownIdeal.τ).loc Cert.ReferenceAdamDownIdeal.main_arg3) = m ((c.tc : Thread Cert.KernelAdamDownIdeal.nD Cert.KernelAdamDownIdeal.τ).loc Cert.KernelAdamDownIdeal.main_arg3)) →
    ∃ (v0 : (c : Dev Cert.KernelAdamDownIdeal.nD) → Buf (Elt Ideal) ((c.tc : Thread Cert.KernelAdamDownIdeal.nD Cert.KernelAdamDownIdeal.τ).loc Cert.KernelAdamDownIdeal.main_v0_0)) (v1 : (c : Dev Cert.KernelAdamDownIdeal.nD) → Buf (Elt Ideal) ((c.tc : Thread Cert.KernelAdamDownIdeal.nD Cert.KernelAdamDownIdeal.τ).loc Cert.KernelAdamDownIdeal.main_v0_1)) (v2 : (c : Dev Cert.KernelAdamDownIdeal.nD) → Buf (Elt Ideal) ((c.tc : Thread Cert.KernelAdamDownIdeal.nD Cert.KernelAdamDownIdeal.τ).loc Cert.KernelAdamDownIdeal.main_v0_2)) (v3 : (c : Dev Cert.KernelAdamDownIdeal.nD) → Buf (Elt Ideal) ((c.tc : Thread Cert.KernelAdamDownIdeal.nD Cert.KernelAdamDownIdeal.τ).loc Cert.KernelAdamDownIdeal.main_v0_3)),
      θ_run (Cert.KernelAdamDownIdeal.defs (F := Ideal)) (onTc (τ := Cert.KernelAdamDownIdeal.τ) (Cert.KernelAdamDownIdeal.main (F := Ideal))) ⟨m, fun _ => 0, g⟩ (fun r => ∀ c : Dev Cert.KernelAdamDownIdeal.nD,
          r.2.mem ((c.tc : Thread Cert.KernelAdamDownIdeal.nD Cert.KernelAdamDownIdeal.τ).loc Cert.KernelAdamDownIdeal.main_v0_0) = v0 c
          ∧ r.2.mem ((c.tc : Thread Cert.KernelAdamDownIdeal.nD Cert.KernelAdamDownIdeal.τ).loc Cert.KernelAdamDownIdeal.main_v0_1) = v1 c
          ∧ r.2.mem ((c.tc : Thread Cert.KernelAdamDownIdeal.nD Cert.KernelAdamDownIdeal.τ).loc Cert.KernelAdamDownIdeal.main_v0_2) = v2 c
          ∧ r.2.mem ((c.tc : Thread Cert.KernelAdamDownIdeal.nD Cert.KernelAdamDownIdeal.τ).loc Cert.KernelAdamDownIdeal.main_v0_3) = v3 c
          ∧ r.2.mem ((c.tc : Thread Cert.KernelAdamDownIdeal.nD Cert.KernelAdamDownIdeal.τ).loc Cert.KernelAdamDownIdeal.main_arg0) = m ((c.tc : Thread Cert.KernelAdamDownIdeal.nD Cert.KernelAdamDownIdeal.τ).loc Cert.KernelAdamDownIdeal.main_arg0)
          ∧ r.2.mem ((c.tc : Thread Cert.KernelAdamDownIdeal.nD Cert.KernelAdamDownIdeal.τ).loc Cert.KernelAdamDownIdeal.main_arg1) = m ((c.tc : Thread Cert.KernelAdamDownIdeal.nD Cert.KernelAdamDownIdeal.τ).loc Cert.KernelAdamDownIdeal.main_arg1)
          ∧ r.2.mem ((c.tc : Thread Cert.KernelAdamDownIdeal.nD Cert.KernelAdamDownIdeal.τ).loc Cert.KernelAdamDownIdeal.main_arg2) = m ((c.tc : Thread Cert.KernelAdamDownIdeal.nD Cert.KernelAdamDownIdeal.τ).loc Cert.KernelAdamDownIdeal.main_arg2)
          ∧ r.2.mem ((c.tc : Thread Cert.KernelAdamDownIdeal.nD Cert.KernelAdamDownIdeal.τ).loc Cert.KernelAdamDownIdeal.main_arg3) = m ((c.tc : Thread Cert.KernelAdamDownIdeal.nD Cert.KernelAdamDownIdeal.τ).loc Cert.KernelAdamDownIdeal.main_arg3))
      ∧ θ_run (Cert.ReferenceAdamDownIdeal.defs (F := Ideal)) (onTc (τ := Cert.ReferenceAdamDownIdeal.τ) (Cert.ReferenceAdamDownIdeal.main (F := Ideal))) ⟨m', fun _ => 0, g'⟩ (fun r => ∀ c : Dev Cert.ReferenceAdamDownIdeal.nD,
          r.2.mem ((c.tc : Thread Cert.ReferenceAdamDownIdeal.nD Cert.ReferenceAdamDownIdeal.τ).loc Cert.ReferenceAdamDownIdeal.main_v1) = v0 c
          ∧ r.2.mem ((c.tc : Thread Cert.ReferenceAdamDownIdeal.nD Cert.ReferenceAdamDownIdeal.τ).loc Cert.ReferenceAdamDownIdeal.main_v25) = v1 c
          ∧ r.2.mem ((c.tc : Thread Cert.ReferenceAdamDownIdeal.nD Cert.ReferenceAdamDownIdeal.τ).loc Cert.ReferenceAdamDownIdeal.main_v6) = v2 c
          ∧ r.2.mem ((c.tc : Thread Cert.ReferenceAdamDownIdeal.nD Cert.ReferenceAdamDownIdeal.τ).loc Cert.ReferenceAdamDownIdeal.main_v12) = v3 c
          ∧ r.2.mem ((c.tc : Thread Cert.ReferenceAdamDownIdeal.nD Cert.ReferenceAdamDownIdeal.τ).loc Cert.ReferenceAdamDownIdeal.main_arg0) = m' ((c.tc : Thread Cert.ReferenceAdamDownIdeal.nD Cert.ReferenceAdamDownIdeal.τ).loc Cert.ReferenceAdamDownIdeal.main_arg0)
          ∧ r.2.mem ((c.tc : Thread Cert.ReferenceAdamDownIdeal.nD Cert.ReferenceAdamDownIdeal.τ).loc Cert.ReferenceAdamDownIdeal.main_arg1) = m' ((c.tc : Thread Cert.ReferenceAdamDownIdeal.nD Cert.ReferenceAdamDownIdeal.τ).loc Cert.ReferenceAdamDownIdeal.main_arg1)
          ∧ r.2.mem ((c.tc : Thread Cert.ReferenceAdamDownIdeal.nD Cert.ReferenceAdamDownIdeal.τ).loc Cert.ReferenceAdamDownIdeal.main_arg2) = m' ((c.tc : Thread Cert.ReferenceAdamDownIdeal.nD Cert.ReferenceAdamDownIdeal.τ).loc Cert.ReferenceAdamDownIdeal.main_arg2)
          ∧ r.2.mem ((c.tc : Thread Cert.ReferenceAdamDownIdeal.nD Cert.ReferenceAdamDownIdeal.τ).loc Cert.ReferenceAdamDownIdeal.main_arg3) = m' ((c.tc : Thread Cert.ReferenceAdamDownIdeal.nD Cert.ReferenceAdamDownIdeal.τ).loc Cert.ReferenceAdamDownIdeal.main_arg3))

def preserves_KernelSum_KernelSumIdeal : Prop :=
  True

def algebraic_KernelSumIdeal_ReferenceSumIdeal [hKernelSumIdeal : Cert.KernelSumIdeal.Facts] [hReferenceSumIdeal : Cert.ReferenceSumIdeal.Facts] : Prop :=
  ∀ (m : (ℓ : Loc Cert.KernelSumIdeal.nD Cert.KernelSumIdeal.τ Cert.KernelSumIdeal.sig) → Buf (Elt Ideal) ℓ) (g : Dev Cert.KernelSumIdeal.nD → PrngReg)
    (m' : (ℓ : Loc Cert.ReferenceSumIdeal.nD Cert.ReferenceSumIdeal.τ Cert.ReferenceSumIdeal.sig) → Buf (Elt Ideal) ℓ) (g' : Dev Cert.ReferenceSumIdeal.nD → PrngReg), Pre_KernelSumIdeal m →
    (∀ c : Dev Cert.KernelSumIdeal.nD,
      m' ((c.tc : Thread Cert.ReferenceSumIdeal.nD Cert.ReferenceSumIdeal.τ).loc Cert.ReferenceSumIdeal.main_arg0) = m ((c.tc : Thread Cert.KernelSumIdeal.nD Cert.KernelSumIdeal.τ).loc Cert.KernelSumIdeal.main_arg0)) →
    ∃ (v0 : (c : Dev Cert.KernelSumIdeal.nD) → Buf (Elt Ideal) ((c.tc : Thread Cert.KernelSumIdeal.nD Cert.KernelSumIdeal.τ).loc Cert.KernelSumIdeal.main_v0)),
      θ_run (Cert.KernelSumIdeal.defs (F := Ideal)) (onTc (τ := Cert.KernelSumIdeal.τ) (Cert.KernelSumIdeal.main (F := Ideal))) ⟨m, fun _ => 0, g⟩ (fun r => ∀ c : Dev Cert.KernelSumIdeal.nD,
          r.2.mem ((c.tc : Thread Cert.KernelSumIdeal.nD Cert.KernelSumIdeal.τ).loc Cert.KernelSumIdeal.main_v0) = v0 c
          ∧ r.2.mem ((c.tc : Thread Cert.KernelSumIdeal.nD Cert.KernelSumIdeal.τ).loc Cert.KernelSumIdeal.main_arg0) = m ((c.tc : Thread Cert.KernelSumIdeal.nD Cert.KernelSumIdeal.τ).loc Cert.KernelSumIdeal.main_arg0))
      ∧ θ_run (Cert.ReferenceSumIdeal.defs (F := Ideal)) (onTc (τ := Cert.ReferenceSumIdeal.τ) (Cert.ReferenceSumIdeal.main (F := Ideal))) ⟨m', fun _ => 0, g'⟩ (fun r => ∀ c : Dev Cert.ReferenceSumIdeal.nD,
          r.2.mem ((c.tc : Thread Cert.ReferenceSumIdeal.nD Cert.ReferenceSumIdeal.τ).loc Cert.ReferenceSumIdeal.main_v0) = v0 c
          ∧ r.2.mem ((c.tc : Thread Cert.ReferenceSumIdeal.nD Cert.ReferenceSumIdeal.τ).loc Cert.ReferenceSumIdeal.main_arg0) = m' ((c.tc : Thread Cert.ReferenceSumIdeal.nD Cert.ReferenceSumIdeal.τ).loc Cert.ReferenceSumIdeal.main_arg0))

def preserves_KernelDt_KernelDtIdeal : Prop :=
  True

def algebraic_KernelDtIdeal_ReferenceDtIdeal [hKernelDtIdeal : Cert.KernelDtIdeal.Facts] [hReferenceDtIdeal : Cert.ReferenceDtIdeal.Facts] : Prop :=
  ∀ (m : (ℓ : Loc Cert.KernelDtIdeal.nD Cert.KernelDtIdeal.τ Cert.KernelDtIdeal.sig) → Buf (Elt Ideal) ℓ) (g : Dev Cert.KernelDtIdeal.nD → PrngReg)
    (m' : (ℓ : Loc Cert.ReferenceDtIdeal.nD Cert.ReferenceDtIdeal.τ Cert.ReferenceDtIdeal.sig) → Buf (Elt Ideal) ℓ) (g' : Dev Cert.ReferenceDtIdeal.nD → PrngReg), Pre_KernelDtIdeal m →
    (∀ c : Dev Cert.KernelDtIdeal.nD,
      m' ((c.tc : Thread Cert.ReferenceDtIdeal.nD Cert.ReferenceDtIdeal.τ).loc Cert.ReferenceDtIdeal.main_arg0) = m ((c.tc : Thread Cert.KernelDtIdeal.nD Cert.KernelDtIdeal.τ).loc Cert.KernelDtIdeal.main_arg0)
      ∧ m' ((c.tc : Thread Cert.ReferenceDtIdeal.nD Cert.ReferenceDtIdeal.τ).loc Cert.ReferenceDtIdeal.main_arg1) = m ((c.tc : Thread Cert.KernelDtIdeal.nD Cert.KernelDtIdeal.τ).loc Cert.KernelDtIdeal.main_arg1)) →
    ∃ (v0 : (c : Dev Cert.KernelDtIdeal.nD) → Buf (Elt Ideal) ((c.tc : Thread Cert.KernelDtIdeal.nD Cert.KernelDtIdeal.τ).loc Cert.KernelDtIdeal.main_v0)),
      θ_run (Cert.KernelDtIdeal.defs (F := Ideal)) (onTc (τ := Cert.KernelDtIdeal.τ) (Cert.KernelDtIdeal.main (F := Ideal))) ⟨m, fun _ => 0, g⟩ (fun r => ∀ c : Dev Cert.KernelDtIdeal.nD,
          r.2.mem ((c.tc : Thread Cert.KernelDtIdeal.nD Cert.KernelDtIdeal.τ).loc Cert.KernelDtIdeal.main_v0) = v0 c
          ∧ r.2.mem ((c.tc : Thread Cert.KernelDtIdeal.nD Cert.KernelDtIdeal.τ).loc Cert.KernelDtIdeal.main_arg0) = m ((c.tc : Thread Cert.KernelDtIdeal.nD Cert.KernelDtIdeal.τ).loc Cert.KernelDtIdeal.main_arg0)
          ∧ r.2.mem ((c.tc : Thread Cert.KernelDtIdeal.nD Cert.KernelDtIdeal.τ).loc Cert.KernelDtIdeal.main_arg1) = m ((c.tc : Thread Cert.KernelDtIdeal.nD Cert.KernelDtIdeal.τ).loc Cert.KernelDtIdeal.main_arg1))
      ∧ θ_run (Cert.ReferenceDtIdeal.defs (F := Ideal)) (onTc (τ := Cert.ReferenceDtIdeal.τ) (Cert.ReferenceDtIdeal.main (F := Ideal))) ⟨m', fun _ => 0, g'⟩ (fun r => ∀ c : Dev Cert.ReferenceDtIdeal.nD,
          r.2.mem ((c.tc : Thread Cert.ReferenceDtIdeal.nD Cert.ReferenceDtIdeal.τ).loc Cert.ReferenceDtIdeal.main_v3) = v0 c
          ∧ r.2.mem ((c.tc : Thread Cert.ReferenceDtIdeal.nD Cert.ReferenceDtIdeal.τ).loc Cert.ReferenceDtIdeal.main_arg0) = m' ((c.tc : Thread Cert.ReferenceDtIdeal.nD Cert.ReferenceDtIdeal.τ).loc Cert.ReferenceDtIdeal.main_arg0)
          ∧ r.2.mem ((c.tc : Thread Cert.ReferenceDtIdeal.nD Cert.ReferenceDtIdeal.τ).loc Cert.ReferenceDtIdeal.main_arg1) = m' ((c.tc : Thread Cert.ReferenceDtIdeal.nD Cert.ReferenceDtIdeal.τ).loc Cert.ReferenceDtIdeal.main_arg1))

def preserves_KernelWdt_KernelWdtIdeal : Prop :=
  True

def algebraic_KernelWdtIdeal_ReferenceWdtIdeal [hKernelWdtIdeal : Cert.KernelWdtIdeal.Facts] [hReferenceWdtIdeal : Cert.ReferenceWdtIdeal.Facts] : Prop :=
  ∀ (m : (ℓ : Loc Cert.KernelWdtIdeal.nD Cert.KernelWdtIdeal.τ Cert.KernelWdtIdeal.sig) → Buf (Elt Ideal) ℓ) (g : Dev Cert.KernelWdtIdeal.nD → PrngReg)
    (m' : (ℓ : Loc Cert.ReferenceWdtIdeal.nD Cert.ReferenceWdtIdeal.τ Cert.ReferenceWdtIdeal.sig) → Buf (Elt Ideal) ℓ) (g' : Dev Cert.ReferenceWdtIdeal.nD → PrngReg), Pre_KernelWdtIdeal m →
    (∀ c : Dev Cert.KernelWdtIdeal.nD,
      m' ((c.tc : Thread Cert.ReferenceWdtIdeal.nD Cert.ReferenceWdtIdeal.τ).loc Cert.ReferenceWdtIdeal.main_arg0) = m ((c.tc : Thread Cert.KernelWdtIdeal.nD Cert.KernelWdtIdeal.τ).loc Cert.KernelWdtIdeal.main_arg0)
      ∧ m' ((c.tc : Thread Cert.ReferenceWdtIdeal.nD Cert.ReferenceWdtIdeal.τ).loc Cert.ReferenceWdtIdeal.main_arg1) = m ((c.tc : Thread Cert.KernelWdtIdeal.nD Cert.KernelWdtIdeal.τ).loc Cert.KernelWdtIdeal.main_arg1)) →
    ∃ (v0 : (c : Dev Cert.KernelWdtIdeal.nD) → Buf (Elt Ideal) ((c.tc : Thread Cert.KernelWdtIdeal.nD Cert.KernelWdtIdeal.τ).loc Cert.KernelWdtIdeal.main_v0)),
      θ_run (Cert.KernelWdtIdeal.defs (F := Ideal)) (onTc (τ := Cert.KernelWdtIdeal.τ) (Cert.KernelWdtIdeal.main (F := Ideal))) ⟨m, fun _ => 0, g⟩ (fun r => ∀ c : Dev Cert.KernelWdtIdeal.nD,
          r.2.mem ((c.tc : Thread Cert.KernelWdtIdeal.nD Cert.KernelWdtIdeal.τ).loc Cert.KernelWdtIdeal.main_v0) = v0 c
          ∧ r.2.mem ((c.tc : Thread Cert.KernelWdtIdeal.nD Cert.KernelWdtIdeal.τ).loc Cert.KernelWdtIdeal.main_arg0) = m ((c.tc : Thread Cert.KernelWdtIdeal.nD Cert.KernelWdtIdeal.τ).loc Cert.KernelWdtIdeal.main_arg0)
          ∧ r.2.mem ((c.tc : Thread Cert.KernelWdtIdeal.nD Cert.KernelWdtIdeal.τ).loc Cert.KernelWdtIdeal.main_arg1) = m ((c.tc : Thread Cert.KernelWdtIdeal.nD Cert.KernelWdtIdeal.τ).loc Cert.KernelWdtIdeal.main_arg1))
      ∧ θ_run (Cert.ReferenceWdtIdeal.defs (F := Ideal)) (onTc (τ := Cert.ReferenceWdtIdeal.τ) (Cert.ReferenceWdtIdeal.main (F := Ideal))) ⟨m', fun _ => 0, g'⟩ (fun r => ∀ c : Dev Cert.ReferenceWdtIdeal.nD,
          r.2.mem ((c.tc : Thread Cert.ReferenceWdtIdeal.nD Cert.ReferenceWdtIdeal.τ).loc Cert.ReferenceWdtIdeal.main_v6) = v0 c
          ∧ r.2.mem ((c.tc : Thread Cert.ReferenceWdtIdeal.nD Cert.ReferenceWdtIdeal.τ).loc Cert.ReferenceWdtIdeal.main_arg0) = m' ((c.tc : Thread Cert.ReferenceWdtIdeal.nD Cert.ReferenceWdtIdeal.τ).loc Cert.ReferenceWdtIdeal.main_arg0)
          ∧ r.2.mem ((c.tc : Thread Cert.ReferenceWdtIdeal.nD Cert.ReferenceWdtIdeal.τ).loc Cert.ReferenceWdtIdeal.main_arg1) = m' ((c.tc : Thread Cert.ReferenceWdtIdeal.nD Cert.ReferenceWdtIdeal.τ).loc Cert.ReferenceWdtIdeal.main_arg1))

def preserves_KernelDx_KernelDxIdeal : Prop :=
  True

def algebraic_KernelDxIdeal_ReferenceDxIdeal [hKernelDxIdeal : Cert.KernelDxIdeal.Facts] [hReferenceDxIdeal : Cert.ReferenceDxIdeal.Facts] : Prop :=
  ∀ (m : (ℓ : Loc Cert.KernelDxIdeal.nD Cert.KernelDxIdeal.τ Cert.KernelDxIdeal.sig) → Buf (Elt Ideal) ℓ) (g : Dev Cert.KernelDxIdeal.nD → PrngReg)
    (m' : (ℓ : Loc Cert.ReferenceDxIdeal.nD Cert.ReferenceDxIdeal.τ Cert.ReferenceDxIdeal.sig) → Buf (Elt Ideal) ℓ) (g' : Dev Cert.ReferenceDxIdeal.nD → PrngReg), Pre_KernelDxIdeal m →
    (∀ c : Dev Cert.KernelDxIdeal.nD,
      m' ((c.tc : Thread Cert.ReferenceDxIdeal.nD Cert.ReferenceDxIdeal.τ).loc Cert.ReferenceDxIdeal.main_arg0) = m ((c.tc : Thread Cert.KernelDxIdeal.nD Cert.KernelDxIdeal.τ).loc Cert.KernelDxIdeal.main_arg0)
      ∧ m' ((c.tc : Thread Cert.ReferenceDxIdeal.nD Cert.ReferenceDxIdeal.τ).loc Cert.ReferenceDxIdeal.main_arg1) = m ((c.tc : Thread Cert.KernelDxIdeal.nD Cert.KernelDxIdeal.τ).loc Cert.KernelDxIdeal.main_arg1)
      ∧ m' ((c.tc : Thread Cert.ReferenceDxIdeal.nD Cert.ReferenceDxIdeal.τ).loc Cert.ReferenceDxIdeal.main_arg2) = m ((c.tc : Thread Cert.KernelDxIdeal.nD Cert.KernelDxIdeal.τ).loc Cert.KernelDxIdeal.main_arg2)
      ∧ m' ((c.tc : Thread Cert.ReferenceDxIdeal.nD Cert.ReferenceDxIdeal.τ).loc Cert.ReferenceDxIdeal.main_arg3) = m ((c.tc : Thread Cert.KernelDxIdeal.nD Cert.KernelDxIdeal.τ).loc Cert.KernelDxIdeal.main_arg3)) →
    ∃ (v0 : (c : Dev Cert.KernelDxIdeal.nD) → Buf (Elt Ideal) ((c.tc : Thread Cert.KernelDxIdeal.nD Cert.KernelDxIdeal.τ).loc Cert.KernelDxIdeal.main_v0_0)),
      θ_run (Cert.KernelDxIdeal.defs (F := Ideal)) (onTc (τ := Cert.KernelDxIdeal.τ) (Cert.KernelDxIdeal.main (F := Ideal))) ⟨m, fun _ => 0, g⟩ (fun r => ∀ c : Dev Cert.KernelDxIdeal.nD,
          r.2.mem ((c.tc : Thread Cert.KernelDxIdeal.nD Cert.KernelDxIdeal.τ).loc Cert.KernelDxIdeal.main_v0_0) = v0 c
          ∧ r.2.mem ((c.tc : Thread Cert.KernelDxIdeal.nD Cert.KernelDxIdeal.τ).loc Cert.KernelDxIdeal.main_arg0) = m ((c.tc : Thread Cert.KernelDxIdeal.nD Cert.KernelDxIdeal.τ).loc Cert.KernelDxIdeal.main_arg0)
          ∧ r.2.mem ((c.tc : Thread Cert.KernelDxIdeal.nD Cert.KernelDxIdeal.τ).loc Cert.KernelDxIdeal.main_arg1) = m ((c.tc : Thread Cert.KernelDxIdeal.nD Cert.KernelDxIdeal.τ).loc Cert.KernelDxIdeal.main_arg1)
          ∧ r.2.mem ((c.tc : Thread Cert.KernelDxIdeal.nD Cert.KernelDxIdeal.τ).loc Cert.KernelDxIdeal.main_arg2) = m ((c.tc : Thread Cert.KernelDxIdeal.nD Cert.KernelDxIdeal.τ).loc Cert.KernelDxIdeal.main_arg2)
          ∧ r.2.mem ((c.tc : Thread Cert.KernelDxIdeal.nD Cert.KernelDxIdeal.τ).loc Cert.KernelDxIdeal.main_arg3) = m ((c.tc : Thread Cert.KernelDxIdeal.nD Cert.KernelDxIdeal.τ).loc Cert.KernelDxIdeal.main_arg3))
      ∧ θ_run (Cert.ReferenceDxIdeal.defs (F := Ideal)) (onTc (τ := Cert.ReferenceDxIdeal.τ) (Cert.ReferenceDxIdeal.main (F := Ideal))) ⟨m', fun _ => 0, g'⟩ (fun r => ∀ c : Dev Cert.ReferenceDxIdeal.nD,
          r.2.mem ((c.tc : Thread Cert.ReferenceDxIdeal.nD Cert.ReferenceDxIdeal.τ).loc Cert.ReferenceDxIdeal.main_v32) = v0 c
          ∧ r.2.mem ((c.tc : Thread Cert.ReferenceDxIdeal.nD Cert.ReferenceDxIdeal.τ).loc Cert.ReferenceDxIdeal.main_arg0) = m' ((c.tc : Thread Cert.ReferenceDxIdeal.nD Cert.ReferenceDxIdeal.τ).loc Cert.ReferenceDxIdeal.main_arg0)
          ∧ r.2.mem ((c.tc : Thread Cert.ReferenceDxIdeal.nD Cert.ReferenceDxIdeal.τ).loc Cert.ReferenceDxIdeal.main_arg1) = m' ((c.tc : Thread Cert.ReferenceDxIdeal.nD Cert.ReferenceDxIdeal.τ).loc Cert.ReferenceDxIdeal.main_arg1)
          ∧ r.2.mem ((c.tc : Thread Cert.ReferenceDxIdeal.nD Cert.ReferenceDxIdeal.τ).loc Cert.ReferenceDxIdeal.main_arg2) = m' ((c.tc : Thread Cert.ReferenceDxIdeal.nD Cert.ReferenceDxIdeal.τ).loc Cert.ReferenceDxIdeal.main_arg2)
          ∧ r.2.mem ((c.tc : Thread Cert.ReferenceDxIdeal.nD Cert.ReferenceDxIdeal.τ).loc Cert.ReferenceDxIdeal.main_arg3) = m' ((c.tc : Thread Cert.ReferenceDxIdeal.nD Cert.ReferenceDxIdeal.τ).loc Cert.ReferenceDxIdeal.main_arg3))

def Claim : Prop :=
  ∃ (hKernelSsd : Cert.KernelSsd.Facts) (hKernelSsdIdeal : Cert.KernelSsdIdeal.Facts) (hReferenceSsdIdeal : Cert.ReferenceSsdIdeal.Facts) (hKernel : Cert.Kernel.Facts) (hKernelIdeal : Cert.KernelIdeal.Facts) (hReferenceIdeal : Cert.ReferenceIdeal.Facts) (hKernelWd : Cert.KernelWd.Facts) (hKernelWdIdeal : Cert.KernelWdIdeal.Facts) (hReferenceWdIdeal : Cert.ReferenceWdIdeal.Facts) (hKernelWdi : Cert.KernelWdi.Facts) (hKernelWdiIdeal : Cert.KernelWdiIdeal.Facts) (hReferenceWdiIdeal : Cert.ReferenceWdiIdeal.Facts) (hKernelWx : Cert.KernelWx.Facts) (hKernelWxIdeal : Cert.KernelWxIdeal.Facts) (hReferenceWxIdeal : Cert.ReferenceWxIdeal.Facts) (hKernelDv : Cert.KernelDv.Facts) (hKernelDvIdeal : Cert.KernelDvIdeal.Facts) (hReferenceDvIdeal : Cert.ReferenceDvIdeal.Facts) (hKernelDa : Cert.KernelDa.Facts) (hKernelDaIdeal : Cert.KernelDaIdeal.Facts) (hReferenceDaIdeal : Cert.ReferenceDaIdeal.Facts) (hKernelDu : Cert.KernelDu.Facts) (hKernelDuIdeal : Cert.KernelDuIdeal.Facts) (hReferenceDuIdeal : Cert.ReferenceDuIdeal.Facts) (hKernelGates : Cert.KernelGates.Facts) (hKernelGatesIdeal : Cert.KernelGatesIdeal.Facts) (hReferenceGatesIdeal : Cert.ReferenceGatesIdeal.Facts) (hKernelPa : Cert.KernelPa.Facts) (hKernelPaIdeal : Cert.KernelPaIdeal.Facts) (hReferencePaIdeal : Cert.ReferencePaIdeal.Facts) (hKernelZ : Cert.KernelZ.Facts) (hKernelZIdeal : Cert.KernelZIdeal.Facts) (hReferenceZIdeal : Cert.ReferenceZIdeal.Facts) (hKernelXbc : Cert.KernelXbc.Facts) (hKernelXbcIdeal : Cert.KernelXbcIdeal.Facts) (hReferenceXbcIdeal : Cert.ReferenceXbcIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelO : Cert.KernelO.Facts) (hKernelOIdeal : Cert.KernelOIdeal.Facts) (hReferenceOIdeal : Cert.ReferenceOIdeal.Facts) (hKernelS : Cert.KernelS.Facts) (hKernelSIdeal : Cert.KernelSIdeal.Facts) (hReferenceSIdeal : Cert.ReferenceSIdeal.Facts) (hKernelDm : Cert.KernelDm.Facts) (hKernelDmIdeal : Cert.KernelDmIdeal.Facts) (hReferenceDmIdeal : Cert.ReferenceDmIdeal.Facts) (hKernelDyn : Cert.KernelDyn.Facts) (hKernelDynIdeal : Cert.KernelDynIdeal.Facts) (hReferenceDynIdeal : Cert.ReferenceDynIdeal.Facts) (hKernelAdamH : Cert.KernelAdamH.Facts) (hKernelAdamHIdeal : Cert.KernelAdamHIdeal.Facts) (hReferenceAdamHIdeal : Cert.ReferenceAdamHIdeal.Facts) (hKernelAdamFb : Cert.KernelAdamFb.Facts) (hKernelAdamFbIdeal : Cert.KernelAdamFbIdeal.Facts) (hReferenceAdamFbIdeal : Cert.ReferenceAdamFbIdeal.Facts) (hKernelAdamCa : Cert.KernelAdamCa.Facts) (hKernelAdamCaIdeal : Cert.KernelAdamCaIdeal.Facts) (hReferenceAdamCaIdeal : Cert.ReferenceAdamCaIdeal.Facts) (hKernelAdamCs : Cert.KernelAdamCs.Facts) (hKernelAdamCsIdeal : Cert.KernelAdamCsIdeal.Facts) (hReferenceAdamCsIdeal : Cert.ReferenceAdamCsIdeal.Facts) (hKernelAdamCf : Cert.KernelAdamCf.Facts) (hKernelAdamCfIdeal : Cert.KernelAdamCfIdeal.Facts) (hReferenceAdamCfIdeal : Cert.ReferenceAdamCfIdeal.Facts) (hKernelAdamN : Cert.KernelAdamN.Facts) (hKernelAdamNIdeal : Cert.KernelAdamNIdeal.Facts) (hReferenceAdamNIdeal : Cert.ReferenceAdamNIdeal.Facts) (hKernelAdamSn : Cert.KernelAdamSn.Facts) (hKernelAdamSnIdeal : Cert.KernelAdamSnIdeal.Facts) (hReferenceAdamSnIdeal : Cert.ReferenceAdamSnIdeal.Facts) (hKernelAdamSb : Cert.KernelAdamSb.Facts) (hKernelAdamSbIdeal : Cert.KernelAdamSbIdeal.Facts) (hReferenceAdamSbIdeal : Cert.ReferenceAdamSbIdeal.Facts) (hKernelAdamIn : Cert.KernelAdamIn.Facts) (hKernelAdamInIdeal : Cert.KernelAdamInIdeal.Facts) (hReferenceAdamInIdeal : Cert.ReferenceAdamInIdeal.Facts) (hKernelAdamA : Cert.KernelAdamA.Facts) (hKernelAdamAIdeal : Cert.KernelAdamAIdeal.Facts) (hReferenceAdamAIdeal : Cert.ReferenceAdamAIdeal.Facts) (hKernelAdamS : Cert.KernelAdamS.Facts) (hKernelAdamSIdeal : Cert.KernelAdamSIdeal.Facts) (hReferenceAdamSIdeal : Cert.ReferenceAdamSIdeal.Facts) (hKernelAdamUp : Cert.KernelAdamUp.Facts) (hKernelAdamUpIdeal : Cert.KernelAdamUpIdeal.Facts) (hReferenceAdamUpIdeal : Cert.ReferenceAdamUpIdeal.Facts) (hKernelAdamDown : Cert.KernelAdamDown.Facts) (hKernelAdamDownIdeal : Cert.KernelAdamDownIdeal.Facts) (hReferenceAdamDownIdeal : Cert.ReferenceAdamDownIdeal.Facts) (hKernelSum : Cert.KernelSum.Facts) (hKernelSumIdeal : Cert.KernelSumIdeal.Facts) (hReferenceSumIdeal : Cert.ReferenceSumIdeal.Facts) (hKernelDt : Cert.KernelDt.Facts) (hKernelDtIdeal : Cert.KernelDtIdeal.Facts) (hReferenceDtIdeal : Cert.ReferenceDtIdeal.Facts) (hKernelWdt : Cert.KernelWdt.Facts) (hKernelWdtIdeal : Cert.KernelWdtIdeal.Facts) (hReferenceWdtIdeal : Cert.ReferenceWdtIdeal.Facts) (hKernelDx : Cert.KernelDx.Facts) (hKernelDxIdeal : Cert.KernelDxIdeal.Facts) (hReferenceDxIdeal : Cert.ReferenceDxIdeal.Facts) (hPre_finite : Cert.Pre_finite.Facts),
    quiescent_KernelSsd (hKernelSsd := hKernelSsd)
    ∧ quiescent_KernelSsdIdeal (hKernelSsdIdeal := hKernelSsdIdeal)
    ∧ quiescent_KernelSsdIdeal_pre_finite (hKernelSsdIdeal := hKernelSsdIdeal) (hPre_finite := hPre_finite)
    ∧ quiescent_ReferenceSsdIdeal (hReferenceSsdIdeal := hReferenceSsdIdeal)
    ∧ quiescent_ReferenceSsdIdeal_pre_finite (hReferenceSsdIdeal := hReferenceSsdIdeal) (hPre_finite := hPre_finite)
    ∧ quiescent_Kernel (hKernel := hKernel)
    ∧ quiescent_KernelIdeal (hKernelIdeal := hKernelIdeal)
    ∧ quiescent_ReferenceIdeal (hReferenceIdeal := hReferenceIdeal)
    ∧ quiescent_KernelWd (hKernelWd := hKernelWd)
    ∧ quiescent_KernelWdIdeal (hKernelWdIdeal := hKernelWdIdeal)
    ∧ quiescent_ReferenceWdIdeal (hReferenceWdIdeal := hReferenceWdIdeal)
    ∧ quiescent_KernelWdi (hKernelWdi := hKernelWdi)
    ∧ quiescent_KernelWdiIdeal (hKernelWdiIdeal := hKernelWdiIdeal)
    ∧ quiescent_ReferenceWdiIdeal (hReferenceWdiIdeal := hReferenceWdiIdeal)
    ∧ quiescent_KernelWx (hKernelWx := hKernelWx)
    ∧ quiescent_KernelWxIdeal (hKernelWxIdeal := hKernelWxIdeal)
    ∧ quiescent_ReferenceWxIdeal (hReferenceWxIdeal := hReferenceWxIdeal)
    ∧ quiescent_KernelDv (hKernelDv := hKernelDv)
    ∧ quiescent_KernelDvIdeal (hKernelDvIdeal := hKernelDvIdeal)
    ∧ quiescent_ReferenceDvIdeal (hReferenceDvIdeal := hReferenceDvIdeal)
    ∧ quiescent_KernelDa (hKernelDa := hKernelDa)
    ∧ quiescent_KernelDaIdeal (hKernelDaIdeal := hKernelDaIdeal)
    ∧ quiescent_ReferenceDaIdeal (hReferenceDaIdeal := hReferenceDaIdeal)
    ∧ quiescent_KernelDu (hKernelDu := hKernelDu)
    ∧ quiescent_KernelDuIdeal (hKernelDuIdeal := hKernelDuIdeal)
    ∧ quiescent_ReferenceDuIdeal (hReferenceDuIdeal := hReferenceDuIdeal)
    ∧ quiescent_KernelGates (hKernelGates := hKernelGates)
    ∧ quiescent_KernelGatesIdeal (hKernelGatesIdeal := hKernelGatesIdeal)
    ∧ quiescent_ReferenceGatesIdeal (hReferenceGatesIdeal := hReferenceGatesIdeal)
    ∧ quiescent_KernelPa (hKernelPa := hKernelPa)
    ∧ quiescent_KernelPaIdeal (hKernelPaIdeal := hKernelPaIdeal)
    ∧ quiescent_ReferencePaIdeal (hReferencePaIdeal := hReferencePaIdeal)
    ∧ quiescent_KernelZ (hKernelZ := hKernelZ)
    ∧ quiescent_KernelZIdeal (hKernelZIdeal := hKernelZIdeal)
    ∧ quiescent_ReferenceZIdeal (hReferenceZIdeal := hReferenceZIdeal)
    ∧ quiescent_KernelXbc (hKernelXbc := hKernelXbc)
    ∧ quiescent_KernelXbcIdeal (hKernelXbcIdeal := hKernelXbcIdeal)
    ∧ quiescent_ReferenceXbcIdeal (hReferenceXbcIdeal := hReferenceXbcIdeal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelO (hKernelO := hKernelO)
    ∧ quiescent_KernelOIdeal (hKernelOIdeal := hKernelOIdeal)
    ∧ quiescent_ReferenceOIdeal (hReferenceOIdeal := hReferenceOIdeal)
    ∧ quiescent_KernelS (hKernelS := hKernelS)
    ∧ quiescent_KernelSIdeal (hKernelSIdeal := hKernelSIdeal)
    ∧ quiescent_ReferenceSIdeal (hReferenceSIdeal := hReferenceSIdeal)
    ∧ quiescent_KernelDm (hKernelDm := hKernelDm)
    ∧ quiescent_KernelDmIdeal (hKernelDmIdeal := hKernelDmIdeal)
    ∧ quiescent_ReferenceDmIdeal (hReferenceDmIdeal := hReferenceDmIdeal)
    ∧ quiescent_KernelDyn (hKernelDyn := hKernelDyn)
    ∧ quiescent_KernelDynIdeal (hKernelDynIdeal := hKernelDynIdeal)
    ∧ quiescent_ReferenceDynIdeal (hReferenceDynIdeal := hReferenceDynIdeal)
    ∧ quiescent_KernelAdamH (hKernelAdamH := hKernelAdamH)
    ∧ quiescent_KernelAdamHIdeal (hKernelAdamHIdeal := hKernelAdamHIdeal)
    ∧ quiescent_ReferenceAdamHIdeal (hReferenceAdamHIdeal := hReferenceAdamHIdeal)
    ∧ quiescent_KernelAdamFb (hKernelAdamFb := hKernelAdamFb)
    ∧ quiescent_KernelAdamFbIdeal (hKernelAdamFbIdeal := hKernelAdamFbIdeal)
    ∧ quiescent_ReferenceAdamFbIdeal (hReferenceAdamFbIdeal := hReferenceAdamFbIdeal)
    ∧ quiescent_KernelAdamCa (hKernelAdamCa := hKernelAdamCa)
    ∧ quiescent_KernelAdamCaIdeal (hKernelAdamCaIdeal := hKernelAdamCaIdeal)
    ∧ quiescent_ReferenceAdamCaIdeal (hReferenceAdamCaIdeal := hReferenceAdamCaIdeal)
    ∧ quiescent_KernelAdamCs (hKernelAdamCs := hKernelAdamCs)
    ∧ quiescent_KernelAdamCsIdeal (hKernelAdamCsIdeal := hKernelAdamCsIdeal)
    ∧ quiescent_ReferenceAdamCsIdeal (hReferenceAdamCsIdeal := hReferenceAdamCsIdeal)
    ∧ quiescent_KernelAdamCf (hKernelAdamCf := hKernelAdamCf)
    ∧ quiescent_KernelAdamCfIdeal (hKernelAdamCfIdeal := hKernelAdamCfIdeal)
    ∧ quiescent_ReferenceAdamCfIdeal (hReferenceAdamCfIdeal := hReferenceAdamCfIdeal)
    ∧ quiescent_KernelAdamN (hKernelAdamN := hKernelAdamN)
    ∧ quiescent_KernelAdamNIdeal (hKernelAdamNIdeal := hKernelAdamNIdeal)
    ∧ quiescent_ReferenceAdamNIdeal (hReferenceAdamNIdeal := hReferenceAdamNIdeal)
    ∧ quiescent_KernelAdamSn (hKernelAdamSn := hKernelAdamSn)
    ∧ quiescent_KernelAdamSnIdeal (hKernelAdamSnIdeal := hKernelAdamSnIdeal)
    ∧ quiescent_ReferenceAdamSnIdeal (hReferenceAdamSnIdeal := hReferenceAdamSnIdeal)
    ∧ quiescent_KernelAdamSb (hKernelAdamSb := hKernelAdamSb)
    ∧ quiescent_KernelAdamSbIdeal (hKernelAdamSbIdeal := hKernelAdamSbIdeal)
    ∧ quiescent_ReferenceAdamSbIdeal (hReferenceAdamSbIdeal := hReferenceAdamSbIdeal)
    ∧ quiescent_KernelAdamIn (hKernelAdamIn := hKernelAdamIn)
    ∧ quiescent_KernelAdamInIdeal (hKernelAdamInIdeal := hKernelAdamInIdeal)
    ∧ quiescent_ReferenceAdamInIdeal (hReferenceAdamInIdeal := hReferenceAdamInIdeal)
    ∧ quiescent_KernelAdamA (hKernelAdamA := hKernelAdamA)
    ∧ quiescent_KernelAdamAIdeal (hKernelAdamAIdeal := hKernelAdamAIdeal)
    ∧ quiescent_ReferenceAdamAIdeal (hReferenceAdamAIdeal := hReferenceAdamAIdeal)
    ∧ quiescent_KernelAdamS (hKernelAdamS := hKernelAdamS)
    ∧ quiescent_KernelAdamSIdeal (hKernelAdamSIdeal := hKernelAdamSIdeal)
    ∧ quiescent_ReferenceAdamSIdeal (hReferenceAdamSIdeal := hReferenceAdamSIdeal)
    ∧ quiescent_KernelAdamUp (hKernelAdamUp := hKernelAdamUp)
    ∧ quiescent_KernelAdamUpIdeal (hKernelAdamUpIdeal := hKernelAdamUpIdeal)
    ∧ quiescent_ReferenceAdamUpIdeal (hReferenceAdamUpIdeal := hReferenceAdamUpIdeal)
    ∧ quiescent_KernelAdamDown (hKernelAdamDown := hKernelAdamDown)
    ∧ quiescent_KernelAdamDownIdeal (hKernelAdamDownIdeal := hKernelAdamDownIdeal)
    ∧ quiescent_ReferenceAdamDownIdeal (hReferenceAdamDownIdeal := hReferenceAdamDownIdeal)
    ∧ quiescent_KernelSum (hKernelSum := hKernelSum)
    ∧ quiescent_KernelSumIdeal (hKernelSumIdeal := hKernelSumIdeal)
    ∧ quiescent_ReferenceSumIdeal (hReferenceSumIdeal := hReferenceSumIdeal)
    ∧ quiescent_KernelDt (hKernelDt := hKernelDt)
    ∧ quiescent_KernelDtIdeal (hKernelDtIdeal := hKernelDtIdeal)
    ∧ quiescent_ReferenceDtIdeal (hReferenceDtIdeal := hReferenceDtIdeal)
    ∧ quiescent_KernelWdt (hKernelWdt := hKernelWdt)
    ∧ quiescent_KernelWdtIdeal (hKernelWdtIdeal := hKernelWdtIdeal)
    ∧ quiescent_ReferenceWdtIdeal (hReferenceWdtIdeal := hReferenceWdtIdeal)
    ∧ quiescent_KernelDx (hKernelDx := hKernelDx)
    ∧ quiescent_KernelDxIdeal (hKernelDxIdeal := hKernelDxIdeal)
    ∧ quiescent_ReferenceDxIdeal (hReferenceDxIdeal := hReferenceDxIdeal)
    ∧ preserves_KernelSsd_KernelSsdIdeal
    ∧ algebraic_KernelSsdIdeal_ReferenceSsdIdeal_pre_finite (hKernelSsdIdeal := hKernelSsdIdeal) (hReferenceSsdIdeal := hReferenceSsdIdeal) (hPre_finite := hPre_finite)
    ∧ preserves_Kernel_KernelIdeal
    ∧ algebraic_KernelIdeal_ReferenceIdeal (hKernelIdeal := hKernelIdeal) (hReferenceIdeal := hReferenceIdeal)
    ∧ preserves_KernelWd_KernelWdIdeal
    ∧ algebraic_KernelWdIdeal_ReferenceWdIdeal (hKernelWdIdeal := hKernelWdIdeal) (hReferenceWdIdeal := hReferenceWdIdeal)
    ∧ preserves_KernelWdi_KernelWdiIdeal
    ∧ algebraic_KernelWdiIdeal_ReferenceWdiIdeal (hKernelWdiIdeal := hKernelWdiIdeal) (hReferenceWdiIdeal := hReferenceWdiIdeal)
    ∧ preserves_KernelWx_KernelWxIdeal
    ∧ algebraic_KernelWxIdeal_ReferenceWxIdeal (hKernelWxIdeal := hKernelWxIdeal) (hReferenceWxIdeal := hReferenceWxIdeal)
    ∧ preserves_KernelDv_KernelDvIdeal
    ∧ algebraic_KernelDvIdeal_ReferenceDvIdeal (hKernelDvIdeal := hKernelDvIdeal) (hReferenceDvIdeal := hReferenceDvIdeal)
    ∧ preserves_KernelDa_KernelDaIdeal
    ∧ algebraic_KernelDaIdeal_ReferenceDaIdeal (hKernelDaIdeal := hKernelDaIdeal) (hReferenceDaIdeal := hReferenceDaIdeal)
    ∧ preserves_KernelDu_KernelDuIdeal
    ∧ algebraic_KernelDuIdeal_ReferenceDuIdeal (hKernelDuIdeal := hKernelDuIdeal) (hReferenceDuIdeal := hReferenceDuIdeal)
    ∧ preserves_KernelGates_KernelGatesIdeal
    ∧ algebraic_KernelGatesIdeal_ReferenceGatesIdeal (hKernelGatesIdeal := hKernelGatesIdeal) (hReferenceGatesIdeal := hReferenceGatesIdeal)
    ∧ preserves_KernelPa_KernelPaIdeal
    ∧ algebraic_KernelPaIdeal_ReferencePaIdeal (hKernelPaIdeal := hKernelPaIdeal) (hReferencePaIdeal := hReferencePaIdeal)
    ∧ preserves_KernelZ_KernelZIdeal
    ∧ algebraic_KernelZIdeal_ReferenceZIdeal (hKernelZIdeal := hKernelZIdeal) (hReferenceZIdeal := hReferenceZIdeal)
    ∧ preserves_KernelXbc_KernelXbcIdeal
    ∧ algebraic_KernelXbcIdeal_ReferenceXbcIdeal (hKernelXbcIdeal := hKernelXbcIdeal) (hReferenceXbcIdeal := hReferenceXbcIdeal)
    ∧ preserves_KernelUp_KernelUpIdeal
    ∧ algebraic_KernelUpIdeal_ReferenceUpIdeal (hKernelUpIdeal := hKernelUpIdeal) (hReferenceUpIdeal := hReferenceUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelO_KernelOIdeal
    ∧ algebraic_KernelOIdeal_ReferenceOIdeal (hKernelOIdeal := hKernelOIdeal) (hReferenceOIdeal := hReferenceOIdeal)
    ∧ preserves_KernelS_KernelSIdeal
    ∧ algebraic_KernelSIdeal_ReferenceSIdeal (hKernelSIdeal := hKernelSIdeal) (hReferenceSIdeal := hReferenceSIdeal)
    ∧ preserves_KernelDm_KernelDmIdeal
    ∧ algebraic_KernelDmIdeal_ReferenceDmIdeal (hKernelDmIdeal := hKernelDmIdeal) (hReferenceDmIdeal := hReferenceDmIdeal)
    ∧ preserves_KernelDyn_KernelDynIdeal
    ∧ algebraic_KernelDynIdeal_ReferenceDynIdeal (hKernelDynIdeal := hKernelDynIdeal) (hReferenceDynIdeal := hReferenceDynIdeal)
    ∧ preserves_KernelAdamH_KernelAdamHIdeal
    ∧ algebraic_KernelAdamHIdeal_ReferenceAdamHIdeal (hKernelAdamHIdeal := hKernelAdamHIdeal) (hReferenceAdamHIdeal := hReferenceAdamHIdeal)
    ∧ preserves_KernelAdamFb_KernelAdamFbIdeal
    ∧ algebraic_KernelAdamFbIdeal_ReferenceAdamFbIdeal (hKernelAdamFbIdeal := hKernelAdamFbIdeal) (hReferenceAdamFbIdeal := hReferenceAdamFbIdeal)
    ∧ preserves_KernelAdamCa_KernelAdamCaIdeal
    ∧ algebraic_KernelAdamCaIdeal_ReferenceAdamCaIdeal (hKernelAdamCaIdeal := hKernelAdamCaIdeal) (hReferenceAdamCaIdeal := hReferenceAdamCaIdeal)
    ∧ preserves_KernelAdamCs_KernelAdamCsIdeal
    ∧ algebraic_KernelAdamCsIdeal_ReferenceAdamCsIdeal (hKernelAdamCsIdeal := hKernelAdamCsIdeal) (hReferenceAdamCsIdeal := hReferenceAdamCsIdeal)
    ∧ preserves_KernelAdamCf_KernelAdamCfIdeal
    ∧ algebraic_KernelAdamCfIdeal_ReferenceAdamCfIdeal (hKernelAdamCfIdeal := hKernelAdamCfIdeal) (hReferenceAdamCfIdeal := hReferenceAdamCfIdeal)
    ∧ preserves_KernelAdamN_KernelAdamNIdeal
    ∧ algebraic_KernelAdamNIdeal_ReferenceAdamNIdeal (hKernelAdamNIdeal := hKernelAdamNIdeal) (hReferenceAdamNIdeal := hReferenceAdamNIdeal)
    ∧ preserves_KernelAdamSn_KernelAdamSnIdeal
    ∧ algebraic_KernelAdamSnIdeal_ReferenceAdamSnIdeal (hKernelAdamSnIdeal := hKernelAdamSnIdeal) (hReferenceAdamSnIdeal := hReferenceAdamSnIdeal)
    ∧ preserves_KernelAdamSb_KernelAdamSbIdeal
    ∧ algebraic_KernelAdamSbIdeal_ReferenceAdamSbIdeal (hKernelAdamSbIdeal := hKernelAdamSbIdeal) (hReferenceAdamSbIdeal := hReferenceAdamSbIdeal)
    ∧ preserves_KernelAdamIn_KernelAdamInIdeal
    ∧ algebraic_KernelAdamInIdeal_ReferenceAdamInIdeal (hKernelAdamInIdeal := hKernelAdamInIdeal) (hReferenceAdamInIdeal := hReferenceAdamInIdeal)
    ∧ preserves_KernelAdamA_KernelAdamAIdeal
    ∧ algebraic_KernelAdamAIdeal_ReferenceAdamAIdeal (hKernelAdamAIdeal := hKernelAdamAIdeal) (hReferenceAdamAIdeal := hReferenceAdamAIdeal)
    ∧ preserves_KernelAdamS_KernelAdamSIdeal
    ∧ algebraic_KernelAdamSIdeal_ReferenceAdamSIdeal (hKernelAdamSIdeal := hKernelAdamSIdeal) (hReferenceAdamSIdeal := hReferenceAdamSIdeal)
    ∧ preserves_KernelAdamUp_KernelAdamUpIdeal
    ∧ algebraic_KernelAdamUpIdeal_ReferenceAdamUpIdeal (hKernelAdamUpIdeal := hKernelAdamUpIdeal) (hReferenceAdamUpIdeal := hReferenceAdamUpIdeal)
    ∧ preserves_KernelAdamDown_KernelAdamDownIdeal
    ∧ algebraic_KernelAdamDownIdeal_ReferenceAdamDownIdeal (hKernelAdamDownIdeal := hKernelAdamDownIdeal) (hReferenceAdamDownIdeal := hReferenceAdamDownIdeal)
    ∧ preserves_KernelSum_KernelSumIdeal
    ∧ algebraic_KernelSumIdeal_ReferenceSumIdeal (hKernelSumIdeal := hKernelSumIdeal) (hReferenceSumIdeal := hReferenceSumIdeal)
    ∧ preserves_KernelDt_KernelDtIdeal
    ∧ algebraic_KernelDtIdeal_ReferenceDtIdeal (hKernelDtIdeal := hKernelDtIdeal) (hReferenceDtIdeal := hReferenceDtIdeal)
    ∧ preserves_KernelWdt_KernelWdtIdeal
    ∧ algebraic_KernelWdtIdeal_ReferenceWdtIdeal (hKernelWdtIdeal := hKernelWdtIdeal) (hReferenceWdtIdeal := hReferenceWdtIdeal)
    ∧ preserves_KernelDx_KernelDxIdeal
    ∧ algebraic_KernelDxIdeal_ReferenceDxIdeal (hKernelDxIdeal := hKernelDxIdeal) (hReferenceDxIdeal := hReferenceDxIdeal)
-- ==== Pre_finite.lean ====
abbrev S8192x3072 : Shape := ⟨2, ![8192, 3072]⟩
abbrev S8192x32 : Shape := ⟨2, ![8192, 32]⟩
abbrev S8192x2048 : Shape := ⟨2, ![8192, 2048]⟩
abbrev S1x32 : Shape := ⟨2, ![1, 32]⟩
abbrev S_ : Shape := ⟨0, ![]⟩

class Facts : Prop where
  bitsLt_bf16_f32 : FTy.bits .bf16 < FTy.bits .f32
  bcast_S_S8192x3072 : S_.BroadcastsInDim S8192x3072 (![] : Fin 0 → Fin S8192x3072.rank)
  bcast_S_S8192x32 : S_.BroadcastsInDim S8192x32 (![] : Fin 0 → Fin S8192x32.rank)
  bcast_S_S8192x2048 : S_.BroadcastsInDim S8192x2048 (![] : Fin 0 → Fin S8192x2048.rank)
  bcast_S_S1x32 : S_.BroadcastsInDim S1x32 (![] : Fin 0 → Fin S1x32.rank)

variable [Facts]

def fn_part1 {F : FTy → Type} [FloatOps F] (main_v3 : IVec S8192x3072 1) (main_v6 : IVec S8192x32 1) (main_v10 : IVec S8192x2048 1) (main_v13 : IVec S1x32 1) (main_v16 : IVec S1x32 1) (main_v17 : FVec F S1x32 .f32) (main_cst_4 : FVec F S_ .f32) : IVec S8192x3072 1 × IVec S8192x32 1 × IVec S8192x2048 1 × IVec S1x32 1 × IVec S1x32 1 × IVec S1x32 1 :=
  let main_v18 : FVec F S1x32 .f32 := broadcastInDim S1x32 ![] bcast_S_S1x32 main_cst_4
  let main_v19 : IVec S1x32 1 := cmpf .olt main_v17 main_v18
  (main_v3, main_v6, main_v10, main_v13, main_v16, main_v19)

def fn {F : FTy → Type} [FloatOps F] (main_arg0 : FVec F S8192x3072 .bf16) (main_arg1 : FVec F S8192x32 .f32) (main_arg2 : FVec F S8192x2048 .bf16) (main_arg3 : FVec F S1x32 .f32) (main_arg4 : FVec F S1x32 .f32) (main_arg5 : FVec F S1x32 .f32) : IVec S8192x3072 1 × IVec S8192x32 1 × IVec S8192x2048 1 × IVec S1x32 1 × IVec S1x32 1 × IVec S1x32 1 :=
  let main_v0 : FVec F S8192x3072 .f32 := (extf .f32 · bitsLt_bf16_f32) main_arg0
  let main_v1 : FVec F S8192x3072 .f32 := Host.absf main_v0
  let main_cst : FVec F S_ .f32 := constant S_ .f32 0x7F800000#32
  let main_v2 : FVec F S8192x3072 .f32 := broadcastInDim S8192x3072 ![] bcast_S_S8192x3072 main_cst
  let main_v3 : IVec S8192x3072 1 := cmpf .olt main_v1 main_v2
  let main_v4 : FVec F S8192x32 .f32 := Host.absf main_arg1
  let main_cst_0 : FVec F S_ .f32 := constant S_ .f32 0x7F800000#32
  let main_v5 : FVec F S8192x32 .f32 := broadcastInDim S8192x32 ![] bcast_S_S8192x32 main_cst_0
  let main_v6 : IVec S8192x32 1 := cmpf .olt main_v4 main_v5
  let main_v7 : FVec F S8192x2048 .f32 := (extf .f32 · bitsLt_bf16_f32) main_arg2
  let main_v8 : FVec F S8192x2048 .f32 := Host.absf main_v7
  let main_cst_1 : FVec F S_ .f32 := constant S_ .f32 0x7F800000#32
  let main_v9 : FVec F S8192x2048 .f32 := broadcastInDim S8192x2048 ![] bcast_S_S8192x2048 main_cst_1
  let main_v10 : IVec S8192x2048 1 := cmpf .olt main_v8 main_v9
  let main_v11 : FVec F S1x32 .f32 := Host.absf main_arg3
  let main_cst_2 : FVec F S_ .f32 := constant S_ .f32 0x7F800000#32
  let main_v12 : FVec F S1x32 .f32 := broadcastInDim S1x32 ![] bcast_S_S1x32 main_cst_2
  let main_v13 : IVec S1x32 1 := cmpf .olt main_v11 main_v12
  let main_v14 : FVec F S1x32 .f32 := Host.absf main_arg4
  let main_cst_3 : FVec F S_ .f32 := constant S_ .f32 0x7F800000#32
  let main_v15 : FVec F S1x32 .f32 := broadcastInDim S1x32 ![] bcast_S_S1x32 main_cst_3
  let main_v16 : IVec S1x32 1 := cmpf .olt main_v14 main_v15
  let main_v17 : FVec F S1x32 .f32 := Host.absf main_arg5
  let main_cst_4 : FVec F S_ .f32 := constant S_ .f32 0x7F800000#32
  fn_part1 (F := F) main_v3 main_v6 main_v10 main_v13 main_v16 main_v17 main_cst_4
-- ==== KernelSsd.lean ====
abbrev S8192x3072 : Shape := ⟨2, ![8192, 3072]⟩
abbrev S8192x32 : Shape := ⟨2, ![8192, 32]⟩
abbrev S8192x2048 : Shape := ⟨2, ![8192, 2048]⟩
abbrev S1x32 : Shape := ⟨2, ![1, 32]⟩
abbrev S8192x512 : Shape := ⟨2, ![8192, 512]⟩
abbrev S_ : Shape := ⟨0, ![]⟩
abbrev S64x128x32 : Shape := ⟨3, ![64, 128, 32]⟩
abbrev S64x1x32 : Shape := ⟨3, ![64, 1, 32]⟩
abbrev S64x32 : Shape := ⟨2, ![64, 32]⟩
abbrev S8192 : Shape := ⟨1, ![8192]⟩
abbrev S1x8192 : Shape := ⟨2, ![1, 8192]⟩
abbrev S64 : Shape := ⟨1, ![64]⟩
abbrev S64x1 : Shape := ⟨2, ![64, 1]⟩
abbrev S64x8192 : Shape := ⟨2, ![64, 8192]⟩
abbrev S1x8192x32 : Shape := ⟨3, ![1, 8192, 32]⟩
abbrev S64x8192x32 : Shape := ⟨3, ![64, 8192, 32]⟩
abbrev S64x8192x1 : Shape := ⟨3, ![64, 8192, 1]⟩
abbrev S8192x32x64 : Shape := ⟨3, ![8192, 32, 64]⟩
abbrev S8192x32x1 : Shape := ⟨3, ![8192, 32, 1]⟩
abbrev S8192x4x8x64 : Shape := ⟨4, ![8192, 4, 8, 64]⟩
abbrev S64x8192x4x8x1 : Shape := ⟨5, ![64, 8192, 4, 8, 1]⟩
abbrev S1x8192x4x8x64 : Shape := ⟨5, ![1, 8192, 4, 8, 64]⟩
abbrev S64x8192x4x8x64 : Shape := ⟨5, ![64, 8192, 4, 8, 64]⟩
abbrev S8192x4x128 : Shape := ⟨3, ![8192, 4, 128]⟩
abbrev S4x64x8x64x128 : Shape := ⟨5, ![4, 64, 8, 64, 128]⟩
abbrev S64x128x4x8x64 : Shape := ⟨5, ![64, 128, 4, 8, 64]⟩
abbrev S64x128x2048 : Shape := ⟨3, ![64, 128, 2048]⟩
abbrev S1x32x64 : Shape := ⟨3, ![1, 32, 64]⟩
abbrev S1x2048 : Shape := ⟨2, ![1, 2048]⟩
abbrev S8192x128 : Shape := ⟨2, ![8192, 128]⟩
abbrev S1x128 : Shape := ⟨2, ![1, 128]⟩
abbrev S128 : Shape := ⟨1, ![128]⟩
abbrev S128x1 : Shape := ⟨2, ![128, 1]⟩
abbrev S2048 : Shape := ⟨1, ![2048]⟩
abbrev S128x2048 : Shape := ⟨2, ![128, 2048]⟩
abbrev S4096 : Shape := ⟨1, ![4096]⟩
abbrev S1x4096 : Shape := ⟨2, ![1, 4096]⟩
abbrev S128x4096 : Shape := ⟨2, ![128, 4096]⟩
abbrev S8x128 : Shape := ⟨2, ![8, 128]⟩
abbrev S128x3072 : Shape := ⟨2, ![128, 3072]⟩
abbrev S128x128 : Shape := ⟨2, ![128, 128]⟩
abbrev S1x128x2048 : Shape := ⟨3, ![1, 128, 2048]⟩
abbrev S8x512 : Shape := ⟨2, ![8, 512]⟩
abbrev S128x512 : Shape := ⟨2, ![128, 512]⟩
abbrev S1x128x512 : Shape := ⟨3, ![1, 128, 512]⟩
abbrev S1x512 : Shape := ⟨2, ![1, 512]⟩
abbrev S256x128 : Shape := ⟨2, ![256, 128]⟩
abbrev S128x256 : Shape := ⟨2, ![128, 256]⟩
abbrev S512 : Shape := ⟨1, ![512]⟩

abbrev nBuf : Space → Nat
  | .hbm => 141
  | .vmem => 20
  | .smem => 0
  | _ => 0

abbrev hbmTy0_0 (i : Nat) : BufTy := match i % 128 with
  | 0 => ⟨S8192x3072, .bf16⟩
  | 1 => ⟨S8192x32, .f32⟩
  | 2 => ⟨S8192x2048, .bf16⟩
  | 3 => ⟨S1x32, .f32⟩
  | 4 => ⟨S1x32, .f32⟩
  | 5 => ⟨S1x32, .f32⟩
  | 6 => ⟨S8192x3072, .f32⟩
  | 7 => ⟨S8192x2048, .f32⟩
  | 8 => ⟨S8192x512, .f32⟩
  | 9 => ⟨S8192x512, .f32⟩
  | 10 => ⟨S8192x32, .f32⟩
  | 11 => ⟨S8192x32, .f32⟩
  | 12 => ⟨S_, .f32⟩
  | 13 => ⟨S8192x32, .f32⟩
  | 14 => ⟨S8192x32, .f32⟩
  | 15 => ⟨S8192x32, .f32⟩
  | 16 => ⟨S8192x32, .f32⟩
  | 17 => ⟨S8192x32, .i1⟩
  | 18 => ⟨S8192x32, .f32⟩
  | 19 => ⟨S8192x32, .f32⟩
  | 20 => ⟨S8192x32, .f32⟩
  | 21 => ⟨S8192x32, .f32⟩
  | 22 => ⟨S8192x32, .f32⟩
  | 23 => ⟨S8192x32, .f32⟩
  | 24 => ⟨S8192x32, .f32⟩
  | 25 => ⟨S8192x32, .f32⟩
  | 26 => ⟨S1x32, .f32⟩
  | 27 => ⟨S1x32, .f32⟩
  | 28 => ⟨S8192x32, .f32⟩
  | 29 => ⟨S8192x32, .f32⟩
  | 30 => ⟨S_, .f32⟩
  | 31 => ⟨S_, .f32⟩
  | 32 => ⟨S8192x32, .f32⟩
  | 33 => ⟨S1x32, .f32⟩
  | 34 => ⟨S1x32, .f32⟩
  | 35 => ⟨S8192x32, .f32⟩
  | 36 => ⟨S8192x32, .f32⟩
  | 37 => ⟨S8192x32, .f32⟩
  | 38 => ⟨S64x128x32, .f32⟩
  | 39 => ⟨S64x1x32, .f32⟩
  | 40 => ⟨S64x32, .f32⟩
  | 41 => ⟨S8192, .i32⟩
  | 42 => ⟨S1x8192, .i32⟩
  | 43 => ⟨S64, .i32⟩
  | 44 => ⟨S_, .i32⟩
  | 45 => ⟨S64, .i32⟩
  | 46 => ⟨S64, .i32⟩
  | 47 => ⟨S64x1, .i32⟩
  | 48 => ⟨S64x8192, .i32⟩
  | 49 => ⟨S64x8192, .i32⟩
  | 50 => ⟨S64x8192, .i1⟩
  | 51 => ⟨S64x1x32, .f32⟩
  | 52 => ⟨S1x8192x32, .f32⟩
  | 53 => ⟨S64x8192x32, .f32⟩
  | 54 => ⟨S64x8192x32, .f32⟩
  | 55 => ⟨S64x8192x32, .f32⟩
  | 56 => ⟨S64x8192x1, .i1⟩
  | 57 => ⟨S_, .f32⟩
  | 58 => ⟨S_, .f32⟩
  | 59 => ⟨S64x8192x32, .i1⟩
  | 60 => ⟨S64x8192x32, .f32⟩
  | 61 => ⟨S64x8192x32, .f32⟩
  | 62 => ⟨S64x8192x32, .f32⟩
  | 63 => ⟨S8192x32x64, .f32⟩
  | 64 => ⟨S8192x32x1, .f32⟩
  | 65 => ⟨S8192x32x64, .f32⟩
  | 66 => ⟨S8192x32x64, .f32⟩
  | 67 => ⟨S8192x4x8x64, .f32⟩
  | 68 => ⟨S64x8192x4x8x1, .f32⟩
  | 69 => ⟨S1x8192x4x8x64, .f32⟩
  | 70 => ⟨S64x8192x4x8x64, .f32⟩
  | 71 => ⟨S64x8192x4x8x64, .f32⟩
  | 72 => ⟨S64x8192x4x8x64, .f32⟩
  | 73 => ⟨S8192x4x128, .f32⟩
  | 74 => ⟨S4x64x8x64x128, .f32⟩
  | 75 => ⟨S64x128x4x8x64, .f32⟩
  | 76 => ⟨S64x128x2048, .f32⟩
  | 77 => ⟨S1x32x64, .f32⟩
  | 78 => ⟨S1x2048, .f32⟩
  | 79 => ⟨S_, .i32⟩
  | 80 => ⟨S_, .f32⟩
  | 81 => ⟨S8192x128, .f32⟩
  | 82 => ⟨S_, .i32⟩
  | 83 => ⟨S_, .f32⟩
  | 84 => ⟨S1x128, .f32⟩
  | 85 => ⟨S_, .i32⟩
  | 86 => ⟨S_, .f32⟩
  | 87 => ⟨S1x128, .f32⟩
  | 88 => ⟨S128, .i32⟩
  | 89 => ⟨S128x1, .i32⟩
  | 90 => ⟨S2048, .i32⟩
  | 91 => ⟨S1x2048, .i32⟩
  | 92 => ⟨S_, .i32⟩
  | 93 => ⟨S_, .i32⟩
  | 94 => ⟨S1x2048, .i32⟩
  | 95 => ⟨S1x2048, .i32⟩
  | 96 => ⟨S1x2048, .i32⟩
  | 97 => ⟨S_, .i32⟩
  | 98 => ⟨S1x2048, .i32⟩
  | 99 => ⟨S1x2048, .i1⟩
  | 100 => ⟨S1x2048, .i32⟩
  | 101 => ⟨S1x2048, .i32⟩
  | 102 => ⟨S_, .i32⟩
  | 103 => ⟨S1x2048, .i32⟩
  | 104 => ⟨S1x2048, .i1⟩
  | 105 => ⟨S1x2048, .i1⟩
  | 106 => ⟨S_, .i32⟩
  | 107 => ⟨S1x2048, .i32⟩
  | 108 => ⟨S1x2048, .i32⟩
  | 109 => ⟨S1x2048, .i32⟩
  | 110 => ⟨S128x2048, .i32⟩
  | 111 => ⟨S128x2048, .i32⟩
  | 112 => ⟨S128x2048, .i1⟩
  | 113 => ⟨S128x2048, .bf16⟩
  | 114 => ⟨S4096, .i32⟩
  | 115 => ⟨S1x4096, .i32⟩
  | 116 => ⟨S_, .i32⟩
  | 117 => ⟨S_, .i32⟩
  | 118 => ⟨S1x4096, .i32⟩
  | 119 => ⟨S1x4096, .i32⟩
  | 120 => ⟨S1x4096, .i32⟩
  | 121 => ⟨S_, .i32⟩
  | 122 => ⟨S1x4096, .i32⟩
  | 123 => ⟨S1x4096, .i1⟩
  | 124 => ⟨S1x4096, .i32⟩
  | 125 => ⟨S1x4096, .i32⟩
  | 126 => ⟨S_, .i32⟩
  | 127 => ⟨S1x4096, .i32⟩
  | _ => ⟨S8192x3072, .bf16⟩

abbrev hbmTy0_1 (i : Nat) : BufTy := match i % 128 with
  | 0 => ⟨S1x4096, .i1⟩
  | 1 => ⟨S1x4096, .i1⟩
  | 2 => ⟨S_, .i32⟩
  | 3 => ⟨S1x4096, .i32⟩
  | 4 => ⟨S1x4096, .i32⟩
  | 5 => ⟨S1x4096, .i32⟩
  | 6 => ⟨S128x4096, .i32⟩
  | 7 => ⟨S128x4096, .i32⟩
  | 8 => ⟨S128x4096, .i1⟩
  | 9 => ⟨S128x4096, .bf16⟩
  | 10 => ⟨S8192x3072, .bf16⟩
  | 11 => ⟨S8192x128, .f32⟩
  | 12 => ⟨S8x128, .f32⟩
  | _ => ⟨S8192x3072, .bf16⟩

abbrev hbmTy (i : Nat) : BufTy := match i / 128 with
  | 0 => hbmTy0_0 i
  | 1 => hbmTy0_1 i
  | _ => ⟨S8192x3072, .bf16⟩

abbrev bufTy : (tb : Table) → Fin (tcTables nBuf tb) → BufTy
  | .hbm, ⟨i, _⟩ => hbmTy i
  | .local _ .vmem, ⟨0, _⟩ => ⟨S128x3072, .bf16⟩
  | .local _ .vmem, ⟨1, _⟩ => ⟨S128x3072, .bf16⟩
  | .local _ .vmem, ⟨2, _⟩ => ⟨S128x128, .f32⟩
  | .local _ .vmem, ⟨3, _⟩ => ⟨S128x128, .f32⟩
  | .local _ .vmem, ⟨4, _⟩ => ⟨S128x2048, .bf16⟩
  | .local _ .vmem, ⟨5, _⟩ => ⟨S128x2048, .bf16⟩
  | .local _ .vmem, ⟨6, _⟩ => ⟨S1x128x2048, .f32⟩
  | .local _ .vmem, ⟨7, _⟩ => ⟨S1x128x2048, .f32⟩
  | .local _ .vmem, ⟨8, _⟩ => ⟨S1x128, .f32⟩
  | .local _ .vmem, ⟨9, _⟩ => ⟨S1x128, .f32⟩
  | .local _ .vmem, ⟨10, _⟩ => ⟨S1x2048, .f32⟩
  | .local _ .vmem, ⟨11, _⟩ => ⟨S128x2048, .bf16⟩
  | .local _ .vmem, ⟨12, _⟩ => ⟨S128x4096, .bf16⟩
  | .local _ .vmem, ⟨13, _⟩ => ⟨S128x3072, .bf16⟩
  | .local _ .vmem, ⟨14, _⟩ => ⟨S128x3072, .bf16⟩
  | .local _ .vmem, ⟨15, _⟩ => ⟨S128x128, .f32⟩
  | .local _ .vmem, ⟨16, _⟩ => ⟨S128x128, .f32⟩
  | .local _ .vmem, ⟨17, _⟩ => ⟨S8x128, .f32⟩
  | .local _ .vmem, ⟨18, _⟩ => ⟨S128x2048, .f32⟩
  | .local _ .vmem, ⟨19, _⟩ => ⟨S128x128, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_call1_call0_cst : Ref sig .tc := ⟨.hbm, 30, rfl⟩
abbrev main_call1_call0_v0 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_c_0 : Ref sig .tc := ⟨.hbm, 79, rfl⟩
abbrev main_call3_v0 : Ref sig .tc := ⟨.hbm, 80, rfl⟩
abbrev main_v53 : Ref sig .tc := ⟨.hbm, 81, rfl⟩
abbrev main_c_1 : Ref sig .tc := ⟨.hbm, 82, rfl⟩
abbrev main_call4_v0 : Ref sig .tc := ⟨.hbm, 83, rfl⟩
abbrev main_v54 : Ref sig .tc := ⟨.hbm, 84, rfl⟩
abbrev main_c_2 : Ref sig .tc := ⟨.hbm, 85, rfl⟩
abbrev main_call5_v0 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_c_3 : Ref sig .tc := ⟨.hbm, 92, rfl⟩
abbrev main_call6_v0 : Ref sig .tc := ⟨.hbm, 93, rfl⟩
abbrev main_call6_v1 : Ref sig .tc := ⟨.hbm, 94, rfl⟩
abbrev main_call6_v2 : Ref sig .tc := ⟨.hbm, 95, rfl⟩
abbrev main_call6_v3 : Ref sig .tc := ⟨.hbm, 96, rfl⟩
abbrev main_call6_v4 : Ref sig .tc := ⟨.hbm, 97, rfl⟩
abbrev main_call6_v5 : Ref sig .tc := ⟨.hbm, 98, rfl⟩
abbrev main_call6_v6 : Ref sig .tc := ⟨.hbm, 99, rfl⟩
abbrev main_call6_v7 : Ref sig .tc := ⟨.hbm, 100, rfl⟩
abbrev main_call6_v8 : Ref sig .tc := ⟨.hbm, 101, rfl⟩
abbrev main_call6_c : Ref sig .tc := ⟨.hbm, 102, rfl⟩
abbrev main_call6_v9 : Ref sig .tc := ⟨.hbm, 103, rfl⟩
abbrev main_call6_v10 : Ref sig .tc := ⟨.hbm, 104, rfl⟩
abbrev main_call6_v11 : Ref sig .tc := ⟨.hbm, 105, rfl⟩
abbrev main_call6_c_0 : Ref sig .tc := ⟨.hbm, 106, rfl⟩
abbrev main_call6_v12 : Ref sig .tc := ⟨.hbm, 107, rfl⟩
abbrev main_call6_v13 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_c_4 : Ref sig .tc := ⟨.hbm, 116, rfl⟩
abbrev main_call7_v0 : Ref sig .tc := ⟨.hbm, 117, rfl⟩
abbrev main_call7_v1 : Ref sig .tc := ⟨.hbm, 118, rfl⟩
abbrev main_call7_v2 : Ref sig .tc := ⟨.hbm, 119, rfl⟩
abbrev main_call7_v3 : Ref sig .tc := ⟨.hbm, 120, rfl⟩
abbrev main_call7_v4 : Ref sig .tc := ⟨.hbm, 121, rfl⟩
abbrev main_call7_v5 : Ref sig .tc := ⟨.hbm, 122, rfl⟩
abbrev main_call7_v6 : Ref sig .tc := ⟨.hbm, 123, rfl⟩
abbrev main_call7_v7 : Ref sig .tc := ⟨.hbm, 124, rfl⟩
abbrev main_call7_v8 : Ref sig .tc := ⟨.hbm, 125, rfl⟩
abbrev main_call7_c : Ref sig .tc := ⟨.hbm, 126, rfl⟩
abbrev main_call7_v9 : Ref sig .tc := ⟨.hbm, 127, rfl⟩
abbrev main_call7_v10 : Ref sig .tc := ⟨.hbm, 128, rfl⟩
abbrev main_call7_v11 : Ref sig .tc := ⟨.hbm, 129, rfl⟩
abbrev main_call7_c_0 : Ref sig .tc := ⟨.hbm, 130, rfl⟩
abbrev main_call7_v12 : Ref sig .tc := ⟨.hbm, 131, rfl⟩
abbrev main_call7_v13 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_v72_0 : Ref sig .tc := ⟨.hbm, 138, rfl⟩
abbrev main_v72_1 : Ref sig .tc := ⟨.hbm, 139, rfl⟩
abbrev main_v72_2 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== KernelSsdIdeal.lean ====
variable {F : FTy → Type} [FloatOps F] [Named F]
def κ : String → Option EReal := fun
  | "mask" => some ⊥
  | _ => none
-- ==== ReferenceSsdIdeal.lean ====
abbrev S8192x3072 : Shape := ⟨2, ![8192, 3072]⟩
abbrev S8192x32 : Shape := ⟨2, ![8192, 32]⟩
abbrev S8192x2048 : Shape := ⟨2, ![8192, 2048]⟩
abbrev S1x32 : Shape := ⟨2, ![1, 32]⟩
abbrev S8192x512 : Shape := ⟨2, ![8192, 512]⟩
abbrev S8192x4x8x64 : Shape := ⟨4, ![8192, 4, 8, 64]⟩
abbrev S_ : Shape := ⟨0, ![]⟩
abbrev S8192x4x8 : Shape := ⟨3, ![8192, 4, 8]⟩
abbrev S8192x4x8x1 : Shape := ⟨4, ![8192, 4, 8, 1]⟩
abbrev S32x8192 : Shape := ⟨2, ![32, 8192]⟩
abbrev S4x8x8192 : Shape := ⟨3, ![4, 8, 8192]⟩
abbrev S8192x8192 : Shape := ⟨2, ![8192, 8192]⟩
abbrev S4x8x8192x1 : Shape := ⟨4, ![4, 8, 8192, 1]⟩
abbrev S4x8x1x8192 : Shape := ⟨4, ![4, 8, 1, 8192]⟩
abbrev S4x8x8192x8192 : Shape := ⟨4, ![4, 8, 8192, 8192]⟩
abbrev S8192x4x128 : Shape := ⟨3, ![8192, 4, 128]⟩
abbrev S4x8192x8192 : Shape := ⟨3, ![4, 8192, 8192]⟩
abbrev S4x1x8192x8192 : Shape := ⟨4, ![4, 1, 8192, 8192]⟩
abbrev S4x8x64x8192 : Shape := ⟨4, ![4, 8, 64, 8192]⟩
abbrev S4x8 : Shape := ⟨2, ![4, 8]⟩
abbrev S4x8x1 : Shape := ⟨3, ![4, 8, 1]⟩
abbrev S1x4x8x1 : Shape := ⟨4, ![1, 4, 8, 1]⟩
abbrev S4x8192x128 : Shape := ⟨3, ![4, 8192, 128]⟩

abbrev nBuf : Space → Nat
  | .hbm => 103
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x32, .f32⟩
  | .hbm, ⟨2, _⟩ => ⟨S8192x2048, .bf16⟩
  | .hbm, ⟨3, _⟩ => ⟨S1x32, .f32⟩
  | .hbm, ⟨4, _⟩ => ⟨S1x32, .f32⟩
  | .hbm, ⟨5, _⟩ => ⟨S1x32, .f32⟩
  | .hbm, ⟨6, _⟩ => ⟨S8192x3072, .f32⟩
  | .hbm, ⟨7, _⟩ => ⟨S8192x2048, .f32⟩
  | .hbm, ⟨8, _⟩ => ⟨S8192x512, .f32⟩
  | .hbm, ⟨9, _⟩ => ⟨S8192x512, .f32⟩
  | .hbm, ⟨10, _⟩ => ⟨S8192x4x8x64, .f32⟩
  | .hbm, ⟨11, _⟩ => ⟨S8192x32, .f32⟩
  | .hbm, ⟨12, _⟩ => ⟨S8192x32, .f32⟩
  | .hbm, ⟨13, _⟩ => ⟨S_, .f32⟩
  | .hbm, ⟨14, _⟩ => ⟨S8192x32, .f32⟩
  | .hbm, ⟨15, _⟩ => ⟨S8192x32, .f32⟩
  | .hbm, ⟨16, _⟩ => ⟨S8192x32, .f32⟩
  | .hbm, ⟨17, _⟩ => ⟨S8192x32, .f32⟩
  | .hbm, ⟨18, _⟩ => ⟨S8192x32, .i1⟩
  | .hbm, ⟨19, _⟩ => ⟨S8192x32, .f32⟩
  | .hbm, ⟨20, _⟩ => ⟨S8192x32, .f32⟩
  | .hbm, ⟨21, _⟩ => ⟨S8192x32, .f32⟩
  | .hbm, ⟨22, _⟩ => ⟨S8192x32, .f32⟩
  | .hbm, ⟨23, _⟩ => ⟨S8192x32, .f32⟩
  | .hbm, ⟨24, _⟩ => ⟨S8192x32, .f32⟩
  | .hbm, ⟨25, _⟩ => ⟨S8192x32, .f32⟩
  | .hbm, ⟨26, _⟩ => ⟨S8192x32, .f32⟩
  | .hbm, ⟨27, _⟩ => ⟨S1x32, .f32⟩
  | .hbm, ⟨28, _⟩ => ⟨S1x32, .f32⟩
  | .hbm, ⟨29, _⟩ => ⟨S8192x32, .f32⟩
  | .hbm, ⟨30, _⟩ => ⟨S8192x32, .f32⟩
  | .hbm, ⟨31, _⟩ => ⟨S_, .f32⟩
  | .hbm, ⟨32, _⟩ => ⟨S_, .f32⟩
  | .hbm, ⟨33, _⟩ => ⟨S8192x32, .f32⟩
  | .hbm, ⟨34, _⟩ => ⟨S8192x4x8, .f32⟩
  | .hbm, ⟨35, _⟩ => ⟨S8192x4x8x1, .f32⟩
  | .hbm, ⟨36, _⟩ => ⟨S8192x4x8x64, .f32⟩
  | .hbm, ⟨37, _⟩ => ⟨S8192x4x8x64, .f32⟩
  | .hbm, ⟨38, _⟩ => ⟨S32x8192, .f32⟩
  | .hbm, ⟨39, _⟩ => ⟨S4x8x8192, .f32⟩
  | .hbm, ⟨40, _⟩ => ⟨S_, .i1⟩
  | .hbm, ⟨41, _⟩ => ⟨S8192x8192, .i1⟩
  | .hbm, ⟨42, _⟩ => ⟨S8192x8192, .i32⟩
  | .hbm, ⟨43, _⟩ => ⟨S_, .i32⟩
  | .hbm, ⟨44, _⟩ => ⟨S8192x8192, .i32⟩
  | .hbm, ⟨45, _⟩ => ⟨S8192x8192, .i32⟩
  | .hbm, ⟨46, _⟩ => ⟨S8192x8192, .i32⟩
  | .hbm, ⟨47, _⟩ => ⟨S8192x8192, .i1⟩
  | .hbm, ⟨48, _⟩ => ⟨S_, .i1⟩
  | .hbm, ⟨49, _⟩ => ⟨S8192x8192, .i1⟩
  | .hbm, ⟨50, _⟩ => ⟨S8192x8192, .i1⟩
  | .hbm, ⟨51, _⟩ => ⟨S4x8x8192x1, .f32⟩
  | .hbm, ⟨52, _⟩ => ⟨S4x8x1x8192, .f32⟩
  | .hbm, ⟨53, _⟩ => ⟨S4x8x8192x8192, .f32⟩
  | .hbm, ⟨54, _⟩ => ⟨S4x8x8192x8192, .f32⟩
  | .hbm, ⟨55, _⟩ => ⟨S4x8x8192x8192, .f32⟩
  | .hbm, ⟨56, _⟩ => ⟨S_, .f32⟩
  | .hbm, ⟨57, _⟩ => ⟨S_, .f32⟩
  | .hbm, ⟨58, _⟩ => ⟨S4x8x8192x8192, .i1⟩
  | .hbm, ⟨59, _⟩ => ⟨S4x8x8192x8192, .f32⟩
  | .hbm, ⟨60, _⟩ => ⟨S4x8x8192x8192, .f32⟩
  | .hbm, ⟨61, _⟩ => ⟨S4x8x8192x8192, .f32⟩
  | .hbm, ⟨62, _⟩ => ⟨S8192x4x128, .f32⟩
  | .hbm, ⟨63, _⟩ => ⟨S8192x4x128, .f32⟩
  | .hbm, ⟨64, _⟩ => ⟨S4x8192x8192, .f32⟩
  | .hbm, ⟨65, _⟩ => ⟨S4x1x8192x8192, .f32⟩
  | .hbm, ⟨66, _⟩ => ⟨S4x8x8192x8192, .f32⟩
  | .hbm, ⟨67, _⟩ => ⟨S4x8x8192x8192, .f32⟩
  | .hbm, ⟨68, _⟩ => ⟨S4x8x64x8192, .f32⟩
  | .hbm, ⟨69, _⟩ => ⟨S8192x4x8x64, .f32⟩
  | .hbm, ⟨70, _⟩ => ⟨S4x8, .f32⟩
  | .hbm, ⟨71, _⟩ => ⟨S4x8x1, .f32⟩
  | .hbm, ⟨72, _⟩ => ⟨S1x4x8x1, .f32⟩
  | .hbm, ⟨73, _⟩ => ⟨S8192x4x8x64, .f32⟩
  | .hbm, ⟨74, _⟩ => ⟨S8192x4x8x64, .f32⟩
  | .hbm, ⟨75, _⟩ => ⟨S8192x4x8x64, .f32⟩
  | .hbm, ⟨76, _⟩ => ⟨S8192x2048, .f32⟩
  | .hbm, ⟨77, _⟩ => ⟨S8192x2048, .f32⟩
  | .hbm, ⟨78, _⟩ => ⟨S8192x4x8x64, .f32⟩
  | .hbm, ⟨79, _⟩ => ⟨S8192x4x8x64, .f32⟩
  | .hbm, ⟨80, _⟩ => ⟨S8192x4x8x64, .f32⟩
  | .hbm, ⟨81, _⟩ => ⟨S4x8x64x8192, .f32⟩
  | .hbm, ⟨82, _⟩ => ⟨S4x8x8192x8192, .f32⟩
  | .hbm, ⟨83, _⟩ => ⟨S4x8x64x8192, .f32⟩
  | .hbm, ⟨84, _⟩ => ⟨S8192x4x8x64, .f32⟩
  | .hbm, ⟨85, _⟩ => ⟨S4x8x8192x8192, .f32⟩
  | .hbm, ⟨86, _⟩ => ⟨S_, .f32⟩
  | .hbm, ⟨87, _⟩ => ⟨S4x8192x8192, .f32⟩
  | .hbm, ⟨88, _⟩ => ⟨S4x1x8192x8192, .f32⟩
  | .hbm, ⟨89, _⟩ => ⟨S_, .f32⟩
  | .hbm, ⟨90, _⟩ => ⟨S4x8192x8192, .f32⟩
  | .hbm, ⟨91, _⟩ => ⟨S4x8192x128, .f32⟩
  | .hbm, ⟨92, _⟩ => ⟨S8192x4x128, .f32⟩
  | .hbm, ⟨93, _⟩ => ⟨S4x8192x128, .f32⟩
  | .hbm, ⟨94, _⟩ => ⟨S8192x4x128, .f32⟩
  | .hbm, ⟨95, _⟩ => ⟨S8192x512, .f32⟩
  | .hbm, ⟨96, _⟩ => ⟨S8192x512, .f32⟩
  | .hbm, ⟨97, _⟩ => ⟨S8192x4x8x64, .f32⟩
  | .hbm, ⟨98, _⟩ => ⟨S8192x4x8x64, .f32⟩
  | .hbm, ⟨99, _⟩ => ⟨S8192x4x8x64, .f32⟩
  | .hbm, ⟨100, _⟩ => ⟨S8192x2048, .f32⟩
  | .hbm, ⟨101, _⟩ => ⟨S8192x3072, .f32⟩
  | .hbm, ⟨102, _⟩ => ⟨S8192x3072, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_call1_call0_cst : Ref sig .tc := ⟨.hbm, 31, rfl⟩
abbrev main_call1_call0_v0 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c : Ref sig .tc := ⟨.hbm, 40, rfl⟩
abbrev main_v19 : Ref sig .tc := ⟨.hbm, 41, rfl⟩
abbrev main_call2_v0 : Ref sig .tc := ⟨.hbm, 42, rfl⟩
abbrev main_call2_c : Ref sig .tc := ⟨.hbm, 43, rfl⟩
abbrev main_call2_v1 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_call2_c_0 : Ref sig .tc := ⟨.hbm, 48, rfl⟩
abbrev main_call2_v5 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_cst : Ref sig .tc := ⟨.hbm, 56, rfl⟩
abbrev main_call3_v0 : Ref sig .tc := ⟨.hbm, 57, rfl⟩
abbrev main_call3_v1 : Ref sig .tc := ⟨.hbm, 58, rfl⟩
abbrev main_call3_v2 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_cst_0 : Ref sig .tc := ⟨.hbm, 86, rfl⟩
abbrev main_v52 : Ref sig .tc := ⟨.hbm, 87, rfl⟩
abbrev main_v53 : Ref sig .tc := ⟨.hbm, 88, rfl⟩
abbrev main_cst_1 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩

abbrev nD : Nat := 1
abbrev τ : Topo := Topo.v7x

variable {F : FTy → Type} [FloatOps F]
-- ==== Kernel.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S_, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelWd.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceWdIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelWdi.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceWdiIdeal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x2048, .f32⟩
  | .hbm, ⟨3, _⟩ => ⟨S_, .f32⟩
  | .hbm, ⟨4, _⟩ => ⟨S2048x1024, .f32⟩
  | .hbm, ⟨5, _⟩ => ⟨S8192x1024, .f32⟩
  | .hbm, ⟨6, _⟩ => ⟨S8192x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelWx.lean ====
abbrev S8192x3072 : Shape := ⟨2, ![8192, 3072]⟩
abbrev S8192x1024 : Shape := ⟨2, ![8192, 1024]⟩
abbrev S3072x1024 : Shape := ⟨2, ![3072, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S3072x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceWxIdeal.lean ====
abbrev S8192x3072 : Shape := ⟨2, ![8192, 3072]⟩
abbrev S8192x1024 : Shape := ⟨2, ![8192, 1024]⟩
abbrev S_ : Shape := ⟨0, ![]⟩
abbrev S3072x1024 : Shape := ⟨2, ![3072, 1024]⟩
abbrev S1024x3072 : Shape := ⟨2, ![1024, 3072]⟩

abbrev nBuf : Space → Nat
  | .hbm => 10
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S8192x3072, .f32⟩
  | .hbm, ⟨3, _⟩ => ⟨S_, .f32⟩
  | .hbm, ⟨4, _⟩ => ⟨S3072x1024, .f32⟩
  | .hbm, ⟨5, _⟩ => ⟨S8192x1024, .f32⟩
  | .hbm, ⟨6, _⟩ => ⟨S8192x1024, .f32⟩
  | .hbm, ⟨7, _⟩ => ⟨S1024x3072, .f32⟩
  | .hbm, ⟨8, _⟩ => ⟨S3072x1024, .f32⟩
  | .hbm, ⟨9, _⟩ => ⟨S3072x1024, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDv.lean ====
abbrev S8192x2816 : Shape := ⟨2, ![8192, 2816]⟩
abbrev S5632x1024 : Shape := ⟨2, ![5632, 1024]⟩
abbrev S8192x1024 : Shape := ⟨2, ![8192, 1024]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S5632x1024, .bf16⟩
  | .hbm, ⟨3, _⟩ => ⟨S8192x1024, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1024x1024, .bf16⟩
  | .local _ .vmem, ⟨7, _⟩ => ⟨S1024x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceDvIdeal.lean ====
abbrev S8192x2816 : Shape := ⟨2, ![8192, 2816]⟩
abbrev S5632x1024 : Shape := ⟨2, ![5632, 1024]⟩
abbrev S_ : Shape := ⟨0, ![]⟩
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 19
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S5632x1024, .bf16⟩
  | .hbm, ⟨3, _⟩ => ⟨S5632x1024, .f32⟩
  | .hbm, ⟨4, _⟩ => ⟨S_, .f32⟩
  | .hbm, ⟨5, _⟩ => ⟨S8192x1024, .f32⟩
  | .hbm, ⟨6, _⟩ => ⟨S1024x5632, .f32⟩
  | .hbm, ⟨7, _⟩ => ⟨S8192x5632, .f32⟩
  | .hbm, ⟨8, _⟩ => ⟨S8192x2816, .f32⟩
  | .hbm, ⟨9, _⟩ => ⟨S8192x2816, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x5632, .f32⟩
  | .hbm, ⟨14, _⟩ => ⟨S_, .f32⟩
  | .hbm, ⟨15, _⟩ => ⟨S8192x5632, .f32⟩
  | .hbm, ⟨16, _⟩ => ⟨S8192x5632, .f32⟩
  | .hbm, ⟨17, _⟩ => ⟨S8192x1024, .f32⟩
  | .hbm, ⟨18, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== KernelDa.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1024x2816 : Shape := ⟨2, ![1024, 2816]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S2816x1024, .bf16⟩
  | .local _ .vmem, ⟨3, _⟩ => ⟨S1024x2816, .bf16⟩
  | .local _ .vmem, ⟨4, _⟩ => ⟨S1024x2816, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceDaIdeal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S_, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S8192x2816, .f32⟩
  | .hbm, ⟨8, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelDu.lean ====
abbrev S8192x1024 : Shape := ⟨2, ![8192, 1024]⟩
abbrev S8192x2048 : Shape := ⟨2, ![8192, 2048]⟩
abbrev S8192x3072 : Shape := ⟨2, ![8192, 3072]⟩
abbrev S8192x128 : Shape := ⟨2, ![8192, 128]⟩
abbrev S10272x1024 : Shape := ⟨2, ![10272, 1024]⟩
abbrev S32x1024 : Shape := ⟨2, ![32, 1024]⟩
abbrev S_ : Shape := ⟨0, ![]⟩
abbrev S128x1024 : Shape := ⟨2, ![128, 1024]⟩
abbrev S512x1024 : Shape := ⟨2, ![512, 1024]⟩
abbrev S1024x1024 : Shape := ⟨2, ![1024, 1024]⟩
abbrev S512x128 : Shape := ⟨2, ![512, 128]⟩

abbrev nBuf : Space → Nat
  | .hbm => 14
  | .vmem => 35
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x2048, .bf16⟩
  | .hbm, ⟨6, _⟩ => ⟨S8192x3072, .bf16⟩
  | .hbm, ⟨7, _⟩ => ⟨S8192x128, .bf16⟩
  | .hbm, ⟨8, _⟩ => ⟨S10272x1024, .bf16⟩
  | .hbm, ⟨9, _⟩ => ⟨S32x1024, .bf16⟩
  | .hbm, ⟨10, _⟩ => ⟨S_, .i32⟩
  | .hbm, ⟨11, _⟩ => ⟨S_, .bf16⟩
  | .hbm, ⟨12, _⟩ => ⟨S128x1024, .bf16⟩
  | .hbm, ⟨13, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S1024x1024, .bf16⟩
  | .local _ .vmem, ⟨6, _⟩ => ⟨S512x1024, .bf16⟩
  | .local _ .vmem, ⟨7, _⟩ => ⟨S512x1024, .bf16⟩
  | .local _ .vmem, ⟨8, _⟩ => ⟨S1024x1024, .bf16⟩
  | .local _ .vmem, ⟨9, _⟩ => ⟨S512x1024, .bf16⟩
  | .local _ .vmem, ⟨10, _⟩ => ⟨S512x1024, .bf16⟩
  | .local _ .vmem, ⟨11, _⟩ => ⟨S1024x1024, .bf16⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S512x1024, .bf16⟩
  | .local _ .vmem, ⟨16, _⟩ => ⟨S512x1024, .bf16⟩
  | .local _ .vmem, ⟨17, _⟩ => ⟨S1024x1024, .bf16⟩
  | .local _ .vmem, ⟨18, _⟩ => ⟨S512x1024, .bf16⟩
  | .local _ .vmem, ⟨19, _⟩ => ⟨S512x1024, .bf16⟩
  | .local _ .vmem, ⟨20, _⟩ => ⟨S1024x1024, .bf16⟩
  | .local _ .vmem, ⟨21, _⟩ => ⟨S512x1024, .bf16⟩
  | .local _ .vmem, ⟨22, _⟩ => ⟨S512x1024, .bf16⟩
  | .local _ .vmem, ⟨23, _⟩ => ⟨S1024x1024, .bf16⟩
  | .local _ .vmem, ⟨24, _⟩ => ⟨S512x1024, .bf16⟩
  | .local _ .vmem, ⟨25, _⟩ => ⟨S512x1024, .bf16⟩
  | .local _ .vmem, ⟨26, _⟩ => ⟨S1024x1024, .bf16⟩
  | .local _ .vmem, ⟨27, _⟩ => ⟨S512x1024, .bf16⟩
  | .local _ .vmem, ⟨28, _⟩ => ⟨S512x1024, .bf16⟩
  | .local _ .vmem, ⟨29, _⟩ => ⟨S1024x1024, .bf16⟩
  | .local _ .vmem, ⟨30, _⟩ => ⟨S512x128, .bf16⟩
  | .local _ .vmem, ⟨31, _⟩ => ⟨S512x128, .bf16⟩
  | .local _ .vmem, ⟨32, _⟩ => ⟨S128x1024, .bf16⟩
  | .local _ .vmem, ⟨33, _⟩ => ⟨S512x1024, .bf16⟩
  | .local _ .vmem, ⟨34, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg22_0 : Ref sig .tc := ⟨.vmem, 33, rfl⟩
abbrev cc0_stg22_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem16_0 : DmaSem sig := 24
abbrev cc0_sem16_1 : DmaSem sig := 25
abbrev cc0_sem17_0 : DmaSem sig := 26
abbrev cc0_sem18_0 : DmaSem sig := 27
abbrev cc0_sem18_1 : DmaSem sig := 28
abbrev cc0_sem19_0 : DmaSem sig := 29
abbrev cc0_sem20_0 : DmaSem sig := 30
abbrev cc0_sem20_1 : DmaSem sig := 31
abbrev cc0_sem21_0 : DmaSem sig := 32
abbrev cc0_sem22_0 : DmaSem sig := 33
abbrev cc0_sem22_1 : DmaSem sig := 34

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![c2_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![c3_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  ![c4_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c5_i32 : BitVec 32 := 5#32
  let c0_i32 : BitVec 32 := 0#32
  ![c5_i32.toNat, arg1.toNat]

def cc0_transform_12 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_13 (i : grid0.Coords) : Fin 2 → Nat :=
  let arg0 : BitVec 32 := BitVec.ofNat 32 (i 0).val
  let arg1 : BitVec 32 := BitVec.ofNat 32 (i 1).val
  let c6_i32 : BitVec 32 := 6#32
  let c0_i32 : BitVec 32 := 0#32
  ![c6_i32.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c7_i32 : BitVec 32 := 7#32
  let c0_i32 : BitVec 32 := 0#32
  ![c7_i32.toNat, arg1.toNat]

def cc0_transform_16 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_17 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  ![c8_i32.toNat, arg1.toNat]

def cc0_transform_18 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_19 (i : grid0.Coords) : Fin 2 → Nat :=
  let arg0 : BitVec 32 := BitVec.ofNat 32 (i 0).val
  let arg1 : BitVec 32 := BitVec.ofNat 32 (i 1).val
  let c9_i32 : BitVec 32 := 9#32
  let c0_i32 : BitVec 32 := 0#32
  ![c9_i32.toNat, arg1.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 1 → Memref sig .tc .vmem S1024x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 1 → Memref sig .tc .vmem S1024x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, true]

abbrev stage0_20 : Fin 2 → Memref sig .tc .vmem S512x128 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]

abbrev stage0_21 : Fin 1 → Memref sig .tc .vmem S128x1024 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, true]

abbrev stage0_22 : Fin 2 → Memref sig .tc .vmem S512x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]
-- ==== ReferenceDuIdeal.lean ====
abbrev S8192x1024 : Shape := ⟨2, ![8192, 1024]⟩
abbrev S8192x2048 : Shape := ⟨2, ![8192, 2048]⟩
abbrev S8192x3072 : Shape := ⟨2, ![8192, 3072]⟩
abbrev S8192x128 : Shape := ⟨2, ![8192, 128]⟩
abbrev S10272x1024 : Shape := ⟨2, ![10272, 1024]⟩
abbrev S8192x32 : Shape := ⟨2, ![8192, 32]⟩
abbrev S_ : Shape := ⟨0, ![]⟩
abbrev S1024x10272 : Shape := ⟨2, ![1024, 10272]⟩
abbrev S8192x10272 : Shape := ⟨2, ![8192, 10272]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x2048, .bf16⟩
  | .hbm, ⟨6, _⟩ => ⟨S8192x3072, .bf16⟩
  | .hbm, ⟨7, _⟩ => ⟨S8192x128, .bf16⟩
  | .hbm, ⟨8, _⟩ => ⟨S10272x1024, .bf16⟩
  | .hbm, ⟨9, _⟩ => ⟨S10272x1024, .f32⟩
  | .hbm, ⟨10, _⟩ => ⟨S8192x32, .bf16⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x2048, .f32⟩
  | .hbm, ⟨17, _⟩ => ⟨S8192x3072, .f32⟩
  | .hbm, ⟨18, _⟩ => ⟨S8192x32, .f32⟩
  | .hbm, ⟨19, _⟩ => ⟨S_, .f32⟩
  | .hbm, ⟨20, _⟩ => ⟨S8192x1024, .f32⟩
  | .hbm, ⟨21, _⟩ => ⟨S1024x10272, .f32⟩
  | .hbm, ⟨22, _⟩ => ⟨S8192x10272, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x2048, .f32⟩
  | .hbm, ⟨29, _⟩ => ⟨S8192x3072, .f32⟩
  | .hbm, ⟨30, _⟩ => ⟨S8192x32, .f32⟩
  | .hbm, ⟨31, _⟩ => ⟨S8192x10272, .f32⟩
  | .hbm, ⟨32, _⟩ => ⟨S8192x1024, .f32⟩
  | .hbm, ⟨33, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== KernelGates.lean ====
abbrev S8192x1024 : Shape := ⟨2, ![8192, 1024]⟩
abbrev S10272x1024 : Shape := ⟨2, ![10272, 1024]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S10272x1024, .bf16⟩
  | .hbm, ⟨2, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceGatesIdeal.lean ====
abbrev S8192x1024 : Shape := ⟨2, ![8192, 1024]⟩
abbrev S10272x1024 : Shape := ⟨2, ![10272, 1024]⟩
abbrev S1024x10272 : Shape := ⟨2, ![1024, 10272]⟩
abbrev S8192x10272 : Shape := ⟨2, ![8192, 10272]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S10272x1024, .bf16⟩
  | .hbm, ⟨2, _⟩ => ⟨S8192x1024, .f32⟩
  | .hbm, ⟨3, _⟩ => ⟨S10272x1024, .f32⟩
  | .hbm, ⟨4, _⟩ => ⟨S1024x10272, .f32⟩
  | .hbm, ⟨5, _⟩ => ⟨S8192x10272, .f32⟩
  | .hbm, ⟨6, _⟩ => ⟨S8192x10272, .bf16⟩
  | .hbm, ⟨7, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== KernelPa.lean ====
abbrev S8192x1024 : Shape := ⟨2, ![8192, 1024]⟩
abbrev S10272x1024 : Shape := ⟨2, ![10272, 1024]⟩
abbrev S8192x3072 : Shape := ⟨2, ![8192, 3072]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S10272x1024, .bf16⟩
  | .hbm, ⟨2, _⟩ => ⟨S8192x3072, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferencePaIdeal.lean ====
abbrev S8192x1024 : Shape := ⟨2, ![8192, 1024]⟩
abbrev S10272x1024 : Shape := ⟨2, ![10272, 1024]⟩
abbrev S1024x10272 : Shape := ⟨2, ![1024, 10272]⟩
abbrev S8192x10272 : Shape := ⟨2, ![8192, 10272]⟩
abbrev S8192x3072 : Shape := ⟨2, ![8192, 3072]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S10272x1024, .bf16⟩
  | .hbm, ⟨2, _⟩ => ⟨S8192x1024, .f32⟩
  | .hbm, ⟨3, _⟩ => ⟨S10272x1024, .f32⟩
  | .hbm, ⟨4, _⟩ => ⟨S1024x10272, .f32⟩
  | .hbm, ⟨5, _⟩ => ⟨S8192x10272, .f32⟩
  | .hbm, ⟨6, _⟩ => ⟨S8192x10272, .bf16⟩
  | .hbm, ⟨7, _⟩ => ⟨S8192x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== KernelZ.lean ====
abbrev S8192x1024 : Shape := ⟨2, ![8192, 1024]⟩
abbrev S10272x1024 : Shape := ⟨2, ![10272, 1024]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S10272x1024, .bf16⟩
  | .hbm, ⟨2, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg1
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceZIdeal.lean ====
abbrev S8192x1024 : Shape := ⟨2, ![8192, 1024]⟩
abbrev S10272x1024 : Shape := ⟨2, ![10272, 1024]⟩
abbrev S1024x10272 : Shape := ⟨2, ![1024, 10272]⟩
abbrev S8192x10272 : Shape := ⟨2, ![8192, 10272]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S10272x1024, .bf16⟩
  | .hbm, ⟨2, _⟩ => ⟨S8192x1024, .f32⟩
  | .hbm, ⟨3, _⟩ => ⟨S10272x1024, .f32⟩
  | .hbm, ⟨4, _⟩ => ⟨S1024x10272, .f32⟩
  | .hbm, ⟨5, _⟩ => ⟨S8192x10272, .f32⟩
  | .hbm, ⟨6, _⟩ => ⟨S8192x10272, .bf16⟩
  | .hbm, ⟨7, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== KernelXbc.lean ====
abbrev S8192x1024 : Shape := ⟨2, ![8192, 1024]⟩
abbrev S10272x1024 : Shape := ⟨2, ![10272, 1024]⟩
abbrev S8192x3072 : Shape := ⟨2, ![8192, 3072]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S10272x1024, .bf16⟩
  | .hbm, ⟨2, _⟩ => ⟨S8192x3072, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg1
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceXbcIdeal.lean ====
abbrev S8192x1024 : Shape := ⟨2, ![8192, 1024]⟩
abbrev S10272x1024 : Shape := ⟨2, ![10272, 1024]⟩
abbrev S1024x10272 : Shape := ⟨2, ![1024, 10272]⟩
abbrev S8192x10272 : Shape := ⟨2, ![8192, 10272]⟩
abbrev S8192x3072 : Shape := ⟨2, ![8192, 3072]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S10272x1024, .bf16⟩
  | .hbm, ⟨2, _⟩ => ⟨S8192x1024, .f32⟩
  | .hbm, ⟨3, _⟩ => ⟨S10272x1024, .f32⟩
  | .hbm, ⟨4, _⟩ => ⟨S1024x10272, .f32⟩
  | .hbm, ⟨5, _⟩ => ⟨S8192x10272, .f32⟩
  | .hbm, ⟨6, _⟩ => ⟨S8192x10272, .bf16⟩
  | .hbm, ⟨7, _⟩ => ⟨S8192x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== KernelUp.lean ====
abbrev S8192x1024 : Shape := ⟨2, ![8192, 1024]⟩
abbrev S5632x1024 : Shape := ⟨2, ![5632, 1024]⟩
abbrev S8192x5632 : Shape := ⟨2, ![8192, 5632]⟩
abbrev S512x1024 : Shape := ⟨2, ![512, 1024]⟩
abbrev S512x5632 : Shape := ⟨2, ![512, 5632]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S5632x1024, .bf16⟩
  | .hbm, ⟨2, _⟩ => ⟨S8192x5632, .bf16⟩
  | .local _ .vmem, ⟨0, _⟩ => ⟨S512x1024, .bf16⟩
  | .local _ .vmem, ⟨1, _⟩ => ⟨S512x1024, .bf16⟩
  | .local _ .vmem, ⟨2, _⟩ => ⟨S5632x1024, .bf16⟩
  | .local _ .vmem, ⟨3, _⟩ => ⟨S512x5632, .bf16⟩
  | .local _ .vmem, ⟨4, _⟩ => ⟨S512x5632, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceUpIdeal.lean ====
abbrev S8192x1024 : Shape := ⟨2, ![8192, 1024]⟩
abbrev S5632x1024 : Shape := ⟨2, ![5632, 1024]⟩
abbrev S1024x5632 : Shape := ⟨2, ![1024, 5632]⟩
abbrev S8192x5632 : Shape := ⟨2, ![8192, 5632]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S5632x1024, .bf16⟩
  | .hbm, ⟨2, _⟩ => ⟨S8192x1024, .f32⟩
  | .hbm, ⟨3, _⟩ => ⟨S5632x1024, .f32⟩
  | .hbm, ⟨4, _⟩ => ⟨S1024x5632, .f32⟩
  | .hbm, ⟨5, _⟩ => ⟨S8192x5632, .f32⟩
  | .hbm, ⟨6, _⟩ => ⟨S8192x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelDown.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .bf16⟩
  | .local _ .vmem, ⟨4, _⟩ => ⟨S1024x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceDownIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x2816, .f32⟩
  | .hbm, ⟨3, _⟩ => ⟨S2816x1024, .f32⟩
  | .hbm, ⟨4, _⟩ => ⟨S8192x1024, .f32⟩
  | .hbm, ⟨5, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelO.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceOIdeal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelS.lean ====
abbrev S8192x2048 : Shape := ⟨2, ![8192, 2048]⟩
abbrev S2048x1024 : Shape := ⟨2, ![2048, 1024]⟩
abbrev S8192x1024 : Shape := ⟨2, ![8192, 1024]⟩
abbrev S2048x2048 : Shape := ⟨2, ![2048, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceSIdeal.lean ====
abbrev S8192x2048 : Shape := ⟨2, ![8192, 2048]⟩
abbrev S2048x1024 : Shape := ⟨2, ![2048, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x2048, .f32⟩
  | .hbm, ⟨3, _⟩ => ⟨S2048x1024, .f32⟩
  | .hbm, ⟨4, _⟩ => ⟨S8192x1024, .f32⟩
  | .hbm, ⟨5, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelDm.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceDmIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelDyn.lean ====
abbrev S8192x1024 : Shape := ⟨2, ![8192, 1024]⟩
abbrev S2048x1024 : Shape := ⟨2, ![2048, 1024]⟩
abbrev S8192x2048 : Shape := ⟨2, ![8192, 2048]⟩
abbrev S1024x1024 : Shape := ⟨2, ![1024, 1024]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S1024x2048, .bf16⟩
  | .local _ .vmem, ⟨4, _⟩ => ⟨S1024x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceDynIdeal.lean ====
abbrev S8192x1024 : Shape := ⟨2, ![8192, 1024]⟩
abbrev S2048x1024 : Shape := ⟨2, ![2048, 1024]⟩
abbrev S_ : Shape := ⟨0, ![]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S2048x1024, .f32⟩
  | .hbm, ⟨3, _⟩ => ⟨S_, .f32⟩
  | .hbm, ⟨4, _⟩ => ⟨S8192x2048, .f32⟩
  | .hbm, ⟨5, _⟩ => ⟨S8192x1024, .f32⟩
  | .hbm, ⟨6, _⟩ => ⟨S8192x1024, .f32⟩
  | .hbm, ⟨7, _⟩ => ⟨S8192x2048, .f32⟩
  | .hbm, ⟨8, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelAdamH.lean ====
abbrev S1x1x32 : Shape := ⟨3, ![1, 1, 32]⟩
abbrev S1x32 : Shape := ⟨2, ![1, 32]⟩

abbrev nBuf : Space → Nat
  | .hbm => 8
  | .vmem => 8
  | .smem => 0
  | _ => 0

abbrev bufTy : (tb : Table) → Fin (tcTables nBuf tb) → BufTy
  | .hbm, ⟨0, _⟩ => ⟨S1x1x32, .f32⟩
  | .hbm, ⟨1, _⟩ => ⟨S1x32, .f32⟩
  | .hbm, ⟨2, _⟩ => ⟨S1x32, .f32⟩
  | .hbm, ⟨3, _⟩ => ⟨S1x32, .f32⟩
  | .hbm, ⟨4, _⟩ => ⟨S1x32, .f32⟩
  | .hbm, ⟨5, _⟩ => ⟨S1x32, .f32⟩
  | .hbm, ⟨6, _⟩ => ⟨S1x32, .f32⟩
  | .hbm, ⟨7, _⟩ => ⟨S1x32, .f32⟩
  | .local _ .vmem, ⟨0, _⟩ => ⟨S1x1x32, .f32⟩
  | .local _ .vmem, ⟨1, _⟩ => ⟨S1x32, .f32⟩
  | .local _ .vmem, ⟨2, _⟩ => ⟨S1x32, .f32⟩
  | .local _ .vmem, ⟨3, _⟩ => ⟨S1x32, .f32⟩
  | .local _ .vmem, ⟨4, _⟩ => ⟨S1x32, .f32⟩
  | .local _ .vmem, ⟨5, _⟩ => ⟨S1x32, .f32⟩
  | .local _ .vmem, ⟨6, _⟩ => ⟨S1x32, .f32⟩
  | .local _ .vmem, ⟨7, _⟩ => ⟨S1x32, .f32⟩
  | _, _ => ⟨S1x1x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x1x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== KernelAdamHIdeal.lean ====
abbrev S1x1x32 : Shape := ⟨3, ![1, 1, 32]⟩
abbrev S1x32 : Shape := ⟨2, ![1, 32]⟩

abbrev nBuf : Space → Nat
  | .hbm => 8
  | .vmem => 8
  | .smem => 0
  | _ => 0

abbrev bufTy : (tb : Table) → Fin (tcTables nBuf tb) → BufTy
  | .hbm, ⟨0, _⟩ => ⟨S1x1x32, .f32⟩
  | .hbm, ⟨1, _⟩ => ⟨S1x32, .f32⟩
  | .hbm, ⟨2, _⟩ => ⟨S1x32, .f32⟩
  | .hbm, ⟨3, _⟩ => ⟨S1x32, .f32⟩
  | .hbm, ⟨4, _⟩ => ⟨S1x32, .f32⟩
  | .hbm, ⟨5, _⟩ => ⟨S1x32, .f32⟩
  | .hbm, ⟨6, _⟩ => ⟨S1x32, .f32⟩
  | .hbm, ⟨7, _⟩ => ⟨S1x32, .f32⟩
  | .local _ .vmem, ⟨0, _⟩ => ⟨S1x1x32, .f32⟩
  | .local _ .vmem, ⟨1, _⟩ => ⟨S1x32, .f32⟩
  | .local _ .vmem, ⟨2, _⟩ => ⟨S1x32, .f32⟩
  | .local _ .vmem, ⟨3, _⟩ => ⟨S1x32, .f32⟩
  | .local _ .vmem, ⟨4, _⟩ => ⟨S1x32, .f32⟩
  | .local _ .vmem, ⟨5, _⟩ => ⟨S1x32, .f32⟩
  | .local _ .vmem, ⟨6, _⟩ => ⟨S1x32, .f32⟩
  | .local _ .vmem, ⟨7, _⟩ => ⟨S1x32, .f32⟩
  | _, _ => ⟨S1x1x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x1x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== ReferenceAdamHIdeal.lean ====
abbrev S1x1x32 : Shape := ⟨3, ![1, 1, 32]⟩
abbrev S1x32 : Shape := ⟨2, ![1, 32]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x1x32, .f32⟩
  | .hbm, ⟨1, _⟩ => ⟨S1x32, .f32⟩
  | .hbm, ⟨2, _⟩ => ⟨S1x32, .f32⟩
  | .hbm, ⟨3, _⟩ => ⟨S1x32, .f32⟩
  | .hbm, ⟨4, _⟩ => ⟨S_, .f32⟩
  | .hbm, ⟨5, _⟩ => ⟨S1x32, .f32⟩
  | .hbm, ⟨6, _⟩ => ⟨S_, .f32⟩
  | .hbm, ⟨7, _⟩ => ⟨S1x32, .f32⟩
  | .hbm, ⟨8, _⟩ => ⟨S1x32, .f32⟩
  | .hbm, ⟨9, _⟩ => ⟨S_, .f32⟩
  | .hbm, ⟨10, _⟩ => ⟨S1x32, .f32⟩
  | .hbm, ⟨11, _⟩ => ⟨S1x32, .f32⟩
  | .hbm, ⟨12, _⟩ => ⟨S1x32, .f32⟩
  | .hbm, ⟨13, _⟩ => ⟨S_, .f32⟩
  | .hbm, ⟨14, _⟩ => ⟨S1x32, .f32⟩
  | .hbm, ⟨15, _⟩ => ⟨S1x32, .f32⟩
  | .hbm, ⟨16, _⟩ => ⟨S1x32, .f32⟩
  | .hbm, ⟨17, _⟩ => ⟨S_, .f32⟩
  | .hbm, ⟨18, _⟩ => ⟨S1x32, .f32⟩
  | .hbm, ⟨19, _⟩ => ⟨S1x32, .f32⟩
  | .hbm, ⟨20, _⟩ => ⟨S1x32, .f32⟩
  | .hbm, ⟨21, _⟩ => ⟨S_, .f32⟩
  | .hbm, ⟨22, _⟩ => ⟨S1x32, .f32⟩
  | .hbm, ⟨23, _⟩ => ⟨S1x32, .f32⟩
  | .hbm, ⟨24, _⟩ => ⟨S_, .f32⟩
  | .hbm, ⟨25, _⟩ => ⟨S1x32, .f32⟩
  | .hbm, ⟨26, _⟩ => ⟨S1x32, .f32⟩
  | .hbm, ⟨27, _⟩ => ⟨S1x32, .f32⟩
  | .hbm, ⟨28, _⟩ => ⟨S_, .f32⟩
  | .hbm, ⟨29, _⟩ => ⟨S1x32, .f32⟩
  | .hbm, ⟨30, _⟩ => ⟨S1x32, .f32⟩
  | .hbm, ⟨31, _⟩ => ⟨S1x32, .f32⟩
  | .hbm, ⟨32, _⟩ => ⟨S_, .f32⟩
  | .hbm, ⟨33, _⟩ => ⟨S1x32, .f32⟩
  | .hbm, ⟨34, _⟩ => ⟨S1x32, .f32⟩
  | .hbm, ⟨35, _⟩ => ⟨S1x32, .f32⟩
  | .hbm, ⟨36, _⟩ => ⟨S_, .f32⟩
  | .hbm, ⟨37, _⟩ => ⟨S1x32, .f32⟩
  | .hbm, ⟨38, _⟩ => ⟨S1x32, .f32⟩
  | _, _ => ⟨S1x1x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== KernelAdamFb.lean ====
abbrev S1x1x2816 : Shape := ⟨3, ![1, 1, 2816]⟩
abbrev S1x2816 : Shape := ⟨2, ![1, 2816]⟩

abbrev nBuf : Space → Nat
  | .hbm => 8
  | .vmem => 8
  | .smem => 0
  | _ => 0

abbrev bufTy : (tb : Table) → Fin (tcTables nBuf tb) → BufTy
  | .hbm, ⟨0, _⟩ => ⟨S1x1x2816, .f32⟩
  | .hbm, ⟨1, _⟩ => ⟨S1x2816, .f32⟩
  | .hbm, ⟨2, _⟩ => ⟨S1x2816, .f32⟩
  | .hbm, ⟨3, _⟩ => ⟨S1x2816, .f32⟩
  | .hbm, ⟨4, _⟩ => ⟨S1x2816, .f32⟩
  | .hbm, ⟨5, _⟩ => ⟨S1x2816, .f32⟩
  | .hbm, ⟨6, _⟩ => ⟨S1x2816, .f32⟩
  | .hbm, ⟨7, _⟩ => ⟨S1x2816, .f32⟩
  | .local _ .vmem, ⟨0, _⟩ => ⟨S1x1x2816, .f32⟩
  | .local _ .vmem, ⟨1, _⟩ => ⟨S1x2816, .f32⟩
  | .local _ .vmem, ⟨2, _⟩ => ⟨S1x2816, .f32⟩
  | .local _ .vmem, ⟨3, _⟩ => ⟨S1x2816, .f32⟩
  | .local _ .vmem, ⟨4, _⟩ => ⟨S1x2816, .f32⟩
  | .local _ .vmem, ⟨5, _⟩ => ⟨S1x2816, .f32⟩
  | .local _ .vmem, ⟨6, _⟩ => ⟨S1x2816, .f32⟩
  | .local _ .vmem, ⟨7, _⟩ => ⟨S1x2816, .f32⟩
  | _, _ => ⟨S1x1x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x1x2816 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x2816 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== KernelAdamFbIdeal.lean ====
abbrev S1x1x2816 : Shape := ⟨3, ![1, 1, 2816]⟩
abbrev S1x2816 : Shape := ⟨2, ![1, 2816]⟩

abbrev nBuf : Space → Nat
  | .hbm => 8
  | .vmem => 8
  | .smem => 0
  | _ => 0

abbrev bufTy : (tb : Table) → Fin (tcTables nBuf tb) → BufTy
  | .hbm, ⟨0, _⟩ => ⟨S1x1x2816, .f32⟩
  | .hbm, ⟨1, _⟩ => ⟨S1x2816, .f32⟩
  | .hbm, ⟨2, _⟩ => ⟨S1x2816, .f32⟩
  | .hbm, ⟨3, _⟩ => ⟨S1x2816, .f32⟩
  | .hbm, ⟨4, _⟩ => ⟨S1x2816, .f32⟩
  | .hbm, ⟨5, _⟩ => ⟨S1x2816, .f32⟩
  | .hbm, ⟨6, _⟩ => ⟨S1x2816, .f32⟩
  | .hbm, ⟨7, _⟩ => ⟨S1x2816, .f32⟩
  | .local _ .vmem, ⟨0, _⟩ => ⟨S1x1x2816, .f32⟩
  | .local _ .vmem, ⟨1, _⟩ => ⟨S1x2816, .f32⟩
  | .local _ .vmem, ⟨2, _⟩ => ⟨S1x2816, .f32⟩
  | .local _ .vmem, ⟨3, _⟩ => ⟨S1x2816, .f32⟩
  | .local _ .vmem, ⟨4, _⟩ => ⟨S1x2816, .f32⟩
  | .local _ .vmem, ⟨5, _⟩ => ⟨S1x2816, .f32⟩
  | .local _ .vmem, ⟨6, _⟩ => ⟨S1x2816, .f32⟩
  | .local _ .vmem, ⟨7, _⟩ => ⟨S1x2816, .f32⟩
  | _, _ => ⟨S1x1x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x1x2816 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x2816 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== ReferenceAdamFbIdeal.lean ====
abbrev S1x1x2816 : Shape := ⟨3, ![1, 1, 2816]⟩
abbrev S1x2816 : Shape := ⟨2, ![1, 2816]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x1x2816, .f32⟩
  | .hbm, ⟨1, _⟩ => ⟨S1x2816, .f32⟩
  | .hbm, ⟨2, _⟩ => ⟨S1x2816, .f32⟩
  | .hbm, ⟨3, _⟩ => ⟨S1x2816, .f32⟩
  | .hbm, ⟨4, _⟩ => ⟨S_, .f32⟩
  | .hbm, ⟨5, _⟩ => ⟨S1x2816, .f32⟩
  | .hbm, ⟨6, _⟩ => ⟨S_, .f32⟩
  | .hbm, ⟨7, _⟩ => ⟨S1x2816, .f32⟩
  | .hbm, ⟨8, _⟩ => ⟨S1x2816, .f32⟩
  | .hbm, ⟨9, _⟩ => ⟨S_, .f32⟩
  | .hbm, ⟨10, _⟩ => ⟨S1x2816, .f32⟩
  | .hbm, ⟨11, _⟩ => ⟨S1x2816, .f32⟩
  | .hbm, ⟨12, _⟩ => ⟨S1x2816, .f32⟩
  | .hbm, ⟨13, _⟩ => ⟨S_, .f32⟩
  | .hbm, ⟨14, _⟩ => ⟨S1x2816, .f32⟩
  | .hbm, ⟨15, _⟩ => ⟨S1x2816, .f32⟩
  | .hbm, ⟨16, _⟩ => ⟨S1x2816, .f32⟩
  | .hbm, ⟨17, _⟩ => ⟨S_, .f32⟩
  | .hbm, ⟨18, _⟩ => ⟨S1x2816, .f32⟩
  | .hbm, ⟨19, _⟩ => ⟨S1x2816, .f32⟩
  | .hbm, ⟨20, _⟩ => ⟨S1x2816, .f32⟩
  | .hbm, ⟨21, _⟩ => ⟨S_, .f32⟩
  | .hbm, ⟨22, _⟩ => ⟨S1x2816, .f32⟩
  | .hbm, ⟨23, _⟩ => ⟨S1x2816, .f32⟩
  | .hbm, ⟨24, _⟩ => ⟨S_, .f32⟩
  | .hbm, ⟨25, _⟩ => ⟨S1x2816, .f32⟩
  | .hbm, ⟨26, _⟩ => ⟨S1x2816, .f32⟩
  | .hbm, ⟨27, _⟩ => ⟨S1x2816, .f32⟩
  | .hbm, ⟨28, _⟩ => ⟨S_, .f32⟩
  | .hbm, ⟨29, _⟩ => ⟨S1x2816, .f32⟩
  | .hbm, ⟨30, _⟩ => ⟨S1x2816, .f32⟩
  | .hbm, ⟨31, _⟩ => ⟨S1x2816, .f32⟩
  | .hbm, ⟨32, _⟩ => ⟨S_, .f32⟩
  | .hbm, ⟨33, _⟩ => ⟨S1x2816, .f32⟩
  | .hbm, ⟨34, _⟩ => ⟨S1x2816, .f32⟩
  | .hbm, ⟨35, _⟩ => ⟨S1x2816, .f32⟩
  | .hbm, ⟨36, _⟩ => ⟨S_, .f32⟩
  | .hbm, ⟨37, _⟩ => ⟨S1x2816, .f32⟩
  | .hbm, ⟨38, _⟩ => ⟨S1x2816, .f32⟩
  | _, _ => ⟨S1x1x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== KernelAdamCa.lean ====
abbrev S1x3x128 : Shape := ⟨3, ![1, 3, 128]⟩
abbrev S3x128 : Shape := ⟨2, ![3, 128]⟩

abbrev nBuf : Space → Nat
  | .hbm => 8
  | .vmem => 8
  | .smem => 0
  | _ => 0

abbrev bufTy : (tb : Table) → Fin (tcTables nBuf tb) → BufTy
  | .hbm, ⟨0, _⟩ => ⟨S1x3x128, .f32⟩
  | .hbm, ⟨1, _⟩ => ⟨S3x128, .f32⟩
  | .hbm, ⟨2, _⟩ => ⟨S3x128, .f32⟩
  | .hbm, ⟨3, _⟩ => ⟨S3x128, .f32⟩
  | .hbm, ⟨4, _⟩ => ⟨S3x128, .f32⟩
  | .hbm, ⟨5, _⟩ => ⟨S3x128, .f32⟩
  | .hbm, ⟨6, _⟩ => ⟨S3x128, .f32⟩
  | .hbm, ⟨7, _⟩ => ⟨S3x128, .f32⟩
  | .local _ .vmem, ⟨0, _⟩ => ⟨S1x3x128, .f32⟩
  | .local _ .vmem, ⟨1, _⟩ => ⟨S3x128, .f32⟩
  | .local _ .vmem, ⟨2, _⟩ => ⟨S3x128, .f32⟩
  | .local _ .vmem, ⟨3, _⟩ => ⟨S3x128, .f32⟩
  | .local _ .vmem, ⟨4, _⟩ => ⟨S3x128, .f32⟩
  | .local _ .vmem, ⟨5, _⟩ => ⟨S3x128, .f32⟩
  | .local _ .vmem, ⟨6, _⟩ => ⟨S3x128, .f32⟩
  | .local _ .vmem, ⟨7, _⟩ => ⟨S3x128, .f32⟩
  | _, _ => ⟨S1x3x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x3x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S3x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S3x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S3x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S3x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S3x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S3x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== KernelAdamCaIdeal.lean ====
abbrev S1x3x128 : Shape := ⟨3, ![1, 3, 128]⟩
abbrev S3x128 : Shape := ⟨2, ![3, 128]⟩

abbrev nBuf : Space → Nat
  | .hbm => 8
  | .vmem => 8
  | .smem => 0
  | _ => 0

abbrev bufTy : (tb : Table) → Fin (tcTables nBuf tb) → BufTy
  | .hbm, ⟨0, _⟩ => ⟨S1x3x128, .f32⟩
  | .hbm, ⟨1, _⟩ => ⟨S3x128, .f32⟩
  | .hbm, ⟨2, _⟩ => ⟨S3x128, .f32⟩
  | .hbm, ⟨3, _⟩ => ⟨S3x128, .f32⟩
  | .hbm, ⟨4, _⟩ => ⟨S3x128, .f32⟩
  | .hbm, ⟨5, _⟩ => ⟨S3x128, .f32⟩
  | .hbm, ⟨6, _⟩ => ⟨S3x128, .f32⟩
  | .hbm, ⟨7, _⟩ => ⟨S3x128, .f32⟩
  | .local _ .vmem, ⟨0, _⟩ => ⟨S1x3x128, .f32⟩
  | .local _ .vmem, ⟨1, _⟩ => ⟨S3x128, .f32⟩
  | .local _ .vmem, ⟨2, _⟩ => ⟨S3x128, .f32⟩
  | .local _ .vmem, ⟨3, _⟩ => ⟨S3x128, .f32⟩
  | .local _ .vmem, ⟨4, _⟩ => ⟨S3x128, .f32⟩
  | .local _ .vmem, ⟨5, _⟩ => ⟨S3x128, .f32⟩
  | .local _ .vmem, ⟨6, _⟩ => ⟨S3x128, .f32⟩
  | .local _ .vmem, ⟨7, _⟩ => ⟨S3x128, .f32⟩
  | _, _ => ⟨S1x3x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x3x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S3x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S3x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S3x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S3x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S3x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S3x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== ReferenceAdamCaIdeal.lean ====
abbrev S1x3x128 : Shape := ⟨3, ![1, 3, 128]⟩
abbrev S3x128 : Shape := ⟨2, ![3, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x3x128, .f32⟩
  | .hbm, ⟨1, _⟩ => ⟨S3x128, .f32⟩
  | .hbm, ⟨2, _⟩ => ⟨S3x128, .f32⟩
  | .hbm, ⟨3, _⟩ => ⟨S3x128, .f32⟩
  | .hbm, ⟨4, _⟩ => ⟨S_, .f32⟩
  | .hbm, ⟨5, _⟩ => ⟨S3x128, .f32⟩
  | .hbm, ⟨6, _⟩ => ⟨S_, .f32⟩
  | .hbm, ⟨7, _⟩ => ⟨S3x128, .f32⟩
  | .hbm, ⟨8, _⟩ => ⟨S3x128, .f32⟩
  | .hbm, ⟨9, _⟩ => ⟨S_, .f32⟩
  | .hbm, ⟨10, _⟩ => ⟨S3x128, .f32⟩
  | .hbm, ⟨11, _⟩ => ⟨S3x128, .f32⟩
  | .hbm, ⟨12, _⟩ => ⟨S3x128, .f32⟩
  | .hbm, ⟨13, _⟩ => ⟨S_, .f32⟩
  | .hbm, ⟨14, _⟩ => ⟨S3x128, .f32⟩
  | .hbm, ⟨15, _⟩ => ⟨S3x128, .f32⟩
  | .hbm, ⟨16, _⟩ => ⟨S3x128, .f32⟩
  | .hbm, ⟨17, _⟩ => ⟨S_, .f32⟩
  | .hbm, ⟨18, _⟩ => ⟨S3x128, .f32⟩
  | .hbm, ⟨19, _⟩ => ⟨S3x128, .f32⟩
  | .hbm, ⟨20, _⟩ => ⟨S3x128, .f32⟩
  | .hbm, ⟨21, _⟩ => ⟨S_, .f32⟩
  | .hbm, ⟨22, _⟩ => ⟨S3x128, .f32⟩
  | .hbm, ⟨23, _⟩ => ⟨S3x128, .f32⟩
  | .hbm, ⟨24, _⟩ => ⟨S_, .f32⟩
  | .hbm, ⟨25, _⟩ => ⟨S3x128, .f32⟩
  | .hbm, ⟨26, _⟩ => ⟨S3x128, .f32⟩
  | .hbm, ⟨27, _⟩ => ⟨S3x128, .f32⟩
  | .hbm, ⟨28, _⟩ => ⟨S_, .f32⟩
  | .hbm, ⟨29, _⟩ => ⟨S3x128, .f32⟩
  | .hbm, ⟨30, _⟩ => ⟨S3x128, .f32⟩
  | .hbm, ⟨31, _⟩ => ⟨S3x128, .f32⟩
  | .hbm, ⟨32, _⟩ => ⟨S_, .f32⟩
  | .hbm, ⟨33, _⟩ => ⟨S3x128, .f32⟩
  | .hbm, ⟨34, _⟩ => ⟨S3x128, .f32⟩
  | .hbm, ⟨35, _⟩ => ⟨S3x128, .f32⟩
  | .hbm, ⟨36, _⟩ => ⟨S_, .f32⟩
  | .hbm, ⟨37, _⟩ => ⟨S3x128, .f32⟩
  | .hbm, ⟨38, _⟩ => ⟨S3x128, .f32⟩
  | _, _ => ⟨S1x3x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== KernelAdamCs.lean ====
abbrev S1x4x384 : Shape := ⟨3, ![1, 4, 384]⟩
abbrev S4x384 : Shape := ⟨2, ![4, 384]⟩

abbrev nBuf : Space → Nat
  | .hbm => 8
  | .vmem => 8
  | .smem => 0
  | _ => 0

abbrev bufTy : (tb : Table) → Fin (tcTables nBuf tb) → BufTy
  | .hbm, ⟨0, _⟩ => ⟨S1x4x384, .f32⟩
  | .hbm, ⟨1, _⟩ => ⟨S4x384, .f32⟩
  | .hbm, ⟨2, _⟩ => ⟨S4x384, .f32⟩
  | .hbm, ⟨3, _⟩ => ⟨S4x384, .f32⟩
  | .hbm, ⟨4, _⟩ => ⟨S4x384, .f32⟩
  | .hbm, ⟨5, _⟩ => ⟨S4x384, .f32⟩
  | .hbm, ⟨6, _⟩ => ⟨S4x384, .f32⟩
  | .hbm, ⟨7, _⟩ => ⟨S4x384, .f32⟩
  | .local _ .vmem, ⟨0, _⟩ => ⟨S1x4x384, .f32⟩
  | .local _ .vmem, ⟨1, _⟩ => ⟨S4x384, .f32⟩
  | .local _ .vmem, ⟨2, _⟩ => ⟨S4x384, .f32⟩
  | .local _ .vmem, ⟨3, _⟩ => ⟨S4x384, .f32⟩
  | .local _ .vmem, ⟨4, _⟩ => ⟨S4x384, .f32⟩
  | .local _ .vmem, ⟨5, _⟩ => ⟨S4x384, .f32⟩
  | .local _ .vmem, ⟨6, _⟩ => ⟨S4x384, .f32⟩
  | .local _ .vmem, ⟨7, _⟩ => ⟨S4x384, .f32⟩
  | _, _ => ⟨S1x4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x4x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S4x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S4x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== KernelAdamCsIdeal.lean ====
abbrev S1x4x384 : Shape := ⟨3, ![1, 4, 384]⟩
abbrev S4x384 : Shape := ⟨2, ![4, 384]⟩

abbrev nBuf : Space → Nat
  | .hbm => 8
  | .vmem => 8
  | .smem => 0
  | _ => 0

abbrev bufTy : (tb : Table) → Fin (tcTables nBuf tb) → BufTy
  | .hbm, ⟨0, _⟩ => ⟨S1x4x384, .f32⟩
  | .hbm, ⟨1, _⟩ => ⟨S4x384, .f32⟩
  | .hbm, ⟨2, _⟩ => ⟨S4x384, .f32⟩
  | .hbm, ⟨3, _⟩ => ⟨S4x384, .f32⟩
  | .hbm, ⟨4, _⟩ => ⟨S4x384, .f32⟩
  | .hbm, ⟨5, _⟩ => ⟨S4x384, .f32⟩
  | .hbm, ⟨6, _⟩ => ⟨S4x384, .f32⟩
  | .hbm, ⟨7, _⟩ => ⟨S4x384, .f32⟩
  | .local _ .vmem, ⟨0, _⟩ => ⟨S1x4x384, .f32⟩
  | .local _ .vmem, ⟨1, _⟩ => ⟨S4x384, .f32⟩
  | .local _ .vmem, ⟨2, _⟩ => ⟨S4x384, .f32⟩
  | .local _ .vmem, ⟨3, _⟩ => ⟨S4x384, .f32⟩
  | .local _ .vmem, ⟨4, _⟩ => ⟨S4x384, .f32⟩
  | .local _ .vmem, ⟨5, _⟩ => ⟨S4x384, .f32⟩
  | .local _ .vmem, ⟨6, _⟩ => ⟨S4x384, .f32⟩
  | .local _ .vmem, ⟨7, _⟩ => ⟨S4x384, .f32⟩
  | _, _ => ⟨S1x4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x4x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S4x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S4x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== ReferenceAdamCsIdeal.lean ====
abbrev S1x4x384 : Shape := ⟨3, ![1, 4, 384]⟩
abbrev S4x384 : Shape := ⟨2, ![4, 384]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x4x384, .f32⟩
  | .hbm, ⟨1, _⟩ => ⟨S4x384, .f32⟩
  | .hbm, ⟨2, _⟩ => ⟨S4x384, .f32⟩
  | .hbm, ⟨3, _⟩ => ⟨S4x384, .f32⟩
  | .hbm, ⟨4, _⟩ => ⟨S_, .f32⟩
  | .hbm, ⟨5, _⟩ => ⟨S4x384, .f32⟩
  | .hbm, ⟨6, _⟩ => ⟨S_, .f32⟩
  | .hbm, ⟨7, _⟩ => ⟨S4x384, .f32⟩
  | .hbm, ⟨8, _⟩ => ⟨S4x384, .f32⟩
  | .hbm, ⟨9, _⟩ => ⟨S_, .f32⟩
  | .hbm, ⟨10, _⟩ => ⟨S4x384, .f32⟩
  | .hbm, ⟨11, _⟩ => ⟨S4x384, .f32⟩
  | .hbm, ⟨12, _⟩ => ⟨S4x384, .f32⟩
  | .hbm, ⟨13, _⟩ => ⟨S_, .f32⟩
  | .hbm, ⟨14, _⟩ => ⟨S4x384, .f32⟩
  | .hbm, ⟨15, _⟩ => ⟨S4x384, .f32⟩
  | .hbm, ⟨16, _⟩ => ⟨S4x384, .f32⟩
  | .hbm, ⟨17, _⟩ => ⟨S_, .f32⟩
  | .hbm, ⟨18, _⟩ => ⟨S4x384, .f32⟩
  | .hbm, ⟨19, _⟩ => ⟨S4x384, .f32⟩
  | .hbm, ⟨20, _⟩ => ⟨S4x384, .f32⟩
  | .hbm, ⟨21, _⟩ => ⟨S_, .f32⟩
  | .hbm, ⟨22, _⟩ => ⟨S4x384, .f32⟩
  | .hbm, ⟨23, _⟩ => ⟨S4x384, .f32⟩
  | .hbm, ⟨24, _⟩ => ⟨S_, .f32⟩
  | .hbm, ⟨25, _⟩ => ⟨S4x384, .f32⟩
  | .hbm, ⟨26, _⟩ => ⟨S4x384, .f32⟩
  | .hbm, ⟨27, _⟩ => ⟨S4x384, .f32⟩
  | .hbm, ⟨28, _⟩ => ⟨S_, .f32⟩
  | .hbm, ⟨29, _⟩ => ⟨S4x384, .f32⟩
  | .hbm, ⟨30, _⟩ => ⟨S4x384, .f32⟩
  | .hbm, ⟨31, _⟩ => ⟨S4x384, .f32⟩
  | .hbm, ⟨32, _⟩ => ⟨S_, .f32⟩
  | .hbm, ⟨33, _⟩ => ⟨S4x384, .f32⟩
  | .hbm, ⟨34, _⟩ => ⟨S4x384, .f32⟩
  | .hbm, ⟨35, _⟩ => ⟨S4x384, .f32⟩
  | .hbm, ⟨36, _⟩ => ⟨S_, .f32⟩
  | .hbm, ⟨37, _⟩ => ⟨S4x384, .f32⟩
  | .hbm, ⟨38, _⟩ => ⟨S4x384, .f32⟩
  | _, _ => ⟨S1x4x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== KernelAdamCf.lean ====
abbrev S1x3x352 : Shape := ⟨3, ![1, 3, 352]⟩
abbrev S3x352 : Shape := ⟨2, ![3, 352]⟩

abbrev nBuf : Space → Nat
  | .hbm => 8
  | .vmem => 8
  | .smem => 0
  | _ => 0

abbrev bufTy : (tb : Table) → Fin (tcTables nBuf tb) → BufTy
  | .hbm, ⟨0, _⟩ => ⟨S1x3x352, .f32⟩
  | .hbm, ⟨1, _⟩ => ⟨S3x352, .f32⟩
  | .hbm, ⟨2, _⟩ => ⟨S3x352, .f32⟩
  | .hbm, ⟨3, _⟩ => ⟨S3x352, .f32⟩
  | .hbm, ⟨4, _⟩ => ⟨S3x352, .f32⟩
  | .hbm, ⟨5, _⟩ => ⟨S3x352, .f32⟩
  | .hbm, ⟨6, _⟩ => ⟨S3x352, .f32⟩
  | .hbm, ⟨7, _⟩ => ⟨S3x352, .f32⟩
  | .local _ .vmem, ⟨0, _⟩ => ⟨S1x3x352, .f32⟩
  | .local _ .vmem, ⟨1, _⟩ => ⟨S3x352, .f32⟩
  | .local _ .vmem, ⟨2, _⟩ => ⟨S3x352, .f32⟩
  | .local _ .vmem, ⟨3, _⟩ => ⟨S3x352, .f32⟩
  | .local _ .vmem, ⟨4, _⟩ => ⟨S3x352, .f32⟩
  | .local _ .vmem, ⟨5, _⟩ => ⟨S3x352, .f32⟩
  | .local _ .vmem, ⟨6, _⟩ => ⟨S3x352, .f32⟩
  | .local _ .vmem, ⟨7, _⟩ => ⟨S3x352, .f32⟩
  | _, _ => ⟨S1x3x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x3x352 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S3x352 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S3x352 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S3x352 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S3x352 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S3x352 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S3x352 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S3x352 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== KernelAdamCfIdeal.lean ====
abbrev S1x3x352 : Shape := ⟨3, ![1, 3, 352]⟩
abbrev S3x352 : Shape := ⟨2, ![3, 352]⟩

abbrev nBuf : Space → Nat
  | .hbm => 8
  | .vmem => 8
  | .smem => 0
  | _ => 0

abbrev bufTy : (tb : Table) → Fin (tcTables nBuf tb) → BufTy
  | .hbm, ⟨0, _⟩ => ⟨S1x3x352, .f32⟩
  | .hbm, ⟨1, _⟩ => ⟨S3x352, .f32⟩
  | .hbm, ⟨2, _⟩ => ⟨S3x352, .f32⟩
  | .hbm, ⟨3, _⟩ => ⟨S3x352, .f32⟩
  | .hbm, ⟨4, _⟩ => ⟨S3x352, .f32⟩
  | .hbm, ⟨5, _⟩ => ⟨S3x352, .f32⟩
  | .hbm, ⟨6, _⟩ => ⟨S3x352, .f32⟩
  | .hbm, ⟨7, _⟩ => ⟨S3x352, .f32⟩
  | .local _ .vmem, ⟨0, _⟩ => ⟨S1x3x352, .f32⟩
  | .local _ .vmem, ⟨1, _⟩ => ⟨S3x352, .f32⟩
  | .local _ .vmem, ⟨2, _⟩ => ⟨S3x352, .f32⟩
  | .local _ .vmem, ⟨3, _⟩ => ⟨S3x352, .f32⟩
  | .local _ .vmem, ⟨4, _⟩ => ⟨S3x352, .f32⟩
  | .local _ .vmem, ⟨5, _⟩ => ⟨S3x352, .f32⟩
  | .local _ .vmem, ⟨6, _⟩ => ⟨S3x352, .f32⟩
  | .local _ .vmem, ⟨7, _⟩ => ⟨S3x352, .f32⟩
  | _, _ => ⟨S1x3x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x3x352 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S3x352 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S3x352 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S3x352 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S3x352 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S3x352 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S3x352 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S3x352 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== ReferenceAdamCfIdeal.lean ====
abbrev S1x3x352 : Shape := ⟨3, ![1, 3, 352]⟩
abbrev S3x352 : Shape := ⟨2, ![3, 352]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x3x352, .f32⟩
  | .hbm, ⟨1, _⟩ => ⟨S3x352, .f32⟩
  | .hbm, ⟨2, _⟩ => ⟨S3x352, .f32⟩
  | .hbm, ⟨3, _⟩ => ⟨S3x352, .f32⟩
  | .hbm, ⟨4, _⟩ => ⟨S_, .f32⟩
  | .hbm, ⟨5, _⟩ => ⟨S3x352, .f32⟩
  | .hbm, ⟨6, _⟩ => ⟨S_, .f32⟩
  | .hbm, ⟨7, _⟩ => ⟨S3x352, .f32⟩
  | .hbm, ⟨8, _⟩ => ⟨S3x352, .f32⟩
  | .hbm, ⟨9, _⟩ => ⟨S_, .f32⟩
  | .hbm, ⟨10, _⟩ => ⟨S3x352, .f32⟩
  | .hbm, ⟨11, _⟩ => ⟨S3x352, .f32⟩
  | .hbm, ⟨12, _⟩ => ⟨S3x352, .f32⟩
  | .hbm, ⟨13, _⟩ => ⟨S_, .f32⟩
  | .hbm, ⟨14, _⟩ => ⟨S3x352, .f32⟩
  | .hbm, ⟨15, _⟩ => ⟨S3x352, .f32⟩
  | .hbm, ⟨16, _⟩ => ⟨S3x352, .f32⟩
  | .hbm, ⟨17, _⟩ => ⟨S_, .f32⟩
  | .hbm, ⟨18, _⟩ => ⟨S3x352, .f32⟩
  | .hbm, ⟨19, _⟩ => ⟨S3x352, .f32⟩
  | .hbm, ⟨20, _⟩ => ⟨S3x352, .f32⟩
  | .hbm, ⟨21, _⟩ => ⟨S_, .f32⟩
  | .hbm, ⟨22, _⟩ => ⟨S3x352, .f32⟩
  | .hbm, ⟨23, _⟩ => ⟨S3x352, .f32⟩
  | .hbm, ⟨24, _⟩ => ⟨S_, .f32⟩
  | .hbm, ⟨25, _⟩ => ⟨S3x352, .f32⟩
  | .hbm, ⟨26, _⟩ => ⟨S3x352, .f32⟩
  | .hbm, ⟨27, _⟩ => ⟨S3x352, .f32⟩
  | .hbm, ⟨28, _⟩ => ⟨S_, .f32⟩
  | .hbm, ⟨29, _⟩ => ⟨S3x352, .f32⟩
  | .hbm, ⟨30, _⟩ => ⟨S3x352, .f32⟩
  | .hbm, ⟨31, _⟩ => ⟨S3x352, .f32⟩
  | .hbm, ⟨32, _⟩ => ⟨S_, .f32⟩
  | .hbm, ⟨33, _⟩ => ⟨S3x352, .f32⟩
  | .hbm, ⟨34, _⟩ => ⟨S3x352, .f32⟩
  | .hbm, ⟨35, _⟩ => ⟨S3x352, .f32⟩
  | .hbm, ⟨36, _⟩ => ⟨S_, .f32⟩
  | .hbm, ⟨37, _⟩ => ⟨S3x352, .f32⟩
  | .hbm, ⟨38, _⟩ => ⟨S3x352, .f32⟩
  | _, _ => ⟨S1x3x352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== KernelAdamN.lean ====
abbrev S1x1x1024 : Shape := ⟨3, ![1, 1, 1024]⟩
abbrev S1x1024 : Shape := ⟨2, ![1, 1024]⟩
abbrev S1x1x512 : Shape := ⟨3, ![1, 1, 512]⟩
abbrev S1x512 : Shape := ⟨2, ![1, 512]⟩

abbrev nBuf : Space → Nat
  | .hbm => 8
  | .vmem => 8
  | .smem => 0
  | _ => 0

abbrev bufTy : (tb : Table) → Fin (tcTables nBuf tb) → BufTy
  | .hbm, ⟨0, _⟩ => ⟨S1x1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .local _ .vmem, ⟨0, _⟩ => ⟨S1x1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | _, _ => ⟨S1x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== KernelAdamNIdeal.lean ====
abbrev S1x1x1024 : Shape := ⟨3, ![1, 1, 1024]⟩
abbrev S1x1024 : Shape := ⟨2, ![1, 1024]⟩
abbrev S1x1x512 : Shape := ⟨3, ![1, 1, 512]⟩
abbrev S1x512 : Shape := ⟨2, ![1, 512]⟩

abbrev nBuf : Space → Nat
  | .hbm => 8
  | .vmem => 8
  | .smem => 0
  | _ => 0

abbrev bufTy : (tb : Table) → Fin (tcTables nBuf tb) → BufTy
  | .hbm, ⟨0, _⟩ => ⟨S1x1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .local _ .vmem, ⟨0, _⟩ => ⟨S1x1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | _, _ => ⟨S1x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== ReferenceAdamNIdeal.lean ====
abbrev S1x1x1024 : Shape := ⟨3, ![1, 1, 1024]⟩
abbrev S1x1024 : Shape := ⟨2, ![1, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S_, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S_, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S_, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S_, .f32⟩
  | .hbm, ⟨37, _⟩ => ⟨S1x1024, .f32⟩
  | .hbm, ⟨38, _⟩ => ⟨S1x1024, .f32⟩
  | _, _ => ⟨S1x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== KernelAdamSn.lean ====
abbrev S1x1x2048 : Shape := ⟨3, ![1, 1, 2048]⟩
abbrev S1x2048 : Shape := ⟨2, ![1, 2048]⟩
abbrev S1x1x512 : Shape := ⟨3, ![1, 1, 512]⟩
abbrev S1x512 : Shape := ⟨2, ![1, 512]⟩

abbrev nBuf : Space → Nat
  | .hbm => 8
  | .vmem => 8
  | .smem => 0
  | _ => 0

abbrev bufTy : (tb : Table) → Fin (tcTables nBuf tb) → BufTy
  | .hbm, ⟨0, _⟩ => ⟨S1x1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .local _ .vmem, ⟨0, _⟩ => ⟨S1x1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | _, _ => ⟨S1x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== KernelAdamSnIdeal.lean ====
abbrev S1x1x2048 : Shape := ⟨3, ![1, 1, 2048]⟩
abbrev S1x2048 : Shape := ⟨2, ![1, 2048]⟩
abbrev S1x1x512 : Shape := ⟨3, ![1, 1, 512]⟩
abbrev S1x512 : Shape := ⟨2, ![1, 512]⟩

abbrev nBuf : Space → Nat
  | .hbm => 8
  | .vmem => 8
  | .smem => 0
  | _ => 0

abbrev bufTy : (tb : Table) → Fin (tcTables nBuf tb) → BufTy
  | .hbm, ⟨0, _⟩ => ⟨S1x1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .local _ .vmem, ⟨0, _⟩ => ⟨S1x1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | _, _ => ⟨S1x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== ReferenceAdamSnIdeal.lean ====
abbrev S1x1x2048 : Shape := ⟨3, ![1, 1, 2048]⟩
abbrev S1x2048 : Shape := ⟨2, ![1, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S_, .f32⟩
  | .hbm, ⟨7, _⟩ => ⟨S1x2048, .f32⟩
  | .hbm, ⟨8, _⟩ => ⟨S1x2048, .f32⟩
  | .hbm, ⟨9, _⟩ => ⟨S_, .f32⟩
  | .hbm, ⟨10, _⟩ => ⟨S1x2048, .f32⟩
  | .hbm, ⟨11, _⟩ => ⟨S1x2048, .f32⟩
  | .hbm, ⟨12, _⟩ => ⟨S1x2048, .f32⟩
  | .hbm, ⟨13, _⟩ => ⟨S_, .f32⟩
  | .hbm, ⟨14, _⟩ => ⟨S1x2048, .f32⟩
  | .hbm, ⟨15, _⟩ => ⟨S1x2048, .f32⟩
  | .hbm, ⟨16, _⟩ => ⟨S1x2048, .f32⟩
  | .hbm, ⟨17, _⟩ => ⟨S_, .f32⟩
  | .hbm, ⟨18, _⟩ => ⟨S1x2048, .f32⟩
  | .hbm, ⟨19, _⟩ => ⟨S1x2048, .f32⟩
  | .hbm, ⟨20, _⟩ => ⟨S1x2048, .f32⟩
  | .hbm, ⟨21, _⟩ => ⟨S_, .f32⟩
  | .hbm, ⟨22, _⟩ => ⟨S1x2048, .f32⟩
  | .hbm, ⟨23, _⟩ => ⟨S1x2048, .f32⟩
  | .hbm, ⟨24, _⟩ => ⟨S_, .f32⟩
  | .hbm, ⟨25, _⟩ => ⟨S1x2048, .f32⟩
  | .hbm, ⟨26, _⟩ => ⟨S1x2048, .f32⟩
  | .hbm, ⟨27, _⟩ => ⟨S1x2048, .f32⟩
  | .hbm, ⟨28, _⟩ => ⟨S_, .f32⟩
  | .hbm, ⟨29, _⟩ => ⟨S1x2048, .f32⟩
  | .hbm, ⟨30, _⟩ => ⟨S1x2048, .f32⟩
  | .hbm, ⟨31, _⟩ => ⟨S1x2048, .f32⟩
  | .hbm, ⟨32, _⟩ => ⟨S_, .f32⟩
  | .hbm, ⟨33, _⟩ => ⟨S1x2048, .f32⟩
  | .hbm, ⟨34, _⟩ => ⟨S1x2048, .f32⟩
  | .hbm, ⟨35, _⟩ => ⟨S1x2048, .f32⟩
  | .hbm, ⟨36, _⟩ => ⟨S_, .f32⟩
  | .hbm, ⟨37, _⟩ => ⟨S1x2048, .f32⟩
  | .hbm, ⟨38, _⟩ => ⟨S1x2048, .f32⟩
  | _, _ => ⟨S1x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== KernelAdamSb.lean ====
abbrev S1x1x3072 : Shape := ⟨3, ![1, 1, 3072]⟩
abbrev S1x3072 : Shape := ⟨2, ![1, 3072]⟩
abbrev S1x1x512 : Shape := ⟨3, ![1, 1, 512]⟩
abbrev S1x512 : Shape := ⟨2, ![1, 512]⟩

abbrev nBuf : Space → Nat
  | .hbm => 8
  | .vmem => 8
  | .smem => 0
  | _ => 0

abbrev bufTy : (tb : Table) → Fin (tcTables nBuf tb) → BufTy
  | .hbm, ⟨0, _⟩ => ⟨S1x1x3072, .f32⟩
  | .hbm, ⟨1, _⟩ => ⟨S1x3072, .f32⟩
  | .hbm, ⟨2, _⟩ => ⟨S1x3072, .f32⟩
  | .hbm, ⟨3, _⟩ => ⟨S1x3072, .f32⟩
  | .hbm, ⟨4, _⟩ => ⟨S1x3072, .f32⟩
  | .hbm, ⟨5, _⟩ => ⟨S1x3072, .f32⟩
  | .hbm, ⟨6, _⟩ => ⟨S1x3072, .f32⟩
  | .hbm, ⟨7, _⟩ => ⟨S1x3072, .f32⟩
  | .local _ .vmem, ⟨0, _⟩ => ⟨S1x1x3072, .f32⟩
  | .local _ .vmem, ⟨1, _⟩ => ⟨S1x3072, .f32⟩
  | .local _ .vmem, ⟨2, _⟩ => ⟨S1x3072, .f32⟩
  | .local _ .vmem, ⟨3, _⟩ => ⟨S1x3072, .f32⟩
  | .local _ .vmem, ⟨4, _⟩ => ⟨S1x3072, .f32⟩
  | .local _ .vmem, ⟨5, _⟩ => ⟨S1x3072, .f32⟩
  | .local _ .vmem, ⟨6, _⟩ => ⟨S1x3072, .f32⟩
  | .local _ .vmem, ⟨7, _⟩ => ⟨S1x3072, .f32⟩
  | _, _ => ⟨S1x1x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x1x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== KernelAdamSbIdeal.lean ====
abbrev S1x1x3072 : Shape := ⟨3, ![1, 1, 3072]⟩
abbrev S1x3072 : Shape := ⟨2, ![1, 3072]⟩
abbrev S1x1x512 : Shape := ⟨3, ![1, 1, 512]⟩
abbrev S1x512 : Shape := ⟨2, ![1, 512]⟩

abbrev nBuf : Space → Nat
  | .hbm => 8
  | .vmem => 8
  | .smem => 0
  | _ => 0

abbrev bufTy : (tb : Table) → Fin (tcTables nBuf tb) → BufTy
  | .hbm, ⟨0, _⟩ => ⟨S1x1x3072, .f32⟩
  | .hbm, ⟨1, _⟩ => ⟨S1x3072, .f32⟩
  | .hbm, ⟨2, _⟩ => ⟨S1x3072, .f32⟩
  | .hbm, ⟨3, _⟩ => ⟨S1x3072, .f32⟩
  | .hbm, ⟨4, _⟩ => ⟨S1x3072, .f32⟩
  | .hbm, ⟨5, _⟩ => ⟨S1x3072, .f32⟩
  | .hbm, ⟨6, _⟩ => ⟨S1x3072, .f32⟩
  | .hbm, ⟨7, _⟩ => ⟨S1x3072, .f32⟩
  | .local _ .vmem, ⟨0, _⟩ => ⟨S1x1x3072, .f32⟩
  | .local _ .vmem, ⟨1, _⟩ => ⟨S1x3072, .f32⟩
  | .local _ .vmem, ⟨2, _⟩ => ⟨S1x3072, .f32⟩
  | .local _ .vmem, ⟨3, _⟩ => ⟨S1x3072, .f32⟩
  | .local _ .vmem, ⟨4, _⟩ => ⟨S1x3072, .f32⟩
  | .local _ .vmem, ⟨5, _⟩ => ⟨S1x3072, .f32⟩
  | .local _ .vmem, ⟨6, _⟩ => ⟨S1x3072, .f32⟩
  | .local _ .vmem, ⟨7, _⟩ => ⟨S1x3072, .f32⟩
  | _, _ => ⟨S1x1x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x1x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== ReferenceAdamSbIdeal.lean ====
abbrev S1x1x3072 : Shape := ⟨3, ![1, 1, 3072]⟩
abbrev S1x3072 : Shape := ⟨2, ![1, 3072]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x1x3072, .f32⟩
  | .hbm, ⟨1, _⟩ => ⟨S1x3072, .f32⟩
  | .hbm, ⟨2, _⟩ => ⟨S1x3072, .f32⟩
  | .hbm, ⟨3, _⟩ => ⟨S1x3072, .f32⟩
  | .hbm, ⟨4, _⟩ => ⟨S_, .f32⟩
  | .hbm, ⟨5, _⟩ => ⟨S1x3072, .f32⟩
  | .hbm, ⟨6, _⟩ => ⟨S_, .f32⟩
  | .hbm, ⟨7, _⟩ => ⟨S1x3072, .f32⟩
  | .hbm, ⟨8, _⟩ => ⟨S1x3072, .f32⟩
  | .hbm, ⟨9, _⟩ => ⟨S_, .f32⟩
  | .hbm, ⟨10, _⟩ => ⟨S1x3072, .f32⟩
  | .hbm, ⟨11, _⟩ => ⟨S1x3072, .f32⟩
  | .hbm, ⟨12, _⟩ => ⟨S1x3072, .f32⟩
  | .hbm, ⟨13, _⟩ => ⟨S_, .f32⟩
  | .hbm, ⟨14, _⟩ => ⟨S1x3072, .f32⟩
  | .hbm, ⟨15, _⟩ => ⟨S1x3072, .f32⟩
  | .hbm, ⟨16, _⟩ => ⟨S1x3072, .f32⟩
  | .hbm, ⟨17, _⟩ => ⟨S_, .f32⟩
  | .hbm, ⟨18, _⟩ => ⟨S1x3072, .f32⟩
  | .hbm, ⟨19, _⟩ => ⟨S1x3072, .f32⟩
  | .hbm, ⟨20, _⟩ => ⟨S1x3072, .f32⟩
  | .hbm, ⟨21, _⟩ => ⟨S_, .f32⟩
  | .hbm, ⟨22, _⟩ => ⟨S1x3072, .f32⟩
  | .hbm, ⟨23, _⟩ => ⟨S1x3072, .f32⟩
  | .hbm, ⟨24, _⟩ => ⟨S_, .f32⟩
  | .hbm, ⟨25, _⟩ => ⟨S1x3072, .f32⟩
  | .hbm, ⟨26, _⟩ => ⟨S1x3072, .f32⟩
  | .hbm, ⟨27, _⟩ => ⟨S1x3072, .f32⟩
  | .hbm, ⟨28, _⟩ => ⟨S_, .f32⟩
  | .hbm, ⟨29, _⟩ => ⟨S1x3072, .f32⟩
  | .hbm, ⟨30, _⟩ => ⟨S1x3072, .f32⟩
  | .hbm, ⟨31, _⟩ => ⟨S1x3072, .f32⟩
  | .hbm, ⟨32, _⟩ => ⟨S_, .f32⟩
  | .hbm, ⟨33, _⟩ => ⟨S1x3072, .f32⟩
  | .hbm, ⟨34, _⟩ => ⟨S1x3072, .f32⟩
  | .hbm, ⟨35, _⟩ => ⟨S1x3072, .f32⟩
  | .hbm, ⟨36, _⟩ => ⟨S_, .f32⟩
  | .hbm, ⟨37, _⟩ => ⟨S1x3072, .f32⟩
  | .hbm, ⟨38, _⟩ => ⟨S1x3072, .f32⟩
  | _, _ => ⟨S1x1x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== KernelAdamIn.lean ====
abbrev S8x1284x1024 : Shape := ⟨3, ![8, 1284, 1024]⟩
abbrev S1284x1024 : Shape := ⟨2, ![1284, 1024]⟩
abbrev S8x1284x128 : Shape := ⟨3, ![8, 1284, 128]⟩
abbrev S1284x128 : Shape := ⟨2, ![1284, 128]⟩
abbrev S1x1284x128 : Shape := ⟨3, ![1, 1284, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x1284x1024, .bf16⟩
  | .hbm, ⟨1, _⟩ => ⟨S1284x1024, .f32⟩
  | .hbm, ⟨2, _⟩ => ⟨S1284x1024, .f32⟩
  | .hbm, ⟨3, _⟩ => ⟨S1284x1024, .f32⟩
  | .hbm, ⟨4, _⟩ => ⟨S1284x1024, .f32⟩
  | .hbm, ⟨5, _⟩ => ⟨S1284x1024, .f32⟩
  | .hbm, ⟨6, _⟩ => ⟨S1284x1024, .f32⟩
  | .hbm, ⟨7, _⟩ => ⟨S1284x1024, .f32⟩
  | .local _ .vmem, ⟨0, _⟩ => ⟨S8x1284x128, .bf16⟩
  | .local _ .vmem, ⟨1, _⟩ => ⟨S8x1284x128, .bf16⟩
  | .local _ .vmem, ⟨2, _⟩ => ⟨S1284x128, .f32⟩
  | .local _ .vmem, ⟨3, _⟩ => ⟨S1284x128, .f32⟩
  | .local _ .vmem, ⟨4, _⟩ => ⟨S1284x128, .f32⟩
  | .local _ .vmem, ⟨5, _⟩ => ⟨S1284x128, .f32⟩
  | .local _ .vmem, ⟨6, _⟩ => ⟨S1284x128, .f32⟩
  | .local _ .vmem, ⟨7, _⟩ => ⟨S1284x128, .f32⟩
  | .local _ .vmem, ⟨8, _⟩ => ⟨S1284x128, .f32⟩
  | .local _ .vmem, ⟨9, _⟩ => ⟨S1284x128, .f32⟩
  | .local _ .vmem, ⟨10, _⟩ => ⟨S1284x128, .f32⟩
  | .local _ .vmem, ⟨11, _⟩ => ⟨S1284x128, .f32⟩
  | .local _ .vmem, ⟨12, _⟩ => ⟨S1284x128, .f32⟩
  | .local _ .vmem, ⟨13, _⟩ => ⟨S1284x128, .f32⟩
  | .local _ .vmem, ⟨14, _⟩ => ⟨S1284x128, .f32⟩
  | .local _ .vmem, ⟨15, _⟩ => ⟨S1284x128, .f32⟩
  | _, _ => ⟨S8x1284x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x1284x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1284x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1284x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1284x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1284x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1284x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1284x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1284x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelAdamInIdeal.lean ====
abbrev S8x1284x1024 : Shape := ⟨3, ![8, 1284, 1024]⟩
abbrev S1284x1024 : Shape := ⟨2, ![1284, 1024]⟩
abbrev S8x1284x128 : Shape := ⟨3, ![8, 1284, 128]⟩
abbrev S1284x128 : Shape := ⟨2, ![1284, 128]⟩
abbrev S1x1284x128 : Shape := ⟨3, ![1, 1284, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x1284x1024, .bf16⟩
  | .hbm, ⟨1, _⟩ => ⟨S1284x1024, .f32⟩
  | .hbm, ⟨2, _⟩ => ⟨S1284x1024, .f32⟩
  | .hbm, ⟨3, _⟩ => ⟨S1284x1024, .f32⟩
  | .hbm, ⟨4, _⟩ => ⟨S1284x1024, .f32⟩
  | .hbm, ⟨5, _⟩ => ⟨S1284x1024, .f32⟩
  | .hbm, ⟨6, _⟩ => ⟨S1284x1024, .f32⟩
  | .hbm, ⟨7, _⟩ => ⟨S1284x1024, .f32⟩
  | .local _ .vmem, ⟨0, _⟩ => ⟨S8x1284x128, .bf16⟩
  | .local _ .vmem, ⟨1, _⟩ => ⟨S8x1284x128, .bf16⟩
  | .local _ .vmem, ⟨2, _⟩ => ⟨S1284x128, .f32⟩
  | .local _ .vmem, ⟨3, _⟩ => ⟨S1284x128, .f32⟩
  | .local _ .vmem, ⟨4, _⟩ => ⟨S1284x128, .f32⟩
  | .local _ .vmem, ⟨5, _⟩ => ⟨S1284x128, .f32⟩
  | .local _ .vmem, ⟨6, _⟩ => ⟨S1284x128, .f32⟩
  | .local _ .vmem, ⟨7, _⟩ => ⟨S1284x128, .f32⟩
  | .local _ .vmem, ⟨8, _⟩ => ⟨S1284x128, .f32⟩
  | .local _ .vmem, ⟨9, _⟩ => ⟨S1284x128, .f32⟩
  | .local _ .vmem, ⟨10, _⟩ => ⟨S1284x128, .f32⟩
  | .local _ .vmem, ⟨11, _⟩ => ⟨S1284x128, .f32⟩
  | .local _ .vmem, ⟨12, _⟩ => ⟨S1284x128, .f32⟩
  | .local _ .vmem, ⟨13, _⟩ => ⟨S1284x128, .f32⟩
  | .local _ .vmem, ⟨14, _⟩ => ⟨S1284x128, .f32⟩
  | .local _ .vmem, ⟨15, _⟩ => ⟨S1284x128, .f32⟩
  | _, _ => ⟨S8x1284x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x1284x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1284x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1284x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1284x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1284x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1284x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1284x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1284x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceAdamInIdeal.lean ====
abbrev S8x1284x1024 : Shape := ⟨3, ![8, 1284, 1024]⟩
abbrev S1284x1024 : Shape := ⟨2, ![1284, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1284x1024, .bf16⟩
  | .hbm, ⟨1, _⟩ => ⟨S1284x1024, .f32⟩
  | .hbm, ⟨2, _⟩ => ⟨S1284x1024, .f32⟩
  | .hbm, ⟨3, _⟩ => ⟨S1284x1024, .f32⟩
  | .hbm, ⟨4, _⟩ => ⟨S8x1284x1024, .f32⟩
  | .hbm, ⟨5, _⟩ => ⟨S_, .f32⟩
  | .hbm, ⟨6, _⟩ => ⟨S1284x1024, .f32⟩
  | .hbm, ⟨7, _⟩ => ⟨S_, .f32⟩
  | .hbm, ⟨8, _⟩ => ⟨S1284x1024, .f32⟩
  | .hbm, ⟨9, _⟩ => ⟨S1284x1024, .f32⟩
  | .hbm, ⟨10, _⟩ => ⟨S_, .f32⟩
  | .hbm, ⟨11, _⟩ => ⟨S1284x1024, .f32⟩
  | .hbm, ⟨12, _⟩ => ⟨S1284x1024, .f32⟩
  | .hbm, ⟨13, _⟩ => ⟨S1284x1024, .f32⟩
  | .hbm, ⟨14, _⟩ => ⟨S_, .f32⟩
  | .hbm, ⟨15, _⟩ => ⟨S1284x1024, .f32⟩
  | .hbm, ⟨16, _⟩ => ⟨S1284x1024, .f32⟩
  | .hbm, ⟨17, _⟩ => ⟨S1284x1024, .f32⟩
  | .hbm, ⟨18, _⟩ => ⟨S_, .f32⟩
  | .hbm, ⟨19, _⟩ => ⟨S1284x1024, .f32⟩
  | .hbm, ⟨20, _⟩ => ⟨S1284x1024, .f32⟩
  | .hbm, ⟨21, _⟩ => ⟨S1284x1024, .f32⟩
  | .hbm, ⟨22, _⟩ => ⟨S_, .f32⟩
  | .hbm, ⟨23, _⟩ => ⟨S1284x1024, .f32⟩
  | .hbm, ⟨24, _⟩ => ⟨S1284x1024, .f32⟩
  | .hbm, ⟨25, _⟩ => ⟨S_, .f32⟩
  | .hbm, ⟨26, _⟩ => ⟨S1284x1024, .f32⟩
  | .hbm, ⟨27, _⟩ => ⟨S1284x1024, .f32⟩
  | .hbm, ⟨28, _⟩ => ⟨S1284x1024, .f32⟩
  | .hbm, ⟨29, _⟩ => ⟨S_, .f32⟩
  | .hbm, ⟨30, _⟩ => ⟨S1284x1024, .f32⟩
  | .hbm, ⟨31, _⟩ => ⟨S1284x1024, .f32⟩
  | .hbm, ⟨32, _⟩ => ⟨S1284x1024, .f32⟩
  | .hbm, ⟨33, _⟩ => ⟨S_, .f32⟩
  | .hbm, ⟨34, _⟩ => ⟨S1284x1024, .f32⟩
  | .hbm, ⟨35, _⟩ => ⟨S1284x1024, .f32⟩
  | .hbm, ⟨36, _⟩ => ⟨S1284x1024, .f32⟩
  | .hbm, ⟨37, _⟩ => ⟨S_, .f32⟩
  | .hbm, ⟨38, _⟩ => ⟨S1284x1024, .f32⟩
  | .hbm, ⟨39, _⟩ => ⟨S1284x1024, .f32⟩
  | _, _ => ⟨S8x1284x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== KernelAdamA.lean ====
abbrev S8x128x1024 : Shape := ⟨3, ![8, 128, 1024]⟩
abbrev S128x1024 : Shape := ⟨2, ![128, 1024]⟩
abbrev S8x64x1024 : Shape := ⟨3, ![8, 64, 1024]⟩
abbrev S64x1024 : Shape := ⟨2, ![64, 1024]⟩
abbrev S1x16x512 : Shape := ⟨3, ![1, 16, 512]⟩
abbrev S16x512 : Shape := ⟨2, ![16, 512]⟩

abbrev nBuf : Space → Nat
  | .hbm => 8
  | .vmem => 16
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x64x1024, .bf16⟩
  | .local _ .vmem, ⟨1, _⟩ => ⟨S8x64x1024, .bf16⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelAdamAIdeal.lean ====
abbrev S8x128x1024 : Shape := ⟨3, ![8, 128, 1024]⟩
abbrev S128x1024 : Shape := ⟨2, ![128, 1024]⟩
abbrev S8x64x1024 : Shape := ⟨3, ![8, 64, 1024]⟩
abbrev S64x1024 : Shape := ⟨2, ![64, 1024]⟩
abbrev S1x16x512 : Shape := ⟨3, ![1, 16, 512]⟩
abbrev S16x512 : Shape := ⟨2, ![16, 512]⟩

abbrev nBuf : Space → Nat
  | .hbm => 8
  | .vmem => 16
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x64x1024, .bf16⟩
  | .local _ .vmem, ⟨1, _⟩ => ⟨S8x64x1024, .bf16⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceAdamAIdeal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== KernelAdamS.lean ====
abbrev S8x256x1024 : Shape := ⟨3, ![8, 256, 1024]⟩
abbrev S256x1024 : Shape := ⟨2, ![256, 1024]⟩
abbrev S8x64x1024 : Shape := ⟨3, ![8, 64, 1024]⟩
abbrev S64x1024 : Shape := ⟨2, ![64, 1024]⟩
abbrev S1x16x512 : Shape := ⟨3, ![1, 16, 512]⟩
abbrev S16x512 : Shape := ⟨2, ![16, 512]⟩

abbrev nBuf : Space → Nat
  | .hbm => 8
  | .vmem => 16
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S8x64x1024, .bf16⟩
  | .local _ .vmem, ⟨1, _⟩ => ⟨S8x64x1024, .bf16⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelAdamSIdeal.lean ====
abbrev S8x256x1024 : Shape := ⟨3, ![8, 256, 1024]⟩
abbrev S256x1024 : Shape := ⟨2, ![256, 1024]⟩
abbrev S8x64x1024 : Shape := ⟨3, ![8, 64, 1024]⟩
abbrev S64x1024 : Shape := ⟨2, ![64, 1024]⟩
abbrev S1x16x512 : Shape := ⟨3, ![1, 16, 512]⟩
abbrev S16x512 : Shape := ⟨2, ![16, 512]⟩

abbrev nBuf : Space → Nat
  | .hbm => 8
  | .vmem => 16
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S8x64x1024, .bf16⟩
  | .local _ .vmem, ⟨1, _⟩ => ⟨S8x64x1024, .bf16⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceAdamSIdeal.lean ====
abbrev S8x256x1024 : Shape := ⟨3, ![8, 256, 1024]⟩
abbrev S256x1024 : Shape := ⟨2, ![256, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S8x256x1024, .f32⟩
  | .hbm, ⟨5, _⟩ => ⟨S_, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S_, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | _, _ => ⟨S8x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== KernelAdamUp.lean ====
abbrev S8x704x1024 : Shape := ⟨3, ![8, 704, 1024]⟩
abbrev S704x1024 : Shape := ⟨2, ![704, 1024]⟩
abbrev S8x64x1024 : Shape := ⟨3, ![8, 64, 1024]⟩
abbrev S64x1024 : Shape := ⟨2, ![64, 1024]⟩
abbrev S1x16x512 : Shape := ⟨3, ![1, 16, 512]⟩
abbrev S16x512 : Shape := ⟨2, ![16, 512]⟩

abbrev nBuf : Space → Nat
  | .hbm => 8
  | .vmem => 16
  | .smem => 0
  | _ => 0

abbrev bufTy : (tb : Table) → Fin (tcTables nBuf tb) → BufTy
  | .hbm, ⟨0, _⟩ => ⟨S8x704x1024, .bf16⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .local _ .vmem, ⟨0, _⟩ => ⟨S8x64x1024, .bf16⟩
  | .local _ .vmem, ⟨1, _⟩ => ⟨S8x64x1024, .bf16⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![11, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelAdamUpIdeal.lean ====
abbrev S8x704x1024 : Shape := ⟨3, ![8, 704, 1024]⟩
abbrev S704x1024 : Shape := ⟨2, ![704, 1024]⟩
abbrev S8x64x1024 : Shape := ⟨3, ![8, 64, 1024]⟩
abbrev S64x1024 : Shape := ⟨2, ![64, 1024]⟩
abbrev S1x16x512 : Shape := ⟨3, ![1, 16, 512]⟩
abbrev S16x512 : Shape := ⟨2, ![16, 512]⟩

abbrev nBuf : Space → Nat
  | .hbm => 8
  | .vmem => 16
  | .smem => 0
  | _ => 0

abbrev bufTy : (tb : Table) → Fin (tcTables nBuf tb) → BufTy
  | .hbm, ⟨0, _⟩ => ⟨S8x704x1024, .bf16⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .local _ .vmem, ⟨0, _⟩ => ⟨S8x64x1024, .bf16⟩
  | .local _ .vmem, ⟨1, _⟩ => ⟨S8x64x1024, .bf16⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![11, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceAdamUpIdeal.lean ====
abbrev S8x704x1024 : Shape := ⟨3, ![8, 704, 1024]⟩
abbrev S704x1024 : Shape := ⟨2, ![704, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x704x1024, .bf16⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S8x704x1024, .f32⟩
  | .hbm, ⟨5, _⟩ => ⟨S_, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S_, .f32⟩
  | .hbm, ⟨11, _⟩ => ⟨S704x1024, .f32⟩
  | .hbm, ⟨12, _⟩ => ⟨S704x1024, .f32⟩
  | .hbm, ⟨13, _⟩ => ⟨S704x1024, .f32⟩
  | .hbm, ⟨14, _⟩ => ⟨S_, .f32⟩
  | .hbm, ⟨15, _⟩ => ⟨S704x1024, .f32⟩
  | .hbm, ⟨16, _⟩ => ⟨S704x1024, .f32⟩
  | .hbm, ⟨17, _⟩ => ⟨S704x1024, .f32⟩
  | .hbm, ⟨18, _⟩ => ⟨S_, .f32⟩
  | .hbm, ⟨19, _⟩ => ⟨S704x1024, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S_, .f32⟩
  | .hbm, ⟨26, _⟩ => ⟨S704x1024, .f32⟩
  | .hbm, ⟨27, _⟩ => ⟨S704x1024, .f32⟩
  | .hbm, ⟨28, _⟩ => ⟨S704x1024, .f32⟩
  | .hbm, ⟨29, _⟩ => ⟨S_, .f32⟩
  | .hbm, ⟨30, _⟩ => ⟨S704x1024, .f32⟩
  | .hbm, ⟨31, _⟩ => ⟨S704x1024, .f32⟩
  | .hbm, ⟨32, _⟩ => ⟨S704x1024, .f32⟩
  | .hbm, ⟨33, _⟩ => ⟨S_, .f32⟩
  | .hbm, ⟨34, _⟩ => ⟨S704x1024, .f32⟩
  | .hbm, ⟨35, _⟩ => ⟨S704x1024, .f32⟩
  | .hbm, ⟨36, _⟩ => ⟨S704x1024, .f32⟩
  | .hbm, ⟨37, _⟩ => ⟨S_, .f32⟩
  | .hbm, ⟨38, _⟩ => ⟨S704x1024, .f32⟩
  | .hbm, ⟨39, _⟩ => ⟨S704x1024, .f32⟩
  | _, _ => ⟨S8x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== KernelAdamDown.lean ====
abbrev S8x352x1024 : Shape := ⟨3, ![8, 352, 1024]⟩
abbrev S352x1024 : Shape := ⟨2, ![352, 1024]⟩
abbrev S8x32x1024 : Shape := ⟨3, ![8, 32, 1024]⟩
abbrev S32x1024 : Shape := ⟨2, ![32, 1024]⟩
abbrev S1x16x512 : Shape := ⟨3, ![1, 16, 512]⟩
abbrev S16x512 : Shape := ⟨2, ![16, 512]⟩

abbrev nBuf : Space → Nat
  | .hbm => 8
  | .vmem => 16
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S8x32x1024, .bf16⟩
  | .local _ .vmem, ⟨1, _⟩ => ⟨S8x32x1024, .bf16⟩
  | .local _ .vmem, ⟨2, _⟩ => ⟨S32x1024, .f32⟩
  | .local _ .vmem, ⟨3, _⟩ => ⟨S32x1024, .f32⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | .local _ .vmem, ⟨14, _⟩ => ⟨S32x1024, .f32⟩
  | .local _ .vmem, ⟨15, _⟩ => ⟨S32x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![11, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceAdamDownIdeal.lean ====
abbrev S8x352x1024 : Shape := ⟨3, ![8, 352, 1024]⟩
abbrev S352x1024 : Shape := ⟨2, ![352, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S_, .f32⟩
  | .hbm, ⟨11, _⟩ => ⟨S352x1024, .f32⟩
  | .hbm, ⟨12, _⟩ => ⟨S352x1024, .f32⟩
  | .hbm, ⟨13, _⟩ => ⟨S352x1024, .f32⟩
  | .hbm, ⟨14, _⟩ => ⟨S_, .f32⟩
  | .hbm, ⟨15, _⟩ => ⟨S352x1024, .f32⟩
  | .hbm, ⟨16, _⟩ => ⟨S352x1024, .f32⟩
  | .hbm, ⟨17, _⟩ => ⟨S352x1024, .f32⟩
  | .hbm, ⟨18, _⟩ => ⟨S_, .f32⟩
  | .hbm, ⟨19, _⟩ => ⟨S352x1024, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S_, .f32⟩
  | .hbm, ⟨26, _⟩ => ⟨S352x1024, .f32⟩
  | .hbm, ⟨27, _⟩ => ⟨S352x1024, .f32⟩
  | .hbm, ⟨28, _⟩ => ⟨S352x1024, .f32⟩
  | .hbm, ⟨29, _⟩ => ⟨S_, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S_, .f32⟩
  | .hbm, ⟨38, _⟩ => ⟨S352x1024, .f32⟩
  | .hbm, ⟨39, _⟩ => ⟨S352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== KernelSum.lean ====
abbrev S8x40x1024 : Shape := ⟨3, ![8, 40, 1024]⟩
abbrev S40x1024 : Shape := ⟨2, ![40, 1024]⟩
abbrev S1x8x1024 : Shape := ⟨3, ![1, 8, 1024]⟩
abbrev S8x1024 : Shape := ⟨2, ![8, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x40x1024, .f32⟩
  | .hbm, ⟨1, _⟩ => ⟨S40x1024, .f32⟩
  | .local _ .vmem, ⟨0, _⟩ => ⟨S8x40x1024, .f32⟩
  | .local _ .vmem, ⟨1, _⟩ => ⟨S40x1024, .f32⟩
  | _, _ => ⟨S8x40x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x40x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S40x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== ReferenceSumIdeal.lean ====
abbrev S8x40x1024 : Shape := ⟨3, ![8, 40, 1024]⟩
abbrev S_ : Shape := ⟨0, ![]⟩
abbrev S40x1024 : Shape := ⟨2, ![40, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x40x1024, .f32⟩
  | .hbm, ⟨1, _⟩ => ⟨S_, .f32⟩
  | .hbm, ⟨2, _⟩ => ⟨S40x1024, .f32⟩
  | _, _ => ⟨S8x40x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelDt.lean ====
abbrev S8192x1024 : Shape := ⟨2, ![8192, 1024]⟩
abbrev S128x1024 : Shape := ⟨2, ![128, 1024]⟩
abbrev S8192x128 : Shape := ⟨2, ![8192, 128]⟩
abbrev S1024x1024 : Shape := ⟨2, ![1024, 1024]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S128x1024, .bf16⟩
  | .hbm, ⟨2, _⟩ => ⟨S8192x128, .f32⟩
  | .local _ .vmem, ⟨0, _⟩ => ⟨S1024x1024, .bf16⟩
  | .local _ .vmem, ⟨1, _⟩ => ⟨S1024x1024, .bf16⟩
  | .local _ .vmem, ⟨2, _⟩ => ⟨S128x1024, .bf16⟩
  | .local _ .vmem, ⟨3, _⟩ => ⟨S1024x128, .f32⟩
  | .local _ .vmem, ⟨4, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceDtIdeal.lean ====
abbrev S8192x1024 : Shape := ⟨2, ![8192, 1024]⟩
abbrev S128x1024 : Shape := ⟨2, ![128, 1024]⟩
abbrev S1024x128 : Shape := ⟨2, ![1024, 128]⟩
abbrev S8192x128 : Shape := ⟨2, ![8192, 128]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S128x1024, .bf16⟩
  | .hbm, ⟨2, _⟩ => ⟨S8192x1024, .f32⟩
  | .hbm, ⟨3, _⟩ => ⟨S128x1024, .f32⟩
  | .hbm, ⟨4, _⟩ => ⟨S1024x128, .f32⟩
  | .hbm, ⟨5, _⟩ => ⟨S8192x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelWdt.lean ====
abbrev S8192x128 : Shape := ⟨2, ![8192, 128]⟩
abbrev S8192x1024 : Shape := ⟨2, ![8192, 1024]⟩
abbrev S128x1024 : Shape := ⟨2, ![128, 1024]⟩
abbrev S2048x128 : Shape := ⟨2, ![2048, 128]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x128, .bf16⟩
  | .hbm, ⟨1, _⟩ => ⟨S8192x1024, .bf16⟩
  | .hbm, ⟨2, _⟩ => ⟨S128x1024, .bf16⟩
  | .local _ .vmem, ⟨0, _⟩ => ⟨S2048x128, .bf16⟩
  | .local _ .vmem, ⟨1, _⟩ => ⟨S2048x128, .bf16⟩
  | .local _ .vmem, ⟨2, _⟩ => ⟨S2048x1024, .bf16⟩
  | .local _ .vmem, ⟨3, _⟩ => ⟨S2048x1024, .bf16⟩
  | .local _ .vmem, ⟨4, _⟩ => ⟨S128x1024, .bf16⟩
  | .local _ .vmem, ⟨5, _⟩ => ⟨S128x1024, .f32⟩
  | _, _ => ⟨S8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceWdtIdeal.lean ====
abbrev S8192x128 : Shape := ⟨2, ![8192, 128]⟩
abbrev S8192x1024 : Shape := ⟨2, ![8192, 1024]⟩
abbrev S_ : Shape := ⟨0, ![]⟩
abbrev S128x1024 : Shape := ⟨2, ![128, 1024]⟩
abbrev S1024x128 : Shape := ⟨2, ![1024, 128]⟩

abbrev nBuf : Space → Nat
  | .hbm => 10
  | .vmem => 0
  | .smem => 0
  | _ => 0

abbrev bufTy : (tb : Table) → Fin (tcTables nBuf tb) → BufTy
  | .hbm, ⟨0, _⟩ => ⟨S8192x128, .bf16⟩
  | .hbm, ⟨1, _⟩ => ⟨S8192x1024, .bf16⟩
  | .hbm, ⟨2, _⟩ => ⟨S8192x128, .f32⟩
  | .hbm, ⟨3, _⟩ => ⟨S_, .f32⟩
  | .hbm, ⟨4, _⟩ => ⟨S128x1024, .f32⟩
  | .hbm, ⟨5, _⟩ => ⟨S8192x1024, .f32⟩
  | .hbm, ⟨6, _⟩ => ⟨S8192x1024, .f32⟩
  | .hbm, ⟨7, _⟩ => ⟨S1024x128, .f32⟩
  | .hbm, ⟨8, _⟩ => ⟨S128x1024, .f32⟩
  | .hbm, ⟨9, _⟩ => ⟨S128x1024, .bf16⟩
  | _, _ => ⟨S8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDx.lean ====
abbrev S8192x1024 : Shape := ⟨2, ![8192, 1024]⟩
abbrev S1x1024 : Shape := ⟨2, ![1, 1024]⟩
abbrev S8x1024 : Shape := ⟨2, ![8, 1024]⟩
abbrev S1024x1024 : Shape := ⟨2, ![1024, 1024]⟩
abbrev S16x1024 : Shape := ⟨2, ![16, 1024]⟩
abbrev S16 : Shape := ⟨1, ![16]⟩
abbrev S16x1 : Shape := ⟨2, ![16, 1]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S8192x1024, .bf16⟩
  | .hbm, ⟨6, _⟩ => ⟨S8x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceDxIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 44
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S8192x1024, .f32⟩
  | .hbm, ⟨31, _⟩ => ⟨S8192x1024, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S_, .f32⟩
  | .hbm, ⟨37, _⟩ => ⟨S8192, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Proof.Lift.lean ====
/- Arrays of extended reals whose entries are real numbers, and what the operations of a kernel do to them. -/
module

public import proofs.«01_k».proof.Defs
public import Idealize.ShloMosaic.Lib.Tactic
public import Idealize.ShloMosaic.Lib.Pointwise
public import Idealize.ShloMosaic.Lib.MatmulPlain
public import Idealize.ShloMosaic.Lib.Pipeline.Value

@[expose] public section

set_option maxRecDepth 16384

noncomputable section

open Idealize.ShloMosaic Idealize.ShloMosaic.TcCoe

namespace Cert.Lift

/-- The array `v` has the entries of the real matrix `V`. -/
def Is {m n : ℕ} (v : (⟨2, ![m, n]⟩ : Shape).Idx → EReal) (V : Fin m → Fin n → ℝ) : Prop :=
  ∀ i j, v (ix2 i j) = (V i j : EReal)

/-- A sum of reals is the same sum among the extended reals. -/
theorem coe_sum {ι : Type*} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

theorem coe_max (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

variable {m n k : ℕ} {v w : (⟨2, ![m, n]⟩ : Shape).Idx → EReal} {V W : Fin m → Fin n → ℝ}

theorem Is.congr (h : Is v V) (e : ∀ i j, V i j = W i j) : Is v W := fun i j => by rw [h i j, e i j]

theorem Is.add (h : Is v V) (g : Is w W) : Is (fun i => v i + w i) (fun i j => V i j + W i j) := fun i j => by
  show v _ + w _ = _; rw [h i j, g i j, EReal.coe_add]
theorem Is.sub (h : Is v V) (g : Is w W) : Is (fun i => v i - w i) (fun i j => V i j - W i j) := fun i j => by
  show v _ - w _ = _; rw [h i j, g i j, EReal.coe_sub]
theorem Is.mul (h : Is v V) (g : Is w W) : Is (fun i => v i * w i) (fun i j => V i j * W i j) := fun i j => by
  show v _ * w _ = _; rw [h i j, g i j, EReal.coe_mul]
theorem Is.max (h : Is v V) (g : Is w W) : Is (fun i => Max.max (v i) (w i)) (fun i j => Max.max (V i j) (W i j)) := fun i j => by
  show Max.max (v _) (w _) = _; rw [h i j, g i j, coe_max]
theorem Is.exp (h : Is v V) : Is (fun i => Ideal.exp (v i)) (fun i j => Real.exp (V i j)) := fun i j => by
  show Ideal.exp (v _) = _; rw [h i j, Ideal.exp_coe]
theorem Is.abs (h : Is v V) : Is (fun i => Max.max (v i) (-v i)) (fun i j => |V i j|) := fun i j => by
  show Max.max (v _) (-v _) = _; rw [h i j, ← EReal.coe_neg, coe_max]; rfl
theorem Is.log (h : Is v V) (p : ∀ i j, 0 < V i j) : Is (fun i => Ideal.log (v i)) (fun i j => Real.log (V i j)) := fun i j => by
  show Ideal.log (v _) = _; rw [h i j, Ideal.log_coe, if_neg (not_le.mpr (p i j))]
theorem Is.const (r : ℝ) (c : EReal) (h : c = r) : Is (m := m) (n := n) (fun _ => c) (fun _ _ => r) := fun _ _ => h

/-- A slice that keeps every row and starts at column `o`. -/
theorem Is.cols {N : ℕ} {u : (⟨2, ![m, N]⟩ : Shape).Idx → EReal} {U : Fin m → Fin N → ℝ} (h : Is u U) (o : ℕ) (hs : (⟨2, ![m, N]⟩ : Shape).Slices ![0, o] ⟨2, ![m, n]⟩)
    (f : Fin n → Fin N) (hf : ∀ j, (f j).val = o + j.val) :
    Is (extractStridedSlice ⟨2, ![m, n]⟩ ![0, o] u hs) (fun i j => U i (f j)) := fun i j => by
  rw [← h i (f j)]
  show u _ = u _
  congr 1
  funext a
  apply Fin.ext
  match a with
  | ⟨0, _⟩ => show 0 + i.val = i.val; omega
  | ⟨1, _⟩ => show o + j.val = (f j).val; rw [hf]

/-- A slice that keeps one row. -/
theorem Is.row (h : Is v V) (o : ℕ) (hs : (⟨2, ![m, n]⟩ : Shape).Slices ![o, 0] ⟨2, ![1, n]⟩) (r : Fin m) (hr : r.val = o) :
    Is (extractStridedSlice ⟨2, ![1, n]⟩ ![o, 0] v hs) (fun _ j => V r j) := fun i j => by
  rw [← h r j]
  show v _ = v _
  congr 1
  funext a
  apply Fin.ext
  match a with
  | ⟨0, _⟩ => show o + i.val = r.val; omega
  | ⟨1, _⟩ => show 0 + j.val = j.val; omega

/-- One row, repeated. -/
theorem Is.rows {u : (⟨2, ![1, n]⟩ : Shape).Idx → EReal} {U : Fin 1 → Fin n → ℝ} (h : Is u U) (hb : (⟨2, ![1, n]⟩ : Shape).Broadcasts ⟨2, ![m, n]⟩) :
    Is (broadcastTo ⟨2, ![m, n]⟩ u hb) (fun _ j => U 0 j) := fun i j => by
  rw [← h 0 j]
  show u _ = u _
  congr 1
  funext a
  apply Fin.ext
  match a with
  | ⟨0, _⟩ => rfl
  | ⟨1, _⟩ =>
    dsimp only
    split
    · rename_i h1
      have h2 : n = 1 := h1
      show 0 = j.val
      have := j.isLt
      omega
    · rfl

theorem Is.transpose (h : Is v V) (ht : (⟨2, ![m, n]⟩ : Shape).Transposes [1, 0] ⟨2, ![n, m]⟩)
    (hr : ∀ i j, ht.src (ix2 i j) = ix2 j i) :
    Is (transpose ⟨2, ![n, m]⟩ [1, 0] v ht) (fun i j => V j i) := fun i j => by
  rw [← h j i, ← hr i j]
  rfl

/-- Summed products, rows by columns. -/
theorem Is.dot_nn {M K N : ℕ} {a : (⟨2, ![M, K]⟩ : Shape).Idx → EReal} {b : (⟨2, ![K, N]⟩ : Shape).Idx → EReal} {c : (⟨2, ![M, N]⟩ : Shape).Idx → EReal}
    {A : Fin M → Fin K → ℝ} {B : Fin K → Fin N → ℝ} (d : DotDims ⟨2, ![M, K]⟩ ⟨2, ![K, N]⟩ ⟨2, ![M, N]⟩) (hd : d = DotDims.plain M K N) (ha : Is a A) (hb : Is b B)
    (hc : ∀ i, c i = 0) : Is (Ideal.matmul d a b c) (fun i j => ∑ q, A i q * B q j) := fun i j => by
  subst hd
  refine (Ideal.matmul_plain_apply (φ₁ := .f32) (φ₂ := .f32) none a b c i j).trans ?_
  rw [hc, zero_add, ← coe_sum]
  exact Finset.sum_congr rfl fun q _ => (congrArg₂ (· * ·) (ha i q) (hb q j)).trans (EReal.coe_mul _ _).symm

/-- Summed products, rows by rows. -/
theorem Is.dot_nt {M K N : ℕ} {a : (⟨2, ![M, K]⟩ : Shape).Idx → EReal} {b : (⟨2, ![N, K]⟩ : Shape).Idx → EReal} {c : (⟨2, ![M, N]⟩ : Shape).Idx → EReal}
    {A : Fin M → Fin K → ℝ} {B : Fin N → Fin K → ℝ} (d : DotDims ⟨2, ![M, K]⟩ ⟨2, ![N, K]⟩ ⟨2, ![M, N]⟩) (hd : d = DotDims.transposedRhs M K N) (ha : Is a A) (hb : Is b B)
    (hc : ∀ i, c i = 0) : Is (Ideal.matmul d a b c) (fun i j => ∑ q, A i q * B j q) := fun i j => by
  subst hd
  refine (Ideal.matmul_transposedRhs_apply (φ₁ := .f32) (φ₂ := .f32) none a b c i j).trans ?_
  rw [hc, zero_add, ← coe_sum]
  exact Finset.sum_congr rfl fun q _ => (congrArg₂ (· * ·) (ha i q) (hb j q)).trans (EReal.coe_mul _ _).symm

/-- Summed products, columns by columns: what is assumed is where the operands are read. -/
theorem Is.dot_tn {M K N : ℕ} {a : (⟨2, ![K, M]⟩ : Shape).Idx → EReal} {b : (⟨2, ![K, N]⟩ : Shape).Idx → EReal} {c : (⟨2, ![M, N]⟩ : Shape).Idx → EReal}
    {A : Fin K → Fin M → ℝ} {B : Fin K → Fin N → ℝ} (d : DotDims ⟨2, ![K, M]⟩ ⟨2, ![K, N]⟩ ⟨2, ![M, N]⟩)
    (hd : ∀ i j, Ideal.matmul d a b c (ix2 i j) = c (ix2 i j) + ∑ q : Fin K, a (ix2 q i) * b (ix2 q j)) (ha : Is a A) (hb : Is b B)
    (hc : ∀ i, c i = 0) : Is (Ideal.matmul d a b c) (fun i j => ∑ q, A q i * B q j) := fun i j => by
  rw [hd, hc, zero_add, ← coe_sum]
  exact Finset.sum_congr rfl fun q _ => by rw [ha q i, hb q j, EReal.coe_mul]

/-- One matrix on top of another. -/
theorem Is.stack {a b : (⟨2, ![128, 128]⟩ : Shape).Idx → EReal} {A B : Fin 128 → Fin 128 → ℝ} (ha : Is a A) (hb : Is b B)
    (hc : Shape.Concatenates [⟨2, ![128, 128]⟩, ⟨2, ![128, 128]⟩] ⟨2, ![256, 128]⟩ 0) :
    Is (concatenate (⟨2, ![256, 128]⟩ : Shape) 0 [⟨⟨2, ![128, 128]⟩, a⟩, ⟨⟨2, ![128, 128]⟩, b⟩] hc)
      (fun r s => Fin.addCases (m := 128) (n := 128) (motive := fun _ => ℝ) (fun i => A i s) (fun i => B i s) r) := fun r s => by
  refine Fin.addCases (m := 128) (n := 128) (fun i => ?_) (fun i => ?_) r
  · beta_reduce
    rw [Fin.addCases_left, ← ha i s]
    exact concatenate_apply_piece (t := ⟨2, ![256, 128]⟩) (0 : Fin 2) _ _ _ 0 (by show 0 < 2; decide) ⟨2, ![128, 128]⟩ a rfl rfl 0 rfl (ix2 i s)
      (fun b hb => match b, hb with | ⟨0, _⟩, hb => absurd rfl hb | ⟨1, _⟩, _ => rfl) (by show 0 + i.val = i.val; omega)
  · beta_reduce
    rw [Fin.addCases_right, ← hb i s]
    exact concatenate_apply_piece (t := ⟨2, ![256, 128]⟩) (0 : Fin 2) _ _ _ 1 (by show 1 < 2; decide) ⟨2, ![128, 128]⟩ b rfl rfl 128 rfl (ix2 i s)
      (fun b hb => match b, hb with | ⟨0, _⟩, hb => absurd rfl hb | ⟨1, _⟩, _ => rfl) (by show 128 + i.val = 128 + i.val; rfl)

/-- Four matrices side by side. -/
theorem Is.beside {p : Fin 4 → (⟨2, ![128, 128]⟩ : Shape).Idx → EReal} {P : Fin 4 → Fin 128 → Fin 128 → ℝ} (hp : ∀ z, Is (p z) (P z))
    (hc : Shape.Concatenates [⟨2, ![128, 128]⟩, ⟨2, ![128, 128]⟩, ⟨2, ![128, 128]⟩, ⟨2, ![128, 128]⟩] ⟨2, ![128, 512]⟩ 1) :
    Is (concatenate (⟨2, ![128, 512]⟩ : Shape) 1 [⟨⟨2, ![128, 128]⟩, p 0⟩, ⟨⟨2, ![128, 128]⟩, p 1⟩, ⟨⟨2, ![128, 128]⟩, p 2⟩, ⟨⟨2, ![128, 128]⟩, p 3⟩] hc)
      (fun r q => P ⟨q.val / 128, by have := q.isLt; omega⟩ r ⟨q.val % 128, by omega⟩) := fun r q => by
  rw [← hp ⟨q.val / 128, by have := q.isLt; omega⟩ r ⟨q.val % 128, by omega⟩]
  have hq := q.isLt
  have h4 : q.val / 128 = 0 ∨ q.val / 128 = 1 ∨ q.val / 128 = 2 ∨ q.val / 128 = 3 := by omega
  rcases h4 with h | h | h | h
  · have e : (⟨q.val / 128, by omega⟩ : Fin 4) = 0 := Fin.ext h
    rw [e]
    exact concatenate_apply_piece (t := ⟨2, ![128, 512]⟩) (1 : Fin 2) _ _ _ 0 (by show 0 < 4; decide) ⟨2, ![128, 128]⟩ (p 0) rfl rfl 0 rfl (ix2 r _)
      (fun b hb => match b, hb with | ⟨0, _⟩, _ => rfl | ⟨1, _⟩, hb => absurd rfl hb) (by show 0 + q.val % 128 = q.val; omega)
  · have e : (⟨q.val / 128, by omega⟩ : Fin 4) = 1 := Fin.ext h
    rw [e]
    exact concatenate_apply_piece (t := ⟨2, ![128, 512]⟩) (1 : Fin 2) _ _ _ 1 (by show 1 < 4; decide) ⟨2, ![128, 128]⟩ (p 1) rfl rfl 128 rfl (ix2 r _)
      (fun b hb => match b, hb with | ⟨0, _⟩, _ => rfl | ⟨1, _⟩, hb => absurd rfl hb) (by show 128 + q.val % 128 = q.val; omega)
  · have e : (⟨q.val / 128, by omega⟩ : Fin 4) = 2 := Fin.ext h
    rw [e]
    exact concatenate_apply_piece (t := ⟨2, ![128, 512]⟩) (1 : Fin 2) _ _ _ 2 (by show 2 < 4; decide) ⟨2, ![128, 128]⟩ (p 2) rfl rfl 256 rfl (ix2 r _)
      (fun b hb => match b, hb with | ⟨0, _⟩, _ => rfl | ⟨1, _⟩, hb => absurd rfl hb) (by show 256 + q.val % 128 = q.val; omega)
  · have e : (⟨q.val / 128, by omega⟩ : Fin 4) = 3 := Fin.ext h
    rw [e]
    exact concatenate_apply_piece (t := ⟨2, ![128, 512]⟩) (1 : Fin 2) _ _ _ 3 (by show 3 < 4; decide) ⟨2, ![128, 128]⟩ (p 3) rfl rfl 384 rfl (ix2 r _)
      (fun b hb => match b, hb with | ⟨0, _⟩, _ => rfl | ⟨1, _⟩, hb => absurd rfl hb) (by show 384 + q.val % 128 = q.val; omega)

end Cert.Lift

end
-- ==== Proof.ChunkOps.lean ====
/- The arithmetic that one grid point of the recurrence's gradient does on the arrays it has loaded, one definition per quantity. -/
module

public import proofs.«01_k».proof.Proof.Lift

@[expose] public section

set_option maxRecDepth 16384

noncomputable section

open Idealize.ShloMosaic Idealize.ShloMosaic.TcCoe

namespace Cert.KernelSsdIdeal.Chunk

open Cert.KernelSsdIdeal Facts₀

variable [Facts] {F : FTy → Type} [FloatOps F] [Named F]

/-- The columns of group `g` among 2048, head `h` among the spread columns, head `h` among the rows, pair `p` among a group's columns. -/
theorem groupCols : ∀ g : Fin 4, S128x2048.Slices ![0, 512 * g.val] S128x512 := by decide
theorem headCols : ∀ h : Fin 32, S128x4096.Slices ![0, 128 * h.val] S128x128 := by decide
theorem headRow : ∀ h : Fin 32, S128x128.Slices ![h.val, 0] S1x128 := by decide
theorem pairCols : ∀ p : Fin 4, S128x512.Slices ![0, 128 * p.val] S128x128 := by decide

/-- The step lengths: the softplus of the given values and the bias. -/
def stepV (t : Vec F S128x128 .f32) (b : Vec F S1x128 .f32) : Vec F S128x128 .f32 :=
  addf (maximumf (addf t (broadcastTo S128x128 b broadcasts_S1x128_S128x128)) (broadcast S128x128 (Scalar.ofBits .f32 0x00000000#32)))
    (log (addf (broadcast S128x128 (Scalar.ofBits .f32 0x3F800000#32))
      (exp (subf (broadcast S128x128 (Scalar.ofBits .f32 0x00000000#32)) (absf (addf t (broadcastTo S128x128 b broadcasts_S1x128_S128x128)))))))

/-- The decay rates of the heads. -/
def rateV (a : Vec F S1x128 .f32) : Vec F S1x128 .f32 := subf (broadcast S1x128 (Scalar.ofBits .f32 0x00000000#32)) (exp a)

/-- The mask of the pairs `(i, j)` with `j ≤ i`. -/
def causalV : IVec S128x128 1 := cmpi .sge (iota .tc S128x128 32 [0] iota_S128x128_d0_w32) (iota .tc S128x128 32 [1] iota_S128x128_d1_w32)

/-- The log decay accumulated from the start of the chunk. -/
def accV (d : Vec F S128x128 .f32) (a : Vec F S1x128 .f32) : Vec F S128x128 .f32 :=
  matmul dot_S128x128_S128x128_S128x128_1_0_0_1_n_n (some .fp32) (sitofp .f32 (extui 32 causalV natLt_1_32))
    (mulf d (broadcastTo S128x128 a broadcasts_S1x128_S128x128)) (constant S128x128 .f32 0x00000000#32)

/-- What is left of `v` after its rounding. -/
def restV (v : Vec F S128x128 .f32) : Vec F S128x128 .bf16 :=
  truncf .bf16 (subf v (extf .f32 (truncf .bf16 v bitsLt_bf16_f32) bitsLt_bf16_f32)) bitsLt_bf16_f32

/-- One value per head, rounded and spread over the head's 64 columns. -/
def onceV (v : Vec F S128x128 .f32) (e : Vec F S128x2048 .bf16) : Vec F S128x2048 .f32 :=
  matmul dot_S128x128_S128x2048_S128x2048_1_0_0_1_n_n none (truncf .bf16 v bitsLt_bf16_f32) e (constant S128x2048 .f32 0x00000000#32)
/-- The same with the rounding made up for. -/
def twiceV (v : Vec F S128x128 .f32) (e : Vec F S128x2048 .bf16) : Vec F S128x2048 .f32 :=
  addf (onceV v e) (matmul dot_S128x128_S128x2048_S128x2048_1_0_0_1_n_n none (restV v) e (constant S128x2048 .f32 0x00000000#32))
/-- One value per head spread over 128 columns. -/
def wideV (v : Vec F S128x128 .f32) (e : Vec F S128x4096 .bf16) : Vec F S128x4096 .f32 :=
  addf (matmul dot_S128x128_S128x4096_S128x4096_1_0_0_1_n_n none (truncf .bf16 v bitsLt_bf16_f32) e (constant S128x4096 .f32 0x00000000#32))
    (matmul dot_S128x128_S128x4096_S128x4096_1_0_0_1_n_n none (restV v) e (constant S128x4096 .f32 0x00000000#32))

/-- The decay from each row to the end of the chunk. -/
def toEndV (r : Vec F S128x128 .f32) : Vec F S128x128 .f32 :=
  exp (subf (broadcastTo S128x128 (extractStridedSlice S1x128 ![127, 0] r slices_S128x128_o127_0_S1x128) broadcasts_S1x128_S128x128) r)

/-- The columns of group `g`. -/
def pickV (g : Fin 4) (v : Vec F S128x2048 .f32) : Vec F S128x512 .f32 := extractStridedSlice S128x512 ![0, 512 * g.val] v (groupCols g)

/-- The decay from column index to row index for head `h`, zero above the diagonal. -/
def decayV (h : Fin 32) (w : Vec F S128x4096 .f32) (r : Vec F S128x128 .f32) : Vec F S128x128 .f32 :=
  exp (select causalV (subf (extractStridedSlice S128x128 ![0, 128 * h.val] w (headCols h))
    (broadcastTo S128x128 (extractStridedSlice S1x128 ![h.val, 0] (transpose S128x128 [1, 0] r transposes_S128x128_p1_0_S128x128) (headRow h)) broadcasts_S1x128_S128x128))
    (broadcast S128x128 (Named.named κ "mask" 0xF149F2CA#32)))

/-- The products of the output rows with the input rows. -/
def gramV (b c : Vec F S128x128 .bf16) : Vec F S128x128 .f32 :=
  matmul dot_S128x128_S128x128_S128x128_1_1_0_0_n_n none c b (constant S128x128 .f32 0x00000000#32)

/-- A group's values times a spread factor. -/
def timesV (g : Fin 4) (x : Vec F S128x512 .bf16) (e : Vec F S128x2048 .f32) : Vec F S128x512 .f32 :=
  mulf (extf .f32 x bitsLt_bf16_f32) (pickV g e)

/-- The gradient of the state before the chunk from the gradient of the state after it. -/
def carryV (g : Fin 4) (c : Vec F S128x128 .bf16) (y : Vec F S128x512 .bf16) (e : Vec F S128x2048 .f32) (s : Vec F S128x512 .f32) : Vec F S128x512 .f32 :=
  shapeCast S128x512 (addf (mulf (broadcastTo S128x512 (extractStridedSlice S1x512 ![127, 0] (pickV g e) slices_S128x512_o127_0_S1x512) broadcasts_S1x512_S128x512) s)
    (matmul dot_S128x128_S128x512_S128x512_0_0_1_1_n_n none c (truncf .bf16 (timesV g y e) bitsLt_bf16_f32) (constant S128x512 .f32 0x00000000#32)))
    shapeCasts_S128x512_S128x512

/-- The mask of the first 64 columns. -/
def firstV : IVec S128x128 1 := cmpi .slt (iota .tc S128x128 32 [1] iota_S128x128_d1_w32) (broadcast S128x128 64#32)

/-- Two heads' columns, each with the other's columns cleared, one on top of the other. -/
def apartV (v : Vec F S128x128 .bf16) : Vec F S256x128 .bf16 :=
  concatenate S256x128 0 [⟨S128x128, select firstV v (broadcast S128x128 (Scalar.ofBits .bf16 0x0000#16))⟩,
    ⟨S128x128, select firstV (broadcast S128x128 (Scalar.ofBits .bf16 0x0000#16)) v⟩] concatenates_S128x128_S128x128_S256x128_d0

/-- Pair `p`'s columns of a group. -/
def pairV (p : Fin 4) (v : Vec F S128x512 .bf16) : Vec F S128x128 .bf16 := extractStridedSlice S128x128 ![0, 128 * p.val] v (pairCols p)

/-- What the later rows of the chunk give a pair of heads: `l` and `k` are the decays of the two. -/
def laterV (m l k : Vec F S128x128 .f32) (y : Vec F S128x128 .bf16) : Vec F S128x128 .f32 :=
  matmul dot_S256x128_S256x128_S128x128_0_0_1_1_n_n none
    (concatenate S256x128 0 [⟨S128x128, truncf .bf16 (mulf m l) bitsLt_bf16_f32⟩, ⟨S128x128, truncf .bf16 (mulf m k) bitsLt_bf16_f32⟩] concatenates_S128x128_S128x128_S256x128_d0)
    (apartV y) (constant S128x128 .f32 0x00000000#32)

/-- The gradients of a pair's scores, side by side. -/
def scoresV (y x : Vec F S128x128 .bf16) : Vec F S128x256 .f32 :=
  matmul dot_S128x128_S256x128_S128x256_1_1_0_0_n_n none y (apartV x) (constant S128x256 .f32 0x00000000#32)

/-- A pair's part of the gradient of the products of output and input rows, added to `d`. -/
def addPairV (d l k : Vec F S128x128 .f32) (y x : Vec F S128x128 .bf16) : Vec F S128x128 .f32 :=
  addf (addf d (mulf (extractStridedSlice S128x128 ![0, 0] (scoresV y x) slices_S128x256_o0_0_S128x128) l))
    (mulf (extractStridedSlice S128x128 ![0, 128] (scoresV y x) slices_S128x256_o0_128_S128x128) k)

/-- The gradient of those products over a group's eight heads with the decays `l`. -/
def gramGradV (l : Fin 8 → Vec F S128x128 .f32) (y x : Vec F S128x512 .bf16) : Vec F S128x128 .f32 :=
  addPairV (addPairV (addPairV (addPairV (broadcast S128x128 (Scalar.ofBits .f32 0x00000000#32))
    (l 0) (l 1) (pairV 0 y) (pairV 0 x)) (l 2) (l 3) (pairV 1 y) (pairV 1 x)) (l 4) (l 5) (pairV 2 y) (pairV 2 x)) (l 6) (l 7) (pairV 3 y) (pairV 3 x)

/-- The gradient of a group's inputs. -/
def inputGradV (g : Fin 4) (b c : Vec F S128x128 .bf16) (l : Fin 8 → Vec F S128x128 .f32) (y : Vec F S128x512 .bf16) (s : Vec F S128x512 .f32)
    (d e : Vec F S128x2048 .f32) (k : Vec F S1x512 .f32) : Vec F S128x512 .bf16 :=
  truncf .bf16 (addf (mulf (addf
    (concatenate S128x512 1 [⟨S128x128, laterV (gramV b c) (l 0) (l 1) (pairV 0 y)⟩, ⟨S128x128, laterV (gramV b c) (l 2) (l 3) (pairV 1 y)⟩,
      ⟨S128x128, laterV (gramV b c) (l 4) (l 5) (pairV 2 y)⟩, ⟨S128x128, laterV (gramV b c) (l 6) (l 7) (pairV 3 y)⟩] concatenates_S128x128_S128x128_S128x128_S128x128_S128x512_d1)
    (mulf (matmul dot_S128x128_S128x512_S128x512_1_0_0_1_n_n none b (truncf .bf16 s bitsLt_bf16_f32) (constant S128x512 .f32 0x00000000#32)) (pickV g e))) (pickV g d))
    (mulf (broadcastTo S128x512 k broadcasts_S1x512_S128x512) (extf .f32 y bitsLt_bf16_f32))) bitsLt_bf16_f32

/-- The gradient of a group's input rows. -/
def rowGradV (g : Fin 4) (c : Vec F S128x128 .bf16) (l : Fin 8 → Vec F S128x128 .f32) (x y : Vec F S128x512 .bf16) (s : Vec F S128x512 .f32)
    (d e : Vec F S128x2048 .f32) : Vec F S128x128 .bf16 :=
  truncf .bf16 (addf
    (matmul dot_S128x512_S128x512_S128x128_1_1_0_0_n_n none (truncf .bf16 (mulf (timesV g x d) (pickV g e)) bitsLt_bf16_f32) (truncf .bf16 s bitsLt_bf16_f32) (constant S128x128 .f32 0x00000000#32))
    (matmul dot_S128x128_S128x128_S128x128_0_0_1_1_n_n none (truncf .bf16 (gramGradV l y (truncf .bf16 (timesV g x d) bitsLt_bf16_f32)) bitsLt_bf16_f32) c (constant S128x128 .f32 0x00000000#32))) bitsLt_bf16_f32

/-- The gradient of a group's output rows; `z` is the state before the chunk. -/
def outGradV (g : Fin 4) (b : Vec F S128x128 .bf16) (l : Fin 8 → Vec F S128x128 .f32) (x y : Vec F S128x512 .bf16) (z : Vec F S128x512 .f32)
    (d e : Vec F S128x2048 .f32) : Vec F S128x128 .bf16 :=
  truncf .bf16 (addf
    (matmul dot_S128x512_S128x512_S128x128_1_1_0_0_n_n none (truncf .bf16 (timesV g y e) bitsLt_bf16_f32) (truncf .bf16 z bitsLt_bf16_f32) (constant S128x128 .f32 0x00000000#32))
    (matmul dot_S128x128_S128x128_S128x128_1_0_0_1_n_n none (truncf .bf16 (gramGradV l y (truncf .bf16 (timesV g x d) bitsLt_bf16_f32)) bitsLt_bf16_f32) b (constant S128x128 .f32 0x00000000#32))) bitsLt_bf16_f32

end Cert.KernelSsdIdeal.Chunk

end
-- ==== Proof.Pieces.lean ====
/- What one grid point stores, in the terms of the arithmetic on what it loads. -/
module

public import proofs.«01_k».proof.Proof.ChunkOps
public import proofs.«01_k».proof.Proof.Gen.KernelSsdIdeal.Value

@[expose] public section

set_option maxRecDepth 16384

noncomputable section

open Idealize.ShloMosaic Idealize.ShloMosaic.TcCoe Idealize.SL.Sem

namespace Cert.KernelSsdIdeal.Chunk

open Cert.KernelSsdIdeal Cert.KernelSsdIdeal.Gen

section
variable {F : FTy → Type} [FloatOps F] [Named F]

/-- The arrays one grid point has loaded: per group the input rows, output rows, inputs, given gradient, entering state,
gradient of the leaving state and skip factors; and the values all groups share. -/
structure Loads (F : FTy → Type) where
  b : Fin 4 → Vec F S128x128 .bf16
  c : Fin 4 → Vec F S128x128 .bf16
  x : Fin 4 → Vec F S128x512 .bf16
  y : Fin 4 → Vec F S128x512 .bf16
  z : Fin 4 → Vec F S128x512 .f32
  s : Fin 4 → Vec F S128x512 .f32
  k : Fin 4 → Vec F S1x512 .f32
  t : Vec F S128x128 .f32
  tb : Vec F S1x128 .f32
  al : Vec F S1x128 .f32
  e : Vec F S128x2048 .bf16
  w : Vec F S128x4096 .bf16

variable (L : Loads F)

def Loads.step : Vec F S128x128 .f32 := stepV L.t L.tb
def Loads.acc : Vec F S128x128 .f32 := accV L.step (rateV L.al)
def Loads.stepE : Vec F S128x2048 .f32 := onceV L.step L.e
def Loads.fromE : Vec F S128x2048 .f32 := twiceV (exp L.acc) L.e
def Loads.toE : Vec F S128x2048 .f32 := onceV (toEndV L.acc) L.e
def Loads.decay (g : Fin 4) (h : Fin 8) : Vec F S128x128 .f32 := decayV ⟨8 * g.val + h.val, by omega⟩ (wideV L.acc L.w) L.acc
def Loads.out (g : Fin 4) : Vec F S128x128 .bf16 := outGradV g (L.b g) (L.decay g) (L.x g) (L.y g) (L.z g) L.stepE L.fromE
def Loads.row (g : Fin 4) : Vec F S128x128 .bf16 := rowGradV g (L.c g) (L.decay g) (L.x g) (L.y g) (L.s g) L.stepE L.toE
def Loads.inp (g : Fin 4) : Vec F S128x512 .bf16 := inputGradV g (L.b g) (L.c g) (L.decay g) (L.y g) (L.s g) L.stepE L.toE (L.k g)
def Loads.carry (g : Fin 4) : Vec F S128x512 .f32 := carryV g (L.c g) (L.y g) L.fromE (L.s g)

theorem inX : ∀ (g : Fin 4) a, (![0, 512 * g.val] : Fin 2 → Nat) a + S128x512.size a ≤ S128x3072.size a := by decide
theorem inB : ∀ (g : Fin 4) a, (![0, 2048 + 128 * g.val] : Fin 2 → Nat) a + S128x128.size a ≤ S128x3072.size a := by decide
theorem inC : ∀ (g : Fin 4) a, (![0, 2560 + 128 * g.val] : Fin 2 → Nat) a + S128x128.size a ≤ S128x3072.size a := by decide
theorem inY : ∀ (g : Fin 4) a, (![0, 512 * g.val] : Fin 2 → Nat) a + S128x512.size a ≤ S128x2048.size a := by decide
theorem inZ : ∀ (g : Fin 4) a, (![0, 0, 512 * g.val] : Fin 3 → Nat) a + S1x128x512.size a ≤ S1x128x2048.size a := by decide
theorem inK : ∀ (g : Fin 4) a, (![0, 512 * g.val] : Fin 2 → Nat) a + S1x512.size a ≤ S1x2048.size a := by decide

/-- The rectangles of group `g` in the loaded and stored arrays. -/
def rX (g : Fin 4) : Rect S128x3072 := Rect.unit ![0, 512 * g.val] S128x512.size (inX g)
def rB (g : Fin 4) : Rect S128x3072 := Rect.unit ![0, 2048 + 128 * g.val] S128x128.size (inB g)
def rC (g : Fin 4) : Rect S128x3072 := Rect.unit ![0, 2560 + 128 * g.val] S128x128.size (inC g)
def rY (g : Fin 4) : Rect S128x2048 := Rect.unit ![0, 512 * g.val] S128x512.size (inY g)

/-- The stores of group `g` into the block of the result. -/
def Loads.group (g : Fin 4) : List (View.Piece (Elt F) S128x3072 .bf16) :=
  [⟨rC g, L.out g⟩, ⟨rB g, L.row g⟩, ⟨rX g, L.inp g⟩]
def Loads.stored : List (View.Piece (Elt F) S128x3072 .bf16) := L.group 3 ++ L.group 2 ++ L.group 1 ++ L.group 0
def Loads.carried : List (View.Piece (Elt F) S128x2048 .f32) := [⟨rY 3, L.carry 3⟩, ⟨rY 2, L.carry 2⟩, ⟨rY 1, L.carry 1⟩, ⟨rY 0, L.carry 0⟩]
end

variable {F : FTy → Type} [FloatOps F] [Named F]
variable (c : Dev nD) (i : grid0.Coords) (arg1 : Memref sig .tc .vmem S128x3072 .bf16) (harg1 : arg1.IsWhole) (arg2 : Memref sig .tc .vmem S128x128 .f32) (harg2 : arg2.IsWhole) (arg3 : Memref sig .tc .vmem S128x2048 .bf16) (harg3 : arg3.IsWhole) (arg4 : Memref sig .tc .vmem S1x128x2048 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x2048 .f32) (harg7 : arg7.IsWhole) (arg8 : Memref sig .tc .vmem S128x2048 .bf16) (harg8 : arg8.IsWhole) (arg9 : Memref sig .tc .vmem S128x4096 .bf16) (harg9 : arg9.IsWhole) (arg10 : Memref sig .tc .vmem S128x3072 .bf16) (harg10 : arg10.IsWhole) (arg11 : Memref sig .tc .vmem S128x128 .f32) (harg11 : arg11.IsWhole) (arg12 : Memref sig .tc .vmem S8x128 .f32) (harg12 : arg12.IsWhole) (arg13 : Memref sig .tc .vmem S128x2048 .f32) (harg13 : arg13.IsWhole) (arg14 : Memref sig .tc .vmem S128x128 .f32) (harg14 : arg14.IsWhole)
    (x0 : Vec F S128x3072 .bf16) (x1 : Vec F S128x128 .f32) (x2 : Vec F S128x2048 .bf16) (x3 : Vec F S1x128x2048 .f32) (x4 : Vec F S1x128 .f32) (x5 : Vec F S1x128 .f32) (x6 : Vec F S1x2048 .f32) (x7 : Vec F S128x2048 .bf16) (x8 : Vec F S128x4096 .bf16) (xo11 : Vec F S8x128 .f32) (xs0 : Vec F S128x2048 .f32)

/-- What a grid point loads, with the four parts of the carried gradient given. -/
def read (s : Fin 4 → Vec F S128x512 .f32) : Loads F where
  b g := View.readAt (Elt F) arg1.view (rB g).toLoadRect (harg1.unread x0)
  c g := View.readAt (Elt F) arg1.view (rC g).toLoadRect (harg1.unread x0)
  x g := View.readAt (Elt F) arg1.view (rX g).toLoadRect (harg1.unread x0)
  y g := View.readAt (Elt F) arg3.view (rY g).toLoadRect (harg3.unread x2)
  z g := shapeCast S128x512 (View.readAt (Elt F) arg4.view (Rect.unit (s := S1x128x2048) ![0, 0, 512 * g.val] S1x128x512.size (inZ g)).toLoadRect (harg4.unread x3)) shapeCasts_S1x128x512_S128x512
  s := s
  k g := shapeCast S1x512 (View.readAt (Elt F) arg7.view (Rect.unit (s := S1x2048) ![0, 512 * g.val] S1x512.size (inK g)).toLoadRect (harg7.unread x6)) shapeCasts_S1x512_S1x512
  t := shapeCast S128x128 (View.readAt (Elt F) arg2.view (Rect.unit (s := S128x128) ![0, 0] S128x128.size inb_S128x128_S128x128_0_0).toLoadRect (harg2.unread x1)) shapeCasts_S128x128_S128x128
  tb := shapeCast S1x128 (View.readAt (Elt F) arg5.view (Rect.unit (s := S1x128) ![0, 0] S1x128.size inb_S1x128_S1x128_0_0).toLoadRect (harg5.unread x4)) shapeCasts_S1x128_S1x128
  al := shapeCast S1x128 (View.readAt (Elt F) arg6.view (Rect.unit (s := S1x128) ![0, 0] S1x128.size inb_S1x128_S1x128_0_0).toLoadRect (harg6.unread x5)) shapeCasts_S1x128_S1x128
  e := shapeCast S128x2048 (View.readAt (Elt F) arg8.view (Rect.unit (s := S128x2048) ![0, 0] S128x2048.size inb_S128x2048_S128x2048_0_0).toLoadRect (harg8.unread x7)) shapeCasts_S128x2048_S128x2048
  w := shapeCast S128x4096 (View.readAt (Elt F) arg9.view (Rect.unit (s := S128x4096) ![0, 0] S128x4096.size inb_S128x4096_S128x4096_0_0).toLoadRect (harg9.unread x8)) shapeCasts_S128x4096_S128x4096

/-- The carried gradient as the point before left it. -/
def kept (g : Fin 4) : Vec F S128x512 .f32 := View.readAt (Elt F) arg13.view (rY g).toLoadRect (harg13.unread xs0)

/-- At every later point: what is stored into the block of the result. -/
theorem stored_later (hc0 : ¬cond0_0 i) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo11 xs0).1
      = (read arg1 harg1 arg2 harg2 arg3 harg3 arg4 harg4 arg5 harg5 arg6 harg6 arg7 harg7 arg8 harg8 arg9 harg9 x0 x1 x2 x3 x4 x5 x6 x7 x8 (kept arg13 harg13 xs0)).stored := by
  sl_kernel_rfl

/-- … and into the carried gradient. -/
theorem carried_later (hc0 : ¬cond0_0 i) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo11 xs0).2.2.2.1
      = (read arg1 harg1 arg2 harg2 arg3 harg3 arg4 harg4 arg5 harg5 arg6 harg6 arg7 harg7 arg8 harg8 arg9 harg9 x0 x1 x2 x3 x4 x5 x6 x7 x8 (kept arg13 harg13 xs0)).carried := by
  sl_kernel_rfl

/-- The carried gradient at the first point: cleared, then stored group by group. -/
def cleared : List (View.Piece (Elt F) S128x2048 .f32) :=
  [⟨Rect.unit (s := S128x2048) ![0, 0] S128x2048.size inb_S128x2048_S128x2048_0_0, shapeCast S128x2048 (broadcast S128x2048 (Scalar.ofBits .f32 0x00000000#32)) shapeCasts_S128x2048_S128x2048⟩]
def fresh (W : List (View.Piece (Elt F) S128x2048 .f32)) (g : Fin 4) : Vec F S128x512 .f32 := arg13.view.readCov W (rY g).toLoadRect
def then0 (L : Loads F) : List (View.Piece (Elt F) S128x2048 .f32) := ⟨rY 0, carryV 0 (L.c 0) (L.y 0) L.fromE (fresh arg13 cleared 0)⟩ :: cleared
def then1 (L : Loads F) : List (View.Piece (Elt F) S128x2048 .f32) := ⟨rY 1, carryV 1 (L.c 1) (L.y 1) L.fromE (fresh arg13 (then0 arg13 L) 1)⟩ :: then0 arg13 L
def then2 (L : Loads F) : List (View.Piece (Elt F) S128x2048 .f32) := ⟨rY 2, carryV 2 (L.c 2) (L.y 2) L.fromE (fresh arg13 (then1 arg13 L) 2)⟩ :: then1 arg13 L
def then3 (L : Loads F) : List (View.Piece (Elt F) S128x2048 .f32) := ⟨rY 3, carryV 3 (L.c 3) (L.y 3) L.fromE (fresh arg13 (then2 arg13 L) 3)⟩ :: then2 arg13 L
def freshAll (L : Loads F) (g : Fin 4) : Vec F S128x512 .f32 :=
  fresh arg13 (match g with | 0 => cleared | 1 => then0 arg13 L | 2 => then1 arg13 L | 3 => then2 arg13 L) g

/-- At the first point: what is stored into the block of the result. -/
theorem stored_first (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8).1
      = (read arg1 harg1 arg2 harg2 arg3 harg3 arg4 harg4 arg5 harg5 arg6 harg6 arg7 harg7 arg8 harg8 arg9 harg9 x0 x1 x2 x3 x4 x5 x6 x7 x8
          (freshAll arg13 (read arg1 harg1 arg2 harg2 arg3 harg3 arg4 harg4 arg5 harg5 arg6 harg6 arg7 harg7 arg8 harg8 arg9 harg9 x0 x1 x2 x3 x4 x5 x6 x7 x8 (fun _ _ => Scalar.ofBits .f32 0x00000000#32)))).stored := by
  sl_kernel_rfl

/-- … and into the carried gradient. -/
theorem carried_first (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8).2.2.2.1
      = then3 arg13 (read arg1 harg1 arg2 harg2 arg3 harg3 arg4 harg4 arg5 harg5 arg6 harg6 arg7 harg7 arg8 harg8 arg9 harg9 x0 x1 x2 x3 x4 x5 x6 x7 x8 (fun _ _ => Scalar.ofBits .f32 0x00000000#32)) := by
  sl_kernel_rfl

end Cert.KernelSsdIdeal.Chunk

end
-- ==== Proof.Sums.lean ====
/- Sums cut into blocks, and the arrays of a kernel read at numbered places. -/
module

public import Idealize.ShloMosaic.Lib.ValueIdx
public import Idealize.ShloMosaic.PureOps.Ideal.Laws

@[expose] public section

namespace Cert.Sums

/-- A sum over `q·n` places is the sum over `q` blocks of the sums over the `n` places of a block. -/
theorem sum_blocks {M : Type*} [AddCommMonoid M] (q n N : ℕ) (hN : N = q * n) (f : Fin N → M) :
    ∑ k : Fin N, f k = ∑ a : Fin q, ∑ b : Fin n, f ⟨n * a.val + b.val, by
      subst hN
      have h1 := a.isLt
      have h2 := b.isLt
      calc n * a.val + b.val < n * a.val + n := by omega
        _ = n * (a.val + 1) := by ring
        _ ≤ n * q := Nat.mul_le_mul_left _ h1
        _ = q * n := Nat.mul_comm _ _⟩ := by
  subst hN
  rw [← Equiv.sum_comp finProdFinEquiv f, Fintype.sum_prod_type]
  refine Finset.sum_congr rfl fun a _ => Finset.sum_congr rfl fun b _ => ?_
  congr 1
  apply Fin.ext
  show b.val + n * a.val = n * a.val + b.val
  exact Nat.add_comm _ _

theorem zero2 : (![0, 0] : Fin 2 → Nat) = fun _ => 0 := funext fun a => by fin_cases a <;> rfl

end Cert.Sums
-- ==== Proof.Tables.lean ====
/- The gradient of the unrolled recurrence on real tables, as a whole and chunk by chunk. -/
module

public import proofs.«01_k».proof.Proof.Sums
public import Mathlib.Analysis.SpecialFunctions.Log.Basic

@[expose] public section

set_option maxRecDepth 16384

noncomputable section

namespace Cert.Ssd

/-- The real arrays one grid point works on. -/
structure Vals where
  b : Fin 4 → Fin 128 → Fin 128 → ℝ
  c : Fin 4 → Fin 128 → Fin 128 → ℝ
  x : Fin 4 → Fin 128 → Fin 512 → ℝ
  y : Fin 4 → Fin 128 → Fin 512 → ℝ
  z : Fin 4 → Fin 128 → Fin 512 → ℝ
  s : Fin 4 → Fin 128 → Fin 512 → ℝ
  k : Fin 4 → Fin 512 → ℝ
  t : Fin 128 → Fin 128 → ℝ
  tb : Fin 128 → ℝ
  al : Fin 128 → ℝ

/-- The softplus in the form computed. -/
def soft (r : ℝ) : ℝ := max r 0 + Real.log (1 + Real.exp (0 - |r|))

/-- The lane of a head, and the head of a column of a group. -/
def lane (h : Fin 32) : Fin 128 := ⟨h.val, by omega⟩
def headOf (g : Fin 4) (q : Fin 512) : Fin 32 := ⟨8 * g.val + q.val / 64, by omega⟩

namespace Vals
variable (R : Vals)
def step (i h : Fin 128) : ℝ := soft (R.t i h + R.tb h)
def acc (i h : Fin 128) : ℝ := ∑ j : Fin 128, if j ≤ i then R.step j h * (0 - Real.exp (R.al h)) else 0
def dec (h : Fin 32) (i j : Fin 128) : ℝ := if j ≤ i then Real.exp (R.acc i (lane h) - R.acc j (lane h)) else 0
def from' (g : Fin 4) (i : Fin 128) (q : Fin 512) : ℝ := Real.exp (R.acc i (lane (headOf g q)))
def to' (g : Fin 4) (i : Fin 128) (q : Fin 512) : ℝ := Real.exp (R.acc 127 (lane (headOf g q)) - R.acc i (lane (headOf g q)))
def stp (g : Fin 4) (i : Fin 128) (q : Fin 512) : ℝ := R.step i (lane (headOf g q))
def gram (g : Fin 4) (i j : Fin 128) : ℝ := ∑ n, R.c g i n * R.b g j n
def carry (g : Fin 4) (n : Fin 128) (q : Fin 512) : ℝ := R.from' g 127 q * R.s g n q + ∑ i, R.c g i n * (R.y g i q * R.from' g i q)
def gramGrad (g : Fin 4) (i j : Fin 128) : ℝ := ∑ q, R.y g i q * (R.x g j q * R.stp g j q) * R.dec (headOf g q) i j
def inp (g : Fin 4) (i : Fin 128) (q : Fin 512) : ℝ :=
  ((∑ l, R.gram g l i * R.dec (headOf g q) l i * R.y g l q) + (∑ n, R.b g i n * R.s g n q) * R.to' g i q) * R.stp g i q + R.k g q * R.y g i q
def row (g : Fin 4) (j n : Fin 128) : ℝ := (∑ q, R.x g j q * R.stp g j q * R.to' g j q * R.s g n q) + ∑ i, R.gramGrad g i j * R.c g i n
def out (g : Fin 4) (i n : Fin 128) : ℝ := (∑ q, R.y g i q * R.from' g i q * R.z g n q) + ∑ j, R.gramGrad g i j * R.b g j n
end Vals

/-- The real arrays of the whole call, by group, position and column. -/
structure Args where
  b : Fin 4 → Fin 8192 → Fin 128 → ℝ
  c : Fin 4 → Fin 8192 → Fin 128 → ℝ
  x : Fin 4 → Fin 8192 → Fin 512 → ℝ
  y : Fin 4 → Fin 8192 → Fin 512 → ℝ
  k : Fin 32 → ℝ
  t : Fin 8192 → Fin 32 → ℝ
  tb : Fin 32 → ℝ
  al : Fin 32 → ℝ

namespace Args
variable (A : Args)

/-- The step size, the decay of one step, its running sum, and that sum in front of chunk `c`. -/
def step (s : Fin 8192) (h : Fin 32) : ℝ := soft (A.t s h + A.tb h)
def rate (s : Fin 8192) (h : Fin 32) : ℝ := A.step s h * (0 - Real.exp (A.al h))
def tot (t : Fin 8192) (h : Fin 32) : ℝ := ∑ s : Fin 8192, if s ≤ t then A.rate s h else 0
def before (c : ℕ) (h : Fin 32) : ℝ := ∑ s : Fin 8192, if s.val < 128 * c then A.rate s h else 0
def dec (h : Fin 32) (t s : Fin 8192) : ℝ := if s ≤ t then Real.exp (A.tot t h - A.tot s h) else 0
def gram (g : Fin 4) (t s : Fin 8192) : ℝ := ∑ n, A.c g t n * A.b g s n
def gramGrad (g : Fin 4) (t s : Fin 8192) : ℝ := ∑ q, A.y g t q * (A.x g s q * A.step s (headOf g q)) * A.dec (headOf g q) t s

/-- The three gradients. -/
def inp (g : Fin 4) (s : Fin 8192) (q : Fin 512) : ℝ :=
  (∑ t, A.gram g t s * A.dec (headOf g q) t s * A.y g t q) * A.step s (headOf g q) + A.k (headOf g q) * A.y g s q
def row (g : Fin 4) (s : Fin 8192) (n : Fin 128) : ℝ := ∑ t, A.gramGrad g t s * A.c g t n
def out (g : Fin 4) (t : Fin 8192) (n : Fin 128) : ℝ := ∑ s, A.gramGrad g t s * A.b g s n

/-- The state in front of chunk `c`, and the gradient with respect to it. -/
def state (c : ℕ) (g : Fin 4) (n : Fin 128) (q : Fin 512) : ℝ :=
  ∑ s : Fin 8192, if s.val < 128 * c then Real.exp (A.before c (headOf g q) - A.tot s (headOf g q)) * (A.x g s q * A.step s (headOf g q)) * A.b g s n else 0
def grad (c : ℕ) (g : Fin 4) (n : Fin 128) (q : Fin 512) : ℝ :=
  ∑ t : Fin 8192, if 128 * c ≤ t.val then Real.exp (A.tot t (headOf g q) - A.before c (headOf g q)) * (A.c g t n * A.y g t q) else 0

/-- The position of row `i` of chunk `c`. -/
def at' (c : Fin 64) (i : Fin 128) : Fin 8192 := ⟨128 * c.val + i.val, by omega⟩

/-- What the grid point of chunk `c` works on. -/
def chunk (c : Fin 64) : Vals where
  b g i n := A.b g (at' c i) n
  c g i n := A.c g (at' c i) n
  x g i q := A.x g (at' c i) q
  y g i q := A.y g (at' c i) q
  z := A.state c.val
  s := A.grad (c.val + 1)
  k g q := A.k (headOf g q)
  t i h := if hh : h.val < 32 then A.t (at' c i) ⟨h.val, hh⟩ else 0
  tb h := if hh : h.val < 32 then A.tb ⟨h.val, hh⟩ else 0
  al h := if hh : h.val < 32 then A.al ⟨h.val, hh⟩ else 0

/-- A sum over all positions: the chunks in front, the chunk, the chunks after. -/
theorem sum_split (f : Fin 8192 → ℝ) (c : Fin 64) :
    ∑ s, f s = (∑ s : Fin 8192, if s.val < 128 * c.val then f s else 0) + (∑ i, f (at' c i)) + ∑ s : Fin 8192, if 128 * (c.val + 1) ≤ s.val then f s else 0 := by
  have mid : ∑ i, f (at' c i) = ∑ s : Fin 8192, if 128 * c.val ≤ s.val ∧ s.val < 128 * (c.val + 1) then f s else 0 := by
    rw [Cert.Sums.sum_blocks 64 128 8192 rfl, Finset.sum_eq_single c]
    · refine Finset.sum_congr rfl fun i _ => ?_
      rw [if_pos (by constructor <;> (dsimp only; omega))]
      rfl
    · intro a _ ha
      refine Finset.sum_eq_zero fun i _ => if_neg ?_
      have : a.val ≠ c.val := fun h => ha (Fin.ext h)
      dsimp only
      omega
    · exact fun h => absurd (Finset.mem_univ c) h
  rw [mid, ← Finset.sum_add_distrib, ← Finset.sum_add_distrib]
  refine Finset.sum_congr rfl fun s _ => ?_
  by_cases h1 : s.val < 128 * c.val
  · rw [if_pos h1, if_neg (by omega), if_neg (by omega)]; ring
  · by_cases h2 : s.val < 128 * (c.val + 1)
    · rw [if_neg h1, if_pos (by omega), if_neg (by omega)]; ring
    · rw [if_neg h1, if_neg (by omega), if_pos (by omega)]; ring

theorem chunk_step (c : Fin 64) (i : Fin 128) (h : Fin 32) : (A.chunk c).step i (lane h) = A.step (at' c i) h := by
  have hh : (lane h).val < 32 := h.isLt
  unfold Vals.step step chunk
  dsimp only
  rw [dif_pos hh, dif_pos hh]
  rfl

theorem tot_at (c : Fin 64) (i : Fin 128) (h : Fin 32) : A.tot (at' c i) h = A.before c.val h + (A.chunk c).acc i (lane h) := by
  have hh : (lane h).val < 32 := h.isLt
  unfold tot
  rw [sum_split _ c]
  have h3 : (∑ s : Fin 8192, if 128 * (c.val + 1) ≤ s.val then (if s ≤ at' c i then A.rate s h else 0) else 0) = 0 := by
    refine Finset.sum_eq_zero fun s _ => ?_
    by_cases hs : 128 * (c.val + 1) ≤ s.val
    · rw [if_pos hs, if_neg]
      rw [Fin.le_def]; unfold at'; dsimp only; omega
    · rw [if_neg hs]
  rw [h3, add_zero]
  refine congrArg₂ (· + ·) ?_ ?_
  · refine Finset.sum_congr rfl fun s _ => ?_
    by_cases hs : s.val < 128 * c.val
    · rw [if_pos hs, if_pos hs, if_pos]
      rw [Fin.le_def]; unfold at'; dsimp only; omega
    · rw [if_neg hs, if_neg hs]
  · unfold Vals.acc
    refine Finset.sum_congr rfl fun j _ => ?_
    rw [chunk_step]
    unfold rate
    have ha : (A.chunk c).al (lane h) = A.al h := by
      unfold chunk; dsimp only; rw [dif_pos hh]; rfl
    rw [ha]
    by_cases hj : j ≤ i
    · rw [if_pos hj, if_pos]
      rw [Fin.le_def] at hj ⊢; unfold at'; dsimp only; omega
    · rw [if_neg hj, if_neg]
      rw [Fin.le_def] at hj ⊢; unfold at'; dsimp only; omega

theorem before_succ (c : Fin 64) (h : Fin 32) : A.before (c.val + 1) h = A.before c.val h + (A.chunk c).acc 127 (lane h) := by
  rw [← tot_at]
  unfold before tot
  refine Finset.sum_congr rfl fun s _ => ?_
  have e : (s.val < 128 * (c.val + 1)) ↔ s ≤ at' c 127 := by
    rw [Fin.le_def]; unfold at'; show _ ↔ s.val ≤ 128 * c.val + 127; omega
  by_cases hs : s ≤ at' c 127
  · rw [if_pos hs, if_pos (e.2 hs)]
  · rw [if_neg hs, if_neg (fun k => hs (e.1 k))]

theorem chunk_dec (c : Fin 64) (h : Fin 32) (i j : Fin 128) : (A.chunk c).dec h i j = A.dec h (at' c i) (at' c j) := by
  unfold Vals.dec dec
  rw [tot_at, tot_at]
  have e : j ≤ i ↔ at' c j ≤ at' c i := by rw [Fin.le_def, Fin.le_def]; unfold at'; dsimp only; omega
  by_cases hj : j ≤ i
  · rw [if_pos hj, if_pos (e.1 hj)]; exact congrArg Real.exp (by ring)
  · rw [if_neg hj, if_neg (fun k => hj (e.2 k))]

theorem chunk_from (c : Fin 64) (g : Fin 4) (i : Fin 128) (q : Fin 512) :
    (A.chunk c).from' g i q = Real.exp (A.tot (at' c i) (headOf g q) - A.before c.val (headOf g q)) := by
  unfold Vals.from'; rw [tot_at]; exact congrArg Real.exp (by ring)

theorem chunk_to (c : Fin 64) (g : Fin 4) (i : Fin 128) (q : Fin 512) :
    (A.chunk c).to' g i q = Real.exp (A.before (c.val + 1) (headOf g q) - A.tot (at' c i) (headOf g q)) := by
  unfold Vals.to'; rw [tot_at, before_succ]; exact congrArg Real.exp (by ring)

theorem chunk_stp (c : Fin 64) (g : Fin 4) (i : Fin 128) (q : Fin 512) : (A.chunk c).stp g i q = A.step (at' c i) (headOf g q) := A.chunk_step c i _

theorem chunk_gramGrad (c : Fin 64) (g : Fin 4) (i j : Fin 128) : (A.chunk c).gramGrad g i j = A.gramGrad g (at' c i) (at' c j) := by
  unfold Vals.gramGrad gramGrad
  refine Finset.sum_congr rfl fun q _ => ?_
  rw [chunk_dec, chunk_stp]
  rfl

/-- A factor in front of a sum with a condition. -/
theorem mul_cond_sum (P : Fin 8192 → Prop) [DecidablePred P] (r : ℝ) (f : Fin 8192 → ℝ) :
    r * (∑ s, if P s then f s else 0) = ∑ s, if P s then r * f s else 0 := by
  rw [Finset.mul_sum]
  exact Finset.sum_congr rfl fun s _ => by rw [mul_ite, mul_zero]

theorem cond_congr {P : Fin 8192 → Prop} {hP : DecidablePred P} {f k : Fin 8192 → ℝ} (h : ∀ s, P s → f s = k s) :
    (∑ s, if P s then f s else 0) = ∑ s, if P s then k s else 0 :=
  Finset.sum_congr rfl fun s _ => by
    by_cases hs : P s
    · rw [if_pos hs, if_pos hs, h s hs]
    · rw [if_neg hs, if_neg hs]

/-- What a grid point leaves in the carried gradient. -/
theorem carry_chunk (c : Fin 64) (g : Fin 4) (n : Fin 128) (q : Fin 512) : (A.chunk c).carry g n q = A.grad c.val g n q := by
  unfold Vals.carry
  have hs : A.grad c.val g n q = _ := sum_split _ c
  have h1 : (∑ s : Fin 8192, if s.val < 128 * c.val then (if 128 * c.val ≤ s.val then Real.exp (A.tot s (headOf g q) - A.before c.val (headOf g q)) * (A.c g s n * A.y g s q) else 0) else 0) = 0 := by
    refine Finset.sum_eq_zero fun s _ => ?_
    by_cases h : s.val < 128 * c.val
    · rw [if_pos h, if_neg (by omega)]
    · rw [if_neg h]
  rw [hs, h1, zero_add, add_comm]
  refine congrArg₂ (· + ·) ?_ ?_
  · refine Finset.sum_congr rfl fun i _ => ?_
    rw [if_pos (by unfold at'; dsimp only; omega), chunk_from]
    show A.c g (at' c i) n * (A.y g (at' c i) q * _) = _
    ring
  · show _ * A.grad (c.val + 1) g n q = _
    unfold grad
    rw [mul_cond_sum]
    refine cond_congr (hP := _) fun s hs => ?_
    rw [if_pos (by omega), ← mul_assoc]
    refine congrArg (· * _) ?_
    unfold Vals.from'
    rw [← Real.exp_add, before_succ]
    exact congrArg Real.exp (by ring)

/-- The gradient of the inputs, row by row of a chunk. -/
theorem inp_chunk (c : Fin 64) (g : Fin 4) (i : Fin 128) (q : Fin 512) : (A.chunk c).inp g i q = A.inp g (at' c i) q := by
  unfold Vals.inp inp
  rw [chunk_stp, chunk_to]
  refine congrArg₂ (· + ·) (congrArg (· * _) ?_) rfl
  rw [sum_split (fun t => A.gram g t (at' c i) * A.dec (headOf g q) t (at' c i) * A.y g t q) c]
  have h1 : (∑ s : Fin 8192, if s.val < 128 * c.val then A.gram g s (at' c i) * A.dec (headOf g q) s (at' c i) * A.y g s q else 0) = 0 := by
    refine Finset.sum_eq_zero fun s _ => ?_
    by_cases h : s.val < 128 * c.val
    · rw [if_pos h]
      unfold dec
      rw [if_neg (by rw [Fin.le_def]; unfold at'; dsimp only; omega)]
      ring
    · rw [if_neg h]
  rw [h1, zero_add]
  refine congrArg₂ (· + ·) ?_ ?_
  · refine Finset.sum_congr rfl fun l _ => ?_
    rw [chunk_dec]
    rfl
  · rw [Finset.sum_mul]
    have e : ∀ n : Fin 128, (A.chunk c).b g i n * (A.chunk c).s g n q * Real.exp (A.before (c.val + 1) (headOf g q) - A.tot (at' c i) (headOf g q))
        = ∑ t : Fin 8192, if 128 * (c.val + 1) ≤ t.val then (A.c g t n * A.b g (at' c i) n) * (Real.exp (A.tot t (headOf g q) - A.tot (at' c i) (headOf g q)) * A.y g t q) else 0 := by
      intro n
      show A.b g (at' c i) n * A.grad (c.val + 1) g n q * _ = _
      unfold grad
      rw [mul_comm, ← mul_assoc, mul_cond_sum]
      refine cond_congr (hP := _) fun t _ => ?_
      have : Real.exp (A.tot t (headOf g q) - A.tot (at' c i) (headOf g q)) = Real.exp (A.before (c.val + 1) (headOf g q) - A.tot (at' c i) (headOf g q)) * Real.exp (A.tot t (headOf g q) - A.before (c.val + 1) (headOf g q)) := by
        rw [← Real.exp_add]; exact congrArg Real.exp (by ring)
      rw [this]; ring
    rw [Finset.sum_congr rfl fun n _ => e n, Finset.sum_comm]
    refine Finset.sum_congr rfl fun t _ => ?_
    by_cases ht : 128 * (c.val + 1) ≤ t.val
    · rw [if_pos ht, Finset.sum_congr rfl fun n _ => if_pos ht, ← Finset.sum_mul]
      unfold gram dec
      rw [if_pos (by rw [Fin.le_def]; unfold at'; dsimp only; omega)]
      ring
    · rw [if_neg ht, Finset.sum_congr rfl fun n _ => if_neg ht, Finset.sum_const_zero]

/-- The gradient of the rows `B`. -/
theorem row_chunk (c : Fin 64) (g : Fin 4) (i n : Fin 128) : (A.chunk c).row g i n = A.row g (at' c i) n := by
  unfold Vals.row row
  rw [sum_split (fun t => A.gramGrad g t (at' c i) * A.c g t n) c]
  have h1 : (∑ s : Fin 8192, if s.val < 128 * c.val then A.gramGrad g s (at' c i) * A.c g s n else 0) = 0 := by
    refine Finset.sum_eq_zero fun s _ => ?_
    by_cases h : s.val < 128 * c.val
    · rw [if_pos h]
      have : A.gramGrad g s (at' c i) = 0 := by
        refine Finset.sum_eq_zero fun q _ => ?_
        unfold dec
        rw [if_neg (by rw [Fin.le_def]; unfold at'; dsimp only; omega), mul_zero]
      rw [this, zero_mul]
    · rw [if_neg h]
  rw [h1, zero_add, add_comm]
  refine congrArg₂ (· + ·) ?_ ?_
  · exact Finset.sum_congr rfl fun l _ => by rw [chunk_gramGrad]; rfl
  · have e : ∀ q : Fin 512, (A.chunk c).x g i q * (A.chunk c).stp g i q * (A.chunk c).to' g i q * (A.chunk c).s g n q
        = ∑ t : Fin 8192, if 128 * (c.val + 1) ≤ t.val then A.y g t q * (A.x g (at' c i) q * A.step (at' c i) (headOf g q)) * Real.exp (A.tot t (headOf g q) - A.tot (at' c i) (headOf g q)) * A.c g t n else 0 := by
      intro q
      rw [chunk_stp, chunk_to]
      show A.x g (at' c i) q * _ * _ * A.grad (c.val + 1) g n q = _
      unfold grad
      rw [mul_cond_sum]
      refine cond_congr (hP := _) fun t _ => ?_
      have : Real.exp (A.tot t (headOf g q) - A.tot (at' c i) (headOf g q)) = Real.exp (A.before (c.val + 1) (headOf g q) - A.tot (at' c i) (headOf g q)) * Real.exp (A.tot t (headOf g q) - A.before (c.val + 1) (headOf g q)) := by
        rw [← Real.exp_add]; exact congrArg Real.exp (by ring)
      rw [this]; ring
    rw [Finset.sum_congr rfl fun q _ => e q, Finset.sum_comm]
    refine Finset.sum_congr rfl fun t _ => ?_
    by_cases ht : 128 * (c.val + 1) ≤ t.val
    · rw [if_pos ht, Finset.sum_congr rfl fun q _ => if_pos ht, ← Finset.sum_mul]
      unfold gramGrad dec
      refine congrArg (· * _) (Finset.sum_congr rfl fun q _ => ?_)
      rw [if_pos (show at' c i ≤ t by rw [Fin.le_def]; unfold at'; dsimp only; omega)]
    · rw [if_neg ht, Finset.sum_congr rfl fun q _ => if_neg ht, Finset.sum_const_zero]

/-- The gradient of the rows `C`. -/
theorem out_chunk (c : Fin 64) (g : Fin 4) (i n : Fin 128) : (A.chunk c).out g i n = A.out g (at' c i) n := by
  unfold Vals.out out
  rw [sum_split (fun s => A.gramGrad g (at' c i) s * A.b g s n) c]
  have h3 : (∑ s : Fin 8192, if 128 * (c.val + 1) ≤ s.val then A.gramGrad g (at' c i) s * A.b g s n else 0) = 0 := by
    refine Finset.sum_eq_zero fun s _ => ?_
    by_cases h : 128 * (c.val + 1) ≤ s.val
    · rw [if_pos h]
      have : A.gramGrad g (at' c i) s = 0 := by
        refine Finset.sum_eq_zero fun q _ => ?_
        unfold dec
        rw [if_neg (by rw [Fin.le_def]; unfold at'; dsimp only; omega), mul_zero]
      rw [this, zero_mul]
    · rw [if_neg h]
  rw [h3, add_zero]
  refine congrArg₂ (· + ·) ?_ ?_
  · have e : ∀ q : Fin 512, (A.chunk c).y g i q * (A.chunk c).from' g i q * (A.chunk c).z g n q
        = ∑ s : Fin 8192, if s.val < 128 * c.val then A.y g (at' c i) q * (A.x g s q * A.step s (headOf g q)) * Real.exp (A.tot (at' c i) (headOf g q) - A.tot s (headOf g q)) * A.b g s n else 0 := by
      intro q
      rw [chunk_from]
      show A.y g (at' c i) q * _ * A.state c.val g n q = _
      unfold state
      rw [mul_cond_sum]
      refine cond_congr (hP := _) fun s _ => ?_
      have : Real.exp (A.tot (at' c i) (headOf g q) - A.tot s (headOf g q)) = Real.exp (A.tot (at' c i) (headOf g q) - A.before c.val (headOf g q)) * Real.exp (A.before c.val (headOf g q) - A.tot s (headOf g q)) := by
        rw [← Real.exp_add]; exact congrArg Real.exp (by ring)
      rw [this]; ring
    rw [Finset.sum_congr rfl fun q _ => e q, Finset.sum_comm]
    refine Finset.sum_congr rfl fun s _ => ?_
    by_cases hs : s.val < 128 * c.val
    · rw [if_pos hs, Finset.sum_congr rfl fun q _ => if_pos hs, ← Finset.sum_mul]
      unfold gramGrad dec
      refine congrArg (· * _) (Finset.sum_congr rfl fun q _ => ?_)
      rw [if_pos (show s ≤ at' c i by rw [Fin.le_def]; unfold at'; dsimp only; omega)]
    · rw [if_neg hs, Finset.sum_congr rfl fun q _ => if_neg hs, Finset.sum_const_zero]
  · exact Finset.sum_congr rfl fun j _ => by rw [chunk_gramGrad]; rfl

theorem grad_end (g : Fin 4) (n : Fin 128) (q : Fin 512) : A.grad 64 g n q = 0 :=
  Finset.sum_eq_zero fun t _ => if_neg (by omega)

end Args

end Cert.Ssd

end
-- ==== Proof.ChunkReal.lean ====
/- The arithmetic of one grid point on arrays of reals. -/
module

public import proofs.«01_k».proof.Proof.Pieces
public import proofs.«01_k».proof.Proof.Tables
public import Idealize.ShloMosaic.Lib.IdealHost

@[expose] public section

set_option maxRecDepth 16384

noncomputable section

open Idealize.ShloMosaic Idealize.ShloMosaic.TcCoe

namespace Cert.KernelSsdIdeal.Chunk

open Cert.KernelSsdIdeal Cert.KernelSsdIdeal.Gen Cert.Lift Cert.Ssd

/-- The loaded arrays have these entries, and the two tables spread a head over 64 and over 128 columns. -/
structure Reads (L : Loads Ideal) (R : Vals) : Prop where
  b : ∀ g, Is (L.b g) (R.b g)
  c : ∀ g, Is (L.c g) (R.c g)
  x : ∀ g, Is (L.x g) (R.x g)
  y : ∀ g, Is (L.y g) (R.y g)
  z : ∀ g, Is (L.z g) (R.z g)
  s : ∀ g, Is (L.s g) (R.s g)
  k : ∀ g, Is (L.k g) (fun _ => R.k g)
  t : Is L.t R.t
  tb : Is L.tb (fun _ => R.tb)
  al : Is L.al (fun _ => R.al)
  e : Is L.e (fun k j => if j.val / 64 = k.val then 1 else 0)
  w : Is L.w (fun k j => if j.val / 128 = k.val then 1 else 0)

variable {L : Loads Ideal} {R : Vals}

theorem zero_f32 : (Scalar.ofBits (F := Ideal) .f32 0x00000000#32 : EReal) = ((0 : ℝ) : EReal) := by rw [EReal.coe_zero]; exact Ideal.ofBits_zero_f32
theorem zero_bf16 : (Scalar.ofBits (F := Ideal) .bf16 0x0000#16 : EReal) = ((0 : ℝ) : EReal) := by rw [EReal.coe_zero]; exact Ideal.ofBits_zero_bf16
theorem one_f32 : (Scalar.ofBits (F := Ideal) .f32 0x3F800000#32 : EReal) = ((1 : ℝ) : EReal) := by rw [EReal.coe_one]; exact Ideal.ofBits_one_f32
theorem mask_eq : (Named.named (F := Ideal) κ "mask" (φ := .f32) 0xF149F2CA#32 : EReal) = ⊥ :=
  by simp [Named.named, κ]
theorem const0 (S : Shape) (i : S.Idx) : constant (F := Ideal) S .f32 0x00000000#32 i = (0 : EReal) := Ideal.ofBits_zero_f32

theorem causal_apply : ∀ i j : Fin 128, causalV (ix2 i j) = if j ≤ i then 1#1 else 0#1 := by decide +kernel
theorem first_apply : ∀ i j : Fin 128, firstV (ix2 i j) = if j.val < 64 then 1#1 else 0#1 := by decide +kernel

theorem is_step (H : Reads L R) : Is L.step R.step := by
  have hz := (H.t.add (H.tb.rows broadcasts_S1x128_S128x128))
  have h0 := Is.const (m := 128) (n := 128) 0 _ zero_f32
  have h1 := Is.const (m := 128) (n := 128) 1 _ one_f32
  exact (hz.max h0).add ((h1.add (h0.sub hz.abs).exp).log fun i j => by positivity)

theorem is_rate (H : Reads L R) : Is (rateV L.al) (fun _ h => 0 - Real.exp (R.al h)) :=
  (Is.const (m := 1) (n := 128) 0 _ zero_f32).sub H.al.exp

theorem is_acc (H : Reads L R) : Is L.acc R.acc := by
  have hm : Is (m := 128) (n := 128) (sitofp (F := Ideal) .f32 (extui 32 causalV natLt_1_32)) (fun i j => if j ≤ i then 1 else 0) := fun i j => by
    show (((BitVec.setWidth 32 (causalV (ix2 i j))).toInt : ℝ) : EReal) = _
    rw [causal_apply]
    beta_reduce
    by_cases h : j ≤ i
    · rw [if_pos h, if_pos h]; norm_num
    · rw [if_neg h, if_neg h]; norm_num
  refine (Is.dot_nn dot_S128x128_S128x128_S128x128_1_0_0_1_n_n rfl hm ((is_step H).mul ((is_rate H).rows broadcasts_S1x128_S128x128)) (const0 S128x128)).congr fun i h => ?_
  unfold Vals.acc
  exact Finset.sum_congr rfl fun j _ => by by_cases hj : j ≤ i <;> simp [hj]

theorem sum_spread {N B : ℕ} (f : Fin 128 → ℝ) (j : Fin N) (k : Fin 128) (hk : j.val / B = k.val) : ∑ q : Fin 128, f q * (if j.val / B = q.val then 1 else 0) = f k := by
  rw [Finset.sum_eq_single k (fun q _ hq => by rw [if_neg fun h => hq (Fin.ext (h.symm.trans hk)), mul_zero]) (fun h => absurd (Finset.mem_univ k) h), if_pos hk, mul_one]

theorem is_once {v : Vec Ideal S128x128 .f32} {V : Fin 128 → Fin 128 → ℝ} (hv : Is v V) (H : Reads L R) :
    Is (onceV v L.e) (fun i j => V i ⟨j.val / 64, by omega⟩) :=
  (Is.dot_nn dot_S128x128_S128x2048_S128x2048_1_0_0_1_n_n rfl hv H.e (const0 S128x2048)).congr fun i j => sum_spread (V i) j ⟨j.val / 64, by omega⟩ rfl

theorem is_rest {v : Vec Ideal S128x128 .f32} {V : Fin 128 → Fin 128 → ℝ} (hv : Is v V) : Is (restV v) (fun _ _ => 0) :=
  (hv.sub hv).congr fun i j => sub_self _

theorem is_twice {v : Vec Ideal S128x128 .f32} {V : Fin 128 → Fin 128 → ℝ} (hv : Is v V) (H : Reads L R) :
    Is (twiceV v L.e) (fun i j => V i ⟨j.val / 64, by omega⟩) :=
  ((is_once hv H).add (Is.dot_nn dot_S128x128_S128x2048_S128x2048_1_0_0_1_n_n rfl (is_rest hv) H.e (const0 S128x2048))).congr fun i j => by simp

theorem is_wide {v : Vec Ideal S128x128 .f32} {V : Fin 128 → Fin 128 → ℝ} (hv : Is v V) (H : Reads L R) :
    Is (wideV v L.w) (fun i j => V i ⟨j.val / 128, by omega⟩) :=
  ((Is.dot_nn dot_S128x128_S128x4096_S128x4096_1_0_0_1_n_n rfl hv H.w (const0 S128x4096)).add
    (Is.dot_nn dot_S128x128_S128x4096_S128x4096_1_0_0_1_n_n rfl (is_rest hv) H.w (const0 S128x4096))).congr fun i j => by
    rw [sum_spread (V i) j ⟨j.val / 128, by omega⟩ rfl]; simp

theorem is_toEnd {v : Vec Ideal S128x128 .f32} {V : Fin 128 → Fin 128 → ℝ} (hv : Is v V) : Is (toEndV v) (fun i h => Real.exp (V 127 h - V i h)) :=
  (((hv.row 127 slices_S128x128_o127_0_S1x128 127 rfl).rows broadcasts_S1x128_S128x128).sub hv).exp

theorem is_pick {v : Vec Ideal S128x2048 .f32} {V : Fin 128 → Fin 2048 → ℝ} (hv : Is v V) (g : Fin 4) :
    Is (pickV g v) (fun i q => V i ⟨512 * g.val + q.val, by omega⟩) :=
  hv.cols (512 * g.val) (groupCols g) (fun q => ⟨512 * g.val + q.val, by omega⟩) fun _ => rfl

theorem is_stepE (H : Reads L R) (g : Fin 4) : Is (pickV g L.stepE) (R.stp g) :=
  (is_pick (is_once (is_step H) H) g).congr fun i q => by
    show R.step i _ = R.step i _; congr 1; apply Fin.ext; show (512 * g.val + q.val) / 64 = 8 * g.val + q.val / 64; omega
theorem is_fromE (H : Reads L R) (g : Fin 4) : Is (pickV g L.fromE) (R.from' g) :=
  (is_pick (is_twice (is_acc H).exp H) g).congr fun i q => by
    show Real.exp (R.acc i _) = Real.exp (R.acc i _); congr 2; apply Fin.ext; show (512 * g.val + q.val) / 64 = 8 * g.val + q.val / 64; omega
theorem is_toE (H : Reads L R) (g : Fin 4) : Is (pickV g L.toE) (R.to' g) :=
  (is_pick (is_once (is_toEnd (is_acc H)) H) g).congr fun i q => by
    have e : (⟨(512 * g.val + q.val) / 64, by omega⟩ : Fin 128) = lane (headOf g q) := by
      apply Fin.ext; show (512 * g.val + q.val) / 64 = 8 * g.val + q.val / 64; omega
    show Real.exp (R.acc 127 ⟨(512 * g.val + q.val) / 64, _⟩ - R.acc i ⟨(512 * g.val + q.val) / 64, _⟩) = _
    rw [e]; rfl

theorem is_decay (H : Reads L R) (g : Fin 4) (h : Fin 8) : Is (L.decay g h) (R.dec ⟨8 * g.val + h.val, by omega⟩) := by
  have hh : 8 * g.val + h.val < 32 := by omega
  have hs := (((is_wide (is_acc H) H).cols (n := 128) (128 * (8 * g.val + h.val)) (headCols ⟨_, hh⟩) (fun q => ⟨128 * (8 * g.val + h.val) + q.val, by omega⟩) fun _ => rfl).sub
    ((((is_acc H).transpose transposes_S128x128_p1_0_S128x128 (fun i j => by funext a; match a with | ⟨0, _⟩ => rfl | ⟨1, _⟩ => rfl)).row (8 * g.val + h.val) (headRow ⟨_, hh⟩) ⟨8 * g.val + h.val, by omega⟩ rfl).rows broadcasts_S1x128_S128x128))
  intro i j
  have hij := hs i j
  unfold Loads.decay decayV
  show Ideal.exp (Scalar.select (causalV (ix2 i j)) _ (Named.named (F := Ideal) κ "mask" (φ := .f32) 0xF149F2CA#32 : EReal)) = _
  rw [causal_apply]
  unfold Vals.dec Scalar.select
  by_cases hl : j ≤ i
  · rw [if_pos hl, if_pos hl, if_pos (show (1#1 : BitVec 1) = 1 from rfl)]
    refine (congrArg Ideal.exp hij).trans ?_
    rw [Ideal.exp_coe]
    dsimp only
    have e : (⟨(128 * (8 * g.val + h.val) + j.val) / 128, by omega⟩ : Fin 128) = lane ⟨8 * g.val + h.val, hh⟩ := by
      apply Fin.ext; show (128 * (8 * g.val + h.val) + j.val) / 128 = 8 * g.val + h.val; omega
    rw [e]; rfl
  · rw [if_neg hl, if_neg hl, if_neg (show ¬(0#1 : BitVec 1) = 1 by decide), mask_eq, Ideal.exp_bot]; rfl

theorem is_gram (H : Reads L R) (g : Fin 4) : Is (gramV (L.b g) (L.c g)) (R.gram g) :=
  Is.dot_nt dot_S128x128_S128x128_S128x128_1_1_0_0_n_n rfl (H.c g) (H.b g) (const0 S128x128)

theorem is_times {x : Vec Ideal S128x512 .bf16} {X : Fin 128 → Fin 512 → ℝ} (hx : Is x X) (g : Fin 4) {e : Vec Ideal S128x2048 .f32} {E : Fin 128 → Fin 512 → ℝ} (he : Is (pickV g e) E) :
    Is (timesV g x e) (fun i q => X i q * E i q) := hx.mul he

theorem is_apart {v : Vec Ideal S128x128 .bf16} {V : Fin 128 → Fin 128 → ℝ} (hv : Is v V) :
    Is (apartV v) (fun r s => Fin.addCases (m := 128) (n := 128) (motive := fun _ => ℝ) (fun i => if s.val < 64 then V i s else 0) (fun i => if s.val < 64 then 0 else V i s) r) := by
  refine Is.stack (A := fun i s => if s.val < 64 then V i s else 0) (B := fun i s => if s.val < 64 then 0 else V i s) (fun i j => ?_) (fun i j => ?_) concatenates_S128x128_S128x128_S256x128_d0
  · show Scalar.select (firstV (ix2 i j)) (v (ix2 i j) : EReal) (Scalar.ofBits (F := Ideal) .bf16 0x0000#16 : EReal) = _
    rw [first_apply, hv i j, zero_bf16]; unfold Scalar.select; beta_reduce
    by_cases h : j.val < 64
    · rw [if_pos h, if_pos h, if_pos (show (1#1 : BitVec 1) = 1 from rfl)]
    · rw [if_neg h, if_neg h, if_neg (show ¬(0#1 : BitVec 1) = 1 by decide)]
  · show Scalar.select (firstV (ix2 i j)) (Scalar.ofBits (F := Ideal) .bf16 0x0000#16 : EReal) (v (ix2 i j) : EReal) = _
    rw [first_apply, hv i j, zero_bf16]; unfold Scalar.select; beta_reduce
    by_cases h : j.val < 64
    · rw [if_pos h, if_pos h, if_pos (show (1#1 : BitVec 1) = 1 from rfl)]
    · rw [if_neg h, if_neg h, if_neg (show ¬(0#1 : BitVec 1) = 1 by decide)]

theorem is_pair {v : Vec Ideal S128x512 .bf16} {V : Fin 128 → Fin 512 → ℝ} (hv : Is v V) (p : Fin 4) :
    Is (pairV p v) (fun i s => V i ⟨128 * p.val + s.val, by omega⟩) :=
  hv.cols (128 * p.val) (pairCols p) (fun s => ⟨128 * p.val + s.val, by omega⟩) fun _ => rfl

theorem is_later {m l k : Vec Ideal S128x128 .f32} {M A B : Fin 128 → Fin 128 → ℝ} (hm : Is m M) (hl : Is l A) (hk : Is k B)
    {y : Vec Ideal S128x128 .bf16} {Y : Fin 128 → Fin 128 → ℝ} (hy : Is y Y) :
    Is (laterV m l k y) (fun i s => ∑ r, M r i * (if s.val < 64 then A r i else B r i) * Y r s) := by
  have h1 := Is.stack (hm.mul hl) (hm.mul hk) concatenates_S128x128_S128x128_S256x128_d0
  refine (Is.dot_tn dot_S256x128_S256x128_S128x128_0_0_1_1_n_n (fun i j => by pointwise) h1 (is_apart hy) (const0 S128x128)).congr fun i s => ?_
  rw [Fin.sum_univ_add (a := 128) (b := 128)]
  simp only [Fin.addCases_left, Fin.addCases_right]
  rw [← Finset.sum_add_distrib]
  refine Finset.sum_congr rfl fun r _ => ?_
  by_cases h : s.val < 64 <;> simp [h]

theorem is_scores {y x : Vec Ideal S128x128 .bf16} {Y X : Fin 128 → Fin 128 → ℝ} (hy : Is y Y) (hx : Is x X) :
    Is (scoresV y x) (fun i r => ∑ s, Y i s * Fin.addCases (m := 128) (n := 128) (motive := fun _ => ℝ) (fun j => if s.val < 64 then X j s else 0) (fun j => if s.val < 64 then 0 else X j s) r) :=
  Is.dot_nt dot_S128x128_S256x128_S128x256_1_1_0_0_n_n rfl hy (is_apart hx) (const0 S128x256)

theorem is_addPair {d l k : Vec Ideal S128x128 .f32} {D A B : Fin 128 → Fin 128 → ℝ} (hd : Is d D) (hl : Is l A) (hk : Is k B)
    {y x : Vec Ideal S128x128 .bf16} {Y X : Fin 128 → Fin 128 → ℝ} (hy : Is y Y) (hx : Is x X) :
    Is (addPairV d l k y x) (fun i j => D i j + ∑ s, Y i s * X j s * (if s.val < 64 then A i j else B i j)) := by
  refine ((hd.add (((is_scores hy hx).cols 0 slices_S128x256_o0_0_S128x128 (fun j => Fin.castAdd 128 j) fun j => by show j.val = 0 + j.val; omega).mul hl)).add
    (((is_scores hy hx).cols 128 slices_S128x256_o0_128_S128x128 (fun j => Fin.natAdd 128 j) fun j => rfl).mul hk)).congr fun i j => ?_
  simp only [Fin.addCases_left, Fin.addCases_right]
  rw [Finset.sum_mul, Finset.sum_mul, add_assoc, ← Finset.sum_add_distrib]
  congr 1
  refine Finset.sum_congr rfl fun s _ => ?_
  by_cases h : s.val < 64 <;> simp [h]

theorem sum_four (f : Fin 512 → ℝ) : ∑ q, f q = (∑ s : Fin 128, f ⟨s.val, by omega⟩) + (∑ s : Fin 128, f ⟨128 + s.val, by omega⟩)
    + (∑ s : Fin 128, f ⟨256 + s.val, by omega⟩) + ∑ s : Fin 128, f ⟨384 + s.val, by omega⟩ := by
  rw [Fin.sum_univ_add (a := 384) (b := 128), Fin.sum_univ_add (a := 256) (b := 128), Fin.sum_univ_add (a := 128) (b := 128)]
  rfl

theorem is_gramGrad (H : Reads L R) (g : Fin 4) {x : Vec Ideal S128x512 .bf16} (hx : Is x (fun j q => R.x g j q * R.stp g j q)) :
    Is (gramGradV (L.decay g) (L.y g) x) (R.gramGrad g) := by
  have hy := H.y g
  refine (is_addPair (is_addPair (is_addPair (is_addPair (Is.const (m := 128) (n := 128) 0 _ zero_f32)
    (is_decay H g 0) (is_decay H g 1) (is_pair hy 0) (is_pair hx 0)) (is_decay H g 2) (is_decay H g 3) (is_pair hy 1) (is_pair hx 1))
    (is_decay H g 4) (is_decay H g 5) (is_pair hy 2) (is_pair hx 2)) (is_decay H g 6) (is_decay H g 7) (is_pair hy 3) (is_pair hx 3)).congr fun i j => ?_
  unfold Vals.gramGrad
  rw [sum_four, zero_add]
  have key : ∀ (p : Fin 4) (a b : Fin 8) (ha : a.val = 2 * p.val) (hb : b.val = 2 * p.val + 1) (s : Fin 128),
      (if s.val < 64 then R.dec ⟨8 * g.val + a.val, by omega⟩ i j else R.dec ⟨8 * g.val + b.val, by omega⟩ i j) = R.dec (headOf g ⟨128 * p.val + s.val, by omega⟩) i j := by
    intro p a b ha hb s
    by_cases h : s.val < 64
    · rw [if_pos h]; congr 1; apply Fin.ext; show 8 * g.val + a.val = 8 * g.val + (128 * p.val + s.val) / 64; omega
    · rw [if_neg h]; congr 1; apply Fin.ext; show 8 * g.val + b.val = 8 * g.val + (128 * p.val + s.val) / 64; omega
  have part : ∀ (p : Fin 4) (a b : Fin 8) (ha : a.val = 2 * p.val) (hb : b.val = 2 * p.val + 1) (o : ℕ) (ho : o = 128 * p.val),
      (∑ s : Fin 128, R.y g i ⟨128 * p.val + s.val, by omega⟩ * (R.x g j ⟨128 * p.val + s.val, by omega⟩ * R.stp g j ⟨128 * p.val + s.val, by omega⟩)
        * (if s.val < 64 then R.dec ⟨8 * g.val + a.val, by omega⟩ i j else R.dec ⟨8 * g.val + b.val, by omega⟩ i j))
      = ∑ s : Fin 128, R.y g i ⟨o + s.val, by omega⟩ * (R.x g j ⟨o + s.val, by omega⟩ * R.stp g j ⟨o + s.val, by omega⟩) * R.dec (headOf g ⟨o + s.val, by omega⟩) i j := by
    intro p a b ha hb o ho
    subst ho
    exact Finset.sum_congr rfl fun s _ => by rw [key p a b ha hb s]
  have e0 := part 0 0 1 rfl rfl 0 rfl
  have e1 := part 1 2 3 rfl rfl 128 rfl
  have e2 := part 2 4 5 rfl rfl 256 rfl
  have e3 := part 3 6 7 rfl rfl 384 rfl
  simp only [Nat.zero_add] at e0
  refine congrArg₂ (· + ·) (congrArg₂ (· + ·) (congrArg₂ (· + ·) e0 e1) e2) e3

theorem is_carry (H : Reads L R) (g : Fin 4) : Is (L.carry g) (R.carry g) := by
  unfold Loads.carry carryV
  rw [shapeCast_self]
  exact ((((is_fromE H g).row 127 slices_S128x512_o127_0_S1x512 127 rfl).rows broadcasts_S1x512_S128x512).mul (H.s g)).add
    (Is.dot_tn dot_S128x128_S128x512_S128x512_0_0_1_1_n_n (fun i j => by pointwise) (H.c g) (is_times (H.y g) g (is_fromE H g)) (const0 S128x512))

theorem is_out (H : Reads L R) (g : Fin 4) : Is (L.out g) (R.out g) :=
  (Is.dot_nt dot_S128x512_S128x512_S128x128_1_1_0_0_n_n rfl (is_times (H.y g) g (is_fromE H g)) (H.z g) (const0 S128x128)).add
    (Is.dot_nn dot_S128x128_S128x128_S128x128_1_0_0_1_n_n rfl (is_gramGrad H g (is_times (H.x g) g (is_stepE H g))) (H.b g) (const0 S128x128))

theorem is_row (H : Reads L R) (g : Fin 4) : Is (L.row g) (R.row g) :=
  (Is.dot_nt dot_S128x512_S128x512_S128x128_1_1_0_0_n_n rfl ((is_times (H.x g) g (is_stepE H g)).mul (is_toE H g)) (H.s g) (const0 S128x128)).add
    (Is.dot_tn dot_S128x128_S128x128_S128x128_0_0_1_1_n_n (fun i j => by pointwise) (is_gramGrad H g (is_times (H.x g) g (is_stepE H g))) (H.c g) (const0 S128x128))

theorem is_inp (H : Reads L R) (g : Fin 4) : Is (L.inp g) (R.inp g) := by
  have hy := H.y g
  have hb := Is.beside (p := fun p => match p with
      | 0 => laterV (gramV (L.b g) (L.c g)) (L.decay g 0) (L.decay g 1) (pairV 0 (L.y g)) | 1 => laterV (gramV (L.b g) (L.c g)) (L.decay g 2) (L.decay g 3) (pairV 1 (L.y g))
      | 2 => laterV (gramV (L.b g) (L.c g)) (L.decay g 4) (L.decay g 5) (pairV 2 (L.y g)) | 3 => laterV (gramV (L.b g) (L.c g)) (L.decay g 6) (L.decay g 7) (pairV 3 (L.y g)))
    (P := fun p i s => ∑ r, R.gram g r i * (if s.val < 64 then R.dec ⟨8 * g.val + 2 * p.val, by omega⟩ r i else R.dec ⟨8 * g.val + (2 * p.val + 1), by omega⟩ r i) * R.y g r ⟨128 * p.val + s.val, by omega⟩)
    (fun p => match p with
      | 0 => is_later (is_gram H g) (is_decay H g 0) (is_decay H g 1) (is_pair hy 0) | 1 => is_later (is_gram H g) (is_decay H g 2) (is_decay H g 3) (is_pair hy 1)
      | 2 => is_later (is_gram H g) (is_decay H g 4) (is_decay H g 5) (is_pair hy 2) | 3 => is_later (is_gram H g) (is_decay H g 6) (is_decay H g 7) (is_pair hy 3))
    concatenates_S128x128_S128x128_S128x128_S128x128_S128x512_d1
  have hb' := hb.congr (W := fun i q => ∑ l, R.gram g l i * R.dec (headOf g q) l i * R.y g l q) fun i q => by
    refine Finset.sum_congr rfl fun r _ => ?_
    dsimp only
    have e : (⟨128 * (q.val / 128) + q.val % 128, by omega⟩ : Fin 512) = q := Fin.ext (by show 128 * (q.val / 128) + q.val % 128 = q.val; omega)
    rw [e]
    congr 2
    by_cases h : q.val % 128 < 64
    · rw [if_pos h]; congr 1; apply Fin.ext; show 8 * g.val + 2 * (q.val / 128) = 8 * g.val + q.val / 64; omega
    · rw [if_neg h]; congr 1; apply Fin.ext; show 8 * g.val + (2 * (q.val / 128) + 1) = 8 * g.val + q.val / 64; omega
  exact ((hb'.add ((Is.dot_nn dot_S128x128_S128x512_S128x512_1_0_0_1_n_n rfl (H.b g) (H.s g) (const0 S128x512)).mul (is_toE H g))).mul (is_stepE H g)).add
    (((H.k g).rows broadcasts_S1x512_S128x512).mul hy)

end Cert.KernelSsdIdeal.Chunk

end
-- ==== Proof.ReadBack.lean ====
/- What a grid point leaves, cell by cell, on arrays of reals. -/
module

public import proofs.«01_k».proof.Proof.ChunkReal

@[expose] public section

set_option maxRecDepth 16384

noncomputable section

open Idealize.ShloMosaic Idealize.ShloMosaic.TcCoe Idealize.SL.Sem

namespace Cert.KernelSsdIdeal.Chunk

open Cert.KernelSsdIdeal Cert.KernelSsdIdeal.Gen Cert.Lift Cert.Ssd

section
variable {W : ℕ} {e : EltTy}

/-- Under the last store of some columns, the contents are what was stored; -/
theorem canon_here (o n : ℕ) (h : ∀ a, (![0, o] : Fin 2 → Nat) a + (![128, n] : Fin 2 → Nat) a ≤ (⟨2, ![128, W]⟩ : Shape).size a)
    (w : (⟨2, ![128, n]⟩ : Shape).Idx → Elt Ideal e) (T : List (View.Piece (Elt Ideal) ⟨2, ![128, W]⟩ e)) (i : Fin 128) (j : Fin n) (k : Fin W) (hk : k.val = o + j.val) :
    View.canon (Val := Elt Ideal) (⟨Rect.unit (s := ⟨2, ![128, W]⟩) ![0, o] ![128, n] h, w⟩ :: T) (ix2 i k) = w (ix2 i j) := by
  have he : ix2 i k = (Rect.unit (s := ⟨2, ![128, W]⟩) ![0, o] ![128, n] h).emb (ix2 i j) := by
    funext a
    apply Fin.ext
    match a with
    | ⟨0, _⟩ => show i.val = 0 + 1 * i.val; omega
    | ⟨1, _⟩ => show k.val = o + 1 * j.val; omega
  rw [he]
  exact View.canon_cons_emb _ _ _ _

/-- beside it, what was stored earlier. -/
theorem canon_beside (o n : ℕ) (h : ∀ a, (![0, o] : Fin 2 → Nat) a + (![128, n] : Fin 2 → Nat) a ≤ (⟨2, ![128, W]⟩ : Shape).size a)
    (w : (⟨2, ![128, n]⟩ : Shape).Idx → Elt Ideal e) (T : List (View.Piece (Elt Ideal) ⟨2, ![128, W]⟩ e)) (i : Fin 128) (k : Fin W) (hk : k.val < o ∨ o + n ≤ k.val) :
    View.canon (Val := Elt Ideal) (⟨Rect.unit (s := ⟨2, ![128, W]⟩) ![0, o] ![128, n] h, w⟩ :: T) (ix2 i k) = View.canon (Val := Elt Ideal) T (ix2 i k) := by
  refine View.canon_cons_of_not_mem _ _ fun hm => ?_
  have h1 := (Rect.mem_set_unit (s := ⟨2, ![128, W]⟩) (off := ![0, o]) (size := ![128, n]) (inb := h) (i := ix2 i k)).1 hm 1
  have h2 : o ≤ k.val ∧ k.val < o + n := h1
  omega
end

variable (L : Loads Ideal)

theorem beside_C (g : Fin 4) (w : Vec Ideal S128x128 .bf16) (T : List (View.Piece (Elt Ideal) S128x3072 .bf16)) (i : Fin 128) (k : Fin 3072) (hk : k.val < 2560 + 128 * g.val ∨ 2560 + 128 * g.val + 128 ≤ k.val) :
    View.canon (Val := Elt Ideal) (⟨rC g, w⟩ :: T) (ix2 i k) = View.canon (Val := Elt Ideal) T (ix2 i k) := canon_beside _ _ (inC g) w T i k hk
theorem beside_B (g : Fin 4) (w : Vec Ideal S128x128 .bf16) (T : List (View.Piece (Elt Ideal) S128x3072 .bf16)) (i : Fin 128) (k : Fin 3072) (hk : k.val < 2048 + 128 * g.val ∨ 2048 + 128 * g.val + 128 ≤ k.val) :
    View.canon (Val := Elt Ideal) (⟨rB g, w⟩ :: T) (ix2 i k) = View.canon (Val := Elt Ideal) T (ix2 i k) := canon_beside _ _ (inB g) w T i k hk
theorem beside_X (g : Fin 4) (w : Vec Ideal S128x512 .bf16) (T : List (View.Piece (Elt Ideal) S128x3072 .bf16)) (i : Fin 128) (k : Fin 3072) (hk : k.val < 512 * g.val ∨ 512 * g.val + 512 ≤ k.val) :
    View.canon (Val := Elt Ideal) (⟨rX g, w⟩ :: T) (ix2 i k) = View.canon (Val := Elt Ideal) T (ix2 i k) := canon_beside _ _ (inX g) w T i k hk
theorem beside_Y (g : Fin 4) (w : Vec Ideal S128x512 .f32) (T : List (View.Piece (Elt Ideal) S128x2048 .f32)) (i : Fin 128) (k : Fin 2048) (hk : k.val < 512 * g.val ∨ 512 * g.val + 512 ≤ k.val) :
    View.canon (Val := Elt Ideal) (⟨rY g, w⟩ :: T) (ix2 i k) = View.canon (Val := Elt Ideal) T (ix2 i k) := canon_beside _ _ (inY g) w T i k hk

/-- A cell outside the columns of a group keeps what the stores of the others left. -/
theorem group_beside (g : Fin 4) (T : List (View.Piece (Elt Ideal) S128x3072 .bf16)) (i : Fin 128) (k : Fin 3072)
    (hC : k.val < 2560 + 128 * g.val ∨ 2560 + 128 * g.val + 128 ≤ k.val) (hB : k.val < 2048 + 128 * g.val ∨ 2048 + 128 * g.val + 128 ≤ k.val) (hX : k.val < 512 * g.val ∨ 512 * g.val + 512 ≤ k.val) :
    View.canon (Val := Elt Ideal) (L.group g ++ T) (ix2 i k) = View.canon (Val := Elt Ideal) T (ix2 i k) := by
  show View.canon (Val := Elt Ideal) (⟨rC g, L.out g⟩ :: ⟨rB g, L.row g⟩ :: ⟨rX g, L.inp g⟩ :: T) (ix2 i k) = _
  rw [beside_C g _ _ i k hC, beside_B g _ _ i k hB, beside_X g _ _ i k hX]

theorem group_out (g : Fin 4) (T : List (View.Piece (Elt Ideal) S128x3072 .bf16)) (i n : Fin 128) :
    View.canon (Val := Elt Ideal) (L.group g ++ T) (ix2 i ⟨2560 + 128 * g.val + n.val, by omega⟩) = L.out g (ix2 i n) :=
  canon_here _ _ (inC g) _ _ i n _ rfl
theorem group_row (g : Fin 4) (T : List (View.Piece (Elt Ideal) S128x3072 .bf16)) (i n : Fin 128) :
    View.canon (Val := Elt Ideal) (L.group g ++ T) (ix2 i ⟨2048 + 128 * g.val + n.val, by omega⟩) = L.row g (ix2 i n) :=
  (beside_C g _ _ i _ (Or.inl (by dsimp only; omega))).trans (canon_here _ _ (inB g) _ _ i n _ rfl)
theorem group_inp (g : Fin 4) (T : List (View.Piece (Elt Ideal) S128x3072 .bf16)) (i : Fin 128) (q : Fin 512) :
    View.canon (Val := Elt Ideal) (L.group g ++ T) (ix2 i ⟨512 * g.val + q.val, by omega⟩) = L.inp g (ix2 i q) :=
  (beside_C g _ _ i _ (Or.inl (by dsimp only; omega))).trans ((beside_B g _ _ i _ (Or.inl (by dsimp only; omega))).trans (canon_here _ _ (inX g) _ _ i q _ rfl))

/-- A property of the cell of one group holds of the whole list of stores, if the cell lies in no other group's columns. -/
theorem stored_at (g : Fin 4) (i : Fin 128) (k : Fin 3072) (v : Elt Ideal .bf16)
    (ho : ∀ h : Fin 4, h ≠ g → (k.val < 2560 + 128 * h.val ∨ 2560 + 128 * h.val + 128 ≤ k.val) ∧ (k.val < 2048 + 128 * h.val ∨ 2048 + 128 * h.val + 128 ≤ k.val) ∧ (k.val < 512 * h.val ∨ 512 * h.val + 512 ≤ k.val))
    (hv : ∀ T, View.canon (Val := Elt Ideal) (L.group g ++ T) (ix2 i k) = v) : View.canon (Val := Elt Ideal) L.stored (ix2 i k) = v := by
  have e : L.stored = L.group 3 ++ (L.group 2 ++ (L.group 1 ++ (L.group 0 ++ []))) := by
    unfold Loads.stored; simp only [List.append_assoc, List.append_nil]
  rw [e]
  have off : ∀ (h : Fin 4) (T : List (View.Piece (Elt Ideal) S128x3072 .bf16)), h ≠ g → View.canon (Val := Elt Ideal) (L.group h ++ T) (ix2 i k) = View.canon (Val := Elt Ideal) T (ix2 i k) :=
    fun h T hh => group_beside L h T i k (ho h hh).1 (ho h hh).2.1 (ho h hh).2.2
  match g with
  | 3 => exact hv _
  | 2 => rw [off 3 _ (by decide)]; exact hv _
  | 1 => rw [off 3 _ (by decide), off 2 _ (by decide)]; exact hv _
  | 0 => rw [off 3 _ (by decide), off 2 _ (by decide), off 1 _ (by decide)]; exact hv _

theorem stored_out (g : Fin 4) (i n : Fin 128) : View.canon (Val := Elt Ideal) L.stored (ix2 i ⟨2560 + 128 * g.val + n.val, by omega⟩) = L.out g (ix2 i n) :=
  stored_at L g i _ _ (fun h hh => by have : h.val ≠ g.val := fun e => hh (Fin.ext e); dsimp only; omega) fun T => group_out L g T i n
theorem stored_row (g : Fin 4) (i n : Fin 128) : View.canon (Val := Elt Ideal) L.stored (ix2 i ⟨2048 + 128 * g.val + n.val, by omega⟩) = L.row g (ix2 i n) :=
  stored_at L g i _ _ (fun h hh => by have : h.val ≠ g.val := fun e => hh (Fin.ext e); dsimp only; omega) fun T => group_row L g T i n
theorem stored_inp (g : Fin 4) (i : Fin 128) (q : Fin 512) : View.canon (Val := Elt Ideal) L.stored (ix2 i ⟨512 * g.val + q.val, by omega⟩) = L.inp g (ix2 i q) :=
  stored_at L g i _ _ (fun h hh => by have : h.val ≠ g.val := fun e => hh (Fin.ext e); dsimp only; omega) fun T => group_inp L g T i q

/-- The carried gradient after a point. -/
theorem carried_apply (g : Fin 4) (n : Fin 128) (q : Fin 512) : View.canon (Val := Elt Ideal) L.carried (ix2 n ⟨512 * g.val + q.val, by omega⟩) = L.carry g (ix2 n q) := by
  unfold Loads.carried
  match g with
  | 3 => exact canon_here _ _ (inY 3) _ _ n q _ rfl
  | 2 => rw [beside_Y 3 _ _ n _ (Or.inl (by show 512 * 2 + q.val < 512 * 3; omega))]; exact canon_here _ _ (inY 2) _ _ n q _ rfl
  | 1 => rw [beside_Y 3 _ _ n _ (Or.inl (by show 512 * 1 + q.val < 512 * 3; omega)), beside_Y 2 _ _ n _ (Or.inl (by show 512 * 1 + q.val < 512 * 2; omega))]; exact canon_here _ _ (inY 1) _ _ n q _ rfl
  | 0 => rw [beside_Y 3 _ _ n _ (Or.inl (by show 512 * 0 + q.val < 512 * 3; omega)), beside_Y 2 _ _ n _ (Or.inl (by show 512 * 0 + q.val < 512 * 2; omega)), beside_Y 1 _ _ n _ (Or.inl (by show 512 * 0 + q.val < 512 * 1; omega))]; exact canon_here _ _ (inY 0) _ _ n q _ rfl

section
variable (arg13 : Memref sig .tc .vmem S128x2048 .f32)

theorem cleared_apply (n : Fin 128) (k : Fin 2048) : View.canon (Val := Elt Ideal) (cleared (F := Ideal)) (ix2 n k) = (0 : EReal) := by
  unfold cleared
  refine (canon_here 0 2048 inb_S128x2048_S128x2048_0_0 _ _ n k k (by omega)).trans ?_
  rw [shapeCast_self]
  exact Ideal.ofBits_zero_f32

/-- Every part of the carried gradient is loaded, at the first point, as it was cleared. -/
theorem fresh_apply (L : Loads Ideal) (g : Fin 4) (n : Fin 128) (q : Fin 512) : freshAll arg13 L g (ix2 n q) = (0 : EReal) := by
  have key : ∀ W : List (View.Piece (Elt Ideal) S128x2048 .f32), fresh arg13 W g (ix2 n q) = View.canon (Val := Elt Ideal) W (ix2 n ⟨512 * g.val + q.val, by omega⟩) := by
    intro W
    unfold fresh
    rw [View.readCov_eq_canon']
    show View.canon (Val := Elt Ideal) W _ = _
    congr 1
    funext a
    apply Fin.ext
    match a with
    | ⟨0, _⟩ => show 0 + 1 * n.val = n.val; omega
    | ⟨1, _⟩ => show 512 * g.val + 1 * q.val = 512 * g.val + q.val; omega
  unfold freshAll
  rw [key]
  match g with
  | 0 => exact cleared_apply n _
  | 1 => show View.canon (Val := Elt Ideal) (then0 arg13 L) _ = _
         unfold then0; rw [beside_Y 0 _ _ n _ (Or.inr (by show 512 * 0 + 512 ≤ 512 * 1 + q.val; omega))]; exact cleared_apply n _
  | 2 => show View.canon (Val := Elt Ideal) (then1 arg13 L) _ = _
         unfold then1 then0; rw [beside_Y 1 _ _ n _ (Or.inr (by show 512 * 1 + 512 ≤ 512 * 2 + q.val; omega)), beside_Y 0 _ _ n _ (Or.inr (by show 512 * 0 + 512 ≤ 512 * 2 + q.val; omega))]; exact cleared_apply n _
  | 3 => show View.canon (Val := Elt Ideal) (then2 arg13 L) _ = _
         unfold then2 then1 then0; rw [beside_Y 2 _ _ n _ (Or.inr (by show 512 * 2 + 512 ≤ 512 * 3 + q.val; omega)), beside_Y 1 _ _ n _ (Or.inr (by show 512 * 1 + 512 ≤ 512 * 3 + q.val; omega)), beside_Y 0 _ _ n _ (Or.inr (by show 512 * 0 + 512 ≤ 512 * 3 + q.val; omega))]; exact cleared_apply n _

/-- The carried gradient after the first point. -/
theorem then3_apply (L : Loads Ideal) (g : Fin 4) (n : Fin 128) (q : Fin 512) :
    View.canon (Val := Elt Ideal) (then3 arg13 L) (ix2 n ⟨512 * g.val + q.val, by omega⟩) = carryV g (L.c g) (L.y g) L.fromE (freshAll arg13 L g) (ix2 n q) := by
  unfold then3
  match g with
  | 3 => exact canon_here _ _ (inY 3) _ _ n q _ rfl
  | 2 => rw [beside_Y 3 _ _ n _ (Or.inl (by show 512 * 2 + q.val < 512 * 3; omega))]; unfold then2; exact canon_here _ _ (inY 2) _ _ n q _ rfl
  | 1 => rw [beside_Y 3 _ _ n _ (Or.inl (by show 512 * 1 + q.val < 512 * 3; omega))]; unfold then2; rw [beside_Y 2 _ _ n _ (Or.inl (by show 512 * 1 + q.val < 512 * 2; omega))]; unfold then1; exact canon_here _ _ (inY 1) _ _ n q _ rfl
  | 0 => rw [beside_Y 3 _ _ n _ (Or.inl (by show 512 * 0 + q.val < 512 * 3; omega))]; unfold then2; rw [beside_Y 2 _ _ n _ (Or.inl (by show 512 * 0 + q.val < 512 * 2; omega))]; unfold then1; rw [beside_Y 1 _ _ n _ (Or.inl (by show 512 * 0 + q.val < 512 * 1; omega))]; unfold then0; exact canon_here _ _ (inY 0) _ _ n q _ rfl
end

section
variable {arg1 : Memref sig .tc .vmem S128x3072 .bf16} (harg1 : arg1.IsWhole) {arg2 : Memref sig .tc .vmem S128x128 .f32} (harg2 : arg2.IsWhole) {arg3 : Memref sig .tc .vmem S128x2048 .bf16} (harg3 : arg3.IsWhole) {arg4 : Memref sig .tc .vmem S1x128x2048 .f32} (harg4 : arg4.IsWhole) {arg5 : Memref sig .tc .vmem S1x128 .f32} (harg5 : arg5.IsWhole) {arg6 : Memref sig .tc .vmem S1x128 .f32} (harg6 : arg6.IsWhole) {arg7 : Memref sig .tc .vmem S1x2048 .f32} (harg7 : arg7.IsWhole) {arg8 : Memref sig .tc .vmem S128x2048 .bf16} (harg8 : arg8.IsWhole) {arg9 : Memref sig .tc .vmem S128x4096 .bf16} (harg9 : arg9.IsWhole) {arg13 : Memref sig .tc .vmem S128x2048 .f32} (harg13 : arg13.IsWhole)
    {x0 : Vec Ideal S128x3072 .bf16} {x1 : Vec Ideal S128x128 .f32} {x2 : Vec Ideal S128x2048 .bf16} {x3 : Vec Ideal S1x128x2048 .f32} {x4 : Vec Ideal S1x128 .f32} {x5 : Vec Ideal S1x128 .f32} {x6 : Vec Ideal S1x2048 .f32} {x7 : Vec Ideal S128x2048 .bf16} {x8 : Vec Ideal S128x4096 .bf16}

/-- A load of some columns of a whole array. -/
theorem load_cols {W n : ℕ} {e : EltTy} {a : Memref sig .tc .vmem ⟨2, ![128, W]⟩ e} (ha : a.IsWhole) (x : Vec Ideal ⟨2, ![128, W]⟩ e) (o : ℕ)
    (h : ∀ a, (![0, o] : Fin 2 → Nat) a + (![128, n] : Fin 2 → Nat) a ≤ (⟨2, ![128, W]⟩ : Shape).size a) (i : Fin 128) (j : Fin n) (k : Fin W) (hk : k.val = o + j.val) :
    View.readAt (Elt Ideal) a.view (Rect.unit (s := ⟨2, ![128, W]⟩) ![0, o] ![128, n] h).toLoadRect (ha.unread x) (ix2 i j) = x (ix2 i k) := by
  rw [View.readAt_eq_ld, ha.read_unread]
  show x _ = _
  congr 1
  funext a
  apply Fin.ext
  match a with
  | ⟨0, _⟩ => show 0 + 1 * i.val = i.val; omega
  | ⟨1, _⟩ => show o + 1 * j.val = k.val; omega

/-- A load of some columns of a whole array of one row. -/
theorem load_row {W n : ℕ} {e : EltTy} {a : Memref sig .tc .vmem ⟨2, ![1, W]⟩ e} (ha : a.IsWhole) (x : Vec Ideal ⟨2, ![1, W]⟩ e) (o : ℕ)
    (h : ∀ a, (![0, o] : Fin 2 → Nat) a + (![1, n] : Fin 2 → Nat) a ≤ (⟨2, ![1, W]⟩ : Shape).size a) (i : Fin 1) (j : Fin n) (k : Fin W) (hk : k.val = o + j.val) :
    View.readAt (Elt Ideal) a.view (Rect.unit (s := ⟨2, ![1, W]⟩) ![0, o] ![1, n] h).toLoadRect (ha.unread x) (ix2 i j) = x (ix2 i k) := by
  rw [View.readAt_eq_ld, ha.read_unread]
  show x _ = _
  congr 1
  funext a
  apply Fin.ext
  match a with
  | ⟨0, _⟩ => show 0 + 1 * i.val = i.val; omega
  | ⟨1, _⟩ => show o + 1 * j.val = k.val; omega

theorem load_cols_cast {W n : ℕ} {e : EltTy} {a : Memref sig .tc .vmem ⟨2, ![128, W]⟩ e} (ha : a.IsWhole) (x : Vec Ideal ⟨2, ![128, W]⟩ e) (o : ℕ)
    (h : ∀ a, (![0, o] : Fin 2 → Nat) a + (![128, n] : Fin 2 → Nat) a ≤ (⟨2, ![128, W]⟩ : Shape).size a) (hc : (⟨2, ![128, n]⟩ : Shape).ShapeCasts ⟨2, ![128, n]⟩) (i : Fin 128) (j : Fin n) (k : Fin W) (hk : k.val = o + j.val) :
    shapeCast (⟨2, ![128, n]⟩ : Shape) (View.readAt (Elt Ideal) a.view (Rect.unit (s := ⟨2, ![128, W]⟩) ![0, o] ![128, n] h).toLoadRect (ha.unread x)) hc (ix2 i j) = x (ix2 i k) :=
  (congrFun (shapeCast_self _ hc) _).trans (load_cols ha x o h i j k hk)

theorem load_row_cast {W n : ℕ} {e : EltTy} {a : Memref sig .tc .vmem ⟨2, ![1, W]⟩ e} (ha : a.IsWhole) (x : Vec Ideal ⟨2, ![1, W]⟩ e) (o : ℕ)
    (h : ∀ a, (![0, o] : Fin 2 → Nat) a + (![1, n] : Fin 2 → Nat) a ≤ (⟨2, ![1, W]⟩ : Shape).size a) (hc : (⟨2, ![1, n]⟩ : Shape).ShapeCasts ⟨2, ![1, n]⟩) (i : Fin 1) (j : Fin n) (k : Fin W) (hk : k.val = o + j.val) :
    shapeCast (⟨2, ![1, n]⟩ : Shape) (View.readAt (Elt Ideal) a.view (Rect.unit (s := ⟨2, ![1, W]⟩) ![0, o] ![1, n] h).toLoadRect (ha.unread x)) hc (ix2 i j) = x (ix2 i k) :=
  (congrFun (shapeCast_self _ hc) _).trans (load_row ha x o h i j k hk)

/-- The blocks of a grid point hold the reals a chunk works on. -/
structure Holds (x0 : Vec Ideal S128x3072 .bf16) (x1 : Vec Ideal S128x128 .f32) (x2 : Vec Ideal S128x2048 .bf16) (x3 : Vec Ideal S1x128x2048 .f32) (x4 : Vec Ideal S1x128 .f32) (x5 : Vec Ideal S1x128 .f32) (x6 : Vec Ideal S1x2048 .f32) (x7 : Vec Ideal S128x2048 .bf16) (x8 : Vec Ideal S128x4096 .bf16) (R : Vals) : Prop where
  b : ∀ g i n, x0 (ix2 i ⟨2048 + 128 * g.val + n.val, by omega⟩) = ((R.b g i n : ℝ) : EReal)
  c : ∀ g i n, x0 (ix2 i ⟨2560 + 128 * g.val + n.val, by omega⟩) = ((R.c g i n : ℝ) : EReal)
  x : ∀ (g : Fin 4) (i : Fin 128) (q : Fin 512), x0 (ix2 i ⟨512 * g.val + q.val, by omega⟩) = ((R.x g i q : ℝ) : EReal)
  y : ∀ (g : Fin 4) (i : Fin 128) (q : Fin 512), x2 (ix2 i ⟨512 * g.val + q.val, by omega⟩) = ((R.y g i q : ℝ) : EReal)
  z : ∀ (g : Fin 4) (i : Fin 128) (q : Fin 512), x3 (ix3 (n0 := 1) 0 i ⟨512 * g.val + q.val, by omega⟩) = ((R.z g i q : ℝ) : EReal)
  k : ∀ (g : Fin 4) (q : Fin 512), x6 (ix2 (n0 := 1) 0 ⟨512 * g.val + q.val, by omega⟩) = ((R.k g q : ℝ) : EReal)
  t : Is x1 R.t
  tb : Is x4 (fun _ => R.tb)
  al : Is x5 (fun _ => R.al)
  e : Is x7 (fun k j => if j.val / 64 = k.val then 1 else 0)
  w : Is x8 (fun k j => if j.val / 128 = k.val then 1 else 0)

theorem reads_of {R : Vals} (H : Holds x0 x1 x2 x3 x4 x5 x6 x7 x8 R) (s : Fin 4 → Vec Ideal S128x512 .f32) (hs : ∀ g, Is (s g) (R.s g)) :
    Reads (read arg1 harg1 arg2 harg2 arg3 harg3 arg4 harg4 arg5 harg5 arg6 harg6 arg7 harg7 arg8 harg8 arg9 harg9 x0 x1 x2 x3 x4 x5 x6 x7 x8 s) R where
  b g i n := (load_cols harg1 x0 _ (inB g) i n _ rfl).trans (H.b g i n)
  c g i n := (load_cols harg1 x0 _ (inC g) i n _ rfl).trans (H.c g i n)
  x g i n := (load_cols harg1 x0 _ (inX g) i n _ rfl).trans (H.x g i n)
  y g i n := (load_cols harg3 x2 _ (inY g) i n _ rfl).trans (H.y g i n)
  z g i q := by
    refine Eq.trans ?_ (H.z g i q)
    show shapeCast S128x512 (View.readAt (Elt Ideal) arg4.view (Rect.unit (s := S1x128x2048) ![0, 0, 512 * g.val] S1x128x512.size (inZ g)).toLoadRect (harg4.unread x3)) shapeCasts_S1x128x512_S128x512 (ix2 i q) = _
    refine (shapeCast_apply _ shapeCasts_S1x128x512_S128x512 (ix2 i q) (ix3 (n0 := 1) (n1 := 128) (n2 := 512) 0 i q) ?_).trans ?_
    · rw [Shape.rowMajor_val_two, Shape.rowMajor_val_three]
      show (0 * 128 + i.val) * 512 + q.val = i.val * 512 + q.val
      omega
    · rw [View.readAt_eq_ld, harg4.read_unread]
      show x3 _ = _
      congr 1
      funext a
      apply Fin.ext
      match a with
      | ⟨0, _⟩ => rfl
      | ⟨1, _⟩ => show 0 + 1 * i.val = i.val; omega
      | ⟨2, _⟩ => show 512 * g.val + 1 * q.val = 512 * g.val + q.val; omega
  s := hs
  k g i q := by
    obtain rfl : i = 0 := Subsingleton.elim _ _
    exact (load_row_cast harg7 x6 _ (inK g) _ 0 q _ rfl).trans (H.k g q)
  t i h := (load_cols_cast harg2 x1 0 inb_S128x128_S128x128_0_0 _ i h h (by omega)).trans (H.t i h)
  tb i h := (load_row_cast harg5 x4 0 inb_S1x128_S1x128_0_0 _ i h h (by omega)).trans (H.tb i h)
  al i h := (load_row_cast harg6 x5 0 inb_S1x128_S1x128_0_0 _ i h h (by omega)).trans (H.al i h)
  e i h := (load_cols_cast harg8 x7 0 inb_S128x2048_S128x2048_0_0 _ i h h (by omega)).trans (H.e i h)
  w i h := (load_cols_cast harg9 x8 0 inb_S128x4096_S128x4096_0_0 _ i h h (by omega)).trans (H.w i h)

/-- The carried gradient as the point before left it, part by part. -/
theorem is_kept {xs0 : Vec Ideal S128x2048 .f32} {S : Fin 4 → Fin 128 → Fin 512 → ℝ} (hs : ∀ (g : Fin 4) (n : Fin 128) (q : Fin 512), xs0 (ix2 n ⟨512 * g.val + q.val, by omega⟩) = ((S g n q : ℝ) : EReal)) (g : Fin 4) :
    Is (kept arg13 harg13 xs0 g) (S g) := fun n q => (load_cols harg13 xs0 _ (inY g) n q _ rfl).trans (hs g n q)
end

end Cert.KernelSsdIdeal.Chunk

end
-- ==== Proof.Sweep.lean ====
/- The sweep over the chunks, from the last to the first, and the array it leaves. -/
module

public import proofs.«01_k».proof.Proof.ReadBack

@[expose] public section

set_option maxRecDepth 16384

noncomputable section

open Idealize.ShloMosaic Idealize.ShloMosaic.TcCoe Idealize.SL.Sem

namespace Cert.KernelSsdIdeal.Chunk

open Cert.KernelSsdIdeal Cert.KernelSsdIdeal.Gen Cert.KernelSsdIdeal.Value Cert.Lift Cert.Ssd

section
variable (c : Dev nD) (i : grid0.Coords) (arg1 : Memref sig .tc .vmem S128x3072 .bf16) (harg1 : arg1.IsWhole) (arg2 : Memref sig .tc .vmem S128x128 .f32) (harg2 : arg2.IsWhole) (arg3 : Memref sig .tc .vmem S128x2048 .bf16) (harg3 : arg3.IsWhole) (arg4 : Memref sig .tc .vmem S1x128x2048 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x2048 .f32) (harg7 : arg7.IsWhole) (arg8 : Memref sig .tc .vmem S128x2048 .bf16) (harg8 : arg8.IsWhole) (arg9 : Memref sig .tc .vmem S128x4096 .bf16) (harg9 : arg9.IsWhole) (arg10 : Memref sig .tc .vmem S128x3072 .bf16) (harg10 : arg10.IsWhole) (arg11 : Memref sig .tc .vmem S128x128 .f32) (harg11 : arg11.IsWhole) (arg12 : Memref sig .tc .vmem S8x128 .f32) (harg12 : arg12.IsWhole) (arg13 : Memref sig .tc .vmem S128x2048 .f32) (harg13 : arg13.IsWhole) (arg14 : Memref sig .tc .vmem S128x128 .f32) (harg14 : arg14.IsWhole)
    (x0 : Vec Ideal S128x3072 .bf16) (x1 : Vec Ideal S128x128 .f32) (x2 : Vec Ideal S128x2048 .bf16) (x3 : Vec Ideal S1x128x2048 .f32) (x4 : Vec Ideal S1x128 .f32) (x5 : Vec Ideal S1x128 .f32) (x6 : Vec Ideal S1x2048 .f32) (x7 : Vec Ideal S128x2048 .bf16) (x8 : Vec Ideal S128x4096 .bf16) (xo11 : Vec Ideal S8x128 .f32) (xs0 : Vec Ideal S128x2048 .f32)

theorem block_later (hc0 : ¬cond0_0 i) :
    out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo11 xs0
      = View.canon (Val := Elt Ideal) (read arg1 harg1 arg2 harg2 arg3 harg3 arg4 harg4 arg5 harg5 arg6 harg6 arg7 harg7 arg8 harg8 arg9 harg9 x0 x1 x2 x3 x4 x5 x6 x7 x8 (kept arg13 harg13 xs0)).stored := by
  funext y
  unfold out0_B_9
  rw [View.read_writes_junk_apply_eq_canon, stored_later]

theorem left_later (hc0 : ¬cond0_0 i) :
    sout0_B_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo11 xs0
      = View.canon (Val := Elt Ideal) (read arg1 harg1 arg2 harg2 arg3 harg3 arg4 harg4 arg5 harg5 arg6 harg6 arg7 harg7 arg8 harg8 arg9 harg9 x0 x1 x2 x3 x4 x5 x6 x7 x8 (kept arg13 harg13 xs0)).carried := by
  funext y
  unfold sout0_B_0
  rw [View.read_writes_junk_apply_eq_canon, carried_later]

theorem block_first (hc0 : cond0_0 i) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8
      = View.canon (Val := Elt Ideal) (read arg1 harg1 arg2 harg2 arg3 harg3 arg4 harg4 arg5 harg5 arg6 harg6 arg7 harg7 arg8 harg8 arg9 harg9 x0 x1 x2 x3 x4 x5 x6 x7 x8
          (freshAll arg13 (read arg1 harg1 arg2 harg2 arg3 harg3 arg4 harg4 arg5 harg5 arg6 harg6 arg7 harg7 arg8 harg8 arg9 harg9 x0 x1 x2 x3 x4 x5 x6 x7 x8 (fun _ _ => (Scalar.ofBits (F := Ideal) .f32 0x00000000#32 : EReal))))).stored := by
  funext y
  unfold out0_A_9
  rw [View.read_writes_junk_apply_eq_canon, stored_first]

theorem left_first (hc0 : cond0_0 i) :
    sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8
      = View.canon (Val := Elt Ideal) (then3 arg13 (read arg1 harg1 arg2 harg2 arg3 harg3 arg4 harg4 arg5 harg5 arg6 harg6 arg7 harg7 arg8 harg8 arg9 harg9 x0 x1 x2 x3 x4 x5 x6 x7 x8 (fun _ _ => (Scalar.ofBits (F := Ideal) .f32 0x00000000#32 : EReal)))) := by
  funext y
  unfold sout0_A_0
  rw [View.read_writes_junk_apply_eq_canon, carried_first]
end

variable (m : (ℓ : Loc nD τ sig) → Buf (Elt Ideal) ℓ) (c : Dev nD) (A : Args)

/-- The chunk of a grid point: the last one first. -/
def chunkAt (t : Fin cfg0.N) : Fin 64 := ⟨63 - t.val, by omega⟩

/-- The blocks of every grid point hold the reals of its chunk. -/
def HoldsAll : Prop := ∀ t : Fin cfg0.N, Holds (iblk m c 0 t) (iblk m c 1 t) (iblk m c 2 t) (iblk m c 3 t) (iblk m c 4 t) (iblk m c 5 t) (iblk m c 6 t) (iblk m c 7 t) (iblk m c 8 t) (A.chunk (chunkAt t))

/-- What a grid point loads, with the carried gradient given. -/
def loads (t : Fin cfg0.N) (s : Fin 4 → Vec Ideal S128x512 .f32) : Loads Ideal :=
  read (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) (iblk m c 6 t) (iblk m c 7 t) (iblk m c 8 t) s

/-- One point: with the gradient the point before left, it stores the block and the gradient of its own chunk. -/
theorem point (H : HoldsAll m c A) (t : Fin cfg0.N)
    (hp : t.val % 64 ≠ 0 → ∀ (g : Fin 4) (n : Fin 128) (q : Fin 512), (outsAt0 m c (t.val - 1) (Nat.lt_of_le_of_lt (Nat.sub_le _ _) t.isLt)).2.2.2 (ix2 n ⟨512 * g.val + q.val, by omega⟩) = ((A.grad ((chunkAt t).val + 1) g n q : ℝ) : EReal)) :
    ∃ s, Reads (loads m c t s) (A.chunk (chunkAt t)) ∧ (outsAt0 m c t.val t.isLt).1 = View.canon (Val := Elt Ideal) (loads m c t s).stored
      ∧ ∀ (g : Fin 4) (n : Fin 128) (q : Fin 512), (outsAt0 m c t.val t.isLt).2.2.2 (ix2 n ⟨512 * g.val + q.val, by omega⟩) = (loads m c t s).carry g (ix2 n q) := by
  by_cases h0 : t.val % 64 = 0
  · have ht : t.val = 0 := by have h1 := t.isLt; have h2 : cfg0.N = 64 := N_0; omega
    refine ⟨freshAll scM0_0 (loads m c t (fun _ _ => (Scalar.ofBits (F := Ideal) .f32 0x00000000#32 : EReal))), reads_of _ _ _ _ _ _ _ _ _ (H t) _ fun g n q => ?_,
      by rw [outsAt0_A m c t h0]; dsimp only; rw [block_first]; rfl, fun g n q => ?_⟩
    · rw [fresh_apply]
      have e : (A.chunk (chunkAt t)).s g n q = 0 := by
        show A.grad ((63 - t.val) + 1) g n q = 0
        rw [ht]; exact A.grad_end g n q
      rw [e, EReal.coe_zero]
    · rw [outsAt0_A m c t h0]; dsimp only; rw [left_first]
      exact then3_apply _ _ g n q
  · refine ⟨kept scM0_0 (Memref.isWhole_whole _) (outsAt0 m c (t.val - 1) (Nat.lt_of_le_of_lt (Nat.sub_le _ _) t.isLt)).2.2.2,
      reads_of _ _ _ _ _ _ _ _ _ (H t) _ (is_kept _ (hp h0)),
      by rw [outsAt0_B m c t h0]; dsimp only; rw [block_later]; rfl, fun g n q => ?_⟩
    rw [outsAt0_B m c t h0]; dsimp only; rw [left_later]
    exact carried_apply _ g n q

/-- After every point the carried gradient is the one with respect to the state in front of its chunk. -/
theorem left_apply (H : HoldsAll m c A) : ∀ (k : ℕ) (hk : k < cfg0.N) (g : Fin 4) (n : Fin 128) (q : Fin 512),
    (outsAt0 m c k hk).2.2.2 (ix2 n ⟨512 * g.val + q.val, by omega⟩) = ((A.grad (63 - k) g n q : ℝ) : EReal) := by
  intro k
  induction k with
  | zero =>
    intro hk g n q
    obtain ⟨s, hR, _, hc⟩ := point m c A H ⟨0, hk⟩ (fun h => absurd (Nat.zero_mod _) h)
    refine (hc g n q).trans ((is_carry hR g n q).trans ?_)
    rw [A.carry_chunk]; rfl
  | succ k ih =>
    intro hk g n q
    have hN : cfg0.N = 64 := N_0
    obtain ⟨s, hR, _, hc⟩ := point m c A H ⟨k + 1, hk⟩ (fun _ g n q => by
      refine (ih (by omega) g n q).trans ?_
      have e : (chunkAt ⟨k + 1, hk⟩).val + 1 = 63 - k := by unfold chunkAt; dsimp only; omega
      rw [e])
    refine (hc g n q).trans ((is_carry hR g n q).trans ?_)
    rw [A.carry_chunk]; rfl

/-- So every point works on the reals of its chunk. -/
theorem block_at (H : HoldsAll m c A) (t : Fin cfg0.N) :
    ∃ s, Reads (loads m c t s) (A.chunk (chunkAt t)) ∧ (outsAt0 m c t.val t.isLt).1 = View.canon (Val := Elt Ideal) (loads m c t s).stored := by
  have hN : cfg0.N = 64 := N_0
  have ht := t.isLt
  obtain ⟨s, hR, hs, _⟩ := point m c A H t (fun h g n q => by
    have h1 : t.val ≠ 0 := fun e => h (by rw [e])
    refine (left_apply m c A H (t.val - 1) _ g n q).trans ?_
    have e : (chunkAt t).val + 1 = 63 - (t.val - 1) := by unfold chunkAt; dsimp only; omega
    rw [e])
  exact ⟨s, hR, hs⟩

theorem index_out : ∀ t : Fin cfg0.N, win0_9.index t (0 : Fin 2) = 63 - t.val ∧ win0_9.index t (1 : Fin 2) = 0 :=
  (by decide +kernel : ∀ t : Fin grid0.N, _)
theorem flushes : ∀ t : Fin cfg0.N, (cfg0.win 9).flush t = true :=
  (by decide +kernel : ∀ t : Fin grid0.N, _)

/-- The result array. -/
def res : S8192x3072.Idx → EReal := (dats m 0 c).arrAt 9 cfg0.N

theorem res_apply (a : Fin 64) (i : Fin 128) (k : Fin 3072) (t : Fin cfg0.N) (ht : t.val = 63 - a.val) :
    res m c (ix2 (Args.at' a i) k) = (outsAt0 m c t.val t.isLt).1 (ix2 i k) := by
  obtain ⟨e0, e1⟩ := index_out t
  have hb := congrFun (blocks9 m c t (flushes _)) (ix2 (n0 := 128) (n1 := 3072) i k)
  rw [View.read_apply, flushed9] at hb
  refine Eq.trans ?_ hb
  unfold res
  congr 1
  funext x
  apply Fin.ext
  match x with
  | ⟨0, _⟩ => show 128 * a.val + i.val = win0_9.index t (0 : Fin 2) * 128 + 1 * i.val; rw [e0, ht]; omega
  | ⟨1, _⟩ => show k.val = win0_9.index t (1 : Fin 2) * 3072 + 1 * k.val; rw [e1]; omega

/-- A position is a row of its chunk. -/
theorem at_div (r : Fin 8192) : Args.at' ⟨r.val / 128, by omega⟩ ⟨r.val % 128, by omega⟩ = r :=
  Fin.ext (by show 128 * (r.val / 128) + r.val % 128 = r.val; omega)

theorem chunkAt_eq (a : Fin 64) (t : Fin cfg0.N) (ht : t.val = 63 - a.val) : chunkAt t = a :=
  Fin.ext (by show 63 - t.val = a.val; omega)

/-- Every cell of the result array, by its columns. -/
theorem res_inp (H : HoldsAll m c A) (r : Fin 8192) (g : Fin 4) (q : Fin 512) : res m c (ix2 r ⟨512 * g.val + q.val, by omega⟩) = ((A.inp g r q : ℝ) : EReal) := by
  have hN : cfg0.N = 64 := N_0
  obtain ⟨t, ht⟩ : ∃ t : Fin cfg0.N, t.val = 63 - r.val / 128 := ⟨⟨63 - r.val / 128, by omega⟩, rfl⟩
  obtain ⟨s, hR, hs⟩ := block_at m c A H t
  have hr := res_apply m c ⟨r.val / 128, by omega⟩ ⟨r.val % 128, by omega⟩ ⟨512 * g.val + q.val, by omega⟩ t ht
  rw [at_div] at hr
  rw [hr, hs, stored_inp, is_inp hR g _ q, A.inp_chunk, chunkAt_eq ⟨r.val / 128, by omega⟩ t ht, at_div]

theorem res_row (H : HoldsAll m c A) (r : Fin 8192) (g : Fin 4) (n : Fin 128) : res m c (ix2 r ⟨2048 + 128 * g.val + n.val, by omega⟩) = ((A.row g r n : ℝ) : EReal) := by
  have hN : cfg0.N = 64 := N_0
  obtain ⟨t, ht⟩ : ∃ t : Fin cfg0.N, t.val = 63 - r.val / 128 := ⟨⟨63 - r.val / 128, by omega⟩, rfl⟩
  obtain ⟨s, hR, hs⟩ := block_at m c A H t
  have hr := res_apply m c ⟨r.val / 128, by omega⟩ ⟨r.val % 128, by omega⟩ ⟨2048 + 128 * g.val + n.val, by omega⟩ t ht
  rw [at_div] at hr
  rw [hr, hs, stored_row, is_row hR g _ n, A.row_chunk, chunkAt_eq ⟨r.val / 128, by omega⟩ t ht, at_div]

theorem res_out (H : HoldsAll m c A) (r : Fin 8192) (g : Fin 4) (n : Fin 128) : res m c (ix2 r ⟨2560 + 128 * g.val + n.val, by omega⟩) = ((A.out g r n : ℝ) : EReal) := by
  have hN : cfg0.N = 64 := N_0
  obtain ⟨t, ht⟩ : ∃ t : Fin cfg0.N, t.val = 63 - r.val / 128 := ⟨⟨63 - r.val / 128, by omega⟩, rfl⟩
  obtain ⟨s, hR, hs⟩ := block_at m c A H t
  have hr := res_apply m c ⟨r.val / 128, by omega⟩ ⟨r.val % 128, by omega⟩ ⟨2560 + 128 * g.val + n.val, by omega⟩ t ht
  rw [at_div] at hr
  rw [hr, hs, stored_out, is_out hR g _ n, A.out_chunk, chunkAt_eq ⟨r.val / 128, by omega⟩ t ht, at_div]

end Cert.KernelSsdIdeal.Chunk

end
-- ==== Proof.Dense.lean ====
/- Running sums and tables laid side by side, as the host writes them, read at an entry. -/
module

public import proofs.«01_k».proof.Proof.Tables
public import proofs.«01_k».proof.Proof.Lift
public import proofs.«01_k».proof.Proof.Gen.ReferenceSsdIdeal.Read
public import Idealize.ShloMosaic.Lib.Routing.OpsOne
public import Idealize.ShloMosaic.Lib.WordCmp

@[expose] public section

set_option maxRecDepth 16384

noncomputable section

open Idealize.ShloMosaic Idealize.ShloMosaic.TcCoe Idealize.SL.Sem

namespace Cert.Ssd

/-- Adding a list of terms one after another is adding their sum. -/
theorem foldl_add_terms {ι : Type*} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- The terms of a window that ends at row `t` are those of the rows up to `t`. -/
theorem sum_window_rows {R p : ℕ} (hR : p + 1 = R) (f : Fin R → EReal) (t : Fin R) :
    (∑ n : Fin R, if h : p ≤ t.val + n.val ∧ t.val + n.val - p < R then f ⟨t.val + n.val - p, h.2⟩ else 0) = ∑ s : Fin R, if s ≤ t then f s else 0 := by
  classical
  rw [← Finset.sum_filter]
  rw [← Finset.sum_filter_add_sum_filter_not Finset.univ (fun n : Fin R => p ≤ t.val + n.val)]
  rw [Finset.sum_eq_zero (s := Finset.univ.filter fun n : Fin R => ¬ p ≤ t.val + n.val) (fun n hn => dif_neg fun h => (Finset.mem_filter.1 hn).2 h.1), add_zero]
  refine Finset.sum_bij' (fun n _ => (⟨t.val + n.val - p, by omega⟩ : Fin R)) (fun s hs => (⟨s.val + p - t.val, by
    have := (Finset.mem_filter.1 hs).2; rw [Fin.le_def] at this; omega⟩ : Fin R)) ?_ ?_ ?_ ?_ ?_
  · intro n hn
    have := (Finset.mem_filter.1 hn).2
    refine Finset.mem_filter.2 ⟨Finset.mem_univ _, ?_⟩
    rw [Fin.le_def]; dsimp only; omega
  · intro s hs
    refine Finset.mem_filter.2 ⟨Finset.mem_univ _, ?_⟩
    dsimp only; omega
  · intro n hn
    have := (Finset.mem_filter.1 hn).2
    apply Fin.ext; dsimp only; omega
  · intro s hs
    have := (Finset.mem_filter.1 hs).2
    rw [Fin.le_def] at this
    apply Fin.ext; dsimp only; omega
  · intro n hn
    have := (Finset.mem_filter.1 hn).2
    exact dif_pos ⟨this, by omega⟩

/-- The running sum down the rows of a table, as it is written with a window of the whole height. -/
theorem running_rows {R p C : ℕ} (hR : p + 1 = R) (x : (⟨2, ![R, C]⟩ : Shape).Idx → EReal) (init : (⟨0, ![]⟩ : Shape).Idx → EReal) (hi : ∀ i, init i = 0)
    (h : (⟨2, ![R, C]⟩ : Shape).ReduceWindows (![R, 1] : Fin 2 → Nat) ![1, 1] ![p, 0] ![0, 0] ⟨2, ![R, C]⟩) (hu : 0 < (⟨0, ![]⟩ : Shape).numel) (t : Fin R) (c : Fin C) :
    Host.reduceWindowAdd (F := Ideal) (s := ⟨2, ![R, C]⟩) (φ := .f32) ![R, 1] ![1, 1] ![p, 0] ![0, 0] x init h hu (ix2 t c) = ∑ s : Fin R, if s ≤ t then x (ix2 s c) else 0 := by
  rw [← sum_window_rows hR (fun s => x (ix2 s c)) t]
  show Host.reduceWindow (fun a b : EReal => a + b) ![R, 1] ![1, 1] ![p, 0] ![0, 0] x (fun _ : (⟨0, ![]⟩ : Shape).Idx => init _) h (by decide) (ix2 t c) = _
  unfold Host.reduceWindow
  refine (foldl_add_terms _ _ _).trans ?_
  rw [hi, zero_add, ← Fin.sum_univ_def]
  rw [← Equiv.sum_comp (finCongr (Routing.numel_col R)).symm]
  refine Finset.sum_congr rfl fun n _ => ?_
  have hw0 : ((⟨2, ![R, 1]⟩ : Shape).rowMajor.symm ((finCongr (Routing.numel_col R)).symm n) 0).val = n.val := by rw [Routing.symm_col]; rfl
  have hw1 : ((⟨2, ![R, 1]⟩ : Shape).rowMajor.symm ((finCongr (Routing.numel_col R)).symm n) 1).val = 0 := by rw [Routing.symm_col]; rfl
  have hc := c.isLt
  by_cases hn : p ≤ t.val + n.val ∧ t.val + n.val - p < R
  · rw [dif_pos hn, dif_pos]
    · refine congrArg x (funext fun a => Fin.ext ?_)
      match a with
      | ⟨0, _⟩ =>
        show t.val * 1 + ((⟨2, ![R, 1]⟩ : Shape).rowMajor.symm ((finCongr (Routing.numel_col R)).symm n) 0).val - p = t.val + n.val - p
        rw [hw0, Nat.mul_one]
      | ⟨1, _⟩ =>
        show c.val * 1 + ((⟨2, ![R, 1]⟩ : Shape).rowMajor.symm ((finCongr (Routing.numel_col R)).symm n) 1).val - 0 = c.val
        rw [hw1]; omega
    · intro a
      match a with
      | ⟨0, _⟩ =>
        show p ≤ t.val * 1 + ((⟨2, ![R, 1]⟩ : Shape).rowMajor.symm ((finCongr (Routing.numel_col R)).symm n) 0).val ∧ t.val * 1 + ((⟨2, ![R, 1]⟩ : Shape).rowMajor.symm ((finCongr (Routing.numel_col R)).symm n) 0).val - p < R
        rw [hw0, Nat.mul_one]; exact hn
      | ⟨1, _⟩ =>
        show 0 ≤ c.val * 1 + ((⟨2, ![R, 1]⟩ : Shape).rowMajor.symm ((finCongr (Routing.numel_col R)).symm n) 1).val ∧ c.val * 1 + ((⟨2, ![R, 1]⟩ : Shape).rowMajor.symm ((finCongr (Routing.numel_col R)).symm n) 1).val - 0 < C
        rw [hw1]; omega
  · rw [dif_neg hn, dif_neg]
    intro hin
    have h0 := hin 0
    change p ≤ t.val * 1 + ((⟨2, ![R, 1]⟩ : Shape).rowMajor.symm ((finCongr (Routing.numel_col R)).symm n) 0).val ∧ t.val * 1 + ((⟨2, ![R, 1]⟩ : Shape).rowMajor.symm ((finCongr (Routing.numel_col R)).symm n) 0).val - p < R at h0
    rw [hw0, Nat.mul_one] at h0
    exact hn h0

/-- Where a position falls when pieces are laid end to end. -/
theorem locate_sum (ns : List ℕ) (c : ℕ) (h : c < ns.sum) : (ns.take (locate ns c h).1.val).sum + (locate ns c h).2.val = c := by
  induction ns generalizing c with
  | nil => exact absurd h (Nat.not_lt_zero _)
  | cons n ns ih =>
    by_cases hc : c < n
    · have e : locate (n :: ns) c h = ⟨⟨0, Nat.zero_lt_succ _⟩, ⟨c, hc⟩⟩ := by rw [locate, dif_pos hc]
      rw [e]; simp
    · have hs : c - n < ns.sum := by rw [List.sum_cons] at h; omega
      have e : locate (n :: ns) c h = ⟨(locate ns (c - n) hs).1.succ, (locate ns (c - n) hs).2⟩ := by rw [locate, dif_neg hc]
      have e' := ih (c - n) hs
      rw [e]
      simp only [Fin.val_succ, List.take_succ_cons, List.sum_cons]
      show n + (List.take (locate ns (c - n) hs).1.val ns).sum + (locate ns (c - n) hs).2.val = c
      omega

/-- Three tables side by side, read at an entry. -/
theorem side_by_side {R a b d w : ℕ} (hw : a + b + d = w) (x : (⟨2, ![R, a]⟩ : Shape).Idx → EReal) (y : (⟨2, ![R, b]⟩ : Shape).Idx → EReal) (z : (⟨2, ![R, d]⟩ : Shape).Idx → EReal)
    (h : Shape.Concatenates [⟨2, ![R, a]⟩, ⟨2, ![R, b]⟩, ⟨2, ![R, d]⟩] ⟨2, ![R, w]⟩ 1) (r : Fin R) (c : Fin w) :
    concatenate ⟨2, ![R, w]⟩ 1 [⟨⟨2, ![R, a]⟩, x⟩, ⟨⟨2, ![R, b]⟩, y⟩, ⟨⟨2, ![R, d]⟩, z⟩] h (ix2 r c)
      = if h1 : c.val < a then x (ix2 r ⟨c.val, h1⟩) else if h2 : c.val - a < b then y (ix2 r ⟨c.val - a, h2⟩) else z (ix2 r ⟨c.val - a - b, by omega⟩) := by
  have PF : c.val < [a, b, d].sum := by simp; omega
  have hl := locate_sum [a, b, d] c.val PF
  let xs : List ((s : Shape) × (s.Idx → EReal)) := [⟨⟨2, ![R, a]⟩, x⟩, ⟨⟨2, ![R, b]⟩, y⟩, ⟨⟨2, ![R, d]⟩, z⟩]
  have HR : ∀ kr : (k : Fin 3) × Fin ([a, b, d][k]), (xs[kr.1.val]'(by simp [xs])).1.rank = 2 := fun kr => match kr with
    | ⟨⟨0, _⟩, _⟩ => rfl
    | ⟨⟨1, _⟩, _⟩ => rfl
    | ⟨⟨2, _⟩, _⟩ => rfl
  have HK : ∀ kr : (k : Fin 3) × Fin ([a, b, d][k]), ∀ e : Fin (xs[kr.1.val]'(by simp [xs])).1.rank, e.cast (HR kr) = 1 → [a, b, d][kr.1] = (xs[kr.1.val]'(by simp [xs])).1.size e :=
    fun kr => match kr with
    | ⟨⟨0, _⟩, _⟩ => fun e he => by have : e = (1 : Fin 2) := he; subst this; rfl
    | ⟨⟨1, _⟩, _⟩ => fun e he => by have : e = (1 : Fin 2) := he; subst this; rfl
    | ⟨⟨2, _⟩, _⟩ => fun e he => by have : e = (1 : Fin 2) := he; subst this; rfl
  have HB : ∀ kr : (k : Fin 3) × Fin ([a, b, d][k]), ∀ e : Fin (xs[kr.1.val]'(by simp [xs])).1.rank, e.cast (HR kr) ≠ 1 →
      (⟨2, ![R, w]⟩ : Shape).size (e.cast (HR kr)) = (xs[kr.1.val]'(by simp [xs])).1.size e := fun kr => match kr with
    | ⟨⟨0, _⟩, _⟩ => fun e => match e with | ⟨0, _⟩ => fun _ => rfl | ⟨1, _⟩ => fun he => absurd rfl he
    | ⟨⟨1, _⟩, _⟩ => fun e => match e with | ⟨0, _⟩ => fun _ => rfl | ⟨1, _⟩ => fun he => absurd rfl he
    | ⟨⟨2, _⟩, _⟩ => fun e => match e with | ⟨0, _⟩ => fun _ => rfl | ⟨1, _⟩ => fun he => absurd rfl he
  show (fun kr : (k : Fin 3) × Fin ([a, b, d][k]) => (xs[kr.1.val]'(by simp [xs])).2 (fun e => if he : e.cast (HR kr) = 1 then kr.2.cast (HK kr e he)
    else ((ix2 r c : (⟨2, ![R, w]⟩ : Shape).Idx) (e.cast (HR kr))).cast (HB kr e he))) (locate [a, b, d] c.val PF) = _
  generalize locate [a, b, d] c.val PF = kr at hl ⊢
  match kr with
  | ⟨⟨0, _⟩, ⟨v, hv⟩⟩ =>
    change v < a at hv
    change 0 + v = c.val at hl
    rw [dif_pos (by omega)]
    refine congrArg x (funext fun e => Fin.ext ?_)
    match e with
    | ⟨0, _⟩ => rfl
    | ⟨1, _⟩ => show v = c.val; omega
  | ⟨⟨1, _⟩, ⟨v, hv⟩⟩ =>
    change v < b at hv
    change a + 0 + v = c.val at hl
    rw [dif_neg (by omega), dif_pos (by omega)]
    refine congrArg y (funext fun e => Fin.ext ?_)
    match e with
    | ⟨0, _⟩ => rfl
    | ⟨1, _⟩ => show v = c.val - a; omega
  | ⟨⟨2, _⟩, ⟨v, hv⟩⟩ =>
    change v < d at hv
    change a + (b + 0) + v = c.val at hl
    rw [dif_neg (by omega), dif_neg (by omega)]
    refine congrArg z (funext fun e => Fin.ext ?_)
    match e with
    | ⟨0, _⟩ => rfl
    | ⟨1, _⟩ => show v = c.val - a - b; omega

end Cert.Ssd
-- ==== Proof.Reference.lean ====
/- The reference on real arguments: each of its steps is the matching real table, and its result is the three gradients side by side. -/
module

public import proofs.«01_k».proof.Proof.Dense

@[expose] public section

set_option maxRecDepth 16384

noncomputable section

open Idealize.ShloMosaic Idealize.ShloMosaic.TcCoe Idealize.SL.Sem

namespace Cert.Ssd

/-- The arguments of the call hold the real arrays `A`. -/
structure Reads (x0 : (⟨2, ![8192, 3072]⟩ : Shape).Idx → EReal) (x1 : (⟨2, ![8192, 32]⟩ : Shape).Idx → EReal) (x2 : (⟨2, ![8192, 2048]⟩ : Shape).Idx → EReal)
    (x3 x4 x5 : (⟨2, ![1, 32]⟩ : Shape).Idx → EReal) (A : Args) : Prop where
  x : ∀ g s q, x0 (ix2 s ⟨512 * g.val + q.val, by omega⟩) = (A.x g s q : EReal)
  b : ∀ g s n, x0 (ix2 s ⟨2048 + 128 * g.val + n.val, by omega⟩) = (A.b g s n : EReal)
  c : ∀ g s n, x0 (ix2 s ⟨2560 + 128 * g.val + n.val, by omega⟩) = (A.c g s n : EReal)
  y : ∀ g s q, x2 (ix2 s ⟨512 * g.val + q.val, by omega⟩) = (A.y g s q : EReal)
  t : ∀ s h, x1 (ix2 s h) = (A.t s h : EReal)
  tb : ∀ h, x3 (ix2 0 h) = (A.tb h : EReal)
  al : ∀ h, x4 (ix2 0 h) = (A.al h : EReal)
  k : ∀ h, x5 (ix2 0 h) = (A.k h : EReal)

/-- Column `p` of head `j` of a group, and that head among all. -/
def colOf (j : Fin 8) (p : Fin 64) : Fin 512 := ⟨64 * j.val + p.val, by omega⟩
def hd (g : Fin 4) (j : Fin 8) : Fin 32 := ⟨8 * g.val + j.val, by omega⟩

theorem headOf_colOf (g : Fin 4) (j : Fin 8) (p : Fin 64) : headOf g (colOf j p) = hd g j := by
  apply Fin.ext; unfold headOf hd colOf; dsimp only; omega

theorem eq_colOf (q : Fin 512) : q = colOf ⟨q.val / 64, by omega⟩ ⟨q.val % 64, by omega⟩ := by
  apply Fin.ext; unfold colOf; dsimp only; omega

theorem sum_colOf (f : Fin 512 → ℝ) : ∑ q, f q = ∑ j, ∑ p, f (colOf j p) := Cert.Sums.sum_blocks 8 64 512 rfl f

end Cert.Ssd

namespace Cert.ReferenceSsdIdeal.Sem

open Cert.ReferenceSsdIdeal Cert.ReferenceSsdIdeal.Gen Cert.ReferenceSsdIdeal.Read Cert.Ssd

variable {x0 : (⟨2, ![8192, 3072]⟩ : Shape).Idx → EReal} {x1 : (⟨2, ![8192, 32]⟩ : Shape).Idx → EReal} {x2 : (⟨2, ![8192, 2048]⟩ : Shape).Idx → EReal}
  {x3 x4 x5 : (⟨2, ![1, 32]⟩ : Shape).Idx → EReal} {A : Args} (H : Reads x0 x1 x2 x3 x4 x5 A)
include H

theorem pre_at (s : Fin 8192) (h : Fin 32) : val_main_v6 (F := Ideal) x1 x3 (ix2 s h) = ((A.t s h + A.tb h : ℝ) : EReal) := by
  rw [val_main_v6_apply, val_main_v5_apply, EReal.coe_add]
  refine congrArg₂ (· + ·) (H.t s h) ((congrArg x3 (funext fun a => ?_)).trans (H.tb h))
  match a with
  | ⟨0, _⟩ => rfl
  | ⟨1, _⟩ => rfl

theorem shift_at (s : Fin 8192) (h : Fin 32) : val_main_call0_v3 (F := Ideal) x1 x3 (ix2 s h) = ((A.t s h + A.tb h : ℝ) : EReal) := by
  rw [val_main_call0_v3_apply, pre_at H, val_main_call0_v2_apply, val_main_call0_cst_apply]
  show _ - Ideal.ofBits .f32 0x00000000#32 = _
  rw [Ideal.ofBits_zero_f32, sub_zero]

/-- The step sizes. -/
theorem step_at (s : Fin 8192) (h : Fin 32) : val_main_v7 (F := Ideal) x1 x3 (ix2 s h) = (A.step s h : EReal) := by
  have e : val_main_call0_v4 (F := Ideal) x1 x3 (ix2 s h) = 0#1 := by
    rw [val_main_call0_v4_apply, shift_at H, Ideal.cmpf_def]
    unfold Ideal.cmp
    simp
  rw [val_main_v7_apply, e]
  unfold Scalar.select
  rw [if_neg (by decide), val_main_call0_v11_apply, val_main_call0_v1_apply, pre_at H, val_main_call0_v0_apply, val_main_call0_cst_apply,
    val_main_call0_v10_apply, val_main_call0_v9_apply, val_main_call0_v8_apply, val_main_call0_v7_apply, shift_at H]
  show max ((A.t s h + A.tb h : ℝ) : EReal) (Ideal.ofBits .f32 0x00000000#32)
    + Ideal.log (1 + Ideal.exp (-(max ((A.t s h + A.tb h : ℝ) : EReal) (-((A.t s h + A.tb h : ℝ) : EReal))))) = _
  rw [Ideal.ofBits_zero_f32, ← EReal.coe_zero, Cert.Lift.coe_max, ← EReal.coe_neg, Cert.Lift.coe_max, ← EReal.coe_neg, Ideal.exp_coe, ← EReal.coe_one, ← EReal.coe_add, Ideal.log_coe,
    if_neg (not_le.mpr (by positivity)), ← EReal.coe_add]
  unfold Args.step soft
  rw [zero_sub]
  rfl

/-- The decay of each step. -/
theorem rate_at (s : Fin 8192) (h : Fin 32) : val_main_v11 (F := Ideal) x1 x3 x4 (ix2 s h) = (A.rate s h : EReal) := by
  rw [val_main_v11_apply, step_at H, val_main_v10_apply, val_main_v9_apply, val_main_v8_apply]
  have e : x4 (idx_main_v10 (ix2 s h)) = (A.al h : EReal) := (congrArg x4 (funext fun a => by
    match a with
    | ⟨0, _⟩ => rfl
    | ⟨1, _⟩ => rfl)).trans (H.al h)
  rw [e]
  show (A.step s h : EReal) * -(Ideal.exp (A.al h : EReal)) = _
  rw [Ideal.exp_coe, ← EReal.coe_neg, ← EReal.coe_mul]
  unfold Args.rate
  rw [zero_sub]

/-- Its running sum. -/
theorem tot_at (t : Fin 8192) (h : Fin 32) : val_main_v12 (F := Ideal) x1 x3 x4 (ix2 t h) = (A.tot t h : EReal) := by
  unfold val_main_v12
  refine (running_rows (p := 8191) (R := 8192) (C := 32) rfl _ _ (fun i => ?_) _ _ t h).trans ?_
  · rw [val_main_call1_call0_v0_apply, val_main_call1_call0_cst_apply]
    exact Ideal.ofBits_zero_f32
  · unfold Args.tot
    rw [← Cert.Lift.coe_sum]
    refine Finset.sum_congr rfl fun s _ => ?_
    by_cases hs : s ≤ t
    · rw [if_pos hs, if_pos hs, rate_at H]
    · rw [if_neg hs, if_neg hs, EReal.coe_zero]

theorem tot_lane (g : Fin 4) (j : Fin 8) (t : Fin 8192) : val_main_v18 (F := Ideal) x1 x3 x4 (ix3 g j t) = (A.tot t (hd g j) : EReal) := by
  rw [val_main_v18_apply, val_main_v17_apply]
  refine (congrArg (val_main_v12 (F := Ideal) x1 x3 x4) (funext fun a => Fin.ext ?_)).trans (tot_at H t (hd g j))
  match a with
  | ⟨0, _⟩ => show ((g.val * 8 + j.val) * 8192 + t.val) % 8192 = t.val; omega
  | ⟨1, _⟩ => show ((g.val * 8 + j.val) * 8192 + t.val) / 8192 = 8 * g.val + j.val; omega

omit H in
theorem causal_at (t s : Fin 8192) : val_main_v20 (F := Ideal) (ix2 t s) = if s ≤ t then 1#1 else 0#1 := by
  rw [val_main_v20_apply, val_main_v19_apply, val_main_c_apply, val_main_call2_v5_apply, val_main_call2_c_0_apply, val_main_call2_v4_apply, val_main_call2_v2_apply, val_main_call2_v0_apply,
    val_main_call2_v1_apply, val_main_call2_c_apply, val_main_call2_v3_apply]
  show Scalar.select (IntOp.cmpi .sge (BitVec.ofNat 32 t.val + 0#32) (BitVec.ofNat 32 s.val)) 1#1 0#1 = _
  rw [BitVec.add_zero]
  unfold Scalar.select
  refine if_congr ?_ rfl rfl
  have ht := t.isLt
  have hs := s.isLt
  rw [Fin.le_def]
  exact WordCmp.cmpi_sge_ofNat_eq_one_iff (by omega) (by omega)

/-- The decay from one position to a later one. -/
theorem dec_at (g : Fin 4) (j : Fin 8) (t s : Fin 8192) : val_main_v27 (F := Ideal) x1 x3 x4 (ix4 g j t s) = (A.dec (hd g j) t s : EReal) := by
  rw [val_main_v27_apply, val_main_v26_apply, val_main_call3_v1_apply, val_main_v25_apply, val_main_v23_apply, val_main_v21_apply, val_main_v24_apply, val_main_v22_apply,
    val_main_call3_v2_apply, val_main_call3_v0_apply, val_main_cst_apply]
  have e1 : idx_main_call3_v1 (ix4 g j t s) = ix2 t s := funext fun a => by
    match a with
    | ⟨0, _⟩ => rfl
    | ⟨1, _⟩ => rfl
  have e2 : idx_main_v21 (idx_main_v23 (ix4 g j t s)) = ix3 g j t := funext fun a => by
    match a with
    | ⟨0, _⟩ => rfl
    | ⟨1, _⟩ => rfl
    | ⟨2, _⟩ => rfl
  have e3 : idx_main_v22 (idx_main_v24 (ix4 g j t s)) = ix3 g j s := funext fun a => by
    match a with
    | ⟨0, _⟩ => rfl
    | ⟨1, _⟩ => rfl
    | ⟨2, _⟩ => rfl
  rw [e1, e2, e3, tot_lane H, tot_lane H, causal_at]
  unfold Args.dec
  by_cases hs : s ≤ t
  · rw [if_pos hs, if_pos hs]
    show Ideal.exp ((A.tot t (hd g j) : EReal) - (A.tot s (hd g j) : EReal)) = _
    rw [← EReal.coe_sub, Ideal.exp_coe]
  · rw [if_neg hs, if_neg hs]
    show Ideal.exp (FloatOps.ofBits (F := Ideal) .f32 0xFF800000#32) = _
    have : (FloatOps.ofBits (F := Ideal) .f32 0xFF800000#32 : EReal) = ⊥ := by
      show Ideal.ofBits .f32 0xFF800000#32 = ⊥
      simp [Ideal.ofBits, Ideal.ieee]
    rw [this, Ideal.exp_bot, EReal.coe_zero]

theorem b_at (s : Fin 8192) (g : Fin 4) (n : Fin 128) : val_main_v29 (F := Ideal) x0 (ix3 s g n) = (A.b g s n : EReal) := by
  rw [val_main_v29_apply, val_main_v2_apply, val_main_v0_apply, Ideal.extf_def]
  refine (congrArg x0 (funext fun a => Fin.ext ?_)).trans (H.b g s n)
  match a with
  | ⟨0, _⟩ => show ((s.val * 4 + g.val) * 128 + n.val) / 512 = s.val; omega
  | ⟨1, _⟩ => show 2048 + ((s.val * 4 + g.val) * 128 + n.val) % 512 = 2048 + 128 * g.val + n.val; omega

theorem c_at (s : Fin 8192) (g : Fin 4) (n : Fin 128) : val_main_v28 (F := Ideal) x0 (ix3 s g n) = (A.c g s n : EReal) := by
  rw [val_main_v28_apply, val_main_v3_apply, val_main_v0_apply, Ideal.extf_def]
  refine (congrArg x0 (funext fun a => Fin.ext ?_)).trans (H.c g s n)
  match a with
  | ⟨0, _⟩ => show ((s.val * 4 + g.val) * 128 + n.val) / 512 = s.val; omega
  | ⟨1, _⟩ => show 2560 + ((s.val * 4 + g.val) * 128 + n.val) % 512 = 2560 + 128 * g.val + n.val; omega

theorem x_at (s : Fin 8192) (g : Fin 4) (j : Fin 8) (p : Fin 64) : val_main_v4 (F := Ideal) x0 (ix4 s g j p) = (A.x g s (colOf j p) : EReal) := by
  rw [val_main_v4_apply, val_main_v1_apply, val_main_v0_apply, Ideal.extf_def]
  refine (congrArg x0 (funext fun a => Fin.ext ?_)).trans (H.x g s (colOf j p))
  match a with
  | ⟨0, _⟩ => show (((s.val * 4 + g.val) * 8 + j.val) * 64 + p.val) / 2048 = s.val; omega
  | ⟨1, _⟩ => show (((s.val * 4 + g.val) * 8 + j.val) * 64 + p.val) % 2048 = 512 * g.val + (64 * j.val + p.val); omega

theorem y_at (s : Fin 8192) (g : Fin 4) (j : Fin 8) (p : Fin 64) : val_main_v44 (F := Ideal) x2 (ix4 s g j p) = (A.y g s (colOf j p) : EReal) := by
  rw [val_main_v44_apply, val_main_v43_apply, Ideal.extf_def]
  refine (congrArg x2 (funext fun a => Fin.ext ?_)).trans (H.y g s (colOf j p))
  match a with
  | ⟨0, _⟩ => show (((s.val * 4 + g.val) * 8 + j.val) * 64 + p.val) / 2048 = s.val; omega
  | ⟨1, _⟩ => show (((s.val * 4 + g.val) * 8 + j.val) * 64 + p.val) % 2048 = 512 * g.val + (64 * j.val + p.val); omega

theorem step_lane (s : Fin 8192) (g : Fin 4) (j : Fin 8) : val_main_v14 (F := Ideal) x1 x3 (ix4 (n3 := 1) s g j 0) = (A.step s (hd g j) : EReal) := by
  rw [val_main_v14_apply, val_main_v13_apply]
  refine (congrArg (val_main_v7 (F := Ideal) x1 x3) (funext fun a => Fin.ext ?_)).trans (step_at H s (hd g j))
  match a with
  | ⟨0, _⟩ => show ((s.val * 4 + g.val) * 8 + j.val) / 32 = s.val; omega
  | ⟨1, _⟩ => show ((s.val * 4 + g.val) * 8 + j.val) % 32 = 8 * g.val + j.val; omega

theorem xs_at (s : Fin 8192) (g : Fin 4) (j : Fin 8) (p : Fin 64) : val_main_v16 (F := Ideal) x0 x1 x3 (ix4 s g j p) = ((A.x g s (colOf j p) * A.step s (hd g j) : ℝ) : EReal) := by
  rw [val_main_v16_apply, x_at H, val_main_v15_apply, EReal.coe_mul]
  refine congrArg₂ (· * ·) rfl ((congrArg (val_main_v14 (F := Ideal) x1 x3) (funext fun a => ?_)).trans (step_lane H s g j))
  match a with
  | ⟨0, _⟩ => rfl
  | ⟨1, _⟩ => rfl
  | ⟨2, _⟩ => rfl
  | ⟨3, _⟩ => rfl

theorem gram_at (g : Fin 4) (t s : Fin 8192) : val_main_v30 (F := Ideal) x0 (ix3 g t s) = (A.gram g t s : EReal) := by
  rw [val_main_v30_apply]
  unfold Args.gram
  rw [← Cert.Lift.coe_sum]
  refine Finset.sum_congr rfl fun n _ => ?_
  rw [EReal.coe_mul]
  refine congrArg₂ (· * ·) ((congrArg (val_main_v28 (F := Ideal) x0) (funext fun a => ?_)).trans (c_at H t g n)) ((congrArg (val_main_v29 (F := Ideal) x0) (funext fun a => ?_)).trans (b_at H s g n))
  · match a with
    | ⟨0, _⟩ => rfl
    | ⟨1, _⟩ => rfl
    | ⟨2, _⟩ => rfl
  · match a with
    | ⟨0, _⟩ => rfl
    | ⟨1, _⟩ => rfl
    | ⟨2, _⟩ => rfl

theorem attn_at (g : Fin 4) (j : Fin 8) (t s : Fin 8192) : val_main_v33 (F := Ideal) x0 x1 x3 x4 (ix4 g j t s) = ((A.gram g t s * A.dec (hd g j) t s : ℝ) : EReal) := by
  rw [val_main_v33_apply, dec_at H, val_main_v32_apply, val_main_v31_apply, EReal.coe_mul]
  refine congrArg₂ (· * ·) ((congrArg (val_main_v30 (F := Ideal) x0) (funext fun a => ?_)).trans (gram_at H g t s)) rfl
  match a with
  | ⟨0, _⟩ => rfl
  | ⟨1, _⟩ => rfl
  | ⟨2, _⟩ => rfl

theorem yt_at (g : Fin 4) (j : Fin 8) (p : Fin 64) (t : Fin 8192) : val_main_v47 (F := Ideal) x2 (ix4 g j p t) = (A.y g t (colOf j p) : EReal) := by
  rw [val_main_v47_apply]
  refine (congrArg (val_main_v44 (F := Ideal) x2) (funext fun a => ?_)).trans (y_at H t g j p)
  match a with
  | ⟨0, _⟩ => rfl
  | ⟨1, _⟩ => rfl
  | ⟨2, _⟩ => rfl
  | ⟨3, _⟩ => rfl

/-- The gradient with respect to the product of the attention-like matrix and the decays, one head. -/
theorem pair_at (g : Fin 4) (j : Fin 8) (t s : Fin 8192) :
    val_main_v48 (F := Ideal) x0 x1 x2 x3 (ix4 g j t s) = ((∑ p, A.y g t (colOf j p) * (A.x g s (colOf j p) * A.step s (hd g j)) : ℝ) : EReal) := by
  rw [val_main_v48_apply, ← Cert.Lift.coe_sum]
  refine Finset.sum_congr rfl fun p _ => ?_
  rw [EReal.coe_mul]
  refine congrArg₂ (· * ·) ((congrArg (val_main_v47 (F := Ideal) x2) (funext fun a => ?_)).trans (yt_at H g j p t)) ((congrArg (val_main_v16 (F := Ideal) x0 x1 x3) (funext fun a => ?_)).trans (xs_at H s g j p))
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl
    | ⟨3, _⟩ => rfl

/-- The gradient with respect to the gram matrix. -/
theorem gramGrad_at (g : Fin 4) (t s : Fin 8192) : val_main_v52 (F := Ideal) x0 x1 x2 x3 x4 (ix3 g t s) = (A.gramGrad g t s : EReal) := by
  rw [val_main_v52_apply, val_main_cst_0_apply]
  show Ideal.ofBits .f32 0x00000000#32 + _ = _
  rw [Ideal.ofBits_zero_f32, zero_add]
  unfold Args.gramGrad
  rw [sum_colOf, ← Cert.Lift.coe_sum]
  refine Finset.sum_congr rfl fun j _ => ?_
  have e : idx_main_v52 (ix3 g t s) j = ix4 g j t s := funext fun a => by
    match a with
    | ⟨0, _⟩ => rfl
    | ⟨1, _⟩ => rfl
    | ⟨2, _⟩ => rfl
    | ⟨3, _⟩ => rfl
  rw [e, val_main_v51_apply, pair_at H, dec_at H]
  show _ * _ = _
  rw [← EReal.coe_mul, Finset.sum_mul]
  refine congrArg _ (Finset.sum_congr rfl fun p _ => ?_)
  rw [headOf_colOf]

theorem gramGrad_at' (g : Fin 4) (t s : Fin 8192) : val_main_v54 (F := Ideal) x0 x1 x2 x3 x4 (ix3 g t s) = (A.gramGrad g t s : EReal) := by
  rw [val_main_v54_apply, val_main_cst_1_apply]
  show Ideal.ofBits .f32 0x00000000#32 + _ = _
  rw [Ideal.ofBits_zero_f32, zero_add, Fin.sum_univ_one, val_main_v53_apply]
  refine (congrArg (val_main_v52 (F := Ideal) x0 x1 x2 x3 x4) (funext fun a => Fin.ext ?_)).trans (gramGrad_at H g t s)
  match a with
  | ⟨0, _⟩ => show (((g.val * 1 + 0) * 8192 + t.val) * 8192 + s.val) / 67108864 = g.val; omega
  | ⟨1, _⟩ => show (((g.val * 1 + 0) * 8192 + t.val) * 8192 + s.val) / 8192 % 8192 = t.val; omega
  | ⟨2, _⟩ => show (((g.val * 1 + 0) * 8192 + t.val) * 8192 + s.val) % 8192 = s.val; omega

theorem row_at (s : Fin 8192) (g : Fin 4) (n : Fin 128) : val_main_v59 (F := Ideal) x0 x1 x2 x3 x4 (ix2 s ⟨128 * g.val + n.val, by omega⟩) = (A.row g s n : EReal) := by
  rw [val_main_v59_apply, val_main_v56_apply]
  have e : idx_main_v56 (idx_main_v59 (ix2 s ⟨128 * g.val + n.val, by omega⟩)) = ix3 g s n := funext fun a => Fin.ext (by
    match a with
    | ⟨0, _⟩ => show (s.val * 512 + (128 * g.val + n.val)) / 128 % 4 = g.val; omega
    | ⟨1, _⟩ => show (s.val * 512 + (128 * g.val + n.val)) / 512 = s.val; omega
    | ⟨2, _⟩ => show (s.val * 512 + (128 * g.val + n.val)) % 128 = n.val; omega)
  rw [e, val_main_v55_apply]
  unfold Args.row
  rw [← Cert.Lift.coe_sum]
  refine Finset.sum_congr rfl fun t _ => ?_
  rw [EReal.coe_mul]
  refine congrArg₂ (· * ·) ((congrArg (val_main_v54 (F := Ideal) x0 x1 x2 x3 x4) (funext fun a => ?_)).trans (gramGrad_at' H g t s)) ((congrArg (val_main_v28 (F := Ideal) x0) (funext fun a => ?_)).trans (c_at H t g n))
  · match a with
    | ⟨0, _⟩ => rfl
    | ⟨1, _⟩ => rfl
    | ⟨2, _⟩ => rfl
  · match a with
    | ⟨0, _⟩ => rfl
    | ⟨1, _⟩ => rfl
    | ⟨2, _⟩ => rfl

theorem out_at (t : Fin 8192) (g : Fin 4) (n : Fin 128) : val_main_v60 (F := Ideal) x0 x1 x2 x3 x4 (ix2 t ⟨128 * g.val + n.val, by omega⟩) = (A.out g t n : EReal) := by
  rw [val_main_v60_apply, val_main_v58_apply]
  have e : idx_main_v58 (idx_main_v60 (ix2 t ⟨128 * g.val + n.val, by omega⟩)) = ix3 g t n := funext fun a => Fin.ext (by
    match a with
    | ⟨0, _⟩ => show (t.val * 512 + (128 * g.val + n.val)) / 128 % 4 = g.val; omega
    | ⟨1, _⟩ => show (t.val * 512 + (128 * g.val + n.val)) / 512 = t.val; omega
    | ⟨2, _⟩ => show (t.val * 512 + (128 * g.val + n.val)) % 128 = n.val; omega)
  rw [e, val_main_v57_apply]
  unfold Args.out
  rw [← Cert.Lift.coe_sum]
  refine Finset.sum_congr rfl fun s _ => ?_
  rw [EReal.coe_mul]
  refine congrArg₂ (· * ·) ((congrArg (val_main_v54 (F := Ideal) x0 x1 x2 x3 x4) (funext fun a => ?_)).trans (gramGrad_at' H g t s)) ((congrArg (val_main_v29 (F := Ideal) x0) (funext fun a => ?_)).trans (b_at H s g n))
  · match a with
    | ⟨0, _⟩ => rfl
    | ⟨1, _⟩ => rfl
    | ⟨2, _⟩ => rfl
  · match a with
    | ⟨0, _⟩ => rfl
    | ⟨1, _⟩ => rfl
    | ⟨2, _⟩ => rfl

theorem back_at (s : Fin 8192) (g : Fin 4) (j : Fin 8) (p : Fin 64) :
    val_main_v50 (F := Ideal) x0 x1 x2 x3 x4 (ix4 s g j p) = ((∑ t, A.gram g t s * A.dec (hd g j) t s * A.y g t (colOf j p) : ℝ) : EReal) := by
  rw [val_main_v50_apply]
  have e : idx_main_v50 (ix4 s g j p) = ix4 g j p s := funext fun a => by
    match a with
    | ⟨0, _⟩ => rfl
    | ⟨1, _⟩ => rfl
    | ⟨2, _⟩ => rfl
    | ⟨3, _⟩ => rfl
  rw [e, val_main_v49_apply, ← Cert.Lift.coe_sum]
  refine Finset.sum_congr rfl fun t _ => ?_
  rw [mul_comm (A.gram g t s * A.dec (hd g j) t s) (A.y g t (colOf j p)), EReal.coe_mul]
  refine congrArg₂ (· * ·) ((congrArg (val_main_v47 (F := Ideal) x2) (funext fun a => ?_)).trans (yt_at H g j p t)) ((congrArg (val_main_v33 (F := Ideal) x0 x1 x3 x4) (funext fun a => ?_)).trans (attn_at H g j t s))
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl
    | ⟨3, _⟩ => rfl

theorem skip_at (s : Fin 8192) (g : Fin 4) (j : Fin 8) (p : Fin 64) : val_main_v45 (F := Ideal) x5 (ix4 s g j p) = (A.k (hd g j) : EReal) := by
  rw [val_main_v45_apply, val_main_v38_apply, val_main_v37_apply, val_main_v36_apply]
  refine (congrArg x5 (funext fun a => Fin.ext ?_)).trans (H.k (hd g j))
  match a with
  | ⟨0, _⟩ => first | rfl | (show _ / 32 = 0; omega)
  | ⟨1, _⟩ => show (g.val * 8 + j.val) % 32 = 8 * g.val + j.val; omega

theorem inp_at (s : Fin 8192) (g : Fin 4) (q : Fin 512) : val_main_v64 (F := Ideal) x0 x1 x2 x3 x4 x5 (ix2 s ⟨512 * g.val + q.val, by omega⟩) = (A.inp g s q : EReal) := by
  obtain ⟨j, p, rfl⟩ : ∃ (j : Fin 8) (p : Fin 64), q = colOf j p := ⟨_, _, eq_colOf q⟩
  rw [val_main_v64_apply]
  have e : idx_main_v64 (ix2 s ⟨512 * g.val + (colOf j p).val, by omega⟩) = ix4 s g j p := funext fun a => Fin.ext (by
    match a with
    | ⟨0, _⟩ => show (s.val * 2048 + (512 * g.val + (64 * j.val + p.val))) / 2048 = s.val; omega
    | ⟨1, _⟩ => show (s.val * 2048 + (512 * g.val + (64 * j.val + p.val))) / 512 % 4 = g.val; omega
    | ⟨2, _⟩ => show (s.val * 2048 + (512 * g.val + (64 * j.val + p.val))) / 64 % 8 = j.val; omega
    | ⟨3, _⟩ => show (s.val * 2048 + (512 * g.val + (64 * j.val + p.val))) % 64 = p.val; omega)
  have e1 : idx_main_v61 (ix4 s g j p) = ix4 (n3 := 1) s g j 0 := funext fun a => by
    match a with
    | ⟨0, _⟩ => rfl
    | ⟨1, _⟩ => rfl
    | ⟨2, _⟩ => rfl
    | ⟨3, _⟩ => rfl
  rw [e, val_main_v63_apply, val_main_v46_apply, skip_at H, y_at H, val_main_v62_apply, back_at H, val_main_v61_apply, e1, step_lane H]
  show (A.k (hd g j) : EReal) * (A.y g s (colOf j p) : EReal) + _ * (A.step s (hd g j) : EReal) = _
  rw [← EReal.coe_mul, ← EReal.coe_mul, ← EReal.coe_add]
  unfold Args.inp
  rw [headOf_colOf, add_comm]

theorem res_inp (s : Fin 8192) (g : Fin 4) (q : Fin 512) : val_main_v66 (F := Ideal) x0 x1 x2 x3 x4 x5 (ix2 s ⟨512 * g.val + q.val, by omega⟩) = (A.inp g s q : EReal) := by
  rw [val_main_v66_apply, Ideal.truncf_def]
  unfold val_main_v65
  refine (side_by_side (R := 8192) (a := 2048) (b := 512) (d := 512) (w := 3072) rfl _ _ _ _ s _).trans ?_
  rw [dif_pos (show 512 * g.val + q.val < 2048 by omega)]
  exact inp_at H s g q

theorem res_row (s : Fin 8192) (g : Fin 4) (n : Fin 128) : val_main_v66 (F := Ideal) x0 x1 x2 x3 x4 x5 (ix2 s ⟨2048 + 128 * g.val + n.val, by omega⟩) = (A.row g s n : EReal) := by
  rw [val_main_v66_apply, Ideal.truncf_def]
  unfold val_main_v65
  refine (side_by_side (R := 8192) (a := 2048) (b := 512) (d := 512) (w := 3072) rfl _ _ _ _ s _).trans ?_
  rw [dif_neg (show ¬ 2048 + 128 * g.val + n.val < 2048 by omega), dif_pos (show 2048 + 128 * g.val + n.val - 2048 < 512 by omega)]
  refine (congrArg (val_main_v59 (F := Ideal) x0 x1 x2 x3 x4) (congrArg (ix2 s) (Fin.ext ?_))).trans (row_at H s g n)
  show 2048 + 128 * g.val + n.val - 2048 = 128 * g.val + n.val
  omega

theorem res_out (s : Fin 8192) (g : Fin 4) (n : Fin 128) : val_main_v66 (F := Ideal) x0 x1 x2 x3 x4 x5 (ix2 s ⟨2560 + 128 * g.val + n.val, by omega⟩) = (A.out g s n : EReal) := by
  rw [val_main_v66_apply, Ideal.truncf_def]
  unfold val_main_v65
  refine (side_by_side (R := 8192) (a := 2048) (b := 512) (d := 512) (w := 3072) rfl _ _ _ _ s _).trans ?_
  rw [dif_neg (show ¬ 2560 + 128 * g.val + n.val < 2048 by omega), dif_neg (show ¬ 2560 + 128 * g.val + n.val - 2048 < 512 by omega)]
  refine (congrArg (val_main_v60 (F := Ideal) x0 x1 x2 x3 x4) (congrArg (ix2 s) (Fin.ext ?_))).trans (out_at H s g n)
  show 2560 + 128 * g.val + n.val - 2048 - 512 = 128 * g.val + n.val
  omega

end Cert.ReferenceSsdIdeal.Sem
-- ==== Proof.States.lean ====
/- The states the kernel is given: its host lines, on real arguments, make the running states of the recurrence at the start of every chunk. -/
module

public import proofs.«01_k».proof.Proof.Sweep
public import proofs.«01_k».proof.Proof.Reference
public import Idealize.ShloMosaic.Lib.KernelVsHost
public import Idealize.ShloMosaic.Lib.Claim

@[expose] public section

set_option maxRecDepth 16384

noncomputable section

open Idealize.ShloMosaic Idealize.ShloMosaic.TcCoe Idealize.SL.Sem

namespace Cert.Ssd

/-- The running sum up to the first row of a chunk, less that row's own term, is the sum over the rows before the chunk. -/
theorem before_eq (A : Args) (c : Fin 64) (h : Fin 32) : A.tot (Args.at' c 0) h - A.rate (Args.at' c 0) h = A.before c.val h := by
  unfold Args.tot Args.before
  have e : (∑ s : Fin 8192, if s ≤ Args.at' c 0 then A.rate s h else 0)
      = (∑ s : Fin 8192, if s.val < 128 * c.val then A.rate s h else 0) + ∑ s : Fin 8192, if s = Args.at' c 0 then A.rate s h else 0 := by
    rw [← Finset.sum_add_distrib]
    refine Finset.sum_congr rfl fun s _ => ?_
    have e1 : s ≤ Args.at' c 0 ↔ s.val ≤ 128 * c.val := by rw [Fin.le_def]; unfold Args.at'; rfl
    have e2 : s = Args.at' c 0 ↔ s.val = 128 * c.val := by rw [Fin.ext_iff]; unfold Args.at'; rfl
    simp only [e1, e2]
    by_cases h1 : s.val < 128 * c.val
    · rw [if_pos (by omega), if_pos h1, if_neg (by omega), add_zero]
    · by_cases h2 : s.val = 128 * c.val
      · rw [if_pos (by omega), if_neg h1, if_pos h2, zero_add]
      · rw [if_neg (by omega), if_neg h1, if_neg h2, add_zero]
  rw [e, Finset.sum_ite_eq' Finset.univ (Args.at' c 0), if_pos (Finset.mem_univ _)]
  ring

end Cert.Ssd

namespace Cert.KernelSsdIdeal.States

open Cert.KernelSsdIdeal Cert.KernelSsdIdeal.Gen Cert.Ssd

/-! The host lines, in the order they are run. -/

/-- The running sum at the start of each chunk. -/
def starts (tot rate : S8192x32.Idx → EReal) : S64x32.Idx → EReal :=
  shapeCast S64x32 (extractStridedSlice S64x1x32 ![0, 0, 0] (shapeCast S64x128x32 (subf (F := Ideal) (φ := .f32) tot rate : S8192x32.Idx → EReal) shapeCasts_S8192x32_S64x128x32)
    slices_S64x128x32_S64x1x32_0_0_0) shapeCasts_S64x1x32_S64x32

/-- Which rows lie before which chunk. -/
def earlier : S64x8192.Idx → BitVec 1 :=
  cmpi .slt (broadcastInDim S64x8192 ![0, 1] bcast_S1x8192_S64x8192_0_1 (broadcastInDim S1x8192 ![1] bcast_S8192_S1x8192_1 (iotaInDim S8192 32 0)))
    (broadcastInDim S64x8192 ![0, 1] bcast_S64x1_S64x8192_0_1 (broadcastInDim S64x1 ![0] bcast_S64_S64x1_0
      (muli (broadcastInDim S64 ![] bcast_S_S64 (constantI S_ 32 128#32)) (iotaInDim S64 32 0))))

/-- The decay from a row to the start of a later chunk. -/
def decay (start : S64x32.Idx → EReal) (tot : S8192x32.Idx → EReal) : S64x8192x32.Idx → EReal :=
  Host.exp (F := Ideal) (φ := .f32) (select (broadcastInDim S64x8192x32 ![0, 1, 2] bcast_S64x8192x1_S64x8192x32_0_1_2 (broadcastInDim S64x8192x1 ![0, 1] bcast_S64x8192_S64x8192x1_0_1 earlier))
    (subf (F := Ideal) (φ := .f32) (broadcastInDim S64x8192x32 ![0, 1, 2] bcast_S64x1x32_S64x8192x32_0_1_2 (broadcastInDim S64x1x32 ![0, 2] bcast_S64x32_S64x1x32_0_2 start))
      (broadcastInDim S64x8192x32 ![0, 1, 2] bcast_S1x8192x32_S64x8192x32_0_1_2 (broadcastInDim S1x8192x32 ![1, 2] bcast_S8192x32_S1x8192x32_1_2 tot)) : S64x8192x32.Idx → EReal)
    (broadcastInDim S64x8192x32 ![] bcast_S_S64x8192x32 (constant (F := Ideal) S_ .f32 0xFF800000#32 : S_.Idx → EReal)))

/-- The rows to be summed: each row's input times its step size. -/
def scaled (x : S8192x2048.Idx → EReal) (step : S8192x32.Idx → EReal) : S8192x4x8x64.Idx → EReal :=
  shapeCast S8192x4x8x64 (mulf (F := Ideal) (φ := .f32) (shapeCast S8192x32x64 x shapeCasts_S8192x2048_S8192x32x64)
    (broadcastInDim S8192x32x64 ![0, 1, 2] bcast_S8192x32x1_S8192x32x64_0_1_2 (broadcastInDim S8192x32x1 ![0, 1] bcast_S8192x32_S8192x32x1_0_1 step)) : S8192x32x64.Idx → EReal)
    shapeCasts_S8192x32x64_S8192x4x8x64

/-- Each row as it is left at the start of each chunk. -/
def decayed (d : S64x8192x32.Idx → EReal) (r : S8192x4x8x64.Idx → EReal) : S64x8192x4x8x64.Idx → EReal :=
  mulf (F := Ideal) (φ := .f32)
    (broadcastInDim S64x8192x4x8x64 ![0, 1, 2, 3, 4] bcast_S64x8192x4x8x1_S64x8192x4x8x64_0_1_2_3_4 (shapeCast S64x8192x4x8x1 d shapeCasts_S64x8192x32_S64x8192x4x8x1))
    (broadcastInDim S64x8192x4x8x64 ![0, 1, 2, 3, 4] bcast_S1x8192x4x8x64_S64x8192x4x8x64_0_1_2_3_4
      (broadcastInDim S1x8192x4x8x64 ![1, 2, 3, 4] bcast_S8192x4x8x64_S1x8192x4x8x64_1_2_3_4 r))

/-- The states: the sums over the rows. -/
def summed (d : S64x8192x4x8x64.Idx → EReal) (b : S8192x4x128.Idx → EReal) : S4x64x8x64x128.Idx → EReal :=
  Host.dotGeneral (F := Ideal) (φ₁ := .f32) (φ₂ := .f32) dot_S64x8192x4x8x64_S8192x4x128_S4x64x8x64x128_1_0_034_2_2_1 none d b

def laid (y : S4x64x8x64x128.Idx → EReal) : S64x128x2048.Idx → EReal :=
  shapeCast S64x128x2048 (transpose S64x128x4x8x64 [1, 4, 0, 2, 3] y transposes_S4x64x8x64x128_S64x128x4x8x64_1_4_0_2_3) shapeCasts_S64x128x4x8x64_S64x128x2048

variable (m : (ℓ : Loc nD τ sig) → Buf (Elt Ideal) ℓ) (c : Dev nD)

def a0 : S8192x3072.Idx → EReal := m ((c : Thread nD τ).loc main_arg0)
def a1 : S8192x32.Idx → EReal := m ((c : Thread nD τ).loc main_arg1)
def a2 : S8192x2048.Idx → EReal := m ((c : Thread nD τ).loc main_arg2)
def a3 : S1x32.Idx → EReal := m ((c : Thread nD τ).loc main_arg3)
def a4 : S1x32.Idx → EReal := m ((c : Thread nD τ).loc main_arg4)
def a5 : S1x32.Idx → EReal := m ((c : Thread nD τ).loc main_arg5)
def stepV : S8192x32.Idx → EReal := V m c main_v6
def totV : S8192x32.Idx → EReal := V m c main_v11
def rateV : S8192x32.Idx → EReal := V m c main_v15
def startV : S64x32.Idx → EReal := V m c main_v19
def earlierV : S64x8192.Idx → BitVec 1 := V m c main_v28
def decayV : S64x8192x32.Idx → EReal := V m c main_v36
def xV : S8192x2048.Idx → EReal := V m c main_v1
def scaledV : S8192x4x8x64.Idx → EReal := V m c main_v41
def decayedV : S64x8192x4x8x64.Idx → EReal := V m c main_v46
def bV : S8192x4x128.Idx → EReal := V m c main_v47
def states : S64x128x2048.Idx → EReal := V m c main_v50

theorem step_eq : stepV m c = Cert.ReferenceSsdIdeal.Read.val_main_v7 (F := Ideal) (a1 m c) (a3 m c) := by
  unfold stepV
  simp only [V, hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16, List.flatten_cons, List.flatten_nil, List.append_nil, List.cons_append, List.nil_append]
  entry_read
  rfl

theorem tot_eq : totV m c = Cert.ReferenceSsdIdeal.Read.val_main_v12 (F := Ideal) (a1 m c) (a3 m c) (a4 m c) := by
  unfold totV
  simp only [V, hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16, List.flatten_cons, List.flatten_nil, List.append_nil, List.cons_append, List.nil_append]
  entry_read
  rfl

theorem rate_eq : rateV m c = Cert.ReferenceSsdIdeal.Read.val_main_v11 (F := Ideal) (a1 m c) (a3 m c) (a4 m c) := by
  unfold rateV
  simp only [V, hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16, List.flatten_cons, List.flatten_nil, List.append_nil, List.cons_append, List.nil_append]
  entry_read
  rfl

theorem x_eq : xV m c = Cert.ReferenceSsdIdeal.Read.val_main_v1 (F := Ideal) (a0 m c) := by
  unfold xV
  simp only [V, hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16, List.flatten_cons, List.flatten_nil, List.append_nil, List.cons_append, List.nil_append]
  entry_read
  rfl

theorem b_eq : bV m c = Cert.ReferenceSsdIdeal.Read.val_main_v29 (F := Ideal) (a0 m c) := by
  unfold bV
  simp only [V, hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16, List.flatten_cons, List.flatten_nil, List.append_nil, List.cons_append, List.nil_append]
  entry_read
  rfl

theorem start_eq : startV m c = starts (totV m c) (rateV m c) := by
  unfold startV totV rateV
  simp only [V, hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16, List.flatten_cons, List.flatten_nil, List.append_nil, List.cons_append, List.nil_append]
  entry_read
  rfl

theorem earlier_eq : earlierV m c = earlier := by
  unfold earlierV
  simp only [V, hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16, List.flatten_cons, List.flatten_nil, List.append_nil, List.cons_append, List.nil_append]
  entry_read
  rfl

theorem decay_eq : decayV m c = decay (startV m c) (totV m c) := by
  unfold decayV startV totV
  simp only [V, hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16, List.flatten_cons, List.flatten_nil, List.append_nil, List.cons_append, List.nil_append]
  entry_read
  rfl

theorem scaled_eq : scaledV m c = scaled (xV m c) (stepV m c) := by
  unfold scaledV xV stepV
  simp only [V, hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16, List.flatten_cons, List.flatten_nil, List.append_nil, List.cons_append, List.nil_append]
  entry_read
  rfl

theorem decayed_eq : decayedV m c = decayed (decayV m c) (scaledV m c) := by
  unfold decayedV decayV scaledV
  simp only [V, hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16, List.flatten_cons, List.flatten_nil, List.append_nil, List.cons_append, List.nil_append]
  entry_read
  rfl

theorem states_eq : states m c = laid (summed (decayedV m c) (bV m c)) := by
  unfold states decayedV bV
  simp only [V, hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16, List.flatten_cons, List.flatten_nil, List.append_nil, List.cons_append, List.nil_append]
  entry_read
  rfl

/-! Each of them read at an entry. -/

theorem starts_at (tot rate : S8192x32.Idx → EReal) (k : Fin 64) (h : Fin 32) :
    starts tot rate (ix2 k h) = tot (ix2 (Args.at' k 0) h) - rate (ix2 (Args.at' k 0) h) := by
  unfold starts
  refine (shapeCast_apply _ _ _ (ix3 (n1 := 1) k 0 h) ?_).trans ?_
  · rw [Shape.rowMajor_val_three, Shape.rowMajor_val_two]
    show (k.val * 1 + 0) * 32 + h.val = k.val * 32 + h.val
    omega
  refine (extractStridedSlice_apply _ _ _ _ (ix3 (n1 := 128) k 0 h) ?_).trans ?_
  · intro a
    match a with
    | ⟨0, _⟩ => show k.val = 0 + k.val; omega
    | ⟨1, _⟩ => rfl
    | ⟨2, _⟩ => show h.val = 0 + h.val; omega
  refine (shapeCast_apply _ _ _ (ix2 (Args.at' k 0) h) ?_).trans rfl
  rw [Shape.rowMajor_val_three, Shape.rowMajor_val_two]
  show (128 * k.val + 0) * 32 + h.val = (k.val * 128 + 0) * 32 + h.val
  omega

theorem earlier_at (k : Fin 64) (s : Fin 8192) : earlier (ix2 k s) = if s.val < 128 * k.val then 1#1 else 0#1 := by
  have e : earlier (ix2 k s) = IntOp.cmpi .slt (BitVec.ofNat 32 s.val) (BitVec.ofNat 32 (128 * k.val)) := by
    unfold earlier
    refine congrArg₂ (IntOp.cmpi .slt) ?_ ?_
    · refine (broadcastInDim_apply _ _ _ _ (ix2 (n0 := 1) 0 s) ?_).trans ((broadcastInDim_apply _ _ _ _ (ix1 s) ?_).trans rfl)
      · intro a
        match a with
        | ⟨0, _⟩ => rfl
        | ⟨1, _⟩ => rfl
      · intro a
        match a with
        | ⟨0, _⟩ => rfl
    · refine (broadcastInDim_apply _ _ _ _ (ix2 (n1 := 1) k 0) ?_).trans ((broadcastInDim_apply _ _ _ _ (ix1 k) ?_).trans ?_)
      · intro a
        match a with
        | ⟨0, _⟩ => rfl
        | ⟨1, _⟩ => rfl
      · intro a
        match a with
        | ⟨0, _⟩ => rfl
      · show IntOp.muli (128#32) (BitVec.ofNat 32 k.val) = _
        exact (by decide +kernel : ∀ k : Fin 64, IntOp.muli (128#32) (BitVec.ofNat 32 k.val) = BitVec.ofNat 32 (128 * k.val)) k
  rw [e]
  have e2 := WordCmp.cmpi_slt_ofNat_eq_one_iff (w := 32) (a := s.val) (b := 128 * k.val) (by omega) (by omega)
  by_cases h : s.val < 128 * k.val
  · rw [if_pos h]; exact e2.2 h
  · rw [if_neg h]
    have := mt e2.1 h
    revert this
    generalize IntOp.cmpi .slt (BitVec.ofNat 32 s.val) (BitVec.ofNat 32 (128 * k.val)) = w
    revert w; decide

theorem decay_at (start : S64x32.Idx → EReal) (tot : S8192x32.Idx → EReal) (k : Fin 64) (s : Fin 8192) (h : Fin 32) :
    decay start tot (ix3 k s h) = if s.val < 128 * k.val then Ideal.exp (start (ix2 k h) - tot (ix2 s h)) else 0 := by
  have e0 : broadcastInDim S64x8192x32 ![0, 1, 2] bcast_S64x8192x1_S64x8192x32_0_1_2 (broadcastInDim S64x8192x1 ![0, 1] bcast_S64x8192_S64x8192x1_0_1 earlier) (ix3 k s h) = earlier (ix2 k s) := by
    refine (broadcastInDim_apply _ _ _ _ (ix3 (n2 := 1) k s 0) ?_).trans (broadcastInDim_apply _ _ _ _ (ix2 k s) ?_)
    · intro a
      match a with
      | ⟨0, _⟩ => rfl
      | ⟨1, _⟩ => rfl
      | ⟨2, _⟩ => rfl
    · intro a
      match a with
      | ⟨0, _⟩ => rfl
      | ⟨1, _⟩ => rfl
  have e1 : broadcastInDim S64x8192x32 ![0, 1, 2] bcast_S64x1x32_S64x8192x32_0_1_2 (broadcastInDim S64x1x32 ![0, 2] bcast_S64x32_S64x1x32_0_2 start) (ix3 k s h) = start (ix2 k h) := by
    refine (broadcastInDim_apply _ _ _ _ (ix3 (n1 := 1) k 0 h) ?_).trans (broadcastInDim_apply _ _ _ _ (ix2 k h) ?_)
    · intro a
      match a with
      | ⟨0, _⟩ => rfl
      | ⟨1, _⟩ => rfl
      | ⟨2, _⟩ => rfl
    · intro a
      match a with
      | ⟨0, _⟩ => rfl
      | ⟨1, _⟩ => rfl
  have e2 : broadcastInDim S64x8192x32 ![0, 1, 2] bcast_S1x8192x32_S64x8192x32_0_1_2 (broadcastInDim S1x8192x32 ![1, 2] bcast_S8192x32_S1x8192x32_1_2 tot) (ix3 k s h) = tot (ix2 s h) := by
    refine (broadcastInDim_apply _ _ _ _ (ix3 (n0 := 1) 0 s h) ?_).trans (broadcastInDim_apply _ _ _ _ (ix2 s h) ?_)
    · intro a
      match a with
      | ⟨0, _⟩ => rfl
      | ⟨1, _⟩ => rfl
      | ⟨2, _⟩ => rfl
    · intro a
      match a with
      | ⟨0, _⟩ => rfl
      | ⟨1, _⟩ => rfl
  unfold decay
  show Ideal.exp (Scalar.select (broadcastInDim S64x8192x32 ![0, 1, 2] bcast_S64x8192x1_S64x8192x32_0_1_2 (broadcastInDim S64x8192x1 ![0, 1] bcast_S64x8192_S64x8192x1_0_1 earlier) (ix3 k s h))
    (broadcastInDim S64x8192x32 ![0, 1, 2] bcast_S64x1x32_S64x8192x32_0_1_2 (broadcastInDim S64x1x32 ![0, 2] bcast_S64x32_S64x1x32_0_2 start) (ix3 k s h)
      - broadcastInDim S64x8192x32 ![0, 1, 2] bcast_S1x8192x32_S64x8192x32_0_1_2 (broadcastInDim S1x8192x32 ![1, 2] bcast_S8192x32_S1x8192x32_1_2 tot) (ix3 k s h)) (Ideal.ofBits .f32 0xFF800000#32)) = _
  rw [e0, e1, e2, earlier_at]
  by_cases hs : s.val < 128 * k.val
  · rw [if_pos hs, if_pos hs]; rfl
  · rw [if_neg hs, if_neg hs]
    show Ideal.exp (Ideal.ofBits .f32 0xFF800000#32) = 0
    have eb : Ideal.ofBits .f32 0xFF800000#32 = ⊥ := by simp [Ideal.ofBits, Ideal.ieee]
    rw [eb, Ideal.exp_bot]

theorem scaled_at (x : S8192x2048.Idx → EReal) (step : S8192x32.Idx → EReal) (s : Fin 8192) (g : Fin 4) (j : Fin 8) (p : Fin 64) :
    scaled x step (ix4 s g j p) = x (ix2 s ⟨512 * g.val + (colOf j p).val, by omega⟩) * step (ix2 s (hd g j)) := by
  unfold scaled
  refine (shapeCast_apply _ _ _ (ix3 s (hd g j) p) ?_).trans ?_
  · rw [Shape.rowMajor_val_three, Shape.rowMajor_val_four]
    show (s.val * 32 + (8 * g.val + j.val)) * 64 + p.val = ((s.val * 4 + g.val) * 8 + j.val) * 64 + p.val
    omega
  show _ * _ = _
  congr 1
  · refine shapeCast_apply _ _ _ _ ?_
    rw [Shape.rowMajor_val_three, Shape.rowMajor_val_two]
    show s.val * 2048 + (512 * g.val + (64 * j.val + p.val)) = (s.val * 32 + (8 * g.val + j.val)) * 64 + p.val
    omega
  · refine (broadcastInDim_apply _ _ _ _ (ix3 (n2 := 1) s (hd g j) 0) ?_).trans (broadcastInDim_apply _ _ _ _ (ix2 s (hd g j)) ?_)
    · intro a
      match a with
      | ⟨0, _⟩ => rfl
      | ⟨1, _⟩ => rfl
      | ⟨2, _⟩ => rfl
    · intro a
      match a with
      | ⟨0, _⟩ => rfl
      | ⟨1, _⟩ => rfl

theorem decayed_at (d : S64x8192x32.Idx → EReal) (r : S8192x4x8x64.Idx → EReal) (k : Fin 64) (s : Fin 8192) (g : Fin 4) (j : Fin 8) (p : Fin 64) :
    decayed d r (ix5 k s g j p) = d (ix3 k s (hd g j)) * r (ix4 s g j p) := by
  unfold decayed
  show _ * _ = _
  congr 1
  · refine (broadcastInDim_apply _ _ _ _ (ix5 (n4 := 1) k s g j 0) ?_).trans (shapeCast_apply _ _ _ _ ?_)
    · intro a
      match a with
      | ⟨0, _⟩ => rfl
      | ⟨1, _⟩ => rfl
      | ⟨2, _⟩ => rfl
      | ⟨3, _⟩ => rfl
      | ⟨4, _⟩ => rfl
    · rw [Shape.rowMajor_val_three, Shape.rowMajor_val_five]
      show (k.val * 8192 + s.val) * 32 + (8 * g.val + j.val) = (((k.val * 8192 + s.val) * 4 + g.val) * 8 + j.val) * 1 + 0
      omega
  · refine (broadcastInDim_apply _ _ _ _ (ix5 (n0 := 1) 0 s g j p) ?_).trans (broadcastInDim_apply _ _ _ _ (ix4 s g j p) ?_)
    · intro a
      match a with
      | ⟨0, _⟩ => rfl
      | ⟨1, _⟩ => rfl
      | ⟨2, _⟩ => rfl
      | ⟨3, _⟩ => rfl
      | ⟨4, _⟩ => rfl
    · intro a
      match a with
      | ⟨0, _⟩ => rfl
      | ⟨1, _⟩ => rfl
      | ⟨2, _⟩ => rfl
      | ⟨3, _⟩ => rfl

abbrev dims := dot_S64x8192x4x8x64_S8192x4x128_S4x64x8x64x128_1_0_034_2_2_1

theorem left_at (i : S4x64x8x64x128.Idx) (q : dims.contr.Idx) :
    (dims.lhsIdx i q 0).val = (i 1).val ∧ (dims.lhsIdx i q 1).val = (q ⟨0, by decide⟩).val ∧ (dims.lhsIdx i q 2).val = (i 0).val
      ∧ (dims.lhsIdx i q 3).val = (i 2).val ∧ (dims.lhsIdx i q 4).val = (i 3).val := by
  refine ⟨?_, dims.lhsIdx_val_of_single rfl i q, ?_, ?_, ?_⟩
  · unfold DotDims.lhsIdx
    rw [dif_neg (show ¬(0 : Fin S64x8192x4x8x64.rank) ∈ dims.lhsBatch by decide), dif_pos (show (0 : Fin S64x8192x4x8x64.rank) ∈ dims.lhsNonContracting by decide)]
    rfl
  · unfold DotDims.lhsIdx
    rw [dif_pos (show (2 : Fin S64x8192x4x8x64.rank) ∈ dims.lhsBatch by decide)]
    rfl
  · unfold DotDims.lhsIdx
    rw [dif_neg (show ¬(3 : Fin S64x8192x4x8x64.rank) ∈ dims.lhsBatch by decide), dif_pos (show (3 : Fin S64x8192x4x8x64.rank) ∈ dims.lhsNonContracting by decide)]
    rfl
  · unfold DotDims.lhsIdx
    rw [dif_neg (show ¬(4 : Fin S64x8192x4x8x64.rank) ∈ dims.lhsBatch by decide), dif_pos (show (4 : Fin S64x8192x4x8x64.rank) ∈ dims.lhsNonContracting by decide)]
    rfl

theorem right_at (i : S4x64x8x64x128.Idx) (q : dims.contr.Idx) :
    (dims.rhsIdx i q 0).val = (q ⟨0, by decide⟩).val ∧ (dims.rhsIdx i q 1).val = (i 0).val ∧ (dims.rhsIdx i q 2).val = (i 4).val := by
  refine ⟨dims.rhsIdx_val_of_single rfl i q, ?_, ?_⟩
  · unfold DotDims.rhsIdx
    rw [dif_pos (show (1 : Fin S8192x4x128.rank) ∈ dims.rhsBatch by decide)]
    rfl
  · unfold DotDims.rhsIdx
    rw [dif_neg (show ¬(2 : Fin S8192x4x128.rank) ∈ dims.rhsBatch by decide), dif_pos (show (2 : Fin S8192x4x128.rank) ∈ dims.rhsNonContracting by decide)]
    rfl

theorem summed_at (d : S64x8192x4x8x64.Idx → EReal) (b : S8192x4x128.Idx → EReal) (g : Fin 4) (k : Fin 64) (j : Fin 8) (p : Fin 64) (n : Fin 128) :
    summed d b (ix5 g k j p n) = ∑ s : Fin 8192, d (ix5 k s g j p) * b (ix3 s g n) := by
  unfold summed
  simp only [Host.dotGeneral]
  rw [Ideal.dotGeneral_apply, ← Equiv.sum_comp (ValueIdx.contrEquiv1 dims 8192 rfl rfl).symm]
  refine Finset.sum_congr rfl fun s _ => ?_
  have hk := ValueIdx.contrEquiv1_symm_val dims 8192 rfl rfl s
  obtain ⟨l0, l1, l2, l3, l4⟩ := left_at (ix5 g k j p n) ((ValueIdx.contrEquiv1 dims 8192 rfl rfl).symm s)
  obtain ⟨r0, r1, r2⟩ := right_at (ix5 g k j p n) ((ValueIdx.contrEquiv1 dims 8192 rfl rfl).symm s)
  refine congrArg₂ (· * ·) (congrArg d (funext fun a => Fin.ext ?_)) (congrArg b (funext fun a => Fin.ext ?_))
  · match a with
    | ⟨0, _⟩ => exact l0
    | ⟨1, _⟩ => exact l1.trans hk
    | ⟨2, _⟩ => exact l2
    | ⟨3, _⟩ => exact l3
    | ⟨4, _⟩ => exact l4
  · match a with
    | ⟨0, _⟩ => exact r0.trans hk
    | ⟨1, _⟩ => exact r1
    | ⟨2, _⟩ => exact r2

theorem laid_at (y : S4x64x8x64x128.Idx → EReal) (g : Fin 4) (k : Fin 64) (j : Fin 8) (p : Fin 64) (n : Fin 128) :
    laid y (ix3 k n ⟨512 * g.val + (colOf j p).val, by omega⟩) = y (ix5 g k j p n) := by
  unfold laid
  refine (shapeCast_apply _ _ _ (ix5 k n g j p) ?_).trans (transpose_apply _ _ _ _ _ ?_)
  · rw [Shape.rowMajor_val_three, Shape.rowMajor_val_five]
    show (((k.val * 128 + n.val) * 4 + g.val) * 8 + j.val) * 64 + p.val = (k.val * 128 + n.val) * 2048 + (512 * g.val + (64 * j.val + p.val))
    omega
  · intro b
    match b with
    | ⟨0, _⟩ => rfl
    | ⟨1, _⟩ => rfl
    | ⟨2, _⟩ => rfl
    | ⟨3, _⟩ => rfl
    | ⟨4, _⟩ => rfl

/-- The states the kernel is given are the running states of the recurrence. -/
theorem states_at {A : Args} (H : Reads (a0 m c) (a1 m c) (a2 m c) (a3 m c) (a4 m c) (a5 m c) A) (k : Fin 64) (g : Fin 4) (n : Fin 128) (q : Fin 512) :
    states m c (ix3 k n ⟨512 * g.val + q.val, by omega⟩) = ((A.state k.val g n q : ℝ) : EReal) := by
  obtain ⟨j, p, rfl⟩ : ∃ j p, q = colOf j p := ⟨_, _, eq_colOf q⟩
  rw [states_eq, laid_at, summed_at]
  unfold Args.state
  rw [← Cert.Lift.coe_sum]
  refine Finset.sum_congr rfl fun s _ => ?_
  rw [decayed_eq, decayed_at, decay_eq, decay_at, scaled_eq, scaled_at, start_eq, starts_at, tot_eq, rate_eq, step_eq, b_eq, x_eq,
    Cert.ReferenceSsdIdeal.Sem.tot_at H, Cert.ReferenceSsdIdeal.Sem.tot_at H, Cert.ReferenceSsdIdeal.Sem.rate_at H, Cert.ReferenceSsdIdeal.Sem.step_at H, Cert.ReferenceSsdIdeal.Sem.b_at H, headOf_colOf]
  have ex : Cert.ReferenceSsdIdeal.Read.val_main_v1 (F := Ideal) (a0 m c) (ix2 s ⟨512 * g.val + (colOf j p).val, by omega⟩) = (A.x g s (colOf j p) : EReal) := by
    rw [Cert.ReferenceSsdIdeal.Read.val_main_v1_apply, Cert.ReferenceSsdIdeal.Read.val_main_v0_apply, Ideal.extf_def]
    refine (congrArg (a0 m c) (funext fun a => Fin.ext ?_)).trans (H.x g s (colOf j p))
    match a with
    | ⟨0, _⟩ => rfl
    | ⟨1, _⟩ => rfl
  rw [ex]
  by_cases hs : s.val < 128 * k.val
  · rw [if_pos hs, if_pos hs, ← EReal.coe_sub, ← EReal.coe_sub, before_eq, Ideal.exp_coe, ← EReal.coe_mul, ← EReal.coe_mul, ← EReal.coe_mul]
  · rw [if_neg hs, if_neg hs, zero_mul, zero_mul, EReal.coe_zero]

end Cert.KernelSsdIdeal.States
-- ==== Proof.Operands.lean ====
/- The blocks every grid point is given hold the reals of its chunk. -/
module

public import proofs.«01_k».proof.Proof.States

@[expose] public section

set_option maxRecDepth 16384

noncomputable section

open Idealize.ShloMosaic Idealize.ShloMosaic.TcCoe Idealize.SL.Sem

namespace Cert.KernelSsdIdeal.Operands

open Cert.KernelSsdIdeal Cert.KernelSsdIdeal.Gen Cert.KernelSsdIdeal.Value Cert.KernelSsdIdeal.States Cert.KernelSsdIdeal.Chunk Cert.Lift Cert.Ssd

/-! The tables the host lays out: arguments padded to a full row of lanes, a value per head spread over its columns, and the two tables of heads. -/

def zeroOf : S_.Idx → EReal := sitofp (F := Ideal) .f32 (constantI S_ 32 0#32)
def wide (x : S8192x32.Idx → EReal) : S8192x128.Idx → EReal := pad S8192x128 ![0, 0] ![0, 96] ![0, 0] x zeroOf pads_S8192x32_S8192x128_000_0960 h_S_
def wideRow (x : S1x32.Idx → EReal) : S1x128.Idx → EReal := pad S1x128 ![0, 0] ![0, 96] ![0, 0] x zeroOf pads_S1x32_S1x128_000_0960 h_S_
def spread (x : S1x32.Idx → EReal) : S1x2048.Idx → EReal := shapeCast S1x2048 (broadcastInDim S1x32x64 ![0, 1] bcast_S1x32_S1x32x64_0_1 x) shapeCasts_S1x32x64_S1x2048

/-- The quotient rounded down, as the host takes it. -/
def sign (x : BitVec 32) : BitVec 32 := if x = 0 then 0 else if x.msb then -1 else 1
def floorDiv (x d : BitVec 32) : BitVec 32 :=
  Scalar.select (IntOp.andi (IntOp.cmpi .ne (sign x) (sign d)) (IntOp.cmpi .ne (IntOp.remsi .host x d) 0#32)) (IntOp.subi (IntOp.divsi .host x d) 1#32) (IntOp.divsi .host x d)

def ofCol : S1x2048.Idx → BitVec 32 :=
  select (andi (cmpi .ne (signi (broadcastInDim S1x2048 ![1] bcast_S2048_S1x2048_1 (iotaInDim S2048 32 0))) (broadcastInDim S1x2048 ![] bcast_S_S1x2048 (signi (constantI S_ 32 64#32))))
      (cmpi .ne (Host.remsi (broadcastInDim S1x2048 ![1] bcast_S2048_S1x2048_1 (iotaInDim S2048 32 0)) (broadcastInDim S1x2048 ![] bcast_S_S1x2048 (constantI S_ 32 64#32)))
        (broadcastInDim S1x2048 ![] bcast_S_S1x2048 (constantI S_ 32 0#32))))
    (subi (Host.divsi (broadcastInDim S1x2048 ![1] bcast_S2048_S1x2048_1 (iotaInDim S2048 32 0)) (broadcastInDim S1x2048 ![] bcast_S_S1x2048 (constantI S_ 32 64#32)))
      (broadcastInDim S1x2048 ![] bcast_S_S1x2048 (constantI S_ 32 1#32)))
    (Host.divsi (broadcastInDim S1x2048 ![1] bcast_S2048_S1x2048_1 (iotaInDim S2048 32 0)) (broadcastInDim S1x2048 ![] bcast_S_S1x2048 (constantI S_ 32 64#32)))
def ofRow : S1x4096.Idx → BitVec 32 :=
  select (andi (cmpi .ne (signi (broadcastInDim S1x4096 ![1] bcast_S4096_S1x4096_1 (iotaInDim S4096 32 0))) (broadcastInDim S1x4096 ![] bcast_S_S1x4096 (signi (constantI S_ 32 128#32))))
      (cmpi .ne (Host.remsi (broadcastInDim S1x4096 ![1] bcast_S4096_S1x4096_1 (iotaInDim S4096 32 0)) (broadcastInDim S1x4096 ![] bcast_S_S1x4096 (constantI S_ 32 128#32)))
        (broadcastInDim S1x4096 ![] bcast_S_S1x4096 (constantI S_ 32 0#32))))
    (subi (Host.divsi (broadcastInDim S1x4096 ![1] bcast_S4096_S1x4096_1 (iotaInDim S4096 32 0)) (broadcastInDim S1x4096 ![] bcast_S_S1x4096 (constantI S_ 32 128#32)))
      (broadcastInDim S1x4096 ![] bcast_S_S1x4096 (constantI S_ 32 1#32)))
    (Host.divsi (broadcastInDim S1x4096 ![1] bcast_S4096_S1x4096_1 (iotaInDim S4096 32 0)) (broadcastInDim S1x4096 ![] bcast_S_S1x4096 (constantI S_ 32 128#32)))

def heads (q : S1x2048.Idx → BitVec 32) : S128x2048.Idx → EReal :=
  uitofp (F := Ideal) .bf16 (cmpi .eq (broadcastInDim S128x2048 ![0, 1] bcast_S1x2048_S128x2048_0_1 q)
    (broadcastInDim S128x2048 ![0, 1] bcast_S128x1_S128x2048_0_1 (broadcastInDim S128x1 ![0] bcast_S128_S128x1_0 (iotaInDim S128 32 0))))
def rows (q : S1x4096.Idx → BitVec 32) : S128x4096.Idx → EReal :=
  uitofp (F := Ideal) .bf16 (cmpi .eq (broadcastInDim S128x4096 ![0, 1] bcast_S1x4096_S128x4096_0_1 q)
    (broadcastInDim S128x4096 ![0, 1] bcast_S128x1_S128x4096_0_1 (broadcastInDim S128x1 ![0] bcast_S128_S128x1_0 (iotaInDim S128 32 0))))

variable (m : (ℓ : Loc nD τ sig) → Buf (Elt Ideal) ℓ) (c : Dev nD)

def timesV : S8192x128.Idx → EReal := V m c main_v53
def shiftV : S1x128.Idx → EReal := V m c main_v54
def rateV : S1x128.Idx → EReal := V m c main_v55
def skipV : S1x2048.Idx → EReal := V m c main_v52
def ofColV : S1x2048.Idx → BitVec 32 := V m c main_v60
def ofRowV : S1x4096.Idx → BitVec 32 := V m c main_v67
def headsV : S128x2048.Idx → EReal := V m c main_v64
def rowsV : S128x4096.Idx → EReal := V m c main_v71

theorem times_eq : timesV m c = wide (a1 m c) := by
  unfold timesV
  simp only [V, hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16, List.flatten_cons, List.flatten_nil, List.append_nil, List.cons_append, List.nil_append]
  entry_read
  rfl

theorem shift_eq : shiftV m c = wideRow (a3 m c) := by
  unfold shiftV
  simp only [V, hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16, List.flatten_cons, List.flatten_nil, List.append_nil, List.cons_append, List.nil_append]
  entry_read
  rfl

theorem rate_eq : rateV m c = wideRow (a4 m c) := by
  unfold rateV
  simp only [V, hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16, List.flatten_cons, List.flatten_nil, List.append_nil, List.cons_append, List.nil_append]
  entry_read
  rfl

theorem skip_eq : skipV m c = spread (a5 m c) := by
  unfold skipV
  simp only [V, hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16, List.flatten_cons, List.flatten_nil, List.append_nil, List.cons_append, List.nil_append]
  entry_read
  rfl

theorem ofCol_eq : ofColV m c = ofCol := by
  unfold ofColV
  simp only [V, hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16, List.flatten_cons, List.flatten_nil, List.append_nil, List.cons_append, List.nil_append]
  entry_read
  simp only [StableHlo.TRef.ofBuf_toBuf]
  rfl

theorem ofRow_eq : ofRowV m c = ofRow := by
  unfold ofRowV
  simp only [V, hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16, List.flatten_cons, List.flatten_nil, List.append_nil, List.cons_append, List.nil_append]
  entry_read
  simp only [StableHlo.TRef.ofBuf_toBuf]
  rfl

theorem heads_eq : headsV m c = heads (ofColV m c) := by
  unfold headsV ofColV
  simp only [V, hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16, List.flatten_cons, List.flatten_nil, List.append_nil, List.cons_append, List.nil_append]
  entry_read
  rfl

theorem rows_eq : rowsV m c = rows (ofRowV m c) := by
  unfold rowsV ofRowV
  simp only [V, hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16, List.flatten_cons, List.flatten_nil, List.append_nil, List.cons_append, List.nil_append]
  entry_read
  rfl

theorem zeroOf_at (i : S_.Idx) : zeroOf i = 0 := by
  show ((((0#32 : BitVec 32).toInt : ℤ) : ℝ) : EReal) = 0
  simp

theorem wide_at (x : S8192x32.Idx → EReal) (i : Fin 8192) (k : Fin 128) : wide x (ix2 i k) = if h : k.val < 32 then x (ix2 i ⟨k.val, h⟩) else 0 := by
  unfold wide
  by_cases h : k.val < 32
  · rw [dif_pos h]
    refine pad_apply_of_inside _ _ _ _ _ _ _ _ _ fun a => ?_
    match a with
    | ⟨0, _⟩ => show i.val = 0 + i.val * (0 + 1); omega
    | ⟨1, _⟩ => show k.val = 0 + k.val * (0 + 1); omega
  · rw [dif_neg h]
    refine (pad_apply_of_not_inside _ _ _ _ _ _ _ _ (1 : Fin 2) ?_).trans (zeroOf_at _)
    rintro ⟨_, _, h3⟩
    have h4 : (k.val - 0) / (0 + 1) < 32 := h3
    omega

theorem wideRow_at (x : S1x32.Idx → EReal) (k : Fin 128) : wideRow x (ix2 0 k) = if h : k.val < 32 then x (ix2 0 ⟨k.val, h⟩) else 0 := by
  unfold wideRow
  by_cases h : k.val < 32
  · rw [dif_pos h]
    refine pad_apply_of_inside _ _ _ _ _ _ _ _ _ fun a => ?_
    match a with
    | ⟨0, _⟩ => rfl
    | ⟨1, _⟩ => show k.val = 0 + k.val * (0 + 1); omega
  · rw [dif_neg h]
    refine (pad_apply_of_not_inside _ _ _ _ _ _ _ _ (1 : Fin 2) ?_).trans (zeroOf_at _)
    rintro ⟨_, _, h3⟩
    have h4 : (k.val - 0) / (0 + 1) < 32 := h3
    omega

theorem spread_at (x : S1x32.Idx → EReal) (g : Fin 4) (q : Fin 512) : spread x (ix2 0 ⟨512 * g.val + q.val, by omega⟩) = x (ix2 0 (headOf g q)) := by
  unfold spread
  refine (shapeCast_apply _ _ _ (ix3 (n0 := 1) (n2 := 64) 0 (headOf g q) ⟨q.val % 64, by omega⟩) ?_).trans (broadcastInDim_apply _ _ _ _ (ix2 0 (headOf g q)) ?_)
  · rw [Shape.rowMajor_val_three, Shape.rowMajor_val_two]
    show (0 * 32 + (8 * g.val + q.val / 64)) * 64 + q.val % 64 = 0 * 2048 + (512 * g.val + q.val)
    omega
  · intro a
    match a with
    | ⟨0, _⟩ => rfl
    | ⟨1, _⟩ => rfl

theorem ofCol_at : ∀ j : Fin 2048, floorDiv (BitVec.ofNat 32 j.val) 64#32 = BitVec.ofNat 32 (j.val / 64) := by decide +kernel
theorem ofCol_apply (j : Fin 2048) : ofCol (ix2 0 j) = BitVec.ofNat 32 (j.val / 64) := by
  have e : (broadcastInDim S1x2048 ![1] bcast_S2048_S1x2048_1 (iotaInDim S2048 32 0)) (ix2 0 j) = BitVec.ofNat 32 j.val := by
    refine (broadcastInDim_apply _ _ _ _ (ix1 j) ?_).trans rfl
    intro a
    match a with
    | ⟨0, _⟩ => rfl
  rw [← ofCol_at, ← e]
  rfl
theorem ofRow_at : ∀ j : Fin 4096, floorDiv (BitVec.ofNat 32 j.val) 128#32 = BitVec.ofNat 32 (j.val / 128) := by decide +kernel
theorem ofRow_apply (j : Fin 4096) : ofRow (ix2 0 j) = BitVec.ofNat 32 (j.val / 128) := by
  have e : (broadcastInDim S1x4096 ![1] bcast_S4096_S1x4096_1 (iotaInDim S4096 32 0)) (ix2 0 j) = BitVec.ofNat 32 j.val := by
    refine (broadcastInDim_apply _ _ _ _ (ix1 j) ?_).trans rfl
    intro a
    match a with
    | ⟨0, _⟩ => rfl
  rw [← ofRow_at, ← e]
  rfl

theorem bit_at (a b : ℕ) (ha : a < 4096) (hb : b < 4096) :
    ((((IntOp.cmpi .eq (BitVec.ofNat 32 a) (BitVec.ofNat 32 b)).toNat : ℕ) : ℝ) : EReal) = ((if a = b then 1 else 0 : ℝ) : EReal) := by
  have e := WordCmp.cmpi_eq_ofNat_eq_one_iff (w := 32) (a := a) (b := b) (by omega) (by omega)
  by_cases h : a = b
  · rw [if_pos h, e.2 h]; simp
  · rw [if_neg h]
    have e2 := mt e.1 h
    generalize IntOp.cmpi .eq (BitVec.ofNat 32 a) (BitVec.ofNat 32 b) = w at e2 ⊢
    have e3 : w = 0#1 := by revert w; decide
    rw [e3]; simp

theorem heads_at (k : Fin 128) (j : Fin 2048) : headsV m c (ix2 k j) = ((if j.val / 64 = k.val then 1 else 0 : ℝ) : EReal) := by
  rw [heads_eq, ← bit_at _ _ (by omega) (by omega)]
  unfold heads
  have e1 : broadcastInDim S128x2048 ![0, 1] bcast_S1x2048_S128x2048_0_1 (ofColV m c) (ix2 k j) = BitVec.ofNat 32 (j.val / 64) := by
    refine (broadcastInDim_apply _ _ _ _ (ix2 (n0 := 1) 0 j) ?_).trans ((congrFun (ofCol_eq m c) _).trans (ofCol_apply j))
    intro a
    match a with
    | ⟨0, _⟩ => rfl
    | ⟨1, _⟩ => rfl
  have e2 : broadcastInDim S128x2048 ![0, 1] bcast_S128x1_S128x2048_0_1 (broadcastInDim S128x1 ![0] bcast_S128_S128x1_0 (iotaInDim S128 32 0)) (ix2 k j) = BitVec.ofNat 32 k.val := by
    refine (broadcastInDim_apply _ _ _ _ (ix2 (n1 := 1) k 0) ?_).trans ((broadcastInDim_apply _ _ _ _ (ix1 k) ?_).trans rfl)
    · intro a
      match a with
      | ⟨0, _⟩ => rfl
      | ⟨1, _⟩ => rfl
    · intro a
      match a with
      | ⟨0, _⟩ => rfl
  show (((((IntOp.cmpi .eq (broadcastInDim S128x2048 ![0, 1] bcast_S1x2048_S128x2048_0_1 (ofColV m c) (ix2 k j))
    (broadcastInDim S128x2048 ![0, 1] bcast_S128x1_S128x2048_0_1 (broadcastInDim S128x1 ![0] bcast_S128_S128x1_0 (iotaInDim S128 32 0)) (ix2 k j))).toNat : ℕ) : ℝ) : EReal)) = _
  rw [e1, e2]

theorem rows_at (k : Fin 128) (j : Fin 4096) : rowsV m c (ix2 k j) = ((if j.val / 128 = k.val then 1 else 0 : ℝ) : EReal) := by
  rw [rows_eq, ← bit_at _ _ (by omega) (by omega)]
  unfold rows
  have e1 : broadcastInDim S128x4096 ![0, 1] bcast_S1x4096_S128x4096_0_1 (ofRowV m c) (ix2 k j) = BitVec.ofNat 32 (j.val / 128) := by
    refine (broadcastInDim_apply _ _ _ _ (ix2 (n0 := 1) 0 j) ?_).trans ((congrFun (ofRow_eq m c) _).trans (ofRow_apply j))
    intro a
    match a with
    | ⟨0, _⟩ => rfl
    | ⟨1, _⟩ => rfl
  have e2 : broadcastInDim S128x4096 ![0, 1] bcast_S128x1_S128x4096_0_1 (broadcastInDim S128x1 ![0] bcast_S128_S128x1_0 (iotaInDim S128 32 0)) (ix2 k j) = BitVec.ofNat 32 k.val := by
    refine (broadcastInDim_apply _ _ _ _ (ix2 (n1 := 1) k 0) ?_).trans ((broadcastInDim_apply _ _ _ _ (ix1 k) ?_).trans rfl)
    · intro a
      match a with
      | ⟨0, _⟩ => rfl
      | ⟨1, _⟩ => rfl
    · intro a
      match a with
      | ⟨0, _⟩ => rfl
  show (((((IntOp.cmpi .eq (broadcastInDim S128x4096 ![0, 1] bcast_S1x4096_S128x4096_0_1 (ofRowV m c) (ix2 k j))
    (broadcastInDim S128x4096 ![0, 1] bcast_S128x1_S128x4096_0_1 (broadcastInDim S128x1 ![0] bcast_S128_S128x1_0 (iotaInDim S128 32 0)) (ix2 k j))).toNat : ℕ) : ℝ) : EReal)) = _
  rw [e1, e2]

/-! Which block of its array each grid point is given. -/

theorem index_rows : ∀ t : Fin cfg0.N, (win0_0.index t (0 : Fin 2) = 63 - t.val ∧ win0_0.index t (1 : Fin 2) = 0) ∧ (win0_1.index t (0 : Fin 2) = 63 - t.val ∧ win0_1.index t (1 : Fin 2) = 0)
    ∧ (win0_2.index t (0 : Fin 2) = 63 - t.val ∧ win0_2.index t (1 : Fin 2) = 0) ∧ (win0_3.index t (0 : Fin 3) = 63 - t.val ∧ win0_3.index t (1 : Fin 3) = 0 ∧ win0_3.index t (2 : Fin 3) = 0) :=
  (by decide +kernel : ∀ t : Fin grid0.N, _)
theorem index_whole : ∀ t : Fin cfg0.N, (win0_4.index t (0 : Fin 2) = 0 ∧ win0_4.index t (1 : Fin 2) = 0) ∧ (win0_5.index t (0 : Fin 2) = 0 ∧ win0_5.index t (1 : Fin 2) = 0)
    ∧ (win0_6.index t (0 : Fin 2) = 0 ∧ win0_6.index t (1 : Fin 2) = 0) ∧ (win0_7.index t (0 : Fin 2) = 0 ∧ win0_7.index t (1 : Fin 2) = 0) ∧ (win0_8.index t (0 : Fin 2) = 0 ∧ win0_8.index t (1 : Fin 2) = 0) :=
  (by decide +kernel : ∀ t : Fin grid0.N, _)

def inV : S8192x3072.Idx → EReal := V m c main_arg0
def outV : S8192x2048.Idx → EReal := V m c main_arg2
theorem in_eq : inV m c = a0 m c := V_main_arg0 m c
theorem out_eq : outV m c = a2 m c := V_main_arg2 m c

theorem block0 (t : Fin cfg0.N) (i : Fin 128) (k : Fin 3072) : (iblk m c 0 t : S128x3072.Idx → EReal) (ix2 i k) = inV m c (ix2 (Args.at' (chunkAt t) i) k) := by
  obtain ⟨e0, e1⟩ := (index_rows t).1
  unfold iblk
  rw [View.read_apply]
  show V m c main_arg0 _ = V m c main_arg0 _
  congr 1
  funext a
  apply Fin.ext
  match a with
  | ⟨0, _⟩ => show win0_0.index t (0 : Fin 2) * 128 + 1 * i.val = 128 * (63 - t.val) + i.val; rw [e0]; omega
  | ⟨1, _⟩ => show win0_0.index t (1 : Fin 2) * 3072 + 1 * k.val = k.val; rw [e1]; omega

theorem block1 (t : Fin cfg0.N) (i : Fin 128) (k : Fin 128) : (iblk m c 1 t : S128x128.Idx → EReal) (ix2 i k) = timesV m c (ix2 (Args.at' (chunkAt t) i) k) := by
  obtain ⟨e0, e1⟩ := (index_rows t).2.1
  unfold iblk
  rw [View.read_apply]
  show V m c main_v53 _ = V m c main_v53 _
  congr 1
  funext a
  apply Fin.ext
  match a with
  | ⟨0, _⟩ => show win0_1.index t (0 : Fin 2) * 128 + 1 * i.val = 128 * (63 - t.val) + i.val; rw [e0]; omega
  | ⟨1, _⟩ => show win0_1.index t (1 : Fin 2) * 128 + 1 * k.val = k.val; rw [e1]; omega

theorem block2 (t : Fin cfg0.N) (i : Fin 128) (k : Fin 2048) : (iblk m c 2 t : S128x2048.Idx → EReal) (ix2 i k) = outV m c (ix2 (Args.at' (chunkAt t) i) k) := by
  obtain ⟨e0, e1⟩ := (index_rows t).2.2.1
  unfold iblk
  rw [View.read_apply]
  show V m c main_arg2 _ = V m c main_arg2 _
  congr 1
  funext a
  apply Fin.ext
  match a with
  | ⟨0, _⟩ => show win0_2.index t (0 : Fin 2) * 128 + 1 * i.val = 128 * (63 - t.val) + i.val; rw [e0]; omega
  | ⟨1, _⟩ => show win0_2.index t (1 : Fin 2) * 2048 + 1 * k.val = k.val; rw [e1]; omega

theorem block3 (t : Fin cfg0.N) (i : Fin 128) (k : Fin 2048) : (iblk m c 3 t : S1x128x2048.Idx → EReal) (ix3 0 i k) = states m c (ix3 (chunkAt t) i k) := by
  obtain ⟨e0, e1, e2⟩ := (index_rows t).2.2.2
  unfold iblk
  rw [View.read_apply]
  show V m c main_v50 _ = V m c main_v50 _
  congr 1
  funext a
  apply Fin.ext
  match a with
  | ⟨0, _⟩ => show win0_3.index t (0 : Fin 3) * 1 + 1 * 0 = 63 - t.val; rw [e0]; omega
  | ⟨1, _⟩ => show win0_3.index t (1 : Fin 3) * 128 + 1 * i.val = i.val; rw [e1]; omega
  | ⟨2, _⟩ => show win0_3.index t (2 : Fin 3) * 2048 + 1 * k.val = k.val; rw [e2]; omega

theorem block4 (t : Fin cfg0.N) (i : Fin 1) (k : Fin 128) : (iblk m c 4 t : S1x128.Idx → EReal) (ix2 i k) = shiftV m c (ix2 i k) := by
  obtain ⟨e0, e1⟩ := (index_whole t).1
  unfold iblk
  rw [View.read_apply]
  show V m c main_v54 _ = V m c main_v54 _
  congr 1
  funext a
  apply Fin.ext
  match a with
  | ⟨0, _⟩ => show win0_4.index t (0 : Fin 2) * 1 + 1 * i.val = i.val; rw [e0]; omega
  | ⟨1, _⟩ => show win0_4.index t (1 : Fin 2) * 128 + 1 * k.val = k.val; rw [e1]; omega

theorem block5 (t : Fin cfg0.N) (i : Fin 1) (k : Fin 128) : (iblk m c 5 t : S1x128.Idx → EReal) (ix2 i k) = rateV m c (ix2 i k) := by
  obtain ⟨e0, e1⟩ := (index_whole t).2.1
  unfold iblk
  rw [View.read_apply]
  show V m c main_v55 _ = V m c main_v55 _
  congr 1
  funext a
  apply Fin.ext
  match a with
  | ⟨0, _⟩ => show win0_5.index t (0 : Fin 2) * 1 + 1 * i.val = i.val; rw [e0]; omega
  | ⟨1, _⟩ => show win0_5.index t (1 : Fin 2) * 128 + 1 * k.val = k.val; rw [e1]; omega

theorem block6 (t : Fin cfg0.N) (i : Fin 1) (k : Fin 2048) : (iblk m c 6 t : S1x2048.Idx → EReal) (ix2 i k) = skipV m c (ix2 i k) := by
  obtain ⟨e0, e1⟩ := (index_whole t).2.2.1
  unfold iblk
  rw [View.read_apply]
  show V m c main_v52 _ = V m c main_v52 _
  congr 1
  funext a
  apply Fin.ext
  match a with
  | ⟨0, _⟩ => show win0_6.index t (0 : Fin 2) * 1 + 1 * i.val = i.val; rw [e0]; omega
  | ⟨1, _⟩ => show win0_6.index t (1 : Fin 2) * 2048 + 1 * k.val = k.val; rw [e1]; omega

theorem block7 (t : Fin cfg0.N) (i : Fin 128) (k : Fin 2048) : (iblk m c 7 t : S128x2048.Idx → EReal) (ix2 i k) = headsV m c (ix2 i k) := by
  obtain ⟨e0, e1⟩ := (index_whole t).2.2.2.1
  unfold iblk
  rw [View.read_apply]
  show V m c main_v64 _ = V m c main_v64 _
  congr 1
  funext a
  apply Fin.ext
  match a with
  | ⟨0, _⟩ => show win0_7.index t (0 : Fin 2) * 128 + 1 * i.val = i.val; rw [e0]; omega
  | ⟨1, _⟩ => show win0_7.index t (1 : Fin 2) * 2048 + 1 * k.val = k.val; rw [e1]; omega

theorem block8 (t : Fin cfg0.N) (i : Fin 128) (k : Fin 4096) : (iblk m c 8 t : S128x4096.Idx → EReal) (ix2 i k) = rowsV m c (ix2 i k) := by
  obtain ⟨e0, e1⟩ := (index_whole t).2.2.2.2
  unfold iblk
  rw [View.read_apply]
  show V m c main_v71 _ = V m c main_v71 _
  congr 1
  funext a
  apply Fin.ext
  match a with
  | ⟨0, _⟩ => show win0_8.index t (0 : Fin 2) * 128 + 1 * i.val = i.val; rw [e0]; omega
  | ⟨1, _⟩ => show win0_8.index t (1 : Fin 2) * 4096 + 1 * k.val = k.val; rw [e1]; omega

/-- So the blocks of every grid point hold the reals of its chunk. -/
theorem holds {A : Args} (H : Cert.Ssd.Reads (a0 m c) (a1 m c) (a2 m c) (a3 m c) (a4 m c) (a5 m c) A) : HoldsAll m c A := fun t => {
  b := fun g i n => (block0 m c t i _).trans ((congrFun (in_eq m c) _).trans (H.b g _ n))
  c := fun g i n => (block0 m c t i _).trans ((congrFun (in_eq m c) _).trans (H.c g _ n))
  x := fun g i q => (block0 m c t i _).trans ((congrFun (in_eq m c) _).trans (H.x g _ q))
  y := fun g i q => (block2 m c t i _).trans ((congrFun (out_eq m c) _).trans (H.y g _ q))
  z := fun g i q => (block3 m c t i _).trans (states_at m c H (chunkAt t) g i q)
  k := fun g q => (block6 m c t 0 _).trans ((congrFun (skip_eq m c) _).trans ((spread_at _ g q).trans (H.k (headOf g q))))
  t := fun i h => by
    refine (block1 m c t i h).trans ((congrFun (times_eq m c) _).trans ((wide_at _ _ h).trans ?_))
    show _ = ((if hh : h.val < 32 then A.t (Args.at' (chunkAt t) i) ⟨h.val, hh⟩ else 0 : ℝ) : EReal)
    by_cases hh : h.val < 32
    · rw [dif_pos hh, dif_pos hh]; exact H.t _ _
    · rw [dif_neg hh, dif_neg hh, EReal.coe_zero]
  tb := fun i h => by
    obtain rfl : i = 0 := Subsingleton.elim _ _
    refine (block4 m c t 0 h).trans ((congrFun (shift_eq m c) _).trans ((wideRow_at _ h).trans ?_))
    show _ = ((if hh : h.val < 32 then A.tb ⟨h.val, hh⟩ else 0 : ℝ) : EReal)
    by_cases hh : h.val < 32
    · rw [dif_pos hh, dif_pos hh]; exact H.tb _
    · rw [dif_neg hh, dif_neg hh, EReal.coe_zero]
  al := fun i h => by
    obtain rfl : i = 0 := Subsingleton.elim _ _
    refine (block5 m c t 0 h).trans ((congrFun (rate_eq m c) _).trans ((wideRow_at _ h).trans ?_))
    show _ = ((if hh : h.val < 32 then A.al ⟨h.val, hh⟩ else 0 : ℝ) : EReal)
    by_cases hh : h.val < 32
    · rw [dif_pos hh, dif_pos hh]; exact H.al _
    · rw [dif_neg hh, dif_neg hh, EReal.coe_zero]
  e := fun k j => (block7 m c t k j).trans (heads_at m c k j)
  w := fun k j => (block8 m c t k j).trans (rows_at m c k j) }

end Cert.KernelSsdIdeal.Operands
-- ==== Proof.Ssd.lean ====
/- The gradient of the recurrence: the kernel's result is the reference's on finite arguments. -/
module

public import proofs.«01_k».proof.Proof.Operands
public import proofs.«01_k».proof.Proof.Reference
public import proofs.«01_k».proof.Proof.Gen.Pre_finite
public import proofs.«01_k».proof.Defs

@[expose] public section

set_option maxRecDepth 16384

noncomputable section

open Idealize.ShloMosaic Idealize.ShloMosaic.TcCoe Idealize.SL.Sem

namespace Cert.Proof.KernelSsdIdeal

open Cert.KernelSsdIdeal Cert.KernelSsdIdeal.States Cert.KernelSsdIdeal.Chunk Cert.Ssd

/-- An extended real of absolute value below `⊤` is a real. -/
theorem real_of_abs_lt {x : EReal} (h : max x (-x) < ⊤) : x = ((x.toReal : ℝ) : EReal) := by
  refine (EReal.coe_toReal (fun e => ?_) (fun e => ?_)).symm
  · rw [e] at h; exact absurd (lt_of_le_of_lt (le_max_left _ _) h) (lt_irrefl _)
  · rw [e] at h; exact absurd (lt_of_le_of_lt (le_max_right _ _) h) (by simp)

theorem top_bits : Ideal.ofBits .f32 0x7F800000#32 = ⊤ := by simp [Ideal.ofBits, Ideal.ieee]

/-- The test of finiteness read at one entry. -/
theorem real_of_test {s : Shape} (x : s.Idx → EReal) (k : s.Idx → EReal) (hk : ∀ i, k i = ⊤)
    (h : (cmpf (F := Ideal) (φ := .f32) .olt (Host.absf x) k : s.Idx → BitVec 1) = fun _ => 1#1) (i : s.Idx) : x i = (((x i).toReal : ℝ) : EReal) := by
  refine real_of_abs_lt ?_
  have hi := congrFun h i
  rw [← hk i]
  by_contra hn
  have h0 : (cmpf (F := Ideal) (φ := .f32) .olt (Host.absf x) k : s.Idx → BitVec 1) i = 0#1 := by
    show BitVec.ofBool (decide (max (x i) (-(x i)) < k i)) = 0#1
    rw [decide_eq_false hn]
    rfl
  rw [h0] at hi
  exact absurd hi (by decide)

variable (m : (ℓ : Loc nD τ sig) → Buf (Elt Ideal) ℓ) (c : Dev nD)

/-- The reals the arguments hold. -/
def args : Args where
  b g s n := (a0 m c (ix2 s ⟨2048 + 128 * g.val + n.val, by omega⟩)).toReal
  c g s n := (a0 m c (ix2 s ⟨2560 + 128 * g.val + n.val, by omega⟩)).toReal
  x g s q := (a0 m c (ix2 s ⟨512 * g.val + q.val, by omega⟩)).toReal
  y g s q := (a2 m c (ix2 s ⟨512 * g.val + q.val, by omega⟩)).toReal
  k h := (a5 m c (ix2 0 h)).toReal
  t s h := (a1 m c (ix2 s h)).toReal
  tb h := (a3 m c (ix2 0 h)).toReal
  al h := (a4 m c (ix2 0 h)).toReal

theorem reads (h : Cert.Pre_KernelSsdIdeal_finite m) : Reads (a0 m c) (a1 m c) (a2 m c) (a3 m c) (a4 m c) (a5 m c) (args m c) := by
  obtain ⟨h0, h1, h2, h3, h4, h5⟩ := h c
  have r0 := real_of_test (a0 m c) _ (fun _ => top_bits) h0
  have r1 := real_of_test (a1 m c) _ (fun _ => top_bits) h1
  have r2 := real_of_test (a2 m c) _ (fun _ => top_bits) h2
  have r3 := real_of_test (a3 m c) _ (fun _ => top_bits) h3
  have r4 := real_of_test (a4 m c) _ (fun _ => top_bits) h4
  have r5 := real_of_test (a5 m c) _ (fun _ => top_bits) h5
  exact ⟨fun _ _ _ => r0 _, fun _ _ _ => r0 _, fun _ _ _ => r0 _, fun _ _ _ => r2 _, fun _ _ => r1 _, fun _ => r3 _, fun _ => r4 _, fun _ => r5 _⟩

/-- Two arrays that agree on the inputs' columns, on those of B and on those of C are equal. -/
theorem by_columns {u v : S8192x3072.Idx → EReal}
    (hx : ∀ (r : Fin 8192) (g : Fin 4) (q : Fin 512), u (ix2 r ⟨512 * g.val + q.val, by omega⟩) = v (ix2 r ⟨512 * g.val + q.val, by omega⟩))
    (hb : ∀ (r : Fin 8192) (g : Fin 4) (n : Fin 128), u (ix2 r ⟨2048 + 128 * g.val + n.val, by omega⟩) = v (ix2 r ⟨2048 + 128 * g.val + n.val, by omega⟩))
    (hc : ∀ (r : Fin 8192) (g : Fin 4) (n : Fin 128), u (ix2 r ⟨2560 + 128 * g.val + n.val, by omega⟩) = v (ix2 r ⟨2560 + 128 * g.val + n.val, by omega⟩)) : u = v := by
  funext i
  obtain ⟨r, k, rfl⟩ : ∃ (r : Fin 8192) (k : Fin 3072), i = ix2 r k := ⟨i 0, i 1, by funext x; match x with | ⟨0, _⟩ => rfl | ⟨1, _⟩ => rfl⟩
  by_cases h1 : k.val < 2048
  · have e : (⟨512 * (k.val / 512) + k.val % 512, by omega⟩ : Fin 3072) = k := Fin.ext (by simp only []; omega)
    have := hx r ⟨k.val / 512, by omega⟩ ⟨k.val % 512, by omega⟩
    simpa only [e] using this
  · by_cases h2 : k.val < 2560
    · have e : (⟨2048 + 128 * ((k.val - 2048) / 128) + (k.val - 2048) % 128, by omega⟩ : Fin 3072) = k := Fin.ext (by simp only []; omega)
      have := hb r ⟨(k.val - 2048) / 128, by omega⟩ ⟨(k.val - 2048) % 128, by omega⟩
      simpa only [e] using this
    · have e : (⟨2560 + 128 * ((k.val - 2560) / 128) + (k.val - 2560) % 128, by omega⟩ : Fin 3072) = k := Fin.ext (by simp only []; omega)
      have := hc r ⟨(k.val - 2560) / 128, by omega⟩ ⟨(k.val - 2560) % 128, by omega⟩
      simpa only [e] using this

theorem algebraic : Cert.algebraic_KernelSsdIdeal_ReferenceSsdIdeal_pre_finite := by
  intro m ρ m' ρ' hpre hagree
  refine ⟨fun c => res m c, (θ_run Cert.KernelSsdIdeal.defs _ _).mono (fun _ h c => ⟨(h c).1, (h c).2.2.2⟩) (Cert.KernelSsdIdeal.Value.run_blocks m ρ), ?_⟩
  refine (θ_run Cert.ReferenceSsdIdeal.defs _ _).mono (fun _ h c => ?_) (Cert.ReferenceSsdIdeal.Value.run (F := Ideal) m' ρ')
  refine ⟨(h c).1.trans ?_, (h c).2⟩
  obtain ⟨h0, h1, h2, h3, h4, h5⟩ := hagree c
  rw [Cert.ReferenceSsdIdeal.Read.val_main_v66_eq, h0, h1, h2, h3, h4, h5]
  have H := reads m c hpre
  have K := Cert.KernelSsdIdeal.Operands.holds m c H
  exact by_columns
    (fun r g q => (Cert.ReferenceSsdIdeal.Sem.res_inp H r g q).trans (res_inp m c _ K r g q).symm)
    (fun r g n => (Cert.ReferenceSsdIdeal.Sem.res_row H r g n).trans (res_row m c _ K r g n).symm)
    (fun r g n => (Cert.ReferenceSsdIdeal.Sem.res_out H r g n).trans (res_out m c _ K r g n).symm)

/-- The reference's own frame, with the precondition and without it. -/
theorem frame_reference : Cert.quiescent_ReferenceSsdIdeal := fun m ρ _ =>
  (θ_run Cert.ReferenceSsdIdeal.defs _ _).mono (fun r h => ⟨fun c => (h c).2, Idealize.ShloMosaic.sem_eq_zero_of_no_sems (by decide) r.2⟩)
    (Cert.ReferenceSsdIdeal.Value.run (F := Ideal) m ρ)

theorem frame_reference_finite : Cert.quiescent_ReferenceSsdIdeal_pre_finite := fun m ρ _ => frame_reference m ρ trivial

/-- The mask the kernel names is the table's. -/
theorem preserves : Cert.preserves_KernelSsd_KernelSsdIdeal := IdealRules.named_const.statement _ _ _ _ _ rfl

end Cert.Proof.KernelSsdIdeal

end
-- ==== Proof.WeightFf.lean ====
/- The weight gradient of the products by the up and down weights: what the grid of blocks leaves is the gradient the reference takes. -/
module

public import proofs.«01_k».proof.Proof.Sums
public import proofs.«01_k».proof.Proof.Gen.KernelIdeal.Value
public import proofs.«01_k».proof.Proof.Gen.ReferenceIdeal.Read
public import proofs.«01_k».proof.Defs
public import Idealize.ShloMosaic.Lib.Tactic
public import Idealize.ShloMosaic.Lib.Pointwise
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.KernelIdeal.Grad

open Cert.KernelIdeal Cert.KernelIdeal.Gen Cert.KernelIdeal.Value Cert.Sums

variable (m : (ℓ : Loc nD τ sig) → Buf (Elt Ideal) ℓ) (ρ : Dev nD → PrngReg)

theorem reset_apply (i : S1408x1024.Idx) : (k0_pay1 (F := Ideal)) i = 0 := by
  unfold k0_pay1
  simp only [shapeCast_self]
  show Ideal.ofBits .f32 0#32 = 0
  exact Ideal.ofBits_zero .f32

/-- One grid point adds the product of its two blocks. -/
theorem step_apply (acc : Vec Ideal S1408x1024 .f32) (x : Vec Ideal S2048x1408 .bf16) (y : Vec Ideal S2048x1024 .bf16)
    (r : Fin 1408) (q : Fin 1024) :
    k0_pay2 acc x y (ix2 r q) = acc (ix2 r q) + ∑ k : Fin 2048, x (ix2 k r) * y (ix2 k q) := by
  unfold k0_pay2
  simp only [shapeCast_self]
  pointwise

theorem cast_apply (v : Vec Ideal S1408x1024 .f32) (i : S1408x1024.Idx) : k0_pay3 v i = v i := rfl

/-- The first point of a run leaves its own product. -/
theorem carried_first (c : Dev nD) (t : Fin cfg0.N) (h0 : t.val % 4 = 0) :
    (outsAt0 m c t.val t.isLt).2 = k0_pay2 (F := Ideal) (k0_pay1 (F := Ideal)) (iblk m c 0 t) (iblk m c 1 t) := by
  rw [outsAt0_A m c t h0 (by omega)]
  dsimp only
  unfold sout0_A_0
  rw [View.read_writes_eq_canon _ _ _ (fun y => scover0_A_0 (y := y) ..)]
  unfold kernelRun0_A
  dsimp only
  sl_unfold_words
  rw [View.canon_cons_unit_zero (S := S1408x1024) zero2]
  simp only [View.readAt_eq_ld, Memref.IsWhole.read_unread, read_unread_whole, View.ld_unit_zero (S := S2048x1408) zero2, View.ld_unit_zero (S := S2048x1024) zero2,
    View.readCov_unit_zero (S := S1408x1024) _ zero2]

/-- A later point adds its product to what the point before left. -/
theorem carried_next (c : Dev nD) (t : Fin cfg0.N) (h0 : ¬t.val % 4 = 0) (h1 : ¬t.val % 4 = 3) :
    (outsAt0 m c t.val t.isLt).2 = k0_pay2 (F := Ideal) (outsAt0 m c (t.val - 1) (Nat.lt_of_le_of_lt (Nat.sub_le _ _) t.isLt)).2 (iblk m c 0 t) (iblk m c 1 t) := by
  rw [outsAt0_B m c t h0 h1]
  dsimp only
  unfold sout0_B_0
  rw [View.read_writes_eq_canon _ _ _ (fun y => scover0_B_0 (y := y) ..)]
  unfold kernelRun0_B
  dsimp only
  sl_unfold_words
  rw [View.canon_unit_zero (S := S1408x1024) zero2]
  simp only [View.readAt_eq_ld, Memref.IsWhole.read_unread, read_unread_whole, View.ld_unit_zero (S := S2048x1408) zero2, View.ld_unit_zero (S := S2048x1024) zero2,
    View.ld_unit_zero (S := S1408x1024) zero2]

/-- The last point of a run stores the sum. -/
theorem stored_last (c : Dev nD) (t : Fin cfg0.N) (h1 : t.val % 4 = 3) :
    (outsAt0 m c t.val t.isLt).1 = k0_pay3 (F := Ideal) (k0_pay2 (outsAt0 m c (t.val - 1) (Nat.lt_of_le_of_lt (Nat.sub_le _ _) t.isLt)).2 (iblk m c 0 t) (iblk m c 1 t)) := by
  rw [outsAt0_C m c t (by omega) h1]
  dsimp only
  unfold out0_C_2
  rw [View.read_writes_eq_canon _ _ _ (fun y => cover0_C_2 (y := y) ..)]
  unfold kernelRun0_C
  dsimp only
  sl_unfold_words
  rw [View.canon_unit_zero (S := S1408x1024) zero2]
  simp only [View.readAt_eq_ld, Memref.IsWhole.read_unread, read_unread_whole, View.ld_unit_zero (S := S2048x1408) zero2, View.ld_unit_zero (S := S2048x1024) zero2,
    View.ld_unit_zero (S := S1408x1024) zero2, View.readCov_unit_zero (S := S1408x1024) _ zero2]

theorem index_left : ∀ t : Fin cfg0.N, win0_0.index t (0 : Fin 2) = t.val % 4 ∧ win0_0.index t (1 : Fin 2) = t.val / 4 :=
  (by decide +kernel : ∀ t : Fin grid0.N, _)
theorem index_right : ∀ t : Fin cfg0.N, win0_1.index t (0 : Fin 2) = t.val % 4 ∧ win0_1.index t (1 : Fin 2) = 0 :=
  (by decide +kernel : ∀ t : Fin grid0.N, _)

/-- The two arguments, read at a row and a column. -/
def argL (c : Dev nD) : S8192x2816.Idx → EReal := m ((c : Thread nD τ).loc main_arg0)
def argR (c : Dev nD) : S8192x1024.Idx → EReal := m ((c : Thread nD τ).loc main_arg1)

theorem left_apply (c : Dev nD) (t : Fin cfg0.N) (k : Fin 2048) (r : Fin 1408) (a : Fin 4) (b : Fin 2) (ha : t.val % 4 = a.val) (hb : t.val / 4 = b.val) :
    (iblk m c 0 t : Vec Ideal S2048x1408 .bf16) (ix2 k r) = argL m c (ix2 (n0 := 8192) (n1 := 2816) ⟨2048 * a.val + k.val, by omega⟩ ⟨1408 * b.val + r.val, by omega⟩) := by
  obtain ⟨e0, e1⟩ := index_left t
  unfold iblk argL
  rw [View.read_apply]
  show V m c main_arg0 _ = V m c main_arg0 _
  congr 1
  funext x
  apply Fin.ext
  match x with
  | ⟨0, _⟩ => show win0_0.index t (0 : Fin 2) * 2048 + 1 * k.val = 2048 * a.val + k.val; rw [e0]; omega
  | ⟨1, _⟩ => show win0_0.index t (1 : Fin 2) * 1408 + 1 * r.val = 1408 * b.val + r.val; rw [e1]; omega

theorem right_apply (c : Dev nD) (t : Fin cfg0.N) (k : Fin 2048) (q : Fin 1024) (a : Fin 4) (ha : t.val % 4 = a.val) :
    (iblk m c 1 t : Vec Ideal S2048x1024 .bf16) (ix2 k q) = argR m c (ix2 (n0 := 8192) (n1 := 1024) ⟨2048 * a.val + k.val, by omega⟩ q) := by
  obtain ⟨e0, e1⟩ := index_right t
  unfold iblk argR
  rw [View.read_apply]
  show V m c main_arg1 _ = V m c main_arg1 _
  congr 1
  funext x
  apply Fin.ext
  match x with
  | ⟨0, _⟩ => show win0_1.index t (0 : Fin 2) * 2048 + 1 * k.val = 2048 * a.val + k.val; rw [e0]; omega
  | ⟨1, _⟩ => show win0_1.index t (1 : Fin 2) * 1024 + 1 * q.val = q.val; rw [e1]; omega

/-- The part of the gradient's sum that row block `a` gives. -/
def part (c : Dev nD) (b : Fin 2) (r : Fin 1408) (q : Fin 1024) (a : Fin 4) : EReal :=
  ∑ k : Fin 2048, argL m c (ix2 (n0 := 8192) (n1 := 2816) ⟨2048 * a.val + k.val, by omega⟩ ⟨1408 * b.val + r.val, by omega⟩)
    * argR m c (ix2 (n0 := 8192) (n1 := 1024) ⟨2048 * a.val + k.val, by omega⟩ q)

theorem point_sum (c : Dev nD) (t : Fin cfg0.N) (r : Fin 1408) (q : Fin 1024) (a : Fin 4) (b : Fin 2) (ha : t.val % 4 = a.val) (hb : t.val / 4 = b.val) :
    (∑ k : Fin 2048, (show EReal from (iblk m c 0 t : Vec Ideal S2048x1408 .bf16) (ix2 k r)) * (show EReal from (iblk m c 1 t : Vec Ideal S2048x1024 .bf16) (ix2 k q))) = part m c b r q a := by
  unfold part
  refine Finset.sum_congr rfl fun k _ => ?_
  rw [left_apply m c t k r a b ha hb, right_apply m c t k q a ha]

/-- What the last point of run `b` stores: the sum over the four row blocks. -/
theorem stored_apply (c : Dev nD) (b : Fin 2) (hb : 4 * b.val + 3 < cfg0.N) (r : Fin 1408) (q : Fin 1024) :
    (outsAt0 m c (4 * b.val + 3) hb).1 (ix2 r q) = ∑ a : Fin 4, part m c b r q a := by
  have s0 := carried_first m c ⟨4 * b.val, by omega⟩ (by show 4 * b.val % 4 = 0; omega)
  have s1 := carried_next m c ⟨4 * b.val + 1, by omega⟩ (by show ¬(4 * b.val + 1) % 4 = 0; omega) (by show ¬(4 * b.val + 1) % 4 = 3; omega)
  have s2 := carried_next m c ⟨4 * b.val + 2, by omega⟩ (by show ¬(4 * b.val + 2) % 4 = 0; omega) (by show ¬(4 * b.val + 2) % 4 = 3; omega)
  have s3 := stored_last m c ⟨4 * b.val + 3, hb⟩ (by show (4 * b.val + 3) % 4 = 3; omega)
  dsimp only at s0 s1 s2 s3
  rw [s3, cast_apply, step_apply]
  simp only [show 4 * b.val + 3 - 1 = 4 * b.val + 2 from rfl]
  rw [s2, step_apply]
  simp only [show 4 * b.val + 2 - 1 = 4 * b.val + 1 from rfl]
  rw [s1, step_apply]
  simp only [show 4 * b.val + 1 - 1 = 4 * b.val from rfl]
  rw [s0, step_apply, reset_apply, zero_add, Fin.sum_univ_four,
    point_sum m c _ r q 0 b (by show 4 * b.val % 4 = 0; omega) (by show 4 * b.val / 4 = b.val; omega),
    point_sum m c _ r q 1 b (by show (4 * b.val + 1) % 4 = 1; omega) (by show (4 * b.val + 1) / 4 = b.val; omega),
    point_sum m c _ r q 2 b (by show (4 * b.val + 2) % 4 = 2; omega) (by show (4 * b.val + 2) / 4 = b.val; omega),
    point_sum m c _ r q 3 b (by show (4 * b.val + 3) % 4 = 3; omega) (by show (4 * b.val + 3) / 4 = b.val; omega)]

/-- The result array. -/
def res (c : Dev nD) : S2816x1024.Idx → EReal := G2 m c

/-- It is the sum over all 8192 rows. -/
theorem result_apply (c : Dev nD) (r : Fin 2816) (q : Fin 1024) :
    res m c (ix2 r q) = ∑ k : Fin 8192, argL m c (ix2 k r) * argR m c (ix2 k q) := by
  have hN : cfg0.N = 4 * 2 := N_0
  have hp : pt2Of (ix2 r q) = 4 * (r.val / 1408) + 3 := by
    show 4 * (1 * (r.val / 1408 - 0) + 1 * (q.val / 1024 - 0)) + 3 = _
    have := q.isLt
    omega
  have hlt : pt2Of (ix2 r q) < cfg0.N := by rw [hp, hN]; have := r.isLt; omega
  have hl : loc2Of (ix2 r q) = ix2 (n0 := 1408) (n1 := 1024) ⟨r.val % 1408, Nat.mod_lt _ (by decide)⟩ q := by
    funext x
    apply Fin.ext
    match x with
    | ⟨0, _⟩ => rfl
    | ⟨1, _⟩ => show q.val % 1024 = q.val; have := q.isLt; omega
  have hG : res m c (ix2 r q) = (outsAt0 m c (pt2Of (ix2 r q)) hlt).1 (loc2Of (ix2 r q)) := by
    unfold res
    rw [outsAt0_sweep]
    unfold G2
    rw [dif_pos hlt]
  have hcong : ∀ (n n' : ℕ) (h : n < cfg0.N) (h' : n' < cfg0.N), n = n' → outsAt0 m c n h = outsAt0 m c n' h' := by
    intro n n' h h' e; subst e; rfl
  have hb : r.val / 1408 < 2 := by have := r.isLt; omega
  rw [hG, hl, hcong _ (4 * (⟨r.val / 1408, hb⟩ : Fin 2).val + 3) hlt (by rw [← hp]; exact hlt) hp, stored_apply m c ⟨r.val / 1408, hb⟩,
    sum_blocks (M := EReal) 4 2048 8192 rfl]
  refine Finset.sum_congr rfl fun a _ => ?_
  unfold part
  refine Finset.sum_congr rfl fun k _ => ?_
  have hr : (⟨1408 * (r.val / 1408) + r.val % 1408, by have := Nat.div_add_mod r.val 1408; omega⟩ : Fin 2816) = r := Fin.ext (Nat.div_add_mod _ _)
  dsimp only
  rw [hr]

end Cert.KernelIdeal.Grad

namespace Cert.Proof.KernelIdeal

open Cert.Sums

/-- The reference's gradient at a row and a column is the same sum. -/
theorem ref_apply (x0 : Cert.ReferenceIdeal.S8192x2816.Idx → EReal) (x1 : Cert.ReferenceIdeal.S8192x1024.Idx → EReal) (r : Fin 2816) (q : Fin 1024) :
    Cert.ReferenceIdeal.Read.val_main_v6 (F := Ideal) x0 x1 (ix2 r q) = ∑ k : Fin 8192, x0 (ix2 k r) * x1 (ix2 k q) := by
  rw [Cert.ReferenceIdeal.Read.val_main_v6_apply, Cert.ReferenceIdeal.Read.val_main_v5_apply, Ideal.truncf_def, Cert.ReferenceIdeal.Read.val_main_v4_apply]
  refine Finset.sum_congr rfl fun k _ => ?_
  rw [Cert.ReferenceIdeal.Read.val_main_v3_apply, Cert.ReferenceIdeal.Read.val_main_v0_apply, Ideal.extf_def, Ideal.extf_def, mul_comm]
  congr 2 <;> (funext x; match x with | ⟨0, _⟩ => rfl | ⟨1, _⟩ => rfl)

theorem algebraic : Cert.algebraic_KernelIdeal_ReferenceIdeal := by
  intro m ρ m' ρ' _ hagree
  refine ⟨fun c => Cert.KernelIdeal.Value.G2 m c, Cert.KernelIdeal.Value.run m ρ, ?_⟩
  refine (θ_run Cert.ReferenceIdeal.defs _ _).mono (fun _ h c => ?_) (Cert.ReferenceIdeal.Value.run (F := Ideal) m' ρ')
  refine ⟨(h c).1.trans ?_, (h c).2⟩
  rw [Cert.ReferenceIdeal.Read.val_main_v6_eq, (hagree c).1, (hagree c).2]
  funext i
  obtain ⟨r, q, rfl⟩ : ∃ (r : Fin 2816) (q : Fin 1024), i = ix2 r q := ⟨i 0, i 1, by funext x; match x with | ⟨0, _⟩ => rfl | ⟨1, _⟩ => rfl⟩
  rw [ref_apply]
  exact (Cert.KernelIdeal.Grad.result_apply m c r q).symm

/-- The reference's own frame. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.Proof.KernelIdeal

end
-- ==== Proof.WeightD.lean ====
/- The weight gradient of a product by a square weight: what the grid of blocks leaves is the gradient the reference takes. -/
module

public import proofs.«01_k».proof.Proof.Sums
public import proofs.«01_k».proof.Proof.Gen.KernelWdIdeal.Value
public import proofs.«01_k».proof.Proof.Gen.ReferenceWdIdeal.Read
public import proofs.«01_k».proof.Defs
public import Idealize.ShloMosaic.Lib.Tactic
public import Idealize.ShloMosaic.Lib.Pointwise
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.KernelWdIdeal.Grad

open Cert.KernelWdIdeal Cert.KernelWdIdeal.Gen Cert.KernelWdIdeal.Value Cert.Sums

variable (m : (ℓ : Loc nD τ sig) → Buf (Elt Ideal) ℓ) (ρ : Dev nD → PrngReg)

theorem reset_apply (i : S1024x1024.Idx) : (k0_pay1 (F := Ideal)) i = 0 := by
  unfold k0_pay1
  simp only [shapeCast_self]
  show Ideal.ofBits .f32 0#32 = 0
  exact Ideal.ofBits_zero .f32

/-- One grid point adds the product of its two blocks. -/
theorem step_apply (acc : Vec Ideal S1024x1024 .f32) (x : Vec Ideal S2048x1024 .bf16) (y : Vec Ideal S2048x1024 .bf16)
    (r : Fin 1024) (q : Fin 1024) :
    k0_pay2 acc x y (ix2 r q) = acc (ix2 r q) + ∑ k : Fin 2048, x (ix2 k r) * y (ix2 k q) := by
  unfold k0_pay2
  simp only [shapeCast_self]
  pointwise

theorem cast_apply (v : Vec Ideal S1024x1024 .f32) (i : S1024x1024.Idx) : k0_pay3 v i = v i := rfl

/-- The first point of a run leaves its own product. -/
theorem carried_first (c : Dev nD) (t : Fin cfg0.N) (h0 : t.val % 4 = 0) :
    (outsAt0 m c t.val t.isLt).2 = k0_pay2 (F := Ideal) (k0_pay1 (F := Ideal)) (iblk m c 0 t) (iblk m c 1 t) := by
  rw [outsAt0_A m c t h0 (by omega)]
  dsimp only
  unfold sout0_A_0
  rw [View.read_writes_eq_canon _ _ _ (fun y => scover0_A_0 (y := y) ..)]
  unfold kernelRun0_A
  dsimp only
  sl_unfold_words
  rw [View.canon_cons_unit_zero (S := S1024x1024) zero2]
  simp only [View.readAt_eq_ld, Memref.IsWhole.read_unread, read_unread_whole, View.ld_unit_zero (S := S2048x1024) zero2, View.ld_unit_zero (S := S2048x1024) zero2,
    View.readCov_unit_zero (S := S1024x1024) _ zero2]

/-- A later point adds its product to what the point before left. -/
theorem carried_next (c : Dev nD) (t : Fin cfg0.N) (h0 : ¬t.val % 4 = 0) (h1 : ¬t.val % 4 = 3) :
    (outsAt0 m c t.val t.isLt).2 = k0_pay2 (F := Ideal) (outsAt0 m c (t.val - 1) (Nat.lt_of_le_of_lt (Nat.sub_le _ _) t.isLt)).2 (iblk m c 0 t) (iblk m c 1 t) := by
  rw [outsAt0_B m c t h0 h1]
  dsimp only
  unfold sout0_B_0
  rw [View.read_writes_eq_canon _ _ _ (fun y => scover0_B_0 (y := y) ..)]
  unfold kernelRun0_B
  dsimp only
  sl_unfold_words
  rw [View.canon_unit_zero (S := S1024x1024) zero2]
  simp only [View.readAt_eq_ld, Memref.IsWhole.read_unread, read_unread_whole, View.ld_unit_zero (S := S2048x1024) zero2, View.ld_unit_zero (S := S2048x1024) zero2,
    View.ld_unit_zero (S := S1024x1024) zero2]

/-- The last point of a run stores the sum. -/
theorem stored_last (c : Dev nD) (t : Fin cfg0.N) (h1 : t.val % 4 = 3) :
    (outsAt0 m c t.val t.isLt).1 = k0_pay3 (F := Ideal) (k0_pay2 (outsAt0 m c (t.val - 1) (Nat.lt_of_le_of_lt (Nat.sub_le _ _) t.isLt)).2 (iblk m c 0 t) (iblk m c 1 t)) := by
  rw [outsAt0_C m c t (by omega) h1]
  dsimp only
  unfold out0_C_2
  rw [View.read_writes_eq_canon _ _ _ (fun y => cover0_C_2 (y := y) ..)]
  unfold kernelRun0_C
  dsimp only
  sl_unfold_words
  rw [View.canon_unit_zero (S := S1024x1024) zero2]
  simp only [View.readAt_eq_ld, Memref.IsWhole.read_unread, read_unread_whole, View.ld_unit_zero (S := S2048x1024) zero2, View.ld_unit_zero (S := S2048x1024) zero2,
    View.ld_unit_zero (S := S1024x1024) zero2, View.readCov_unit_zero (S := S1024x1024) _ zero2]

theorem index_left : ∀ t : Fin cfg0.N, win0_0.index t (0 : Fin 2) = t.val % 4 ∧ win0_0.index t (1 : Fin 2) = t.val / 4 :=
  (by decide +kernel : ∀ t : Fin grid0.N, _)
theorem index_right : ∀ t : Fin cfg0.N, win0_1.index t (0 : Fin 2) = t.val % 4 ∧ win0_1.index t (1 : Fin 2) = 0 :=
  (by decide +kernel : ∀ t : Fin grid0.N, _)

/-- The two arguments, read at a row and a column. -/
def argL (c : Dev nD) : S8192x1024.Idx → EReal := m ((c : Thread nD τ).loc main_arg0)
def argR (c : Dev nD) : S8192x1024.Idx → EReal := m ((c : Thread nD τ).loc main_arg1)

theorem left_apply (c : Dev nD) (t : Fin cfg0.N) (k : Fin 2048) (r : Fin 1024) (a : Fin 4) (b : Fin 1) (ha : t.val % 4 = a.val) (hb : t.val / 4 = b.val) :
    (iblk m c 0 t : Vec Ideal S2048x1024 .bf16) (ix2 k r) = argL m c (ix2 (n0 := 8192) (n1 := 1024) ⟨2048 * a.val + k.val, by omega⟩ ⟨1024 * b.val + r.val, by omega⟩) := by
  obtain ⟨e0, e1⟩ := index_left t
  unfold iblk argL
  rw [View.read_apply]
  show V m c main_arg0 _ = V m c main_arg0 _
  congr 1
  funext x
  apply Fin.ext
  match x with
  | ⟨0, _⟩ => show win0_0.index t (0 : Fin 2) * 2048 + 1 * k.val = 2048 * a.val + k.val; rw [e0]; omega
  | ⟨1, _⟩ => show win0_0.index t (1 : Fin 2) * 1024 + 1 * r.val = 1024 * b.val + r.val; rw [e1]; omega

theorem right_apply (c : Dev nD) (t : Fin cfg0.N) (k : Fin 2048) (q : Fin 1024) (a : Fin 4) (ha : t.val % 4 = a.val) :
    (iblk m c 1 t : Vec Ideal S2048x1024 .bf16) (ix2 k q) = argR m c (ix2 (n0 := 8192) (n1 := 1024) ⟨2048 * a.val + k.val, by omega⟩ q) := by
  obtain ⟨e0, e1⟩ := index_right t
  unfold iblk argR
  rw [View.read_apply]
  show V m c main_arg1 _ = V m c main_arg1 _
  congr 1
  funext x
  apply Fin.ext
  match x with
  | ⟨0, _⟩ => show win0_1.index t (0 : Fin 2) * 2048 + 1 * k.val = 2048 * a.val + k.val; rw [e0]; omega
  | ⟨1, _⟩ => show win0_1.index t (1 : Fin 2) * 1024 + 1 * q.val = q.val; rw [e1]; omega

/-- The part of the gradient's sum that row block `a` gives. -/
def part (c : Dev nD) (b : Fin 1) (r : Fin 1024) (q : Fin 1024) (a : Fin 4) : EReal :=
  ∑ k : Fin 2048, argL m c (ix2 (n0 := 8192) (n1 := 1024) ⟨2048 * a.val + k.val, by omega⟩ ⟨1024 * b.val + r.val, by omega⟩)
    * argR m c (ix2 (n0 := 8192) (n1 := 1024) ⟨2048 * a.val + k.val, by omega⟩ q)

theorem point_sum (c : Dev nD) (t : Fin cfg0.N) (r : Fin 1024) (q : Fin 1024) (a : Fin 4) (b : Fin 1) (ha : t.val % 4 = a.val) (hb : t.val / 4 = b.val) :
    (∑ k : Fin 2048, (show EReal from (iblk m c 0 t : Vec Ideal S2048x1024 .bf16) (ix2 k r)) * (show EReal from (iblk m c 1 t : Vec Ideal S2048x1024 .bf16) (ix2 k q))) = part m c b r q a := by
  unfold part
  refine Finset.sum_congr rfl fun k _ => ?_
  rw [left_apply m c t k r a b ha hb, right_apply m c t k q a ha]

/-- What the last point of run `b` stores: the sum over the four row blocks. -/
theorem stored_apply (c : Dev nD) (b : Fin 1) (hb : 4 * b.val + 3 < cfg0.N) (r : Fin 1024) (q : Fin 1024) :
    (outsAt0 m c (4 * b.val + 3) hb).1 (ix2 r q) = ∑ a : Fin 4, part m c b r q a := by
  have s0 := carried_first m c ⟨4 * b.val, by omega⟩ (by show 4 * b.val % 4 = 0; omega)
  have s1 := carried_next m c ⟨4 * b.val + 1, by omega⟩ (by show ¬(4 * b.val + 1) % 4 = 0; omega) (by show ¬(4 * b.val + 1) % 4 = 3; omega)
  have s2 := carried_next m c ⟨4 * b.val + 2, by omega⟩ (by show ¬(4 * b.val + 2) % 4 = 0; omega) (by show ¬(4 * b.val + 2) % 4 = 3; omega)
  have s3 := stored_last m c ⟨4 * b.val + 3, hb⟩ (by show (4 * b.val + 3) % 4 = 3; omega)
  dsimp only at s0 s1 s2 s3
  rw [s3, cast_apply, step_apply]
  simp only [show 4 * b.val + 3 - 1 = 4 * b.val + 2 from rfl]
  rw [s2, step_apply]
  simp only [show 4 * b.val + 2 - 1 = 4 * b.val + 1 from rfl]
  rw [s1, step_apply]
  simp only [show 4 * b.val + 1 - 1 = 4 * b.val from rfl]
  rw [s0, step_apply, reset_apply, zero_add, Fin.sum_univ_four,
    point_sum m c _ r q 0 b (by show 4 * b.val % 4 = 0; omega) (by show 4 * b.val / 4 = b.val; omega),
    point_sum m c _ r q 1 b (by show (4 * b.val + 1) % 4 = 1; omega) (by show (4 * b.val + 1) / 4 = b.val; omega),
    point_sum m c _ r q 2 b (by show (4 * b.val + 2) % 4 = 2; omega) (by show (4 * b.val + 2) / 4 = b.val; omega),
    point_sum m c _ r q 3 b (by show (4 * b.val + 3) % 4 = 3; omega) (by show (4 * b.val + 3) / 4 = b.val; omega)]

/-- The result array. -/
def res (c : Dev nD) : S1024x1024.Idx → EReal := G2 m c

/-- It is the sum over all 8192 rows. -/
theorem result_apply (c : Dev nD) (r : Fin 1024) (q : Fin 1024) :
    res m c (ix2 r q) = ∑ k : Fin 8192, argL m c (ix2 k r) * argR m c (ix2 k q) := by
  have hN : cfg0.N = 4 * 1 := N_0
  have hp : pt2Of (ix2 r q) = 4 * (r.val / 1024) + 3 := by
    show 4 * (1 * (r.val / 1024 - 0) + 1 * (q.val / 1024 - 0)) + 3 = _
    have := q.isLt
    omega
  have hlt : pt2Of (ix2 r q) < cfg0.N := by rw [hp, hN]; have := r.isLt; omega
  have hl : loc2Of (ix2 r q) = ix2 (n0 := 1024) (n1 := 1024) ⟨r.val % 1024, Nat.mod_lt _ (by decide)⟩ q := by
    funext x
    apply Fin.ext
    match x with
    | ⟨0, _⟩ => rfl
    | ⟨1, _⟩ => show q.val % 1024 = q.val; have := q.isLt; omega
  have hG : res m c (ix2 r q) = (outsAt0 m c (pt2Of (ix2 r q)) hlt).1 (loc2Of (ix2 r q)) := by
    unfold res
    rw [outsAt0_sweep]
    unfold G2
    rw [dif_pos hlt]
  have hcong : ∀ (n n' : ℕ) (h : n < cfg0.N) (h' : n' < cfg0.N), n = n' → outsAt0 m c n h = outsAt0 m c n' h' := by
    intro n n' h h' e; subst e; rfl
  have hb : r.val / 1024 < 1 := by have := r.isLt; omega
  rw [hG, hl, hcong _ (4 * (⟨r.val / 1024, hb⟩ : Fin 1).val + 3) hlt (by rw [← hp]; exact hlt) hp, stored_apply m c ⟨r.val / 1024, hb⟩,
    sum_blocks (M := EReal) 4 2048 8192 rfl]
  refine Finset.sum_congr rfl fun a _ => ?_
  unfold part
  refine Finset.sum_congr rfl fun k _ => ?_
  have hr : (⟨1024 * (r.val / 1024) + r.val % 1024, by have := Nat.div_add_mod r.val 1024; omega⟩ : Fin 1024) = r := Fin.ext (Nat.div_add_mod _ _)
  dsimp only
  rw [hr]

end Cert.KernelWdIdeal.Grad

namespace Cert.Proof.KernelWdIdeal

open Cert.Sums

/-- The reference's gradient at a row and a column is the same sum. -/
theorem ref_apply (x0 : Cert.ReferenceWdIdeal.S8192x1024.Idx → EReal) (x1 : Cert.ReferenceWdIdeal.S8192x1024.Idx → EReal) (r : Fin 1024) (q : Fin 1024) :
    Cert.ReferenceWdIdeal.Read.val_main_v6 (F := Ideal) x0 x1 (ix2 r q) = ∑ k : Fin 8192, x0 (ix2 k r) * x1 (ix2 k q) := by
  rw [Cert.ReferenceWdIdeal.Read.val_main_v6_apply, Cert.ReferenceWdIdeal.Read.val_main_v5_apply, Ideal.truncf_def, Cert.ReferenceWdIdeal.Read.val_main_v4_apply]
  refine Finset.sum_congr rfl fun k _ => ?_
  rw [Cert.ReferenceWdIdeal.Read.val_main_v3_apply, Cert.ReferenceWdIdeal.Read.val_main_v0_apply, Ideal.extf_def, Ideal.extf_def, mul_comm]
  congr 2 <;> (funext x; match x with | ⟨0, _⟩ => rfl | ⟨1, _⟩ => rfl)

theorem algebraic : Cert.algebraic_KernelWdIdeal_ReferenceWdIdeal := by
  intro m ρ m' ρ' _ hagree
  refine ⟨fun c => Cert.KernelWdIdeal.Value.G2 m c, Cert.KernelWdIdeal.Value.run m ρ, ?_⟩
  refine (θ_run Cert.ReferenceWdIdeal.defs _ _).mono (fun _ h c => ?_) (Cert.ReferenceWdIdeal.Value.run (F := Ideal) m' ρ')
  refine ⟨(h c).1.trans ?_, (h c).2⟩
  rw [Cert.ReferenceWdIdeal.Read.val_main_v6_eq, (hagree c).1, (hagree c).2]
  funext i
  obtain ⟨r, q, rfl⟩ : ∃ (r : Fin 1024) (q : Fin 1024), i = ix2 r q := ⟨i 0, i 1, by funext x; match x with | ⟨0, _⟩ => rfl | ⟨1, _⟩ => rfl⟩
  rw [ref_apply]
  exact (Cert.KernelWdIdeal.Grad.result_apply m c r q).symm

/-- The reference's own frame. -/
theorem frame_reference : Cert.quiescent_ReferenceWdIdeal := fun m ρ _ =>
  (θ_run Cert.ReferenceWdIdeal.defs _ _).mono (fun r h => ⟨fun c => (h c).2, Idealize.ShloMosaic.sem_eq_zero_of_no_sems (by decide) r.2⟩)
    (Cert.ReferenceWdIdeal.Value.run (F := Ideal) m ρ)

end Cert.Proof.KernelWdIdeal

end
-- ==== Proof.WeightDi.lean ====
/- The weight gradient of a product by a weight with 2048 rows: what the grid of blocks leaves is the gradient the reference takes. -/
module

public import proofs.«01_k».proof.Proof.Sums
public import proofs.«01_k».proof.Proof.Gen.KernelWdiIdeal.Value
public import proofs.«01_k».proof.Proof.Gen.ReferenceWdiIdeal.Read
public import proofs.«01_k».proof.Defs
public import Idealize.ShloMosaic.Lib.Tactic
public import Idealize.ShloMosaic.Lib.Pointwise
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.KernelWdiIdeal.Grad

open Cert.KernelWdiIdeal Cert.KernelWdiIdeal.Gen Cert.KernelWdiIdeal.Value Cert.Sums

variable (m : (ℓ : Loc nD τ sig) → Buf (Elt Ideal) ℓ) (ρ : Dev nD → PrngReg)

theorem reset_apply (i : S1024x1024.Idx) : (k0_pay1 (F := Ideal)) i = 0 := by
  unfold k0_pay1
  simp only [shapeCast_self]
  show Ideal.ofBits .f32 0#32 = 0
  exact Ideal.ofBits_zero .f32

/-- One grid point adds the product of its two blocks. -/
theorem step_apply (acc : Vec Ideal S1024x1024 .f32) (x : Vec Ideal S2048x1024 .bf16) (y : Vec Ideal S2048x1024 .bf16)
    (r : Fin 1024) (q : Fin 1024) :
    k0_pay2 acc x y (ix2 r q) = acc (ix2 r q) + ∑ k : Fin 2048, x (ix2 k r) * y (ix2 k q) := by
  unfold k0_pay2
  simp only [shapeCast_self]
  pointwise

theorem cast_apply (v : Vec Ideal S1024x1024 .f32) (i : S1024x1024.Idx) : k0_pay3 v i = v i := rfl

/-- The first point of a run leaves its own product. -/
theorem carried_first (c : Dev nD) (t : Fin cfg0.N) (h0 : t.val % 4 = 0) :
    (outsAt0 m c t.val t.isLt).2 = k0_pay2 (F := Ideal) (k0_pay1 (F := Ideal)) (iblk m c 0 t) (iblk m c 1 t) := by
  rw [outsAt0_A m c t h0 (by omega)]
  dsimp only
  unfold sout0_A_0
  rw [View.read_writes_eq_canon _ _ _ (fun y => scover0_A_0 (y := y) ..)]
  unfold kernelRun0_A
  dsimp only
  sl_unfold_words
  rw [View.canon_cons_unit_zero (S := S1024x1024) zero2]
  simp only [View.readAt_eq_ld, Memref.IsWhole.read_unread, read_unread_whole, View.ld_unit_zero (S := S2048x1024) zero2, View.ld_unit_zero (S := S2048x1024) zero2,
    View.readCov_unit_zero (S := S1024x1024) _ zero2]

/-- A later point adds its product to what the point before left. -/
theorem carried_next (c : Dev nD) (t : Fin cfg0.N) (h0 : ¬t.val % 4 = 0) (h1 : ¬t.val % 4 = 3) :
    (outsAt0 m c t.val t.isLt).2 = k0_pay2 (F := Ideal) (outsAt0 m c (t.val - 1) (Nat.lt_of_le_of_lt (Nat.sub_le _ _) t.isLt)).2 (iblk m c 0 t) (iblk m c 1 t) := by
  rw [outsAt0_B m c t h0 h1]
  dsimp only
  unfold sout0_B_0
  rw [View.read_writes_eq_canon _ _ _ (fun y => scover0_B_0 (y := y) ..)]
  unfold kernelRun0_B
  dsimp only
  sl_unfold_words
  rw [View.canon_unit_zero (S := S1024x1024) zero2]
  simp only [View.readAt_eq_ld, Memref.IsWhole.read_unread, read_unread_whole, View.ld_unit_zero (S := S2048x1024) zero2, View.ld_unit_zero (S := S2048x1024) zero2,
    View.ld_unit_zero (S := S1024x1024) zero2]

/-- The last point of a run stores the sum. -/
theorem stored_last (c : Dev nD) (t : Fin cfg0.N) (h1 : t.val % 4 = 3) :
    (outsAt0 m c t.val t.isLt).1 = k0_pay3 (F := Ideal) (k0_pay2 (outsAt0 m c (t.val - 1) (Nat.lt_of_le_of_lt (Nat.sub_le _ _) t.isLt)).2 (iblk m c 0 t) (iblk m c 1 t)) := by
  rw [outsAt0_C m c t (by omega) h1]
  dsimp only
  unfold out0_C_2
  rw [View.read_writes_eq_canon _ _ _ (fun y => cover0_C_2 (y := y) ..)]
  unfold kernelRun0_C
  dsimp only
  sl_unfold_words
  rw [View.canon_unit_zero (S := S1024x1024) zero2]
  simp only [View.readAt_eq_ld, Memref.IsWhole.read_unread, read_unread_whole, View.ld_unit_zero (S := S2048x1024) zero2, View.ld_unit_zero (S := S2048x1024) zero2,
    View.ld_unit_zero (S := S1024x1024) zero2, View.readCov_unit_zero (S := S1024x1024) _ zero2]

theorem index_left : ∀ t : Fin cfg0.N, win0_0.index t (0 : Fin 2) = t.val % 4 ∧ win0_0.index t (1 : Fin 2) = t.val / 4 :=
  (by decide +kernel : ∀ t : Fin grid0.N, _)
theorem index_right : ∀ t : Fin cfg0.N, win0_1.index t (0 : Fin 2) = t.val % 4 ∧ win0_1.index t (1 : Fin 2) = 0 :=
  (by decide +kernel : ∀ t : Fin grid0.N, _)

/-- The two arguments, read at a row and a column. -/
def argL (c : Dev nD) : S8192x2048.Idx → EReal := m ((c : Thread nD τ).loc main_arg0)
def argR (c : Dev nD) : S8192x1024.Idx → EReal := m ((c : Thread nD τ).loc main_arg1)

theorem left_apply (c : Dev nD) (t : Fin cfg0.N) (k : Fin 2048) (r : Fin 1024) (a : Fin 4) (b : Fin 2) (ha : t.val % 4 = a.val) (hb : t.val / 4 = b.val) :
    (iblk m c 0 t : Vec Ideal S2048x1024 .bf16) (ix2 k r) = argL m c (ix2 (n0 := 8192) (n1 := 2048) ⟨2048 * a.val + k.val, by omega⟩ ⟨1024 * b.val + r.val, by omega⟩) := by
  obtain ⟨e0, e1⟩ := index_left t
  unfold iblk argL
  rw [View.read_apply]
  show V m c main_arg0 _ = V m c main_arg0 _
  congr 1
  funext x
  apply Fin.ext
  match x with
  | ⟨0, _⟩ => show win0_0.index t (0 : Fin 2) * 2048 + 1 * k.val = 2048 * a.val + k.val; rw [e0]; omega
  | ⟨1, _⟩ => show win0_0.index t (1 : Fin 2) * 1024 + 1 * r.val = 1024 * b.val + r.val; rw [e1]; omega

theorem right_apply (c : Dev nD) (t : Fin cfg0.N) (k : Fin 2048) (q : Fin 1024) (a : Fin 4) (ha : t.val % 4 = a.val) :
    (iblk m c 1 t : Vec Ideal S2048x1024 .bf16) (ix2 k q) = argR m c (ix2 (n0 := 8192) (n1 := 1024) ⟨2048 * a.val + k.val, by omega⟩ q) := by
  obtain ⟨e0, e1⟩ := index_right t
  unfold iblk argR
  rw [View.read_apply]
  show V m c main_arg1 _ = V m c main_arg1 _
  congr 1
  funext x
  apply Fin.ext
  match x with
  | ⟨0, _⟩ => show win0_1.index t (0 : Fin 2) * 2048 + 1 * k.val = 2048 * a.val + k.val; rw [e0]; omega
  | ⟨1, _⟩ => show win0_1.index t (1 : Fin 2) * 1024 + 1 * q.val = q.val; rw [e1]; omega

/-- The part of the gradient's sum that row block `a` gives. -/
def part (c : Dev nD) (b : Fin 2) (r : Fin 1024) (q : Fin 1024) (a : Fin 4) : EReal :=
  ∑ k : Fin 2048, argL m c (ix2 (n0 := 8192) (n1 := 2048) ⟨2048 * a.val + k.val, by omega⟩ ⟨1024 * b.val + r.val, by omega⟩)
    * argR m c (ix2 (n0 := 8192) (n1 := 1024) ⟨2048 * a.val + k.val, by omega⟩ q)

theorem point_sum (c : Dev nD) (t : Fin cfg0.N) (r : Fin 1024) (q : Fin 1024) (a : Fin 4) (b : Fin 2) (ha : t.val % 4 = a.val) (hb : t.val / 4 = b.val) :
    (∑ k : Fin 2048, (show EReal from (iblk m c 0 t : Vec Ideal S2048x1024 .bf16) (ix2 k r)) * (show EReal from (iblk m c 1 t : Vec Ideal S2048x1024 .bf16) (ix2 k q))) = part m c b r q a := by
  unfold part
  refine Finset.sum_congr rfl fun k _ => ?_
  rw [left_apply m c t k r a b ha hb, right_apply m c t k q a ha]

/-- What the last point of run `b` stores: the sum over the four row blocks. -/
theorem stored_apply (c : Dev nD) (b : Fin 2) (hb : 4 * b.val + 3 < cfg0.N) (r : Fin 1024) (q : Fin 1024) :
    (outsAt0 m c (4 * b.val + 3) hb).1 (ix2 r q) = ∑ a : Fin 4, part m c b r q a := by
  have s0 := carried_first m c ⟨4 * b.val, by omega⟩ (by show 4 * b.val % 4 = 0; omega)
  have s1 := carried_next m c ⟨4 * b.val + 1, by omega⟩ (by show ¬(4 * b.val + 1) % 4 = 0; omega) (by show ¬(4 * b.val + 1) % 4 = 3; omega)
  have s2 := carried_next m c ⟨4 * b.val + 2, by omega⟩ (by show ¬(4 * b.val + 2) % 4 = 0; omega) (by show ¬(4 * b.val + 2) % 4 = 3; omega)
  have s3 := stored_last m c ⟨4 * b.val + 3, hb⟩ (by show (4 * b.val + 3) % 4 = 3; omega)
  dsimp only at s0 s1 s2 s3
  rw [s3, cast_apply, step_apply]
  simp only [show 4 * b.val + 3 - 1 = 4 * b.val + 2 from rfl]
  rw [s2, step_apply]
  simp only [show 4 * b.val + 2 - 1 = 4 * b.val + 1 from rfl]
  rw [s1, step_apply]
  simp only [show 4 * b.val + 1 - 1 = 4 * b.val from rfl]
  rw [s0, step_apply, reset_apply, zero_add, Fin.sum_univ_four,
    point_sum m c _ r q 0 b (by show 4 * b.val % 4 = 0; omega) (by show 4 * b.val / 4 = b.val; omega),
    point_sum m c _ r q 1 b (by show (4 * b.val + 1) % 4 = 1; omega) (by show (4 * b.val + 1) / 4 = b.val; omega),
    point_sum m c _ r q 2 b (by show (4 * b.val + 2) % 4 = 2; omega) (by show (4 * b.val + 2) / 4 = b.val; omega),
    point_sum m c _ r q 3 b (by show (4 * b.val + 3) % 4 = 3; omega) (by show (4 * b.val + 3) / 4 = b.val; omega)]

/-- The result array. -/
def res (c : Dev nD) : S2048x1024.Idx → EReal := G2 m c

/-- It is the sum over all 8192 rows. -/
theorem result_apply (c : Dev nD) (r : Fin 2048) (q : Fin 1024) :
    res m c (ix2 r q) = ∑ k : Fin 8192, argL m c (ix2 k r) * argR m c (ix2 k q) := by
  have hN : cfg0.N = 4 * 2 := N_0
  have hp : pt2Of (ix2 r q) = 4 * (r.val / 1024) + 3 := by
    show 4 * (1 * (r.val / 1024 - 0) + 1 * (q.val / 1024 - 0)) + 3 = _
    have := q.isLt
    omega
  have hlt : pt2Of (ix2 r q) < cfg0.N := by rw [hp, hN]; have := r.isLt; omega
  have hl : loc2Of (ix2 r q) = ix2 (n0 := 1024) (n1 := 1024) ⟨r.val % 1024, Nat.mod_lt _ (by decide)⟩ q := by
    funext x
    apply Fin.ext
    match x with
    | ⟨0, _⟩ => rfl
    | ⟨1, _⟩ => show q.val % 1024 = q.val; have := q.isLt; omega
  have hG : res m c (ix2 r q) = (outsAt0 m c (pt2Of (ix2 r q)) hlt).1 (loc2Of (ix2 r q)) := by
    unfold res
    rw [outsAt0_sweep]
    unfold G2
    rw [dif_pos hlt]
  have hcong : ∀ (n n' : ℕ) (h : n < cfg0.N) (h' : n' < cfg0.N), n = n' → outsAt0 m c n h = outsAt0 m c n' h' := by
    intro n n' h h' e; subst e; rfl
  have hb : r.val / 1024 < 2 := by have := r.isLt; omega
  rw [hG, hl, hcong _ (4 * (⟨r.val / 1024, hb⟩ : Fin 2).val + 3) hlt (by rw [← hp]; exact hlt) hp, stored_apply m c ⟨r.val / 1024, hb⟩,
    sum_blocks (M := EReal) 4 2048 8192 rfl]
  refine Finset.sum_congr rfl fun a _ => ?_
  unfold part
  refine Finset.sum_congr rfl fun k _ => ?_
  have hr : (⟨1024 * (r.val / 1024) + r.val % 1024, by have := Nat.div_add_mod r.val 1024; omega⟩ : Fin 2048) = r := Fin.ext (Nat.div_add_mod _ _)
  dsimp only
  rw [hr]

end Cert.KernelWdiIdeal.Grad

namespace Cert.Proof.KernelWdiIdeal

open Cert.Sums

/-- The reference's gradient at a row and a column is the same sum. -/
theorem ref_apply (x0 : Cert.ReferenceWdiIdeal.S8192x2048.Idx → EReal) (x1 : Cert.ReferenceWdiIdeal.S8192x1024.Idx → EReal) (r : Fin 2048) (q : Fin 1024) :
    Cert.ReferenceWdiIdeal.Read.val_main_v6 (F := Ideal) x0 x1 (ix2 r q) = ∑ k : Fin 8192, x0 (ix2 k r) * x1 (ix2 k q) := by
  rw [Cert.ReferenceWdiIdeal.Read.val_main_v6_apply, Cert.ReferenceWdiIdeal.Read.val_main_v5_apply, Ideal.truncf_def, Cert.ReferenceWdiIdeal.Read.val_main_v4_apply]
  refine Finset.sum_congr rfl fun k _ => ?_
  rw [Cert.ReferenceWdiIdeal.Read.val_main_v3_apply, Cert.ReferenceWdiIdeal.Read.val_main_v0_apply, Ideal.extf_def, Ideal.extf_def, mul_comm]
  congr 2 <;> (funext x; match x with | ⟨0, _⟩ => rfl | ⟨1, _⟩ => rfl)

theorem algebraic : Cert.algebraic_KernelWdiIdeal_ReferenceWdiIdeal := by
  intro m ρ m' ρ' _ hagree
  refine ⟨fun c => Cert.KernelWdiIdeal.Value.G2 m c, Cert.KernelWdiIdeal.Value.run m ρ, ?_⟩
  refine (θ_run Cert.ReferenceWdiIdeal.defs _ _).mono (fun _ h c => ?_) (Cert.ReferenceWdiIdeal.Value.run (F := Ideal) m' ρ')
  refine ⟨(h c).1.trans ?_, (h c).2⟩
  rw [Cert.ReferenceWdiIdeal.Read.val_main_v6_eq, (hagree c).1, (hagree c).2]
  funext i
  obtain ⟨r, q, rfl⟩ : ∃ (r : Fin 2048) (q : Fin 1024), i = ix2 r q := ⟨i 0, i 1, by funext x; match x with | ⟨0, _⟩ => rfl | ⟨1, _⟩ => rfl⟩
  rw [ref_apply]
  exact (Cert.KernelWdiIdeal.Grad.result_apply m c r q).symm

/-- The reference's own frame. -/
theorem frame_reference : Cert.quiescent_ReferenceWdiIdeal := fun m ρ _ =>
  (θ_run Cert.ReferenceWdiIdeal.defs _ _).mono (fun r h => ⟨fun c => (h c).2, Idealize.ShloMosaic.sem_eq_zero_of_no_sems (by decide) r.2⟩)
    (Cert.ReferenceWdiIdeal.Value.run (F := Ideal) m ρ)

end Cert.Proof.KernelWdiIdeal

end
-- ==== Proof.WeightX.lean ====
/- The weight gradient of a product by a weight with 3072 rows: what the grid of blocks leaves is the gradient the reference takes. -/
module

public import proofs.«01_k».proof.Proof.Sums
public import proofs.«01_k».proof.Proof.Gen.KernelWxIdeal.Value
public import proofs.«01_k».proof.Proof.Gen.ReferenceWxIdeal.Read
public import proofs.«01_k».proof.Defs
public import Idealize.ShloMosaic.Lib.Tactic
public import Idealize.ShloMosaic.Lib.Pointwise
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.KernelWxIdeal.Grad

open Cert.KernelWxIdeal Cert.KernelWxIdeal.Gen Cert.KernelWxIdeal.Value Cert.Sums

variable (m : (ℓ : Loc nD τ sig) → Buf (Elt Ideal) ℓ) (ρ : Dev nD → PrngReg)

theorem reset_apply (i : S1024x1024.Idx) : (k0_pay1 (F := Ideal)) i = 0 := by
  unfold k0_pay1
  simp only [shapeCast_self]
  show Ideal.ofBits .f32 0#32 = 0
  exact Ideal.ofBits_zero .f32

/-- One grid point adds the product of its two blocks. -/
theorem step_apply (acc : Vec Ideal S1024x1024 .f32) (x : Vec Ideal S2048x1024 .bf16) (y : Vec Ideal S2048x1024 .bf16)
    (r : Fin 1024) (q : Fin 1024) :
    k0_pay2 acc x y (ix2 r q) = acc (ix2 r q) + ∑ k : Fin 2048, x (ix2 k r) * y (ix2 k q) := by
  unfold k0_pay2
  simp only [shapeCast_self]
  pointwise

theorem cast_apply (v : Vec Ideal S1024x1024 .f32) (i : S1024x1024.Idx) : k0_pay3 v i = v i := rfl

/-- The first point of a run leaves its own product. -/
theorem carried_first (c : Dev nD) (t : Fin cfg0.N) (h0 : t.val % 4 = 0) :
    (outsAt0 m c t.val t.isLt).2 = k0_pay2 (F := Ideal) (k0_pay1 (F := Ideal)) (iblk m c 0 t) (iblk m c 1 t) := by
  rw [outsAt0_A m c t h0 (by omega)]
  dsimp only
  unfold sout0_A_0
  rw [View.read_writes_eq_canon _ _ _ (fun y => scover0_A_0 (y := y) ..)]
  unfold kernelRun0_A
  dsimp only
  sl_unfold_words
  rw [View.canon_cons_unit_zero (S := S1024x1024) zero2]
  simp only [View.readAt_eq_ld, Memref.IsWhole.read_unread, read_unread_whole, View.ld_unit_zero (S := S2048x1024) zero2, View.ld_unit_zero (S := S2048x1024) zero2,
    View.readCov_unit_zero (S := S1024x1024) _ zero2]

/-- A later point adds its product to what the point before left. -/
theorem carried_next (c : Dev nD) (t : Fin cfg0.N) (h0 : ¬t.val % 4 = 0) (h1 : ¬t.val % 4 = 3) :
    (outsAt0 m c t.val t.isLt).2 = k0_pay2 (F := Ideal) (outsAt0 m c (t.val - 1) (Nat.lt_of_le_of_lt (Nat.sub_le _ _) t.isLt)).2 (iblk m c 0 t) (iblk m c 1 t) := by
  rw [outsAt0_B m c t h0 h1]
  dsimp only
  unfold sout0_B_0
  rw [View.read_writes_eq_canon _ _ _ (fun y => scover0_B_0 (y := y) ..)]
  unfold kernelRun0_B
  dsimp only
  sl_unfold_words
  rw [View.canon_unit_zero (S := S1024x1024) zero2]
  simp only [View.readAt_eq_ld, Memref.IsWhole.read_unread, read_unread_whole, View.ld_unit_zero (S := S2048x1024) zero2, View.ld_unit_zero (S := S2048x1024) zero2,
    View.ld_unit_zero (S := S1024x1024) zero2]

/-- The last point of a run stores the sum. -/
theorem stored_last (c : Dev nD) (t : Fin cfg0.N) (h1 : t.val % 4 = 3) :
    (outsAt0 m c t.val t.isLt).1 = k0_pay3 (F := Ideal) (k0_pay2 (outsAt0 m c (t.val - 1) (Nat.lt_of_le_of_lt (Nat.sub_le _ _) t.isLt)).2 (iblk m c 0 t) (iblk m c 1 t)) := by
  rw [outsAt0_C m c t (by omega) h1]
  dsimp only
  unfold out0_C_2
  rw [View.read_writes_eq_canon _ _ _ (fun y => cover0_C_2 (y := y) ..)]
  unfold kernelRun0_C
  dsimp only
  sl_unfold_words
  rw [View.canon_unit_zero (S := S1024x1024) zero2]
  simp only [View.readAt_eq_ld, Memref.IsWhole.read_unread, read_unread_whole, View.ld_unit_zero (S := S2048x1024) zero2, View.ld_unit_zero (S := S2048x1024) zero2,
    View.ld_unit_zero (S := S1024x1024) zero2, View.readCov_unit_zero (S := S1024x1024) _ zero2]

theorem index_left : ∀ t : Fin cfg0.N, win0_0.index t (0 : Fin 2) = t.val % 4 ∧ win0_0.index t (1 : Fin 2) = t.val / 4 :=
  (by decide +kernel : ∀ t : Fin grid0.N, _)
theorem index_right : ∀ t : Fin cfg0.N, win0_1.index t (0 : Fin 2) = t.val % 4 ∧ win0_1.index t (1 : Fin 2) = 0 :=
  (by decide +kernel : ∀ t : Fin grid0.N, _)

/-- The two arguments, read at a row and a column. -/
def argL (c : Dev nD) : S8192x3072.Idx → EReal := m ((c : Thread nD τ).loc main_arg0)
def argR (c : Dev nD) : S8192x1024.Idx → EReal := m ((c : Thread nD τ).loc main_arg1)

theorem left_apply (c : Dev nD) (t : Fin cfg0.N) (k : Fin 2048) (r : Fin 1024) (a : Fin 4) (b : Fin 3) (ha : t.val % 4 = a.val) (hb : t.val / 4 = b.val) :
    (iblk m c 0 t : Vec Ideal S2048x1024 .bf16) (ix2 k r) = argL m c (ix2 (n0 := 8192) (n1 := 3072) ⟨2048 * a.val + k.val, by omega⟩ ⟨1024 * b.val + r.val, by omega⟩) := by
  obtain ⟨e0, e1⟩ := index_left t
  unfold iblk argL
  rw [View.read_apply]
  show V m c main_arg0 _ = V m c main_arg0 _
  congr 1
  funext x
  apply Fin.ext
  match x with
  | ⟨0, _⟩ => show win0_0.index t (0 : Fin 2) * 2048 + 1 * k.val = 2048 * a.val + k.val; rw [e0]; omega
  | ⟨1, _⟩ => show win0_0.index t (1 : Fin 2) * 1024 + 1 * r.val = 1024 * b.val + r.val; rw [e1]; omega

theorem right_apply (c : Dev nD) (t : Fin cfg0.N) (k : Fin 2048) (q : Fin 1024) (a : Fin 4) (ha : t.val % 4 = a.val) :
    (iblk m c 1 t : Vec Ideal S2048x1024 .bf16) (ix2 k q) = argR m c (ix2 (n0 := 8192) (n1 := 1024) ⟨2048 * a.val + k.val, by omega⟩ q) := by
  obtain ⟨e0, e1⟩ := index_right t
  unfold iblk argR
  rw [View.read_apply]
  show V m c main_arg1 _ = V m c main_arg1 _
  congr 1
  funext x
  apply Fin.ext
  match x with
  | ⟨0, _⟩ => show win0_1.index t (0 : Fin 2) * 2048 + 1 * k.val = 2048 * a.val + k.val; rw [e0]; omega
  | ⟨1, _⟩ => show win0_1.index t (1 : Fin 2) * 1024 + 1 * q.val = q.val; rw [e1]; omega

/-- The part of the gradient's sum that row block `a` gives. -/
def part (c : Dev nD) (b : Fin 3) (r : Fin 1024) (q : Fin 1024) (a : Fin 4) : EReal :=
  ∑ k : Fin 2048, argL m c (ix2 (n0 := 8192) (n1 := 3072) ⟨2048 * a.val + k.val, by omega⟩ ⟨1024 * b.val + r.val, by omega⟩)
    * argR m c (ix2 (n0 := 8192) (n1 := 1024) ⟨2048 * a.val + k.val, by omega⟩ q)

theorem point_sum (c : Dev nD) (t : Fin cfg0.N) (r : Fin 1024) (q : Fin 1024) (a : Fin 4) (b : Fin 3) (ha : t.val % 4 = a.val) (hb : t.val / 4 = b.val) :
    (∑ k : Fin 2048, (show EReal from (iblk m c 0 t : Vec Ideal S2048x1024 .bf16) (ix2 k r)) * (show EReal from (iblk m c 1 t : Vec Ideal S2048x1024 .bf16) (ix2 k q))) = part m c b r q a := by
  unfold part
  refine Finset.sum_congr rfl fun k _ => ?_
  rw [left_apply m c t k r a b ha hb, right_apply m c t k q a ha]

/-- What the last point of run `b` stores: the sum over the four row blocks. -/
theorem stored_apply (c : Dev nD) (b : Fin 3) (hb : 4 * b.val + 3 < cfg0.N) (r : Fin 1024) (q : Fin 1024) :
    (outsAt0 m c (4 * b.val + 3) hb).1 (ix2 r q) = ∑ a : Fin 4, part m c b r q a := by
  have s0 := carried_first m c ⟨4 * b.val, by omega⟩ (by show 4 * b.val % 4 = 0; omega)
  have s1 := carried_next m c ⟨4 * b.val + 1, by omega⟩ (by show ¬(4 * b.val + 1) % 4 = 0; omega) (by show ¬(4 * b.val + 1) % 4 = 3; omega)
  have s2 := carried_next m c ⟨4 * b.val + 2, by omega⟩ (by show ¬(4 * b.val + 2) % 4 = 0; omega) (by show ¬(4 * b.val + 2) % 4 = 3; omega)
  have s3 := stored_last m c ⟨4 * b.val + 3, hb⟩ (by show (4 * b.val + 3) % 4 = 3; omega)
  dsimp only at s0 s1 s2 s3
  rw [s3, cast_apply, step_apply]
  simp only [show 4 * b.val + 3 - 1 = 4 * b.val + 2 from rfl]
  rw [s2, step_apply]
  simp only [show 4 * b.val + 2 - 1 = 4 * b.val + 1 from rfl]
  rw [s1, step_apply]
  simp only [show 4 * b.val + 1 - 1 = 4 * b.val from rfl]
  rw [s0, step_apply, reset_apply, zero_add, Fin.sum_univ_four,
    point_sum m c _ r q 0 b (by show 4 * b.val % 4 = 0; omega) (by show 4 * b.val / 4 = b.val; omega),
    point_sum m c _ r q 1 b (by show (4 * b.val + 1) % 4 = 1; omega) (by show (4 * b.val + 1) / 4 = b.val; omega),
    point_sum m c _ r q 2 b (by show (4 * b.val + 2) % 4 = 2; omega) (by show (4 * b.val + 2) / 4 = b.val; omega),
    point_sum m c _ r q 3 b (by show (4 * b.val + 3) % 4 = 3; omega) (by show (4 * b.val + 3) / 4 = b.val; omega)]

/-- The result array. -/
def res (c : Dev nD) : S3072x1024.Idx → EReal := G2 m c

/-- It is the sum over all 8192 rows. -/
theorem result_apply (c : Dev nD) (r : Fin 3072) (q : Fin 1024) :
    res m c (ix2 r q) = ∑ k : Fin 8192, argL m c (ix2 k r) * argR m c (ix2 k q) := by
  have hN : cfg0.N = 4 * 3 := N_0
  have hp : pt2Of (ix2 r q) = 4 * (r.val / 1024) + 3 := by
    show 4 * (1 * (r.val / 1024 - 0) + 1 * (q.val / 1024 - 0)) + 3 = _
    have := q.isLt
    omega
  have hlt : pt2Of (ix2 r q) < cfg0.N := by rw [hp, hN]; have := r.isLt; omega
  have hl : loc2Of (ix2 r q) = ix2 (n0 := 1024) (n1 := 1024) ⟨r.val % 1024, Nat.mod_lt _ (by decide)⟩ q := by
    funext x
    apply Fin.ext
    match x with
    | ⟨0, _⟩ => rfl
    | ⟨1, _⟩ => show q.val % 1024 = q.val; have := q.isLt; omega
  have hG : res m c (ix2 r q) = (outsAt0 m c (pt2Of (ix2 r q)) hlt).1 (loc2Of (ix2 r q)) := by
    unfold res
    rw [outsAt0_sweep]
    unfold G2
    rw [dif_pos hlt]
  have hcong : ∀ (n n' : ℕ) (h : n < cfg0.N) (h' : n' < cfg0.N), n = n' → outsAt0 m c n h = outsAt0 m c n' h' := by
    intro n n' h h' e; subst e; rfl
  have hb : r.val / 1024 < 3 := by have := r.isLt; omega
  rw [hG, hl, hcong _ (4 * (⟨r.val / 1024, hb⟩ : Fin 3).val + 3) hlt (by rw [← hp]; exact hlt) hp, stored_apply m c ⟨r.val / 1024, hb⟩,
    sum_blocks (M := EReal) 4 2048 8192 rfl]
  refine Finset.sum_congr rfl fun a _ => ?_
  unfold part
  refine Finset.sum_congr rfl fun k _ => ?_
  have hr : (⟨1024 * (r.val / 1024) + r.val % 1024, by have := Nat.div_add_mod r.val 1024; omega⟩ : Fin 3072) = r := Fin.ext (Nat.div_add_mod _ _)
  dsimp only
  rw [hr]

end Cert.KernelWxIdeal.Grad

namespace Cert.Proof.KernelWxIdeal

open Cert.Sums

/-- The reference's gradient at a row and a column is the same sum. -/
theorem ref_apply (x0 : Cert.ReferenceWxIdeal.S8192x3072.Idx → EReal) (x1 : Cert.ReferenceWxIdeal.S8192x1024.Idx → EReal) (r : Fin 3072) (q : Fin 1024) :
    Cert.ReferenceWxIdeal.Read.val_main_v6 (F := Ideal) x0 x1 (ix2 r q) = ∑ k : Fin 8192, x0 (ix2 k r) * x1 (ix2 k q) := by
  rw [Cert.ReferenceWxIdeal.Read.val_main_v6_apply, Cert.ReferenceWxIdeal.Read.val_main_v5_apply, Ideal.truncf_def, Cert.ReferenceWxIdeal.Read.val_main_v4_apply]
  refine Finset.sum_congr rfl fun k _ => ?_
  rw [Cert.ReferenceWxIdeal.Read.val_main_v3_apply, Cert.ReferenceWxIdeal.Read.val_main_v0_apply, Ideal.extf_def, Ideal.extf_def, mul_comm]
  congr 2 <;> (funext x; match x with | ⟨0, _⟩ => rfl | ⟨1, _⟩ => rfl)

theorem algebraic : Cert.algebraic_KernelWxIdeal_ReferenceWxIdeal := by
  intro m ρ m' ρ' _ hagree
  refine ⟨fun c => Cert.KernelWxIdeal.Value.G2 m c, Cert.KernelWxIdeal.Value.run m ρ, ?_⟩
  refine (θ_run Cert.ReferenceWxIdeal.defs _ _).mono (fun _ h c => ?_) (Cert.ReferenceWxIdeal.Value.run (F := Ideal) m' ρ')
  refine ⟨(h c).1.trans ?_, (h c).2⟩
  rw [Cert.ReferenceWxIdeal.Read.val_main_v6_eq, (hagree c).1, (hagree c).2]
  funext i
  obtain ⟨r, q, rfl⟩ : ∃ (r : Fin 3072) (q : Fin 1024), i = ix2 r q := ⟨i 0, i 1, by funext x; match x with | ⟨0, _⟩ => rfl | ⟨1, _⟩ => rfl⟩
  rw [ref_apply]
  exact (Cert.KernelWxIdeal.Grad.result_apply m c r q).symm

/-- The reference's own frame. -/
theorem frame_reference : Cert.quiescent_ReferenceWxIdeal := fun m ρ _ =>
  (θ_run Cert.ReferenceWxIdeal.defs _ _).mono (fun r h => ⟨fun c => (h c).2, Idealize.ShloMosaic.sem_eq_zero_of_no_sems (by decide) r.2⟩)
    (Cert.ReferenceWxIdeal.Value.run (F := Ideal) m ρ)

end Cert.Proof.KernelWxIdeal

end
-- ==== Proof.RowsUp.lean ====
/- The gradient of the product by the up weight, with respect to its rows: what the grid of blocks leaves is the gradient the reference takes. -/
module

public import proofs.«01_k».proof.Proof.Sums
public import proofs.«01_k».proof.Proof.Gen.KernelDvIdeal.Value
public import proofs.«01_k».proof.Proof.Gen.ReferenceDvIdeal.Read
public import proofs.«01_k».proof.Defs
public import Idealize.ShloMosaic.Lib.Tactic
public import Idealize.ShloMosaic.Lib.Pointwise
public import Idealize.ShloMosaic.Lib.KernelVsHost
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.KernelDvIdeal.Grad

open Cert.KernelDvIdeal Cert.KernelDvIdeal.Gen Cert.KernelDvIdeal.Value Cert.Sums

variable (m : (ℓ : Loc nD τ sig) → Buf (Elt Ideal) ℓ) (ρ : Dev nD → PrngReg)

/-- One grid point stores the sum of its two products. -/
theorem block_apply (x : Vec Ideal S1024x2816 .bf16) (w : Vec Ideal S2816x1024 .bf16) (x' : Vec Ideal S1024x2816 .bf16) (w' : Vec Ideal S2816x1024 .bf16) (r : Fin 1024) (q : Fin 1024) :
    out0_4 (F := Ideal) x w x' w' (ix2 r q) = (∑ k : Fin 2816, x (ix2 r k) * w (ix2 k q)) + ∑ k : Fin 2816, x' (ix2 r k) * w' (ix2 k q) := by
  unfold out0_4 k0_pay1
  rw [View.canon_unit_zero (S := S1024x1024) zero2, View.ld_unit_zero (S := S1024x2816) zero2, View.ld_unit_zero (S := S2816x1024) zero2,
    View.ld_unit_zero (S := S1024x2816) zero2, View.ld_unit_zero (S := S2816x1024) zero2]
  pointwise

theorem index_0 : ∀ t : Fin cfg0.N, win0_0.index t (0 : Fin 2) = t.val ∧ win0_0.index t (1 : Fin 2) = 0 :=
  (by decide +kernel : ∀ t : Fin grid0.N, _)
theorem index_1 : ∀ t : Fin cfg0.N, win0_1.index t (0 : Fin 2) = 0 ∧ win0_1.index t (1 : Fin 2) = 0 :=
  (by decide +kernel : ∀ t : Fin grid0.N, _)
theorem index_2 : ∀ t : Fin cfg0.N, win0_2.index t (0 : Fin 2) = t.val ∧ win0_2.index t (1 : Fin 2) = 0 :=
  (by decide +kernel : ∀ t : Fin grid0.N, _)
theorem index_3 : ∀ t : Fin cfg0.N, win0_3.index t (0 : Fin 2) = 1 ∧ win0_3.index t (1 : Fin 2) = 0 :=
  (by decide +kernel : ∀ t : Fin grid0.N, _)
theorem index_out : ∀ t : Fin cfg0.N, win0_4.index t (0 : Fin 2) = t.val ∧ win0_4.index t (1 : Fin 2) = 0 :=
  (by decide +kernel : ∀ t : Fin grid0.N, _)
theorem flushes : ∀ t : Fin cfg0.N, (cfg0.win 4).flush t = true :=
  (by decide +kernel : ∀ t : Fin grid0.N, _)

/-- The three arguments and the result, read at a row and a column. -/
def argA (c : Dev nD) : S8192x2816.Idx → EReal := m ((c : Thread nD τ).loc main_arg0)
def argB (c : Dev nD) : S8192x2816.Idx → EReal := m ((c : Thread nD τ).loc main_arg1)
def argW (c : Dev nD) : S5632x1024.Idx → EReal := m ((c : Thread nD τ).loc main_arg2)
def res (c : Dev nD) : S8192x1024.Idx → EReal := (dats m 0 c).arrAt 4 cfg0.N

theorem rows_a (c : Dev nD) (t : Fin cfg0.N) (r : Fin 1024) (k : Fin 2816) (r' : Fin 8192) (hr : r'.val = 1024 * t.val + r.val) :
    (iblk m c 0 t : Vec Ideal S1024x2816 .bf16) (ix2 r k) = argA m c (ix2 r' k) := by
  obtain ⟨e0, e1⟩ := index_0 t
  unfold iblk argA
  rw [View.read_apply]
  show V m c main_arg0 _ = V m c main_arg0 _
  congr 1
  funext x
  apply Fin.ext
  match x with
  | ⟨0, _⟩ => show win0_0.index t (0 : Fin 2) * 1024 + 1 * r.val = r'.val; rw [e0, hr]; omega
  | ⟨1, _⟩ => show win0_0.index t (1 : Fin 2) * 2816 + 1 * k.val = k.val; rw [e1]; omega

theorem rows_b (c : Dev nD) (t : Fin cfg0.N) (r : Fin 1024) (k : Fin 2816) (r' : Fin 8192) (hr : r'.val = 1024 * t.val + r.val) :
    (iblk m c 2 t : Vec Ideal S1024x2816 .bf16) (ix2 r k) = argB m c (ix2 r' k) := by
  obtain ⟨e0, e1⟩ := index_2 t
  unfold iblk argB
  rw [View.read_apply]
  show V m c main_arg1 _ = V m c main_arg1 _
  congr 1
  funext x
  apply Fin.ext
  match x with
  | ⟨0, _⟩ => show win0_2.index t (0 : Fin 2) * 1024 + 1 * r.val = r'.val; rw [e0, hr]; omega
  | ⟨1, _⟩ => show win0_2.index t (1 : Fin 2) * 2816 + 1 * k.val = k.val; rw [e1]; omega

theorem weight_a (c : Dev nD) (t : Fin cfg0.N) (k : Fin 2816) (q : Fin 1024) :
    (iblk m c 1 t : Vec Ideal S2816x1024 .bf16) (ix2 k q) = argW m c (ix2 (n0 := 5632) ⟨2816 * (0 : Fin 2).val + k.val, by show 2816 * 0 + k.val < 5632; omega⟩ q) := by
  obtain ⟨e0, e1⟩ := index_1 t
  unfold iblk argW
  rw [View.read_apply]
  show V m c main_arg2 _ = V m c main_arg2 _
  congr 1
  funext x
  apply Fin.ext
  match x with
  | ⟨0, _⟩ => show win0_1.index t (0 : Fin 2) * 2816 + 1 * k.val = 2816 * 0 + k.val; rw [e0]; omega
  | ⟨1, _⟩ => show win0_1.index t (1 : Fin 2) * 1024 + 1 * q.val = q.val; rw [e1]; omega

theorem weight_b (c : Dev nD) (t : Fin cfg0.N) (k : Fin 2816) (q : Fin 1024) :
    (iblk m c 3 t : Vec Ideal S2816x1024 .bf16) (ix2 k q) = argW m c (ix2 (n0 := 5632) ⟨2816 * (1 : Fin 2).val + k.val, by show 2816 * 1 + k.val < 5632; omega⟩ q) := by
  obtain ⟨e0, e1⟩ := index_3 t
  unfold iblk argW
  rw [View.read_apply]
  show V m c main_arg2 _ = V m c main_arg2 _
  congr 1
  funext x
  apply Fin.ext
  match x with
  | ⟨0, _⟩ => show win0_3.index t (0 : Fin 2) * 2816 + 1 * k.val = 2816 * 1 + k.val; rw [e0]; omega
  | ⟨1, _⟩ => show win0_3.index t (1 : Fin 2) * 1024 + 1 * q.val = q.val; rw [e1]; omega

/-- The result array at a row and a column. -/
theorem result_apply (c : Dev nD) (r : Fin 8192) (q : Fin 1024) :
    res m c (ix2 r q) = (∑ k : Fin 2816, argA m c (ix2 r k) * argW m c (ix2 (n0 := 5632) ⟨2816 * (0 : Fin 2).val + k.val, by show 2816 * 0 + k.val < 5632; omega⟩ q))
      + ∑ k : Fin 2816, argB m c (ix2 r k) * argW m c (ix2 (n0 := 5632) ⟨2816 * (1 : Fin 2).val + k.val, by show 2816 * 1 + k.val < 5632; omega⟩ q) := by
  have hN : cfg0.N = 8 := N_0
  have ht : r.val / 1024 < cfg0.N := by rw [hN]; have := r.isLt; omega
  obtain ⟨e0, e1⟩ := index_out ⟨r.val / 1024, ht⟩
  have hb := congrFun (blocks4 m c ⟨r.val / 1024, ht⟩ (flushes _)) (ix2 (n0 := 1024) (n1 := 1024) ⟨r.val % 1024, Nat.mod_lt _ (by decide)⟩ q)
  rw [View.read_apply, flushed4] at hb
  have hi : res m c (ix2 r q) = out0_4 (F := Ideal) (iblk m c 0 ⟨r.val / 1024, ht⟩) (iblk m c 1 ⟨r.val / 1024, ht⟩) (iblk m c 2 ⟨r.val / 1024, ht⟩) (iblk m c 3 ⟨r.val / 1024, ht⟩)
      (ix2 (n0 := 1024) (n1 := 1024) ⟨r.val % 1024, Nat.mod_lt _ (by decide)⟩ q) := by
    refine Eq.trans ?_ hb
    unfold res
    congr 1
    funext x
    apply Fin.ext
    match x with
    | ⟨0, _⟩ => show r.val = win0_4.index ⟨r.val / 1024, ht⟩ (0 : Fin 2) * 1024 + 1 * (r.val % 1024); rw [e0]; dsimp only; omega
    | ⟨1, _⟩ => show q.val = win0_4.index ⟨r.val / 1024, ht⟩ (1 : Fin 2) * 1024 + 1 * q.val; rw [e1]; omega
  rw [hi, block_apply]
  congr 1
  · refine Finset.sum_congr rfl fun k _ => ?_
    rw [rows_a m c _ _ k r (by dsimp only; omega), weight_a]
  · refine Finset.sum_congr rfl fun k _ => ?_
    rw [rows_b m c _ _ k r (by dsimp only; omega), weight_b]

end Cert.KernelDvIdeal.Grad

namespace Cert.Proof.KernelDvIdeal

open Cert.Sums Cert.ReferenceDvIdeal Cert.ReferenceDvIdeal.Read

/-- The reference's cotangent of all 5632 columns: the first half is the first argument, the second half the second. -/
theorem halves_first (x0 x1 : Cert.ReferenceDvIdeal.S8192x2816.Idx → EReal) (r : Fin 8192) (k : Fin 2816) :
    val_main_v10 (F := Ideal) x0 x1 (ix2 (n1 := 5632) r ⟨2816 * (0 : Fin 2).val + k.val, by show 2816 * 0 + k.val < 5632; omega⟩) = x0 (ix2 r k) := by
  rw [val_main_v10_apply, Ideal.addf_def]
  unfold val_main_v8 val_main_v9
  rw [pad_apply_of_not_inside _ _ _ _ _ _ _ _ (1 : Fin 2) (fun h => absurd h.1 (by show ¬2816 ≤ 2816 * 0 + k.val; omega)),
    pad_apply_of_inside _ _ _ _ _ _ _ _ (ix2 r k) (fun a => match a with
      | ⟨0, _⟩ => by show r.val = 0 + r.val * (0 + 1); omega
      | ⟨1, _⟩ => by show 2816 * 0 + k.val = 0 + k.val * (0 + 1); omega)]
  rw [val_main_v6_apply, Ideal.extf_def, val_main_cst_0_apply]
  show Ideal.ofBits .f32 0#32 + x0 (ix2 r k) = x0 (ix2 r k)
  rw [show Ideal.ofBits .f32 0#32 = 0 from Ideal.ofBits_zero .f32, zero_add]

theorem halves_second (x0 x1 : Cert.ReferenceDvIdeal.S8192x2816.Idx → EReal) (r : Fin 8192) (k : Fin 2816) :
    val_main_v10 (F := Ideal) x0 x1 (ix2 (n1 := 5632) r ⟨2816 * (1 : Fin 2).val + k.val, by show 2816 * 1 + k.val < 5632; omega⟩) = x1 (ix2 r k) := by
  rw [val_main_v10_apply, Ideal.addf_def]
  unfold val_main_v8 val_main_v9
  rw [pad_apply_of_inside _ _ _ _ _ _ _ _ (ix2 r k) (fun a => match a with
      | ⟨0, _⟩ => by show r.val = 0 + r.val * (0 + 1); omega
      | ⟨1, _⟩ => by show 2816 * 1 + k.val = 2816 + k.val * (0 + 1); omega),
    pad_apply_of_not_inside _ _ _ _ _ _ _ _ (1 : Fin 2) (fun h => absurd h.2.2 (by show ¬(2816 * 1 + k.val - 0) / (0 + 1) < 2816; omega))]
  rw [val_main_v7_apply, Ideal.extf_def, val_main_cst_1_apply]
  show x1 (ix2 r k) + Ideal.ofBits .f32 0#32 = x1 (ix2 r k)
  rw [show Ideal.ofBits .f32 0#32 = 0 from Ideal.ofBits_zero .f32, add_zero]

theorem ref_apply (x0 x1 : Cert.ReferenceDvIdeal.S8192x2816.Idx → EReal) (x2 : Cert.ReferenceDvIdeal.S5632x1024.Idx → EReal) (r : Fin 8192) (q : Fin 1024) :
    val_main_v12 (F := Ideal) x0 x1 x2 (ix2 r q) = (∑ k : Fin 2816, x0 (ix2 r k) * x2 (ix2 (n0 := 5632) ⟨2816 * (0 : Fin 2).val + k.val, by show 2816 * 0 + k.val < 5632; omega⟩ q))
      + ∑ k : Fin 2816, x1 (ix2 r k) * x2 (ix2 (n0 := 5632) ⟨2816 * (1 : Fin 2).val + k.val, by show 2816 * 1 + k.val < 5632; omega⟩ q) := by
  have hl : ∀ k : Fin 5632, lidx_main_v11 (ix2 r q) k = ix2 r k := fun k => by funext x; match x with | ⟨0, _⟩ => rfl | ⟨1, _⟩ => rfl
  have hr : ∀ k : Fin 5632, val_main_v2 (F := Ideal) x2 (ridx_main_v11 (ix2 r q) k) = x2 (ix2 k q) := fun k => by
    rw [val_main_v2_apply, val_main_v0_apply, Ideal.extf_def]
    congr 1
    funext x; match x with | ⟨0, _⟩ => rfl | ⟨1, _⟩ => rfl
  rw [val_main_v12_apply, Ideal.truncf_def, val_main_v11_apply]
  simp only [hl, hr]
  rw [sum_blocks (M := EReal) 2 2816 5632 rfl, Fin.sum_univ_two]
  congr 1
  · refine Finset.sum_congr rfl fun k _ => ?_
    rw [halves_first]
  · refine Finset.sum_congr rfl fun k _ => ?_
    rw [halves_second]

theorem algebraic : Cert.algebraic_KernelDvIdeal_ReferenceDvIdeal := by
  intro m ρ m' ρ' _ hagree
  refine ⟨fun c => (Cert.KernelDvIdeal.Gen.dats m 0 c).arrAt 4 Cert.KernelDvIdeal.cfg0.N, Cert.KernelDvIdeal.Value.run_blocks m ρ, ?_⟩
  refine (θ_run Cert.ReferenceDvIdeal.defs _ _).mono (fun _ h c => ?_) (Cert.ReferenceDvIdeal.Value.run (F := Ideal) m' ρ')
  refine ⟨(h c).1.trans ?_, (h c).2⟩
  rw [Cert.ReferenceDvIdeal.Read.val_main_v12_eq, (hagree c).1, (hagree c).2.1, (hagree c).2.2]
  funext i
  obtain ⟨r, q, rfl⟩ : ∃ (r : Fin 8192) (q : Fin 1024), i = ix2 r q := ⟨i 0, i 1, by funext x; match x with | ⟨0, _⟩ => rfl | ⟨1, _⟩ => rfl⟩
  rw [ref_apply]
  exact (Cert.KernelDvIdeal.Grad.result_apply m c r q).symm

/-- The reference's own frame. -/
theorem frame_reference : Cert.quiescent_ReferenceDvIdeal := fun m ρ _ =>
  (θ_run Cert.ReferenceDvIdeal.defs _ _).mono (fun r h => ⟨fun c => (h c).2, Idealize.ShloMosaic.sem_eq_zero_of_no_sems (by decide) r.2⟩)
    (Cert.ReferenceDvIdeal.Value.run (F := Ideal) m ρ)

end Cert.Proof.KernelDvIdeal

end
-- ==== Proof.RowsDown.lean ====
/- The gradient of the product by the down weight, with respect to its rows: what the grid of blocks leaves is the gradient the reference takes. -/
module

public import proofs.«01_k».proof.Proof.Sums
public import proofs.«01_k».proof.Proof.Gen.KernelDaIdeal.Value
public import proofs.«01_k».proof.Proof.Gen.ReferenceDaIdeal.Read
public import proofs.«01_k».proof.Defs
public import Idealize.ShloMosaic.Lib.Tactic
public import Idealize.ShloMosaic.Lib.Pointwise
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.KernelDaIdeal.Grad

open Cert.KernelDaIdeal Cert.KernelDaIdeal.Gen Cert.KernelDaIdeal.Value Cert.Sums

variable (m : (ℓ : Loc nD τ sig) → Buf (Elt Ideal) ℓ) (ρ : Dev nD → PrngReg)

/-- One grid point stores the product of its rows with the rows of the weight. -/
theorem block_apply (x : Vec Ideal S1024x1024 .bf16) (w : Vec Ideal S2816x1024 .bf16) (r : Fin 1024) (q : Fin 2816) :
    out0_2 (F := Ideal) x w (ix2 r q) = ∑ k : Fin 1024, x (ix2 r k) * w (ix2 q k) := by
  unfold out0_2 k0_pay1
  rw [View.canon_unit_zero (S := S1024x2816) zero2, View.ld_unit_zero (S := S1024x1024) zero2, View.ld_unit_zero (S := S2816x1024) zero2]
  pointwise

theorem index_left : ∀ t : Fin cfg0.N, win0_0.index t (0 : Fin 2) = t.val ∧ win0_0.index t (1 : Fin 2) = 0 :=
  (by decide +kernel : ∀ t : Fin grid0.N, _)
theorem index_right : ∀ t : Fin cfg0.N, win0_1.index t (0 : Fin 2) = 0 ∧ win0_1.index t (1 : Fin 2) = 0 :=
  (by decide +kernel : ∀ t : Fin grid0.N, _)
theorem index_out : ∀ t : Fin cfg0.N, win0_2.index t (0 : Fin 2) = t.val ∧ win0_2.index t (1 : Fin 2) = 0 :=
  (by decide +kernel : ∀ t : Fin grid0.N, _)
theorem flushes : ∀ t : Fin cfg0.N, (cfg0.win 2).flush t = true :=
  (by decide +kernel : ∀ t : Fin grid0.N, _)

/-- The two arguments and the result, read at a row and a column. -/
def argL (c : Dev nD) : S8192x1024.Idx → EReal := m ((c : Thread nD τ).loc main_arg0)
def argR (c : Dev nD) : S2816x1024.Idx → EReal := m ((c : Thread nD τ).loc main_arg1)
def res (c : Dev nD) : S8192x2816.Idx → EReal := (dats m 0 c).arrAt 2 cfg0.N

theorem left_apply (c : Dev nD) (t : Fin cfg0.N) (r : Fin 1024) (k : Fin 1024) (r' : Fin 8192) (hr : r'.val = 1024 * t.val + r.val) :
    (iblk m c 0 t : Vec Ideal S1024x1024 .bf16) (ix2 r k) = argL m c (ix2 r' k) := by
  obtain ⟨e0, e1⟩ := index_left t
  unfold iblk argL
  rw [View.read_apply]
  show V m c main_arg0 _ = V m c main_arg0 _
  congr 1
  funext x
  apply Fin.ext
  match x with
  | ⟨0, _⟩ => show win0_0.index t (0 : Fin 2) * 1024 + 1 * r.val = r'.val; rw [e0, hr]; omega
  | ⟨1, _⟩ => show win0_0.index t (1 : Fin 2) * 1024 + 1 * k.val = k.val; rw [e1]; omega

theorem right_apply (c : Dev nD) (t : Fin cfg0.N) (q : Fin 2816) (k : Fin 1024) :
    (iblk m c 1 t : Vec Ideal S2816x1024 .bf16) (ix2 q k) = argR m c (ix2 q k) := by
  obtain ⟨e0, e1⟩ := index_right t
  unfold iblk argR
  rw [View.read_apply]
  show V m c main_arg1 _ = V m c main_arg1 _
  congr 1
  funext x
  apply Fin.ext
  match x with
  | ⟨0, _⟩ => show win0_1.index t (0 : Fin 2) * 2816 + 1 * q.val = q.val; rw [e0]; omega
  | ⟨1, _⟩ => show win0_1.index t (1 : Fin 2) * 1024 + 1 * k.val = k.val; rw [e1]; omega

/-- The result array at a row and a column. -/
theorem result_apply (c : Dev nD) (r : Fin 8192) (q : Fin 2816) :
    res m c (ix2 r q) = ∑ k : Fin 1024, argL m c (ix2 r k) * argR m c (ix2 q k) := by
  have hN : cfg0.N = 8 := N_0
  have ht : r.val / 1024 < cfg0.N := by rw [hN]; have := r.isLt; omega
  obtain ⟨e0, e1⟩ := index_out ⟨r.val / 1024, ht⟩
  have hb := congrFun (blocks2 m c ⟨r.val / 1024, ht⟩ (flushes _)) (ix2 (n0 := 1024) (n1 := 2816) ⟨r.val % 1024, Nat.mod_lt _ (by decide)⟩ q)
  rw [View.read_apply, flushed2] at hb
  have hi : res m c (ix2 r q) = out0_2 (F := Ideal) (iblk m c 0 ⟨r.val / 1024, ht⟩) (iblk m c 1 ⟨r.val / 1024, ht⟩) (ix2 (n0 := 1024) (n1 := 2816) ⟨r.val % 1024, Nat.mod_lt _ (by decide)⟩ q) := by
    refine Eq.trans ?_ hb
    unfold res
    congr 1
    funext x
    apply Fin.ext
    match x with
    | ⟨0, _⟩ => show r.val = win0_2.index ⟨r.val / 1024, ht⟩ (0 : Fin 2) * 1024 + 1 * (r.val % 1024); rw [e0]; dsimp only; omega
    | ⟨1, _⟩ => show q.val = win0_2.index ⟨r.val / 1024, ht⟩ (1 : Fin 2) * 2816 + 1 * q.val; rw [e1]; omega
  rw [hi, block_apply]
  refine Finset.sum_congr rfl fun k _ => ?_
  rw [left_apply m c _ _ k r (by dsimp only; omega), right_apply]

end Cert.KernelDaIdeal.Grad

namespace Cert.Proof.KernelDaIdeal

open Cert.Sums

theorem ref_apply (x0 : Cert.ReferenceDaIdeal.S8192x1024.Idx → EReal) (x1 : Cert.ReferenceDaIdeal.S2816x1024.Idx → EReal) (r : Fin 8192) (q : Fin 2816) :
    Cert.ReferenceDaIdeal.Read.val_main_v5 (F := Ideal) x0 x1 (ix2 r q) = ∑ k : Fin 1024, x0 (ix2 r k) * x1 (ix2 q k) := by
  rw [Cert.ReferenceDaIdeal.Read.val_main_v5_apply, Ideal.truncf_def, Cert.ReferenceDaIdeal.Read.val_main_v4_apply]
  refine Finset.sum_congr rfl fun k _ => ?_
  rw [Cert.ReferenceDaIdeal.Read.val_main_v3_apply, Cert.ReferenceDaIdeal.Read.val_main_v1_apply, Ideal.extf_def, Ideal.extf_def]
  congr 2 <;> (funext x; match x with | ⟨0, _⟩ => rfl | ⟨1, _⟩ => rfl)

theorem algebraic : Cert.algebraic_KernelDaIdeal_ReferenceDaIdeal := by
  intro m ρ m' ρ' _ hagree
  refine ⟨fun c => (Cert.KernelDaIdeal.Gen.dats m 0 c).arrAt 2 Cert.KernelDaIdeal.cfg0.N, Cert.KernelDaIdeal.Value.run_blocks m ρ, ?_⟩
  refine (θ_run Cert.ReferenceDaIdeal.defs _ _).mono (fun _ h c => ?_) (Cert.ReferenceDaIdeal.Value.run (F := Ideal) m' ρ')
  refine ⟨(h c).1.trans ?_, (h c).2⟩
  rw [Cert.ReferenceDaIdeal.Read.val_main_v5_eq, (hagree c).1, (hagree c).2]
  funext i
  obtain ⟨r, q, rfl⟩ : ∃ (r : Fin 8192) (q : Fin 2816), i = ix2 r q := ⟨i 0, i 1, by funext x; match x with | ⟨0, _⟩ => rfl | ⟨1, _⟩ => rfl⟩
  rw [ref_apply]
  exact (Cert.KernelDaIdeal.Grad.result_apply m c r q).symm

/-- The reference's own frame. -/
theorem frame_reference : Cert.quiescent_ReferenceDaIdeal := fun m ρ _ =>
  (θ_run Cert.ReferenceDaIdeal.defs _ _).mono (fun r h => ⟨fun c => (h c).2, Idealize.ShloMosaic.sem_eq_zero_of_no_sems (by decide) r.2⟩)
    (Cert.ReferenceDaIdeal.Value.run (F := Ideal) m ρ)

end Cert.Proof.KernelDaIdeal

end
-- ==== Proof.RowsIn.lean ====
/- The gradient of the input projections, with respect to the rows: what the grid of blocks leaves is the gradient the reference takes. -/
module

public import proofs.«01_k».proof.Proof.Sums
public import proofs.«01_k».proof.Proof.Gen.KernelDuIdeal.Value
public import proofs.«01_k».proof.Proof.Gen.ReferenceDuIdeal.Read
public import proofs.«01_k».proof.Defs
public import Idealize.ShloMosaic.Lib.Tactic
public import Idealize.ShloMosaic.Lib.Pointwise
public import Idealize.ShloMosaic.Lib.KernelVsHost
public import Idealize.ShloMosaic.Lib.Claim
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.KernelDuIdeal.Grad

open Cert.KernelDuIdeal Cert.KernelDuIdeal.Gen Cert.KernelDuIdeal.Value Cert.Sums

variable (m : (ℓ : Loc nD τ sig) → Buf (Elt Ideal) ℓ) (ρ : Dev nD → PrngReg)

/-- What a grid point stores: the eleven products of its blocks, added one after the other. -/
theorem stored (c : Dev nD) (t : Fin cfg0.N) :
    outsAt0 m c t = k0_pay1 (F := Ideal) (k0_pay2 (F := Ideal) (iblk m c 0 t) (X0_1 m c t) (iblk m c 2 t) (X0_3 m c t) (iblk m c 4 t) (X0_5 m c t) (iblk m c 6 t) (X0_7 m c t) (iblk m c 8 t) (X0_9 m c t) (iblk m c 10 t) (X0_11 m c t)) (iblk m c 12 t) (X0_13 m c t) (iblk m c 14 t) (X0_15 m c t) (iblk m c 16 t) (X0_17 m c t) (iblk m c 18 t) (X0_19 m c t) (iblk m c 20 t) (iblk m c 21 t) := by
  unfold outsAt0 out0_A_22
  rw [View.read_writes_eq_canon _ _ _ (fun y => cover0_A_22 (y := y) ..)]
  unfold kernelRun0_A
  dsimp only
  sl_unfold_words
  rw [View.canon_unit_zero (S := S512x1024) zero2]
  simp only [View.readAt_eq_ld, Memref.IsWhole.read_unread, View.ld_unit_zero (S := S512x1024) zero2, View.ld_unit_zero (S := S1024x1024) zero2,
    View.ld_unit_zero (S := S512x128) zero2, View.ld_unit_zero (S := S128x1024) zero2]

/-- One product of rows of a segment with the segment's rows of the weight. -/
def prod (x : Vec Ideal S512x1024 .bf16) (w : Vec Ideal S1024x1024 .bf16) (r : Fin 512) (q : Fin 1024) : EReal := ∑ k : Fin 1024, x (ix2 r k) * w (ix2 k q)

theorem first_apply (x0 x1 x2 x3 x4 x5 : Vec Ideal S512x1024 .bf16) (w0 w1 w2 w3 w4 w5 : Vec Ideal S1024x1024 .bf16) (r : Fin 512) (q : Fin 1024) :
    k0_pay2 (F := Ideal) x0 w0 x1 w1 x2 w2 x3 w3 x4 w4 x5 w5 (ix2 r q) = prod x0 w0 r q + prod x1 w1 r q + prod x2 w2 r q + prod x3 w3 r q + prod x4 w4 r q + prod x5 w5 r q := by
  unfold k0_pay2 prod
  pointwise

theorem second_apply (a : Vec Ideal S512x1024 .f32) (x6 x7 x8 x9 : Vec Ideal S512x1024 .bf16) (w6 w7 w8 w9 : Vec Ideal S1024x1024 .bf16)
    (x : Vec Ideal S512x128 .bf16) (w : Vec Ideal S128x1024 .bf16) (r : Fin 512) (q : Fin 1024) :
    k0_pay1 (F := Ideal) a x6 w6 x7 w7 x8 w8 x9 w9 x w (ix2 r q) = a (ix2 r q) + prod x6 w6 r q + prod x7 w7 r q + prod x8 w8 r q + prod x9 w9 r q + ∑ k : Fin 128, x (ix2 r k) * w (ix2 k q) := by
  unfold k0_pay1 prod
  simp only [shapeCast_self]
  pointwise

theorem index_0 : ∀ t : Fin cfg0.N, win0_0.index t (0 : Fin 2) = t.val ∧ win0_0.index t (1 : Fin 2) = 0 :=
  (by decide +kernel : ∀ t : Fin grid0.N, _)
theorem index_1 : ∀ t : Fin cfg0.N, win0_1.index t (0 : Fin 2) = 0 ∧ win0_1.index t (1 : Fin 2) = 0 :=
  (by decide +kernel : ∀ t : Fin grid0.N, _)
theorem index_2 : ∀ t : Fin cfg0.N, win0_2.index t (0 : Fin 2) = t.val ∧ win0_2.index t (1 : Fin 2) = 0 :=
  (by decide +kernel : ∀ t : Fin grid0.N, _)
theorem index_3 : ∀ t : Fin cfg0.N, win0_3.index t (0 : Fin 2) = 1 ∧ win0_3.index t (1 : Fin 2) = 0 :=
  (by decide +kernel : ∀ t : Fin grid0.N, _)
theorem index_4 : ∀ t : Fin cfg0.N, win0_4.index t (0 : Fin 2) = t.val ∧ win0_4.index t (1 : Fin 2) = 0 :=
  (by decide +kernel : ∀ t : Fin grid0.N, _)
theorem index_5 : ∀ t : Fin cfg0.N, win0_5.index t (0 : Fin 2) = 2 ∧ win0_5.index t (1 : Fin 2) = 0 :=
  (by decide +kernel : ∀ t : Fin grid0.N, _)
theorem index_6 : ∀ t : Fin cfg0.N, win0_6.index t (0 : Fin 2) = t.val ∧ win0_6.index t (1 : Fin 2) = 0 :=
  (by decide +kernel : ∀ t : Fin grid0.N, _)
theorem index_7 : ∀ t : Fin cfg0.N, win0_7.index t (0 : Fin 2) = 3 ∧ win0_7.index t (1 : Fin 2) = 0 :=
  (by decide +kernel : ∀ t : Fin grid0.N, _)
theorem index_8 : ∀ t : Fin cfg0.N, win0_8.index t (0 : Fin 2) = t.val ∧ win0_8.index t (1 : Fin 2) = 0 :=
  (by decide +kernel : ∀ t : Fin grid0.N, _)
theorem index_9 : ∀ t : Fin cfg0.N, win0_9.index t (0 : Fin 2) = 4 ∧ win0_9.index t (1 : Fin 2) = 0 :=
  (by decide +kernel : ∀ t : Fin grid0.N, _)
theorem index_10 : ∀ t : Fin cfg0.N, win0_10.index t (0 : Fin 2) = t.val ∧ win0_10.index t (1 : Fin 2) = 0 :=
  (by decide +kernel : ∀ t : Fin grid0.N, _)
theorem index_11 : ∀ t : Fin cfg0.N, win0_11.index t (0 : Fin 2) = 5 ∧ win0_11.index t (1 : Fin 2) = 0 :=
  (by decide +kernel : ∀ t : Fin grid0.N, _)
theorem index_12 : ∀ t : Fin cfg0.N, win0_12.index t (0 : Fin 2) = t.val ∧ win0_12.index t (1 : Fin 2) = 1 :=
  (by decide +kernel : ∀ t : Fin grid0.N, _)
theorem index_13 : ∀ t : Fin cfg0.N, win0_13.index t (0 : Fin 2) = 6 ∧ win0_13.index t (1 : Fin 2) = 0 :=
  (by decide +kernel : ∀ t : Fin grid0.N, _)
theorem index_14 : ∀ t : Fin cfg0.N, win0_14.index t (0 : Fin 2) = t.val ∧ win0_14.index t (1 : Fin 2) = 0 :=
  (by decide +kernel : ∀ t : Fin grid0.N, _)
theorem index_15 : ∀ t : Fin cfg0.N, win0_15.index t (0 : Fin 2) = 7 ∧ win0_15.index t (1 : Fin 2) = 0 :=
  (by decide +kernel : ∀ t : Fin grid0.N, _)
theorem index_16 : ∀ t : Fin cfg0.N, win0_16.index t (0 : Fin 2) = t.val ∧ win0_16.index t (1 : Fin 2) = 1 :=
  (by decide +kernel : ∀ t : Fin grid0.N, _)
theorem index_17 : ∀ t : Fin cfg0.N, win0_17.index t (0 : Fin 2) = 8 ∧ win0_17.index t (1 : Fin 2) = 0 :=
  (by decide +kernel : ∀ t : Fin grid0.N, _)
theorem index_18 : ∀ t : Fin cfg0.N, win0_18.index t (0 : Fin 2) = t.val ∧ win0_18.index t (1 : Fin 2) = 2 :=
  (by decide +kernel : ∀ t : Fin grid0.N, _)
theorem index_19 : ∀ t : Fin cfg0.N, win0_19.index t (0 : Fin 2) = 9 ∧ win0_19.index t (1 : Fin 2) = 0 :=
  (by decide +kernel : ∀ t : Fin grid0.N, _)
theorem index_20 : ∀ t : Fin cfg0.N, win0_20.index t (0 : Fin 2) = t.val ∧ win0_20.index t (1 : Fin 2) = 0 :=
  (by decide +kernel : ∀ t : Fin grid0.N, _)
theorem index_21 : ∀ t : Fin cfg0.N, win0_21.index t (0 : Fin 2) = 0 ∧ win0_21.index t (1 : Fin 2) = 0 :=
  (by decide +kernel : ∀ t : Fin grid0.N, _)
theorem index_out : ∀ t : Fin cfg0.N, win0_22.index t (0 : Fin 2) = t.val ∧ win0_22.index t (1 : Fin 2) = 0 :=
  (by decide +kernel : ∀ t : Fin grid0.N, _)
theorem flushes : ∀ t : Fin cfg0.N, (cfg0.win 22).flush t = true :=
  (by decide +kernel : ∀ t : Fin grid0.N, _)

/-- The arguments and the result, read at a row and a column. -/
def seg0 (c : Dev nD) : S8192x1024.Idx → EReal := m ((c : Thread nD τ).loc main_arg0)
def seg1 (c : Dev nD) : S8192x1024.Idx → EReal := m ((c : Thread nD τ).loc main_arg1)
def seg2 (c : Dev nD) : S8192x1024.Idx → EReal := m ((c : Thread nD τ).loc main_arg2)
def seg3 (c : Dev nD) : S8192x1024.Idx → EReal := m ((c : Thread nD τ).loc main_arg3)
def seg4 (c : Dev nD) : S8192x1024.Idx → EReal := m ((c : Thread nD τ).loc main_arg4)
def seg5 (c : Dev nD) : S8192x2048.Idx → EReal := m ((c : Thread nD τ).loc main_arg5)
def seg6 (c : Dev nD) : S8192x3072.Idx → EReal := m ((c : Thread nD τ).loc main_arg6)
def seg7 (c : Dev nD) : S8192x128.Idx → EReal := m ((c : Thread nD τ).loc main_arg7)
def weight (c : Dev nD) : S10272x1024.Idx → EReal := m ((c : Thread nD τ).loc main_arg8)
def res (c : Dev nD) : S8192x1024.Idx → EReal := (dats m 0 c).arrAt 22 cfg0.N

theorem rows_0 (c : Dev nD) (t : Fin cfg0.N) (r : Fin 512) (k : Fin 1024) (r' : Fin 8192) (hr : r'.val = 512 * t.val + r.val) :
    (iblk m c 0 t : Vec Ideal S512x1024 .bf16) (ix2 r k) = seg0 m c (ix2 (n0 := 8192) (n1 := 1024) r' k) := by
  obtain ⟨e0, e1⟩ := index_0 t
  unfold iblk seg0
  rw [View.read_apply]
  show V m c main_arg0 _ = V m c main_arg0 _
  congr 1
  funext x
  apply Fin.ext
  match x with
  | ⟨0, _⟩ => show win0_0.index t (0 : Fin 2) * 512 + 1 * r.val = r'.val; rw [e0, hr]; omega
  | ⟨1, _⟩ => show win0_0.index t (1 : Fin 2) * 1024 + 1 * k.val = k.val; rw [e1]; omega

theorem rows_1 (c : Dev nD) (t : Fin cfg0.N) (r : Fin 512) (k : Fin 1024) (r' : Fin 8192) (hr : r'.val = 512 * t.val + r.val) :
    (iblk m c 2 t : Vec Ideal S512x1024 .bf16) (ix2 r k) = seg1 m c (ix2 (n0 := 8192) (n1 := 1024) r' k) := by
  obtain ⟨e0, e1⟩ := index_2 t
  unfold iblk seg1
  rw [View.read_apply]
  show V m c main_arg1 _ = V m c main_arg1 _
  congr 1
  funext x
  apply Fin.ext
  match x with
  | ⟨0, _⟩ => show win0_2.index t (0 : Fin 2) * 512 + 1 * r.val = r'.val; rw [e0, hr]; omega
  | ⟨1, _⟩ => show win0_2.index t (1 : Fin 2) * 1024 + 1 * k.val = k.val; rw [e1]; omega

theorem rows_2 (c : Dev nD) (t : Fin cfg0.N) (r : Fin 512) (k : Fin 1024) (r' : Fin 8192) (hr : r'.val = 512 * t.val + r.val) :
    (iblk m c 4 t : Vec Ideal S512x1024 .bf16) (ix2 r k) = seg2 m c (ix2 (n0 := 8192) (n1 := 1024) r' k) := by
  obtain ⟨e0, e1⟩ := index_4 t
  unfold iblk seg2
  rw [View.read_apply]
  show V m c main_arg2 _ = V m c main_arg2 _
  congr 1
  funext x
  apply Fin.ext
  match x with
  | ⟨0, _⟩ => show win0_4.index t (0 : Fin 2) * 512 + 1 * r.val = r'.val; rw [e0, hr]; omega
  | ⟨1, _⟩ => show win0_4.index t (1 : Fin 2) * 1024 + 1 * k.val = k.val; rw [e1]; omega

theorem rows_3 (c : Dev nD) (t : Fin cfg0.N) (r : Fin 512) (k : Fin 1024) (r' : Fin 8192) (hr : r'.val = 512 * t.val + r.val) :
    (iblk m c 6 t : Vec Ideal S512x1024 .bf16) (ix2 r k) = seg3 m c (ix2 (n0 := 8192) (n1 := 1024) r' k) := by
  obtain ⟨e0, e1⟩ := index_6 t
  unfold iblk seg3
  rw [View.read_apply]
  show V m c main_arg3 _ = V m c main_arg3 _
  congr 1
  funext x
  apply Fin.ext
  match x with
  | ⟨0, _⟩ => show win0_6.index t (0 : Fin 2) * 512 + 1 * r.val = r'.val; rw [e0, hr]; omega
  | ⟨1, _⟩ => show win0_6.index t (1 : Fin 2) * 1024 + 1 * k.val = k.val; rw [e1]; omega

theorem rows_4 (c : Dev nD) (t : Fin cfg0.N) (r : Fin 512) (k : Fin 1024) (r' : Fin 8192) (hr : r'.val = 512 * t.val + r.val) :
    (iblk m c 8 t : Vec Ideal S512x1024 .bf16) (ix2 r k) = seg4 m c (ix2 (n0 := 8192) (n1 := 1024) r' k) := by
  obtain ⟨e0, e1⟩ := index_8 t
  unfold iblk seg4
  rw [View.read_apply]
  show V m c main_arg4 _ = V m c main_arg4 _
  congr 1
  funext x
  apply Fin.ext
  match x with
  | ⟨0, _⟩ => show win0_8.index t (0 : Fin 2) * 512 + 1 * r.val = r'.val; rw [e0, hr]; omega
  | ⟨1, _⟩ => show win0_8.index t (1 : Fin 2) * 1024 + 1 * k.val = k.val; rw [e1]; omega

theorem rows_5 (c : Dev nD) (t : Fin cfg0.N) (r : Fin 512) (k : Fin 1024) (r' : Fin 8192) (hr : r'.val = 512 * t.val + r.val) :
    (iblk m c 10 t : Vec Ideal S512x1024 .bf16) (ix2 r k) = seg5 m c (ix2 (n0 := 8192) (n1 := 2048) r' ⟨1024 * 0 + k.val, by omega⟩) := by
  obtain ⟨e0, e1⟩ := index_10 t
  unfold iblk seg5
  rw [View.read_apply]
  show V m c main_arg5 _ = V m c main_arg5 _
  congr 1
  funext x
  apply Fin.ext
  match x with
  | ⟨0, _⟩ => show win0_10.index t (0 : Fin 2) * 512 + 1 * r.val = r'.val; rw [e0, hr]; omega
  | ⟨1, _⟩ => show win0_10.index t (1 : Fin 2) * 1024 + 1 * k.val = 1024 * 0 + k.val; rw [e1]; omega

theorem rows_6 (c : Dev nD) (t : Fin cfg0.N) (r : Fin 512) (k : Fin 1024) (r' : Fin 8192) (hr : r'.val = 512 * t.val + r.val) :
    (iblk m c 12 t : Vec Ideal S512x1024 .bf16) (ix2 r k) = seg5 m c (ix2 (n0 := 8192) (n1 := 2048) r' ⟨1024 * 1 + k.val, by omega⟩) := by
  obtain ⟨e0, e1⟩ := index_12 t
  unfold iblk seg5
  rw [View.read_apply]
  show V m c main_arg5 _ = V m c main_arg5 _
  congr 1
  funext x
  apply Fin.ext
  match x with
  | ⟨0, _⟩ => show win0_12.index t (0 : Fin 2) * 512 + 1 * r.val = r'.val; rw [e0, hr]; omega
  | ⟨1, _⟩ => show win0_12.index t (1 : Fin 2) * 1024 + 1 * k.val = 1024 * 1 + k.val; rw [e1]; omega

theorem rows_7 (c : Dev nD) (t : Fin cfg0.N) (r : Fin 512) (k : Fin 1024) (r' : Fin 8192) (hr : r'.val = 512 * t.val + r.val) :
    (iblk m c 14 t : Vec Ideal S512x1024 .bf16) (ix2 r k) = seg6 m c (ix2 (n0 := 8192) (n1 := 3072) r' ⟨1024 * 0 + k.val, by omega⟩) := by
  obtain ⟨e0, e1⟩ := index_14 t
  unfold iblk seg6
  rw [View.read_apply]
  show V m c main_arg6 _ = V m c main_arg6 _
  congr 1
  funext x
  apply Fin.ext
  match x with
  | ⟨0, _⟩ => show win0_14.index t (0 : Fin 2) * 512 + 1 * r.val = r'.val; rw [e0, hr]; omega
  | ⟨1, _⟩ => show win0_14.index t (1 : Fin 2) * 1024 + 1 * k.val = 1024 * 0 + k.val; rw [e1]; omega

theorem rows_8 (c : Dev nD) (t : Fin cfg0.N) (r : Fin 512) (k : Fin 1024) (r' : Fin 8192) (hr : r'.val = 512 * t.val + r.val) :
    (iblk m c 16 t : Vec Ideal S512x1024 .bf16) (ix2 r k) = seg6 m c (ix2 (n0 := 8192) (n1 := 3072) r' ⟨1024 * 1 + k.val, by omega⟩) := by
  obtain ⟨e0, e1⟩ := index_16 t
  unfold iblk seg6
  rw [View.read_apply]
  show V m c main_arg6 _ = V m c main_arg6 _
  congr 1
  funext x
  apply Fin.ext
  match x with
  | ⟨0, _⟩ => show win0_16.index t (0 : Fin 2) * 512 + 1 * r.val = r'.val; rw [e0, hr]; omega
  | ⟨1, _⟩ => show win0_16.index t (1 : Fin 2) * 1024 + 1 * k.val = 1024 * 1 + k.val; rw [e1]; omega

theorem rows_9 (c : Dev nD) (t : Fin cfg0.N) (r : Fin 512) (k : Fin 1024) (r' : Fin 8192) (hr : r'.val = 512 * t.val + r.val) :
    (iblk m c 18 t : Vec Ideal S512x1024 .bf16) (ix2 r k) = seg6 m c (ix2 (n0 := 8192) (n1 := 3072) r' ⟨1024 * 2 + k.val, by omega⟩) := by
  obtain ⟨e0, e1⟩ := index_18 t
  unfold iblk seg6
  rw [View.read_apply]
  show V m c main_arg6 _ = V m c main_arg6 _
  congr 1
  funext x
  apply Fin.ext
  match x with
  | ⟨0, _⟩ => show win0_18.index t (0 : Fin 2) * 512 + 1 * r.val = r'.val; rw [e0, hr]; omega
  | ⟨1, _⟩ => show win0_18.index t (1 : Fin 2) * 1024 + 1 * k.val = 1024 * 2 + k.val; rw [e1]; omega

theorem rows_10 (c : Dev nD) (t : Fin cfg0.N) (r : Fin 512) (k : Fin 128) (r' : Fin 8192) (hr : r'.val = 512 * t.val + r.val) :
    (iblk m c 20 t : Vec Ideal S512x128 .bf16) (ix2 r k) = seg7 m c (ix2 (n0 := 8192) (n1 := 128) r' k) := by
  obtain ⟨e0, e1⟩ := index_20 t
  unfold iblk seg7
  rw [View.read_apply]
  show V m c main_arg7 _ = V m c main_arg7 _
  congr 1
  funext x
  apply Fin.ext
  match x with
  | ⟨0, _⟩ => show win0_20.index t (0 : Fin 2) * 512 + 1 * r.val = r'.val; rw [e0, hr]; omega
  | ⟨1, _⟩ => show win0_20.index t (1 : Fin 2) * 128 + 1 * k.val = k.val; rw [e1]; omega

theorem whole_1 : ∀ (t : Fin cfg0.N) (a : Fin 2), (cfg0.win 1).clip (cfg0.grid.coords t) a = none :=
  (by decide +kernel : ∀ (t : Fin grid0.N) (a : Fin 2), (cfg0.win 1).clip (cfg0.grid.coords t) a = none)
theorem weight_0 (c : Dev nD) (t : Fin cfg0.N) (k q : Fin 1024) :
    (X0_1 m c t : Vec Ideal S1024x1024 .bf16) (ix2 k q) = weight m c (ix2 (n0 := 10272) ⟨1024 * 0 + k.val, by omega⟩ q) := by
  obtain ⟨e0, e1⟩ := index_1 t
  have hm : (cfg0.win 1).moved (cfg0.grid.coords t) (ix2 k q) = true :=
    ((cfg0.win 1).moved_iff _ _).mpr fun a => by
      have h := ((ix2 k q : S1024x1024.Idx) a).isLt
      unfold Pipeline.Window.xsize
      rw [whole_1 t a]
      exact h
  unfold X0_1 Pipeline.Window.fill
  rw [dif_pos hm]
  unfold iblk weight
  rw [View.read_apply]
  show V m c main_arg8 _ = V m c main_arg8 _
  congr 1
  funext x
  apply Fin.ext
  match x with
  | ⟨0, _⟩ => show win0_1.index t (0 : Fin 2) * 1024 + 1 * k.val = 1024 * 0 + k.val; rw [e0]; omega
  | ⟨1, _⟩ => show win0_1.index t (1 : Fin 2) * 1024 + 1 * q.val = q.val; rw [e1]; omega

theorem whole_3 : ∀ (t : Fin cfg0.N) (a : Fin 2), (cfg0.win 3).clip (cfg0.grid.coords t) a = none :=
  (by decide +kernel : ∀ (t : Fin grid0.N) (a : Fin 2), (cfg0.win 3).clip (cfg0.grid.coords t) a = none)
theorem weight_1 (c : Dev nD) (t : Fin cfg0.N) (k q : Fin 1024) :
    (X0_3 m c t : Vec Ideal S1024x1024 .bf16) (ix2 k q) = weight m c (ix2 (n0 := 10272) ⟨1024 * 1 + k.val, by omega⟩ q) := by
  obtain ⟨e0, e1⟩ := index_3 t
  have hm : (cfg0.win 3).moved (cfg0.grid.coords t) (ix2 k q) = true :=
    ((cfg0.win 3).moved_iff _ _).mpr fun a => by
      have h := ((ix2 k q : S1024x1024.Idx) a).isLt
      unfold Pipeline.Window.xsize
      rw [whole_3 t a]
      exact h
  unfold X0_3 Pipeline.Window.fill
  rw [dif_pos hm]
  unfold iblk weight
  rw [View.read_apply]
  show V m c main_arg8 _ = V m c main_arg8 _
  congr 1
  funext x
  apply Fin.ext
  match x with
  | ⟨0, _⟩ => show win0_3.index t (0 : Fin 2) * 1024 + 1 * k.val = 1024 * 1 + k.val; rw [e0]; omega
  | ⟨1, _⟩ => show win0_3.index t (1 : Fin 2) * 1024 + 1 * q.val = q.val; rw [e1]; omega

theorem whole_5 : ∀ (t : Fin cfg0.N) (a : Fin 2), (cfg0.win 5).clip (cfg0.grid.coords t) a = none :=
  (by decide +kernel : ∀ (t : Fin grid0.N) (a : Fin 2), (cfg0.win 5).clip (cfg0.grid.coords t) a = none)
theorem weight_2 (c : Dev nD) (t : Fin cfg0.N) (k q : Fin 1024) :
    (X0_5 m c t : Vec Ideal S1024x1024 .bf16) (ix2 k q) = weight m c (ix2 (n0 := 10272) ⟨1024 * 2 + k.val, by omega⟩ q) := by
  obtain ⟨e0, e1⟩ := index_5 t
  have hm : (cfg0.win 5).moved (cfg0.grid.coords t) (ix2 k q) = true :=
    ((cfg0.win 5).moved_iff _ _).mpr fun a => by
      have h := ((ix2 k q : S1024x1024.Idx) a).isLt
      unfold Pipeline.Window.xsize
      rw [whole_5 t a]
      exact h
  unfold X0_5 Pipeline.Window.fill
  rw [dif_pos hm]
  unfold iblk weight
  rw [View.read_apply]
  show V m c main_arg8 _ = V m c main_arg8 _
  congr 1
  funext x
  apply Fin.ext
  match x with
  | ⟨0, _⟩ => show win0_5.index t (0 : Fin 2) * 1024 + 1 * k.val = 1024 * 2 + k.val; rw [e0]; omega
  | ⟨1, _⟩ => show win0_5.index t (1 : Fin 2) * 1024 + 1 * q.val = q.val; rw [e1]; omega

theorem whole_7 : ∀ (t : Fin cfg0.N) (a : Fin 2), (cfg0.win 7).clip (cfg0.grid.coords t) a = none :=
  (by decide +kernel : ∀ (t : Fin grid0.N) (a : Fin 2), (cfg0.win 7).clip (cfg0.grid.coords t) a = none)
theorem weight_3 (c : Dev nD) (t : Fin cfg0.N) (k q : Fin 1024) :
    (X0_7 m c t : Vec Ideal S1024x1024 .bf16) (ix2 k q) = weight m c (ix2 (n0 := 10272) ⟨1024 * 3 + k.val, by omega⟩ q) := by
  obtain ⟨e0, e1⟩ := index_7 t
  have hm : (cfg0.win 7).moved (cfg0.grid.coords t) (ix2 k q) = true :=
    ((cfg0.win 7).moved_iff _ _).mpr fun a => by
      have h := ((ix2 k q : S1024x1024.Idx) a).isLt
      unfold Pipeline.Window.xsize
      rw [whole_7 t a]
      exact h
  unfold X0_7 Pipeline.Window.fill
  rw [dif_pos hm]
  unfold iblk weight
  rw [View.read_apply]
  show V m c main_arg8 _ = V m c main_arg8 _
  congr 1
  funext x
  apply Fin.ext
  match x with
  | ⟨0, _⟩ => show win0_7.index t (0 : Fin 2) * 1024 + 1 * k.val = 1024 * 3 + k.val; rw [e0]; omega
  | ⟨1, _⟩ => show win0_7.index t (1 : Fin 2) * 1024 + 1 * q.val = q.val; rw [e1]; omega

theorem whole_9 : ∀ (t : Fin cfg0.N) (a : Fin 2), (cfg0.win 9).clip (cfg0.grid.coords t) a = none :=
  (by decide +kernel : ∀ (t : Fin grid0.N) (a : Fin 2), (cfg0.win 9).clip (cfg0.grid.coords t) a = none)
theorem weight_4 (c : Dev nD) (t : Fin cfg0.N) (k q : Fin 1024) :
    (X0_9 m c t : Vec Ideal S1024x1024 .bf16) (ix2 k q) = weight m c (ix2 (n0 := 10272) ⟨1024 * 4 + k.val, by omega⟩ q) := by
  obtain ⟨e0, e1⟩ := index_9 t
  have hm : (cfg0.win 9).moved (cfg0.grid.coords t) (ix2 k q) = true :=
    ((cfg0.win 9).moved_iff _ _).mpr fun a => by
      have h := ((ix2 k q : S1024x1024.Idx) a).isLt
      unfold Pipeline.Window.xsize
      rw [whole_9 t a]
      exact h
  unfold X0_9 Pipeline.Window.fill
  rw [dif_pos hm]
  unfold iblk weight
  rw [View.read_apply]
  show V m c main_arg8 _ = V m c main_arg8 _
  congr 1
  funext x
  apply Fin.ext
  match x with
  | ⟨0, _⟩ => show win0_9.index t (0 : Fin 2) * 1024 + 1 * k.val = 1024 * 4 + k.val; rw [e0]; omega
  | ⟨1, _⟩ => show win0_9.index t (1 : Fin 2) * 1024 + 1 * q.val = q.val; rw [e1]; omega

theorem whole_11 : ∀ (t : Fin cfg0.N) (a : Fin 2), (cfg0.win 11).clip (cfg0.grid.coords t) a = none :=
  (by decide +kernel : ∀ (t : Fin grid0.N) (a : Fin 2), (cfg0.win 11).clip (cfg0.grid.coords t) a = none)
theorem weight_5 (c : Dev nD) (t : Fin cfg0.N) (k q : Fin 1024) :
    (X0_11 m c t : Vec Ideal S1024x1024 .bf16) (ix2 k q) = weight m c (ix2 (n0 := 10272) ⟨1024 * 5 + k.val, by omega⟩ q) := by
  obtain ⟨e0, e1⟩ := index_11 t
  have hm : (cfg0.win 11).moved (cfg0.grid.coords t) (ix2 k q) = true :=
    ((cfg0.win 11).moved_iff _ _).mpr fun a => by
      have h := ((ix2 k q : S1024x1024.Idx) a).isLt
      unfold Pipeline.Window.xsize
      rw [whole_11 t a]
      exact h
  unfold X0_11 Pipeline.Window.fill
  rw [dif_pos hm]
  unfold iblk weight
  rw [View.read_apply]
  show V m c main_arg8 _ = V m c main_arg8 _
  congr 1
  funext x
  apply Fin.ext
  match x with
  | ⟨0, _⟩ => show win0_11.index t (0 : Fin 2) * 1024 + 1 * k.val = 1024 * 5 + k.val; rw [e0]; omega
  | ⟨1, _⟩ => show win0_11.index t (1 : Fin 2) * 1024 + 1 * q.val = q.val; rw [e1]; omega

theorem whole_13 : ∀ (t : Fin cfg0.N) (a : Fin 2), (cfg0.win 13).clip (cfg0.grid.coords t) a = none :=
  (by decide +kernel : ∀ (t : Fin grid0.N) (a : Fin 2), (cfg0.win 13).clip (cfg0.grid.coords t) a = none)
theorem weight_6 (c : Dev nD) (t : Fin cfg0.N) (k q : Fin 1024) :
    (X0_13 m c t : Vec Ideal S1024x1024 .bf16) (ix2 k q) = weight m c (ix2 (n0 := 10272) ⟨1024 * 6 + k.val, by omega⟩ q) := by
  obtain ⟨e0, e1⟩ := index_13 t
  have hm : (cfg0.win 13).moved (cfg0.grid.coords t) (ix2 k q) = true :=
    ((cfg0.win 13).moved_iff _ _).mpr fun a => by
      have h := ((ix2 k q : S1024x1024.Idx) a).isLt
      unfold Pipeline.Window.xsize
      rw [whole_13 t a]
      exact h
  unfold X0_13 Pipeline.Window.fill
  rw [dif_pos hm]
  unfold iblk weight
  rw [View.read_apply]
  show V m c main_arg8 _ = V m c main_arg8 _
  congr 1
  funext x
  apply Fin.ext
  match x with
  | ⟨0, _⟩ => show win0_13.index t (0 : Fin 2) * 1024 + 1 * k.val = 1024 * 6 + k.val; rw [e0]; omega
  | ⟨1, _⟩ => show win0_13.index t (1 : Fin 2) * 1024 + 1 * q.val = q.val; rw [e1]; omega

theorem whole_15 : ∀ (t : Fin cfg0.N) (a : Fin 2), (cfg0.win 15).clip (cfg0.grid.coords t) a = none :=
  (by decide +kernel : ∀ (t : Fin grid0.N) (a : Fin 2), (cfg0.win 15).clip (cfg0.grid.coords t) a = none)
theorem weight_7 (c : Dev nD) (t : Fin cfg0.N) (k q : Fin 1024) :
    (X0_15 m c t : Vec Ideal S1024x1024 .bf16) (ix2 k q) = weight m c (ix2 (n0 := 10272) ⟨1024 * 7 + k.val, by omega⟩ q) := by
  obtain ⟨e0, e1⟩ := index_15 t
  have hm : (cfg0.win 15).moved (cfg0.grid.coords t) (ix2 k q) = true :=
    ((cfg0.win 15).moved_iff _ _).mpr fun a => by
      have h := ((ix2 k q : S1024x1024.Idx) a).isLt
      unfold Pipeline.Window.xsize
      rw [whole_15 t a]
      exact h
  unfold X0_15 Pipeline.Window.fill
  rw [dif_pos hm]
  unfold iblk weight
  rw [View.read_apply]
  show V m c main_arg8 _ = V m c main_arg8 _
  congr 1
  funext x
  apply Fin.ext
  match x with
  | ⟨0, _⟩ => show win0_15.index t (0 : Fin 2) * 1024 + 1 * k.val = 1024 * 7 + k.val; rw [e0]; omega
  | ⟨1, _⟩ => show win0_15.index t (1 : Fin 2) * 1024 + 1 * q.val = q.val; rw [e1]; omega

theorem whole_17 : ∀ (t : Fin cfg0.N) (a : Fin 2), (cfg0.win 17).clip (cfg0.grid.coords t) a = none :=
  (by decide +kernel : ∀ (t : Fin grid0.N) (a : Fin 2), (cfg0.win 17).clip (cfg0.grid.coords t) a = none)
theorem weight_8 (c : Dev nD) (t : Fin cfg0.N) (k q : Fin 1024) :
    (X0_17 m c t : Vec Ideal S1024x1024 .bf16) (ix2 k q) = weight m c (ix2 (n0 := 10272) ⟨1024 * 8 + k.val, by omega⟩ q) := by
  obtain ⟨e0, e1⟩ := index_17 t
  have hm : (cfg0.win 17).moved (cfg0.grid.coords t) (ix2 k q) = true :=
    ((cfg0.win 17).moved_iff _ _).mpr fun a => by
      have h := ((ix2 k q : S1024x1024.Idx) a).isLt
      unfold Pipeline.Window.xsize
      rw [whole_17 t a]
      exact h
  unfold X0_17 Pipeline.Window.fill
  rw [dif_pos hm]
  unfold iblk weight
  rw [View.read_apply]
  show V m c main_arg8 _ = V m c main_arg8 _
  congr 1
  funext x
  apply Fin.ext
  match x with
  | ⟨0, _⟩ => show win0_17.index t (0 : Fin 2) * 1024 + 1 * k.val = 1024 * 8 + k.val; rw [e0]; omega
  | ⟨1, _⟩ => show win0_17.index t (1 : Fin 2) * 1024 + 1 * q.val = q.val; rw [e1]; omega

theorem whole_19 : ∀ (t : Fin cfg0.N) (a : Fin 2), (cfg0.win 19).clip (cfg0.grid.coords t) a = none :=
  (by decide +kernel : ∀ (t : Fin grid0.N) (a : Fin 2), (cfg0.win 19).clip (cfg0.grid.coords t) a = none)
theorem weight_9 (c : Dev nD) (t : Fin cfg0.N) (k q : Fin 1024) :
    (X0_19 m c t : Vec Ideal S1024x1024 .bf16) (ix2 k q) = weight m c (ix2 (n0 := 10272) ⟨1024 * 9 + k.val, by omega⟩ q) := by
  obtain ⟨e0, e1⟩ := index_19 t
  have hm : (cfg0.win 19).moved (cfg0.grid.coords t) (ix2 k q) = true :=
    ((cfg0.win 19).moved_iff _ _).mpr fun a => by
      have h := ((ix2 k q : S1024x1024.Idx) a).isLt
      unfold Pipeline.Window.xsize
      rw [whole_19 t a]
      exact h
  unfold X0_19 Pipeline.Window.fill
  rw [dif_pos hm]
  unfold iblk weight
  rw [View.read_apply]
  show V m c main_arg8 _ = V m c main_arg8 _
  congr 1
  funext x
  apply Fin.ext
  match x with
  | ⟨0, _⟩ => show win0_19.index t (0 : Fin 2) * 1024 + 1 * k.val = 1024 * 9 + k.val; rw [e0]; omega
  | ⟨1, _⟩ => show win0_19.index t (1 : Fin 2) * 1024 + 1 * q.val = q.val; rw [e1]; omega

/-- The last block of the weight as the kernel gets it. -/
def steps (c : Dev nD) : S128x1024.Idx → EReal := V m c main_v1

/-- The last block of the weight: its last 32 rows, filled up with rows of zeros. -/
theorem filled (c : Dev nD) : steps m c = (pad S128x1024 ![0, 0] ![96, 0] ![0, 0] (extractStridedSlice S32x1024 ![10240, 0] (weight m c) slices_S10272x1024_S32x1024_10240_0)
    (sitofp (F := Ideal) .bf16 (constantI S_ 32 0#32)) pads_S32x1024_S128x1024_0960_000 h_S_ : S128x1024.Idx → EReal) := by
  unfold steps
  entry_read
  rfl

theorem filled_inside (c : Dev nD) (k : Fin 32) (q : Fin 1024) :
    steps m c (ix2 (n0 := 128) ⟨k.val, by omega⟩ q) = weight m c (ix2 (n0 := 10272) ⟨10240 + k.val, by omega⟩ q) := by
  rw [filled, pad_apply_of_inside _ _ _ _ _ _ _ _ (ix2 k q) (fun a => match a with
      | ⟨0, _⟩ => by show k.val = 0 + k.val * (0 + 1); omega
      | ⟨1, _⟩ => by show q.val = 0 + q.val * (0 + 1); omega)]
  exact extractStridedSlice_apply ![10240, 0] (weight m c) _ _ _ (fun a => match a with
    | ⟨0, _⟩ => rfl
    | ⟨1, _⟩ => by show q.val = 0 + q.val; omega)

theorem filled_outside (c : Dev nD) (k : Fin 96) (q : Fin 1024) :
    steps m c (ix2 (n0 := 128) ⟨32 + k.val, by omega⟩ q) = 0 := by
  rw [filled, pad_apply_of_not_inside _ _ _ _ _ _ _ _ (0 : Fin 2) (fun h => absurd h.2.2 (by show ¬(32 + k.val - 0) / (0 + 1) < 32; omega))]
  show (((0#32).toInt : ℝ) : EReal) = 0
  simp

theorem steps_apply (c : Dev nD) (t : Fin cfg0.N) (k : Fin 128) (q : Fin 1024) :
    (iblk m c 21 t : Vec Ideal S128x1024 .bf16) (ix2 k q) = steps m c (ix2 k q) := by
  obtain ⟨e0, e1⟩ := index_21 t
  unfold iblk steps
  rw [View.read_apply]
  show V m c main_v1 _ = V m c main_v1 _
  congr 1
  funext x
  apply Fin.ext
  match x with
  | ⟨0, _⟩ => show win0_21.index t (0 : Fin 2) * 128 + 1 * k.val = k.val; rw [e0]; omega
  | ⟨1, _⟩ => show win0_21.index t (1 : Fin 2) * 1024 + 1 * q.val = q.val; rw [e1]; omega

/-- The last product: only the 32 rows of the weight count. -/
theorem last_prod (c : Dev nD) (t : Fin cfg0.N) (r : Fin 512) (q : Fin 1024) (r' : Fin 8192) (hr : r'.val = 512 * t.val + r.val) :
    (∑ k : Fin 128, (show EReal from (iblk m c 20 t : Vec Ideal S512x128 .bf16) (ix2 r k)) * (show EReal from (iblk m c 21 t : Vec Ideal S128x1024 .bf16) (ix2 k q)))
      = ∑ k : Fin 32, seg7 m c (ix2 (n1 := 128) r' ⟨k.val, by omega⟩) * weight m c (ix2 (n0 := 10272) ⟨10240 + k.val, by omega⟩ q) := by
  have hsum : ∀ f : Fin 128 → EReal, (∀ k : Fin 96, f ⟨32 + k.val, by omega⟩ = 0) → ∑ k, f k = ∑ k : Fin 32, f ⟨k.val, by omega⟩ := by
    intro f hf
    rw [show (∑ k : Fin 128, f k) = ∑ k : Fin (32 + 96), f k from rfl, Fin.sum_univ_add]
    rw [show (∑ i : Fin 96, f (Fin.natAdd 32 i)) = 0 from Finset.sum_eq_zero fun k _ => hf k, add_zero]
    rfl
  rw [hsum]
  · refine Finset.sum_congr rfl fun k _ => ?_
    rw [steps_apply, filled_inside, rows_10 m c t r _ r' hr]
  · intro k
    dsimp only
    rw [steps_apply, filled_outside]
    exact mul_zero _

theorem seg_prod (x : Vec Ideal S512x1024 .bf16) (w : Vec Ideal S1024x1024 .bf16) (r : Fin 512) (q : Fin 1024) (f g : Fin 1024 → EReal)
    (hf : ∀ k, x (ix2 r k) = f k) (hg : ∀ k, w (ix2 k q) = g k) : prod x w r q = ∑ k : Fin 1024, f k * g k :=
  Finset.sum_congr rfl fun k _ => by rw [hf, hg]

/-- The result array at a row and a column. -/
theorem result_apply (c : Dev nD) (r : Fin 8192) (q : Fin 1024) :
    res m c (ix2 r q) = (∑ k : Fin 1024, seg0 m c (ix2 (n0 := 8192) (n1 := 1024) r k) * weight m c (ix2 (n0 := 10272) ⟨1024 * 0 + k.val, by omega⟩ q)) + (∑ k : Fin 1024, seg1 m c (ix2 (n0 := 8192) (n1 := 1024) r k) * weight m c (ix2 (n0 := 10272) ⟨1024 * 1 + k.val, by omega⟩ q)) + (∑ k : Fin 1024, seg2 m c (ix2 (n0 := 8192) (n1 := 1024) r k) * weight m c (ix2 (n0 := 10272) ⟨1024 * 2 + k.val, by omega⟩ q)) + (∑ k : Fin 1024, seg3 m c (ix2 (n0 := 8192) (n1 := 1024) r k) * weight m c (ix2 (n0 := 10272) ⟨1024 * 3 + k.val, by omega⟩ q)) + (∑ k : Fin 1024, seg4 m c (ix2 (n0 := 8192) (n1 := 1024) r k) * weight m c (ix2 (n0 := 10272) ⟨1024 * 4 + k.val, by omega⟩ q)) + (∑ k : Fin 1024, seg5 m c (ix2 (n0 := 8192) (n1 := 2048) r ⟨1024 * 0 + k.val, by omega⟩) * weight m c (ix2 (n0 := 10272) ⟨1024 * 5 + k.val, by omega⟩ q)) + (∑ k : Fin 1024, seg5 m c (ix2 (n0 := 8192) (n1 := 2048) r ⟨1024 * 1 + k.val, by omega⟩) * weight m c (ix2 (n0 := 10272) ⟨1024 * 6 + k.val, by omega⟩ q)) + (∑ k : Fin 1024, seg6 m c (ix2 (n0 := 8192) (n1 := 3072) r ⟨1024 * 0 + k.val, by omega⟩) * weight m c (ix2 (n0 := 10272) ⟨1024 * 7 + k.val, by omega⟩ q)) + (∑ k : Fin 1024, seg6 m c (ix2 (n0 := 8192) (n1 := 3072) r ⟨1024 * 1 + k.val, by omega⟩) * weight m c (ix2 (n0 := 10272) ⟨1024 * 8 + k.val, by omega⟩ q)) + (∑ k : Fin 1024, seg6 m c (ix2 (n0 := 8192) (n1 := 3072) r ⟨1024 * 2 + k.val, by omega⟩) * weight m c (ix2 (n0 := 10272) ⟨1024 * 9 + k.val, by omega⟩ q)) + (∑ k : Fin 32, seg7 m c (ix2 (n1 := 128) r ⟨k.val, by omega⟩) * weight m c (ix2 (n0 := 10272) ⟨10240 + k.val, by omega⟩ q)) := by
  have hN : cfg0.N = 16 := N_0
  have ht : r.val / 512 < cfg0.N := by rw [hN]; have := r.isLt; omega
  obtain ⟨e0, e1⟩ := index_out ⟨r.val / 512, ht⟩
  have hb := congrFun (blocks22 m c ⟨r.val / 512, ht⟩ (flushes _)) (ix2 (n0 := 512) (n1 := 1024) ⟨r.val % 512, Nat.mod_lt _ (by decide)⟩ q)
  rw [View.read_apply, flushed22] at hb
  have hi : res m c (ix2 r q) = outsAt0 m c ⟨r.val / 512, ht⟩ (ix2 (n0 := 512) (n1 := 1024) ⟨r.val % 512, Nat.mod_lt _ (by decide)⟩ q) := by
    refine Eq.trans ?_ hb
    unfold res
    congr 1
    funext x
    apply Fin.ext
    match x with
    | ⟨0, _⟩ => show r.val = win0_22.index ⟨r.val / 512, ht⟩ (0 : Fin 2) * 512 + 1 * (r.val % 512); rw [e0]; dsimp only; omega
    | ⟨1, _⟩ => show q.val = win0_22.index ⟨r.val / 512, ht⟩ (1 : Fin 2) * 1024 + 1 * q.val; rw [e1]; omega
  have hr : r.val = 512 * (⟨r.val / 512, ht⟩ : Fin cfg0.N).val + (⟨r.val % 512, Nat.mod_lt _ (by decide)⟩ : Fin 512).val := by dsimp only; omega
  rw [hi, stored, second_apply, first_apply]
  generalize (⟨r.val / 512, ht⟩ : Fin cfg0.N) = t at *
  generalize (⟨r.val % 512, Nat.mod_lt _ (by decide)⟩ : Fin 512) = r0 at *
  rw [seg_prod _ _ _ _ _ _ (fun k => rows_0 m c t r0 k r hr) (fun k => weight_0 m c t k q), seg_prod _ _ _ _ _ _ (fun k => rows_1 m c t r0 k r hr) (fun k => weight_1 m c t k q), seg_prod _ _ _ _ _ _ (fun k => rows_2 m c t r0 k r hr) (fun k => weight_2 m c t k q), seg_prod _ _ _ _ _ _ (fun k => rows_3 m c t r0 k r hr) (fun k => weight_3 m c t k q), seg_prod _ _ _ _ _ _ (fun k => rows_4 m c t r0 k r hr) (fun k => weight_4 m c t k q), seg_prod _ _ _ _ _ _ (fun k => rows_5 m c t r0 k r hr) (fun k => weight_5 m c t k q), seg_prod _ _ _ _ _ _ (fun k => rows_6 m c t r0 k r hr) (fun k => weight_6 m c t k q), seg_prod _ _ _ _ _ _ (fun k => rows_7 m c t r0 k r hr) (fun k => weight_7 m c t k q), seg_prod _ _ _ _ _ _ (fun k => rows_8 m c t r0 k r hr) (fun k => weight_8 m c t k q), seg_prod _ _ _ _ _ _ (fun k => rows_9 m c t r0 k r hr) (fun k => weight_9 m c t k q)]
  congr 1
  exact last_prod m c t r0 q r hr

end Cert.KernelDuIdeal.Grad

namespace Cert.Proof.KernelDuIdeal

open Cert.Sums Cert.ReferenceDuIdeal Cert.ReferenceDuIdeal.Gen Cert.ReferenceDuIdeal.Read

/-- A sum over the columns of the input projections, segment by segment. -/
theorem sum_columns (f : Fin 10272 → EReal) : ∑ k, f k = (∑ k : Fin 1024, f ⟨1024 * 0 + k.val, by omega⟩) + (∑ k : Fin 1024, f ⟨1024 * 1 + k.val, by omega⟩) + (∑ k : Fin 1024, f ⟨1024 * 2 + k.val, by omega⟩) + (∑ k : Fin 1024, f ⟨1024 * 3 + k.val, by omega⟩) + (∑ k : Fin 1024, f ⟨1024 * 4 + k.val, by omega⟩) + (∑ k : Fin 1024, f ⟨1024 * 5 + k.val, by omega⟩) + (∑ k : Fin 1024, f ⟨1024 * 6 + k.val, by omega⟩) + (∑ k : Fin 1024, f ⟨1024 * 7 + k.val, by omega⟩) + (∑ k : Fin 1024, f ⟨1024 * 8 + k.val, by omega⟩) + (∑ k : Fin 1024, f ⟨1024 * 9 + k.val, by omega⟩) + ∑ k : Fin 32, f ⟨10240 + k.val, by omega⟩ := by
  rw [show (∑ k : Fin 10272, f k) = ∑ k : Fin (10 * 1024 + 32), f k from rfl, Fin.sum_univ_add]
  rw [sum_blocks (M := EReal) 10 1024 (10 * 1024) rfl (fun k => f (Fin.castAdd 32 k))]
  rw [Fin.sum_univ_castSucc, Fin.sum_univ_castSucc, Fin.sum_univ_eight]
  rfl

theorem column_0 (x0 x1 x2 x3 x4 : S8192x1024.Idx → EReal) (x5 : S8192x2048.Idx → EReal) (x6 : S8192x3072.Idx → EReal) (x7 : S8192x128.Idx → EReal) (r : Fin 8192) (k : Fin 1024) :
    val_main_v21 (F := Ideal) x0 x1 x2 x3 x4 x5 x6 x7 (ix2 (n0 := 8192) (n1 := 10272) r ⟨1024 * 0 + k.val, by omega⟩) = x0 (ix2 (n0 := 8192) (n1 := 1024) r k) := by
  unfold val_main_v21
  rw [concatenate_apply_piece (t := S8192x10272) (1 : Fin 2) _ _ _ 0 (by show 0 < 8; decide) S8192x1024 (val_main_v2 (F := Ideal) x0) rfl rfl 0 (by sl_kernel_rfl) (ix2 (n0 := 8192) (n1 := 1024) r k)
    (fun b hb => match b, hb with
      | ⟨0, _⟩, _ => rfl
      | ⟨1, _⟩, hb => absurd rfl hb) (by show 0 + k.val = 1024 * 0 + k.val; omega)]
  rfl

theorem column_1 (x0 x1 x2 x3 x4 : S8192x1024.Idx → EReal) (x5 : S8192x2048.Idx → EReal) (x6 : S8192x3072.Idx → EReal) (x7 : S8192x128.Idx → EReal) (r : Fin 8192) (k : Fin 1024) :
    val_main_v21 (F := Ideal) x0 x1 x2 x3 x4 x5 x6 x7 (ix2 (n0 := 8192) (n1 := 10272) r ⟨1024 * 1 + k.val, by omega⟩) = x1 (ix2 (n0 := 8192) (n1 := 1024) r k) := by
  unfold val_main_v21
  rw [concatenate_apply_piece (t := S8192x10272) (1 : Fin 2) _ _ _ 1 (by show 1 < 8; decide) S8192x1024 (val_main_v3 (F := Ideal) x1) rfl rfl 1024 (by sl_kernel_rfl) (ix2 (n0 := 8192) (n1 := 1024) r k)
    (fun b hb => match b, hb with
      | ⟨0, _⟩, _ => rfl
      | ⟨1, _⟩, hb => absurd rfl hb) (by show 1024 + k.val = 1024 * 1 + k.val; omega)]
  rfl

theorem column_2 (x0 x1 x2 x3 x4 : S8192x1024.Idx → EReal) (x5 : S8192x2048.Idx → EReal) (x6 : S8192x3072.Idx → EReal) (x7 : S8192x128.Idx → EReal) (r : Fin 8192) (k : Fin 1024) :
    val_main_v21 (F := Ideal) x0 x1 x2 x3 x4 x5 x6 x7 (ix2 (n0 := 8192) (n1 := 10272) r ⟨1024 * 2 + k.val, by omega⟩) = x2 (ix2 (n0 := 8192) (n1 := 1024) r k) := by
  unfold val_main_v21
  rw [concatenate_apply_piece (t := S8192x10272) (1 : Fin 2) _ _ _ 2 (by show 2 < 8; decide) S8192x1024 (val_main_v4 (F := Ideal) x2) rfl rfl 2048 (by sl_kernel_rfl) (ix2 (n0 := 8192) (n1 := 1024) r k)
    (fun b hb => match b, hb with
      | ⟨0, _⟩, _ => rfl
      | ⟨1, _⟩, hb => absurd rfl hb) (by show 2048 + k.val = 1024 * 2 + k.val; omega)]
  rfl

theorem column_3 (x0 x1 x2 x3 x4 : S8192x1024.Idx → EReal) (x5 : S8192x2048.Idx → EReal) (x6 : S8192x3072.Idx → EReal) (x7 : S8192x128.Idx → EReal) (r : Fin 8192) (k : Fin 1024) :
    val_main_v21 (F := Ideal) x0 x1 x2 x3 x4 x5 x6 x7 (ix2 (n0 := 8192) (n1 := 10272) r ⟨1024 * 3 + k.val, by omega⟩) = x3 (ix2 (n0 := 8192) (n1 := 1024) r k) := by
  unfold val_main_v21
  rw [concatenate_apply_piece (t := S8192x10272) (1 : Fin 2) _ _ _ 3 (by show 3 < 8; decide) S8192x1024 (val_main_v5 (F := Ideal) x3) rfl rfl 3072 (by sl_kernel_rfl) (ix2 (n0 := 8192) (n1 := 1024) r k)
    (fun b hb => match b, hb with
      | ⟨0, _⟩, _ => rfl
      | ⟨1, _⟩, hb => absurd rfl hb) (by show 3072 + k.val = 1024 * 3 + k.val; omega)]
  rfl

theorem column_4 (x0 x1 x2 x3 x4 : S8192x1024.Idx → EReal) (x5 : S8192x2048.Idx → EReal) (x6 : S8192x3072.Idx → EReal) (x7 : S8192x128.Idx → EReal) (r : Fin 8192) (k : Fin 1024) :
    val_main_v21 (F := Ideal) x0 x1 x2 x3 x4 x5 x6 x7 (ix2 (n0 := 8192) (n1 := 10272) r ⟨1024 * 4 + k.val, by omega⟩) = x4 (ix2 (n0 := 8192) (n1 := 1024) r k) := by
  unfold val_main_v21
  rw [concatenate_apply_piece (t := S8192x10272) (1 : Fin 2) _ _ _ 4 (by show 4 < 8; decide) S8192x1024 (val_main_v6 (F := Ideal) x4) rfl rfl 4096 (by sl_kernel_rfl) (ix2 (n0 := 8192) (n1 := 1024) r k)
    (fun b hb => match b, hb with
      | ⟨0, _⟩, _ => rfl
      | ⟨1, _⟩, hb => absurd rfl hb) (by show 4096 + k.val = 1024 * 4 + k.val; omega)]
  rfl

theorem column_5 (x0 x1 x2 x3 x4 : S8192x1024.Idx → EReal) (x5 : S8192x2048.Idx → EReal) (x6 : S8192x3072.Idx → EReal) (x7 : S8192x128.Idx → EReal) (r : Fin 8192) (k : Fin 1024) :
    val_main_v21 (F := Ideal) x0 x1 x2 x3 x4 x5 x6 x7 (ix2 (n0 := 8192) (n1 := 10272) r ⟨1024 * 5 + k.val, by omega⟩) = x5 (ix2 (n0 := 8192) (n1 := 2048) r ⟨1024 * 0 + k.val, by omega⟩) := by
  unfold val_main_v21
  rw [concatenate_apply_piece (t := S8192x10272) (1 : Fin 2) _ _ _ 5 (by show 5 < 8; decide) S8192x2048 (val_main_v7 (F := Ideal) x5) rfl rfl 5120 (by sl_kernel_rfl) (ix2 (n0 := 8192) (n1 := 2048) r ⟨1024 * 0 + k.val, by omega⟩)
    (fun b hb => match b, hb with
      | ⟨0, _⟩, _ => rfl
      | ⟨1, _⟩, hb => absurd rfl hb) (by show 5120 + (1024 * 0 + k.val) = 1024 * 5 + k.val; omega)]
  rfl

theorem column_6 (x0 x1 x2 x3 x4 : S8192x1024.Idx → EReal) (x5 : S8192x2048.Idx → EReal) (x6 : S8192x3072.Idx → EReal) (x7 : S8192x128.Idx → EReal) (r : Fin 8192) (k : Fin 1024) :
    val_main_v21 (F := Ideal) x0 x1 x2 x3 x4 x5 x6 x7 (ix2 (n0 := 8192) (n1 := 10272) r ⟨1024 * 6 + k.val, by omega⟩) = x5 (ix2 (n0 := 8192) (n1 := 2048) r ⟨1024 * 1 + k.val, by omega⟩) := by
  unfold val_main_v21
  rw [concatenate_apply_piece (t := S8192x10272) (1 : Fin 2) _ _ _ 5 (by show 5 < 8; decide) S8192x2048 (val_main_v7 (F := Ideal) x5) rfl rfl 5120 (by sl_kernel_rfl) (ix2 (n0 := 8192) (n1 := 2048) r ⟨1024 * 1 + k.val, by omega⟩)
    (fun b hb => match b, hb with
      | ⟨0, _⟩, _ => rfl
      | ⟨1, _⟩, hb => absurd rfl hb) (by show 5120 + (1024 * 1 + k.val) = 1024 * 6 + k.val; omega)]
  rfl

theorem column_7 (x0 x1 x2 x3 x4 : S8192x1024.Idx → EReal) (x5 : S8192x2048.Idx → EReal) (x6 : S8192x3072.Idx → EReal) (x7 : S8192x128.Idx → EReal) (r : Fin 8192) (k : Fin 1024) :
    val_main_v21 (F := Ideal) x0 x1 x2 x3 x4 x5 x6 x7 (ix2 (n0 := 8192) (n1 := 10272) r ⟨1024 * 7 + k.val, by omega⟩) = x6 (ix2 (n0 := 8192) (n1 := 3072) r ⟨1024 * 0 + k.val, by omega⟩) := by
  unfold val_main_v21
  rw [concatenate_apply_piece (t := S8192x10272) (1 : Fin 2) _ _ _ 6 (by show 6 < 8; decide) S8192x3072 (val_main_v8 (F := Ideal) x6) rfl rfl 7168 (by sl_kernel_rfl) (ix2 (n0 := 8192) (n1 := 3072) r ⟨1024 * 0 + k.val, by omega⟩)
    (fun b hb => match b, hb with
      | ⟨0, _⟩, _ => rfl
      | ⟨1, _⟩, hb => absurd rfl hb) (by show 7168 + (1024 * 0 + k.val) = 1024 * 7 + k.val; omega)]
  rfl

theorem column_8 (x0 x1 x2 x3 x4 : S8192x1024.Idx → EReal) (x5 : S8192x2048.Idx → EReal) (x6 : S8192x3072.Idx → EReal) (x7 : S8192x128.Idx → EReal) (r : Fin 8192) (k : Fin 1024) :
    val_main_v21 (F := Ideal) x0 x1 x2 x3 x4 x5 x6 x7 (ix2 (n0 := 8192) (n1 := 10272) r ⟨1024 * 8 + k.val, by omega⟩) = x6 (ix2 (n0 := 8192) (n1 := 3072) r ⟨1024 * 1 + k.val, by omega⟩) := by
  unfold val_main_v21
  rw [concatenate_apply_piece (t := S8192x10272) (1 : Fin 2) _ _ _ 6 (by show 6 < 8; decide) S8192x3072 (val_main_v8 (F := Ideal) x6) rfl rfl 7168 (by sl_kernel_rfl) (ix2 (n0 := 8192) (n1 := 3072) r ⟨1024 * 1 + k.val, by omega⟩)
    (fun b hb => match b, hb with
      | ⟨0, _⟩, _ => rfl
      | ⟨1, _⟩, hb => absurd rfl hb) (by show 7168 + (1024 * 1 + k.val) = 1024 * 8 + k.val; omega)]
  rfl

theorem column_9 (x0 x1 x2 x3 x4 : S8192x1024.Idx → EReal) (x5 : S8192x2048.Idx → EReal) (x6 : S8192x3072.Idx → EReal) (x7 : S8192x128.Idx → EReal) (r : Fin 8192) (k : Fin 1024) :
    val_main_v21 (F := Ideal) x0 x1 x2 x3 x4 x5 x6 x7 (ix2 (n0 := 8192) (n1 := 10272) r ⟨1024 * 9 + k.val, by omega⟩) = x6 (ix2 (n0 := 8192) (n1 := 3072) r ⟨1024 * 2 + k.val, by omega⟩) := by
  unfold val_main_v21
  rw [concatenate_apply_piece (t := S8192x10272) (1 : Fin 2) _ _ _ 6 (by show 6 < 8; decide) S8192x3072 (val_main_v8 (F := Ideal) x6) rfl rfl 7168 (by sl_kernel_rfl) (ix2 (n0 := 8192) (n1 := 3072) r ⟨1024 * 2 + k.val, by omega⟩)
    (fun b hb => match b, hb with
      | ⟨0, _⟩, _ => rfl
      | ⟨1, _⟩, hb => absurd rfl hb) (by show 7168 + (1024 * 2 + k.val) = 1024 * 9 + k.val; omega)]
  rfl

theorem column_10 (x0 x1 x2 x3 x4 : S8192x1024.Idx → EReal) (x5 : S8192x2048.Idx → EReal) (x6 : S8192x3072.Idx → EReal) (x7 : S8192x128.Idx → EReal) (r : Fin 8192) (k : Fin 32) :
    val_main_v21 (F := Ideal) x0 x1 x2 x3 x4 x5 x6 x7 (ix2 (n0 := 8192) (n1 := 10272) r ⟨10240 + k.val, by omega⟩) = x7 (ix2 (n0 := 8192) (n1 := 128) r ⟨k.val, by omega⟩) := by
  unfold val_main_v21
  rw [concatenate_apply_piece (t := S8192x10272) (1 : Fin 2) _ _ _ 7 (by show 7 < 8; decide) S8192x32 (val_main_v9 (F := Ideal) x7) rfl rfl 10240 (by sl_kernel_rfl) (ix2 (n0 := 8192) (n1 := 32) r k)
    (fun b hb => match b, hb with
      | ⟨0, _⟩, _ => rfl
      | ⟨1, _⟩, hb => absurd rfl hb) (by show 10240 + k.val = 10240 + k.val; omega)]
  rw [val_main_v9_apply, val_main_v1_apply, Ideal.extf_def]
  congr 1
  funext x
  match x with
  | ⟨0, _⟩ => rfl
  | ⟨1, _⟩ => rfl

theorem ref_apply (x0 x1 x2 x3 x4 : S8192x1024.Idx → EReal) (x5 : S8192x2048.Idx → EReal) (x6 : S8192x3072.Idx → EReal) (x7 : S8192x128.Idx → EReal) (x8 : S10272x1024.Idx → EReal) (r : Fin 8192) (q : Fin 1024) :
    val_main_v23 (F := Ideal) x0 x1 x2 x3 x4 x5 x6 x7 x8 (ix2 r q) = (∑ k : Fin 1024, x0 (ix2 (n0 := 8192) (n1 := 1024) r k) * x8 (ix2 (n0 := 10272) (n1 := 1024) ⟨1024 * 0 + k.val, by omega⟩ q)) + (∑ k : Fin 1024, x1 (ix2 (n0 := 8192) (n1 := 1024) r k) * x8 (ix2 (n0 := 10272) (n1 := 1024) ⟨1024 * 1 + k.val, by omega⟩ q)) + (∑ k : Fin 1024, x2 (ix2 (n0 := 8192) (n1 := 1024) r k) * x8 (ix2 (n0 := 10272) (n1 := 1024) ⟨1024 * 2 + k.val, by omega⟩ q)) + (∑ k : Fin 1024, x3 (ix2 (n0 := 8192) (n1 := 1024) r k) * x8 (ix2 (n0 := 10272) (n1 := 1024) ⟨1024 * 3 + k.val, by omega⟩ q)) + (∑ k : Fin 1024, x4 (ix2 (n0 := 8192) (n1 := 1024) r k) * x8 (ix2 (n0 := 10272) (n1 := 1024) ⟨1024 * 4 + k.val, by omega⟩ q)) + (∑ k : Fin 1024, x5 (ix2 (n0 := 8192) (n1 := 2048) r ⟨1024 * 0 + k.val, by omega⟩) * x8 (ix2 (n0 := 10272) (n1 := 1024) ⟨1024 * 5 + k.val, by omega⟩ q)) + (∑ k : Fin 1024, x5 (ix2 (n0 := 8192) (n1 := 2048) r ⟨1024 * 1 + k.val, by omega⟩) * x8 (ix2 (n0 := 10272) (n1 := 1024) ⟨1024 * 6 + k.val, by omega⟩ q)) + (∑ k : Fin 1024, x6 (ix2 (n0 := 8192) (n1 := 3072) r ⟨1024 * 0 + k.val, by omega⟩) * x8 (ix2 (n0 := 10272) (n1 := 1024) ⟨1024 * 7 + k.val, by omega⟩ q)) + (∑ k : Fin 1024, x6 (ix2 (n0 := 8192) (n1 := 3072) r ⟨1024 * 1 + k.val, by omega⟩) * x8 (ix2 (n0 := 10272) (n1 := 1024) ⟨1024 * 8 + k.val, by omega⟩ q)) + (∑ k : Fin 1024, x6 (ix2 (n0 := 8192) (n1 := 3072) r ⟨1024 * 2 + k.val, by omega⟩) * x8 (ix2 (n0 := 10272) (n1 := 1024) ⟨1024 * 9 + k.val, by omega⟩ q)) + (∑ k : Fin 32, x7 (ix2 (n0 := 8192) (n1 := 128) r ⟨k.val, by omega⟩) * x8 (ix2 (n0 := 10272) (n1 := 1024) ⟨10240 + k.val, by omega⟩ q)) := by
  have hx : val_main_v23 (F := Ideal) x0 x1 x2 x3 x4 x5 x6 x7 x8 (ix2 r q) = ∑ k : Fin 10272, (show EReal from val_main_v21 (F := Ideal) x0 x1 x2 x3 x4 x5 x6 x7 (ix2 (n0 := 8192) (n1 := 10272) r k)) * x8 (ix2 (n0 := 10272) (n1 := 1024) k q) := by
    rw [val_main_v23_apply, Ideal.truncf_def, val_main_v22_apply]
    refine Finset.sum_congr rfl fun k _ => ?_
    rw [val_main_v11_apply, val_main_v0_apply, Ideal.extf_def]
    congr 2 <;> (funext x; match x with | ⟨0, _⟩ => rfl | ⟨1, _⟩ => rfl)
  rw [hx, sum_columns]
  simp only [column_0, column_1, column_2, column_3, column_4, column_5, column_6, column_7, column_8, column_9, column_10]

theorem algebraic : Cert.algebraic_KernelDuIdeal_ReferenceDuIdeal := by
  intro m ρ m' ρ' _ hagree
  refine ⟨fun c => (Cert.KernelDuIdeal.Gen.dats m 0 c).arrAt 22 Cert.KernelDuIdeal.cfg0.N, Cert.KernelDuIdeal.Value.run_blocks m ρ, ?_⟩
  refine (θ_run Cert.ReferenceDuIdeal.defs _ _).mono (fun _ h c => ?_) (Cert.ReferenceDuIdeal.Value.run (F := Ideal) m' ρ')
  refine ⟨(h c).1.trans ?_, (h c).2⟩
  obtain ⟨h0, h1, h2, h3, h4, h5, h6, h7, h8⟩ := hagree c
  rw [Cert.ReferenceDuIdeal.Read.val_main_v23_eq, h0, h1, h2, h3, h4, h5, h6, h7, h8]
  funext i
  obtain ⟨r, q, rfl⟩ : ∃ (r : Fin 8192) (q : Fin 1024), i = ix2 r q := ⟨i 0, i 1, by funext x; match x with | ⟨0, _⟩ => rfl | ⟨1, _⟩ => rfl⟩
  rw [ref_apply]
  exact (Cert.KernelDuIdeal.Grad.result_apply m c r q).symm

/-- The reference's own frame. -/
theorem frame_reference : Cert.quiescent_ReferenceDuIdeal := fun m ρ _ =>
  (θ_run Cert.ReferenceDuIdeal.defs _ _).mono (fun r h => ⟨fun c => (h c).2, Idealize.ShloMosaic.sem_eq_zero_of_no_sems (by decide) r.2⟩)
    (Cert.ReferenceDuIdeal.Value.run (F := Ideal) m ρ)

end Cert.Proof.KernelDuIdeal

end
-- ==== Proof.Blocks.lean ====
/- Arrays cut into a grid of blocks, and what a window of an array shows. -/
module

public import proofs.«01_k».proof.Proof.Sums
public import Idealize.ShloMosaic.Lib.Pointwise

@[expose] public section

namespace Cert.Sums

open Idealize.ShloMosaic

/-- What holds on every block of a grid, numbered row of blocks by row of blocks, holds everywhere. -/
theorem on_blocks {R N n TM TN : ℕ} (ni nj : ℕ) (hn : n = ni * nj) (hR : R = ni * TM) (hN : N = nj * TN) {P : Fin R → Fin N → Prop}
    (h : ∀ (t : Fin n) (r : Fin TM) (q : Fin TN) (r' : Fin R) (q' : Fin N), r'.val = t.val / nj * TM + 1 * r.val → q'.val = t.val % nj * TN + 1 * q.val → P r' q')
    (r : Fin R) (q : Fin N) : P r q := by
  subst hn hR hN
  have hr := r.isLt
  have hq := q.isLt
  have hTM : 0 < TM := Nat.pos_of_ne_zero fun e => by subst e; simp at hr
  have hTN : 0 < TN := Nat.pos_of_ne_zero fun e => by subst e; simp at hq
  have hi : r.val / TM < ni := (Nat.div_lt_iff_lt_mul hTM).mpr hr
  have hj : q.val / TN < nj := (Nat.div_lt_iff_lt_mul hTN).mpr hq
  have hnj : 0 < nj := lt_of_le_of_lt (Nat.zero_le _) hj
  have ht : r.val / TM * nj + q.val / TN < ni * nj :=
    calc r.val / TM * nj + q.val / TN < r.val / TM * nj + nj := by omega
      _ = (r.val / TM + 1) * nj := by ring
      _ ≤ ni * nj := Nat.mul_le_mul_right _ hi
  refine h ⟨_, ht⟩ ⟨r.val % TM, Nat.mod_lt _ hTM⟩ ⟨q.val % TN, Nat.mod_lt _ hTN⟩ r q ?_ ?_
  · show r.val = (r.val / TM * nj + q.val / TN) / nj * TM + 1 * (r.val % TM)
    rw [Nat.mul_comm _ nj, Nat.mul_add_div hnj, Nat.div_eq_of_lt hj, Nat.add_zero, Nat.one_mul]
    exact (Nat.div_add_mod' _ _).symm
  · show q.val = (r.val / TM * nj + q.val / TN) % nj * TN + 1 * (q.val % TN)
    rw [Nat.mul_comm _ nj, Nat.mul_add_mod, Nat.mod_eq_of_lt hj, Nat.one_mul]
    exact (Nat.div_add_mod' _ _).symm

/-- Two arrays that agree on every block agree. -/
theorem of_blocks {R N n TM TN : ℕ} (ni nj : ℕ) (hn : n = ni * nj) (hR : R = ni * TM) (hN : N = nj * TN) {f g : Fin R → Fin N → EReal}
    (h : ∀ (t : Fin n) (r : Fin TM) (q : Fin TN) (r' : Fin R) (q' : Fin N), r'.val = t.val / nj * TM + 1 * r.val → q'.val = t.val % nj * TN + 1 * q.val → f r' q' = g r' q')
    (r : Fin R) (q : Fin N) : f r q = g r q :=
  on_blocks ni nj hn hR hN h r q

/-- A place of a matrix from its coordinates. -/
theorem place {R W a b : ℕ} {y : (⟨2, ![R, W]⟩ : Shape).Idx} (h0 : (y 0).val = a) (h1 : (y 1).val = b) :
    y = ix2 (n0 := R) (n1 := W) ⟨a, h0 ▸ (y 0).isLt⟩ ⟨b, h1 ▸ (y 1).isLt⟩ := by
  subst h0 h1
  funext x
  match x with
  | ⟨0, _⟩ => rfl
  | ⟨1, _⟩ => rfl

/-- Along an axis that the block has whole. -/
theorem within {n K : ℕ} (k : Fin n) : k.val = 0 * K + 1 * k.val := by omega

/-- The place of a block's entry in the array that the block is cut from. -/
theorem at_block {R W TR TW i j i' j' a b : ℕ} {u : (⟨2, ![R, W]⟩ : Shape).Idx} {r' : Fin R} {q' : Fin W} (h0 : (u 0).val = i * TR + 1 * a) (h1 : (u 1).val = j * TW + 1 * b)
    (e0 : i = i') (e1 : j = j') (hr : r'.val = i' * TR + 1 * a) (hq : q'.val = j' * TW + 1 * b) : u = ix2 r' q' := by
  subst e0 e1
  funext x
  match x with
  | ⟨0, _⟩ => exact Fin.ext (h0.trans hr.symm)
  | ⟨1, _⟩ => exact Fin.ext (h1.trans hq.symm)

/-- The place of an entry of a block of the parts. -/
theorem at_block3 {P R W TR TW e i j i' j' n a b : ℕ} {u : (⟨3, ![P, R, W]⟩ : Shape).Idx} {p : Fin P} {r' : Fin R} {q' : Fin W} (h : (u 0).val = e * n + 1 * p.val)
    (h0 : (u 1).val = i * TR + 1 * a) (h1 : (u 2).val = j * TW + 1 * b) (he : e = 0) (e0 : i = i') (e1 : j = j') (hr : r'.val = i' * TR + 1 * a) (hq : q'.val = j' * TW + 1 * b) :
    u = ix3 p r' q' := by
  subst he e0 e1
  funext x
  match x with
  | ⟨0, _⟩ => exact Fin.ext (h.trans (by show _ = p.val; omega))
  | ⟨1, _⟩ => exact Fin.ext (h0.trans hr.symm)
  | ⟨2, _⟩ => exact Fin.ext (h1.trans hq.symm)

theorem places {R W : ℕ} (i : (⟨2, ![R, W]⟩ : Shape).Idx) : ∃ (r : Fin R) (q : Fin W), i = ix2 r q :=
  ⟨i 0, i 1, funext fun x => match x with | ⟨0, _⟩ => rfl | ⟨1, _⟩ => rfl⟩

/-- Two matrices that agree entry by entry are one. -/
theorem by_entries {R W : ℕ} {f g : (⟨2, ![R, W]⟩ : Shape).Idx → EReal} (h : ∀ (r : Fin R) (q : Fin W), f (ix2 r q) = g (ix2 r q)) : f = g := by
  funext i
  obtain ⟨r, q, rfl⟩ := places i
  exact h r q

end Cert.Sums
-- ==== Proof.ProjGates.lean ====
/- The projections of the two gates: what the grid of blocks leaves is what the reference takes. -/
module

public import proofs.«01_k».proof.Proof.Blocks
public import proofs.«01_k».proof.Proof.Gen.KernelGatesIdeal.Value
public import proofs.«01_k».proof.Proof.Gen.ReferenceGatesIdeal.Read
public import proofs.«01_k».proof.Defs
public import Idealize.ShloMosaic.Lib.Tactic
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem

namespace Cert.KernelGatesIdeal.Grad

open Cert.KernelGatesIdeal Cert.KernelGatesIdeal.Gen Cert.KernelGatesIdeal.Value Cert.Sums

variable (m : (ℓ : Loc nD τ sig) → Buf (Elt Ideal) ℓ)

theorem index : ∀ t : Fin cfg0.N, (win0_0.index t (0 : Fin 2) = t.val / 2 ∧ win0_0.index t (1 : Fin 2) = 0) ∧ (win0_1.index t (0 : Fin 2) = t.val % 2 ∧ win0_1.index t (1 : Fin 2) = 0)
    ∧ (win0_2.index t (0 : Fin 2) = t.val / 2 ∧ win0_2.index t (1 : Fin 2) = t.val % 2) := (by decide +kernel : ∀ t : Fin grid0.N, _)
theorem flushes : ∀ t : Fin cfg0.N, (cfg0.win 2).flush t = true := (by decide +kernel : ∀ t : Fin grid0.N, _)

/-- The two arguments and the result. -/
def argL (c : Dev nD) : S8192x1024.Idx → EReal := m ((c : Thread nD τ).loc main_arg0)
def argR (c : Dev nD) : S10272x1024.Idx → EReal := m ((c : Thread nD τ).loc main_arg1)
def res (c : Dev nD) : S8192x2048.Idx → EReal := (dats m 0 c).arrAt 2 cfg0.N

theorem left_apply (c : Dev nD) (t : Fin cfg0.N) (r : Fin 2048) (k : Fin 1024) (r' : Fin 8192) (hr : r'.val = t.val / 2 * 2048 + 1 * r.val) :
    (iblk m c 0 t : Vec Ideal S2048x1024 .bf16) (ix2 r k) = argL m c (ix2 r' k) := by
  obtain ⟨⟨e0, e1⟩, -, -⟩ := index t
  unfold iblk argL
  rw [View.read_apply]
  exact congrArg (V m c main_arg0) (at_block rfl rfl e0 e1 hr (within k))

theorem whole : ∀ (t : Fin cfg0.N) (a : Fin 2), (cfg0.win 1).clip (cfg0.grid.coords t) a = none :=
  (by decide +kernel : ∀ (t : Fin grid0.N) (a : Fin 2), (cfg0.win 1).clip (cfg0.grid.coords t) a = none)

theorem right_apply (c : Dev nD) (t : Fin cfg0.N) (q : Fin 1024) (k : Fin 1024) (q' : Fin 2048) (hq : q'.val = t.val % 2 * 1024 + 1 * q.val) :
    (X0_1 m c t : Vec Ideal S1024x1024 .bf16) (ix2 q k) = argR m c (ix2 (n0 := 10272) ⟨q'.val, by omega⟩ k) := by
  obtain ⟨-, ⟨e0, e1⟩, -⟩ := index t
  have hm : (cfg0.win 1).moved (cfg0.grid.coords t) (ix2 q k) = true :=
    ((cfg0.win 1).moved_iff _ _).mpr fun a => by
      have h := ((ix2 q k : S1024x1024.Idx) a).isLt
      unfold Pipeline.Window.xsize
      rw [whole t a]
      exact h
  unfold X0_1 Pipeline.Window.fill
  rw [dif_pos hm]
  unfold iblk argR
  rw [View.read_apply]
  exact congrArg (V m c main_arg1) (at_block rfl rfl e0 e1 (show q'.val = (t.val % 2) * 1024 + 1 * q.val by omega) (within k))

/-- The two blocks grid point `t` reads. -/
def blkL (c : Dev nD) (t : Fin cfg0.N) : S2048x1024.Idx → EReal := iblk m c 0 t
def blkR (c : Dev nD) (t : Fin cfg0.N) : S1024x1024.Idx → EReal := X0_1 m c t

/-- What grid point `t` stores, entry by entry. -/
theorem stored_apply (c : Dev nD) (t : Fin cfg0.N) (r : Fin 2048) (q : Fin 1024) :
    (outsAt0 m c t : S2048x1024.Idx → EReal) (ix2 r q) = ∑ k : Fin 1024, blkL m c t (ix2 r k) * blkR m c t (ix2 q k) := by
  unfold blkL blkR
  unfold outsAt0 out0_A_2
  rw [View.read_writes_eq_canon _ _ _ (fun y => cover0_A_2 (y := y) ..)]
  unfold kernelRun0_A
  dsimp only
  sl_unfold_words
  rw [View.canon_unit_zero (S := S2048x1024) zero2]
  simp only [View.readAt_eq_ld, Memref.IsWhole.read_unread, View.ld_unit_zero (S := S2048x1024) zero2, View.ld_unit_zero (S := S1024x1024) zero2]
  unfold k0_pay1
  pointwise

/-- The result, entry by entry. -/
theorem result_apply (c : Dev nD) : ∀ (r : Fin 8192) (q : Fin 2048), res m c (ix2 r q) = ∑ k : Fin 1024, argL m c (ix2 r k) * argR m c (ix2 (n0 := 10272) ⟨q.val, by omega⟩ k) := by
  refine of_blocks (n := cfg0.N) (TM := 2048) (TN := 1024) 4 2 (N_0.trans (by decide)) (by decide) (by decide) fun t r q r' q' hr hq => ?_
  obtain ⟨-, -, e0, e1⟩ := index t
  have hb := congrFun ((blocks2 m c t (flushes _)).trans (flushed2 m c t)) (ix2 r q)
  rw [View.read_apply] at hb
  refine ((congrArg (res m c) (at_block rfl rfl e0 e1 hr hq)).symm.trans hb).trans ((stored_apply m c t r q).trans ?_)
  exact Finset.sum_congr rfl fun k _ => congrArg₂ _ (left_apply m c t r k r' hr) (right_apply m c t q k q' hq)

end Cert.KernelGatesIdeal.Grad

namespace Cert.Proof.KernelGatesIdeal

open Cert.ReferenceGatesIdeal Cert.ReferenceGatesIdeal.Read

/-- The reference, entry by entry. -/
theorem ref_apply (x0 : S8192x1024.Idx → EReal) (x1 : S10272x1024.Idx → EReal) (r : Fin 8192) (q : Fin 2048) :
    val_main_v5 (F := Ideal) x0 x1 (ix2 r q) = ∑ k : Fin 1024, x0 (ix2 r k) * x1 (ix2 (n0 := 10272) ⟨q.val, by omega⟩ k) := by
  rw [val_main_v5_apply, val_main_v4_apply, Ideal.truncf_def, val_main_v3_apply]
  refine Finset.sum_congr rfl fun k _ => ?_
  rw [val_main_v0_apply, val_main_v2_apply, val_main_v1_apply, Ideal.extf_def, Ideal.extf_def]
  congr 2 <;> (funext x; match x with | ⟨0, _⟩ => (first | rfl | exact Fin.ext (by show _ = q.val; omega)) | ⟨1, _⟩ => rfl)

theorem algebraic : Cert.algebraic_KernelGatesIdeal_ReferenceGatesIdeal := by
  intro m ρ m' ρ' _ hagree
  refine ⟨fun c => Cert.KernelGatesIdeal.Grad.res m c, Cert.KernelGatesIdeal.Value.run_blocks m ρ, ?_⟩
  refine (θ_run Cert.ReferenceGatesIdeal.defs _ _).mono (fun _ h c => ⟨(h c).1.trans ?_, (h c).2⟩) (Cert.ReferenceGatesIdeal.Value.run (F := Ideal) m' ρ')
  rw [val_main_v5_eq, (hagree c).1, (hagree c).2]
  exact Cert.Sums.by_entries fun r q => (ref_apply _ _ r q).trans (Cert.KernelGatesIdeal.Grad.result_apply m c r q).symm

/-- The reference's own frame. -/
theorem frame_reference : Cert.quiescent_ReferenceGatesIdeal := fun m ρ _ =>
  (θ_run Cert.ReferenceGatesIdeal.defs _ _).mono (fun r h => ⟨fun c => (h c).2, Idealize.ShloMosaic.sem_eq_zero_of_no_sems (by decide) r.2⟩)
    (Cert.ReferenceGatesIdeal.Value.run (F := Ideal) m ρ)

end Cert.Proof.KernelGatesIdeal

end
-- ==== Proof.ProjConv.lean ====
/- The projections of the short convolution: what the grid of blocks leaves is what the reference takes. -/
module

public import proofs.«01_k».proof.Proof.Blocks
public import proofs.«01_k».proof.Proof.Gen.KernelPaIdeal.Value
public import proofs.«01_k».proof.Proof.Gen.ReferencePaIdeal.Read
public import proofs.«01_k».proof.Defs
public import Idealize.ShloMosaic.Lib.Tactic
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem

namespace Cert.KernelPaIdeal.Grad

open Cert.KernelPaIdeal Cert.KernelPaIdeal.Gen Cert.KernelPaIdeal.Value Cert.Sums

variable (m : (ℓ : Loc nD τ sig) → Buf (Elt Ideal) ℓ)

theorem index : ∀ t : Fin cfg0.N, (win0_0.index t (0 : Fin 2) = t.val / 3 ∧ win0_0.index t (1 : Fin 2) = 0) ∧ (win0_1.index t (0 : Fin 2) = 2 + t.val % 3 ∧ win0_1.index t (1 : Fin 2) = 0)
    ∧ (win0_2.index t (0 : Fin 2) = t.val / 3 ∧ win0_2.index t (1 : Fin 2) = t.val % 3) := (by decide +kernel : ∀ t : Fin grid0.N, _)
theorem flushes : ∀ t : Fin cfg0.N, (cfg0.win 2).flush t = true := (by decide +kernel : ∀ t : Fin grid0.N, _)

/-- The two arguments and the result. -/
def argL (c : Dev nD) : S8192x1024.Idx → EReal := m ((c : Thread nD τ).loc main_arg0)
def argR (c : Dev nD) : S10272x1024.Idx → EReal := m ((c : Thread nD τ).loc main_arg1)
def res (c : Dev nD) : S8192x3072.Idx → EReal := (dats m 0 c).arrAt 2 cfg0.N

theorem left_apply (c : Dev nD) (t : Fin cfg0.N) (r : Fin 2048) (k : Fin 1024) (r' : Fin 8192) (hr : r'.val = t.val / 3 * 2048 + 1 * r.val) :
    (iblk m c 0 t : Vec Ideal S2048x1024 .bf16) (ix2 r k) = argL m c (ix2 r' k) := by
  obtain ⟨⟨e0, e1⟩, -, -⟩ := index t
  unfold iblk argL
  rw [View.read_apply]
  exact congrArg (V m c main_arg0) (at_block rfl rfl e0 e1 hr (within k))

theorem whole : ∀ (t : Fin cfg0.N) (a : Fin 2), (cfg0.win 1).clip (cfg0.grid.coords t) a = none :=
  (by decide +kernel : ∀ (t : Fin grid0.N) (a : Fin 2), (cfg0.win 1).clip (cfg0.grid.coords t) a = none)

theorem right_apply (c : Dev nD) (t : Fin cfg0.N) (q : Fin 1024) (k : Fin 1024) (q' : Fin 3072) (hq : q'.val = t.val % 3 * 1024 + 1 * q.val) :
    (X0_1 m c t : Vec Ideal S1024x1024 .bf16) (ix2 q k) = argR m c (ix2 (n0 := 10272) ⟨2048 + q'.val, by omega⟩ k) := by
  obtain ⟨-, ⟨e0, e1⟩, -⟩ := index t
  have hm : (cfg0.win 1).moved (cfg0.grid.coords t) (ix2 q k) = true :=
    ((cfg0.win 1).moved_iff _ _).mpr fun a => by
      have h := ((ix2 q k : S1024x1024.Idx) a).isLt
      unfold Pipeline.Window.xsize
      rw [whole t a]
      exact h
  unfold X0_1 Pipeline.Window.fill
  rw [dif_pos hm]
  unfold iblk argR
  rw [View.read_apply]
  exact congrArg (V m c main_arg1) (at_block rfl rfl e0 e1 (show 2048 + q'.val = (2 + t.val % 3) * 1024 + 1 * q.val by omega) (within k))

/-- The two blocks grid point `t` reads. -/
def blkL (c : Dev nD) (t : Fin cfg0.N) : S2048x1024.Idx → EReal := iblk m c 0 t
def blkR (c : Dev nD) (t : Fin cfg0.N) : S1024x1024.Idx → EReal := X0_1 m c t

/-- What grid point `t` stores, entry by entry. -/
theorem stored_apply (c : Dev nD) (t : Fin cfg0.N) (r : Fin 2048) (q : Fin 1024) :
    (outsAt0 m c t : S2048x1024.Idx → EReal) (ix2 r q) = ∑ k : Fin 1024, blkL m c t (ix2 r k) * blkR m c t (ix2 q k) := by
  unfold blkL blkR
  unfold outsAt0 out0_A_2
  rw [View.read_writes_eq_canon _ _ _ (fun y => cover0_A_2 (y := y) ..)]
  unfold kernelRun0_A
  dsimp only
  sl_unfold_words
  rw [View.canon_unit_zero (S := S2048x1024) zero2]
  simp only [View.readAt_eq_ld, Memref.IsWhole.read_unread, View.ld_unit_zero (S := S2048x1024) zero2, View.ld_unit_zero (S := S1024x1024) zero2]
  unfold k0_pay1
  pointwise

/-- The result, entry by entry. -/
theorem result_apply (c : Dev nD) : ∀ (r : Fin 8192) (q : Fin 3072), res m c (ix2 r q) = ∑ k : Fin 1024, argL m c (ix2 r k) * argR m c (ix2 (n0 := 10272) ⟨2048 + q.val, by omega⟩ k) := by
  refine of_blocks (n := cfg0.N) (TM := 2048) (TN := 1024) 4 3 (N_0.trans (by decide)) (by decide) (by decide) fun t r q r' q' hr hq => ?_
  obtain ⟨-, -, e0, e1⟩ := index t
  have hb := congrFun ((blocks2 m c t (flushes _)).trans (flushed2 m c t)) (ix2 r q)
  rw [View.read_apply] at hb
  refine ((congrArg (res m c) (at_block rfl rfl e0 e1 hr hq)).symm.trans hb).trans ((stored_apply m c t r q).trans ?_)
  exact Finset.sum_congr rfl fun k _ => congrArg₂ _ (left_apply m c t r k r' hr) (right_apply m c t q k q' hq)

end Cert.KernelPaIdeal.Grad

namespace Cert.Proof.KernelPaIdeal

open Cert.ReferencePaIdeal Cert.ReferencePaIdeal.Read

/-- The reference, entry by entry. -/
theorem ref_apply (x0 : S8192x1024.Idx → EReal) (x1 : S10272x1024.Idx → EReal) (r : Fin 8192) (q : Fin 3072) :
    val_main_v5 (F := Ideal) x0 x1 (ix2 r q) = ∑ k : Fin 1024, x0 (ix2 r k) * x1 (ix2 (n0 := 10272) ⟨2048 + q.val, by omega⟩ k) := by
  rw [val_main_v5_apply, val_main_v4_apply, Ideal.truncf_def, val_main_v3_apply]
  refine Finset.sum_congr rfl fun k _ => ?_
  rw [val_main_v0_apply, val_main_v2_apply, val_main_v1_apply, Ideal.extf_def, Ideal.extf_def]
  congr 2 <;> (funext x; match x with | ⟨0, _⟩ => (first | rfl | exact Fin.ext (by show _ = 2048 + q.val; omega)) | ⟨1, _⟩ => rfl)

theorem algebraic : Cert.algebraic_KernelPaIdeal_ReferencePaIdeal := by
  intro m ρ m' ρ' _ hagree
  refine ⟨fun c => Cert.KernelPaIdeal.Grad.res m c, Cert.KernelPaIdeal.Value.run_blocks m ρ, ?_⟩
  refine (θ_run Cert.ReferencePaIdeal.defs _ _).mono (fun _ h c => ⟨(h c).1.trans ?_, (h c).2⟩) (Cert.ReferencePaIdeal.Value.run (F := Ideal) m' ρ')
  rw [val_main_v5_eq, (hagree c).1, (hagree c).2]
  exact Cert.Sums.by_entries fun r q => (ref_apply _ _ r q).trans (Cert.KernelPaIdeal.Grad.result_apply m c r q).symm

/-- The reference's own frame. -/
theorem frame_reference : Cert.quiescent_ReferencePaIdeal := fun m ρ _ =>
  (θ_run Cert.ReferencePaIdeal.defs _ _).mono (fun r h => ⟨fun c => (h c).2, Idealize.ShloMosaic.sem_eq_zero_of_no_sems (by decide) r.2⟩)
    (Cert.ReferencePaIdeal.Value.run (F := Ideal) m ρ)

end Cert.Proof.KernelPaIdeal

end
-- ==== Proof.ProjZ.lean ====
/- The projection of the recurrence's gate: what the grid of blocks leaves is what the reference takes. -/
module

public import proofs.«01_k».proof.Proof.Blocks
public import proofs.«01_k».proof.Proof.Gen.KernelZIdeal.Value
public import proofs.«01_k».proof.Proof.Gen.ReferenceZIdeal.Read
public import proofs.«01_k».proof.Defs
public import Idealize.ShloMosaic.Lib.Tactic
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem

namespace Cert.KernelZIdeal.Grad

open Cert.KernelZIdeal Cert.KernelZIdeal.Gen Cert.KernelZIdeal.Value Cert.Sums

variable (m : (ℓ : Loc nD τ sig) → Buf (Elt Ideal) ℓ)

theorem index : ∀ t : Fin cfg0.N, (win0_0.index t (0 : Fin 2) = t.val / 2 ∧ win0_0.index t (1 : Fin 2) = 0) ∧ (win0_1.index t (0 : Fin 2) = 5 + t.val % 2 ∧ win0_1.index t (1 : Fin 2) = 0)
    ∧ (win0_2.index t (0 : Fin 2) = t.val / 2 ∧ win0_2.index t (1 : Fin 2) = t.val % 2) := (by decide +kernel : ∀ t : Fin grid0.N, _)
theorem flushes : ∀ t : Fin cfg0.N, (cfg0.win 2).flush t = true := (by decide +kernel : ∀ t : Fin grid0.N, _)

/-- The two arguments and the result. -/
def argL (c : Dev nD) : S8192x1024.Idx → EReal := m ((c : Thread nD τ).loc main_arg0)
def argR (c : Dev nD) : S10272x1024.Idx → EReal := m ((c : Thread nD τ).loc main_arg1)
def res (c : Dev nD) : S8192x2048.Idx → EReal := (dats m 0 c).arrAt 2 cfg0.N

theorem left_apply (c : Dev nD) (t : Fin cfg0.N) (r : Fin 2048) (k : Fin 1024) (r' : Fin 8192) (hr : r'.val = t.val / 2 * 2048 + 1 * r.val) :
    (iblk m c 0 t : Vec Ideal S2048x1024 .bf16) (ix2 r k) = argL m c (ix2 r' k) := by
  obtain ⟨⟨e0, e1⟩, -, -⟩ := index t
  unfold iblk argL
  rw [View.read_apply]
  exact congrArg (V m c main_arg0) (at_block rfl rfl e0 e1 hr (within k))

theorem whole : ∀ (t : Fin cfg0.N) (a : Fin 2), (cfg0.win 1).clip (cfg0.grid.coords t) a = none :=
  (by decide +kernel : ∀ (t : Fin grid0.N) (a : Fin 2), (cfg0.win 1).clip (cfg0.grid.coords t) a = none)

theorem right_apply (c : Dev nD) (t : Fin cfg0.N) (q : Fin 1024) (k : Fin 1024) (q' : Fin 2048) (hq : q'.val = t.val % 2 * 1024 + 1 * q.val) :
    (X0_1 m c t : Vec Ideal S1024x1024 .bf16) (ix2 q k) = argR m c (ix2 (n0 := 10272) ⟨5120 + q'.val, by omega⟩ k) := by
  obtain ⟨-, ⟨e0, e1⟩, -⟩ := index t
  have hm : (cfg0.win 1).moved (cfg0.grid.coords t) (ix2 q k) = true :=
    ((cfg0.win 1).moved_iff _ _).mpr fun a => by
      have h := ((ix2 q k : S1024x1024.Idx) a).isLt
      unfold Pipeline.Window.xsize
      rw [whole t a]
      exact h
  unfold X0_1 Pipeline.Window.fill
  rw [dif_pos hm]
  unfold iblk argR
  rw [View.read_apply]
  exact congrArg (V m c main_arg1) (at_block rfl rfl e0 e1 (show 5120 + q'.val = (5 + t.val % 2) * 1024 + 1 * q.val by omega) (within k))

/-- The two blocks grid point `t` reads. -/
def blkL (c : Dev nD) (t : Fin cfg0.N) : S2048x1024.Idx → EReal := iblk m c 0 t
def blkR (c : Dev nD) (t : Fin cfg0.N) : S1024x1024.Idx → EReal := X0_1 m c t

/-- What grid point `t` stores, entry by entry. -/
theorem stored_apply (c : Dev nD) (t : Fin cfg0.N) (r : Fin 2048) (q : Fin 1024) :
    (outsAt0 m c t : S2048x1024.Idx → EReal) (ix2 r q) = ∑ k : Fin 1024, blkL m c t (ix2 r k) * blkR m c t (ix2 q k) := by
  unfold blkL blkR
  unfold outsAt0 out0_A_2
  rw [View.read_writes_eq_canon _ _ _ (fun y => cover0_A_2 (y := y) ..)]
  unfold kernelRun0_A
  dsimp only
  sl_unfold_words
  rw [View.canon_unit_zero (S := S2048x1024) zero2]
  simp only [View.readAt_eq_ld, Memref.IsWhole.read_unread, View.ld_unit_zero (S := S2048x1024) zero2, View.ld_unit_zero (S := S1024x1024) zero2]
  unfold k0_pay1
  pointwise

/-- The result, entry by entry. -/
theorem result_apply (c : Dev nD) : ∀ (r : Fin 8192) (q : Fin 2048), res m c (ix2 r q) = ∑ k : Fin 1024, argL m c (ix2 r k) * argR m c (ix2 (n0 := 10272) ⟨5120 + q.val, by omega⟩ k) := by
  refine of_blocks (n := cfg0.N) (TM := 2048) (TN := 1024) 4 2 (N_0.trans (by decide)) (by decide) (by decide) fun t r q r' q' hr hq => ?_
  obtain ⟨-, -, e0, e1⟩ := index t
  have hb := congrFun ((blocks2 m c t (flushes _)).trans (flushed2 m c t)) (ix2 r q)
  rw [View.read_apply] at hb
  refine ((congrArg (res m c) (at_block rfl rfl e0 e1 hr hq)).symm.trans hb).trans ((stored_apply m c t r q).trans ?_)
  exact Finset.sum_congr rfl fun k _ => congrArg₂ _ (left_apply m c t r k r' hr) (right_apply m c t q k q' hq)

end Cert.KernelZIdeal.Grad

namespace Cert.Proof.KernelZIdeal

open Cert.ReferenceZIdeal Cert.ReferenceZIdeal.Read

/-- The reference, entry by entry. -/
theorem ref_apply (x0 : S8192x1024.Idx → EReal) (x1 : S10272x1024.Idx → EReal) (r : Fin 8192) (q : Fin 2048) :
    val_main_v5 (F := Ideal) x0 x1 (ix2 r q) = ∑ k : Fin 1024, x0 (ix2 r k) * x1 (ix2 (n0 := 10272) ⟨5120 + q.val, by omega⟩ k) := by
  rw [val_main_v5_apply, val_main_v4_apply, Ideal.truncf_def, val_main_v3_apply]
  refine Finset.sum_congr rfl fun k _ => ?_
  rw [val_main_v0_apply, val_main_v2_apply, val_main_v1_apply, Ideal.extf_def, Ideal.extf_def]
  congr 2 <;> (funext x; match x with | ⟨0, _⟩ => (first | rfl | exact Fin.ext (by show _ = 5120 + q.val; omega)) | ⟨1, _⟩ => rfl)

theorem algebraic : Cert.algebraic_KernelZIdeal_ReferenceZIdeal := by
  intro m ρ m' ρ' _ hagree
  refine ⟨fun c => Cert.KernelZIdeal.Grad.res m c, Cert.KernelZIdeal.Value.run_blocks m ρ, ?_⟩
  refine (θ_run Cert.ReferenceZIdeal.defs _ _).mono (fun _ h c => ⟨(h c).1.trans ?_, (h c).2⟩) (Cert.ReferenceZIdeal.Value.run (F := Ideal) m' ρ')
  rw [val_main_v5_eq, (hagree c).1, (hagree c).2]
  exact Cert.Sums.by_entries fun r q => (ref_apply _ _ r q).trans (Cert.KernelZIdeal.Grad.result_apply m c r q).symm

/-- The reference's own frame. -/
theorem frame_reference : Cert.quiescent_ReferenceZIdeal := fun m ρ _ =>
  (θ_run Cert.ReferenceZIdeal.defs _ _).mono (fun r h => ⟨fun c => (h c).2, Idealize.ShloMosaic.sem_eq_zero_of_no_sems (by decide) r.2⟩)
    (Cert.ReferenceZIdeal.Value.run (F := Ideal) m ρ)

end Cert.Proof.KernelZIdeal

end
-- ==== Proof.ProjXbc.lean ====
/- The projections of the recurrence's inputs: what the grid of blocks leaves is what the reference takes. -/
module

public import proofs.«01_k».proof.Proof.Blocks
public import proofs.«01_k».proof.Proof.Gen.KernelXbcIdeal.Value
public import proofs.«01_k».proof.Proof.Gen.ReferenceXbcIdeal.Read
public import proofs.«01_k».proof.Defs
public import Idealize.ShloMosaic.Lib.Tactic
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem

namespace Cert.KernelXbcIdeal.Grad

open Cert.KernelXbcIdeal Cert.KernelXbcIdeal.Gen Cert.KernelXbcIdeal.Value Cert.Sums

variable (m : (ℓ : Loc nD τ sig) → Buf (Elt Ideal) ℓ)

theorem index : ∀ t : Fin cfg0.N, (win0_0.index t (0 : Fin 2) = t.val / 3 ∧ win0_0.index t (1 : Fin 2) = 0) ∧ (win0_1.index t (0 : Fin 2) = 7 + t.val % 3 ∧ win0_1.index t (1 : Fin 2) = 0)
    ∧ (win0_2.index t (0 : Fin 2) = t.val / 3 ∧ win0_2.index t (1 : Fin 2) = t.val % 3) := (by decide +kernel : ∀ t : Fin grid0.N, _)
theorem flushes : ∀ t : Fin cfg0.N, (cfg0.win 2).flush t = true := (by decide +kernel : ∀ t : Fin grid0.N, _)

/-- The two arguments and the result. -/
def argL (c : Dev nD) : S8192x1024.Idx → EReal := m ((c : Thread nD τ).loc main_arg0)
def argR (c : Dev nD) : S10272x1024.Idx → EReal := m ((c : Thread nD τ).loc main_arg1)
def res (c : Dev nD) : S8192x3072.Idx → EReal := (dats m 0 c).arrAt 2 cfg0.N

theorem left_apply (c : Dev nD) (t : Fin cfg0.N) (r : Fin 2048) (k : Fin 1024) (r' : Fin 8192) (hr : r'.val = t.val / 3 * 2048 + 1 * r.val) :
    (iblk m c 0 t : Vec Ideal S2048x1024 .bf16) (ix2 r k) = argL m c (ix2 r' k) := by
  obtain ⟨⟨e0, e1⟩, -, -⟩ := index t
  unfold iblk argL
  rw [View.read_apply]
  exact congrArg (V m c main_arg0) (at_block rfl rfl e0 e1 hr (within k))

theorem whole : ∀ (t : Fin cfg0.N) (a : Fin 2), (cfg0.win 1).clip (cfg0.grid.coords t) a = none :=
  (by decide +kernel : ∀ (t : Fin grid0.N) (a : Fin 2), (cfg0.win 1).clip (cfg0.grid.coords t) a = none)

theorem right_apply (c : Dev nD) (t : Fin cfg0.N) (q : Fin 1024) (k : Fin 1024) (q' : Fin 3072) (hq : q'.val = t.val % 3 * 1024 + 1 * q.val) :
    (X0_1 m c t : Vec Ideal S1024x1024 .bf16) (ix2 q k) = argR m c (ix2 (n0 := 10272) ⟨7168 + q'.val, by omega⟩ k) := by
  obtain ⟨-, ⟨e0, e1⟩, -⟩ := index t
  have hm : (cfg0.win 1).moved (cfg0.grid.coords t) (ix2 q k) = true :=
    ((cfg0.win 1).moved_iff _ _).mpr fun a => by
      have h := ((ix2 q k : S1024x1024.Idx) a).isLt
      unfold Pipeline.Window.xsize
      rw [whole t a]
      exact h
  unfold X0_1 Pipeline.Window.fill
  rw [dif_pos hm]
  unfold iblk argR
  rw [View.read_apply]
  exact congrArg (V m c main_arg1) (at_block rfl rfl e0 e1 (show 7168 + q'.val = (7 + t.val % 3) * 1024 + 1 * q.val by omega) (within k))

/-- The two blocks grid point `t` reads. -/
def blkL (c : Dev nD) (t : Fin cfg0.N) : S2048x1024.Idx → EReal := iblk m c 0 t
def blkR (c : Dev nD) (t : Fin cfg0.N) : S1024x1024.Idx → EReal := X0_1 m c t

/-- What grid point `t` stores, entry by entry. -/
theorem stored_apply (c : Dev nD) (t : Fin cfg0.N) (r : Fin 2048) (q : Fin 1024) :
    (outsAt0 m c t : S2048x1024.Idx → EReal) (ix2 r q) = ∑ k : Fin 1024, blkL m c t (ix2 r k) * blkR m c t (ix2 q k) := by
  unfold blkL blkR
  unfold outsAt0 out0_A_2
  rw [View.read_writes_eq_canon _ _ _ (fun y => cover0_A_2 (y := y) ..)]
  unfold kernelRun0_A
  dsimp only
  sl_unfold_words
  rw [View.canon_unit_zero (S := S2048x1024) zero2]
  simp only [View.readAt_eq_ld, Memref.IsWhole.read_unread, View.ld_unit_zero (S := S2048x1024) zero2, View.ld_unit_zero (S := S1024x1024) zero2]
  unfold k0_pay1
  pointwise

/-- The result, entry by entry. -/
theorem result_apply (c : Dev nD) : ∀ (r : Fin 8192) (q : Fin 3072), res m c (ix2 r q) = ∑ k : Fin 1024, argL m c (ix2 r k) * argR m c (ix2 (n0 := 10272) ⟨7168 + q.val, by omega⟩ k) := by
  refine of_blocks (n := cfg0.N) (TM := 2048) (TN := 1024) 4 3 (N_0.trans (by decide)) (by decide) (by decide) fun t r q r' q' hr hq => ?_
  obtain ⟨-, -, e0, e1⟩ := index t
  have hb := congrFun ((blocks2 m c t (flushes _)).trans (flushed2 m c t)) (ix2 r q)
  rw [View.read_apply] at hb
  refine ((congrArg (res m c) (at_block rfl rfl e0 e1 hr hq)).symm.trans hb).trans ((stored_apply m c t r q).trans ?_)
  exact Finset.sum_congr rfl fun k _ => congrArg₂ _ (left_apply m c t r k r' hr) (right_apply m c t q k q' hq)

end Cert.KernelXbcIdeal.Grad

namespace Cert.Proof.KernelXbcIdeal

open Cert.ReferenceXbcIdeal Cert.ReferenceXbcIdeal.Read

/-- The reference, entry by entry. -/
theorem ref_apply (x0 : S8192x1024.Idx → EReal) (x1 : S10272x1024.Idx → EReal) (r : Fin 8192) (q : Fin 3072) :
    val_main_v5 (F := Ideal) x0 x1 (ix2 r q) = ∑ k : Fin 1024, x0 (ix2 r k) * x1 (ix2 (n0 := 10272) ⟨7168 + q.val, by omega⟩ k) := by
  rw [val_main_v5_apply, val_main_v4_apply, Ideal.truncf_def, val_main_v3_apply]
  refine Finset.sum_congr rfl fun k _ => ?_
  rw [val_main_v0_apply, val_main_v2_apply, val_main_v1_apply, Ideal.extf_def, Ideal.extf_def]
  congr 2 <;> (funext x; match x with | ⟨0, _⟩ => (first | rfl | exact Fin.ext (by show _ = 7168 + q.val; omega)) | ⟨1, _⟩ => rfl)

theorem algebraic : Cert.algebraic_KernelXbcIdeal_ReferenceXbcIdeal := by
  intro m ρ m' ρ' _ hagree
  refine ⟨fun c => Cert.KernelXbcIdeal.Grad.res m c, Cert.KernelXbcIdeal.Value.run_blocks m ρ, ?_⟩
  refine (θ_run Cert.ReferenceXbcIdeal.defs _ _).mono (fun _ h c => ⟨(h c).1.trans ?_, (h c).2⟩) (Cert.ReferenceXbcIdeal.Value.run (F := Ideal) m' ρ')
  rw [val_main_v5_eq, (hagree c).1, (hagree c).2]
  exact Cert.Sums.by_entries fun r q => (ref_apply _ _ r q).trans (Cert.KernelXbcIdeal.Grad.result_apply m c r q).symm

/-- The reference's own frame. -/
theorem frame_reference : Cert.quiescent_ReferenceXbcIdeal := fun m ρ _ =>
  (θ_run Cert.ReferenceXbcIdeal.defs _ _).mono (fun r h => ⟨fun c => (h c).2, Idealize.ShloMosaic.sem_eq_zero_of_no_sems (by decide) r.2⟩)
    (Cert.ReferenceXbcIdeal.Value.run (F := Ideal) m ρ)

end Cert.Proof.KernelXbcIdeal

end
-- ==== Proof.UpProj.lean ====
/- The up projection: what the grid of blocks leaves is what the reference takes. -/
module

public import proofs.«01_k».proof.Proof.Blocks
public import proofs.«01_k».proof.Proof.Gen.KernelUpIdeal.Value
public import proofs.«01_k».proof.Proof.Gen.ReferenceUpIdeal.Read
public import proofs.«01_k».proof.Defs
public import Idealize.ShloMosaic.Lib.Tactic
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem

namespace Cert.KernelUpIdeal.Grad

open Cert.KernelUpIdeal Cert.KernelUpIdeal.Gen Cert.KernelUpIdeal.Value Cert.Sums

variable (m : (ℓ : Loc nD τ sig) → Buf (Elt Ideal) ℓ)

theorem index : ∀ t : Fin cfg0.N, (win0_0.index t (0 : Fin 2) = t.val / 1 ∧ win0_0.index t (1 : Fin 2) = 0) ∧ (win0_1.index t (0 : Fin 2) = t.val % 1 ∧ win0_1.index t (1 : Fin 2) = 0)
    ∧ (win0_2.index t (0 : Fin 2) = t.val / 1 ∧ win0_2.index t (1 : Fin 2) = t.val % 1) := (by decide +kernel : ∀ t : Fin grid0.N, _)
theorem flushes : ∀ t : Fin cfg0.N, (cfg0.win 2).flush t = true := (by decide +kernel : ∀ t : Fin grid0.N, _)

/-- The two arguments and the result. -/
def argL (c : Dev nD) : S8192x1024.Idx → EReal := m ((c : Thread nD τ).loc main_arg0)
def argR (c : Dev nD) : S5632x1024.Idx → EReal := m ((c : Thread nD τ).loc main_arg1)
def res (c : Dev nD) : S8192x5632.Idx → EReal := (dats m 0 c).arrAt 2 cfg0.N

theorem left_apply (c : Dev nD) (t : Fin cfg0.N) (r : Fin 512) (k : Fin 1024) (r' : Fin 8192) (hr : r'.val = t.val / 1 * 512 + 1 * r.val) :
    (iblk m c 0 t : Vec Ideal S512x1024 .bf16) (ix2 r k) = argL m c (ix2 r' k) := by
  obtain ⟨⟨e0, e1⟩, -, -⟩ := index t
  unfold iblk argL
  rw [View.read_apply]
  exact congrArg (V m c main_arg0) (at_block rfl rfl e0 e1 hr (within k))

theorem right_apply (c : Dev nD) (t : Fin cfg0.N) (q : Fin 5632) (k : Fin 1024) (q' : Fin 5632) (hq : q'.val = t.val % 1 * 5632 + 1 * q.val) :
    (iblk m c 1 t : Vec Ideal S5632x1024 .bf16) (ix2 q k) = argR m c (ix2 q' k) := by
  obtain ⟨-, ⟨e0, e1⟩, -⟩ := index t
  unfold iblk argR
  rw [View.read_apply]
  exact congrArg (V m c main_arg1) (at_block rfl rfl e0 e1 hq (within k))

/-- The two blocks grid point `t` reads. -/
def blkL (c : Dev nD) (t : Fin cfg0.N) : S512x1024.Idx → EReal := iblk m c 0 t
def blkR (c : Dev nD) (t : Fin cfg0.N) : S5632x1024.Idx → EReal := iblk m c 1 t

/-- What grid point `t` stores, entry by entry. -/
theorem stored_apply (c : Dev nD) (t : Fin cfg0.N) (r : Fin 512) (q : Fin 5632) :
    (out0_2 (F := Ideal) (iblk m c 0 t) (iblk m c 1 t) : S512x5632.Idx → EReal) (ix2 r q) = ∑ k : Fin 1024, blkL m c t (ix2 r k) * blkR m c t (ix2 q k) := by
  unfold blkL blkR
  unfold out0_2
  rw [View.canon_unit_zero (S := S512x5632) zero2, View.ld_unit_zero (S := S512x1024) zero2, View.ld_unit_zero (S := S5632x1024) zero2]
  unfold k0_pay1
  pointwise

/-- The result, entry by entry. -/
theorem result_apply (c : Dev nD) : ∀ (r : Fin 8192) (q : Fin 5632), res m c (ix2 r q) = ∑ k : Fin 1024, argL m c (ix2 r k) * argR m c (ix2 q k) := by
  refine of_blocks (n := cfg0.N) (TM := 512) (TN := 5632) 16 1 (N_0.trans (by decide)) (by decide) (by decide) fun t r q r' q' hr hq => ?_
  obtain ⟨-, -, e0, e1⟩ := index t
  have hb := congrFun ((blocks2 m c t (flushes _)).trans (flushed2 m c t)) (ix2 r q)
  rw [View.read_apply] at hb
  refine ((congrArg (res m c) (at_block rfl rfl e0 e1 hr hq)).symm.trans hb).trans ((stored_apply m c t r q).trans ?_)
  exact Finset.sum_congr rfl fun k _ => congrArg₂ _ (left_apply m c t r k r' hr) (right_apply m c t q k q' hq)

end Cert.KernelUpIdeal.Grad

namespace Cert.Proof.KernelUpIdeal

open Cert.ReferenceUpIdeal Cert.ReferenceUpIdeal.Read

/-- The reference, entry by entry. -/
theorem ref_apply (x0 : S8192x1024.Idx → EReal) (x1 : S5632x1024.Idx → EReal) (r : Fin 8192) (q : Fin 5632) :
    val_main_v4 (F := Ideal) x0 x1 (ix2 r q) = ∑ k : Fin 1024, x0 (ix2 r k) * x1 (ix2 q k) := by
  rw [val_main_v4_apply, Ideal.truncf_def, val_main_v3_apply]
  refine Finset.sum_congr rfl fun k _ => ?_
  rw [val_main_v0_apply, val_main_v2_apply, val_main_v1_apply, Ideal.extf_def, Ideal.extf_def]
  congr 2 <;> (funext x; match x with | ⟨0, _⟩ => rfl | ⟨1, _⟩ => rfl)

theorem algebraic : Cert.algebraic_KernelUpIdeal_ReferenceUpIdeal := by
  intro m ρ m' ρ' _ hagree
  refine ⟨fun c => Cert.KernelUpIdeal.Grad.res m c, Cert.KernelUpIdeal.Value.run_blocks m ρ, ?_⟩
  refine (θ_run Cert.ReferenceUpIdeal.defs _ _).mono (fun _ h c => ⟨(h c).1.trans ?_, (h c).2⟩) (Cert.ReferenceUpIdeal.Value.run (F := Ideal) m' ρ')
  rw [val_main_v4_eq, (hagree c).1, (hagree c).2]
  exact Cert.Sums.by_entries fun r q => (ref_apply _ _ r q).trans (Cert.KernelUpIdeal.Grad.result_apply m c r q).symm

/-- The reference's own frame. -/
theorem frame_reference : Cert.quiescent_ReferenceUpIdeal := fun m ρ _ =>
  (θ_run Cert.ReferenceUpIdeal.defs _ _).mono (fun r h => ⟨fun c => (h c).2, Idealize.ShloMosaic.sem_eq_zero_of_no_sems (by decide) r.2⟩)
    (Cert.ReferenceUpIdeal.Value.run (F := Ideal) m ρ)

end Cert.Proof.KernelUpIdeal

end
-- ==== Proof.DownProj.lean ====
/- The down projection: what the grid of blocks leaves is what the reference takes. -/
module

public import proofs.«01_k».proof.Proof.Blocks
public import proofs.«01_k».proof.Proof.Gen.KernelDownIdeal.Value
public import proofs.«01_k».proof.Proof.Gen.ReferenceDownIdeal.Read
public import proofs.«01_k».proof.Defs
public import Idealize.ShloMosaic.Lib.Tactic
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem

namespace Cert.KernelDownIdeal.Grad

open Cert.KernelDownIdeal Cert.KernelDownIdeal.Gen Cert.KernelDownIdeal.Value Cert.Sums

variable (m : (ℓ : Loc nD τ sig) → Buf (Elt Ideal) ℓ)

theorem index : ∀ t : Fin cfg0.N, (win0_0.index t (0 : Fin 2) = t.val / 1 ∧ win0_0.index t (1 : Fin 2) = 0) ∧ (win0_1.index t (0 : Fin 2) = 0 ∧ win0_1.index t (1 : Fin 2) = t.val % 1)
    ∧ (win0_2.index t (0 : Fin 2) = t.val / 1 ∧ win0_2.index t (1 : Fin 2) = t.val % 1) := (by decide +kernel : ∀ t : Fin grid0.N, _)
theorem flushes : ∀ t : Fin cfg0.N, (cfg0.win 2).flush t = true := (by decide +kernel : ∀ t : Fin grid0.N, _)

/-- The two arguments and the result. -/
def argL (c : Dev nD) : S8192x2816.Idx → EReal := m ((c : Thread nD τ).loc main_arg0)
def argR (c : Dev nD) : S2816x1024.Idx → EReal := m ((c : Thread nD τ).loc main_arg1)
def res (c : Dev nD) : S8192x1024.Idx → EReal := (dats m 0 c).arrAt 2 cfg0.N

theorem left_apply (c : Dev nD) (t : Fin cfg0.N) (r : Fin 1024) (k : Fin 2816) (r' : Fin 8192) (hr : r'.val = t.val / 1 * 1024 + 1 * r.val) :
    (iblk m c 0 t : Vec Ideal S1024x2816 .bf16) (ix2 r k) = argL m c (ix2 r' k) := by
  obtain ⟨⟨e0, e1⟩, -, -⟩ := index t
  unfold iblk argL
  rw [View.read_apply]
  exact congrArg (V m c main_arg0) (at_block rfl rfl e0 e1 hr (within k))

theorem right_apply (c : Dev nD) (t : Fin cfg0.N) (k : Fin 2816) (q : Fin 1024) (q' : Fin 1024) (hq : q'.val = t.val % 1 * 1024 + 1 * q.val) :
    (iblk m c 1 t : Vec Ideal S2816x1024 .bf16) (ix2 k q) = argR m c (ix2 k q') := by
  obtain ⟨-, ⟨e0, e1⟩, -⟩ := index t
  unfold iblk argR
  rw [View.read_apply]
  exact congrArg (V m c main_arg1) (at_block rfl rfl e0 e1 (within k) hq)

/-- The two blocks grid point `t` reads. -/
def blkL (c : Dev nD) (t : Fin cfg0.N) : S1024x2816.Idx → EReal := iblk m c 0 t
def blkR (c : Dev nD) (t : Fin cfg0.N) : S2816x1024.Idx → EReal := iblk m c 1 t

/-- What grid point `t` stores, entry by entry. -/
theorem stored_apply (c : Dev nD) (t : Fin cfg0.N) (r : Fin 1024) (q : Fin 1024) :
    (out0_2 (F := Ideal) (iblk m c 0 t) (iblk m c 1 t) : S1024x1024.Idx → EReal) (ix2 r q) = ∑ k : Fin 2816, blkL m c t (ix2 r k) * blkR m c t (ix2 k q) := by
  unfold blkL blkR
  unfold out0_2
  rw [View.canon_unit_zero (S := S1024x1024) zero2, View.ld_unit_zero (S := S1024x2816) zero2, View.ld_unit_zero (S := S2816x1024) zero2]
  unfold k0_pay1
  pointwise

/-- The result, entry by entry. -/
theorem result_apply (c : Dev nD) : ∀ (r : Fin 8192) (q : Fin 1024), res m c (ix2 r q) = ∑ k : Fin 2816, argL m c (ix2 r k) * argR m c (ix2 k q) := by
  refine of_blocks (n := cfg0.N) (TM := 1024) (TN := 1024) 8 1 (N_0.trans (by decide)) (by decide) (by decide) fun t r q r' q' hr hq => ?_
  obtain ⟨-, -, e0, e1⟩ := index t
  have hb := congrFun ((blocks2 m c t (flushes _)).trans (flushed2 m c t)) (ix2 r q)
  rw [View.read_apply] at hb
  refine ((congrArg (res m c) (at_block rfl rfl e0 e1 hr hq)).symm.trans hb).trans ((stored_apply m c t r q).trans ?_)
  exact Finset.sum_congr rfl fun k _ => congrArg₂ _ (left_apply m c t r k r' hr) (right_apply m c t k q q' hq)

end Cert.KernelDownIdeal.Grad

namespace Cert.Proof.KernelDownIdeal

open Cert.ReferenceDownIdeal Cert.ReferenceDownIdeal.Read

/-- The reference, entry by entry. -/
theorem ref_apply (x0 : S8192x2816.Idx → EReal) (x1 : S2816x1024.Idx → EReal) (r : Fin 8192) (q : Fin 1024) :
    val_main_v3 (F := Ideal) x0 x1 (ix2 r q) = ∑ k : Fin 2816, x0 (ix2 r k) * x1 (ix2 k q) := by
  rw [val_main_v3_apply, Ideal.truncf_def, val_main_v2_apply]
  refine Finset.sum_congr rfl fun k _ => ?_
  rw [val_main_v0_apply, val_main_v1_apply, Ideal.extf_def, Ideal.extf_def]
  congr 2 <;> (funext x; match x with | ⟨0, _⟩ => rfl | ⟨1, _⟩ => rfl)

theorem algebraic : Cert.algebraic_KernelDownIdeal_ReferenceDownIdeal := by
  intro m ρ m' ρ' _ hagree
  refine ⟨fun c => Cert.KernelDownIdeal.Grad.res m c, Cert.KernelDownIdeal.Value.run_blocks m ρ, ?_⟩
  refine (θ_run Cert.ReferenceDownIdeal.defs _ _).mono (fun _ h c => ⟨(h c).1.trans ?_, (h c).2⟩) (Cert.ReferenceDownIdeal.Value.run (F := Ideal) m' ρ')
  rw [val_main_v3_eq, (hagree c).1, (hagree c).2]
  exact Cert.Sums.by_entries fun r q => (ref_apply _ _ r q).trans (Cert.KernelDownIdeal.Grad.result_apply m c r q).symm

/-- The reference's own frame. -/
theorem frame_reference : Cert.quiescent_ReferenceDownIdeal := fun m ρ _ =>
  (θ_run Cert.ReferenceDownIdeal.defs _ _).mono (fun r h => ⟨fun c => (h c).2, Idealize.ShloMosaic.sem_eq_zero_of_no_sems (by decide) r.2⟩)
    (Cert.ReferenceDownIdeal.Value.run (F := Ideal) m ρ)

end Cert.Proof.KernelDownIdeal

end
-- ==== Proof.OutProj.lean ====
/- The output projections of width 1024: what the grid of blocks leaves is what the reference takes. -/
module

public import proofs.«01_k».proof.Proof.Blocks
public import proofs.«01_k».proof.Proof.Gen.KernelOIdeal.Value
public import proofs.«01_k».proof.Proof.Gen.ReferenceOIdeal.Read
public import proofs.«01_k».proof.Defs
public import Idealize.ShloMosaic.Lib.Tactic
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem

namespace Cert.KernelOIdeal.Grad

open Cert.KernelOIdeal Cert.KernelOIdeal.Gen Cert.KernelOIdeal.Value Cert.Sums

variable (m : (ℓ : Loc nD τ sig) → Buf (Elt Ideal) ℓ)

theorem index : ∀ t : Fin cfg0.N, (win0_0.index t (0 : Fin 2) = t.val / 1 ∧ win0_0.index t (1 : Fin 2) = 0) ∧ (win0_1.index t (0 : Fin 2) = 0 ∧ win0_1.index t (1 : Fin 2) = t.val % 1)
    ∧ (win0_2.index t (0 : Fin 2) = t.val / 1 ∧ win0_2.index t (1 : Fin 2) = t.val % 1) := (by decide +kernel : ∀ t : Fin grid0.N, _)
theorem flushes : ∀ t : Fin cfg0.N, (cfg0.win 2).flush t = true := (by decide +kernel : ∀ t : Fin grid0.N, _)

/-- The two arguments and the result. -/
def argL (c : Dev nD) : S8192x1024.Idx → EReal := m ((c : Thread nD τ).loc main_arg0)
def argR (c : Dev nD) : S1024x1024.Idx → EReal := m ((c : Thread nD τ).loc main_arg1)
def res (c : Dev nD) : S8192x1024.Idx → EReal := (dats m 0 c).arrAt 2 cfg0.N

theorem left_apply (c : Dev nD) (t : Fin cfg0.N) (r : Fin 2048) (k : Fin 1024) (r' : Fin 8192) (hr : r'.val = t.val / 1 * 2048 + 1 * r.val) :
    (iblk m c 0 t : Vec Ideal S2048x1024 .bf16) (ix2 r k) = argL m c (ix2 r' k) := by
  obtain ⟨⟨e0, e1⟩, -, -⟩ := index t
  unfold iblk argL
  rw [View.read_apply]
  exact congrArg (V m c main_arg0) (at_block rfl rfl e0 e1 hr (within k))

theorem right_apply (c : Dev nD) (t : Fin cfg0.N) (k : Fin 1024) (q : Fin 1024) (q' : Fin 1024) (hq : q'.val = t.val % 1 * 1024 + 1 * q.val) :
    (iblk m c 1 t : Vec Ideal S1024x1024 .bf16) (ix2 k q) = argR m c (ix2 k q') := by
  obtain ⟨-, ⟨e0, e1⟩, -⟩ := index t
  unfold iblk argR
  rw [View.read_apply]
  exact congrArg (V m c main_arg1) (at_block rfl rfl e0 e1 (within k) hq)

/-- The two blocks grid point `t` reads. -/
def blkL (c : Dev nD) (t : Fin cfg0.N) : S2048x1024.Idx → EReal := iblk m c 0 t
def blkR (c : Dev nD) (t : Fin cfg0.N) : S1024x1024.Idx → EReal := iblk m c 1 t

/-- What grid point `t` stores, entry by entry. -/
theorem stored_apply (c : Dev nD) (t : Fin cfg0.N) (r : Fin 2048) (q : Fin 1024) :
    (out0_2 (F := Ideal) (iblk m c 0 t) (iblk m c 1 t) : S2048x1024.Idx → EReal) (ix2 r q) = ∑ k : Fin 1024, blkL m c t (ix2 r k) * blkR m c t (ix2 k q) := by
  unfold blkL blkR
  unfold out0_2
  rw [View.canon_unit_zero (S := S2048x1024) zero2, View.ld_unit_zero (S := S2048x1024) zero2, View.ld_unit_zero (S := S1024x1024) zero2]
  unfold k0_pay1
  pointwise

/-- The result, entry by entry. -/
theorem result_apply (c : Dev nD) : ∀ (r : Fin 8192) (q : Fin 1024), res m c (ix2 r q) = ∑ k : Fin 1024, argL m c (ix2 r k) * argR m c (ix2 k q) := by
  refine of_blocks (n := cfg0.N) (TM := 2048) (TN := 1024) 4 1 (N_0.trans (by decide)) (by decide) (by decide) fun t r q r' q' hr hq => ?_
  obtain ⟨-, -, e0, e1⟩ := index t
  have hb := congrFun ((blocks2 m c t (flushes _)).trans (flushed2 m c t)) (ix2 r q)
  rw [View.read_apply] at hb
  refine ((congrArg (res m c) (at_block rfl rfl e0 e1 hr hq)).symm.trans hb).trans ((stored_apply m c t r q).trans ?_)
  exact Finset.sum_congr rfl fun k _ => congrArg₂ _ (left_apply m c t r k r' hr) (right_apply m c t k q q' hq)

end Cert.KernelOIdeal.Grad

namespace Cert.Proof.KernelOIdeal

open Cert.ReferenceOIdeal Cert.ReferenceOIdeal.Read

/-- The reference, entry by entry. -/
theorem ref_apply (x0 : S8192x1024.Idx → EReal) (x1 : S1024x1024.Idx → EReal) (r : Fin 8192) (q : Fin 1024) :
    val_main_v3 (F := Ideal) x0 x1 (ix2 r q) = ∑ k : Fin 1024, x0 (ix2 r k) * x1 (ix2 k q) := by
  rw [val_main_v3_apply, Ideal.truncf_def, val_main_v2_apply]
  refine Finset.sum_congr rfl fun k _ => ?_
  rw [val_main_v0_apply, val_main_v1_apply, Ideal.extf_def, Ideal.extf_def]
  congr 2 <;> (funext x; match x with | ⟨0, _⟩ => rfl | ⟨1, _⟩ => rfl)

theorem algebraic : Cert.algebraic_KernelOIdeal_ReferenceOIdeal := by
  intro m ρ m' ρ' _ hagree
  refine ⟨fun c => Cert.KernelOIdeal.Grad.res m c, Cert.KernelOIdeal.Value.run_blocks m ρ, ?_⟩
  refine (θ_run Cert.ReferenceOIdeal.defs _ _).mono (fun _ h c => ⟨(h c).1.trans ?_, (h c).2⟩) (Cert.ReferenceOIdeal.Value.run (F := Ideal) m' ρ')
  rw [val_main_v3_eq, (hagree c).1, (hagree c).2]
  exact Cert.Sums.by_entries fun r q => (ref_apply _ _ r q).trans (Cert.KernelOIdeal.Grad.result_apply m c r q).symm

/-- The reference's own frame. -/
theorem frame_reference : Cert.quiescent_ReferenceOIdeal := fun m ρ _ =>
  (θ_run Cert.ReferenceOIdeal.defs _ _).mono (fun r h => ⟨fun c => (h c).2, Idealize.ShloMosaic.sem_eq_zero_of_no_sems (by decide) r.2⟩)
    (Cert.ReferenceOIdeal.Value.run (F := Ideal) m ρ)

end Cert.Proof.KernelOIdeal

end
-- ==== Proof.OutSsd.lean ====
/- The output projection of the recurrence: what the grid of blocks leaves is what the reference takes. -/
module

public import proofs.«01_k».proof.Proof.Blocks
public import proofs.«01_k».proof.Proof.Gen.KernelSIdeal.Value
public import proofs.«01_k».proof.Proof.Gen.ReferenceSIdeal.Read
public import proofs.«01_k».proof.Defs
public import Idealize.ShloMosaic.Lib.Tactic
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem

namespace Cert.KernelSIdeal.Grad

open Cert.KernelSIdeal Cert.KernelSIdeal.Gen Cert.KernelSIdeal.Value Cert.Sums

variable (m : (ℓ : Loc nD τ sig) → Buf (Elt Ideal) ℓ)

theorem index : ∀ t : Fin cfg0.N, (win0_0.index t (0 : Fin 2) = t.val / 1 ∧ win0_0.index t (1 : Fin 2) = 0) ∧ (win0_1.index t (0 : Fin 2) = 0 ∧ win0_1.index t (1 : Fin 2) = t.val % 1)
    ∧ (win0_2.index t (0 : Fin 2) = t.val / 1 ∧ win0_2.index t (1 : Fin 2) = t.val % 1) := (by decide +kernel : ∀ t : Fin grid0.N, _)
theorem flushes : ∀ t : Fin cfg0.N, (cfg0.win 2).flush t = true := (by decide +kernel : ∀ t : Fin grid0.N, _)

/-- The two arguments and the result. -/
def argL (c : Dev nD) : S8192x2048.Idx → EReal := m ((c : Thread nD τ).loc main_arg0)
def argR (c : Dev nD) : S2048x1024.Idx → EReal := m ((c : Thread nD τ).loc main_arg1)
def res (c : Dev nD) : S8192x1024.Idx → EReal := (dats m 0 c).arrAt 2 cfg0.N

theorem left_apply (c : Dev nD) (t : Fin cfg0.N) (r : Fin 2048) (k : Fin 2048) (r' : Fin 8192) (hr : r'.val = t.val / 1 * 2048 + 1 * r.val) :
    (iblk m c 0 t : Vec Ideal S2048x2048 .bf16) (ix2 r k) = argL m c (ix2 r' k) := by
  obtain ⟨⟨e0, e1⟩, -, -⟩ := index t
  unfold iblk argL
  rw [View.read_apply]
  exact congrArg (V m c main_arg0) (at_block rfl rfl e0 e1 hr (within k))

theorem right_apply (c : Dev nD) (t : Fin cfg0.N) (k : Fin 2048) (q : Fin 1024) (q' : Fin 1024) (hq : q'.val = t.val % 1 * 1024 + 1 * q.val) :
    (iblk m c 1 t : Vec Ideal S2048x1024 .bf16) (ix2 k q) = argR m c (ix2 k q') := by
  obtain ⟨-, ⟨e0, e1⟩, -⟩ := index t
  unfold iblk argR
  rw [View.read_apply]
  exact congrArg (V m c main_arg1) (at_block rfl rfl e0 e1 (within k) hq)

/-- The two blocks grid point `t` reads. -/
def blkL (c : Dev nD) (t : Fin cfg0.N) : S2048x2048.Idx → EReal := iblk m c 0 t
def blkR (c : Dev nD) (t : Fin cfg0.N) : S2048x1024.Idx → EReal := iblk m c 1 t

/-- What grid point `t` stores, entry by entry. -/
theorem stored_apply (c : Dev nD) (t : Fin cfg0.N) (r : Fin 2048) (q : Fin 1024) :
    (out0_2 (F := Ideal) (iblk m c 0 t) (iblk m c 1 t) : S2048x1024.Idx → EReal) (ix2 r q) = ∑ k : Fin 2048, blkL m c t (ix2 r k) * blkR m c t (ix2 k q) := by
  unfold blkL blkR
  unfold out0_2
  rw [View.canon_unit_zero (S := S2048x1024) zero2, View.ld_unit_zero (S := S2048x2048) zero2, View.ld_unit_zero (S := S2048x1024) zero2]
  unfold k0_pay1
  pointwise

/-- The result, entry by entry. -/
theorem result_apply (c : Dev nD) : ∀ (r : Fin 8192) (q : Fin 1024), res m c (ix2 r q) = ∑ k : Fin 2048, argL m c (ix2 r k) * argR m c (ix2 k q) := by
  refine of_blocks (n := cfg0.N) (TM := 2048) (TN := 1024) 4 1 (N_0.trans (by decide)) (by decide) (by decide) fun t r q r' q' hr hq => ?_
  obtain ⟨-, -, e0, e1⟩ := index t
  have hb := congrFun ((blocks2 m c t (flushes _)).trans (flushed2 m c t)) (ix2 r q)
  rw [View.read_apply] at hb
  refine ((congrArg (res m c) (at_block rfl rfl e0 e1 hr hq)).symm.trans hb).trans ((stored_apply m c t r q).trans ?_)
  exact Finset.sum_congr rfl fun k _ => congrArg₂ _ (left_apply m c t r k r' hr) (right_apply m c t k q q' hq)

end Cert.KernelSIdeal.Grad

namespace Cert.Proof.KernelSIdeal

open Cert.ReferenceSIdeal Cert.ReferenceSIdeal.Read

/-- The reference, entry by entry. -/
theorem ref_apply (x0 : S8192x2048.Idx → EReal) (x1 : S2048x1024.Idx → EReal) (r : Fin 8192) (q : Fin 1024) :
    val_main_v3 (F := Ideal) x0 x1 (ix2 r q) = ∑ k : Fin 2048, x0 (ix2 r k) * x1 (ix2 k q) := by
  rw [val_main_v3_apply, Ideal.truncf_def, val_main_v2_apply]
  refine Finset.sum_congr rfl fun k _ => ?_
  rw [val_main_v0_apply, val_main_v1_apply, Ideal.extf_def, Ideal.extf_def]
  congr 2 <;> (funext x; match x with | ⟨0, _⟩ => rfl | ⟨1, _⟩ => rfl)

theorem algebraic : Cert.algebraic_KernelSIdeal_ReferenceSIdeal := by
  intro m ρ m' ρ' _ hagree
  refine ⟨fun c => Cert.KernelSIdeal.Grad.res m c, Cert.KernelSIdeal.Value.run_blocks m ρ, ?_⟩
  refine (θ_run Cert.ReferenceSIdeal.defs _ _).mono (fun _ h c => ⟨(h c).1.trans ?_, (h c).2⟩) (Cert.ReferenceSIdeal.Value.run (F := Ideal) m' ρ')
  rw [val_main_v3_eq, (hagree c).1, (hagree c).2]
  exact Cert.Sums.by_entries fun r q => (ref_apply _ _ r q).trans (Cert.KernelSIdeal.Grad.result_apply m c r q).symm

/-- The reference's own frame. -/
theorem frame_reference : Cert.quiescent_ReferenceSIdeal := fun m ρ _ =>
  (θ_run Cert.ReferenceSIdeal.defs _ _).mono (fun r h => ⟨fun c => (h c).2, Idealize.ShloMosaic.sem_eq_zero_of_no_sems (by decide) r.2⟩)
    (Cert.ReferenceSIdeal.Value.run (F := Ideal) m ρ)

end Cert.Proof.KernelSIdeal

end
-- ==== Proof.RowsOut.lean ====
/- The gradient of the output projection in its rows: what the grid of blocks leaves is what the reference takes. -/
module

public import proofs.«01_k».proof.Proof.Blocks
public import proofs.«01_k».proof.Proof.Gen.KernelDmIdeal.Value
public import proofs.«01_k».proof.Proof.Gen.ReferenceDmIdeal.Read
public import proofs.«01_k».proof.Defs
public import Idealize.ShloMosaic.Lib.Tactic
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem

namespace Cert.KernelDmIdeal.Grad

open Cert.KernelDmIdeal Cert.KernelDmIdeal.Gen Cert.KernelDmIdeal.Value Cert.Sums

variable (m : (ℓ : Loc nD τ sig) → Buf (Elt Ideal) ℓ)

theorem index : ∀ t : Fin cfg0.N, (win0_0.index t (0 : Fin 2) = t.val / 1 ∧ win0_0.index t (1 : Fin 2) = 0) ∧ (win0_1.index t (0 : Fin 2) = t.val % 1 ∧ win0_1.index t (1 : Fin 2) = 0)
    ∧ (win0_2.index t (0 : Fin 2) = t.val / 1 ∧ win0_2.index t (1 : Fin 2) = t.val % 1) := (by decide +kernel : ∀ t : Fin grid0.N, _)
theorem flushes : ∀ t : Fin cfg0.N, (cfg0.win 2).flush t = true := (by decide +kernel : ∀ t : Fin grid0.N, _)

/-- The two arguments and the result. -/
def argL (c : Dev nD) : S8192x1024.Idx → EReal := m ((c : Thread nD τ).loc main_arg0)
def argR (c : Dev nD) : S1024x1024.Idx → EReal := m ((c : Thread nD τ).loc main_arg1)
def res (c : Dev nD) : S8192x1024.Idx → EReal := (dats m 0 c).arrAt 2 cfg0.N

theorem left_apply (c : Dev nD) (t : Fin cfg0.N) (r : Fin 2048) (k : Fin 1024) (r' : Fin 8192) (hr : r'.val = t.val / 1 * 2048 + 1 * r.val) :
    (iblk m c 0 t : Vec Ideal S2048x1024 .bf16) (ix2 r k) = argL m c (ix2 r' k) := by
  obtain ⟨⟨e0, e1⟩, -, -⟩ := index t
  unfold iblk argL
  rw [View.read_apply]
  exact congrArg (V m c main_arg0) (at_block rfl rfl e0 e1 hr (within k))

theorem right_apply (c : Dev nD) (t : Fin cfg0.N) (q : Fin 1024) (k : Fin 1024) (q' : Fin 1024) (hq : q'.val = t.val % 1 * 1024 + 1 * q.val) :
    (iblk m c 1 t : Vec Ideal S1024x1024 .bf16) (ix2 q k) = argR m c (ix2 q' k) := by
  obtain ⟨-, ⟨e0, e1⟩, -⟩ := index t
  unfold iblk argR
  rw [View.read_apply]
  exact congrArg (V m c main_arg1) (at_block rfl rfl e0 e1 hq (within k))

/-- The two blocks grid point `t` reads. -/
def blkL (c : Dev nD) (t : Fin cfg0.N) : S2048x1024.Idx → EReal := iblk m c 0 t
def blkR (c : Dev nD) (t : Fin cfg0.N) : S1024x1024.Idx → EReal := iblk m c 1 t

/-- What grid point `t` stores, entry by entry. -/
theorem stored_apply (c : Dev nD) (t : Fin cfg0.N) (r : Fin 2048) (q : Fin 1024) :
    (out0_2 (F := Ideal) (iblk m c 0 t) (iblk m c 1 t) : S2048x1024.Idx → EReal) (ix2 r q) = ∑ k : Fin 1024, blkL m c t (ix2 r k) * blkR m c t (ix2 q k) := by
  unfold blkL blkR
  unfold out0_2
  rw [View.canon_unit_zero (S := S2048x1024) zero2, View.ld_unit_zero (S := S2048x1024) zero2, View.ld_unit_zero (S := S1024x1024) zero2]
  unfold k0_pay1
  pointwise

/-- The result, entry by entry. -/
theorem result_apply (c : Dev nD) : ∀ (r : Fin 8192) (q : Fin 1024), res m c (ix2 r q) = ∑ k : Fin 1024, argL m c (ix2 r k) * argR m c (ix2 q k) := by
  refine of_blocks (n := cfg0.N) (TM := 2048) (TN := 1024) 4 1 (N_0.trans (by decide)) (by decide) (by decide) fun t r q r' q' hr hq => ?_
  obtain ⟨-, -, e0, e1⟩ := index t
  have hb := congrFun ((blocks2 m c t (flushes _)).trans (flushed2 m c t)) (ix2 r q)
  rw [View.read_apply] at hb
  refine ((congrArg (res m c) (at_block rfl rfl e0 e1 hr hq)).symm.trans hb).trans ((stored_apply m c t r q).trans ?_)
  exact Finset.sum_congr rfl fun k _ => congrArg₂ _ (left_apply m c t r k r' hr) (right_apply m c t q k q' hq)

end Cert.KernelDmIdeal.Grad

namespace Cert.Proof.KernelDmIdeal

open Cert.ReferenceDmIdeal Cert.ReferenceDmIdeal.Read

/-- The reference, entry by entry. -/
theorem ref_apply (x0 : S8192x1024.Idx → EReal) (x1 : S1024x1024.Idx → EReal) (r : Fin 8192) (q : Fin 1024) :
    val_main_v5 (F := Ideal) x0 x1 (ix2 r q) = ∑ k : Fin 1024, x0 (ix2 r k) * x1 (ix2 q k) := by
  rw [val_main_v5_apply, Ideal.truncf_def, val_main_v4_apply]
  refine Finset.sum_congr rfl fun k _ => ?_
  rw [val_main_v3_apply, val_main_v0_apply, Ideal.extf_def, Ideal.extf_def]
  congr 2 <;> (funext x; match x with | ⟨0, _⟩ => rfl | ⟨1, _⟩ => rfl)

theorem algebraic : Cert.algebraic_KernelDmIdeal_ReferenceDmIdeal := by
  intro m ρ m' ρ' _ hagree
  refine ⟨fun c => Cert.KernelDmIdeal.Grad.res m c, Cert.KernelDmIdeal.Value.run_blocks m ρ, ?_⟩
  refine (θ_run Cert.ReferenceDmIdeal.defs _ _).mono (fun _ h c => ⟨(h c).1.trans ?_, (h c).2⟩) (Cert.ReferenceDmIdeal.Value.run (F := Ideal) m' ρ')
  rw [val_main_v5_eq, (hagree c).1, (hagree c).2]
  exact Cert.Sums.by_entries fun r q => (ref_apply _ _ r q).trans (Cert.KernelDmIdeal.Grad.result_apply m c r q).symm

/-- The reference's own frame. -/
theorem frame_reference : Cert.quiescent_ReferenceDmIdeal := fun m ρ _ =>
  (θ_run Cert.ReferenceDmIdeal.defs _ _).mono (fun r h => ⟨fun c => (h c).2, Idealize.ShloMosaic.sem_eq_zero_of_no_sems (by decide) r.2⟩)
    (Cert.ReferenceDmIdeal.Value.run (F := Ideal) m ρ)

end Cert.Proof.KernelDmIdeal

end
-- ==== Proof.RowsSsd.lean ====
/- The gradient of the recurrence's output projection in its rows: what the grid of blocks leaves is what the reference takes. -/
module

public import proofs.«01_k».proof.Proof.Blocks
public import proofs.«01_k».proof.Proof.Gen.KernelDynIdeal.Value
public import proofs.«01_k».proof.Proof.Gen.ReferenceDynIdeal.Read
public import proofs.«01_k».proof.Defs
public import Idealize.ShloMosaic.Lib.Tactic
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem

namespace Cert.KernelDynIdeal.Grad

open Cert.KernelDynIdeal Cert.KernelDynIdeal.Gen Cert.KernelDynIdeal.Value Cert.Sums

variable (m : (ℓ : Loc nD τ sig) → Buf (Elt Ideal) ℓ)

theorem index : ∀ t : Fin cfg0.N, (win0_0.index t (0 : Fin 2) = t.val / 1 ∧ win0_0.index t (1 : Fin 2) = 0) ∧ (win0_1.index t (0 : Fin 2) = t.val % 1 ∧ win0_1.index t (1 : Fin 2) = 0)
    ∧ (win0_2.index t (0 : Fin 2) = t.val / 1 ∧ win0_2.index t (1 : Fin 2) = t.val % 1) := (by decide +kernel : ∀ t : Fin grid0.N, _)
theorem flushes : ∀ t : Fin cfg0.N, (cfg0.win 2).flush t = true := (by decide +kernel : ∀ t : Fin grid0.N, _)

/-- The two arguments and the result. -/
def argL (c : Dev nD) : S8192x1024.Idx → EReal := m ((c : Thread nD τ).loc main_arg0)
def argR (c : Dev nD) : S2048x1024.Idx → EReal := m ((c : Thread nD τ).loc main_arg1)
def res (c : Dev nD) : S8192x2048.Idx → EReal := (dats m 0 c).arrAt 2 cfg0.N

theorem left_apply (c : Dev nD) (t : Fin cfg0.N) (r : Fin 1024) (k : Fin 1024) (r' : Fin 8192) (hr : r'.val = t.val / 1 * 1024 + 1 * r.val) :
    (iblk m c 0 t : Vec Ideal S1024x1024 .bf16) (ix2 r k) = argL m c (ix2 r' k) := by
  obtain ⟨⟨e0, e1⟩, -, -⟩ := index t
  unfold iblk argL
  rw [View.read_apply]
  exact congrArg (V m c main_arg0) (at_block rfl rfl e0 e1 hr (within k))

theorem right_apply (c : Dev nD) (t : Fin cfg0.N) (q : Fin 2048) (k : Fin 1024) (q' : Fin 2048) (hq : q'.val = t.val % 1 * 2048 + 1 * q.val) :
    (iblk m c 1 t : Vec Ideal S2048x1024 .bf16) (ix2 q k) = argR m c (ix2 q' k) := by
  obtain ⟨-, ⟨e0, e1⟩, -⟩ := index t
  unfold iblk argR
  rw [View.read_apply]
  exact congrArg (V m c main_arg1) (at_block rfl rfl e0 e1 hq (within k))

/-- The two blocks grid point `t` reads. -/
def blkL (c : Dev nD) (t : Fin cfg0.N) : S1024x1024.Idx → EReal := iblk m c 0 t
def blkR (c : Dev nD) (t : Fin cfg0.N) : S2048x1024.Idx → EReal := iblk m c 1 t

/-- What grid point `t` stores, entry by entry. -/
theorem stored_apply (c : Dev nD) (t : Fin cfg0.N) (r : Fin 1024) (q : Fin 2048) :
    (out0_2 (F := Ideal) (iblk m c 0 t) (iblk m c 1 t) : S1024x2048.Idx → EReal) (ix2 r q) = ∑ k : Fin 1024, blkL m c t (ix2 r k) * blkR m c t (ix2 q k) := by
  unfold blkL blkR
  unfold out0_2
  rw [View.canon_unit_zero (S := S1024x2048) zero2, View.ld_unit_zero (S := S1024x1024) zero2, View.ld_unit_zero (S := S2048x1024) zero2]
  unfold k0_pay1
  pointwise

/-- The result, entry by entry. -/
theorem result_apply (c : Dev nD) : ∀ (r : Fin 8192) (q : Fin 2048), res m c (ix2 r q) = ∑ k : Fin 1024, argL m c (ix2 r k) * argR m c (ix2 q k) := by
  refine of_blocks (n := cfg0.N) (TM := 1024) (TN := 2048) 8 1 (N_0.trans (by decide)) (by decide) (by decide) fun t r q r' q' hr hq => ?_
  obtain ⟨-, -, e0, e1⟩ := index t
  have hb := congrFun ((blocks2 m c t (flushes _)).trans (flushed2 m c t)) (ix2 r q)
  rw [View.read_apply] at hb
  refine ((congrArg (res m c) (at_block rfl rfl e0 e1 hr hq)).symm.trans hb).trans ((stored_apply m c t r q).trans ?_)
  exact Finset.sum_congr rfl fun k _ => congrArg₂ _ (left_apply m c t r k r' hr) (right_apply m c t q k q' hq)

end Cert.KernelDynIdeal.Grad

namespace Cert.Proof.KernelDynIdeal

open Cert.ReferenceDynIdeal Cert.ReferenceDynIdeal.Read

/-- The reference, entry by entry. -/
theorem ref_apply (x0 : S8192x1024.Idx → EReal) (x1 : S2048x1024.Idx → EReal) (r : Fin 8192) (q : Fin 2048) :
    val_main_v5 (F := Ideal) x0 x1 (ix2 r q) = ∑ k : Fin 1024, x0 (ix2 r k) * x1 (ix2 q k) := by
  rw [val_main_v5_apply, Ideal.truncf_def, val_main_v4_apply]
  refine Finset.sum_congr rfl fun k _ => ?_
  rw [val_main_v3_apply, val_main_v0_apply, Ideal.extf_def, Ideal.extf_def]
  congr 2 <;> (funext x; match x with | ⟨0, _⟩ => rfl | ⟨1, _⟩ => rfl)

theorem algebraic : Cert.algebraic_KernelDynIdeal_ReferenceDynIdeal := by
  intro m ρ m' ρ' _ hagree
  refine ⟨fun c => Cert.KernelDynIdeal.Grad.res m c, Cert.KernelDynIdeal.Value.run_blocks m ρ, ?_⟩
  refine (θ_run Cert.ReferenceDynIdeal.defs _ _).mono (fun _ h c => ⟨(h c).1.trans ?_, (h c).2⟩) (Cert.ReferenceDynIdeal.Value.run (F := Ideal) m' ρ')
  rw [val_main_v5_eq, (hagree c).1, (hagree c).2]
  exact Cert.Sums.by_entries fun r q => (ref_apply _ _ r q).trans (Cert.KernelDynIdeal.Grad.result_apply m c r q).symm

/-- The reference's own frame. -/
theorem frame_reference : Cert.quiescent_ReferenceDynIdeal := fun m ρ _ =>
  (θ_run Cert.ReferenceDynIdeal.defs _ _).mono (fun r h => ⟨fun c => (h c).2, Idealize.ShloMosaic.sem_eq_zero_of_no_sems (by decide) r.2⟩)
    (Cert.ReferenceDynIdeal.Value.run (F := Ideal) m ρ)

end Cert.Proof.KernelDynIdeal

end
-- ==== Proof.Adam.lean ====
/- One step of the optimiser, at one entry. -/
module

public import proofs.«01_k».proof.Proof.Blocks
public import Idealize.ShloMosaic.Lib.Pointwise
public import Idealize.ShloMosaic.Lib.Pipeline.ValueKit.Tiles

@[expose] public section

noncomputable section

namespace Cert.Adam

open Idealize.ShloMosaic Cert.Sums

/-- The constants of the step, as both sides spell them. -/
def c (b : BitVec 32) : EReal := Ideal.ofBits .f32 b

/-- The new first moment of an entry, from the old one and the gradient. -/
def moment (m g : EReal) : EReal := c 0x3F666666#32 * m + c 0x3DCCCCCD#32 * g
/-- The new second moment. -/
def square (v g : EReal) : EReal := c 0x3F7FBE77#32 * v + c 0x3A83126F#32 * (g * g)
/-- What is added to the entry. -/
def delta (w m v g : EReal) : EReal :=
  c 0xBA83126F#32 * (Ideal.div (Ideal.div (moment m g) (c 0x3F26BD02#32)) (Ideal.sqrt (Ideal.div (square v g) (c 0x3C231ACC#32)) + c 0x322BCC77#32) + c 0x3C23D70A#32 * w)

/-- The entry of the gradient, the sum of the devices' parts. -/
def total8 {R W : ℕ} (p : (⟨3, ![8, R, W]⟩ : Shape).Idx → EReal) (r : Fin R) (q : Fin W) : EReal :=
  p (ix3 0 r q) + p (ix3 1 r q) + p (ix3 2 r q) + p (ix3 3 r q) + p (ix3 4 r q) + p (ix3 5 r q) + p (ix3 6 r q) + p (ix3 7 r q)

/-- The same, of a gradient that is given whole. -/
def total1 {R W : ℕ} (p : (⟨3, ![1, R, W]⟩ : Shape).Idx → EReal) (r : Fin R) (q : Fin W) : EReal := p (ix3 0 r q)

/-- A sum over one device, from zero, is the part itself. -/
theorem sum_whole {R W : ℕ} (p : (⟨3, ![1, R, W]⟩ : Shape).Idx → EReal) (i : (⟨2, ![R, W]⟩ : Shape).Idx) (y : (⟨3, ![1, R, W]⟩ : Shape).Idx) (h : ∀ x, y x = ix3 0 (i 0) (i 1) x) :
    Ideal.ofBits .f32 0x00000000#32 + p y = total1 p (i 0) (i 1) := by
  rw [Ideal.ofBits_zero_f32, zero_add, funext h]
  rfl

/-- A sum over the eight devices, from zero, is the sum of the parts. -/
theorem sum_parts {R W : ℕ} (p : (⟨3, ![8, R, W]⟩ : Shape).Idx → EReal) (r : Fin R) (q : Fin W) (y : Fin 8 → (⟨3, ![8, R, W]⟩ : Shape).Idx) (h : ∀ k x, y k x = ix3 k r q x) :
    Ideal.ofBits .f32 0x00000000#32 + ∑ k, p (y k) = total8 p r q := by
  rw [Ideal.ofBits_zero_f32, zero_add, Fin.sum_univ_eight]
  simp only [funext (h _)]
  rfl

end Cert.Adam

end
-- ==== Proof.AdamH.lean ====
/- The optimiser's step on a vector of one entry per head: the call's one block, and the reference. -/
module

public import proofs.«01_k».proof.Proof.Adam
public import proofs.«01_k».proof.Proof.Gen.KernelAdamHIdeal.Value
public import proofs.«01_k».proof.Proof.Gen.ReferenceAdamHIdeal.Read
public import proofs.«01_k».proof.Defs
public import Idealize.ShloMosaic.Lib.Tactic
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem

namespace Cert.KernelAdamHIdeal.Grad

open Cert.KernelAdamHIdeal Cert.KernelAdamHIdeal.Gen Cert.KernelAdamHIdeal.Value Cert.Sums Cert.Adam

/-- What the block's stores leave, entry by entry. -/
theorem stored (a0 : S1x1x32.Idx → EReal) (a1 a2 a3 : S1x32.Idx → EReal) (y : S1x32.Idx) :
    out0_4 (F := Ideal) a0 a1 a2 a3 y = total1 a0 (y 0) (y 1) ∧ out0_5 (F := Ideal) a0 a1 a2 a3 y = delta (a1 y) (a2 y) (a3 y) (total1 a0 (y 0) (y 1))
      ∧ out0_6 (F := Ideal) a0 a1 a2 a3 y = moment (a2 y) (total1 a0 (y 0) (y 1)) ∧ out0_7 (F := Ideal) a0 a1 a2 a3 y = square (a3 y) (total1 a0 (y 0) (y 1)) := by
  unfold out0_4 out0_5 out0_6 out0_7
  refine ⟨?_, ?_, ?_, ?_⟩
  on_goal 4 => canon_tiles x h using cover0_7 ..
  on_goal 3 => canon_tiles x h using cover0_6 ..
  on_goal 2 => canon_tiles x h using cover0_5 ..
  on_goal 1 => canon_tiles x h using cover0_4 ..
  all_goals
    obtain ⟨r, q, rfl⟩ := places x
    obtain rfl : r = 0 := Subsingleton.elim _ _
    open_payloads
    pointwise
    rw [place h0 h1]
    rfl

end Cert.KernelAdamHIdeal.Grad

namespace Cert.Proof.KernelAdamHIdeal

open Cert.ReferenceAdamHIdeal Cert.ReferenceAdamHIdeal.Read Cert.Sums Cert.Adam Cert.KernelAdamHIdeal.Grad Cert.KernelAdamHIdeal.Value

/-- The reference's gradient, which the call takes whole. -/
theorem reference_total (x0 : S1x1x32.Idx → EReal) (i : S1x32.Idx) : val_main_v0 (F := Ideal) x0 i = total1 x0 (i 0) (i 1) := by
  rw [val_main_v0_apply, Fin.sum_univ_one]
  exact sum_whole x0 i _ fun x => match x with | ⟨0, _⟩ => rfl | ⟨1, _⟩ => rfl | ⟨2, _⟩ => rfl

theorem algebraic : Cert.algebraic_KernelAdamHIdeal_ReferenceAdamHIdeal := by
  intro m ρ m' ρ' _ hagree
  refine ⟨_, _, _, _, Cert.KernelAdamHIdeal.Value.run m ρ, ?_⟩
  refine (θ_run Cert.ReferenceAdamHIdeal.defs _ _).mono (fun _ h c => ⟨(h c).1.trans ?_, (h c).2.1.trans ?_, (h c).2.2.1.trans ?_, (h c).2.2.2.1.trans ?_, (h c).2.2.2.2⟩) (Cert.ReferenceAdamHIdeal.Value.run (F := Ideal) m' ρ')
  · rw [val_main_v0_eq, (hagree c).1, ← out4_eq]
    exact funext fun i => (reference_total _ i).trans (stored _ _ _ _ i).1.symm
  · rw [val_main_v24_eq, (hagree c).1, (hagree c).2.1, (hagree c).2.2.1, (hagree c).2.2.2, ← out5_eq]
    exact funext fun i => (congrArg (delta _ _ _) (reference_total _ i)).trans (stored _ _ _ _ i).2.1.symm
  · rw [val_main_v5_eq, (hagree c).1, (hagree c).2.2.1, ← out6_eq]
    exact funext fun i => (congrArg (moment _) (reference_total _ i)).trans (stored _ _ _ _ i).2.2.1.symm
  · rw [val_main_v11_eq, (hagree c).1, (hagree c).2.2.2, ← out7_eq]
    exact funext fun i => (congrArg (square _) (reference_total _ i)).trans (stored _ _ _ _ i).2.2.2.symm

/-- The reference's own frame. -/
theorem frame_reference : Cert.quiescent_ReferenceAdamHIdeal := fun m ρ _ =>
  (θ_run Cert.ReferenceAdamHIdeal.defs _ _).mono (fun r h => ⟨fun c => (h c).2.2.2.2, Idealize.ShloMosaic.sem_eq_zero_of_no_sems (by decide) r.2⟩)
    (Cert.ReferenceAdamHIdeal.Value.run (F := Ideal) m ρ)

end Cert.Proof.KernelAdamHIdeal

end
-- ==== Proof.AdamFb.lean ====
/- The optimiser's step on the bias of the last short convolution: the call's one block, and the reference. -/
module

public import proofs.«01_k».proof.Proof.Adam
public import proofs.«01_k».proof.Proof.Gen.KernelAdamFbIdeal.Value
public import proofs.«01_k».proof.Proof.Gen.ReferenceAdamFbIdeal.Read
public import proofs.«01_k».proof.Defs
public import Idealize.ShloMosaic.Lib.Tactic
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem

namespace Cert.KernelAdamFbIdeal.Grad

open Cert.KernelAdamFbIdeal Cert.KernelAdamFbIdeal.Gen Cert.KernelAdamFbIdeal.Value Cert.Sums Cert.Adam

/-- What the block's stores leave, entry by entry. -/
theorem stored (a0 : S1x1x2816.Idx → EReal) (a1 a2 a3 : S1x2816.Idx → EReal) (y : S1x2816.Idx) :
    out0_4 (F := Ideal) a0 a1 a2 a3 y = total1 a0 (y 0) (y 1) ∧ out0_5 (F := Ideal) a0 a1 a2 a3 y = delta (a1 y) (a2 y) (a3 y) (total1 a0 (y 0) (y 1))
      ∧ out0_6 (F := Ideal) a0 a1 a2 a3 y = moment (a2 y) (total1 a0 (y 0) (y 1)) ∧ out0_7 (F := Ideal) a0 a1 a2 a3 y = square (a3 y) (total1 a0 (y 0) (y 1)) := by
  unfold out0_4 out0_5 out0_6 out0_7
  refine ⟨?_, ?_, ?_, ?_⟩
  on_goal 4 => canon_tiles x h using cover0_7 ..
  on_goal 3 => canon_tiles x h using cover0_6 ..
  on_goal 2 => canon_tiles x h using cover0_5 ..
  on_goal 1 => canon_tiles x h using cover0_4 ..
  all_goals
    obtain ⟨r, q, rfl⟩ := places x
    obtain rfl : r = 0 := Subsingleton.elim _ _
    open_payloads
    pointwise
    rw [place h0 h1]
    rfl

end Cert.KernelAdamFbIdeal.Grad

namespace Cert.Proof.KernelAdamFbIdeal

open Cert.ReferenceAdamFbIdeal Cert.ReferenceAdamFbIdeal.Read Cert.Sums Cert.Adam Cert.KernelAdamFbIdeal.Grad Cert.KernelAdamFbIdeal.Value

/-- The reference's gradient, which the call takes whole. -/
theorem reference_total (x0 : S1x1x2816.Idx → EReal) (i : S1x2816.Idx) : val_main_v0 (F := Ideal) x0 i = total1 x0 (i 0) (i 1) := by
  rw [val_main_v0_apply, Fin.sum_univ_one]
  exact sum_whole x0 i _ fun x => match x with | ⟨0, _⟩ => rfl | ⟨1, _⟩ => rfl | ⟨2, _⟩ => rfl

theorem algebraic : Cert.algebraic_KernelAdamFbIdeal_ReferenceAdamFbIdeal := by
  intro m ρ m' ρ' _ hagree
  refine ⟨_, _, _, _, Cert.KernelAdamFbIdeal.Value.run m ρ, ?_⟩
  refine (θ_run Cert.ReferenceAdamFbIdeal.defs _ _).mono (fun _ h c => ⟨(h c).1.trans ?_, (h c).2.1.trans ?_, (h c).2.2.1.trans ?_, (h c).2.2.2.1.trans ?_, (h c).2.2.2.2⟩) (Cert.ReferenceAdamFbIdeal.Value.run (F := Ideal) m' ρ')
  · rw [val_main_v0_eq, (hagree c).1, ← out4_eq]
    exact funext fun i => (reference_total _ i).trans (stored _ _ _ _ i).1.symm
  · rw [val_main_v24_eq, (hagree c).1, (hagree c).2.1, (hagree c).2.2.1, (hagree c).2.2.2, ← out5_eq]
    exact funext fun i => (congrArg (delta _ _ _) (reference_total _ i)).trans (stored _ _ _ _ i).2.1.symm
  · rw [val_main_v5_eq, (hagree c).1, (hagree c).2.2.1, ← out6_eq]
    exact funext fun i => (congrArg (moment _) (reference_total _ i)).trans (stored _ _ _ _ i).2.2.1.symm
  · rw [val_main_v11_eq, (hagree c).1, (hagree c).2.2.2, ← out7_eq]
    exact funext fun i => (congrArg (square _) (reference_total _ i)).trans (stored _ _ _ _ i).2.2.2.symm

/-- The reference's own frame. -/
theorem frame_reference : Cert.quiescent_ReferenceAdamFbIdeal := fun m ρ _ =>
  (θ_run Cert.ReferenceAdamFbIdeal.defs _ _).mono (fun r h => ⟨fun c => (h c).2.2.2.2, Idealize.ShloMosaic.sem_eq_zero_of_no_sems (by decide) r.2⟩)
    (Cert.ReferenceAdamFbIdeal.Value.run (F := Ideal) m ρ)

end Cert.Proof.KernelAdamFbIdeal

end
-- ==== Proof.AdamCa.lean ====
/- The optimiser's step on the taps of the first short convolution: the call's one block, and the reference. -/
module

public import proofs.«01_k».proof.Proof.Adam
public import proofs.«01_k».proof.Proof.Gen.KernelAdamCaIdeal.Value
public import proofs.«01_k».proof.Proof.Gen.ReferenceAdamCaIdeal.Read
public import proofs.«01_k».proof.Defs
public import Idealize.ShloMosaic.Lib.Tactic
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem

namespace Cert.KernelAdamCaIdeal.Grad

open Cert.KernelAdamCaIdeal Cert.KernelAdamCaIdeal.Gen Cert.KernelAdamCaIdeal.Value Cert.Sums Cert.Adam

/-- What the block's stores leave, entry by entry. -/
theorem stored (a0 : S1x3x128.Idx → EReal) (a1 a2 a3 : S3x128.Idx → EReal) (y : S3x128.Idx) :
    out0_4 (F := Ideal) a0 a1 a2 a3 y = total1 a0 (y 0) (y 1) ∧ out0_5 (F := Ideal) a0 a1 a2 a3 y = delta (a1 y) (a2 y) (a3 y) (total1 a0 (y 0) (y 1))
      ∧ out0_6 (F := Ideal) a0 a1 a2 a3 y = moment (a2 y) (total1 a0 (y 0) (y 1)) ∧ out0_7 (F := Ideal) a0 a1 a2 a3 y = square (a3 y) (total1 a0 (y 0) (y 1)) := by
  unfold out0_4 out0_5 out0_6 out0_7
  refine ⟨?_, ?_, ?_, ?_⟩
  on_goal 4 => canon_tiles x h using cover0_7 ..
  on_goal 3 => canon_tiles x h using cover0_6 ..
  on_goal 2 => canon_tiles x h using cover0_5 ..
  on_goal 1 => canon_tiles x h using cover0_4 ..
  all_goals
    obtain ⟨r, q, rfl⟩ := places x
    open_payloads
    pointwise
    rw [place h0 h1]
    rfl

end Cert.KernelAdamCaIdeal.Grad

namespace Cert.Proof.KernelAdamCaIdeal

open Cert.ReferenceAdamCaIdeal Cert.ReferenceAdamCaIdeal.Read Cert.Sums Cert.Adam Cert.KernelAdamCaIdeal.Grad Cert.KernelAdamCaIdeal.Value

/-- The reference's gradient, which the call takes whole. -/
theorem reference_total (x0 : S1x3x128.Idx → EReal) (i : S3x128.Idx) : val_main_v0 (F := Ideal) x0 i = total1 x0 (i 0) (i 1) := by
  rw [val_main_v0_apply, Fin.sum_univ_one]
  exact sum_whole x0 i _ fun x => match x with | ⟨0, _⟩ => rfl | ⟨1, _⟩ => rfl | ⟨2, _⟩ => rfl

theorem algebraic : Cert.algebraic_KernelAdamCaIdeal_ReferenceAdamCaIdeal := by
  intro m ρ m' ρ' _ hagree
  refine ⟨_, _, _, _, Cert.KernelAdamCaIdeal.Value.run m ρ, ?_⟩
  refine (θ_run Cert.ReferenceAdamCaIdeal.defs _ _).mono (fun _ h c => ⟨(h c).1.trans ?_, (h c).2.1.trans ?_, (h c).2.2.1.trans ?_, (h c).2.2.2.1.trans ?_, (h c).2.2.2.2⟩) (Cert.ReferenceAdamCaIdeal.Value.run (F := Ideal) m' ρ')
  · rw [val_main_v0_eq, (hagree c).1, ← out4_eq]
    exact funext fun i => (reference_total _ i).trans (stored _ _ _ _ i).1.symm
  · rw [val_main_v24_eq, (hagree c).1, (hagree c).2.1, (hagree c).2.2.1, (hagree c).2.2.2, ← out5_eq]
    exact funext fun i => (congrArg (delta _ _ _) (reference_total _ i)).trans (stored _ _ _ _ i).2.1.symm
  · rw [val_main_v5_eq, (hagree c).1, (hagree c).2.2.1, ← out6_eq]
    exact funext fun i => (congrArg (moment _) (reference_total _ i)).trans (stored _ _ _ _ i).2.2.1.symm
  · rw [val_main_v11_eq, (hagree c).1, (hagree c).2.2.2, ← out7_eq]
    exact funext fun i => (congrArg (square _) (reference_total _ i)).trans (stored _ _ _ _ i).2.2.2.symm

/-- The reference's own frame. -/
theorem frame_reference : Cert.quiescent_ReferenceAdamCaIdeal := fun m ρ _ =>
  (θ_run Cert.ReferenceAdamCaIdeal.defs _ _).mono (fun r h => ⟨fun c => (h c).2.2.2.2, Idealize.ShloMosaic.sem_eq_zero_of_no_sems (by decide) r.2⟩)
    (Cert.ReferenceAdamCaIdeal.Value.run (F := Ideal) m ρ)

end Cert.Proof.KernelAdamCaIdeal

end
-- ==== Proof.AdamCs.lean ====
/- The optimiser's step on the taps of the recurrence's short convolution: the call's one block, and the reference. -/
module

public import proofs.«01_k».proof.Proof.Adam
public import proofs.«01_k».proof.Proof.Gen.KernelAdamCsIdeal.Value
public import proofs.«01_k».proof.Proof.Gen.ReferenceAdamCsIdeal.Read
public import proofs.«01_k».proof.Defs
public import Idealize.ShloMosaic.Lib.Tactic
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem

namespace Cert.KernelAdamCsIdeal.Grad

open Cert.KernelAdamCsIdeal Cert.KernelAdamCsIdeal.Gen Cert.KernelAdamCsIdeal.Value Cert.Sums Cert.Adam

/-- What the block's stores leave, entry by entry. -/
theorem stored (a0 : S1x4x384.Idx → EReal) (a1 a2 a3 : S4x384.Idx → EReal) (y : S4x384.Idx) :
    out0_4 (F := Ideal) a0 a1 a2 a3 y = total1 a0 (y 0) (y 1) ∧ out0_5 (F := Ideal) a0 a1 a2 a3 y = delta (a1 y) (a2 y) (a3 y) (total1 a0 (y 0) (y 1))
      ∧ out0_6 (F := Ideal) a0 a1 a2 a3 y = moment (a2 y) (total1 a0 (y 0) (y 1)) ∧ out0_7 (F := Ideal) a0 a1 a2 a3 y = square (a3 y) (total1 a0 (y 0) (y 1)) := by
  unfold out0_4 out0_5 out0_6 out0_7
  refine ⟨?_, ?_, ?_, ?_⟩
  on_goal 4 => canon_tiles x h using cover0_7 ..
  on_goal 3 => canon_tiles x h using cover0_6 ..
  on_goal 2 => canon_tiles x h using cover0_5 ..
  on_goal 1 => canon_tiles x h using cover0_4 ..
  all_goals
    obtain ⟨r, q, rfl⟩ := places x
    open_payloads
    pointwise
    rw [place h0 h1]
    rfl

end Cert.KernelAdamCsIdeal.Grad

namespace Cert.Proof.KernelAdamCsIdeal

open Cert.ReferenceAdamCsIdeal Cert.ReferenceAdamCsIdeal.Read Cert.Sums Cert.Adam Cert.KernelAdamCsIdeal.Grad Cert.KernelAdamCsIdeal.Value

/-- The reference's gradient, which the call takes whole. -/
theorem reference_total (x0 : S1x4x384.Idx → EReal) (i : S4x384.Idx) : val_main_v0 (F := Ideal) x0 i = total1 x0 (i 0) (i 1) := by
  rw [val_main_v0_apply, Fin.sum_univ_one]
  exact sum_whole x0 i _ fun x => match x with | ⟨0, _⟩ => rfl | ⟨1, _⟩ => rfl | ⟨2, _⟩ => rfl

theorem algebraic : Cert.algebraic_KernelAdamCsIdeal_ReferenceAdamCsIdeal := by
  intro m ρ m' ρ' _ hagree
  refine ⟨_, _, _, _, Cert.KernelAdamCsIdeal.Value.run m ρ, ?_⟩
  refine (θ_run Cert.ReferenceAdamCsIdeal.defs _ _).mono (fun _ h c => ⟨(h c).1.trans ?_, (h c).2.1.trans ?_, (h c).2.2.1.trans ?_, (h c).2.2.2.1.trans ?_, (h c).2.2.2.2⟩) (Cert.ReferenceAdamCsIdeal.Value.run (F := Ideal) m' ρ')
  · rw [val_main_v0_eq, (hagree c).1, ← out4_eq]
    exact funext fun i => (reference_total _ i).trans (stored _ _ _ _ i).1.symm
  · rw [val_main_v24_eq, (hagree c).1, (hagree c).2.1, (hagree c).2.2.1, (hagree c).2.2.2, ← out5_eq]
    exact funext fun i => (congrArg (delta _ _ _) (reference_total _ i)).trans (stored _ _ _ _ i).2.1.symm
  · rw [val_main_v5_eq, (hagree c).1, (hagree c).2.2.1, ← out6_eq]
    exact funext fun i => (congrArg (moment _) (reference_total _ i)).trans (stored _ _ _ _ i).2.2.1.symm
  · rw [val_main_v11_eq, (hagree c).1, (hagree c).2.2.2, ← out7_eq]
    exact funext fun i => (congrArg (square _) (reference_total _ i)).trans (stored _ _ _ _ i).2.2.2.symm

/-- The reference's own frame. -/
theorem frame_reference : Cert.quiescent_ReferenceAdamCsIdeal := fun m ρ _ =>
  (θ_run Cert.ReferenceAdamCsIdeal.defs _ _).mono (fun r h => ⟨fun c => (h c).2.2.2.2, Idealize.ShloMosaic.sem_eq_zero_of_no_sems (by decide) r.2⟩)
    (Cert.ReferenceAdamCsIdeal.Value.run (F := Ideal) m ρ)

end Cert.Proof.KernelAdamCsIdeal

end
-- ==== Proof.AdamCf.lean ====
/- The optimiser's step on the taps of the last short convolution: the call's one block, and the reference. -/
module

public import proofs.«01_k».proof.Proof.Adam
public import proofs.«01_k».proof.Proof.Gen.KernelAdamCfIdeal.Value
public import proofs.«01_k».proof.Proof.Gen.ReferenceAdamCfIdeal.Read
public import proofs.«01_k».proof.Defs
public import Idealize.ShloMosaic.Lib.Tactic
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem

namespace Cert.KernelAdamCfIdeal.Grad

open Cert.KernelAdamCfIdeal Cert.KernelAdamCfIdeal.Gen Cert.KernelAdamCfIdeal.Value Cert.Sums Cert.Adam

/-- What the block's stores leave, entry by entry. -/
theorem stored (a0 : S1x3x352.Idx → EReal) (a1 a2 a3 : S3x352.Idx → EReal) (y : S3x352.Idx) :
    out0_4 (F := Ideal) a0 a1 a2 a3 y = total1 a0 (y 0) (y 1) ∧ out0_5 (F := Ideal) a0 a1 a2 a3 y = delta (a1 y) (a2 y) (a3 y) (total1 a0 (y 0) (y 1))
      ∧ out0_6 (F := Ideal) a0 a1 a2 a3 y = moment (a2 y) (total1 a0 (y 0) (y 1)) ∧ out0_7 (F := Ideal) a0 a1 a2 a3 y = square (a3 y) (total1 a0 (y 0) (y 1)) := by
  unfold out0_4 out0_5 out0_6 out0_7
  refine ⟨?_, ?_, ?_, ?_⟩
  on_goal 4 => canon_tiles x h using cover0_7 ..
  on_goal 3 => canon_tiles x h using cover0_6 ..
  on_goal 2 => canon_tiles x h using cover0_5 ..
  on_goal 1 => canon_tiles x h using cover0_4 ..
  all_goals
    obtain ⟨r, q, rfl⟩ := places x
    open_payloads
    pointwise
    rw [place h0 h1]
    rfl

end Cert.KernelAdamCfIdeal.Grad

namespace Cert.Proof.KernelAdamCfIdeal

open Cert.ReferenceAdamCfIdeal Cert.ReferenceAdamCfIdeal.Read Cert.Sums Cert.Adam Cert.KernelAdamCfIdeal.Grad Cert.KernelAdamCfIdeal.Value

/-- The reference's gradient, which the call takes whole. -/
theorem reference_total (x0 : S1x3x352.Idx → EReal) (i : S3x352.Idx) : val_main_v0 (F := Ideal) x0 i = total1 x0 (i 0) (i 1) := by
  rw [val_main_v0_apply, Fin.sum_univ_one]
  exact sum_whole x0 i _ fun x => match x with | ⟨0, _⟩ => rfl | ⟨1, _⟩ => rfl | ⟨2, _⟩ => rfl

theorem algebraic : Cert.algebraic_KernelAdamCfIdeal_ReferenceAdamCfIdeal := by
  intro m ρ m' ρ' _ hagree
  refine ⟨_, _, _, _, Cert.KernelAdamCfIdeal.Value.run m ρ, ?_⟩
  refine (θ_run Cert.ReferenceAdamCfIdeal.defs _ _).mono (fun _ h c => ⟨(h c).1.trans ?_, (h c).2.1.trans ?_, (h c).2.2.1.trans ?_, (h c).2.2.2.1.trans ?_, (h c).2.2.2.2⟩) (Cert.ReferenceAdamCfIdeal.Value.run (F := Ideal) m' ρ')
  · rw [val_main_v0_eq, (hagree c).1, ← out4_eq]
    exact funext fun i => (reference_total _ i).trans (stored _ _ _ _ i).1.symm
  · rw [val_main_v24_eq, (hagree c).1, (hagree c).2.1, (hagree c).2.2.1, (hagree c).2.2.2, ← out5_eq]
    exact funext fun i => (congrArg (delta _ _ _) (reference_total _ i)).trans (stored _ _ _ _ i).2.1.symm
  · rw [val_main_v5_eq, (hagree c).1, (hagree c).2.2.1, ← out6_eq]
    exact funext fun i => (congrArg (moment _) (reference_total _ i)).trans (stored _ _ _ _ i).2.2.1.symm
  · rw [val_main_v11_eq, (hagree c).1, (hagree c).2.2.2, ← out7_eq]
    exact funext fun i => (congrArg (square _) (reference_total _ i)).trans (stored _ _ _ _ i).2.2.2.symm

/-- The reference's own frame. -/
theorem frame_reference : Cert.quiescent_ReferenceAdamCfIdeal := fun m ρ _ =>
  (θ_run Cert.ReferenceAdamCfIdeal.defs _ _).mono (fun r h => ⟨fun c => (h c).2.2.2.2, Idealize.ShloMosaic.sem_eq_zero_of_no_sems (by decide) r.2⟩)
    (Cert.ReferenceAdamCfIdeal.Value.run (F := Ideal) m ρ)

end Cert.Proof.KernelAdamCfIdeal

end
-- ==== Proof.AdamN.lean ====
/- The optimiser's step on the weights of a norm: the call's one block, and the reference. -/
module

public import proofs.«01_k».proof.Proof.Adam
public import proofs.«01_k».proof.Proof.Gen.KernelAdamNIdeal.Value
public import proofs.«01_k».proof.Proof.Gen.ReferenceAdamNIdeal.Read
public import proofs.«01_k».proof.Defs
public import Idealize.ShloMosaic.Lib.Tactic
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem

namespace Cert.KernelAdamNIdeal.Grad

open Cert.KernelAdamNIdeal Cert.KernelAdamNIdeal.Gen Cert.KernelAdamNIdeal.Value Cert.Sums Cert.Adam

/-- What the block's stores leave, entry by entry. -/
theorem stored (a0 : S1x1x1024.Idx → EReal) (a1 a2 a3 : S1x1024.Idx → EReal) (y : S1x1024.Idx) :
    out0_4 (F := Ideal) a0 a1 a2 a3 y = total1 a0 (y 0) (y 1) ∧ out0_5 (F := Ideal) a0 a1 a2 a3 y = delta (a1 y) (a2 y) (a3 y) (total1 a0 (y 0) (y 1))
      ∧ out0_6 (F := Ideal) a0 a1 a2 a3 y = moment (a2 y) (total1 a0 (y 0) (y 1)) ∧ out0_7 (F := Ideal) a0 a1 a2 a3 y = square (a3 y) (total1 a0 (y 0) (y 1)) := by
  unfold out0_4 out0_5 out0_6 out0_7
  refine ⟨?_, ?_, ?_, ?_⟩
  on_goal 4 => canon_tiles x h using cover0_7 ..
  on_goal 3 => canon_tiles x h using cover0_6 ..
  on_goal 2 => canon_tiles x h using cover0_5 ..
  on_goal 1 => canon_tiles x h using cover0_4 ..
  all_goals
    obtain ⟨r, q, rfl⟩ := places x
    obtain rfl : r = 0 := Subsingleton.elim _ _
    open_payloads
    pointwise
    rw [place h0 h1]
    rfl

end Cert.KernelAdamNIdeal.Grad

namespace Cert.Proof.KernelAdamNIdeal

open Cert.ReferenceAdamNIdeal Cert.ReferenceAdamNIdeal.Read Cert.Sums Cert.Adam Cert.KernelAdamNIdeal.Grad Cert.KernelAdamNIdeal.Value

/-- The reference's gradient, which the call takes whole. -/
theorem reference_total (x0 : S1x1x1024.Idx → EReal) (i : S1x1024.Idx) : val_main_v0 (F := Ideal) x0 i = total1 x0 (i 0) (i 1) := by
  rw [val_main_v0_apply, Fin.sum_univ_one]
  exact sum_whole x0 i _ fun x => match x with | ⟨0, _⟩ => rfl | ⟨1, _⟩ => rfl | ⟨2, _⟩ => rfl

theorem algebraic : Cert.algebraic_KernelAdamNIdeal_ReferenceAdamNIdeal := by
  intro m ρ m' ρ' _ hagree
  refine ⟨_, _, _, _, Cert.KernelAdamNIdeal.Value.run m ρ, ?_⟩
  refine (θ_run Cert.ReferenceAdamNIdeal.defs _ _).mono (fun _ h c => ⟨(h c).1.trans ?_, (h c).2.1.trans ?_, (h c).2.2.1.trans ?_, (h c).2.2.2.1.trans ?_, (h c).2.2.2.2⟩) (Cert.ReferenceAdamNIdeal.Value.run (F := Ideal) m' ρ')
  · rw [val_main_v0_eq, (hagree c).1, ← out4_eq]
    exact funext fun i => (reference_total _ i).trans (stored _ _ _ _ i).1.symm
  · rw [val_main_v24_eq, (hagree c).1, (hagree c).2.1, (hagree c).2.2.1, (hagree c).2.2.2, ← out5_eq]
    exact funext fun i => (congrArg (delta _ _ _) (reference_total _ i)).trans (stored _ _ _ _ i).2.1.symm
  · rw [val_main_v5_eq, (hagree c).1, (hagree c).2.2.1, ← out6_eq]
    exact funext fun i => (congrArg (moment _) (reference_total _ i)).trans (stored _ _ _ _ i).2.2.1.symm
  · rw [val_main_v11_eq, (hagree c).1, (hagree c).2.2.2, ← out7_eq]
    exact funext fun i => (congrArg (square _) (reference_total _ i)).trans (stored _ _ _ _ i).2.2.2.symm

/-- The reference's own frame. -/
theorem frame_reference : Cert.quiescent_ReferenceAdamNIdeal := fun m ρ _ =>
  (θ_run Cert.ReferenceAdamNIdeal.defs _ _).mono (fun r h => ⟨fun c => (h c).2.2.2.2, Idealize.ShloMosaic.sem_eq_zero_of_no_sems (by decide) r.2⟩)
    (Cert.ReferenceAdamNIdeal.Value.run (F := Ideal) m ρ)

end Cert.Proof.KernelAdamNIdeal

end
-- ==== Proof.AdamSn.lean ====
/- The optimiser's step on the weights of the gated norm: the call's one block, and the reference. -/
module

public import proofs.«01_k».proof.Proof.Adam
public import proofs.«01_k».proof.Proof.Gen.KernelAdamSnIdeal.Value
public import proofs.«01_k».proof.Proof.Gen.ReferenceAdamSnIdeal.Read
public import proofs.«01_k».proof.Defs
public import Idealize.ShloMosaic.Lib.Tactic
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem

namespace Cert.KernelAdamSnIdeal.Grad

open Cert.KernelAdamSnIdeal Cert.KernelAdamSnIdeal.Gen Cert.KernelAdamSnIdeal.Value Cert.Sums Cert.Adam

/-- What the block's stores leave, entry by entry. -/
theorem stored (a0 : S1x1x2048.Idx → EReal) (a1 a2 a3 : S1x2048.Idx → EReal) (y : S1x2048.Idx) :
    out0_4 (F := Ideal) a0 a1 a2 a3 y = total1 a0 (y 0) (y 1) ∧ out0_5 (F := Ideal) a0 a1 a2 a3 y = delta (a1 y) (a2 y) (a3 y) (total1 a0 (y 0) (y 1))
      ∧ out0_6 (F := Ideal) a0 a1 a2 a3 y = moment (a2 y) (total1 a0 (y 0) (y 1)) ∧ out0_7 (F := Ideal) a0 a1 a2 a3 y = square (a3 y) (total1 a0 (y 0) (y 1)) := by
  unfold out0_4 out0_5 out0_6 out0_7
  refine ⟨?_, ?_, ?_, ?_⟩
  on_goal 4 => canon_tiles x h using cover0_7 ..
  on_goal 3 => canon_tiles x h using cover0_6 ..
  on_goal 2 => canon_tiles x h using cover0_5 ..
  on_goal 1 => canon_tiles x h using cover0_4 ..
  all_goals
    obtain ⟨r, q, rfl⟩ := places x
    obtain rfl : r = 0 := Subsingleton.elim _ _
    open_payloads
    pointwise
    rw [place h0 h1]
    rfl

end Cert.KernelAdamSnIdeal.Grad

namespace Cert.Proof.KernelAdamSnIdeal

open Cert.ReferenceAdamSnIdeal Cert.ReferenceAdamSnIdeal.Read Cert.Sums Cert.Adam Cert.KernelAdamSnIdeal.Grad Cert.KernelAdamSnIdeal.Value

/-- The reference's gradient, which the call takes whole. -/
theorem reference_total (x0 : S1x1x2048.Idx → EReal) (i : S1x2048.Idx) : val_main_v0 (F := Ideal) x0 i = total1 x0 (i 0) (i 1) := by
  rw [val_main_v0_apply, Fin.sum_univ_one]
  exact sum_whole x0 i _ fun x => match x with | ⟨0, _⟩ => rfl | ⟨1, _⟩ => rfl | ⟨2, _⟩ => rfl

theorem algebraic : Cert.algebraic_KernelAdamSnIdeal_ReferenceAdamSnIdeal := by
  intro m ρ m' ρ' _ hagree
  refine ⟨_, _, _, _, Cert.KernelAdamSnIdeal.Value.run m ρ, ?_⟩
  refine (θ_run Cert.ReferenceAdamSnIdeal.defs _ _).mono (fun _ h c => ⟨(h c).1.trans ?_, (h c).2.1.trans ?_, (h c).2.2.1.trans ?_, (h c).2.2.2.1.trans ?_, (h c).2.2.2.2⟩) (Cert.ReferenceAdamSnIdeal.Value.run (F := Ideal) m' ρ')
  · rw [val_main_v0_eq, (hagree c).1, ← out4_eq]
    exact funext fun i => (reference_total _ i).trans (stored _ _ _ _ i).1.symm
  · rw [val_main_v24_eq, (hagree c).1, (hagree c).2.1, (hagree c).2.2.1, (hagree c).2.2.2, ← out5_eq]
    exact funext fun i => (congrArg (delta _ _ _) (reference_total _ i)).trans (stored _ _ _ _ i).2.1.symm
  · rw [val_main_v5_eq, (hagree c).1, (hagree c).2.2.1, ← out6_eq]
    exact funext fun i => (congrArg (moment _) (reference_total _ i)).trans (stored _ _ _ _ i).2.2.1.symm
  · rw [val_main_v11_eq, (hagree c).1, (hagree c).2.2.2, ← out7_eq]
    exact funext fun i => (congrArg (square _) (reference_total _ i)).trans (stored _ _ _ _ i).2.2.2.symm

/-- The reference's own frame. -/
theorem frame_reference : Cert.quiescent_ReferenceAdamSnIdeal := fun m ρ _ =>
  (θ_run Cert.ReferenceAdamSnIdeal.defs _ _).mono (fun r h => ⟨fun c => (h c).2.2.2.2, Idealize.ShloMosaic.sem_eq_zero_of_no_sems (by decide) r.2⟩)
    (Cert.ReferenceAdamSnIdeal.Value.run (F := Ideal) m ρ)

end Cert.Proof.KernelAdamSnIdeal

end
-- ==== Proof.AdamSb.lean ====
/- The optimiser's step on the bias of the recurrence's short convolution: the call's one block, and the reference. -/
module

public import proofs.«01_k».proof.Proof.Adam
public import proofs.«01_k».proof.Proof.Gen.KernelAdamSbIdeal.Value
public import proofs.«01_k».proof.Proof.Gen.ReferenceAdamSbIdeal.Read
public import proofs.«01_k».proof.Defs
public import Idealize.ShloMosaic.Lib.Tactic
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem

namespace Cert.KernelAdamSbIdeal.Grad

open Cert.KernelAdamSbIdeal Cert.KernelAdamSbIdeal.Gen Cert.KernelAdamSbIdeal.Value Cert.Sums Cert.Adam

/-- What the block's stores leave, entry by entry. -/
theorem stored (a0 : S1x1x3072.Idx → EReal) (a1 a2 a3 : S1x3072.Idx → EReal) (y : S1x3072.Idx) :
    out0_4 (F := Ideal) a0 a1 a2 a3 y = total1 a0 (y 0) (y 1) ∧ out0_5 (F := Ideal) a0 a1 a2 a3 y = delta (a1 y) (a2 y) (a3 y) (total1 a0 (y 0) (y 1))
      ∧ out0_6 (F := Ideal) a0 a1 a2 a3 y = moment (a2 y) (total1 a0 (y 0) (y 1)) ∧ out0_7 (F := Ideal) a0 a1 a2 a3 y = square (a3 y) (total1 a0 (y 0) (y 1)) := by
  unfold out0_4 out0_5 out0_6 out0_7
  refine ⟨?_, ?_, ?_, ?_⟩
  on_goal 4 => canon_tiles x h using cover0_7 ..
  on_goal 3 => canon_tiles x h using cover0_6 ..
  on_goal 2 => canon_tiles x h using cover0_5 ..
  on_goal 1 => canon_tiles x h using cover0_4 ..
  all_goals
    obtain ⟨r, q, rfl⟩ := places x
    obtain rfl : r = 0 := Subsingleton.elim _ _
    open_payloads
    pointwise
    rw [place h0 h1]
    rfl

end Cert.KernelAdamSbIdeal.Grad

namespace Cert.Proof.KernelAdamSbIdeal

open Cert.ReferenceAdamSbIdeal Cert.ReferenceAdamSbIdeal.Read Cert.Sums Cert.Adam Cert.KernelAdamSbIdeal.Grad Cert.KernelAdamSbIdeal.Value

/-- The reference's gradient, which the call takes whole. -/
theorem reference_total (x0 : S1x1x3072.Idx → EReal) (i : S1x3072.Idx) : val_main_v0 (F := Ideal) x0 i = total1 x0 (i 0) (i 1) := by
  rw [val_main_v0_apply, Fin.sum_univ_one]
  exact sum_whole x0 i _ fun x => match x with | ⟨0, _⟩ => rfl | ⟨1, _⟩ => rfl | ⟨2, _⟩ => rfl

theorem algebraic : Cert.algebraic_KernelAdamSbIdeal_ReferenceAdamSbIdeal := by
  intro m ρ m' ρ' _ hagree
  refine ⟨_, _, _, _, Cert.KernelAdamSbIdeal.Value.run m ρ, ?_⟩
  refine (θ_run Cert.ReferenceAdamSbIdeal.defs _ _).mono (fun _ h c => ⟨(h c).1.trans ?_, (h c).2.1.trans ?_, (h c).2.2.1.trans ?_, (h c).2.2.2.1.trans ?_, (h c).2.2.2.2⟩) (Cert.ReferenceAdamSbIdeal.Value.run (F := Ideal) m' ρ')
  · rw [val_main_v0_eq, (hagree c).1, ← out4_eq]
    exact funext fun i => (reference_total _ i).trans (stored _ _ _ _ i).1.symm
  · rw [val_main_v24_eq, (hagree c).1, (hagree c).2.1, (hagree c).2.2.1, (hagree c).2.2.2, ← out5_eq]
    exact funext fun i => (congrArg (delta _ _ _) (reference_total _ i)).trans (stored _ _ _ _ i).2.1.symm
  · rw [val_main_v5_eq, (hagree c).1, (hagree c).2.2.1, ← out6_eq]
    exact funext fun i => (congrArg (moment _) (reference_total _ i)).trans (stored _ _ _ _ i).2.2.1.symm
  · rw [val_main_v11_eq, (hagree c).1, (hagree c).2.2.2, ← out7_eq]
    exact funext fun i => (congrArg (square _) (reference_total _ i)).trans (stored _ _ _ _ i).2.2.2.symm

/-- The reference's own frame. -/
theorem frame_reference : Cert.quiescent_ReferenceAdamSbIdeal := fun m ρ _ =>
  (θ_run Cert.ReferenceAdamSbIdeal.defs _ _).mono (fun r h => ⟨fun c => (h c).2.2.2.2, Idealize.ShloMosaic.sem_eq_zero_of_no_sems (by decide) r.2⟩)
    (Cert.ReferenceAdamSbIdeal.Value.run (F := Ideal) m ρ)

end Cert.Proof.KernelAdamSbIdeal

end
-- ==== Proof.AdamIn.lean ====
/- The optimiser's step on the input projections, whose gradient comes in eight parts: what the grid of blocks leaves is what the reference takes. -/
module

public import proofs.«01_k».proof.Proof.Blocks
public import proofs.«01_k».proof.Proof.Adam
public import proofs.«01_k».proof.Proof.Gen.KernelAdamInIdeal.Value
public import proofs.«01_k».proof.Proof.Gen.ReferenceAdamInIdeal.Read
public import proofs.«01_k».proof.Defs
public import Idealize.ShloMosaic.Lib.Tactic
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem

namespace Cert.KernelAdamInIdeal.Grad

open Cert.KernelAdamInIdeal Cert.KernelAdamInIdeal.Gen Cert.KernelAdamInIdeal.Value Cert.Sums Cert.Adam

/-- What a block's stores leave, entry by entry. -/
theorem stored (a0 : S8x1284x128.Idx → EReal) (a1 a2 a3 : S1284x128.Idx → EReal) (y : S1284x128.Idx) :
    out0_4 (F := Ideal) a0 a1 a2 a3 y = total8 a0 (y 0) (y 1) ∧ out0_5 (F := Ideal) a0 a1 a2 a3 y = delta (a1 y) (a2 y) (a3 y) (total8 a0 (y 0) (y 1))
      ∧ out0_6 (F := Ideal) a0 a1 a2 a3 y = moment (a2 y) (total8 a0 (y 0) (y 1)) ∧ out0_7 (F := Ideal) a0 a1 a2 a3 y = square (a3 y) (total8 a0 (y 0) (y 1)) := by
  refine ⟨?_, ?_, ?_, ?_⟩
  on_goal 4 => unfold out0_7; canon_tiles x h using cover0_7 ..
  on_goal 3 => unfold out0_6; canon_tiles x h using cover0_6 ..
  on_goal 2 => unfold out0_5; canon_tiles x h using cover0_5 ..
  on_goal 1 => unfold out0_4; canon_tiles x h using cover0_4 ..
  all_goals
    obtain ⟨r, q, rfl⟩ := places x
    open_payloads
    pointwise
    rw [place h0 h1]
    rfl

variable (m : (ℓ : Loc nD τ sig) → Buf (Elt Ideal) ℓ)

/-- Every window's block at a grid point, and that every point writes its blocks back. -/
theorem index : ∀ t : Fin cfg0.N, (win0_0.index t (0 : Fin 3) = 0 ∧ win0_0.index t (1 : Fin 3) = t.val / 8 ∧ win0_0.index t (2 : Fin 3) = t.val % 8)
    ∧ (∀ a : Fin 2, win0_1.index t a = ![t.val / 8, t.val % 8] a ∧ win0_2.index t a = ![t.val / 8, t.val % 8] a ∧ win0_3.index t a = ![t.val / 8, t.val % 8] a
      ∧ win0_4.index t a = ![t.val / 8, t.val % 8] a ∧ win0_5.index t a = ![t.val / 8, t.val % 8] a ∧ win0_6.index t a = ![t.val / 8, t.val % 8] a
      ∧ win0_7.index t a = ![t.val / 8, t.val % 8] a)
    ∧ (cfg0.win 4).flush t = true ∧ (cfg0.win 5).flush t = true ∧ (cfg0.win 6).flush t = true ∧ (cfg0.win 7).flush t = true :=
  (by decide +kernel : ∀ t : Fin grid0.N, _)

/-- The parts of the gradient, the weights and the two moments. -/
def parts (c : Dev nD) : S8x1284x1024.Idx → EReal := m ((c : Thread nD τ).loc main_arg0)
def weight (c : Dev nD) : S1284x1024.Idx → EReal := m ((c : Thread nD τ).loc main_arg1)
def first (c : Dev nD) : S1284x1024.Idx → EReal := m ((c : Thread nD τ).loc main_arg2)
def second (c : Dev nD) : S1284x1024.Idx → EReal := m ((c : Thread nD τ).loc main_arg3)
/-- What the call leaves: the gradient, the step and the two new moments. -/
def resG (c : Dev nD) : S1284x1024.Idx → EReal := (dats m 0 c).arrAt 4 cfg0.N
def resD (c : Dev nD) : S1284x1024.Idx → EReal := (dats m 0 c).arrAt 5 cfg0.N
def resM (c : Dev nD) : S1284x1024.Idx → EReal := (dats m 0 c).arrAt 6 cfg0.N
def resV (c : Dev nD) : S1284x1024.Idx → EReal := (dats m 0 c).arrAt 7 cfg0.N

section
variable (c : Dev nD) (t : Fin cfg0.N) (r : Fin 1284) (q : Fin 128) (r' : Fin 1284) (q' : Fin 1024)
  (hr : r'.val = t.val / 8 * 1284 + 1 * r.val) (hq : q'.val = t.val % 8 * 128 + 1 * q.val)
include hr hq

/-- What a grid point's blocks show of the arguments. -/
theorem shown : (∀ p : Fin 8, (iblk m c 0 t : Vec Ideal S8x1284x128 .bf16) (ix3 p r q) = parts m c (ix3 p r' q'))
    ∧ (iblk m c 1 t : Vec Ideal S1284x128 .f32) (ix2 r q) = weight m c (ix2 r' q') ∧ (iblk m c 2 t : Vec Ideal S1284x128 .f32) (ix2 r q) = first m c (ix2 r' q')
    ∧ (iblk m c 3 t : Vec Ideal S1284x128 .f32) (ix2 r q) = second m c (ix2 r' q') := by
  obtain ⟨⟨e, e0, e1⟩, h, -⟩ := index t
  unfold iblk
  refine ⟨fun p => ?_, ?_, ?_, ?_⟩ <;> rw [View.read_apply]
  · exact congrArg (V m c main_arg0) (at_block3 rfl rfl rfl e e0 e1 hr hq)
  · exact congrArg (V m c main_arg1) (at_block rfl rfl (h 0).1 (h 1).1 hr hq)
  · exact congrArg (V m c main_arg2) (at_block rfl rfl (h 0).2.1 (h 1).2.1 hr hq)
  · exact congrArg (V m c main_arg3) (at_block rfl rfl (h 0).2.2.1 (h 1).2.2.1 hr hq)

/-- What a grid point's blocks leave in the results. -/
theorem written : resG m c (ix2 r' q') = out0_4 (F := Ideal) (iblk m c 0 t) (iblk m c 1 t) (iblk m c 2 t) (iblk m c 3 t) (ix2 r q)
    ∧ resD m c (ix2 r' q') = out0_5 (F := Ideal) (iblk m c 0 t) (iblk m c 1 t) (iblk m c 2 t) (iblk m c 3 t) (ix2 r q)
    ∧ resM m c (ix2 r' q') = out0_6 (F := Ideal) (iblk m c 0 t) (iblk m c 1 t) (iblk m c 2 t) (iblk m c 3 t) (ix2 r q)
    ∧ resV m c (ix2 r' q') = out0_7 (F := Ideal) (iblk m c 0 t) (iblk m c 1 t) (iblk m c 2 t) (iblk m c 3 t) (ix2 r q) := by
  obtain ⟨-, h, f4, f5, f6, f7⟩ := index t
  have h4 := congrFun ((blocks4 m c t f4).trans (flushed4 m c t)) (ix2 r q)
  have h5 := congrFun ((blocks5 m c t f5).trans (flushed5 m c t)) (ix2 r q)
  have h6 := congrFun ((blocks6 m c t f6).trans (flushed6 m c t)) (ix2 r q)
  have h7 := congrFun ((blocks7 m c t f7).trans (flushed7 m c t)) (ix2 r q)
  rw [View.read_apply] at h4 h5 h6 h7
  exact ⟨(congrArg (resG m c) (at_block rfl rfl (h 0).2.2.2.1 (h 1).2.2.2.1 hr hq)).symm.trans h4,
    (congrArg (resD m c) (at_block rfl rfl (h 0).2.2.2.2.1 (h 1).2.2.2.2.1 hr hq)).symm.trans h5,
    (congrArg (resM m c) (at_block rfl rfl (h 0).2.2.2.2.2.1 (h 1).2.2.2.2.2.1 hr hq)).symm.trans h6,
    (congrArg (resV m c) (at_block rfl rfl (h 0).2.2.2.2.2.2 (h 1).2.2.2.2.2.2 hr hq)).symm.trans h7⟩

end

/-- The four results, entry by entry. -/
theorem results (c : Dev nD) (r : Fin 1284) (q : Fin 1024) : resG m c (ix2 r q) = total8 (parts m c) r q
    ∧ resD m c (ix2 r q) = delta (weight m c (ix2 r q)) (first m c (ix2 r q)) (second m c (ix2 r q)) (total8 (parts m c) r q)
    ∧ resM m c (ix2 r q) = moment (first m c (ix2 r q)) (total8 (parts m c) r q) ∧ resV m c (ix2 r q) = square (second m c (ix2 r q)) (total8 (parts m c) r q) := by
  revert r q
  refine on_blocks (n := cfg0.N) (TM := 1284) (TN := 128) 1 8 (N_0.trans (by decide)) (by decide) (by decide) fun t r q r' q' hr hq => ?_
  obtain ⟨hp, hw, hf, hs⟩ := shown m c t r q r' q' hr hq
  obtain ⟨g, d, f, s⟩ := written m c t r q r' q' hr hq
  have ht : total8 (iblk m c 0 t : Vec Ideal S8x1284x128 .bf16) r q = total8 (parts m c) r' q' := by
    unfold total8
    simp only [hp]
  rw [← hw, ← hf, ← hs, ← ht, g, d, f, s]
  exact stored ..

end Cert.KernelAdamInIdeal.Grad

namespace Cert.Proof.KernelAdamInIdeal

open Cert.ReferenceAdamInIdeal Cert.ReferenceAdamInIdeal.Read Cert.Sums Cert.Adam Cert.KernelAdamInIdeal.Grad

/-- The reference's gradient, the sum over the devices. -/
theorem reference_total (x0 : S8x1284x1024.Idx → EReal) (r : Fin 1284) (q : Fin 1024) : val_main_v1 (F := Ideal) x0 (ix2 r q) = total8 x0 r q := by
  rw [val_main_v1_apply]
  exact sum_parts x0 r q _ fun k x => match x with | ⟨0, _⟩ => rfl | ⟨1, _⟩ => rfl | ⟨2, _⟩ => rfl

theorem algebraic : Cert.algebraic_KernelAdamInIdeal_ReferenceAdamInIdeal := by
  intro m ρ m' ρ' _ hagree
  refine ⟨fun c => resG m c, fun c => resD m c, fun c => resM m c, fun c => resV m c, Cert.KernelAdamInIdeal.Value.run_blocks m ρ, ?_⟩
  refine (θ_run Cert.ReferenceAdamInIdeal.defs _ _).mono (fun _ h c => ⟨(h c).1.trans ?_, (h c).2.1.trans ?_, (h c).2.2.1.trans ?_, (h c).2.2.2.1.trans ?_, (h c).2.2.2.2⟩) (Cert.ReferenceAdamInIdeal.Value.run (F := Ideal) m' ρ')
  · rw [val_main_v1_eq, (hagree c).1]
    exact by_entries fun r q => (reference_total _ r q).trans (results m c r q).1.symm
  · rw [val_main_v25_eq, (hagree c).1, (hagree c).2.1, (hagree c).2.2.1, (hagree c).2.2.2]
    exact by_entries fun r q => (congrArg (delta _ _ _) (reference_total _ r q)).trans (results m c r q).2.1.symm
  · rw [val_main_v6_eq, (hagree c).1, (hagree c).2.2.1]
    exact by_entries fun r q => (congrArg (moment _) (reference_total _ r q)).trans (results m c r q).2.2.1.symm
  · rw [val_main_v12_eq, (hagree c).1, (hagree c).2.2.2]
    exact by_entries fun r q => (congrArg (square _) (reference_total _ r q)).trans (results m c r q).2.2.2.symm

/-- The reference's own frame. -/
theorem frame_reference : Cert.quiescent_ReferenceAdamInIdeal := fun m ρ _ =>
  (θ_run Cert.ReferenceAdamInIdeal.defs _ _).mono (fun r h => ⟨fun c => (h c).2.2.2.2, Idealize.ShloMosaic.sem_eq_zero_of_no_sems (by decide) r.2⟩)
    (Cert.ReferenceAdamInIdeal.Value.run (F := Ideal) m ρ)

end Cert.Proof.KernelAdamInIdeal

end
-- ==== Proof.AdamA.lean ====
/- The optimiser's step on an output projection of width 1024, whose gradient comes in eight parts: what the grid of blocks leaves is what the reference takes. -/
module

public import proofs.«01_k».proof.Proof.Blocks
public import proofs.«01_k».proof.Proof.Adam
public import proofs.«01_k».proof.Proof.Gen.KernelAdamAIdeal.Value
public import proofs.«01_k».proof.Proof.Gen.ReferenceAdamAIdeal.Read
public import proofs.«01_k».proof.Defs
public import Idealize.ShloMosaic.Lib.Tactic
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem

namespace Cert.KernelAdamAIdeal.Grad

open Cert.KernelAdamAIdeal Cert.KernelAdamAIdeal.Gen Cert.KernelAdamAIdeal.Value Cert.Sums Cert.Adam

/-- What a block's stores leave, entry by entry. -/
theorem stored (a0 : S8x64x1024.Idx → EReal) (a1 a2 a3 : S64x1024.Idx → EReal) (y : S64x1024.Idx) :
    out0_4 (F := Ideal) a0 a1 a2 a3 y = total8 a0 (y 0) (y 1) ∧ out0_5 (F := Ideal) a0 a1 a2 a3 y = delta (a1 y) (a2 y) (a3 y) (total8 a0 (y 0) (y 1))
      ∧ out0_6 (F := Ideal) a0 a1 a2 a3 y = moment (a2 y) (total8 a0 (y 0) (y 1)) ∧ out0_7 (F := Ideal) a0 a1 a2 a3 y = square (a3 y) (total8 a0 (y 0) (y 1)) := by
  refine ⟨?_, ?_, ?_, ?_⟩
  on_goal 4 => unfold_out out0_7; canon_tiles x h using cover0_7 ..
  on_goal 3 => unfold_out out0_6; canon_tiles x h using cover0_6 ..
  on_goal 2 => unfold_out out0_5; canon_tiles x h using cover0_5 ..
  on_goal 1 => unfold_out out0_4; canon_tiles x h using cover0_4 ..
  all_goals
    obtain ⟨r, q, rfl⟩ := places x
    open_payloads
    pointwise
    rw [place h0 h1]
    rfl

variable (m : (ℓ : Loc nD τ sig) → Buf (Elt Ideal) ℓ)

/-- Every window's block at a grid point, and that every point writes its blocks back. -/
theorem index : ∀ t : Fin cfg0.N, (win0_0.index t (0 : Fin 3) = 0 ∧ win0_0.index t (1 : Fin 3) = t.val / 1 ∧ win0_0.index t (2 : Fin 3) = t.val % 1)
    ∧ (∀ a : Fin 2, win0_1.index t a = ![t.val / 1, t.val % 1] a ∧ win0_2.index t a = ![t.val / 1, t.val % 1] a ∧ win0_3.index t a = ![t.val / 1, t.val % 1] a
      ∧ win0_4.index t a = ![t.val / 1, t.val % 1] a ∧ win0_5.index t a = ![t.val / 1, t.val % 1] a ∧ win0_6.index t a = ![t.val / 1, t.val % 1] a
      ∧ win0_7.index t a = ![t.val / 1, t.val % 1] a)
    ∧ (cfg0.win 4).flush t = true ∧ (cfg0.win 5).flush t = true ∧ (cfg0.win 6).flush t = true ∧ (cfg0.win 7).flush t = true :=
  (by decide +kernel : ∀ t : Fin grid0.N, _)

/-- The parts of the gradient, the weights and the two moments. -/
def parts (c : Dev nD) : S8x128x1024.Idx → EReal := m ((c : Thread nD τ).loc main_arg0)
def weight (c : Dev nD) : S128x1024.Idx → EReal := m ((c : Thread nD τ).loc main_arg1)
def first (c : Dev nD) : S128x1024.Idx → EReal := m ((c : Thread nD τ).loc main_arg2)
def second (c : Dev nD) : S128x1024.Idx → EReal := m ((c : Thread nD τ).loc main_arg3)
/-- What the call leaves: the gradient, the step and the two new moments. -/
def resG (c : Dev nD) : S128x1024.Idx → EReal := (dats m 0 c).arrAt 4 cfg0.N
def resD (c : Dev nD) : S128x1024.Idx → EReal := (dats m 0 c).arrAt 5 cfg0.N
def resM (c : Dev nD) : S128x1024.Idx → EReal := (dats m 0 c).arrAt 6 cfg0.N
def resV (c : Dev nD) : S128x1024.Idx → EReal := (dats m 0 c).arrAt 7 cfg0.N

section
variable (c : Dev nD) (t : Fin cfg0.N) (r : Fin 64) (q : Fin 1024) (r' : Fin 128) (q' : Fin 1024)
  (hr : r'.val = t.val / 1 * 64 + 1 * r.val) (hq : q'.val = t.val % 1 * 1024 + 1 * q.val)
include hr hq

/-- What a grid point's blocks show of the arguments. -/
theorem shown : (∀ p : Fin 8, (iblk m c 0 t : Vec Ideal S8x64x1024 .bf16) (ix3 p r q) = parts m c (ix3 p r' q'))
    ∧ (iblk m c 1 t : Vec Ideal S64x1024 .f32) (ix2 r q) = weight m c (ix2 r' q') ∧ (iblk m c 2 t : Vec Ideal S64x1024 .f32) (ix2 r q) = first m c (ix2 r' q')
    ∧ (iblk m c 3 t : Vec Ideal S64x1024 .f32) (ix2 r q) = second m c (ix2 r' q') := by
  obtain ⟨⟨e, e0, e1⟩, h, -⟩ := index t
  unfold iblk
  refine ⟨fun p => ?_, ?_, ?_, ?_⟩ <;> rw [View.read_apply]
  · exact congrArg (V m c main_arg0) (at_block3 rfl rfl rfl e e0 e1 hr hq)
  · exact congrArg (V m c main_arg1) (at_block rfl rfl (h 0).1 (h 1).1 hr hq)
  · exact congrArg (V m c main_arg2) (at_block rfl rfl (h 0).2.1 (h 1).2.1 hr hq)
  · exact congrArg (V m c main_arg3) (at_block rfl rfl (h 0).2.2.1 (h 1).2.2.1 hr hq)

/-- What a grid point's blocks leave in the results. -/
theorem written : resG m c (ix2 r' q') = out0_4 (F := Ideal) (iblk m c 0 t) (iblk m c 1 t) (iblk m c 2 t) (iblk m c 3 t) (ix2 r q)
    ∧ resD m c (ix2 r' q') = out0_5 (F := Ideal) (iblk m c 0 t) (iblk m c 1 t) (iblk m c 2 t) (iblk m c 3 t) (ix2 r q)
    ∧ resM m c (ix2 r' q') = out0_6 (F := Ideal) (iblk m c 0 t) (iblk m c 1 t) (iblk m c 2 t) (iblk m c 3 t) (ix2 r q)
    ∧ resV m c (ix2 r' q') = out0_7 (F := Ideal) (iblk m c 0 t) (iblk m c 1 t) (iblk m c 2 t) (iblk m c 3 t) (ix2 r q) := by
  obtain ⟨-, h, f4, f5, f6, f7⟩ := index t
  have h4 := congrFun ((blocks4 m c t f4).trans (flushed4 m c t)) (ix2 r q)
  have h5 := congrFun ((blocks5 m c t f5).trans (flushed5 m c t)) (ix2 r q)
  have h6 := congrFun ((blocks6 m c t f6).trans (flushed6 m c t)) (ix2 r q)
  have h7 := congrFun ((blocks7 m c t f7).trans (flushed7 m c t)) (ix2 r q)
  rw [View.read_apply] at h4 h5 h6 h7
  exact ⟨(congrArg (resG m c) (at_block rfl rfl (h 0).2.2.2.1 (h 1).2.2.2.1 hr hq)).symm.trans h4,
    (congrArg (resD m c) (at_block rfl rfl (h 0).2.2.2.2.1 (h 1).2.2.2.2.1 hr hq)).symm.trans h5,
    (congrArg (resM m c) (at_block rfl rfl (h 0).2.2.2.2.2.1 (h 1).2.2.2.2.2.1 hr hq)).symm.trans h6,
    (congrArg (resV m c) (at_block rfl rfl (h 0).2.2.2.2.2.2 (h 1).2.2.2.2.2.2 hr hq)).symm.trans h7⟩

end

/-- The four results, entry by entry. -/
theorem results (c : Dev nD) (r : Fin 128) (q : Fin 1024) : resG m c (ix2 r q) = total8 (parts m c) r q
    ∧ resD m c (ix2 r q) = delta (weight m c (ix2 r q)) (first m c (ix2 r q)) (second m c (ix2 r q)) (total8 (parts m c) r q)
    ∧ resM m c (ix2 r q) = moment (first m c (ix2 r q)) (total8 (parts m c) r q) ∧ resV m c (ix2 r q) = square (second m c (ix2 r q)) (total8 (parts m c) r q) := by
  revert r q
  refine on_blocks (n := cfg0.N) (TM := 64) (TN := 1024) 2 1 (N_0.trans (by decide)) (by decide) (by decide) fun t r q r' q' hr hq => ?_
  obtain ⟨hp, hw, hf, hs⟩ := shown m c t r q r' q' hr hq
  obtain ⟨g, d, f, s⟩ := written m c t r q r' q' hr hq
  have ht : total8 (iblk m c 0 t : Vec Ideal S8x64x1024 .bf16) r q = total8 (parts m c) r' q' := by
    unfold total8
    simp only [hp]
  rw [← hw, ← hf, ← hs, ← ht, g, d, f, s]
  exact stored ..

end Cert.KernelAdamAIdeal.Grad

namespace Cert.Proof.KernelAdamAIdeal

open Cert.ReferenceAdamAIdeal Cert.ReferenceAdamAIdeal.Read Cert.Sums Cert.Adam Cert.KernelAdamAIdeal.Grad

/-- The reference's gradient, the sum over the devices. -/
theorem reference_total (x0 : S8x128x1024.Idx → EReal) (r : Fin 128) (q : Fin 1024) : val_main_v1 (F := Ideal) x0 (ix2 r q) = total8 x0 r q := by
  rw [val_main_v1_apply]
  exact sum_parts x0 r q _ fun k x => match x with | ⟨0, _⟩ => rfl | ⟨1, _⟩ => rfl | ⟨2, _⟩ => rfl

theorem algebraic : Cert.algebraic_KernelAdamAIdeal_ReferenceAdamAIdeal := by
  intro m ρ m' ρ' _ hagree
  refine ⟨fun c => resG m c, fun c => resD m c, fun c => resM m c, fun c => resV m c, Cert.KernelAdamAIdeal.Value.run_blocks m ρ, ?_⟩
  refine (θ_run Cert.ReferenceAdamAIdeal.defs _ _).mono (fun _ h c => ⟨(h c).1.trans ?_, (h c).2.1.trans ?_, (h c).2.2.1.trans ?_, (h c).2.2.2.1.trans ?_, (h c).2.2.2.2⟩) (Cert.ReferenceAdamAIdeal.Value.run (F := Ideal) m' ρ')
  · rw [val_main_v1_eq, (hagree c).1]
    exact by_entries fun r q => (reference_total _ r q).trans (results m c r q).1.symm
  · rw [val_main_v25_eq, (hagree c).1, (hagree c).2.1, (hagree c).2.2.1, (hagree c).2.2.2]
    exact by_entries fun r q => (congrArg (delta _ _ _) (reference_total _ r q)).trans (results m c r q).2.1.symm
  · rw [val_main_v6_eq, (hagree c).1, (hagree c).2.2.1]
    exact by_entries fun r q => (congrArg (moment _) (reference_total _ r q)).trans (results m c r q).2.2.1.symm
  · rw [val_main_v12_eq, (hagree c).1, (hagree c).2.2.2]
    exact by_entries fun r q => (congrArg (square _) (reference_total _ r q)).trans (results m c r q).2.2.2.symm

/-- The reference's own frame. -/
theorem frame_reference : Cert.quiescent_ReferenceAdamAIdeal := fun m ρ _ =>
  (θ_run Cert.ReferenceAdamAIdeal.defs _ _).mono (fun r h => ⟨fun c => (h c).2.2.2.2, Idealize.ShloMosaic.sem_eq_zero_of_no_sems (by decide) r.2⟩)
    (Cert.ReferenceAdamAIdeal.Value.run (F := Ideal) m ρ)

end Cert.Proof.KernelAdamAIdeal

end
-- ==== Proof.AdamS.lean ====
/- The optimiser's step on the recurrence's output projection, whose gradient comes in eight parts: what the grid of blocks leaves is what the reference takes. -/
module

public import proofs.«01_k».proof.Proof.Blocks
public import proofs.«01_k».proof.Proof.Adam
public import proofs.«01_k».proof.Proof.Gen.KernelAdamSIdeal.Value
public import proofs.«01_k».proof.Proof.Gen.ReferenceAdamSIdeal.Read
public import proofs.«01_k».proof.Defs
public import Idealize.ShloMosaic.Lib.Tactic
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem

namespace Cert.KernelAdamSIdeal.Grad

open Cert.KernelAdamSIdeal Cert.KernelAdamSIdeal.Gen Cert.KernelAdamSIdeal.Value Cert.Sums Cert.Adam

/-- What a block's stores leave, entry by entry. -/
theorem stored (a0 : S8x64x1024.Idx → EReal) (a1 a2 a3 : S64x1024.Idx → EReal) (y : S64x1024.Idx) :
    out0_4 (F := Ideal) a0 a1 a2 a3 y = total8 a0 (y 0) (y 1) ∧ out0_5 (F := Ideal) a0 a1 a2 a3 y = delta (a1 y) (a2 y) (a3 y) (total8 a0 (y 0) (y 1))
      ∧ out0_6 (F := Ideal) a0 a1 a2 a3 y = moment (a2 y) (total8 a0 (y 0) (y 1)) ∧ out0_7 (F := Ideal) a0 a1 a2 a3 y = square (a3 y) (total8 a0 (y 0) (y 1)) := by
  refine ⟨?_, ?_, ?_, ?_⟩
  on_goal 4 => unfold_out out0_7; canon_tiles x h using cover0_7 ..
  on_goal 3 => unfold_out out0_6; canon_tiles x h using cover0_6 ..
  on_goal 2 => unfold_out out0_5; canon_tiles x h using cover0_5 ..
  on_goal 1 => unfold_out out0_4; canon_tiles x h using cover0_4 ..
  all_goals
    obtain ⟨r, q, rfl⟩ := places x
    open_payloads
    pointwise
    rw [place h0 h1]
    rfl

variable (m : (ℓ : Loc nD τ sig) → Buf (Elt Ideal) ℓ)

/-- Every window's block at a grid point, and that every point writes its blocks back. -/
theorem index : ∀ t : Fin cfg0.N, (win0_0.index t (0 : Fin 3) = 0 ∧ win0_0.index t (1 : Fin 3) = t.val / 1 ∧ win0_0.index t (2 : Fin 3) = t.val % 1)
    ∧ (∀ a : Fin 2, win0_1.index t a = ![t.val / 1, t.val % 1] a ∧ win0_2.index t a = ![t.val / 1, t.val % 1] a ∧ win0_3.index t a = ![t.val / 1, t.val % 1] a
      ∧ win0_4.index t a = ![t.val / 1, t.val % 1] a ∧ win0_5.index t a = ![t.val / 1, t.val % 1] a ∧ win0_6.index t a = ![t.val / 1, t.val % 1] a
      ∧ win0_7.index t a = ![t.val / 1, t.val % 1] a)
    ∧ (cfg0.win 4).flush t = true ∧ (cfg0.win 5).flush t = true ∧ (cfg0.win 6).flush t = true ∧ (cfg0.win 7).flush t = true :=
  (by decide +kernel : ∀ t : Fin grid0.N, _)

/-- The parts of the gradient, the weights and the two moments. -/
def parts (c : Dev nD) : S8x256x1024.Idx → EReal := m ((c : Thread nD τ).loc main_arg0)
def weight (c : Dev nD) : S256x1024.Idx → EReal := m ((c : Thread nD τ).loc main_arg1)
def first (c : Dev nD) : S256x1024.Idx → EReal := m ((c : Thread nD τ).loc main_arg2)
def second (c : Dev nD) : S256x1024.Idx → EReal := m ((c : Thread nD τ).loc main_arg3)
/-- What the call leaves: the gradient, the step and the two new moments. -/
def resG (c : Dev nD) : S256x1024.Idx → EReal := (dats m 0 c).arrAt 4 cfg0.N
def resD (c : Dev nD) : S256x1024.Idx → EReal := (dats m 0 c).arrAt 5 cfg0.N
def resM (c : Dev nD) : S256x1024.Idx → EReal := (dats m 0 c).arrAt 6 cfg0.N
def resV (c : Dev nD) : S256x1024.Idx → EReal := (dats m 0 c).arrAt 7 cfg0.N

section
variable (c : Dev nD) (t : Fin cfg0.N) (r : Fin 64) (q : Fin 1024) (r' : Fin 256) (q' : Fin 1024)
  (hr : r'.val = t.val / 1 * 64 + 1 * r.val) (hq : q'.val = t.val % 1 * 1024 + 1 * q.val)
include hr hq

/-- What a grid point's blocks show of the arguments. -/
theorem shown : (∀ p : Fin 8, (iblk m c 0 t : Vec Ideal S8x64x1024 .bf16) (ix3 p r q) = parts m c (ix3 p r' q'))
    ∧ (iblk m c 1 t : Vec Ideal S64x1024 .f32) (ix2 r q) = weight m c (ix2 r' q') ∧ (iblk m c 2 t : Vec Ideal S64x1024 .f32) (ix2 r q) = first m c (ix2 r' q')
    ∧ (iblk m c 3 t : Vec Ideal S64x1024 .f32) (ix2 r q) = second m c (ix2 r' q') := by
  obtain ⟨⟨e, e0, e1⟩, h, -⟩ := index t
  unfold iblk
  refine ⟨fun p => ?_, ?_, ?_, ?_⟩ <;> rw [View.read_apply]
  · exact congrArg (V m c main_arg0) (at_block3 rfl rfl rfl e e0 e1 hr hq)
  · exact congrArg (V m c main_arg1) (at_block rfl rfl (h 0).1 (h 1).1 hr hq)
  · exact congrArg (V m c main_arg2) (at_block rfl rfl (h 0).2.1 (h 1).2.1 hr hq)
  · exact congrArg (V m c main_arg3) (at_block rfl rfl (h 0).2.2.1 (h 1).2.2.1 hr hq)

/-- What a grid point's blocks leave in the results. -/
theorem written : resG m c (ix2 r' q') = out0_4 (F := Ideal) (iblk m c 0 t) (iblk m c 1 t) (iblk m c 2 t) (iblk m c 3 t) (ix2 r q)
    ∧ resD m c (ix2 r' q') = out0_5 (F := Ideal) (iblk m c 0 t) (iblk m c 1 t) (iblk m c 2 t) (iblk m c 3 t) (ix2 r q)
    ∧ resM m c (ix2 r' q') = out0_6 (F := Ideal) (iblk m c 0 t) (iblk m c 1 t) (iblk m c 2 t) (iblk m c 3 t) (ix2 r q)
    ∧ resV m c (ix2 r' q') = out0_7 (F := Ideal) (iblk m c 0 t) (iblk m c 1 t) (iblk m c 2 t) (iblk m c 3 t) (ix2 r q) := by
  obtain ⟨-, h, f4, f5, f6, f7⟩ := index t
  have h4 := congrFun ((blocks4 m c t f4).trans (flushed4 m c t)) (ix2 r q)
  have h5 := congrFun ((blocks5 m c t f5).trans (flushed5 m c t)) (ix2 r q)
  have h6 := congrFun ((blocks6 m c t f6).trans (flushed6 m c t)) (ix2 r q)
  have h7 := congrFun ((blocks7 m c t f7).trans (flushed7 m c t)) (ix2 r q)
  rw [View.read_apply] at h4 h5 h6 h7
  exact ⟨(congrArg (resG m c) (at_block rfl rfl (h 0).2.2.2.1 (h 1).2.2.2.1 hr hq)).symm.trans h4,
    (congrArg (resD m c) (at_block rfl rfl (h 0).2.2.2.2.1 (h 1).2.2.2.2.1 hr hq)).symm.trans h5,
    (congrArg (resM m c) (at_block rfl rfl (h 0).2.2.2.2.2.1 (h 1).2.2.2.2.2.1 hr hq)).symm.trans h6,
    (congrArg (resV m c) (at_block rfl rfl (h 0).2.2.2.2.2.2 (h 1).2.2.2.2.2.2 hr hq)).symm.trans h7⟩

end

/-- The four results, entry by entry. -/
theorem results (c : Dev nD) (r : Fin 256) (q : Fin 1024) : resG m c (ix2 r q) = total8 (parts m c) r q
    ∧ resD m c (ix2 r q) = delta (weight m c (ix2 r q)) (first m c (ix2 r q)) (second m c (ix2 r q)) (total8 (parts m c) r q)
    ∧ resM m c (ix2 r q) = moment (first m c (ix2 r q)) (total8 (parts m c) r q) ∧ resV m c (ix2 r q) = square (second m c (ix2 r q)) (total8 (parts m c) r q) := by
  revert r q
  refine on_blocks (n := cfg0.N) (TM := 64) (TN := 1024) 4 1 (N_0.trans (by decide)) (by decide) (by decide) fun t r q r' q' hr hq => ?_
  obtain ⟨hp, hw, hf, hs⟩ := shown m c t r q r' q' hr hq
  obtain ⟨g, d, f, s⟩ := written m c t r q r' q' hr hq
  have ht : total8 (iblk m c 0 t : Vec Ideal S8x64x1024 .bf16) r q = total8 (parts m c) r' q' := by
    unfold total8
    simp only [hp]
  rw [← hw, ← hf, ← hs, ← ht, g, d, f, s]
  exact stored ..

end Cert.KernelAdamSIdeal.Grad

namespace Cert.Proof.KernelAdamSIdeal

open Cert.ReferenceAdamSIdeal Cert.ReferenceAdamSIdeal.Read Cert.Sums Cert.Adam Cert.KernelAdamSIdeal.Grad

/-- The reference's gradient, the sum over the devices. -/
theorem reference_total (x0 : S8x256x1024.Idx → EReal) (r : Fin 256) (q : Fin 1024) : val_main_v1 (F := Ideal) x0 (ix2 r q) = total8 x0 r q := by
  rw [val_main_v1_apply]
  exact sum_parts x0 r q _ fun k x => match x with | ⟨0, _⟩ => rfl | ⟨1, _⟩ => rfl | ⟨2, _⟩ => rfl

theorem algebraic : Cert.algebraic_KernelAdamSIdeal_ReferenceAdamSIdeal := by
  intro m ρ m' ρ' _ hagree
  refine ⟨fun c => resG m c, fun c => resD m c, fun c => resM m c, fun c => resV m c, Cert.KernelAdamSIdeal.Value.run_blocks m ρ, ?_⟩
  refine (θ_run Cert.ReferenceAdamSIdeal.defs _ _).mono (fun _ h c => ⟨(h c).1.trans ?_, (h c).2.1.trans ?_, (h c).2.2.1.trans ?_, (h c).2.2.2.1.trans ?_, (h c).2.2.2.2⟩) (Cert.ReferenceAdamSIdeal.Value.run (F := Ideal) m' ρ')
  · rw [val_main_v1_eq, (hagree c).1]
    exact by_entries fun r q => (reference_total _ r q).trans (results m c r q).1.symm
  · rw [val_main_v25_eq, (hagree c).1, (hagree c).2.1, (hagree c).2.2.1, (hagree c).2.2.2]
    exact by_entries fun r q => (congrArg (delta _ _ _) (reference_total _ r q)).trans (results m c r q).2.1.symm
  · rw [val_main_v6_eq, (hagree c).1, (hagree c).2.2.1]
    exact by_entries fun r q => (congrArg (moment _) (reference_total _ r q)).trans (results m c r q).2.2.1.symm
  · rw [val_main_v12_eq, (hagree c).1, (hagree c).2.2.2]
    exact by_entries fun r q => (congrArg (square _) (reference_total _ r q)).trans (results m c r q).2.2.2.symm

/-- The reference's own frame. -/
theorem frame_reference : Cert.quiescent_ReferenceAdamSIdeal := fun m ρ _ =>
  (θ_run Cert.ReferenceAdamSIdeal.defs _ _).mono (fun r h => ⟨fun c => (h c).2.2.2.2, Idealize.ShloMosaic.sem_eq_zero_of_no_sems (by decide) r.2⟩)
    (Cert.ReferenceAdamSIdeal.Value.run (F := Ideal) m ρ)

end Cert.Proof.KernelAdamSIdeal

end
-- ==== Proof.AdamUp.lean ====
/- The optimiser's step on the up projection, whose gradient comes in eight parts: what the grid of blocks leaves is what the reference takes. -/
module

public import proofs.«01_k».proof.Proof.Blocks
public import proofs.«01_k».proof.Proof.Adam
public import proofs.«01_k».proof.Proof.Gen.KernelAdamUpIdeal.Value
public import proofs.«01_k».proof.Proof.Gen.ReferenceAdamUpIdeal.Read
public import proofs.«01_k».proof.Defs
public import Idealize.ShloMosaic.Lib.Tactic
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem

namespace Cert.KernelAdamUpIdeal.Grad

open Cert.KernelAdamUpIdeal Cert.KernelAdamUpIdeal.Gen Cert.KernelAdamUpIdeal.Value Cert.Sums Cert.Adam

/-- What a block's stores leave, entry by entry. -/
theorem stored (a0 : S8x64x1024.Idx → EReal) (a1 a2 a3 : S64x1024.Idx → EReal) (y : S64x1024.Idx) :
    out0_4 (F := Ideal) a0 a1 a2 a3 y = total8 a0 (y 0) (y 1) ∧ out0_5 (F := Ideal) a0 a1 a2 a3 y = delta (a1 y) (a2 y) (a3 y) (total8 a0 (y 0) (y 1))
      ∧ out0_6 (F := Ideal) a0 a1 a2 a3 y = moment (a2 y) (total8 a0 (y 0) (y 1)) ∧ out0_7 (F := Ideal) a0 a1 a2 a3 y = square (a3 y) (total8 a0 (y 0) (y 1)) := by
  refine ⟨?_, ?_, ?_, ?_⟩
  on_goal 4 => unfold_out out0_7; canon_tiles x h using cover0_7 ..
  on_goal 3 => unfold_out out0_6; canon_tiles x h using cover0_6 ..
  on_goal 2 => unfold_out out0_5; canon_tiles x h using cover0_5 ..
  on_goal 1 => unfold_out out0_4; canon_tiles x h using cover0_4 ..
  all_goals
    obtain ⟨r, q, rfl⟩ := places x
    open_payloads
    pointwise
    rw [place h0 h1]
    rfl

variable (m : (ℓ : Loc nD τ sig) → Buf (Elt Ideal) ℓ)

/-- Every window's block at a grid point, and that every point writes its blocks back. -/
theorem index : ∀ t : Fin cfg0.N, (win0_0.index t (0 : Fin 3) = 0 ∧ win0_0.index t (1 : Fin 3) = t.val / 1 ∧ win0_0.index t (2 : Fin 3) = t.val % 1)
    ∧ (∀ a : Fin 2, win0_1.index t a = ![t.val / 1, t.val % 1] a ∧ win0_2.index t a = ![t.val / 1, t.val % 1] a ∧ win0_3.index t a = ![t.val / 1, t.val % 1] a
      ∧ win0_4.index t a = ![t.val / 1, t.val % 1] a ∧ win0_5.index t a = ![t.val / 1, t.val % 1] a ∧ win0_6.index t a = ![t.val / 1, t.val % 1] a
      ∧ win0_7.index t a = ![t.val / 1, t.val % 1] a)
    ∧ (cfg0.win 4).flush t = true ∧ (cfg0.win 5).flush t = true ∧ (cfg0.win 6).flush t = true ∧ (cfg0.win 7).flush t = true :=
  (by decide +kernel : ∀ t : Fin grid0.N, _)

/-- The parts of the gradient, the weights and the two moments. -/
def parts (c : Dev nD) : S8x704x1024.Idx → EReal := m ((c : Thread nD τ).loc main_arg0)
def weight (c : Dev nD) : S704x1024.Idx → EReal := m ((c : Thread nD τ).loc main_arg1)
def first (c : Dev nD) : S704x1024.Idx → EReal := m ((c : Thread nD τ).loc main_arg2)
def second (c : Dev nD) : S704x1024.Idx → EReal := m ((c : Thread nD τ).loc main_arg3)
/-- What the call leaves: the gradient, the step and the two new moments. -/
def resG (c : Dev nD) : S704x1024.Idx → EReal := (dats m 0 c).arrAt 4 cfg0.N
def resD (c : Dev nD) : S704x1024.Idx → EReal := (dats m 0 c).arrAt 5 cfg0.N
def resM (c : Dev nD) : S704x1024.Idx → EReal := (dats m 0 c).arrAt 6 cfg0.N
def resV (c : Dev nD) : S704x1024.Idx → EReal := (dats m 0 c).arrAt 7 cfg0.N

section
variable (c : Dev nD) (t : Fin cfg0.N) (r : Fin 64) (q : Fin 1024) (r' : Fin 704) (q' : Fin 1024)
  (hr : r'.val = t.val / 1 * 64 + 1 * r.val) (hq : q'.val = t.val % 1 * 1024 + 1 * q.val)
include hr hq

/-- What a grid point's blocks show of the arguments. -/
theorem shown : (∀ p : Fin 8, (iblk m c 0 t : Vec Ideal S8x64x1024 .bf16) (ix3 p r q) = parts m c (ix3 p r' q'))
    ∧ (iblk m c 1 t : Vec Ideal S64x1024 .f32) (ix2 r q) = weight m c (ix2 r' q') ∧ (iblk m c 2 t : Vec Ideal S64x1024 .f32) (ix2 r q) = first m c (ix2 r' q')
    ∧ (iblk m c 3 t : Vec Ideal S64x1024 .f32) (ix2 r q) = second m c (ix2 r' q') := by
  obtain ⟨⟨e, e0, e1⟩, h, -⟩ := index t
  unfold iblk
  refine ⟨fun p => ?_, ?_, ?_, ?_⟩ <;> rw [View.read_apply]
  · exact congrArg (V m c main_arg0) (at_block3 rfl rfl rfl e e0 e1 hr hq)
  · exact congrArg (V m c main_arg1) (at_block rfl rfl (h 0).1 (h 1).1 hr hq)
  · exact congrArg (V m c main_arg2) (at_block rfl rfl (h 0).2.1 (h 1).2.1 hr hq)
  · exact congrArg (V m c main_arg3) (at_block rfl rfl (h 0).2.2.1 (h 1).2.2.1 hr hq)

/-- What a grid point's blocks leave in the results. -/
theorem written : resG m c (ix2 r' q') = out0_4 (F := Ideal) (iblk m c 0 t) (iblk m c 1 t) (iblk m c 2 t) (iblk m c 3 t) (ix2 r q)
    ∧ resD m c (ix2 r' q') = out0_5 (F := Ideal) (iblk m c 0 t) (iblk m c 1 t) (iblk m c 2 t) (iblk m c 3 t) (ix2 r q)
    ∧ resM m c (ix2 r' q') = out0_6 (F := Ideal) (iblk m c 0 t) (iblk m c 1 t) (iblk m c 2 t) (iblk m c 3 t) (ix2 r q)
    ∧ resV m c (ix2 r' q') = out0_7 (F := Ideal) (iblk m c 0 t) (iblk m c 1 t) (iblk m c 2 t) (iblk m c 3 t) (ix2 r q) := by
  obtain ⟨-, h, f4, f5, f6, f7⟩ := index t
  have h4 := congrFun ((blocks4 m c t f4).trans (flushed4 m c t)) (ix2 r q)
  have h5 := congrFun ((blocks5 m c t f5).trans (flushed5 m c t)) (ix2 r q)
  have h6 := congrFun ((blocks6 m c t f6).trans (flushed6 m c t)) (ix2 r q)
  have h7 := congrFun ((blocks7 m c t f7).trans (flushed7 m c t)) (ix2 r q)
  rw [View.read_apply] at h4 h5 h6 h7
  exact ⟨(congrArg (resG m c) (at_block rfl rfl (h 0).2.2.2.1 (h 1).2.2.2.1 hr hq)).symm.trans h4,
    (congrArg (resD m c) (at_block rfl rfl (h 0).2.2.2.2.1 (h 1).2.2.2.2.1 hr hq)).symm.trans h5,
    (congrArg (resM m c) (at_block rfl rfl (h 0).2.2.2.2.2.1 (h 1).2.2.2.2.2.1 hr hq)).symm.trans h6,
    (congrArg (resV m c) (at_block rfl rfl (h 0).2.2.2.2.2.2 (h 1).2.2.2.2.2.2 hr hq)).symm.trans h7⟩

end

/-- The four results, entry by entry. -/
theorem results (c : Dev nD) (r : Fin 704) (q : Fin 1024) : resG m c (ix2 r q) = total8 (parts m c) r q
    ∧ resD m c (ix2 r q) = delta (weight m c (ix2 r q)) (first m c (ix2 r q)) (second m c (ix2 r q)) (total8 (parts m c) r q)
    ∧ resM m c (ix2 r q) = moment (first m c (ix2 r q)) (total8 (parts m c) r q) ∧ resV m c (ix2 r q) = square (second m c (ix2 r q)) (total8 (parts m c) r q) := by
  revert r q
  refine on_blocks (n := cfg0.N) (TM := 64) (TN := 1024) 11 1 (N_0.trans (by decide)) (by decide) (by decide) fun t r q r' q' hr hq => ?_
  obtain ⟨hp, hw, hf, hs⟩ := shown m c t r q r' q' hr hq
  obtain ⟨g, d, f, s⟩ := written m c t r q r' q' hr hq
  have ht : total8 (iblk m c 0 t : Vec Ideal S8x64x1024 .bf16) r q = total8 (parts m c) r' q' := by
    unfold total8
    simp only [hp]
  rw [← hw, ← hf, ← hs, ← ht, g, d, f, s]
  exact stored ..

end Cert.KernelAdamUpIdeal.Grad

namespace Cert.Proof.KernelAdamUpIdeal

open Cert.ReferenceAdamUpIdeal Cert.ReferenceAdamUpIdeal.Read Cert.Sums Cert.Adam Cert.KernelAdamUpIdeal.Grad

/-- The reference's gradient, the sum over the devices. -/
theorem reference_total (x0 : S8x704x1024.Idx → EReal) (r : Fin 704) (q : Fin 1024) : val_main_v1 (F := Ideal) x0 (ix2 r q) = total8 x0 r q := by
  rw [val_main_v1_apply]
  exact sum_parts x0 r q _ fun k x => match x with | ⟨0, _⟩ => rfl | ⟨1, _⟩ => rfl | ⟨2, _⟩ => rfl

theorem algebraic : Cert.algebraic_KernelAdamUpIdeal_ReferenceAdamUpIdeal := by
  intro m ρ m' ρ' _ hagree
  refine ⟨fun c => resG m c, fun c => resD m c, fun c => resM m c, fun c => resV m c, Cert.KernelAdamUpIdeal.Value.run_blocks m ρ, ?_⟩
  refine (θ_run Cert.ReferenceAdamUpIdeal.defs _ _).mono (fun _ h c => ⟨(h c).1.trans ?_, (h c).2.1.trans ?_, (h c).2.2.1.trans ?_, (h c).2.2.2.1.trans ?_, (h c).2.2.2.2⟩) (Cert.ReferenceAdamUpIdeal.Value.run (F := Ideal) m' ρ')
  · rw [val_main_v1_eq, (hagree c).1]
    exact by_entries fun r q => (reference_total _ r q).trans (results m c r q).1.symm
  · rw [val_main_v25_eq, (hagree c).1, (hagree c).2.1, (hagree c).2.2.1, (hagree c).2.2.2]
    exact by_entries fun r q => (congrArg (delta _ _ _) (reference_total _ r q)).trans (results m c r q).2.1.symm
  · rw [val_main_v6_eq, (hagree c).1, (hagree c).2.2.1]
    exact by_entries fun r q => (congrArg (moment _) (reference_total _ r q)).trans (results m c r q).2.2.1.symm
  · rw [val_main_v12_eq, (hagree c).1, (hagree c).2.2.2]
    exact by_entries fun r q => (congrArg (square _) (reference_total _ r q)).trans (results m c r q).2.2.2.symm

/-- The reference's own frame. -/
theorem frame_reference : Cert.quiescent_ReferenceAdamUpIdeal := fun m ρ _ =>
  (θ_run Cert.ReferenceAdamUpIdeal.defs _ _).mono (fun r h => ⟨fun c => (h c).2.2.2.2, Idealize.ShloMosaic.sem_eq_zero_of_no_sems (by decide) r.2⟩)
    (Cert.ReferenceAdamUpIdeal.Value.run (F := Ideal) m ρ)

end Cert.Proof.KernelAdamUpIdeal

end
-- ==== Proof.AdamDown.lean ====
/- The optimiser's step on the down projection, whose gradient comes in eight parts: what the grid of blocks leaves is what the reference takes. -/
module

public import proofs.«01_k».proof.Proof.Blocks
public import proofs.«01_k».proof.Proof.Adam
public import proofs.«01_k».proof.Proof.Gen.KernelAdamDownIdeal.Value
public import proofs.«01_k».proof.Proof.Gen.ReferenceAdamDownIdeal.Read
public import proofs.«01_k».proof.Defs
public import Idealize.ShloMosaic.Lib.Tactic
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem

namespace Cert.KernelAdamDownIdeal.Grad

open Cert.KernelAdamDownIdeal Cert.KernelAdamDownIdeal.Gen Cert.KernelAdamDownIdeal.Value Cert.Sums Cert.Adam

/-- What a block's stores leave, entry by entry. -/
theorem stored (a0 : S8x32x1024.Idx → EReal) (a1 a2 a3 : S32x1024.Idx → EReal) (y : S32x1024.Idx) :
    out0_4 (F := Ideal) a0 a1 a2 a3 y = total8 a0 (y 0) (y 1) ∧ out0_5 (F := Ideal) a0 a1 a2 a3 y = delta (a1 y) (a2 y) (a3 y) (total8 a0 (y 0) (y 1))
      ∧ out0_6 (F := Ideal) a0 a1 a2 a3 y = moment (a2 y) (total8 a0 (y 0) (y 1)) ∧ out0_7 (F := Ideal) a0 a1 a2 a3 y = square (a3 y) (total8 a0 (y 0) (y 1)) := by
  refine ⟨?_, ?_, ?_, ?_⟩
  on_goal 4 => unfold_out out0_7; canon_tiles x h using cover0_7 ..
  on_goal 3 => unfold_out out0_6; canon_tiles x h using cover0_6 ..
  on_goal 2 => unfold_out out0_5; canon_tiles x h using cover0_5 ..
  on_goal 1 => unfold_out out0_4; canon_tiles x h using cover0_4 ..
  all_goals
    obtain ⟨r, q, rfl⟩ := places x
    open_payloads
    pointwise
    rw [place h0 h1]
    rfl

variable (m : (ℓ : Loc nD τ sig) → Buf (Elt Ideal) ℓ)

/-- Every window's block at a grid point, and that every point writes its blocks back. -/
theorem index : ∀ t : Fin cfg0.N, (win0_0.index t (0 : Fin 3) = 0 ∧ win0_0.index t (1 : Fin 3) = t.val / 1 ∧ win0_0.index t (2 : Fin 3) = t.val % 1)
    ∧ (∀ a : Fin 2, win0_1.index t a = ![t.val / 1, t.val % 1] a ∧ win0_2.index t a = ![t.val / 1, t.val % 1] a ∧ win0_3.index t a = ![t.val / 1, t.val % 1] a
      ∧ win0_4.index t a = ![t.val / 1, t.val % 1] a ∧ win0_5.index t a = ![t.val / 1, t.val % 1] a ∧ win0_6.index t a = ![t.val / 1, t.val % 1] a
      ∧ win0_7.index t a = ![t.val / 1, t.val % 1] a)
    ∧ (cfg0.win 4).flush t = true ∧ (cfg0.win 5).flush t = true ∧ (cfg0.win 6).flush t = true ∧ (cfg0.win 7).flush t = true :=
  (by decide +kernel : ∀ t : Fin grid0.N, _)

/-- The parts of the gradient, the weights and the two moments. -/
def parts (c : Dev nD) : S8x352x1024.Idx → EReal := m ((c : Thread nD τ).loc main_arg0)
def weight (c : Dev nD) : S352x1024.Idx → EReal := m ((c : Thread nD τ).loc main_arg1)
def first (c : Dev nD) : S352x1024.Idx → EReal := m ((c : Thread nD τ).loc main_arg2)
def second (c : Dev nD) : S352x1024.Idx → EReal := m ((c : Thread nD τ).loc main_arg3)
/-- What the call leaves: the gradient, the step and the two new moments. -/
def resG (c : Dev nD) : S352x1024.Idx → EReal := (dats m 0 c).arrAt 4 cfg0.N
def resD (c : Dev nD) : S352x1024.Idx → EReal := (dats m 0 c).arrAt 5 cfg0.N
def resM (c : Dev nD) : S352x1024.Idx → EReal := (dats m 0 c).arrAt 6 cfg0.N
def resV (c : Dev nD) : S352x1024.Idx → EReal := (dats m 0 c).arrAt 7 cfg0.N

section
variable (c : Dev nD) (t : Fin cfg0.N) (r : Fin 32) (q : Fin 1024) (r' : Fin 352) (q' : Fin 1024)
  (hr : r'.val = t.val / 1 * 32 + 1 * r.val) (hq : q'.val = t.val % 1 * 1024 + 1 * q.val)
include hr hq

/-- What a grid point's blocks show of the arguments. -/
theorem shown : (∀ p : Fin 8, (iblk m c 0 t : Vec Ideal S8x32x1024 .bf16) (ix3 p r q) = parts m c (ix3 p r' q'))
    ∧ (iblk m c 1 t : Vec Ideal S32x1024 .f32) (ix2 r q) = weight m c (ix2 r' q') ∧ (iblk m c 2 t : Vec Ideal S32x1024 .f32) (ix2 r q) = first m c (ix2 r' q')
    ∧ (iblk m c 3 t : Vec Ideal S32x1024 .f32) (ix2 r q) = second m c (ix2 r' q') := by
  obtain ⟨⟨e, e0, e1⟩, h, -⟩ := index t
  unfold iblk
  refine ⟨fun p => ?_, ?_, ?_, ?_⟩ <;> rw [View.read_apply]
  · exact congrArg (V m c main_arg0) (at_block3 rfl rfl rfl e e0 e1 hr hq)
  · exact congrArg (V m c main_arg1) (at_block rfl rfl (h 0).1 (h 1).1 hr hq)
  · exact congrArg (V m c main_arg2) (at_block rfl rfl (h 0).2.1 (h 1).2.1 hr hq)
  · exact congrArg (V m c main_arg3) (at_block rfl rfl (h 0).2.2.1 (h 1).2.2.1 hr hq)

/-- What a grid point's blocks leave in the results. -/
theorem written : resG m c (ix2 r' q') = out0_4 (F := Ideal) (iblk m c 0 t) (iblk m c 1 t) (iblk m c 2 t) (iblk m c 3 t) (ix2 r q)
    ∧ resD m c (ix2 r' q') = out0_5 (F := Ideal) (iblk m c 0 t) (iblk m c 1 t) (iblk m c 2 t) (iblk m c 3 t) (ix2 r q)
    ∧ resM m c (ix2 r' q') = out0_6 (F := Ideal) (iblk m c 0 t) (iblk m c 1 t) (iblk m c 2 t) (iblk m c 3 t) (ix2 r q)
    ∧ resV m c (ix2 r' q') = out0_7 (F := Ideal) (iblk m c 0 t) (iblk m c 1 t) (iblk m c 2 t) (iblk m c 3 t) (ix2 r q) := by
  obtain ⟨-, h, f4, f5, f6, f7⟩ := index t
  have h4 := congrFun ((blocks4 m c t f4).trans (flushed4 m c t)) (ix2 r q)
  have h5 := congrFun ((blocks5 m c t f5).trans (flushed5 m c t)) (ix2 r q)
  have h6 := congrFun ((blocks6 m c t f6).trans (flushed6 m c t)) (ix2 r q)
  have h7 := congrFun ((blocks7 m c t f7).trans (flushed7 m c t)) (ix2 r q)
  rw [View.read_apply] at h4 h5 h6 h7
  exact ⟨(congrArg (resG m c) (at_block rfl rfl (h 0).2.2.2.1 (h 1).2.2.2.1 hr hq)).symm.trans h4,
    (congrArg (resD m c) (at_block rfl rfl (h 0).2.2.2.2.1 (h 1).2.2.2.2.1 hr hq)).symm.trans h5,
    (congrArg (resM m c) (at_block rfl rfl (h 0).2.2.2.2.2.1 (h 1).2.2.2.2.2.1 hr hq)).symm.trans h6,
    (congrArg (resV m c) (at_block rfl rfl (h 0).2.2.2.2.2.2 (h 1).2.2.2.2.2.2 hr hq)).symm.trans h7⟩

end

/-- The four results, entry by entry. -/
theorem results (c : Dev nD) (r : Fin 352) (q : Fin 1024) : resG m c (ix2 r q) = total8 (parts m c) r q
    ∧ resD m c (ix2 r q) = delta (weight m c (ix2 r q)) (first m c (ix2 r q)) (second m c (ix2 r q)) (total8 (parts m c) r q)
    ∧ resM m c (ix2 r q) = moment (first m c (ix2 r q)) (total8 (parts m c) r q) ∧ resV m c (ix2 r q) = square (second m c (ix2 r q)) (total8 (parts m c) r q) := by
  revert r q
  refine on_blocks (n := cfg0.N) (TM := 32) (TN := 1024) 11 1 (N_0.trans (by decide)) (by decide) (by decide) fun t r q r' q' hr hq => ?_
  obtain ⟨hp, hw, hf, hs⟩ := shown m c t r q r' q' hr hq
  obtain ⟨g, d, f, s⟩ := written m c t r q r' q' hr hq
  have ht : total8 (iblk m c 0 t : Vec Ideal S8x32x1024 .bf16) r q = total8 (parts m c) r' q' := by
    unfold total8
    simp only [hp]
  rw [← hw, ← hf, ← hs, ← ht, g, d, f, s]
  exact stored ..

end Cert.KernelAdamDownIdeal.Grad

namespace Cert.Proof.KernelAdamDownIdeal

open Cert.ReferenceAdamDownIdeal Cert.ReferenceAdamDownIdeal.Read Cert.Sums Cert.Adam Cert.KernelAdamDownIdeal.Grad

/-- The reference's gradient, the sum over the devices. -/
theorem reference_total (x0 : S8x352x1024.Idx → EReal) (r : Fin 352) (q : Fin 1024) : val_main_v1 (F := Ideal) x0 (ix2 r q) = total8 x0 r q := by
  rw [val_main_v1_apply]
  exact sum_parts x0 r q _ fun k x => match x with | ⟨0, _⟩ => rfl | ⟨1, _⟩ => rfl | ⟨2, _⟩ => rfl

theorem algebraic : Cert.algebraic_KernelAdamDownIdeal_ReferenceAdamDownIdeal := by
  intro m ρ m' ρ' _ hagree
  refine ⟨fun c => resG m c, fun c => resD m c, fun c => resM m c, fun c => resV m c, Cert.KernelAdamDownIdeal.Value.run_blocks m ρ, ?_⟩
  refine (θ_run Cert.ReferenceAdamDownIdeal.defs _ _).mono (fun _ h c => ⟨(h c).1.trans ?_, (h c).2.1.trans ?_, (h c).2.2.1.trans ?_, (h c).2.2.2.1.trans ?_, (h c).2.2.2.2⟩) (Cert.ReferenceAdamDownIdeal.Value.run (F := Ideal) m' ρ')
  · rw [val_main_v1_eq, (hagree c).1]
    exact by_entries fun r q => (reference_total _ r q).trans (results m c r q).1.symm
  · rw [val_main_v25_eq, (hagree c).1, (hagree c).2.1, (hagree c).2.2.1, (hagree c).2.2.2]
    exact by_entries fun r q => (congrArg (delta _ _ _) (reference_total _ r q)).trans (results m c r q).2.1.symm
  · rw [val_main_v6_eq, (hagree c).1, (hagree c).2.2.1]
    exact by_entries fun r q => (congrArg (moment _) (reference_total _ r q)).trans (results m c r q).2.2.1.symm
  · rw [val_main_v12_eq, (hagree c).1, (hagree c).2.2.2]
    exact by_entries fun r q => (congrArg (square _) (reference_total _ r q)).trans (results m c r q).2.2.2.symm

/-- The reference's own frame. -/
theorem frame_reference : Cert.quiescent_ReferenceAdamDownIdeal := fun m ρ _ =>
  (θ_run Cert.ReferenceAdamDownIdeal.defs _ _).mono (fun r h => ⟨fun c => (h c).2.2.2.2, Idealize.ShloMosaic.sem_eq_zero_of_no_sems (by decide) r.2⟩)
    (Cert.ReferenceAdamDownIdeal.Value.run (F := Ideal) m ρ)

end Cert.Proof.KernelAdamDownIdeal

end
-- ==== Proof.Sum.lean ====
/- The sum of the devices' small gradients: the call's one block, and the reference. -/
module

public import proofs.«01_k».proof.Proof.Adam
public import proofs.«01_k».proof.Proof.Gen.KernelSumIdeal.Value
public import proofs.«01_k».proof.Proof.Gen.ReferenceSumIdeal.Read
public import proofs.«01_k».proof.Defs
public import Idealize.ShloMosaic.Lib.Tactic
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem

namespace Cert.KernelSumIdeal.Grad

open Cert.KernelSumIdeal Cert.KernelSumIdeal.Gen Cert.KernelSumIdeal.Value Cert.Sums Cert.Adam

/-- What the block's stores leave, entry by entry. -/
theorem stored (a0 : S8x40x1024.Idx → EReal) (y : S40x1024.Idx) : out0_1 (F := Ideal) a0 y = total8 a0 (y 0) (y 1) := by
  unfold out0_1
  canon_tiles x h using cover0_1 ..
  all_goals
    obtain ⟨r, q, rfl⟩ := places x
    open_payloads
    pointwise
    rw [place h0 h1]
    rfl

end Cert.KernelSumIdeal.Grad

namespace Cert.Proof.KernelSumIdeal

open Cert.ReferenceSumIdeal Cert.ReferenceSumIdeal.Read Cert.Sums Cert.Adam Cert.KernelSumIdeal.Grad Cert.KernelSumIdeal.Value

theorem reference_total (x0 : S8x40x1024.Idx → EReal) (r : Fin 40) (q : Fin 1024) : val_main_v0 (F := Ideal) x0 (ix2 r q) = total8 x0 r q := by
  rw [val_main_v0_apply]
  exact sum_parts x0 r q _ fun k x => match x with | ⟨0, _⟩ => rfl | ⟨1, _⟩ => rfl | ⟨2, _⟩ => rfl

theorem algebraic : Cert.algebraic_KernelSumIdeal_ReferenceSumIdeal := by
  intro m ρ m' ρ' _ hagree
  refine ⟨_, Cert.KernelSumIdeal.Value.run m ρ, ?_⟩
  refine (θ_run Cert.ReferenceSumIdeal.defs _ _).mono (fun _ h c => ⟨(h c).1.trans ?_, (h c).2⟩) (Cert.ReferenceSumIdeal.Value.run (F := Ideal) m' ρ')
  rw [val_main_v0_eq, hagree c, ← out1_eq]
  exact by_entries fun r q => (reference_total _ r q).trans (stored _ (ix2 r q)).symm

/-- The reference's own frame. -/
theorem frame_reference : Cert.quiescent_ReferenceSumIdeal := fun m ρ _ =>
  (θ_run Cert.ReferenceSumIdeal.defs _ _).mono (fun r h => ⟨fun c => (h c).2, Idealize.ShloMosaic.sem_eq_zero_of_no_sems (by decide) r.2⟩)
    (Cert.ReferenceSumIdeal.Value.run (F := Ideal) m ρ)

end Cert.Proof.KernelSumIdeal

end
-- ==== Proof.ProjDt.lean ====
/- The projection to the step sizes: what the grid of blocks leaves is what the reference takes. -/
module

public import proofs.«01_k».proof.Proof.Blocks
public import proofs.«01_k».proof.Proof.Gen.KernelDtIdeal.Value
public import proofs.«01_k».proof.Proof.Gen.ReferenceDtIdeal.Read
public import proofs.«01_k».proof.Defs
public import Idealize.ShloMosaic.Lib.Tactic
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem

namespace Cert.KernelDtIdeal.Grad

open Cert.KernelDtIdeal Cert.KernelDtIdeal.Gen Cert.KernelDtIdeal.Value Cert.Sums

variable (m : (ℓ : Loc nD τ sig) → Buf (Elt Ideal) ℓ)

theorem index : ∀ t : Fin cfg0.N, (win0_0.index t (0 : Fin 2) = t.val / 1 ∧ win0_0.index t (1 : Fin 2) = 0) ∧ (win0_1.index t (0 : Fin 2) = t.val % 1 ∧ win0_1.index t (1 : Fin 2) = 0)
    ∧ (win0_2.index t (0 : Fin 2) = t.val / 1 ∧ win0_2.index t (1 : Fin 2) = t.val % 1) := (by decide +kernel : ∀ t : Fin grid0.N, _)
theorem flushes : ∀ t : Fin cfg0.N, (cfg0.win 2).flush t = true := (by decide +kernel : ∀ t : Fin grid0.N, _)

/-- The two arguments and the result. -/
def argL (c : Dev nD) : S8192x1024.Idx → EReal := m ((c : Thread nD τ).loc main_arg0)
def argR (c : Dev nD) : S128x1024.Idx → EReal := m ((c : Thread nD τ).loc main_arg1)
def res (c : Dev nD) : S8192x128.Idx → EReal := (dats m 0 c).arrAt 2 cfg0.N

theorem left_apply (c : Dev nD) (t : Fin cfg0.N) (r : Fin 1024) (k : Fin 1024) (r' : Fin 8192) (hr : r'.val = t.val / 1 * 1024 + 1 * r.val) :
    (iblk m c 0 t : Vec Ideal S1024x1024 .bf16) (ix2 r k) = argL m c (ix2 r' k) := by
  obtain ⟨⟨e0, e1⟩, -, -⟩ := index t
  unfold iblk argL
  rw [View.read_apply]
  exact congrArg (V m c main_arg0) (at_block rfl rfl e0 e1 hr (within k))

theorem right_apply (c : Dev nD) (t : Fin cfg0.N) (q : Fin 128) (k : Fin 1024) (q' : Fin 128) (hq : q'.val = t.val % 1 * 128 + 1 * q.val) :
    (iblk m c 1 t : Vec Ideal S128x1024 .bf16) (ix2 q k) = argR m c (ix2 q' k) := by
  obtain ⟨-, ⟨e0, e1⟩, -⟩ := index t
  unfold iblk argR
  rw [View.read_apply]
  exact congrArg (V m c main_arg1) (at_block rfl rfl e0 e1 hq (within k))

/-- The two blocks grid point `t` reads. -/
def blkL (c : Dev nD) (t : Fin cfg0.N) : S1024x1024.Idx → EReal := iblk m c 0 t
def blkR (c : Dev nD) (t : Fin cfg0.N) : S128x1024.Idx → EReal := iblk m c 1 t

/-- What grid point `t` stores, entry by entry. -/
theorem stored_apply (c : Dev nD) (t : Fin cfg0.N) (r : Fin 1024) (q : Fin 128) :
    (out0_2 (F := Ideal) (iblk m c 0 t) (iblk m c 1 t) : S1024x128.Idx → EReal) (ix2 r q) = ∑ k : Fin 1024, blkL m c t (ix2 r k) * blkR m c t (ix2 q k) := by
  unfold blkL blkR
  unfold out0_2
  rw [View.canon_unit_zero (S := S1024x128) zero2, View.ld_unit_zero (S := S1024x1024) zero2, View.ld_unit_zero (S := S128x1024) zero2]
  unfold k0_pay1
  pointwise

/-- The result, entry by entry. -/
theorem result_apply (c : Dev nD) : ∀ (r : Fin 8192) (q : Fin 128), res m c (ix2 r q) = ∑ k : Fin 1024, argL m c (ix2 r k) * argR m c (ix2 q k) := by
  refine of_blocks (n := cfg0.N) (TM := 1024) (TN := 128) 8 1 (N_0.trans (by decide)) (by decide) (by decide) fun t r q r' q' hr hq => ?_
  obtain ⟨-, -, e0, e1⟩ := index t
  have hb := congrFun ((blocks2 m c t (flushes _)).trans (flushed2 m c t)) (ix2 r q)
  rw [View.read_apply] at hb
  refine ((congrArg (res m c) (at_block rfl rfl e0 e1 hr hq)).symm.trans hb).trans ((stored_apply m c t r q).trans ?_)
  exact Finset.sum_congr rfl fun k _ => congrArg₂ _ (left_apply m c t r k r' hr) (right_apply m c t q k q' hq)

end Cert.KernelDtIdeal.Grad

namespace Cert.Proof.KernelDtIdeal

open Cert.ReferenceDtIdeal Cert.ReferenceDtIdeal.Read

/-- The reference, entry by entry. -/
theorem ref_apply (x0 : S8192x1024.Idx → EReal) (x1 : S128x1024.Idx → EReal) (r : Fin 8192) (q : Fin 128) :
    val_main_v3 (F := Ideal) x0 x1 (ix2 r q) = ∑ k : Fin 1024, x0 (ix2 r k) * x1 (ix2 q k) := by
  rw [val_main_v3_apply]
  refine Finset.sum_congr rfl fun k _ => ?_
  rw [val_main_v0_apply, val_main_v2_apply, val_main_v1_apply, Ideal.extf_def, Ideal.extf_def]
  congr 2 <;> (funext x; match x with | ⟨0, _⟩ => rfl | ⟨1, _⟩ => rfl)

theorem algebraic : Cert.algebraic_KernelDtIdeal_ReferenceDtIdeal := by
  intro m ρ m' ρ' _ hagree
  refine ⟨fun c => Cert.KernelDtIdeal.Grad.res m c, Cert.KernelDtIdeal.Value.run_blocks m ρ, ?_⟩
  refine (θ_run Cert.ReferenceDtIdeal.defs _ _).mono (fun _ h c => ⟨(h c).1.trans ?_, (h c).2⟩) (Cert.ReferenceDtIdeal.Value.run (F := Ideal) m' ρ')
  rw [val_main_v3_eq, (hagree c).1, (hagree c).2]
  exact Cert.Sums.by_entries fun r q => (ref_apply _ _ r q).trans (Cert.KernelDtIdeal.Grad.result_apply m c r q).symm

/-- The reference's own frame. -/
theorem frame_reference : Cert.quiescent_ReferenceDtIdeal := fun m ρ _ =>
  (θ_run Cert.ReferenceDtIdeal.defs _ _).mono (fun r h => ⟨fun c => (h c).2, Idealize.ShloMosaic.sem_eq_zero_of_no_sems (by decide) r.2⟩)
    (Cert.ReferenceDtIdeal.Value.run (F := Ideal) m ρ)

end Cert.Proof.KernelDtIdeal

end
-- ==== Proof.WeightDt.lean ====
/- The weight gradient of the projection to the step sizes, whose 32 columns are padded to 128: what the grid of blocks leaves is the gradient the reference takes. -/
module

public import proofs.«01_k».proof.Proof.Sums
public import proofs.«01_k».proof.Proof.Gen.KernelWdtIdeal.Value
public import proofs.«01_k».proof.Proof.Gen.ReferenceWdtIdeal.Read
public import proofs.«01_k».proof.Defs
public import Idealize.ShloMosaic.Lib.Tactic
public import Idealize.ShloMosaic.Lib.Pointwise
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.KernelWdtIdeal.Grad

open Cert.KernelWdtIdeal Cert.KernelWdtIdeal.Gen Cert.KernelWdtIdeal.Value Cert.Sums

variable (m : (ℓ : Loc nD τ sig) → Buf (Elt Ideal) ℓ) (ρ : Dev nD → PrngReg)

theorem reset_apply (i : S128x1024.Idx) : (k0_pay1 (F := Ideal)) i = 0 := by
  unfold k0_pay1
  simp only [shapeCast_self]
  show Ideal.ofBits .f32 0#32 = 0
  exact Ideal.ofBits_zero .f32

/-- One grid point adds the product of its two blocks. -/
theorem step_apply (acc : Vec Ideal S128x1024 .f32) (x : Vec Ideal S2048x128 .bf16) (y : Vec Ideal S2048x1024 .bf16)
    (r : Fin 128) (q : Fin 1024) :
    k0_pay2 acc x y (ix2 r q) = acc (ix2 r q) + ∑ k : Fin 2048, x (ix2 k r) * y (ix2 k q) := by
  unfold k0_pay2
  simp only [shapeCast_self]
  pointwise

theorem cast_apply (v : Vec Ideal S128x1024 .f32) (i : S128x1024.Idx) : k0_pay3 v i = v i := rfl

/-- The first point of a run leaves its own product. -/
theorem carried_first (c : Dev nD) (t : Fin cfg0.N) (h0 : t.val % 4 = 0) :
    (outsAt0 m c t.val t.isLt).2 = k0_pay2 (F := Ideal) (k0_pay1 (F := Ideal)) (iblk m c 0 t) (iblk m c 1 t) := by
  rw [outsAt0_A m c t h0 (by omega)]
  dsimp only
  unfold sout0_A_0
  rw [View.read_writes_eq_canon _ _ _ (fun y => scover0_A_0 (y := y) ..)]
  unfold kernelRun0_A
  dsimp only
  sl_unfold_words
  rw [View.canon_cons_unit_zero (S := S128x1024) zero2]
  simp only [View.readAt_eq_ld, Memref.IsWhole.read_unread, read_unread_whole, View.ld_unit_zero (S := S2048x128) zero2, View.ld_unit_zero (S := S2048x1024) zero2,
    View.readCov_unit_zero (S := S128x1024) _ zero2]

/-- A later point adds its product to what the point before left. -/
theorem carried_next (c : Dev nD) (t : Fin cfg0.N) (h0 : ¬t.val % 4 = 0) (h1 : ¬t.val % 4 = 3) :
    (outsAt0 m c t.val t.isLt).2 = k0_pay2 (F := Ideal) (outsAt0 m c (t.val - 1) (Nat.lt_of_le_of_lt (Nat.sub_le _ _) t.isLt)).2 (iblk m c 0 t) (iblk m c 1 t) := by
  rw [outsAt0_B m c t h0 h1]
  dsimp only
  unfold sout0_B_0
  rw [View.read_writes_eq_canon _ _ _ (fun y => scover0_B_0 (y := y) ..)]
  unfold kernelRun0_B
  dsimp only
  sl_unfold_words
  rw [View.canon_unit_zero (S := S128x1024) zero2]
  simp only [View.readAt_eq_ld, Memref.IsWhole.read_unread, read_unread_whole, View.ld_unit_zero (S := S2048x128) zero2, View.ld_unit_zero (S := S2048x1024) zero2,
    View.ld_unit_zero (S := S128x1024) zero2]

/-- The last point of a run stores the sum. -/
theorem stored_last (c : Dev nD) (t : Fin cfg0.N) (h1 : t.val % 4 = 3) :
    (outsAt0 m c t.val t.isLt).1 = k0_pay3 (F := Ideal) (k0_pay2 (outsAt0 m c (t.val - 1) (Nat.lt_of_le_of_lt (Nat.sub_le _ _) t.isLt)).2 (iblk m c 0 t) (iblk m c 1 t)) := by
  rw [outsAt0_C m c t (by omega) h1]
  dsimp only
  unfold out0_C_2
  rw [View.read_writes_eq_canon _ _ _ (fun y => cover0_C_2 (y := y) ..)]
  unfold kernelRun0_C
  dsimp only
  sl_unfold_words
  rw [View.canon_unit_zero (S := S128x1024) zero2]
  simp only [View.readAt_eq_ld, Memref.IsWhole.read_unread, read_unread_whole, View.ld_unit_zero (S := S2048x128) zero2, View.ld_unit_zero (S := S2048x1024) zero2,
    View.ld_unit_zero (S := S128x1024) zero2, View.readCov_unit_zero (S := S128x1024) _ zero2]

theorem index_left : ∀ t : Fin cfg0.N, win0_0.index t (0 : Fin 2) = t.val % 4 ∧ win0_0.index t (1 : Fin 2) = t.val / 4 :=
  (by decide +kernel : ∀ t : Fin grid0.N, _)
theorem index_right : ∀ t : Fin cfg0.N, win0_1.index t (0 : Fin 2) = t.val % 4 ∧ win0_1.index t (1 : Fin 2) = 0 :=
  (by decide +kernel : ∀ t : Fin grid0.N, _)

/-- The two arguments, read at a row and a column. -/
def argL (c : Dev nD) : S8192x128.Idx → EReal := m ((c : Thread nD τ).loc main_arg0)
def argR (c : Dev nD) : S8192x1024.Idx → EReal := m ((c : Thread nD τ).loc main_arg1)

theorem left_apply (c : Dev nD) (t : Fin cfg0.N) (k : Fin 2048) (r : Fin 128) (a : Fin 4) (b : Fin 1) (ha : t.val % 4 = a.val) (hb : t.val / 4 = b.val) :
    (iblk m c 0 t : Vec Ideal S2048x128 .bf16) (ix2 k r) = argL m c (ix2 (n0 := 8192) (n1 := 128) ⟨2048 * a.val + k.val, by omega⟩ ⟨128 * b.val + r.val, by omega⟩) := by
  obtain ⟨e0, e1⟩ := index_left t
  unfold iblk argL
  rw [View.read_apply]
  show V m c main_arg0 _ = V m c main_arg0 _
  congr 1
  funext x
  apply Fin.ext
  match x with
  | ⟨0, _⟩ => show win0_0.index t (0 : Fin 2) * 2048 + 1 * k.val = 2048 * a.val + k.val; rw [e0]; omega
  | ⟨1, _⟩ => show win0_0.index t (1 : Fin 2) * 128 + 1 * r.val = 128 * b.val + r.val; rw [e1]; omega

theorem right_apply (c : Dev nD) (t : Fin cfg0.N) (k : Fin 2048) (q : Fin 1024) (a : Fin 4) (ha : t.val % 4 = a.val) :
    (iblk m c 1 t : Vec Ideal S2048x1024 .bf16) (ix2 k q) = argR m c (ix2 (n0 := 8192) (n1 := 1024) ⟨2048 * a.val + k.val, by omega⟩ q) := by
  obtain ⟨e0, e1⟩ := index_right t
  unfold iblk argR
  rw [View.read_apply]
  show V m c main_arg1 _ = V m c main_arg1 _
  congr 1
  funext x
  apply Fin.ext
  match x with
  | ⟨0, _⟩ => show win0_1.index t (0 : Fin 2) * 2048 + 1 * k.val = 2048 * a.val + k.val; rw [e0]; omega
  | ⟨1, _⟩ => show win0_1.index t (1 : Fin 2) * 1024 + 1 * q.val = q.val; rw [e1]; omega

/-- The part of the gradient's sum that row block `a` gives. -/
def part (c : Dev nD) (b : Fin 1) (r : Fin 128) (q : Fin 1024) (a : Fin 4) : EReal :=
  ∑ k : Fin 2048, argL m c (ix2 (n0 := 8192) (n1 := 128) ⟨2048 * a.val + k.val, by omega⟩ ⟨128 * b.val + r.val, by omega⟩)
    * argR m c (ix2 (n0 := 8192) (n1 := 1024) ⟨2048 * a.val + k.val, by omega⟩ q)

theorem point_sum (c : Dev nD) (t : Fin cfg0.N) (r : Fin 128) (q : Fin 1024) (a : Fin 4) (b : Fin 1) (ha : t.val % 4 = a.val) (hb : t.val / 4 = b.val) :
    (∑ k : Fin 2048, (show EReal from (iblk m c 0 t : Vec Ideal S2048x128 .bf16) (ix2 k r)) * (show EReal from (iblk m c 1 t : Vec Ideal S2048x1024 .bf16) (ix2 k q))) = part m c b r q a := by
  unfold part
  refine Finset.sum_congr rfl fun k _ => ?_
  rw [left_apply m c t k r a b ha hb, right_apply m c t k q a ha]

/-- What the last point of run `b` stores: the sum over the four row blocks. -/
theorem stored_apply (c : Dev nD) (b : Fin 1) (hb : 4 * b.val + 3 < cfg0.N) (r : Fin 128) (q : Fin 1024) :
    (outsAt0 m c (4 * b.val + 3) hb).1 (ix2 r q) = ∑ a : Fin 4, part m c b r q a := by
  have s0 := carried_first m c ⟨4 * b.val, by omega⟩ (by show 4 * b.val % 4 = 0; omega)
  have s1 := carried_next m c ⟨4 * b.val + 1, by omega⟩ (by show ¬(4 * b.val + 1) % 4 = 0; omega) (by show ¬(4 * b.val + 1) % 4 = 3; omega)
  have s2 := carried_next m c ⟨4 * b.val + 2, by omega⟩ (by show ¬(4 * b.val + 2) % 4 = 0; omega) (by show ¬(4 * b.val + 2) % 4 = 3; omega)
  have s3 := stored_last m c ⟨4 * b.val + 3, hb⟩ (by show (4 * b.val + 3) % 4 = 3; omega)
  dsimp only at s0 s1 s2 s3
  rw [s3, cast_apply, step_apply]
  simp only [show 4 * b.val + 3 - 1 = 4 * b.val + 2 from rfl]
  rw [s2, step_apply]
  simp only [show 4 * b.val + 2 - 1 = 4 * b.val + 1 from rfl]
  rw [s1, step_apply]
  simp only [show 4 * b.val + 1 - 1 = 4 * b.val from rfl]
  rw [s0, step_apply, reset_apply, zero_add, Fin.sum_univ_four,
    point_sum m c _ r q 0 b (by show 4 * b.val % 4 = 0; omega) (by show 4 * b.val / 4 = b.val; omega),
    point_sum m c _ r q 1 b (by show (4 * b.val + 1) % 4 = 1; omega) (by show (4 * b.val + 1) / 4 = b.val; omega),
    point_sum m c _ r q 2 b (by show (4 * b.val + 2) % 4 = 2; omega) (by show (4 * b.val + 2) / 4 = b.val; omega),
    point_sum m c _ r q 3 b (by show (4 * b.val + 3) % 4 = 3; omega) (by show (4 * b.val + 3) / 4 = b.val; omega)]

/-- The result array. -/
def res (c : Dev nD) : S128x1024.Idx → EReal := G2 m c

/-- It is the sum over all 8192 rows. -/
theorem result_apply (c : Dev nD) (r : Fin 128) (q : Fin 1024) :
    res m c (ix2 r q) = ∑ k : Fin 8192, argL m c (ix2 k r) * argR m c (ix2 k q) := by
  have hN : cfg0.N = 4 * 1 := N_0
  have hp : pt2Of (ix2 r q) = 4 * (r.val / 128) + 3 := by
    show 4 * (1 * (r.val / 128 - 0) + 1 * (q.val / 1024 - 0)) + 3 = _
    have := q.isLt
    omega
  have hlt : pt2Of (ix2 r q) < cfg0.N := by rw [hp, hN]; have := r.isLt; omega
  have hl : loc2Of (ix2 r q) = ix2 (n0 := 128) (n1 := 1024) ⟨r.val % 128, Nat.mod_lt _ (by decide)⟩ q := by
    funext x
    apply Fin.ext
    match x with
    | ⟨0, _⟩ => rfl
    | ⟨1, _⟩ => show q.val % 1024 = q.val; have := q.isLt; omega
  have hG : res m c (ix2 r q) = (outsAt0 m c (pt2Of (ix2 r q)) hlt).1 (loc2Of (ix2 r q)) := by
    unfold res
    rw [outsAt0_sweep]
    unfold G2
    rw [dif_pos hlt]
  have hcong : ∀ (n n' : ℕ) (h : n < cfg0.N) (h' : n' < cfg0.N), n = n' → outsAt0 m c n h = outsAt0 m c n' h' := by
    intro n n' h h' e; subst e; rfl
  have hb : r.val / 128 < 1 := by have := r.isLt; omega
  rw [hG, hl, hcong _ (4 * (⟨r.val / 128, hb⟩ : Fin 1).val + 3) hlt (by rw [← hp]; exact hlt) hp, stored_apply m c ⟨r.val / 128, hb⟩,
    sum_blocks (M := EReal) 4 2048 8192 rfl]
  refine Finset.sum_congr rfl fun a _ => ?_
  unfold part
  refine Finset.sum_congr rfl fun k _ => ?_
  have hr : (⟨128 * (r.val / 128) + r.val % 128, by have := Nat.div_add_mod r.val 128; omega⟩ : Fin 128) = r := Fin.ext (Nat.div_add_mod _ _)
  dsimp only
  rw [hr]

end Cert.KernelWdtIdeal.Grad

namespace Cert.Proof.KernelWdtIdeal

open Cert.Sums

/-- The reference's gradient at a row and a column is the same sum. -/
theorem ref_apply (x0 : Cert.ReferenceWdtIdeal.S8192x128.Idx → EReal) (x1 : Cert.ReferenceWdtIdeal.S8192x1024.Idx → EReal) (r : Fin 128) (q : Fin 1024) :
    Cert.ReferenceWdtIdeal.Read.val_main_v6 (F := Ideal) x0 x1 (ix2 r q) = ∑ k : Fin 8192, x0 (ix2 k r) * x1 (ix2 k q) := by
  rw [Cert.ReferenceWdtIdeal.Read.val_main_v6_apply, Cert.ReferenceWdtIdeal.Read.val_main_v5_apply, Ideal.truncf_def, Cert.ReferenceWdtIdeal.Read.val_main_v4_apply]
  refine Finset.sum_congr rfl fun k _ => ?_
  rw [Cert.ReferenceWdtIdeal.Read.val_main_v3_apply, Cert.ReferenceWdtIdeal.Read.val_main_v0_apply, Ideal.extf_def, Ideal.extf_def, mul_comm]
  congr 2 <;> (funext x; match x with | ⟨0, _⟩ => rfl | ⟨1, _⟩ => rfl)

theorem algebraic : Cert.algebraic_KernelWdtIdeal_ReferenceWdtIdeal := by
  intro m ρ m' ρ' _ hagree
  refine ⟨fun c => Cert.KernelWdtIdeal.Value.G2 m c, Cert.KernelWdtIdeal.Value.run m ρ, ?_⟩
  refine (θ_run Cert.ReferenceWdtIdeal.defs _ _).mono (fun _ h c => ?_) (Cert.ReferenceWdtIdeal.Value.run (F := Ideal) m' ρ')
  refine ⟨(h c).1.trans ?_, (h c).2⟩
  rw [Cert.ReferenceWdtIdeal.Read.val_main_v6_eq, (hagree c).1, (hagree c).2]
  funext i
  obtain ⟨r, q, rfl⟩ : ∃ (r : Fin 128) (q : Fin 1024), i = ix2 r q := ⟨i 0, i 1, by funext x; match x with | ⟨0, _⟩ => rfl | ⟨1, _⟩ => rfl⟩
  rw [ref_apply]
  exact (Cert.KernelWdtIdeal.Grad.result_apply m c r q).symm

/-- The reference's own frame. -/
theorem frame_reference : Cert.quiescent_ReferenceWdtIdeal := fun m ρ _ =>
  (θ_run Cert.ReferenceWdtIdeal.defs _ _).mono (fun r h => ⟨fun c => (h c).2, Idealize.ShloMosaic.sem_eq_zero_of_no_sems (by decide) r.2⟩)
    (Cert.ReferenceWdtIdeal.Value.run (F := Ideal) m ρ)

end Cert.Proof.KernelWdtIdeal

end
-- ==== Proof.Norm.lean ====
/- The gradient through the norm of a row, as the kernel groups it and as differentiation does. -/
module

public import proofs.«01_k».proof.Proof.Sums
public import Idealize.ShloMosaic.Lib.Pointwise
public import Idealize.ShloMosaic.Lib.Pipeline.ValueKit.Tiles

@[expose] public section

noncomputable section

namespace Cert.Norm

open Idealize.ShloMosaic

/-- The width of a row, the constant added to the mean square, and the factor that comes from the derivative of the root. -/
def width : EReal := Ideal.ofBits .f32 0x44800000#32
def eps : EReal := Ideal.ofBits .f32 0x3727C5AC#32
def half : EReal := Ideal.ofBits .f32 0xBF000000#32

theorem width_eq : width = ((1024 : ℝ) : EReal) := by
  unfold width
  simp [Ideal.ofBits, Ideal.ieee, -EReal.coe_mul]; norm_num
theorem half_eq : half = ((-(1 / 2) : ℝ) : EReal) := by
  unfold half
  simp [Ideal.ofBits, Ideal.ieee, -EReal.coe_mul]; norm_num
theorem eps_eq : ∃ e : ℝ, 0 < e ∧ eps = (e : EReal) := by
  unfold eps
  refine ⟨_, ?_, by simp [Ideal.ofBits, Ideal.ieee, -EReal.coe_mul]; rfl⟩
  positivity

/-- The mean square of a row, with the constant added. -/
def level (x : Fin 1024 → EReal) : EReal := Ideal.div (∑ k, x k * x k) width + eps

/-- The kernel's entry of the gradient: `x` is the row, `d` the gradient of the normed row, `xq`, `dq` and `g` their entries and the entry of the
    gradient that passes the norm by. -/
def grouped (x d : Fin 1024 → EReal) (xq dq g : EReal) : EReal :=
  g + Ideal.rsqrt (level x) * (dq - xq * Ideal.rsqrt (level x) * Ideal.div (∑ k, d k * (x k * Ideal.rsqrt (level x))) width)

/-- Half of the derivative's term through the mean square, without the entry `xq`. -/
def through (x d : Fin 1024 → EReal) : EReal := Ideal.div ((∑ k, x k * d k) * (half * Ideal.div (Ideal.rsqrt (level x)) (level x))) width

/-- The entry that differentiation gives. -/
def derived (x d : Fin 1024 → EReal) (xq dq g : EReal) : EReal := dq * Ideal.rsqrt (level x) + xq * through x d + through x d * xq + g

theorem square_nonneg (x : EReal) : 0 ≤ x * x := by
  rcases le_total 0 x with h | h
  · exact mul_nonneg h h
  · rw [← neg_mul_neg]
    exact mul_nonneg (EReal.neg_nonneg.mpr h) (EReal.neg_nonneg.mpr h)

theorem scale_sum {ι : Type*} (s : Finset ι) (f : ι → EReal) {r : ℝ} (hr : 0 ≤ r) : ∑ k ∈ s, f k * (r : EReal) = (∑ k ∈ s, f k) * (r : EReal) := by
  classical
  induction s using Finset.induction_on with
  | empty => simp
  | insert a s ha ih =>
    rw [Finset.sum_insert ha, Finset.sum_insert ha, ih, EReal.right_distrib_of_nonneg_of_ne_top (EReal.coe_nonneg.mpr hr) (EReal.coe_ne_top r)]

theorem twice (t : EReal) : t + t = t * ((2 : ℝ) : EReal) := by
  induction t with
  | bot => rw [EReal.bot_mul_coe_of_pos (by norm_num)]; rfl
  | coe t => rw [← EReal.coe_add, ← EReal.coe_mul, mul_two]
  | top => rw [EReal.top_mul_coe_of_pos (by norm_num)]; rfl

/-- Both are the same number, whatever the entries: an infinite mean square makes both the entry that passes by, and otherwise the factors in
    front of the sums are real. -/
theorem grouped_eq (x d : Fin 1024 → EReal) (xq dq g : EReal) : grouped x d xq dq g = derived x d xq dq g := by
  obtain ⟨e, he, hε⟩ := eps_eq
  have hs : 0 ≤ ∑ k, x k * x k := Finset.sum_nonneg fun k _ => square_nonneg _
  unfold grouped derived through
  have hl : level x = (∑ k, x k * x k) * ((1 / 1024 : ℝ) : EReal) + (e : EReal) := by
    unfold level
    rw [width_eq, Ideal.div_coe (by norm_num), hε]
  rw [width_eq, half_eq, Ideal.div_coe (by norm_num), Ideal.div_coe (by norm_num)]
  generalize ∑ k, x k * x k = s at hs hl
  induction s with
  | bot => exact absurd hs (by simp)
  | top =>
    have ht : level x = ⊤ := by rw [hl, EReal.top_mul_coe_of_pos (by norm_num)]; rfl
    rw [ht]
    simp [Ideal.div]
  | coe s =>
    have hs' : 0 ≤ s := EReal.coe_nonneg.mp hs
    have ha : (0 : ℝ) < s * (1 / 1024) + e := by positivity
    have hc : level x = ((s * (1 / 1024) + e : ℝ) : EReal) := by rw [hl, EReal.coe_add, EReal.coe_mul]
    rw [hc]
    generalize s * (1 / 1024) + e = a at ha
    have hq : 0 < (Real.sqrt a)⁻¹ := inv_pos.mpr (Real.sqrt_pos.mpr ha)
    have hsq : (Real.sqrt a)⁻¹ * (Real.sqrt a)⁻¹ = 1 / a := by rw [← mul_inv, Real.mul_self_sqrt ha.le, one_div]
    rw [Ideal.rsqrt_coe, if_neg (not_lt.mpr ha.le), if_neg ha.ne', Ideal.div_coe ha.ne']
    generalize (Real.sqrt a)⁻¹ = p at hq hsq
    rw [show (∑ k, d k * (x k * (p : EReal))) = (∑ k, x k * d k) * (p : EReal) by
      rw [← scale_sum _ _ hq.le]; exact Finset.sum_congr rfl fun k _ => by rw [← mul_assoc, mul_comm (d k)]]
    generalize ∑ k, x k * d k = S
    rw [sub_eq_add_neg, EReal.left_distrib_of_nonneg_of_ne_top (EReal.coe_nonneg.mpr hq.le) (EReal.coe_ne_top p)]
    rw [← EReal.coe_mul, ← EReal.coe_mul, ← hsq]
    have hr : ∀ c : ℝ, S * ((c : ℝ) : EReal) * ((1 / 1024 : ℝ) : EReal) * xq = xq * (S * ((c : ℝ) : EReal) * ((1 / 1024 : ℝ) : EReal)) := fun c => mul_comm _ _
    rw [hr, add_assoc (dq * _), twice, add_comm g, mul_comm dq]
    congr 2
    have hleft : ∀ u v w : EReal, u * (xq * u * (v * u * w)) = xq * v * (u * u * u * w) := fun u v w => by ac_rfl
    have hright : ∀ u v w : EReal, xq * (S * u * v) * w = xq * S * (u * v * w) := fun u v w => by ac_rfl
    rw [mul_neg, hleft, hright, ← mul_neg, ← EReal.coe_mul, ← EReal.coe_mul, ← EReal.coe_mul, ← EReal.coe_mul, ← EReal.coe_mul, ← EReal.coe_neg]
    congr 2
    ring

end Cert.Norm

end
-- ==== Proof.InputGrad.lean ====
/- The gradient through the first norm: what the strips of every block leave is what differentiation gives. -/
module

public import proofs.«01_k».proof.Proof.Blocks
public import proofs.«01_k».proof.Proof.Norm
public import proofs.«01_k».proof.Proof.Gen.KernelDxIdeal.Value
public import proofs.«01_k».proof.Proof.Gen.ReferenceDxIdeal.Read
public import proofs.«01_k».proof.Defs
public import Idealize.ShloMosaic.Lib.Tactic
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem

namespace Cert.KernelDxIdeal.Grad

open Cert.KernelDxIdeal Cert.KernelDxIdeal.Gen Cert.KernelDxIdeal.Value Cert.Sums Cert.Norm

/-- What an array of `R` rows leaves at a row and a column. -/
def entry {R : ℕ} (x0 x1 : (⟨2, ![R, 1024]⟩ : Shape).Idx → EReal) (x2 : (⟨2, ![1, 1024]⟩ : Shape).Idx → EReal) (x3 : (⟨2, ![R, 1024]⟩ : Shape).Idx → EReal) (r : Fin R) (q : Fin 1024) : EReal :=
  grouped (fun k => x0 (ix2 r k)) (fun k => x1 (ix2 r k) * x2 (ix2 0 k)) (x0 (ix2 r q)) (x1 (ix2 r q) * x2 (ix2 0 q)) (x3 (ix2 r q))

section
variable (c : Dev nD) (i : grid0.Coords) (arg1 : Memref sig .tc .vmem S1024x1024 .f32) (harg1 : arg1.IsWhole) (arg2 : Memref sig .tc .vmem S1024x1024 .bf16) (harg2 : arg2.IsWhole)
  (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole)
  (arg6 : Memref sig .tc .vmem S1024x1024 .bf16) (harg6 : arg6.IsWhole) (arg7 : Memref sig .tc .vmem S8x1024 .f32) (harg7 : arg7.IsWhole)
  (x0 : Vec Ideal S1024x1024 .f32) (x1 : Vec Ideal S1024x1024 .bf16) (x2 : Vec Ideal S1x1024 .f32) (x3 : Vec Ideal S1024x1024 .f32) (y : S1024x1024.Idx)

set_option maxHeartbeats 4000000 in
/-- What the first block's stores leave. -/
theorem stored_first (hc0 : cond0_0 i) :
    out0_A_4 (F := Ideal) c i arg1 harg1 arg2 harg2 arg3 harg3 arg4 harg4 arg5 harg5 arg6 harg6 arg7 harg7 hc0 x0 x1 x2 x3 y = entry x0 x1 x2 x3 (y 0) (y 1) := by
  unfold out0_A_4
  rw [View.read_writes_eq_canon _ _ _ (fun y => cover0_A_4 (y := y) ..)]
  unfold kernelRun0_A
  dsimp only
  sl_unfold_words
  simp only [View.readAt_eq_ld, Memref.IsWhole.read_unread, View.ld_unit_zero (S := S1x1024) zero2]
  canon_tiles x h
  all_goals
    obtain ⟨r, q, rfl⟩ := places x
    open_payloads
    pointwise
    rw [place h0 h1]
    rfl

set_option maxHeartbeats 4000000 in
/-- What the other blocks' stores leave. -/
theorem stored_next (hc0 : ¬cond0_0 i) (x6 : Vec Ideal S8x1024 .f32) :
    out0_B_4 (F := Ideal) c i arg1 harg1 arg2 harg2 arg3 harg3 arg4 harg4 arg5 harg5 arg6 harg6 arg7 harg7 hc0 x0 x1 x2 x3 x6 y = entry x0 x1 x2 x3 (y 0) (y 1) := by
  unfold out0_B_4
  rw [View.read_writes_eq_canon _ _ _ (fun y => cover0_B_4 (y := y) ..)]
  unfold kernelRun0_B
  dsimp only
  sl_unfold_words
  simp only [View.readAt_eq_ld, Memref.IsWhole.read_unread, View.ld_unit_zero (S := S1x1024) zero2]
  canon_tiles x h
  all_goals
    obtain ⟨r, q, rfl⟩ := places x
    open_payloads
    pointwise
    rw [place h0 h1]
    rfl

end

variable (m : (ℓ : Loc nD τ sig) → Buf (Elt Ideal) ℓ)

/-- Every window's block at a grid point, and that every point writes its block back. -/
theorem index : ∀ t : Fin cfg0.N, (∀ a : Fin 2, win0_0.index t a = ![t.val / 1, t.val % 1] a ∧ win0_1.index t a = ![t.val / 1, t.val % 1] a ∧ win0_2.index t a = 0
      ∧ win0_3.index t a = ![t.val / 1, t.val % 1] a ∧ win0_4.index t a = ![t.val / 1, t.val % 1] a)
    ∧ (cfg0.win 4).flush t = true :=
  (by decide +kernel : ∀ t : Fin grid0.N, _)

/-- The rows, the gradient of the normed rows, the weights and the gradient that passes by, and the result. -/
def rows (c : Dev nD) : S8192x1024.Idx → EReal := m ((c : Thread nD τ).loc main_arg0)
def normed (c : Dev nD) : S8192x1024.Idx → EReal := m ((c : Thread nD τ).loc main_arg1)
def weight (c : Dev nD) : S1x1024.Idx → EReal := m ((c : Thread nD τ).loc main_arg2)
def passed (c : Dev nD) : S8192x1024.Idx → EReal := m ((c : Thread nD τ).loc main_arg3)
def res (c : Dev nD) : S8192x1024.Idx → EReal := (dats m 0 c).arrAt 4 cfg0.N

section
variable (c : Dev nD) (t : Fin cfg0.N) (r : Fin 1024) (q : Fin 1024) (r' : Fin 8192) (q' : Fin 1024)
  (hr : r'.val = t.val / 1 * 1024 + 1 * r.val)
include hr

/-- What a grid point's blocks show of the arguments. -/
theorem shown : (∀ k, (iblk m c 0 t : Vec Ideal S1024x1024 .f32) (ix2 r k) = rows m c (ix2 r' k)) ∧ (∀ k, (iblk m c 1 t : Vec Ideal S1024x1024 .bf16) (ix2 r k) = normed m c (ix2 r' k))
    ∧ (∀ k, (iblk m c 2 t : Vec Ideal S1x1024 .f32) (ix2 0 k) = weight m c (ix2 0 k)) ∧ (∀ k, (iblk m c 3 t : Vec Ideal S1024x1024 .f32) (ix2 r k) = passed m c (ix2 r' k)) := by
  obtain ⟨h, -⟩ := index t
  have hk : ∀ k : Fin 1024, k.val = t.val % 1 * 1024 + 1 * k.val := fun k => by omega
  unfold iblk
  refine ⟨fun k => ?_, fun k => ?_, fun k => ?_, fun k => ?_⟩ <;> rw [View.read_apply]
  · exact congrArg (V m c main_arg0) (at_block rfl rfl (h 0).1 (h 1).1 hr (hk k))
  · exact congrArg (V m c main_arg1) (at_block rfl rfl (h 0).2.1 (h 1).2.1 hr (hk k))
  · exact congrArg (V m c main_arg2) (at_block rfl rfl (h 0).2.2.1 (h 1).2.2.1 (within _) (within k))
  · exact congrArg (V m c main_arg3) (at_block rfl rfl (h 0).2.2.2.1 (h 1).2.2.2.1 hr (hk k))

/-- What a grid point's block leaves in the result. -/
theorem written (hq : q'.val = t.val % 1 * 1024 + 1 * q.val) :
    res m c (ix2 r' q') = entry (R := 1024) (iblk m c 0 t) (iblk m c 1 t) (iblk m c 2 t) (iblk m c 3 t) r q := by
  obtain ⟨h, f⟩ := index t
  by_cases h0 : t.val % 8 = 0
  · have hb := congrFun ((blocks4 m c t f).trans (flushed4_A m c t h0)) (ix2 r q)
    rw [View.read_apply] at hb
    exact ((congrArg (res m c) (at_block rfl rfl (h 0).2.2.2.2 (h 1).2.2.2.2 hr hq)).symm.trans hb).trans (stored_first (y := ix2 r q) ..)
  · have hb := congrFun ((blocks4 m c t f).trans (flushed4_B m c t h0)) (ix2 r q)
    rw [View.read_apply] at hb
    exact ((congrArg (res m c) (at_block rfl rfl (h 0).2.2.2.2 (h 1).2.2.2.2 hr hq)).symm.trans hb).trans (stored_next (y := ix2 r q) ..)

end

/-- The result, entry by entry. -/
theorem result_apply (c : Dev nD) : ∀ (r : Fin 8192) (q : Fin 1024), res m c (ix2 r q) = entry (rows m c) (normed m c) (weight m c) (passed m c) r q := by
  refine of_blocks (n := cfg0.N) (TM := 1024) (TN := 1024) 8 1 (N_0.trans (by decide)) (by decide) (by decide) fun t r q r' q' hr hq => ?_
  obtain ⟨h0, h1, h2, h3⟩ := shown m c t r r' hr
  obtain rfl : q' = q := Fin.ext (by omega)
  rw [written m c t r q' r' q' hr hq]
  unfold entry
  simp only [h0, h1, h2, h3]

end Cert.KernelDxIdeal.Grad

namespace Cert.Proof.KernelDxIdeal

open Cert.ReferenceDxIdeal Cert.ReferenceDxIdeal.Read Cert.Norm

/-- Where the reference reads the row's entries when it takes the entry at row `r`. -/
theorem at_square (r : Fin 8192) (q k : Fin 1024) : idx_main_v1 (idx_main_v2 (idx_main_v21 (ix2 r q))) k = ix2 r k := funext fun x => match x with | ⟨0, _⟩ => rfl | ⟨1, _⟩ => rfl
theorem at_through (r : Fin 8192) (q k : Fin 1024) : idx_main_v1 (idx_main_v2 (idx_main_v26 (idx_main_v27 (ix2 r q)) 0)) k = ix2 r k := funext fun x => match x with | ⟨0, _⟩ => rfl | ⟨1, _⟩ => rfl
theorem at_product (r : Fin 8192) (q k : Fin 1024) : idx_main_v19 (idx_main_v20 (idx_main_v26 (idx_main_v27 (ix2 r q)) 0)) k = ix2 r k := funext fun x => match x with | ⟨0, _⟩ => Fin.ext (show r.val * 1 + 0 = r.val by omega) | ⟨1, _⟩ => rfl
theorem at_weight (r : Fin 8192) (q : Fin 1024) : idx_main_v16 (ix2 r q) = ix2 0 q := funext fun x => match x with | ⟨0, _⟩ => rfl | ⟨1, _⟩ => rfl

/-- The reference, entry by entry. -/
theorem ref_apply (x0 x3 : S8192x1024.Idx → EReal) (x1 : S8192x1024.Idx → EReal) (x2 : S1x1024.Idx → EReal) (r : Fin 8192) (q : Fin 1024) :
    val_main_v32 (F := Ideal) x0 x1 x2 x3 (ix2 r q) = derived (fun k => x0 (ix2 r k)) (fun k => x1 (ix2 r k) * x2 (ix2 0 k)) (x0 (ix2 r q)) (x1 (ix2 r q) * x2 (ix2 0 q)) (x3 (ix2 r q)) := by
  simp only [val_main_v32_apply, val_main_v31_apply, val_main_v30_apply, val_main_v29_apply, val_main_v28_apply, val_main_v27_apply, val_main_v26_apply, val_main_v25_apply,
    val_main_v24_apply, val_main_v23_apply, val_main_v22_apply, val_main_v21_apply, val_main_v20_apply, val_main_v19_apply, val_main_v18_apply, val_main_v17_apply, val_main_v16_apply,
    val_main_v15_apply, val_main_v10_apply, val_main_v9_apply, val_main_v8_apply, val_main_v7_apply, val_main_v6_apply, val_main_v5_apply, val_main_v4_apply, val_main_v3_apply,
    val_main_v2_apply, val_main_v1_apply, val_main_v0_apply, val_main_cst_apply, val_main_cst_0_apply, val_main_cst_1_apply, val_main_cst_2_apply, val_main_cst_3_apply, val_main_cst_4_apply,
    val_main_cst_5_apply, Ideal.extf_def, Ideal.addf_def, Ideal.mulf_def, Ideal.hostDivf_def, Ideal.hostUnary_rsqrt_def, Ideal.ofBits_def, Ideal.ofBits_zero_f32, zero_add, Fin.sum_univ_one,
    at_square, at_through, at_product, at_weight]
  rfl

theorem algebraic : Cert.algebraic_KernelDxIdeal_ReferenceDxIdeal := by
  intro m ρ m' ρ' _ hagree
  refine ⟨fun c => Cert.KernelDxIdeal.Grad.res m c, (θ_run Cert.KernelDxIdeal.defs _ _).mono (fun _ h c => ⟨(h c).1, (h c).2.2.2⟩) (Cert.KernelDxIdeal.Value.run_blocks m ρ), ?_⟩
  refine (θ_run Cert.ReferenceDxIdeal.defs _ _).mono (fun _ h c => ⟨(h c).1.trans ?_, (h c).2⟩) (Cert.ReferenceDxIdeal.Value.run (F := Ideal) m' ρ')
  rw [val_main_v32_eq, (hagree c).1, (hagree c).2.1, (hagree c).2.2.1, (hagree c).2.2.2]
  exact Cert.Sums.by_entries fun r q => (ref_apply _ _ _ _ r q).trans ((grouped_eq ..).symm.trans (Cert.KernelDxIdeal.Grad.result_apply m c r q).symm)

/-- The reference's own frame. -/
theorem frame_reference : Cert.quiescent_ReferenceDxIdeal := fun m ρ _ =>
  (θ_run Cert.ReferenceDxIdeal.defs _ _).mono (fun r h => ⟨fun c => (h c).2, Idealize.ShloMosaic.sem_eq_zero_of_no_sems (by decide) r.2⟩)
    (Cert.ReferenceDxIdeal.Value.run (F := Ideal) m ρ)

end Cert.Proof.KernelDxIdeal

end
-- ==== Proof.lean ====
/- The certificate's claims, put together: the frames of every program, then of each pair of programs that the ideal kernel is the
   kernel and that it computes what the reference computes. -/
module

public import proofs.«01_k».proof.Defs
public import proofs.«01_k».proof.Proof.Ssd
public import proofs.«01_k».proof.Proof.WeightFf
public import proofs.«01_k».proof.Proof.WeightD
public import proofs.«01_k».proof.Proof.WeightDi
public import proofs.«01_k».proof.Proof.WeightX
public import proofs.«01_k».proof.Proof.RowsUp
public import proofs.«01_k».proof.Proof.RowsDown
public import proofs.«01_k».proof.Proof.RowsIn
public import proofs.«01_k».proof.Proof.ProjGates
public import proofs.«01_k».proof.Proof.ProjConv
public import proofs.«01_k».proof.Proof.ProjZ
public import proofs.«01_k».proof.Proof.ProjXbc
public import proofs.«01_k».proof.Proof.UpProj
public import proofs.«01_k».proof.Proof.DownProj
public import proofs.«01_k».proof.Proof.OutProj
public import proofs.«01_k».proof.Proof.OutSsd
public import proofs.«01_k».proof.Proof.RowsOut
public import proofs.«01_k».proof.Proof.RowsSsd
public import proofs.«01_k».proof.Proof.AdamH
public import proofs.«01_k».proof.Proof.AdamFb
public import proofs.«01_k».proof.Proof.AdamCa
public import proofs.«01_k».proof.Proof.AdamCs
public import proofs.«01_k».proof.Proof.AdamCf
public import proofs.«01_k».proof.Proof.AdamN
public import proofs.«01_k».proof.Proof.AdamSn
public import proofs.«01_k».proof.Proof.AdamSb
public import proofs.«01_k».proof.Proof.AdamIn
public import proofs.«01_k».proof.Proof.AdamA
public import proofs.«01_k».proof.Proof.AdamS
public import proofs.«01_k».proof.Proof.AdamUp
public import proofs.«01_k».proof.Proof.AdamDown
public import proofs.«01_k».proof.Proof.Sum
public import proofs.«01_k».proof.Proof.ProjDt
public import proofs.«01_k».proof.Proof.WeightDt
public import proofs.«01_k».proof.Proof.Norm
public import proofs.«01_k».proof.Proof.InputGrad
public import proofs.«01_k».proof.Proof.Gen.KernelSsdIdeal.Value
public import proofs.«01_k».proof.Proof.Gen.ReferenceSsdIdeal.Run
public import proofs.«01_k».proof.Proof.Gen.ReferenceSsdIdeal.Read
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.KernelWdIdeal.Value
public import proofs.«01_k».proof.Proof.Gen.ReferenceWdIdeal.Run
public import proofs.«01_k».proof.Proof.Gen.ReferenceWdIdeal.Read
public import proofs.«01_k».proof.Proof.Gen.KernelWdiIdeal.Value
public import proofs.«01_k».proof.Proof.Gen.ReferenceWdiIdeal.Run
public import proofs.«01_k».proof.Proof.Gen.ReferenceWdiIdeal.Read
public import proofs.«01_k».proof.Proof.Gen.KernelWxIdeal.Value
public import proofs.«01_k».proof.Proof.Gen.ReferenceWxIdeal.Run
public import proofs.«01_k».proof.Proof.Gen.ReferenceWxIdeal.Read
public import proofs.«01_k».proof.Proof.Gen.KernelDvIdeal.Value
public import proofs.«01_k».proof.Proof.Gen.ReferenceDvIdeal.Run
public import proofs.«01_k».proof.Proof.Gen.ReferenceDvIdeal.Read
public import proofs.«01_k».proof.Proof.Gen.KernelDaIdeal.Value
public import proofs.«01_k».proof.Proof.Gen.ReferenceDaIdeal.Run
public import proofs.«01_k».proof.Proof.Gen.ReferenceDaIdeal.Read
public import proofs.«01_k».proof.Proof.Gen.KernelDuIdeal.Value
public import proofs.«01_k».proof.Proof.Gen.ReferenceDuIdeal.Run
public import proofs.«01_k».proof.Proof.Gen.ReferenceDuIdeal.Read
public import proofs.«01_k».proof.Proof.Gen.KernelGatesIdeal.Value
public import proofs.«01_k».proof.Proof.Gen.ReferenceGatesIdeal.Run
public import proofs.«01_k».proof.Proof.Gen.ReferenceGatesIdeal.Read
public import proofs.«01_k».proof.Proof.Gen.KernelPaIdeal.Value
public import proofs.«01_k».proof.Proof.Gen.ReferencePaIdeal.Run
public import proofs.«01_k».proof.Proof.Gen.ReferencePaIdeal.Read
public import proofs.«01_k».proof.Proof.Gen.KernelZIdeal.Value
public import proofs.«01_k».proof.Proof.Gen.ReferenceZIdeal.Run
public import proofs.«01_k».proof.Proof.Gen.ReferenceZIdeal.Read
public import proofs.«01_k».proof.Proof.Gen.KernelXbcIdeal.Value
public import proofs.«01_k».proof.Proof.Gen.ReferenceXbcIdeal.Run
public import proofs.«01_k».proof.Proof.Gen.ReferenceXbcIdeal.Read
public import proofs.«01_k».proof.Proof.Gen.KernelUpIdeal.Value
public import proofs.«01_k».proof.Proof.Gen.ReferenceUpIdeal.Run
public import proofs.«01_k».proof.Proof.Gen.ReferenceUpIdeal.Read
public import proofs.«01_k».proof.Proof.Gen.KernelDownIdeal.Value
public import proofs.«01_k».proof.Proof.Gen.ReferenceDownIdeal.Run
public import proofs.«01_k».proof.Proof.Gen.ReferenceDownIdeal.Read
public import proofs.«01_k».proof.Proof.Gen.KernelOIdeal.Value
public import proofs.«01_k».proof.Proof.Gen.ReferenceOIdeal.Run
public import proofs.«01_k».proof.Proof.Gen.ReferenceOIdeal.Read
public import proofs.«01_k».proof.Proof.Gen.KernelSIdeal.Value
public import proofs.«01_k».proof.Proof.Gen.ReferenceSIdeal.Run
public import proofs.«01_k».proof.Proof.Gen.ReferenceSIdeal.Read
public import proofs.«01_k».proof.Proof.Gen.KernelDmIdeal.Value
public import proofs.«01_k».proof.Proof.Gen.ReferenceDmIdeal.Run
public import proofs.«01_k».proof.Proof.Gen.ReferenceDmIdeal.Read
public import proofs.«01_k».proof.Proof.Gen.KernelDynIdeal.Value
public import proofs.«01_k».proof.Proof.Gen.ReferenceDynIdeal.Run
public import proofs.«01_k».proof.Proof.Gen.ReferenceDynIdeal.Read
public import proofs.«01_k».proof.Proof.Gen.KernelAdamHIdeal.Value
public import proofs.«01_k».proof.Proof.Gen.ReferenceAdamHIdeal.Run
public import proofs.«01_k».proof.Proof.Gen.ReferenceAdamHIdeal.Read
public import proofs.«01_k».proof.Proof.Gen.KernelAdamFbIdeal.Value
public import proofs.«01_k».proof.Proof.Gen.ReferenceAdamFbIdeal.Run
public import proofs.«01_k».proof.Proof.Gen.ReferenceAdamFbIdeal.Read
public import proofs.«01_k».proof.Proof.Gen.KernelAdamCaIdeal.Value
public import proofs.«01_k».proof.Proof.Gen.ReferenceAdamCaIdeal.Run
public import proofs.«01_k».proof.Proof.Gen.ReferenceAdamCaIdeal.Read
public import proofs.«01_k».proof.Proof.Gen.KernelAdamCsIdeal.Value
public import proofs.«01_k».proof.Proof.Gen.ReferenceAdamCsIdeal.Run
public import proofs.«01_k».proof.Proof.Gen.ReferenceAdamCsIdeal.Read
public import proofs.«01_k».proof.Proof.Gen.KernelAdamCfIdeal.Value
public import proofs.«01_k».proof.Proof.Gen.ReferenceAdamCfIdeal.Run
public import proofs.«01_k».proof.Proof.Gen.ReferenceAdamCfIdeal.Read
public import proofs.«01_k».proof.Proof.Gen.KernelAdamNIdeal.Value
public import proofs.«01_k».proof.Proof.Gen.ReferenceAdamNIdeal.Run
public import proofs.«01_k».proof.Proof.Gen.ReferenceAdamNIdeal.Read
public import proofs.«01_k».proof.Proof.Gen.KernelAdamSnIdeal.Value
public import proofs.«01_k».proof.Proof.Gen.ReferenceAdamSnIdeal.Run
public import proofs.«01_k».proof.Proof.Gen.ReferenceAdamSnIdeal.Read
public import proofs.«01_k».proof.Proof.Gen.KernelAdamSbIdeal.Value
public import proofs.«01_k».proof.Proof.Gen.ReferenceAdamSbIdeal.Run
public import proofs.«01_k».proof.Proof.Gen.ReferenceAdamSbIdeal.Read
public import proofs.«01_k».proof.Proof.Gen.KernelAdamInIdeal.Value
public import proofs.«01_k».proof.Proof.Gen.ReferenceAdamInIdeal.Run
public import proofs.«01_k».proof.Proof.Gen.ReferenceAdamInIdeal.Read
public import proofs.«01_k».proof.Proof.Gen.KernelAdamAIdeal.Value
public import proofs.«01_k».proof.Proof.Gen.ReferenceAdamAIdeal.Run
public import proofs.«01_k».proof.Proof.Gen.ReferenceAdamAIdeal.Read
public import proofs.«01_k».proof.Proof.Gen.KernelAdamSIdeal.Value
public import proofs.«01_k».proof.Proof.Gen.ReferenceAdamSIdeal.Run
public import proofs.«01_k».proof.Proof.Gen.ReferenceAdamSIdeal.Read
public import proofs.«01_k».proof.Proof.Gen.KernelAdamUpIdeal.Value
public import proofs.«01_k».proof.Proof.Gen.ReferenceAdamUpIdeal.Run
public import proofs.«01_k».proof.Proof.Gen.ReferenceAdamUpIdeal.Read
public import proofs.«01_k».proof.Proof.Gen.KernelAdamDownIdeal.Value
public import proofs.«01_k».proof.Proof.Gen.ReferenceAdamDownIdeal.Run
public import proofs.«01_k».proof.Proof.Gen.ReferenceAdamDownIdeal.Read
public import proofs.«01_k».proof.Proof.Gen.KernelSumIdeal.Value
public import proofs.«01_k».proof.Proof.Gen.ReferenceSumIdeal.Run
public import proofs.«01_k».proof.Proof.Gen.ReferenceSumIdeal.Read
public import proofs.«01_k».proof.Proof.Gen.KernelDtIdeal.Value
public import proofs.«01_k».proof.Proof.Gen.ReferenceDtIdeal.Run
public import proofs.«01_k».proof.Proof.Gen.ReferenceDtIdeal.Read
public import proofs.«01_k».proof.Proof.Gen.KernelWdtIdeal.Value
public import proofs.«01_k».proof.Proof.Gen.ReferenceWdtIdeal.Run
public import proofs.«01_k».proof.Proof.Gen.ReferenceWdtIdeal.Read
public import proofs.«01_k».proof.Proof.Gen.KernelDxIdeal.Value
public import proofs.«01_k».proof.Proof.Gen.ReferenceDxIdeal.Run
public import proofs.«01_k».proof.Proof.Gen.ReferenceDxIdeal.Read
public import proofs.«01_k».proof.Proof.Gen.KernelSsd
public import proofs.«01_k».proof.Proof.Gen.KernelSsd.Skeleton
public import proofs.«01_k».proof.Proof.Gen.KernelSsd.Launch
public import proofs.«01_k».proof.Proof.Gen.KernelSsd.Points
public import proofs.«01_k».proof.Proof.Gen.KernelSsd.Frame
public import proofs.«01_k».proof.Proof.Gen.KernelSsdIdeal
public import proofs.«01_k».proof.Proof.Gen.KernelSsdIdeal.Skeleton
public import proofs.«01_k».proof.Proof.Gen.KernelSsdIdeal.Launch
public import proofs.«01_k».proof.Proof.Gen.KernelSsdIdeal.Points
public import proofs.«01_k».proof.Proof.Gen.KernelSsdIdeal.Frame
public import proofs.«01_k».proof.Proof.Gen.ReferenceSsdIdeal
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelWd
public import proofs.«01_k».proof.Proof.Gen.KernelWd.Skeleton
public import proofs.«01_k».proof.Proof.Gen.KernelWd.Launch
public import proofs.«01_k».proof.Proof.Gen.KernelWd.Points
public import proofs.«01_k».proof.Proof.Gen.KernelWd.Frame
public import proofs.«01_k».proof.Proof.Gen.KernelWdIdeal
public import proofs.«01_k».proof.Proof.Gen.KernelWdIdeal.Skeleton
public import proofs.«01_k».proof.Proof.Gen.KernelWdIdeal.Launch
public import proofs.«01_k».proof.Proof.Gen.KernelWdIdeal.Points
public import proofs.«01_k».proof.Proof.Gen.KernelWdIdeal.Frame
public import proofs.«01_k».proof.Proof.Gen.ReferenceWdIdeal
public import proofs.«01_k».proof.Proof.Gen.KernelWdi
public import proofs.«01_k».proof.Proof.Gen.KernelWdi.Skeleton
public import proofs.«01_k».proof.Proof.Gen.KernelWdi.Launch
public import proofs.«01_k».proof.Proof.Gen.KernelWdi.Points
public import proofs.«01_k».proof.Proof.Gen.KernelWdi.Frame
public import proofs.«01_k».proof.Proof.Gen.KernelWdiIdeal
public import proofs.«01_k».proof.Proof.Gen.KernelWdiIdeal.Skeleton
public import proofs.«01_k».proof.Proof.Gen.KernelWdiIdeal.Launch
public import proofs.«01_k».proof.Proof.Gen.KernelWdiIdeal.Points
public import proofs.«01_k».proof.Proof.Gen.KernelWdiIdeal.Frame
public import proofs.«01_k».proof.Proof.Gen.ReferenceWdiIdeal
public import proofs.«01_k».proof.Proof.Gen.KernelWx
public import proofs.«01_k».proof.Proof.Gen.KernelWx.Skeleton
public import proofs.«01_k».proof.Proof.Gen.KernelWx.Launch
public import proofs.«01_k».proof.Proof.Gen.KernelWx.Points
public import proofs.«01_k».proof.Proof.Gen.KernelWx.Frame
public import proofs.«01_k».proof.Proof.Gen.KernelWxIdeal
public import proofs.«01_k».proof.Proof.Gen.KernelWxIdeal.Skeleton
public import proofs.«01_k».proof.Proof.Gen.KernelWxIdeal.Launch
public import proofs.«01_k».proof.Proof.Gen.KernelWxIdeal.Points
public import proofs.«01_k».proof.Proof.Gen.KernelWxIdeal.Frame
public import proofs.«01_k».proof.Proof.Gen.ReferenceWxIdeal
public import proofs.«01_k».proof.Proof.Gen.KernelDv
public import proofs.«01_k».proof.Proof.Gen.KernelDv.Skeleton
public import proofs.«01_k».proof.Proof.Gen.KernelDv.Launch
public import proofs.«01_k».proof.Proof.Gen.KernelDv.Points
public import proofs.«01_k».proof.Proof.Gen.KernelDv.Frame
public import proofs.«01_k».proof.Proof.Gen.KernelDvIdeal
public import proofs.«01_k».proof.Proof.Gen.KernelDvIdeal.Skeleton
public import proofs.«01_k».proof.Proof.Gen.KernelDvIdeal.Launch
public import proofs.«01_k».proof.Proof.Gen.KernelDvIdeal.Points
public import proofs.«01_k».proof.Proof.Gen.KernelDvIdeal.Frame
public import proofs.«01_k».proof.Proof.Gen.ReferenceDvIdeal
public import proofs.«01_k».proof.Proof.Gen.KernelDa
public import proofs.«01_k».proof.Proof.Gen.KernelDa.Skeleton
public import proofs.«01_k».proof.Proof.Gen.KernelDa.Launch
public import proofs.«01_k».proof.Proof.Gen.KernelDa.Points
public import proofs.«01_k».proof.Proof.Gen.KernelDa.Frame
public import proofs.«01_k».proof.Proof.Gen.KernelDaIdeal
public import proofs.«01_k».proof.Proof.Gen.KernelDaIdeal.Skeleton
public import proofs.«01_k».proof.Proof.Gen.KernelDaIdeal.Launch
public import proofs.«01_k».proof.Proof.Gen.KernelDaIdeal.Points
public import proofs.«01_k».proof.Proof.Gen.KernelDaIdeal.Frame
public import proofs.«01_k».proof.Proof.Gen.ReferenceDaIdeal
public import proofs.«01_k».proof.Proof.Gen.KernelDu
public import proofs.«01_k».proof.Proof.Gen.KernelDu.Skeleton
public import proofs.«01_k».proof.Proof.Gen.KernelDu.Launch
public import proofs.«01_k».proof.Proof.Gen.KernelDu.Points
public import proofs.«01_k».proof.Proof.Gen.KernelDu.Frame
public import proofs.«01_k».proof.Proof.Gen.KernelDuIdeal
public import proofs.«01_k».proof.Proof.Gen.KernelDuIdeal.Skeleton
public import proofs.«01_k».proof.Proof.Gen.KernelDuIdeal.Launch
public import proofs.«01_k».proof.Proof.Gen.KernelDuIdeal.Points
public import proofs.«01_k».proof.Proof.Gen.KernelDuIdeal.Frame
public import proofs.«01_k».proof.Proof.Gen.ReferenceDuIdeal
public import proofs.«01_k».proof.Proof.Gen.KernelGates
public import proofs.«01_k».proof.Proof.Gen.KernelGates.Skeleton
public import proofs.«01_k».proof.Proof.Gen.KernelGates.Launch
public import proofs.«01_k».proof.Proof.Gen.KernelGates.Points
public import proofs.«01_k».proof.Proof.Gen.KernelGates.Frame
public import proofs.«01_k».proof.Proof.Gen.KernelGatesIdeal
public import proofs.«01_k».proof.Proof.Gen.KernelGatesIdeal.Skeleton
public import proofs.«01_k».proof.Proof.Gen.KernelGatesIdeal.Launch
public import proofs.«01_k».proof.Proof.Gen.KernelGatesIdeal.Points
public import proofs.«01_k».proof.Proof.Gen.KernelGatesIdeal.Frame
public import proofs.«01_k».proof.Proof.Gen.ReferenceGatesIdeal
public import proofs.«01_k».proof.Proof.Gen.KernelPa
public import proofs.«01_k».proof.Proof.Gen.KernelPa.Skeleton
public import proofs.«01_k».proof.Proof.Gen.KernelPa.Launch
public import proofs.«01_k».proof.Proof.Gen.KernelPa.Points
public import proofs.«01_k».proof.Proof.Gen.KernelPa.Frame
public import proofs.«01_k».proof.Proof.Gen.KernelPaIdeal
public import proofs.«01_k».proof.Proof.Gen.KernelPaIdeal.Skeleton
public import proofs.«01_k».proof.Proof.Gen.KernelPaIdeal.Launch
public import proofs.«01_k».proof.Proof.Gen.KernelPaIdeal.Points
public import proofs.«01_k».proof.Proof.Gen.KernelPaIdeal.Frame
public import proofs.«01_k».proof.Proof.Gen.ReferencePaIdeal
public import proofs.«01_k».proof.Proof.Gen.KernelZ
public import proofs.«01_k».proof.Proof.Gen.KernelZ.Skeleton
public import proofs.«01_k».proof.Proof.Gen.KernelZ.Launch
public import proofs.«01_k».proof.Proof.Gen.KernelZ.Points
public import proofs.«01_k».proof.Proof.Gen.KernelZ.Frame
public import proofs.«01_k».proof.Proof.Gen.KernelZIdeal
public import proofs.«01_k».proof.Proof.Gen.KernelZIdeal.Skeleton
public import proofs.«01_k».proof.Proof.Gen.KernelZIdeal.Launch
public import proofs.«01_k».proof.Proof.Gen.KernelZIdeal.Points
public import proofs.«01_k».proof.Proof.Gen.KernelZIdeal.Frame
public import proofs.«01_k».proof.Proof.Gen.ReferenceZIdeal
public import proofs.«01_k».proof.Proof.Gen.KernelXbc
public import proofs.«01_k».proof.Proof.Gen.KernelXbc.Skeleton
public import proofs.«01_k».proof.Proof.Gen.KernelXbc.Launch
public import proofs.«01_k».proof.Proof.Gen.KernelXbc.Points
public import proofs.«01_k».proof.Proof.Gen.KernelXbc.Frame
public import proofs.«01_k».proof.Proof.Gen.KernelXbcIdeal
public import proofs.«01_k».proof.Proof.Gen.KernelXbcIdeal.Skeleton
public import proofs.«01_k».proof.Proof.Gen.KernelXbcIdeal.Launch
public import proofs.«01_k».proof.Proof.Gen.KernelXbcIdeal.Points
public import proofs.«01_k».proof.Proof.Gen.KernelXbcIdeal.Frame
public import proofs.«01_k».proof.Proof.Gen.ReferenceXbcIdeal
public import proofs.«01_k».proof.Proof.Gen.KernelUp
public import proofs.«01_k».proof.Proof.Gen.KernelUp.Skeleton
public import proofs.«01_k».proof.Proof.Gen.KernelUp.Launch
public import proofs.«01_k».proof.Proof.Gen.KernelUp.Points
public import proofs.«01_k».proof.Proof.Gen.KernelUp.Frame
public import proofs.«01_k».proof.Proof.Gen.KernelUpIdeal
public import proofs.«01_k».proof.Proof.Gen.KernelUpIdeal.Skeleton
public import proofs.«01_k».proof.Proof.Gen.KernelUpIdeal.Launch
public import proofs.«01_k».proof.Proof.Gen.KernelUpIdeal.Points
public import proofs.«01_k».proof.Proof.Gen.KernelUpIdeal.Frame
public import proofs.«01_k».proof.Proof.Gen.ReferenceUpIdeal
public import proofs.«01_k».proof.Proof.Gen.KernelDown
public import proofs.«01_k».proof.Proof.Gen.KernelDown.Skeleton
public import proofs.«01_k».proof.Proof.Gen.KernelDown.Launch
public import proofs.«01_k».proof.Proof.Gen.KernelDown.Points
public import proofs.«01_k».proof.Proof.Gen.KernelDown.Frame
public import proofs.«01_k».proof.Proof.Gen.KernelDownIdeal
public import proofs.«01_k».proof.Proof.Gen.KernelDownIdeal.Skeleton
public import proofs.«01_k».proof.Proof.Gen.KernelDownIdeal.Launch
public import proofs.«01_k».proof.Proof.Gen.KernelDownIdeal.Points
public import proofs.«01_k».proof.Proof.Gen.KernelDownIdeal.Frame
public import proofs.«01_k».proof.Proof.Gen.ReferenceDownIdeal
public import proofs.«01_k».proof.Proof.Gen.KernelO
public import proofs.«01_k».proof.Proof.Gen.KernelO.Skeleton
public import proofs.«01_k».proof.Proof.Gen.KernelO.Launch
public import proofs.«01_k».proof.Proof.Gen.KernelO.Points
public import proofs.«01_k».proof.Proof.Gen.KernelO.Frame
public import proofs.«01_k».proof.Proof.Gen.KernelOIdeal
public import proofs.«01_k».proof.Proof.Gen.KernelOIdeal.Skeleton
public import proofs.«01_k».proof.Proof.Gen.KernelOIdeal.Launch
public import proofs.«01_k».proof.Proof.Gen.KernelOIdeal.Points
public import proofs.«01_k».proof.Proof.Gen.KernelOIdeal.Frame
public import proofs.«01_k».proof.Proof.Gen.ReferenceOIdeal
public import proofs.«01_k».proof.Proof.Gen.KernelS
public import proofs.«01_k».proof.Proof.Gen.KernelS.Skeleton
public import proofs.«01_k».proof.Proof.Gen.KernelS.Launch
public import proofs.«01_k».proof.Proof.Gen.KernelS.Points
public import proofs.«01_k».proof.Proof.Gen.KernelS.Frame
public import proofs.«01_k».proof.Proof.Gen.KernelSIdeal
public import proofs.«01_k».proof.Proof.Gen.KernelSIdeal.Skeleton
public import proofs.«01_k».proof.Proof.Gen.KernelSIdeal.Launch
public import proofs.«01_k».proof.Proof.Gen.KernelSIdeal.Points
public import proofs.«01_k».proof.Proof.Gen.KernelSIdeal.Frame
public import proofs.«01_k».proof.Proof.Gen.ReferenceSIdeal
public import proofs.«01_k».proof.Proof.Gen.KernelDm
public import proofs.«01_k».proof.Proof.Gen.KernelDm.Skeleton
public import proofs.«01_k».proof.Proof.Gen.KernelDm.Launch
public import proofs.«01_k».proof.Proof.Gen.KernelDm.Points
public import proofs.«01_k».proof.Proof.Gen.KernelDm.Frame
public import proofs.«01_k».proof.Proof.Gen.KernelDmIdeal
public import proofs.«01_k».proof.Proof.Gen.KernelDmIdeal.Skeleton
public import proofs.«01_k».proof.Proof.Gen.KernelDmIdeal.Launch
public import proofs.«01_k».proof.Proof.Gen.KernelDmIdeal.Points
public import proofs.«01_k».proof.Proof.Gen.KernelDmIdeal.Frame
public import proofs.«01_k».proof.Proof.Gen.ReferenceDmIdeal
public import proofs.«01_k».proof.Proof.Gen.KernelDyn
public import proofs.«01_k».proof.Proof.Gen.KernelDyn.Skeleton
public import proofs.«01_k».proof.Proof.Gen.KernelDyn.Launch
public import proofs.«01_k».proof.Proof.Gen.KernelDyn.Points
public import proofs.«01_k».proof.Proof.Gen.KernelDyn.Frame
public import proofs.«01_k».proof.Proof.Gen.KernelDynIdeal
public import proofs.«01_k».proof.Proof.Gen.KernelDynIdeal.Skeleton
public import proofs.«01_k».proof.Proof.Gen.KernelDynIdeal.Launch
public import proofs.«01_k».proof.Proof.Gen.KernelDynIdeal.Points
public import proofs.«01_k».proof.Proof.Gen.KernelDynIdeal.Frame
public import proofs.«01_k».proof.Proof.Gen.ReferenceDynIdeal
public import proofs.«01_k».proof.Proof.Gen.KernelAdamH
public import proofs.«01_k».proof.Proof.Gen.KernelAdamH.Skeleton
public import proofs.«01_k».proof.Proof.Gen.KernelAdamH.Launch
public import proofs.«01_k».proof.Proof.Gen.KernelAdamH.Points
public import proofs.«01_k».proof.Proof.Gen.KernelAdamH.Frame
public import proofs.«01_k».proof.Proof.Gen.KernelAdamHIdeal
public import proofs.«01_k».proof.Proof.Gen.KernelAdamHIdeal.Skeleton
public import proofs.«01_k».proof.Proof.Gen.KernelAdamHIdeal.Launch
public import proofs.«01_k».proof.Proof.Gen.KernelAdamHIdeal.Points
public import proofs.«01_k».proof.Proof.Gen.KernelAdamHIdeal.Frame
public import proofs.«01_k».proof.Proof.Gen.ReferenceAdamHIdeal
public import proofs.«01_k».proof.Proof.Gen.KernelAdamFb
public import proofs.«01_k».proof.Proof.Gen.KernelAdamFb.Skeleton
public import proofs.«01_k».proof.Proof.Gen.KernelAdamFb.Launch
public import proofs.«01_k».proof.Proof.Gen.KernelAdamFb.Points
public import proofs.«01_k».proof.Proof.Gen.KernelAdamFb.Frame
public import proofs.«01_k».proof.Proof.Gen.KernelAdamFbIdeal
public import proofs.«01_k».proof.Proof.Gen.KernelAdamFbIdeal.Skeleton
public import proofs.«01_k».proof.Proof.Gen.KernelAdamFbIdeal.Launch
public import proofs.«01_k».proof.Proof.Gen.KernelAdamFbIdeal.Points
public import proofs.«01_k».proof.Proof.Gen.KernelAdamFbIdeal.Frame
public import proofs.«01_k».proof.Proof.Gen.ReferenceAdamFbIdeal
public import proofs.«01_k».proof.Proof.Gen.KernelAdamCa
public import proofs.«01_k».proof.Proof.Gen.KernelAdamCa.Skeleton
public import proofs.«01_k».proof.Proof.Gen.KernelAdamCa.Launch
public import proofs.«01_k».proof.Proof.Gen.KernelAdamCa.Points
public import proofs.«01_k».proof.Proof.Gen.KernelAdamCa.Frame
public import proofs.«01_k».proof.Proof.Gen.KernelAdamCaIdeal
public import proofs.«01_k».proof.Proof.Gen.KernelAdamCaIdeal.Skeleton
public import proofs.«01_k».proof.Proof.Gen.KernelAdamCaIdeal.Launch
public import proofs.«01_k».proof.Proof.Gen.KernelAdamCaIdeal.Points
public import proofs.«01_k».proof.Proof.Gen.KernelAdamCaIdeal.Frame
public import proofs.«01_k».proof.Proof.Gen.ReferenceAdamCaIdeal
public import proofs.«01_k».proof.Proof.Gen.KernelAdamCs
public import proofs.«01_k».proof.Proof.Gen.KernelAdamCs.Skeleton
public import proofs.«01_k».proof.Proof.Gen.KernelAdamCs.Launch
public import proofs.«01_k».proof.Proof.Gen.KernelAdamCs.Points
public import proofs.«01_k».proof.Proof.Gen.KernelAdamCs.Frame
public import proofs.«01_k».proof.Proof.Gen.KernelAdamCsIdeal
public import proofs.«01_k».proof.Proof.Gen.KernelAdamCsIdeal.Skeleton
public import proofs.«01_k».proof.Proof.Gen.KernelAdamCsIdeal.Launch
public import proofs.«01_k».proof.Proof.Gen.KernelAdamCsIdeal.Points
public import proofs.«01_k».proof.Proof.Gen.KernelAdamCsIdeal.Frame
public import proofs.«01_k».proof.Proof.Gen.ReferenceAdamCsIdeal
public import proofs.«01_k».proof.Proof.Gen.KernelAdamCf
public import proofs.«01_k».proof.Proof.Gen.KernelAdamCf.Skeleton
public import proofs.«01_k».proof.Proof.Gen.KernelAdamCf.Launch
public import proofs.«01_k».proof.Proof.Gen.KernelAdamCf.Points
public import proofs.«01_k».proof.Proof.Gen.KernelAdamCf.Frame
public import proofs.«01_k».proof.Proof.Gen.KernelAdamCfIdeal
public import proofs.«01_k».proof.Proof.Gen.KernelAdamCfIdeal.Skeleton
public import proofs.«01_k».proof.Proof.Gen.KernelAdamCfIdeal.Launch
public import proofs.«01_k».proof.Proof.Gen.KernelAdamCfIdeal.Points
public import proofs.«01_k».proof.Proof.Gen.KernelAdamCfIdeal.Frame
public import proofs.«01_k».proof.Proof.Gen.ReferenceAdamCfIdeal
public import proofs.«01_k».proof.Proof.Gen.KernelAdamN
public import proofs.«01_k».proof.Proof.Gen.KernelAdamN.Skeleton
public import proofs.«01_k».proof.Proof.Gen.KernelAdamN.Launch
public import proofs.«01_k».proof.Proof.Gen.KernelAdamN.Points
public import proofs.«01_k».proof.Proof.Gen.KernelAdamN.Frame
public import proofs.«01_k».proof.Proof.Gen.KernelAdamNIdeal
public import proofs.«01_k».proof.Proof.Gen.KernelAdamNIdeal.Skeleton
public import proofs.«01_k».proof.Proof.Gen.KernelAdamNIdeal.Launch
public import proofs.«01_k».proof.Proof.Gen.KernelAdamNIdeal.Points
public import proofs.«01_k».proof.Proof.Gen.KernelAdamNIdeal.Frame
public import proofs.«01_k».proof.Proof.Gen.ReferenceAdamNIdeal
public import proofs.«01_k».proof.Proof.Gen.KernelAdamSn
public import proofs.«01_k».proof.Proof.Gen.KernelAdamSn.Skeleton
public import proofs.«01_k».proof.Proof.Gen.KernelAdamSn.Launch
public import proofs.«01_k».proof.Proof.Gen.KernelAdamSn.Points
public import proofs.«01_k».proof.Proof.Gen.KernelAdamSn.Frame
public import proofs.«01_k».proof.Proof.Gen.KernelAdamSnIdeal
public import proofs.«01_k».proof.Proof.Gen.KernelAdamSnIdeal.Skeleton
public import proofs.«01_k».proof.Proof.Gen.KernelAdamSnIdeal.Launch
public import proofs.«01_k».proof.Proof.Gen.KernelAdamSnIdeal.Points
public import proofs.«01_k».proof.Proof.Gen.KernelAdamSnIdeal.Frame
public import proofs.«01_k».proof.Proof.Gen.ReferenceAdamSnIdeal
public import proofs.«01_k».proof.Proof.Gen.KernelAdamSb
public import proofs.«01_k».proof.Proof.Gen.KernelAdamSb.Skeleton
public import proofs.«01_k».proof.Proof.Gen.KernelAdamSb.Launch
public import proofs.«01_k».proof.Proof.Gen.KernelAdamSb.Points
public import proofs.«01_k».proof.Proof.Gen.KernelAdamSb.Frame
public import proofs.«01_k».proof.Proof.Gen.KernelAdamSbIdeal
public import proofs.«01_k».proof.Proof.Gen.KernelAdamSbIdeal.Skeleton
public import proofs.«01_k».proof.Proof.Gen.KernelAdamSbIdeal.Launch
public import proofs.«01_k».proof.Proof.Gen.KernelAdamSbIdeal.Points
public import proofs.«01_k».proof.Proof.Gen.KernelAdamSbIdeal.Frame
public import proofs.«01_k».proof.Proof.Gen.ReferenceAdamSbIdeal
public import proofs.«01_k».proof.Proof.Gen.KernelAdamIn
public import proofs.«01_k».proof.Proof.Gen.KernelAdamIn.Skeleton
public import proofs.«01_k».proof.Proof.Gen.KernelAdamIn.Launch
public import proofs.«01_k».proof.Proof.Gen.KernelAdamIn.Points
public import proofs.«01_k».proof.Proof.Gen.KernelAdamIn.Frame
public import proofs.«01_k».proof.Proof.Gen.KernelAdamInIdeal
public import proofs.«01_k».proof.Proof.Gen.KernelAdamInIdeal.Skeleton
public import proofs.«01_k».proof.Proof.Gen.KernelAdamInIdeal.Launch
public import proofs.«01_k».proof.Proof.Gen.KernelAdamInIdeal.Points
public import proofs.«01_k».proof.Proof.Gen.KernelAdamInIdeal.Frame
public import proofs.«01_k».proof.Proof.Gen.ReferenceAdamInIdeal
public import proofs.«01_k».proof.Proof.Gen.KernelAdamA
public import proofs.«01_k».proof.Proof.Gen.KernelAdamA.Skeleton
public import proofs.«01_k».proof.Proof.Gen.KernelAdamA.Launch
public import proofs.«01_k».proof.Proof.Gen.KernelAdamA.Points
public import proofs.«01_k».proof.Proof.Gen.KernelAdamA.Frame
public import proofs.«01_k».proof.Proof.Gen.KernelAdamAIdeal
public import proofs.«01_k».proof.Proof.Gen.KernelAdamAIdeal.Skeleton
public import proofs.«01_k».proof.Proof.Gen.KernelAdamAIdeal.Launch
public import proofs.«01_k».proof.Proof.Gen.KernelAdamAIdeal.Points
public import proofs.«01_k».proof.Proof.Gen.KernelAdamAIdeal.Frame
public import proofs.«01_k».proof.Proof.Gen.ReferenceAdamAIdeal
public import proofs.«01_k».proof.Proof.Gen.KernelAdamS
public import proofs.«01_k».proof.Proof.Gen.KernelAdamS.Skeleton
public import proofs.«01_k».proof.Proof.Gen.KernelAdamS.Launch
public import proofs.«01_k».proof.Proof.Gen.KernelAdamS.Points
public import proofs.«01_k».proof.Proof.Gen.KernelAdamS.Frame
public import proofs.«01_k».proof.Proof.Gen.KernelAdamSIdeal
public import proofs.«01_k».proof.Proof.Gen.KernelAdamSIdeal.Skeleton
public import proofs.«01_k».proof.Proof.Gen.KernelAdamSIdeal.Launch
public import proofs.«01_k».proof.Proof.Gen.KernelAdamSIdeal.Points
public import proofs.«01_k».proof.Proof.Gen.KernelAdamSIdeal.Frame
public import proofs.«01_k».proof.Proof.Gen.ReferenceAdamSIdeal
public import proofs.«01_k».proof.Proof.Gen.KernelAdamUp
public import proofs.«01_k».proof.Proof.Gen.KernelAdamUp.Skeleton
public import proofs.«01_k».proof.Proof.Gen.KernelAdamUp.Launch
public import proofs.«01_k».proof.Proof.Gen.KernelAdamUp.Points
public import proofs.«01_k».proof.Proof.Gen.KernelAdamUp.Frame
public import proofs.«01_k».proof.Proof.Gen.KernelAdamUpIdeal
public import proofs.«01_k».proof.Proof.Gen.KernelAdamUpIdeal.Skeleton
public import proofs.«01_k».proof.Proof.Gen.KernelAdamUpIdeal.Launch
public import proofs.«01_k».proof.Proof.Gen.KernelAdamUpIdeal.Points
public import proofs.«01_k».proof.Proof.Gen.KernelAdamUpIdeal.Frame
public import proofs.«01_k».proof.Proof.Gen.ReferenceAdamUpIdeal
public import proofs.«01_k».proof.Proof.Gen.KernelAdamDown
public import proofs.«01_k».proof.Proof.Gen.KernelAdamDown.Skeleton
public import proofs.«01_k».proof.Proof.Gen.KernelAdamDown.Launch
public import proofs.«01_k».proof.Proof.Gen.KernelAdamDown.Points
public import proofs.«01_k».proof.Proof.Gen.KernelAdamDown.Frame
public import proofs.«01_k».proof.Proof.Gen.KernelAdamDownIdeal
public import proofs.«01_k».proof.Proof.Gen.KernelAdamDownIdeal.Skeleton
public import proofs.«01_k».proof.Proof.Gen.KernelAdamDownIdeal.Launch
public import proofs.«01_k».proof.Proof.Gen.KernelAdamDownIdeal.Points
public import proofs.«01_k».proof.Proof.Gen.KernelAdamDownIdeal.Frame
public import proofs.«01_k».proof.Proof.Gen.ReferenceAdamDownIdeal
public import proofs.«01_k».proof.Proof.Gen.KernelSum
public import proofs.«01_k».proof.Proof.Gen.KernelSum.Skeleton
public import proofs.«01_k».proof.Proof.Gen.KernelSum.Launch
public import proofs.«01_k».proof.Proof.Gen.KernelSum.Points
public import proofs.«01_k».proof.Proof.Gen.KernelSum.Frame
public import proofs.«01_k».proof.Proof.Gen.KernelSumIdeal
public import proofs.«01_k».proof.Proof.Gen.KernelSumIdeal.Skeleton
public import proofs.«01_k».proof.Proof.Gen.KernelSumIdeal.Launch
public import proofs.«01_k».proof.Proof.Gen.KernelSumIdeal.Points
public import proofs.«01_k».proof.Proof.Gen.KernelSumIdeal.Frame
public import proofs.«01_k».proof.Proof.Gen.ReferenceSumIdeal
public import proofs.«01_k».proof.Proof.Gen.KernelDt
public import proofs.«01_k».proof.Proof.Gen.KernelDt.Skeleton
public import proofs.«01_k».proof.Proof.Gen.KernelDt.Launch
public import proofs.«01_k».proof.Proof.Gen.KernelDt.Points
public import proofs.«01_k».proof.Proof.Gen.KernelDt.Frame
public import proofs.«01_k».proof.Proof.Gen.KernelDtIdeal
public import proofs.«01_k».proof.Proof.Gen.KernelDtIdeal.Skeleton
public import proofs.«01_k».proof.Proof.Gen.KernelDtIdeal.Launch
public import proofs.«01_k».proof.Proof.Gen.KernelDtIdeal.Points
public import proofs.«01_k».proof.Proof.Gen.KernelDtIdeal.Frame
public import proofs.«01_k».proof.Proof.Gen.ReferenceDtIdeal
public import proofs.«01_k».proof.Proof.Gen.KernelWdt
public import proofs.«01_k».proof.Proof.Gen.KernelWdt.Skeleton
public import proofs.«01_k».proof.Proof.Gen.KernelWdt.Launch
public import proofs.«01_k».proof.Proof.Gen.KernelWdt.Points
public import proofs.«01_k».proof.Proof.Gen.KernelWdt.Frame
public import proofs.«01_k».proof.Proof.Gen.KernelWdtIdeal
public import proofs.«01_k».proof.Proof.Gen.KernelWdtIdeal.Skeleton
public import proofs.«01_k».proof.Proof.Gen.KernelWdtIdeal.Launch
public import proofs.«01_k».proof.Proof.Gen.KernelWdtIdeal.Points
public import proofs.«01_k».proof.Proof.Gen.KernelWdtIdeal.Frame
public import proofs.«01_k».proof.Proof.Gen.ReferenceWdtIdeal
public import proofs.«01_k».proof.Proof.Gen.KernelDx
public import proofs.«01_k».proof.Proof.Gen.KernelDx.Skeleton
public import proofs.«01_k».proof.Proof.Gen.KernelDx.Launch
public import proofs.«01_k».proof.Proof.Gen.KernelDx.Points
public import proofs.«01_k».proof.Proof.Gen.KernelDx.Frame
public import proofs.«01_k».proof.Proof.Gen.KernelDxIdeal
public import proofs.«01_k».proof.Proof.Gen.KernelDxIdeal.Skeleton
public import proofs.«01_k».proof.Proof.Gen.KernelDxIdeal.Launch
public import proofs.«01_k».proof.Proof.Gen.KernelDxIdeal.Points
public import proofs.«01_k».proof.Proof.Gen.KernelDxIdeal.Frame
public import proofs.«01_k».proof.Proof.Gen.ReferenceDxIdeal
public import proofs.«01_k».proof.Proof.Gen.Pre_finite
public import Idealize.ShloMosaic.Adequacy
public import Idealize.ShloMosaic.Init

@[expose] public section

noncomputable section

namespace Cert.Proof

open Idealize.ShloMosaic Idealize.SL.Sem Cert.KernelSsd

theorem claim : Cert.Claim := ⟨Cert.KernelSsd.Gen.facts, Cert.KernelSsdIdeal.Gen.facts, Cert.ReferenceSsdIdeal.Gen.facts, Cert.Kernel.Gen.facts, Cert.KernelIdeal.Gen.facts, Cert.ReferenceIdeal.Gen.facts, Cert.KernelWd.Gen.facts, Cert.KernelWdIdeal.Gen.facts, Cert.ReferenceWdIdeal.Gen.facts, Cert.KernelWdi.Gen.facts, Cert.KernelWdiIdeal.Gen.facts, Cert.ReferenceWdiIdeal.Gen.facts, Cert.KernelWx.Gen.facts, Cert.KernelWxIdeal.Gen.facts, Cert.ReferenceWxIdeal.Gen.facts, Cert.KernelDv.Gen.facts, Cert.KernelDvIdeal.Gen.facts, Cert.ReferenceDvIdeal.Gen.facts, Cert.KernelDa.Gen.facts, Cert.KernelDaIdeal.Gen.facts, Cert.ReferenceDaIdeal.Gen.facts, Cert.KernelDu.Gen.facts, Cert.KernelDuIdeal.Gen.facts, Cert.ReferenceDuIdeal.Gen.facts, Cert.KernelGates.Gen.facts, Cert.KernelGatesIdeal.Gen.facts, Cert.ReferenceGatesIdeal.Gen.facts, Cert.KernelPa.Gen.facts, Cert.KernelPaIdeal.Gen.facts, Cert.ReferencePaIdeal.Gen.facts, Cert.KernelZ.Gen.facts, Cert.KernelZIdeal.Gen.facts, Cert.ReferenceZIdeal.Gen.facts, Cert.KernelXbc.Gen.facts, Cert.KernelXbcIdeal.Gen.facts, Cert.ReferenceXbcIdeal.Gen.facts, Cert.KernelUp.Gen.facts, Cert.KernelUpIdeal.Gen.facts, Cert.ReferenceUpIdeal.Gen.facts, Cert.KernelDown.Gen.facts, Cert.KernelDownIdeal.Gen.facts, Cert.ReferenceDownIdeal.Gen.facts, Cert.KernelO.Gen.facts, Cert.KernelOIdeal.Gen.facts, Cert.ReferenceOIdeal.Gen.facts, Cert.KernelS.Gen.facts, Cert.KernelSIdeal.Gen.facts, Cert.ReferenceSIdeal.Gen.facts, Cert.KernelDm.Gen.facts, Cert.KernelDmIdeal.Gen.facts, Cert.ReferenceDmIdeal.Gen.facts, Cert.KernelDyn.Gen.facts, Cert.KernelDynIdeal.Gen.facts, Cert.ReferenceDynIdeal.Gen.facts, Cert.KernelAdamH.Gen.facts, Cert.KernelAdamHIdeal.Gen.facts, Cert.ReferenceAdamHIdeal.Gen.facts, Cert.KernelAdamFb.Gen.facts, Cert.KernelAdamFbIdeal.Gen.facts, Cert.ReferenceAdamFbIdeal.Gen.facts, Cert.KernelAdamCa.Gen.facts, Cert.KernelAdamCaIdeal.Gen.facts, Cert.ReferenceAdamCaIdeal.Gen.facts, Cert.KernelAdamCs.Gen.facts, Cert.KernelAdamCsIdeal.Gen.facts, Cert.ReferenceAdamCsIdeal.Gen.facts, Cert.KernelAdamCf.Gen.facts, Cert.KernelAdamCfIdeal.Gen.facts, Cert.ReferenceAdamCfIdeal.Gen.facts, Cert.KernelAdamN.Gen.facts, Cert.KernelAdamNIdeal.Gen.facts, Cert.ReferenceAdamNIdeal.Gen.facts, Cert.KernelAdamSn.Gen.facts, Cert.KernelAdamSnIdeal.Gen.facts, Cert.ReferenceAdamSnIdeal.Gen.facts, Cert.KernelAdamSb.Gen.facts, Cert.KernelAdamSbIdeal.Gen.facts, Cert.ReferenceAdamSbIdeal.Gen.facts, Cert.KernelAdamIn.Gen.facts, Cert.KernelAdamInIdeal.Gen.facts, Cert.ReferenceAdamInIdeal.Gen.facts, Cert.KernelAdamA.Gen.facts, Cert.KernelAdamAIdeal.Gen.facts, Cert.ReferenceAdamAIdeal.Gen.facts, Cert.KernelAdamS.Gen.facts, Cert.KernelAdamSIdeal.Gen.facts, Cert.ReferenceAdamSIdeal.Gen.facts, Cert.KernelAdamUp.Gen.facts, Cert.KernelAdamUpIdeal.Gen.facts, Cert.ReferenceAdamUpIdeal.Gen.facts, Cert.KernelAdamDown.Gen.facts, Cert.KernelAdamDownIdeal.Gen.facts, Cert.ReferenceAdamDownIdeal.Gen.facts, Cert.KernelSum.Gen.facts, Cert.KernelSumIdeal.Gen.facts, Cert.ReferenceSumIdeal.Gen.facts, Cert.KernelDt.Gen.facts, Cert.KernelDtIdeal.Gen.facts, Cert.ReferenceDtIdeal.Gen.facts, Cert.KernelWdt.Gen.facts, Cert.KernelWdtIdeal.Gen.facts, Cert.ReferenceWdtIdeal.Gen.facts, Cert.KernelDx.Gen.facts, Cert.KernelDxIdeal.Gen.facts, Cert.ReferenceDxIdeal.Gen.facts, Cert.Pre_finite.Gen.facts,
  fun m ρ _ => Cert.KernelSsd.Gen.frame m ρ,
  fun m ρ _ => Cert.KernelSsdIdeal.Gen.frame m ρ,
  fun m ρ _ => Cert.KernelSsdIdeal.Gen.frame m ρ,
  Cert.Proof.KernelSsdIdeal.frame_reference,
  Cert.Proof.KernelSsdIdeal.frame_reference_finite,
  fun m ρ _ => Cert.Kernel.Gen.frame m ρ,
  fun m ρ _ => Cert.KernelIdeal.Gen.frame m ρ,
  Cert.Proof.KernelIdeal.frame_reference,
  fun m ρ _ => Cert.KernelWd.Gen.frame m ρ,
  fun m ρ _ => Cert.KernelWdIdeal.Gen.frame m ρ,
  Cert.Proof.KernelWdIdeal.frame_reference,
  fun m ρ _ => Cert.KernelWdi.Gen.frame m ρ,
  fun m ρ _ => Cert.KernelWdiIdeal.Gen.frame m ρ,
  Cert.Proof.KernelWdiIdeal.frame_reference,
  fun m ρ _ => Cert.KernelWx.Gen.frame m ρ,
  fun m ρ _ => Cert.KernelWxIdeal.Gen.frame m ρ,
  Cert.Proof.KernelWxIdeal.frame_reference,
  fun m ρ _ => Cert.KernelDv.Gen.frame m ρ,
  fun m ρ _ => Cert.KernelDvIdeal.Gen.frame m ρ,
  Cert.Proof.KernelDvIdeal.frame_reference,
  fun m ρ _ => Cert.KernelDa.Gen.frame m ρ,
  fun m ρ _ => Cert.KernelDaIdeal.Gen.frame m ρ,
  Cert.Proof.KernelDaIdeal.frame_reference,
  fun m ρ _ => Cert.KernelDu.Gen.frame m ρ,
  fun m ρ _ => Cert.KernelDuIdeal.Gen.frame m ρ,
  Cert.Proof.KernelDuIdeal.frame_reference,
  fun m ρ _ => Cert.KernelGates.Gen.frame m ρ,
  fun m ρ _ => Cert.KernelGatesIdeal.Gen.frame m ρ,
  Cert.Proof.KernelGatesIdeal.frame_reference,
  fun m ρ _ => Cert.KernelPa.Gen.frame m ρ,
  fun m ρ _ => Cert.KernelPaIdeal.Gen.frame m ρ,
  Cert.Proof.KernelPaIdeal.frame_reference,
  fun m ρ _ => Cert.KernelZ.Gen.frame m ρ,
  fun m ρ _ => Cert.KernelZIdeal.Gen.frame m ρ,
  Cert.Proof.KernelZIdeal.frame_reference,
  fun m ρ _ => Cert.KernelXbc.Gen.frame m ρ,
  fun m ρ _ => Cert.KernelXbcIdeal.Gen.frame m ρ,
  Cert.Proof.KernelXbcIdeal.frame_reference,
  fun m ρ _ => Cert.KernelUp.Gen.frame m ρ,
  fun m ρ _ => Cert.KernelUpIdeal.Gen.frame m ρ,
  Cert.Proof.KernelUpIdeal.frame_reference,
  fun m ρ _ => Cert.KernelDown.Gen.frame m ρ,
  fun m ρ _ => Cert.KernelDownIdeal.Gen.frame m ρ,
  Cert.Proof.KernelDownIdeal.frame_reference,
  fun m ρ _ => Cert.KernelO.Gen.frame m ρ,
  fun m ρ _ => Cert.KernelOIdeal.Gen.frame m ρ,
  Cert.Proof.KernelOIdeal.frame_reference,
  fun m ρ _ => Cert.KernelS.Gen.frame m ρ,
  fun m ρ _ => Cert.KernelSIdeal.Gen.frame m ρ,
  Cert.Proof.KernelSIdeal.frame_reference,
  fun m ρ _ => Cert.KernelDm.Gen.frame m ρ,
  fun m ρ _ => Cert.KernelDmIdeal.Gen.frame m ρ,
  Cert.Proof.KernelDmIdeal.frame_reference,
  fun m ρ _ => Cert.KernelDyn.Gen.frame m ρ,
  fun m ρ _ => Cert.KernelDynIdeal.Gen.frame m ρ,
  Cert.Proof.KernelDynIdeal.frame_reference,
  fun m ρ _ => Cert.KernelAdamH.Gen.frame m ρ,
  fun m ρ _ => Cert.KernelAdamHIdeal.Gen.frame m ρ,
  Cert.Proof.KernelAdamHIdeal.frame_reference,
  fun m ρ _ => Cert.KernelAdamFb.Gen.frame m ρ,
  fun m ρ _ => Cert.KernelAdamFbIdeal.Gen.frame m ρ,
  Cert.Proof.KernelAdamFbIdeal.frame_reference,
  fun m ρ _ => Cert.KernelAdamCa.Gen.frame m ρ,
  fun m ρ _ => Cert.KernelAdamCaIdeal.Gen.frame m ρ,
  Cert.Proof.KernelAdamCaIdeal.frame_reference,
  fun m ρ _ => Cert.KernelAdamCs.Gen.frame m ρ,
  fun m ρ _ => Cert.KernelAdamCsIdeal.Gen.frame m ρ,
  Cert.Proof.KernelAdamCsIdeal.frame_reference,
  fun m ρ _ => Cert.KernelAdamCf.Gen.frame m ρ,
  fun m ρ _ => Cert.KernelAdamCfIdeal.Gen.frame m ρ,
  Cert.Proof.KernelAdamCfIdeal.frame_reference,
  fun m ρ _ => Cert.KernelAdamN.Gen.frame m ρ,
  fun m ρ _ => Cert.KernelAdamNIdeal.Gen.frame m ρ,
  Cert.Proof.KernelAdamNIdeal.frame_reference,
  fun m ρ _ => Cert.KernelAdamSn.Gen.frame m ρ,
  fun m ρ _ => Cert.KernelAdamSnIdeal.Gen.frame m ρ,
  Cert.Proof.KernelAdamSnIdeal.frame_reference,
  fun m ρ _ => Cert.KernelAdamSb.Gen.frame m ρ,
  fun m ρ _ => Cert.KernelAdamSbIdeal.Gen.frame m ρ,
  Cert.Proof.KernelAdamSbIdeal.frame_reference,
  fun m ρ _ => Cert.KernelAdamIn.Gen.frame m ρ,
  fun m ρ _ => Cert.KernelAdamInIdeal.Gen.frame m ρ,
  Cert.Proof.KernelAdamInIdeal.frame_reference,
  fun m ρ _ => Cert.KernelAdamA.Gen.frame m ρ,
  fun m ρ _ => Cert.KernelAdamAIdeal.Gen.frame m ρ,
  Cert.Proof.KernelAdamAIdeal.frame_reference,
  fun m ρ _ => Cert.KernelAdamS.Gen.frame m ρ,
  fun m ρ _ => Cert.KernelAdamSIdeal.Gen.frame m ρ,
  Cert.Proof.KernelAdamSIdeal.frame_reference,
  fun m ρ _ => Cert.KernelAdamUp.Gen.frame m ρ,
  fun m ρ _ => Cert.KernelAdamUpIdeal.Gen.frame m ρ,
  Cert.Proof.KernelAdamUpIdeal.frame_reference,
  fun m ρ _ => Cert.KernelAdamDown.Gen.frame m ρ,
  fun m ρ _ => Cert.KernelAdamDownIdeal.Gen.frame m ρ,
  Cert.Proof.KernelAdamDownIdeal.frame_reference,
  fun m ρ _ => Cert.KernelSum.Gen.frame m ρ,
  fun m ρ _ => Cert.KernelSumIdeal.Gen.frame m ρ,
  Cert.Proof.KernelSumIdeal.frame_reference,
  fun m ρ _ => Cert.KernelDt.Gen.frame m ρ,
  fun m ρ _ => Cert.KernelDtIdeal.Gen.frame m ρ,
  Cert.Proof.KernelDtIdeal.frame_reference,
  fun m ρ _ => Cert.KernelWdt.Gen.frame m ρ,
  fun m ρ _ => Cert.KernelWdtIdeal.Gen.frame m ρ,
  Cert.Proof.KernelWdtIdeal.frame_reference,
  fun m ρ _ => Cert.KernelDx.Gen.frame m ρ,
  fun m ρ _ => Cert.KernelDxIdeal.Gen.frame m ρ,
  Cert.Proof.KernelDxIdeal.frame_reference,
  Cert.Proof.KernelSsdIdeal.preserves,
  Cert.Proof.KernelSsdIdeal.algebraic,
  trivial,
  Cert.Proof.KernelIdeal.algebraic,
  trivial,
  Cert.Proof.KernelWdIdeal.algebraic,
  trivial,
  Cert.Proof.KernelWdiIdeal.algebraic,
  trivial,
  Cert.Proof.KernelWxIdeal.algebraic,
  trivial,
  Cert.Proof.KernelDvIdeal.algebraic,
  trivial,
  Cert.Proof.KernelDaIdeal.algebraic,
  trivial,
  Cert.Proof.KernelDuIdeal.algebraic,
  trivial,
  Cert.Proof.KernelGatesIdeal.algebraic,
  trivial,
  Cert.Proof.KernelPaIdeal.algebraic,
  trivial,
  Cert.Proof.KernelZIdeal.algebraic,
  trivial,
  Cert.Proof.KernelXbcIdeal.algebraic,
  trivial,
  Cert.Proof.KernelUpIdeal.algebraic,
  trivial,
  Cert.Proof.KernelDownIdeal.algebraic,
  trivial,
  Cert.Proof.KernelOIdeal.algebraic,
  trivial,
  Cert.Proof.KernelSIdeal.algebraic,
  trivial,
  Cert.Proof.KernelDmIdeal.algebraic,
  trivial,
  Cert.Proof.KernelDynIdeal.algebraic,
  trivial,
  Cert.Proof.KernelAdamHIdeal.algebraic,
  trivial,
  Cert.Proof.KernelAdamFbIdeal.algebraic,
  trivial,
  Cert.Proof.KernelAdamCaIdeal.algebraic,
  trivial,
  Cert.Proof.KernelAdamCsIdeal.algebraic,
  trivial,
  Cert.Proof.KernelAdamCfIdeal.algebraic,
  trivial,
  Cert.Proof.KernelAdamNIdeal.algebraic,
  trivial,
  Cert.Proof.KernelAdamSnIdeal.algebraic,
  trivial,
  Cert.Proof.KernelAdamSbIdeal.algebraic,
  trivial,
  Cert.Proof.KernelAdamInIdeal.algebraic,
  trivial,
  Cert.Proof.KernelAdamAIdeal.algebraic,
  trivial,
  Cert.Proof.KernelAdamSIdeal.algebraic,
  trivial,
  Cert.Proof.KernelAdamUpIdeal.algebraic,
  trivial,
  Cert.Proof.KernelAdamDownIdeal.algebraic,
  trivial,
  Cert.Proof.KernelSumIdeal.algebraic,
  trivial,
  Cert.Proof.KernelDtIdeal.algebraic,
  trivial,
  Cert.Proof.KernelWdtIdeal.algebraic,
  trivial,
  Cert.Proof.KernelDxIdeal.algebraic⟩

end Cert.Proof

end
